-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_InNormBwd (m : (ℓ : Loc Cert.InNormBwd.nD Cert.InNormBwd.τ Cert.InNormBwd.sig) → Buf (Elt Bits) ℓ) : Prop :=
  True

def Pre_InNormBwdIdeal (m : (ℓ : Loc Cert.InNormBwdIdeal.nD Cert.InNormBwdIdeal.τ Cert.InNormBwdIdeal.sig) → Buf (Elt Ideal) ℓ) : Prop :=
  True

def Pre_InNormBwdRefIdeal (m : (ℓ : Loc Cert.InNormBwdRefIdeal.nD Cert.InNormBwdRefIdeal.τ Cert.InNormBwdRefIdeal.sig) → Buf (Elt Ideal) ℓ) : Prop :=
  True

def Pre_HalfNormBwd (m : (ℓ : Loc Cert.HalfNormBwd.nD Cert.HalfNormBwd.τ Cert.HalfNormBwd.sig) → Buf (Elt Bits) ℓ) : Prop :=
  True

def Pre_HalfNormBwdIdeal (m : (ℓ : Loc Cert.HalfNormBwdIdeal.nD Cert.HalfNormBwdIdeal.τ Cert.HalfNormBwdIdeal.sig) → Buf (Elt Ideal) ℓ) : Prop :=
  True

def Pre_HalfNormBwdRefIdeal (m : (ℓ : Loc Cert.HalfNormBwdRefIdeal.nD Cert.HalfNormBwdRefIdeal.τ Cert.HalfNormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_HalfNormFwd (m : (ℓ : Loc Cert.HalfNormFwd.nD Cert.HalfNormFwd.τ Cert.HalfNormFwd.sig) → Buf (Elt Bits) ℓ) : Prop :=
  True

def Pre_HalfNormFwdIdeal (m : (ℓ : Loc Cert.HalfNormFwdIdeal.nD Cert.HalfNormFwdIdeal.τ Cert.HalfNormFwdIdeal.sig) → Buf (Elt Ideal) ℓ) : Prop :=
  True

def Pre_HalfNormFwdRefIdeal (m : (ℓ : Loc Cert.HalfNormFwdRefIdeal.nD Cert.HalfNormFwdRefIdeal.τ Cert.HalfNormFwdRefIdeal.sig) → Buf (Elt Ideal) ℓ) : Prop :=
  True

def Pre_ActFwd (m : (ℓ : Loc Cert.ActFwd.nD Cert.ActFwd.τ Cert.ActFwd.sig) → Buf (Elt Bits) ℓ) : Prop :=
  True

def Pre_ActFwdIdeal (m : (ℓ : Loc Cert.ActFwdIdeal.nD Cert.ActFwdIdeal.τ Cert.ActFwdIdeal.sig) → Buf (Elt Ideal) ℓ) : Prop :=
  True

def Pre_ActFwdRefIdeal (m : (ℓ : Loc Cert.ActFwdRefIdeal.nD Cert.ActFwdRefIdeal.τ Cert.ActFwdRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AddUp [hPre_addup_core : Cert.Pre_addup_core.Facts] (m : (ℓ : Loc Cert.AddUp.nD Cert.AddUp.τ Cert.AddUp.sig) → Buf (Elt Bits) ℓ) : Prop :=
  ∀ c : Dev Cert.AddUp.nD,
    (Cert.Pre_addup_core.fn (F := Bits) (m ((c.tc : Thread Cert.AddUp.nD Cert.AddUp.τ).loc Cert.AddUp.main_arg0)) (m ((c.tc : Thread Cert.AddUp.nD Cert.AddUp.τ).loc Cert.AddUp.main_arg1)) (m ((c.tc : Thread Cert.AddUp.nD Cert.AddUp.τ).loc Cert.AddUp.main_arg2))) = (fun _ => 1#1)

def Pre_AddUpIdeal [hPre_addup_core : Cert.Pre_addup_core.Facts] (m : (ℓ : Loc Cert.AddUpIdeal.nD Cert.AddUpIdeal.τ Cert.AddUpIdeal.sig) → Buf (Elt Ideal) ℓ) : Prop :=
  ∀ c : Dev Cert.AddUpIdeal.nD,
    (Cert.Pre_addup_core.fn (F := Ideal) (m ((c.tc : Thread Cert.AddUpIdeal.nD Cert.AddUpIdeal.τ).loc Cert.AddUpIdeal.main_arg0)) (m ((c.tc : Thread Cert.AddUpIdeal.nD Cert.AddUpIdeal.τ).loc Cert.AddUpIdeal.main_arg1)) (m ((c.tc : Thread Cert.AddUpIdeal.nD Cert.AddUpIdeal.τ).loc Cert.AddUpIdeal.main_arg2))) = (fun _ => 1#1)

def Pre_AddUpRefIdeal (m : (ℓ : Loc Cert.AddUpRefIdeal.nD Cert.AddUpRefIdeal.τ Cert.AddUpRefIdeal.sig) → Buf (Elt Ideal) ℓ) : Prop :=
  True

def Pre_AddUpRefIdeal_addup_core [hPre_addup_core : Cert.Pre_addup_core.Facts] (m : (ℓ : Loc Cert.AddUpRefIdeal.nD Cert.AddUpRefIdeal.τ Cert.AddUpRefIdeal.sig) → Buf (Elt Ideal) ℓ) : Prop :=
  ∀ c : Dev Cert.AddUpRefIdeal.nD,
    (Cert.Pre_addup_core.fn (F := Ideal) (m ((c.tc : Thread Cert.AddUpRefIdeal.nD Cert.AddUpRefIdeal.τ).loc Cert.AddUpRefIdeal.main_arg0)) (m ((c.tc : Thread Cert.AddUpRefIdeal.nD Cert.AddUpRefIdeal.τ).loc Cert.AddUpRefIdeal.main_arg1)) (m ((c.tc : Thread Cert.AddUpRefIdeal.nD Cert.AddUpRefIdeal.τ).loc Cert.AddUpRefIdeal.main_arg2))) = (fun _ => 1#1)

def Pre_AddIn [hPre_addin_core : Cert.Pre_addin_core.Facts] (m : (ℓ : Loc Cert.AddIn.nD Cert.AddIn.τ Cert.AddIn.sig) → Buf (Elt Bits) ℓ) : Prop :=
  ∀ c : Dev Cert.AddIn.nD,
    (Cert.Pre_addin_core.fn (F := Bits) (m ((c.tc : Thread Cert.AddIn.nD Cert.AddIn.τ).loc Cert.AddIn.main_arg0)) (m ((c.tc : Thread Cert.AddIn.nD Cert.AddIn.τ).loc Cert.AddIn.main_arg1)) (m ((c.tc : Thread Cert.AddIn.nD Cert.AddIn.τ).loc Cert.AddIn.main_arg2))) = (fun _ => 1#1)

def Pre_AddInIdeal [hPre_addin_core : Cert.Pre_addin_core.Facts] (m : (ℓ : Loc Cert.AddInIdeal.nD Cert.AddInIdeal.τ Cert.AddInIdeal.sig) → Buf (Elt Ideal) ℓ) : Prop :=
  ∀ c : Dev Cert.AddInIdeal.nD,
    (Cert.Pre_addin_core.fn (F := Ideal) (m ((c.tc : Thread Cert.AddInIdeal.nD Cert.AddInIdeal.τ).loc Cert.AddInIdeal.main_arg0)) (m ((c.tc : Thread Cert.AddInIdeal.nD Cert.AddInIdeal.τ).loc Cert.AddInIdeal.main_arg1)) (m ((c.tc : Thread Cert.AddInIdeal.nD Cert.AddInIdeal.τ).loc Cert.AddInIdeal.main_arg2))) = (fun _ => 1#1)

def Pre_AddInRefIdeal (m : (ℓ : Loc Cert.AddInRefIdeal.nD Cert.AddInRefIdeal.τ Cert.AddInRefIdeal.sig) → Buf (Elt Ideal) ℓ) : Prop :=
  True

def Pre_AddInRefIdeal_addin_core [hPre_addin_core : Cert.Pre_addin_core.Facts] (m : (ℓ : Loc Cert.AddInRefIdeal.nD Cert.AddInRefIdeal.τ Cert.AddInRefIdeal.sig) → Buf (Elt Ideal) ℓ) : Prop :=
  ∀ c : Dev Cert.AddInRefIdeal.nD,
    (Cert.Pre_addin_core.fn (F := Ideal) (m ((c.tc : Thread Cert.AddInRefIdeal.nD Cert.AddInRefIdeal.τ).loc Cert.AddInRefIdeal.main_arg0)) (m ((c.tc : Thread Cert.AddInRefIdeal.nD Cert.AddInRefIdeal.τ).loc Cert.AddInRefIdeal.main_arg1)) (m ((c.tc : Thread Cert.AddInRefIdeal.nD Cert.AddInRefIdeal.τ).loc Cert.AddInRefIdeal.main_arg2))) = (fun _ => 1#1)

def Pre_AddOut [hPre_addout_core : Cert.Pre_addout_core.Facts] (m : (ℓ : Loc Cert.AddOut.nD Cert.AddOut.τ Cert.AddOut.sig) → Buf (Elt Bits) ℓ) : Prop :=
  ∀ c : Dev Cert.AddOut.nD,
    (Cert.Pre_addout_core.fn (F := Bits) (m ((c.tc : Thread Cert.AddOut.nD Cert.AddOut.τ).loc Cert.AddOut.main_arg0)) (m ((c.tc : Thread Cert.AddOut.nD Cert.AddOut.τ).loc Cert.AddOut.main_arg1)) (m ((c.tc : Thread Cert.AddOut.nD Cert.AddOut.τ).loc Cert.AddOut.main_arg2))) = (fun _ => 1#1)

def Pre_AddOutIdeal [hPre_addout_core : Cert.Pre_addout_core.Facts] (m : (ℓ : Loc Cert.AddOutIdeal.nD Cert.AddOutIdeal.τ Cert.AddOutIdeal.sig) → Buf (Elt Ideal) ℓ) : Prop :=
  ∀ c : Dev Cert.AddOutIdeal.nD,
    (Cert.Pre_addout_core.fn (F := Ideal) (m ((c.tc : Thread Cert.AddOutIdeal.nD Cert.AddOutIdeal.τ).loc Cert.AddOutIdeal.main_arg0)) (m ((c.tc : Thread Cert.AddOutIdeal.nD Cert.AddOutIdeal.τ).loc Cert.AddOutIdeal.main_arg1)) (m ((c.tc : Thread Cert.AddOutIdeal.nD Cert.AddOutIdeal.τ).loc Cert.AddOutIdeal.main_arg2))) = (fun _ => 1#1)

def Pre_AddOutRefIdeal (m : (ℓ : Loc Cert.AddOutRefIdeal.nD Cert.AddOutRefIdeal.τ Cert.AddOutRefIdeal.sig) → Buf (Elt Ideal) ℓ) : Prop :=
  True

def Pre_AddOutRefIdeal_addout_core [hPre_addout_core : Cert.Pre_addout_core.Facts] (m : (ℓ : Loc Cert.AddOutRefIdeal.nD Cert.AddOutRefIdeal.τ Cert.AddOutRefIdeal.sig) → Buf (Elt Ideal) ℓ) : Prop :=
  ∀ c : Dev Cert.AddOutRefIdeal.nD,
    (Cert.Pre_addout_core.fn (F := Ideal) (m ((c.tc : Thread Cert.AddOutRefIdeal.nD Cert.AddOutRefIdeal.τ).loc Cert.AddOutRefIdeal.main_arg0)) (m ((c.tc : Thread Cert.AddOutRefIdeal.nD Cert.AddOutRefIdeal.τ).loc Cert.AddOutRefIdeal.main_arg1)) (m ((c.tc : Thread Cert.AddOutRefIdeal.nD Cert.AddOutRefIdeal.τ).loc Cert.AddOutRefIdeal.main_arg2))) = (fun _ => 1#1)

def Pre_AddDown [hPre_adddown_core : Cert.Pre_adddown_core.Facts] (m : (ℓ : Loc Cert.AddDown.nD Cert.AddDown.τ Cert.AddDown.sig) → Buf (Elt Bits) ℓ) : Prop :=
  ∀ c : Dev Cert.AddDown.nD,
    (Cert.Pre_adddown_core.fn (F := Bits) (m ((c.tc : Thread Cert.AddDown.nD Cert.AddDown.τ).loc Cert.AddDown.main_arg0)) (m ((c.tc : Thread Cert.AddDown.nD Cert.AddDown.τ).loc Cert.AddDown.main_arg1)) (m ((c.tc : Thread Cert.AddDown.nD Cert.AddDown.τ).loc Cert.AddDown.main_arg2))) = (fun _ => 1#1)

def Pre_AddDownIdeal [hPre_adddown_core : Cert.Pre_adddown_core.Facts] (m : (ℓ : Loc Cert.AddDownIdeal.nD Cert.AddDownIdeal.τ Cert.AddDownIdeal.sig) → Buf (Elt Ideal) ℓ) : Prop :=
  ∀ c : Dev Cert.AddDownIdeal.nD,
    (Cert.Pre_adddown_core.fn (F := Ideal) (m ((c.tc : Thread Cert.AddDownIdeal.nD Cert.AddDownIdeal.τ).loc Cert.AddDownIdeal.main_arg0)) (m ((c.tc : Thread Cert.AddDownIdeal.nD Cert.AddDownIdeal.τ).loc Cert.AddDownIdeal.main_arg1)) (m ((c.tc : Thread Cert.AddDownIdeal.nD Cert.AddDownIdeal.τ).loc Cert.AddDownIdeal.main_arg2))) = (fun _ => 1#1)

def Pre_AddDownRefIdeal (m : (ℓ : Loc Cert.AddDownRefIdeal.nD Cert.AddDownRefIdeal.τ Cert.AddDownRefIdeal.sig) → Buf (Elt Ideal) ℓ) : Prop :=
  True

def Pre_AddDownRefIdeal_adddown_core [hPre_adddown_core : Cert.Pre_adddown_core.Facts] (m : (ℓ : Loc Cert.AddDownRefIdeal.nD Cert.AddDownRefIdeal.τ Cert.AddDownRefIdeal.sig) → Buf (Elt Ideal) ℓ) : Prop :=
  ∀ c : Dev Cert.AddDownRefIdeal.nD,
    (Cert.Pre_adddown_core.fn (F := Ideal) (m ((c.tc : Thread Cert.AddDownRefIdeal.nD Cert.AddDownRefIdeal.τ).loc Cert.AddDownRefIdeal.main_arg0)) (m ((c.tc : Thread Cert.AddDownRefIdeal.nD Cert.AddDownRefIdeal.τ).loc Cert.AddDownRefIdeal.main_arg1)) (m ((c.tc : Thread Cert.AddDownRefIdeal.nD Cert.AddDownRefIdeal.τ).loc Cert.AddDownRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_InNormBwd [hInNormBwd : Cert.InNormBwd.Facts] : Prop :=
  ∀ (m : (ℓ : Loc Cert.InNormBwd.nD Cert.InNormBwd.τ Cert.InNormBwd.sig) → Buf (Elt Bits) ℓ) (g : Dev Cert.InNormBwd.nD → PrngReg), Pre_InNormBwd m →
    θ_run (Cert.InNormBwd.defs (F := Bits)) (onTc (τ := Cert.InNormBwd.τ) (Cert.InNormBwd.main (F := Bits))) ⟨m, fun _ => 0, g⟩ (fun r => (∀ c : Dev Cert.InNormBwd.nD,
      r.2.mem ((c.tc : Thread Cert.InNormBwd.nD Cert.InNormBwd.τ).loc Cert.InNormBwd.main_arg0) = m ((c.tc : Thread Cert.InNormBwd.nD Cert.InNormBwd.τ).loc Cert.InNormBwd.main_arg0)
      ∧ r.2.mem ((c.tc : Thread Cert.InNormBwd.nD Cert.InNormBwd.τ).loc Cert.InNormBwd.main_arg1) = m ((c.tc : Thread Cert.InNormBwd.nD Cert.InNormBwd.τ).loc Cert.InNormBwd.main_arg1)
      ∧ r.2.mem ((c.tc : Thread Cert.InNormBwd.nD Cert.InNormBwd.τ).loc Cert.InNormBwd.main_arg2) = m ((c.tc : Thread Cert.InNormBwd.nD Cert.InNormBwd.τ).loc Cert.InNormBwd.main_arg2)
      ∧ r.2.mem ((c.tc : Thread Cert.InNormBwd.nD Cert.InNormBwd.τ).loc Cert.InNormBwd.main_arg3) = m ((c.tc : Thread Cert.InNormBwd.nD Cert.InNormBwd.τ).loc Cert.InNormBwd.main_arg3))
      ∧ r.2.sem = fun _ => 0)

def quiescent_InNormBwdIdeal [hInNormBwdIdeal : Cert.InNormBwdIdeal.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg), Pre_InNormBwdIdeal m →
    θ_run (Cert.InNormBwdIdeal.defs (F := Ideal)) (onTc (τ := Cert.InNormBwdIdeal.τ) (Cert.InNormBwdIdeal.main (F := Ideal))) ⟨m, fun _ => 0, g⟩ (fun r => (∀ c : Dev Cert.InNormBwdIdeal.nD,
      r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
      ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
      ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
      ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3))
      ∧ r.2.sem = fun _ => 0)

def quiescent_InNormBwdRefIdeal [hInNormBwdRefIdeal : Cert.InNormBwdRefIdeal.Facts] : Prop :=
  ∀ (m : (ℓ : Loc Cert.InNormBwdRefIdeal.nD Cert.InNormBwdRefIdeal.τ Cert.InNormBwdRefIdeal.sig) → Buf (Elt Ideal) ℓ) (g : Dev Cert.InNormBwdRefIdeal.nD → PrngReg), Pre_InNormBwdRefIdeal m →
    θ_run (Cert.InNormBwdRefIdeal.defs (F := Ideal)) (onTc (τ := Cert.InNormBwdRefIdeal.τ) (Cert.InNormBwdRefIdeal.main (F := Ideal))) ⟨m, fun _ => 0, g⟩ (fun r => (∀ c : Dev Cert.InNormBwdRefIdeal.nD,
      r.2.mem ((c.tc : Thread Cert.InNormBwdRefIdeal.nD Cert.InNormBwdRefIdeal.τ).loc Cert.InNormBwdRefIdeal.main_arg0) = m ((c.tc : Thread Cert.InNormBwdRefIdeal.nD Cert.InNormBwdRefIdeal.τ).loc Cert.InNormBwdRefIdeal.main_arg0)
      ∧ r.2.mem ((c.tc : Thread Cert.InNormBwdRefIdeal.nD Cert.InNormBwdRefIdeal.τ).loc Cert.InNormBwdRefIdeal.main_arg1) = m ((c.tc : Thread Cert.InNormBwdRefIdeal.nD Cert.InNormBwdRefIdeal.τ).loc Cert.InNormBwdRefIdeal.main_arg1)
      ∧ r.2.mem ((c.tc : Thread Cert.InNormBwdRefIdeal.nD Cert.InNormBwdRefIdeal.τ).loc Cert.InNormBwdRefIdeal.main_arg2) = m ((c.tc : Thread Cert.InNormBwdRefIdeal.nD Cert.InNormBwdRefIdeal.τ).loc Cert.InNormBwdRefIdeal.main_arg2)
      ∧ r.2.mem ((c.tc : Thread Cert.InNormBwdRefIdeal.nD Cert.InNormBwdRefIdeal.τ).loc Cert.InNormBwdRefIdeal.main_arg3) = m ((c.tc : Thread Cert.InNormBwdRefIdeal.nD Cert.InNormBwdRefIdeal.τ).loc Cert.InNormBwdRefIdeal.main_arg3))
      ∧ r.2.sem = fun _ => 0)

def quiescent_HalfNormBwd [hHalfNormBwd : Cert.HalfNormBwd.Facts] : Prop :=
  ∀ (m : (ℓ : Loc Cert.HalfNormBwd.nD Cert.HalfNormBwd.τ Cert.HalfNormBwd.sig) → Buf (Elt Bits) ℓ) (g : Dev Cert.HalfNormBwd.nD → PrngReg), Pre_HalfNormBwd m →
    θ_run (Cert.HalfNormBwd.defs (F := Bits)) (onTc (τ := Cert.HalfNormBwd.τ) (Cert.HalfNormBwd.main (F := Bits))) ⟨m, fun _ => 0, g⟩ (fun r => (∀ c : Dev Cert.HalfNormBwd.nD,
      r.2.mem ((c.tc : Thread Cert.HalfNormBwd.nD Cert.HalfNormBwd.τ).loc Cert.HalfNormBwd.main_arg0) = m ((c.tc : Thread Cert.HalfNormBwd.nD Cert.HalfNormBwd.τ).loc Cert.HalfNormBwd.main_arg0)
      ∧ r.2.mem ((c.tc : Thread Cert.HalfNormBwd.nD Cert.HalfNormBwd.τ).loc Cert.HalfNormBwd.main_arg1) = m ((c.tc : Thread Cert.HalfNormBwd.nD Cert.HalfNormBwd.τ).loc Cert.HalfNormBwd.main_arg1)
      ∧ r.2.mem ((c.tc : Thread Cert.HalfNormBwd.nD Cert.HalfNormBwd.τ).loc Cert.HalfNormBwd.main_arg2) = m ((c.tc : Thread Cert.HalfNormBwd.nD Cert.HalfNormBwd.τ).loc Cert.HalfNormBwd.main_arg2))
      ∧ r.2.sem = fun _ => 0)

def quiescent_HalfNormBwdIdeal [hHalfNormBwdIdeal : Cert.HalfNormBwdIdeal.Facts] : Prop :=
  ∀ (m : (ℓ : Loc Cert.HalfNormBwdIdeal.nD Cert.HalfNormBwdIdeal.τ Cert.HalfNormBwdIdeal.sig) → Buf (Elt Ideal) ℓ) (g : Dev Cert.HalfNormBwdIdeal.nD → PrngReg), Pre_HalfNormBwdIdeal m →
    θ_run (Cert.HalfNormBwdIdeal.defs (F := Ideal)) (onTc (τ := Cert.HalfNormBwdIdeal.τ) (Cert.HalfNormBwdIdeal.main (F := Ideal))) ⟨m, fun _ => 0, g⟩ (fun r => (∀ c : Dev Cert.HalfNormBwdIdeal.nD,
      r.2.mem ((c.tc : Thread Cert.HalfNormBwdIdeal.nD Cert.HalfNormBwdIdeal.τ).loc Cert.HalfNormBwdIdeal.main_arg0) = m ((c.tc : Thread Cert.HalfNormBwdIdeal.nD Cert.HalfNormBwdIdeal.τ).loc Cert.HalfNormBwdIdeal.main_arg0)
      ∧ r.2.mem ((c.tc : Thread Cert.HalfNormBwdIdeal.nD Cert.HalfNormBwdIdeal.τ).loc Cert.HalfNormBwdIdeal.main_arg1) = m ((c.tc : Thread Cert.HalfNormBwdIdeal.nD Cert.HalfNormBwdIdeal.τ).loc Cert.HalfNormBwdIdeal.main_arg1)
      ∧ r.2.mem ((c.tc : Thread Cert.HalfNormBwdIdeal.nD Cert.HalfNormBwdIdeal.τ).loc Cert.HalfNormBwdIdeal.main_arg2) = m ((c.tc : Thread Cert.HalfNormBwdIdeal.nD Cert.HalfNormBwdIdeal.τ).loc Cert.HalfNormBwdIdeal.main_arg2))
      ∧ r.2.sem = fun _ => 0)

def quiescent_HalfNormBwdRefIdeal [hHalfNormBwdRefIdeal : Cert.HalfNormBwdRefIdeal.Facts] : Prop :=
  ∀ (m : (ℓ : Loc Cert.HalfNormBwdRefIdeal.nD Cert.HalfNormBwdRefIdeal.τ Cert.HalfNormBwdRefIdeal.sig) → Buf (Elt Ideal) ℓ) (g : Dev Cert.HalfNormBwdRefIdeal.nD → PrngReg), Pre_HalfNormBwdRefIdeal m →
    θ_run (Cert.HalfNormBwdRefIdeal.defs (F := Ideal)) (onTc (τ := Cert.HalfNormBwdRefIdeal.τ) (Cert.HalfNormBwdRefIdeal.main (F := Ideal))) ⟨m, fun _ => 0, g⟩ (fun r => (∀ c : Dev Cert.HalfNormBwdRefIdeal.nD,
      r.2.mem ((c.tc : Thread Cert.HalfNormBwdRefIdeal.nD Cert.HalfNormBwdRefIdeal.τ).loc Cert.HalfNormBwdRefIdeal.main_arg0) = m ((c.tc : Thread Cert.HalfNormBwdRefIdeal.nD Cert.HalfNormBwdRefIdeal.τ).loc Cert.HalfNormBwdRefIdeal.main_arg0)
      ∧ r.2.mem ((c.tc : Thread Cert.HalfNormBwdRefIdeal.nD Cert.HalfNormBwdRefIdeal.τ).loc Cert.HalfNormBwdRefIdeal.main_arg1) = m ((c.tc : Thread Cert.HalfNormBwdRefIdeal.nD Cert.HalfNormBwdRefIdeal.τ).loc Cert.HalfNormBwdRefIdeal.main_arg1)
      ∧ r.2.mem ((c.tc : Thread Cert.HalfNormBwdRefIdeal.nD Cert.HalfNormBwdRefIdeal.τ).loc Cert.HalfNormBwdRefIdeal.main_arg2) = m ((c.tc : Thread Cert.HalfNormBwdRefIdeal.nD Cert.HalfNormBwdRefIdeal.τ).loc Cert.HalfNormBwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_HalfNormFwd [hHalfNormFwd : Cert.HalfNormFwd.Facts] : Prop :=
  ∀ (m : (ℓ : Loc Cert.HalfNormFwd.nD Cert.HalfNormFwd.τ Cert.HalfNormFwd.sig) → Buf (Elt Bits) ℓ) (g : Dev Cert.HalfNormFwd.nD → PrngReg), Pre_HalfNormFwd m →
    θ_run (Cert.HalfNormFwd.defs (F := Bits)) (onTc (τ := Cert.HalfNormFwd.τ) (Cert.HalfNormFwd.main (F := Bits))) ⟨m, fun _ => 0, g⟩ (fun r => (∀ c : Dev Cert.HalfNormFwd.nD,
      r.2.mem ((c.tc : Thread Cert.HalfNormFwd.nD Cert.HalfNormFwd.τ).loc Cert.HalfNormFwd.main_arg0) = m ((c.tc : Thread Cert.HalfNormFwd.nD Cert.HalfNormFwd.τ).loc Cert.HalfNormFwd.main_arg0)
      ∧ r.2.mem ((c.tc : Thread Cert.HalfNormFwd.nD Cert.HalfNormFwd.τ).loc Cert.HalfNormFwd.main_arg1) = m ((c.tc : Thread Cert.HalfNormFwd.nD Cert.HalfNormFwd.τ).loc Cert.HalfNormFwd.main_arg1))
      ∧ r.2.sem = fun _ => 0)

def quiescent_HalfNormFwdIdeal [hHalfNormFwdIdeal : Cert.HalfNormFwdIdeal.Facts] : Prop :=
  ∀ (m : (ℓ : Loc Cert.HalfNormFwdIdeal.nD Cert.HalfNormFwdIdeal.τ Cert.HalfNormFwdIdeal.sig) → Buf (Elt Ideal) ℓ) (g : Dev Cert.HalfNormFwdIdeal.nD → PrngReg), Pre_HalfNormFwdIdeal m →
    θ_run (Cert.HalfNormFwdIdeal.defs (F := Ideal)) (onTc (τ := Cert.HalfNormFwdIdeal.τ) (Cert.HalfNormFwdIdeal.main (F := Ideal))) ⟨m, fun _ => 0, g⟩ (fun r => (∀ c : Dev Cert.HalfNormFwdIdeal.nD,
      r.2.mem ((c.tc : Thread Cert.HalfNormFwdIdeal.nD Cert.HalfNormFwdIdeal.τ).loc Cert.HalfNormFwdIdeal.main_arg0) = m ((c.tc : Thread Cert.HalfNormFwdIdeal.nD Cert.HalfNormFwdIdeal.τ).loc Cert.HalfNormFwdIdeal.main_arg0)
      ∧ r.2.mem ((c.tc : Thread Cert.HalfNormFwdIdeal.nD Cert.HalfNormFwdIdeal.τ).loc Cert.HalfNormFwdIdeal.main_arg1) = m ((c.tc : Thread Cert.HalfNormFwdIdeal.nD Cert.HalfNormFwdIdeal.τ).loc Cert.HalfNormFwdIdeal.main_arg1))
      ∧ r.2.sem = fun _ => 0)

def quiescent_HalfNormFwdRefIdeal [hHalfNormFwdRefIdeal : Cert.HalfNormFwdRefIdeal.Facts] : Prop :=
  ∀ (m : (ℓ : Loc Cert.HalfNormFwdRefIdeal.nD Cert.HalfNormFwdRefIdeal.τ Cert.HalfNormFwdRefIdeal.sig) → Buf (Elt Ideal) ℓ) (g : Dev Cert.HalfNormFwdRefIdeal.nD → PrngReg), Pre_HalfNormFwdRefIdeal m →
    θ_run (Cert.HalfNormFwdRefIdeal.defs (F := Ideal)) (onTc (τ := Cert.HalfNormFwdRefIdeal.τ) (Cert.HalfNormFwdRefIdeal.main (F := Ideal))) ⟨m, fun _ => 0, g⟩ (fun r => (∀ c : Dev Cert.HalfNormFwdRefIdeal.nD,
      r.2.mem ((c.tc : Thread Cert.HalfNormFwdRefIdeal.nD Cert.HalfNormFwdRefIdeal.τ).loc Cert.HalfNormFwdRefIdeal.main_arg0) = m ((c.tc : Thread Cert.HalfNormFwdRefIdeal.nD Cert.HalfNormFwdRefIdeal.τ).loc Cert.HalfNormFwdRefIdeal.main_arg0)
      ∧ r.2.mem ((c.tc : Thread Cert.HalfNormFwdRefIdeal.nD Cert.HalfNormFwdRefIdeal.τ).loc Cert.HalfNormFwdRefIdeal.main_arg1) = m ((c.tc : Thread Cert.HalfNormFwdRefIdeal.nD Cert.HalfNormFwdRefIdeal.τ).loc Cert.HalfNormFwdRefIdeal.main_arg1))
      ∧ r.2.sem = fun _ => 0)

def quiescent_ActFwd [hActFwd : Cert.ActFwd.Facts] : Prop :=
  ∀ (m : (ℓ : Loc Cert.ActFwd.nD Cert.ActFwd.τ Cert.ActFwd.sig) → Buf (Elt Bits) ℓ) (g : Dev Cert.ActFwd.nD → PrngReg), Pre_ActFwd m →
    θ_run (Cert.ActFwd.defs (F := Bits)) (onTc (τ := Cert.ActFwd.τ) (Cert.ActFwd.main (F := Bits))) ⟨m, fun _ => 0, g⟩ (fun r => (∀ c : Dev Cert.ActFwd.nD,
      r.2.mem ((c.tc : Thread Cert.ActFwd.nD Cert.ActFwd.τ).loc Cert.ActFwd.main_arg0) = m ((c.tc : Thread Cert.ActFwd.nD Cert.ActFwd.τ).loc Cert.ActFwd.main_arg0)
      ∧ r.2.mem ((c.tc : Thread Cert.ActFwd.nD Cert.ActFwd.τ).loc Cert.ActFwd.main_arg1) = m ((c.tc : Thread Cert.ActFwd.nD Cert.ActFwd.τ).loc Cert.ActFwd.main_arg1)
      ∧ r.2.mem ((c.tc : Thread Cert.ActFwd.nD Cert.ActFwd.τ).loc Cert.ActFwd.main_arg2) = m ((c.tc : Thread Cert.ActFwd.nD Cert.ActFwd.τ).loc Cert.ActFwd.main_arg2))
      ∧ r.2.sem = fun _ => 0)

def quiescent_ActFwdIdeal [hActFwdIdeal : Cert.ActFwdIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
      ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
      ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2))
      ∧ r.2.sem = fun _ => 0)

def quiescent_ActFwdRefIdeal [hActFwdRefIdeal : Cert.ActFwdRefIdeal.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0)
      ∧ r.2.mem ((c.tc : Thread Cert.ActFwdRefIdeal.nD Cert.ActFwdRefIdeal.τ).loc Cert.ActFwdRefIdeal.main_arg1) = m ((c.tc : Thread Cert.ActFwdRefIdeal.nD Cert.ActFwdRefIdeal.τ).loc Cert.ActFwdRefIdeal.main_arg1)
      ∧ r.2.mem ((c.tc : Thread Cert.ActFwdRefIdeal.nD Cert.ActFwdRefIdeal.τ).loc Cert.ActFwdRefIdeal.main_arg2) = m ((c.tc : Thread Cert.ActFwdRefIdeal.nD Cert.ActFwdRefIdeal.τ).loc Cert.ActFwdRefIdeal.main_arg2))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AddUp [hAddUp : Cert.AddUp.Facts] [hPre_addup_core : Cert.Pre_addup_core.Facts] : Prop :=
  ∀ (m : (ℓ : Loc Cert.AddUp.nD Cert.AddUp.τ Cert.AddUp.sig) → Buf (Elt Bits) ℓ) (g : Dev Cert.AddUp.nD → PrngReg), Pre_AddUp m →
    θ_run (Cert.AddUp.defs (F := Bits)) (onTc (τ := Cert.AddUp.τ) (Cert.AddUp.main (F := Bits))) ⟨m, fun _ => 0, g⟩ (fun r => (∀ c : Dev Cert.AddUp.nD,
      r.2.mem ((c.tc : Thread Cert.AddUp.nD Cert.AddUp.τ).loc Cert.AddUp.main_arg0) = m ((c.tc : Thread Cert.AddUp.nD Cert.AddUp.τ).loc Cert.AddUp.main_arg0)
      ∧ r.2.mem ((c.tc : Thread Cert.AddUp.nD Cert.AddUp.τ).loc Cert.AddUp.main_arg1) = m ((c.tc : Thread Cert.AddUp.nD Cert.AddUp.τ).loc Cert.AddUp.main_arg1)
      ∧ r.2.mem ((c.tc : Thread Cert.AddUp.nD Cert.AddUp.τ).loc Cert.AddUp.main_arg2) = m ((c.tc : Thread Cert.AddUp.nD Cert.AddUp.τ).loc Cert.AddUp.main_arg2))
      ∧ r.2.sem = fun _ => 0)

def quiescent_AddUpIdeal [hAddUpIdeal : Cert.AddUpIdeal.Facts] [hPre_addup_core : Cert.Pre_addup_core.Facts] : Prop :=
  ∀ (m : (ℓ : Loc Cert.AddUpIdeal.nD Cert.AddUpIdeal.τ Cert.AddUpIdeal.sig) → Buf (Elt Ideal) ℓ) (g : Dev Cert.AddUpIdeal.nD → PrngReg), Pre_AddUpIdeal m →
    θ_run (Cert.AddUpIdeal.defs (F := Ideal)) (onTc (τ := Cert.AddUpIdeal.τ) (Cert.AddUpIdeal.main (F := Ideal))) ⟨m, fun _ => 0, g⟩ (fun r => (∀ c : Dev Cert.AddUpIdeal.nD,
      r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
      ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1)
      ∧ r.2.mem ((c.tc : Thread Cert.AddUpIdeal.nD Cert.AddUpIdeal.τ).loc Cert.AddUpIdeal.main_arg2) = m ((c.tc : Thread Cert.AddUpIdeal.nD Cert.AddUpIdeal.τ).loc Cert.AddUpIdeal.main_arg2))
      ∧ r.2.sem = fun _ => 0)

def quiescent_AddUpRefIdeal [hAddUpRefIdeal : Cert.AddUpRefIdeal.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1)
      ∧ r.2.mem ((c.tc : Thread Cert.AddUpRefIdeal.nD Cert.AddUpRefIdeal.τ).loc Cert.AddUpRefIdeal.main_arg2) = m ((c.tc : Thread Cert.AddUpRefIdeal.nD Cert.AddUpRefIdeal.τ).loc Cert.AddUpRefIdeal.main_arg2))
      ∧ r.2.sem = fun _ => 0)

def quiescent_AddUpRefIdeal_pre_addup_core [hAddUpRefIdeal : Cert.AddUpRefIdeal.Facts] [hPre_addup_core : Cert.Pre_addup_core.Facts] : Prop :=
  ∀ (m : (ℓ : Loc Cert.AddUpRefIdeal.nD Cert.AddUpRefIdeal.τ Cert.AddUpRefIdeal.sig) → Buf (Elt Ideal) ℓ) (g : Dev Cert.AddUpRefIdeal.nD → PrngReg), Pre_AddUpRefIdeal_addup_core m →
    θ_run (Cert.AddUpRefIdeal.defs (F := Ideal)) (onTc (τ := Cert.AddUpRefIdeal.τ) (Cert.AddUpRefIdeal.main (F := Ideal))) ⟨m, fun _ => 0, g⟩ (fun r => (∀ c : Dev Cert.AddUpRefIdeal.nD,
      r.2.mem ((c.tc : Thread Cert.AddUpRefIdeal.nD Cert.AddUpRefIdeal.τ).loc Cert.AddUpRefIdeal.main_arg0) = m ((c.tc : Thread Cert.AddUpRefIdeal.nD Cert.AddUpRefIdeal.τ).loc Cert.AddUpRefIdeal.main_arg0)
      ∧ r.2.mem ((c.tc : Thread Cert.AddUpRefIdeal.nD Cert.AddUpRefIdeal.τ).loc Cert.AddUpRefIdeal.main_arg1) = m ((c.tc : Thread Cert.AddUpRefIdeal.nD Cert.AddUpRefIdeal.τ).loc Cert.AddUpRefIdeal.main_arg1)
      ∧ r.2.mem ((c.tc : Thread Cert.AddUpRefIdeal.nD Cert.AddUpRefIdeal.τ).loc Cert.AddUpRefIdeal.main_arg2) = m ((c.tc : Thread Cert.AddUpRefIdeal.nD Cert.AddUpRefIdeal.τ).loc Cert.AddUpRefIdeal.main_arg2))
      ∧ r.2.sem = fun _ => 0)

def quiescent_AddIn [hAddIn : Cert.AddIn.Facts] [hPre_addin_core : Cert.Pre_addin_core.Facts] : Prop :=
  ∀ (m : (ℓ : Loc Cert.AddIn.nD Cert.AddIn.τ Cert.AddIn.sig) → Buf (Elt Bits) ℓ) (g : Dev Cert.AddIn.nD → PrngReg), Pre_AddIn m →
    θ_run (Cert.AddIn.defs (F := Bits)) (onTc (τ := Cert.AddIn.τ) (Cert.AddIn.main (F := Bits))) ⟨m, fun _ => 0, g⟩ (fun r => (∀ c : Dev Cert.AddIn.nD,
      r.2.mem ((c.tc : Thread Cert.AddIn.nD Cert.AddIn.τ).loc Cert.AddIn.main_arg0) = m ((c.tc : Thread Cert.AddIn.nD Cert.AddIn.τ).loc Cert.AddIn.main_arg0)
      ∧ r.2.mem ((c.tc : Thread Cert.AddIn.nD Cert.AddIn.τ).loc Cert.AddIn.main_arg1) = m ((c.tc : Thread Cert.AddIn.nD Cert.AddIn.τ).loc Cert.AddIn.main_arg1)
      ∧ r.2.mem ((c.tc : Thread Cert.AddIn.nD Cert.AddIn.τ).loc Cert.AddIn.main_arg2) = m ((c.tc : Thread Cert.AddIn.nD Cert.AddIn.τ).loc Cert.AddIn.main_arg2))
      ∧ r.2.sem = fun _ => 0)

def quiescent_AddInIdeal [hAddInIdeal : Cert.AddInIdeal.Facts] [hPre_addin_core : Cert.Pre_addin_core.Facts] : Prop :=
  ∀ (m : (ℓ : Loc Cert.AddInIdeal.nD Cert.AddInIdeal.τ Cert.AddInIdeal.sig) → Buf (Elt Ideal) ℓ) (g : Dev Cert.AddInIdeal.nD → PrngReg), Pre_AddInIdeal m →
    θ_run (Cert.AddInIdeal.defs (F := Ideal)) (onTc (τ := Cert.AddInIdeal.τ) (Cert.AddInIdeal.main (F := Ideal))) ⟨m, fun _ => 0, g⟩ (fun r => (∀ c : Dev Cert.AddInIdeal.nD,
      r.2.mem ((c.tc : Thread Cert.AddInIdeal.nD Cert.AddInIdeal.τ).loc Cert.AddInIdeal.main_arg0) = m ((c.tc : Thread Cert.AddInIdeal.nD Cert.AddInIdeal.τ).loc Cert.AddInIdeal.main_arg0)
      ∧ r.2.mem ((c.tc : Thread Cert.AddInIdeal.nD Cert.AddInIdeal.τ).loc Cert.AddInIdeal.main_arg1) = m ((c.tc : Thread Cert.AddInIdeal.nD Cert.AddInIdeal.τ).loc Cert.AddInIdeal.main_arg1)
      ∧ r.2.mem ((c.tc : Thread Cert.AddInIdeal.nD Cert.AddInIdeal.τ).loc Cert.AddInIdeal.main_arg2) = m ((c.tc : Thread Cert.AddInIdeal.nD Cert.AddInIdeal.τ).loc Cert.AddInIdeal.main_arg2))
      ∧ r.2.sem = fun _ => 0)

def quiescent_AddInRefIdeal [hAddInRefIdeal : Cert.AddInRefIdeal.Facts] : Prop :=
  ∀ (m : (ℓ : Loc Cert.AddInRefIdeal.nD Cert.AddInRefIdeal.τ Cert.AddInRefIdeal.sig) → Buf (Elt Ideal) ℓ) (g : Dev Cert.AddInRefIdeal.nD → PrngReg), Pre_AddInRefIdeal m →
    θ_run (Cert.AddInRefIdeal.defs (F := Ideal)) (onTc (τ := Cert.AddInRefIdeal.τ) (Cert.AddInRefIdeal.main (F := Ideal))) ⟨m, fun _ => 0, g⟩ (fun r => (∀ c : Dev Cert.AddInRefIdeal.nD,
      r.2.mem ((c.tc : Thread Cert.AddInRefIdeal.nD Cert.AddInRefIdeal.τ).loc Cert.AddInRefIdeal.main_arg0) = m ((c.tc : Thread Cert.AddInRefIdeal.nD Cert.AddInRefIdeal.τ).loc Cert.AddInRefIdeal.main_arg0)
      ∧ r.2.mem ((c.tc : Thread Cert.AddInRefIdeal.nD Cert.AddInRefIdeal.τ).loc Cert.AddInRefIdeal.main_arg1) = m ((c.tc : Thread Cert.AddInRefIdeal.nD Cert.AddInRefIdeal.τ).loc Cert.AddInRefIdeal.main_arg1)
      ∧ r.2.mem ((c.tc : Thread Cert.AddInRefIdeal.nD Cert.AddInRefIdeal.τ).loc Cert.AddInRefIdeal.main_arg2) = m ((c.tc : Thread Cert.AddInRefIdeal.nD Cert.AddInRefIdeal.τ).loc Cert.AddInRefIdeal.main_arg2))
      ∧ r.2.sem = fun _ => 0)

def quiescent_AddInRefIdeal_pre_addin_core [hAddInRefIdeal : Cert.AddInRefIdeal.Facts] [hPre_addin_core : Cert.Pre_addin_core.Facts] : Prop :=
  ∀ (m : (ℓ : Loc Cert.AddInRefIdeal.nD Cert.AddInRefIdeal.τ Cert.AddInRefIdeal.sig) → Buf (Elt Ideal) ℓ) (g : Dev Cert.AddInRefIdeal.nD → PrngReg), Pre_AddInRefIdeal_addin_core m →
    θ_run (Cert.AddInRefIdeal.defs (F := Ideal)) (onTc (τ := Cert.AddInRefIdeal.τ) (Cert.AddInRefIdeal.main (F := Ideal))) ⟨m, fun _ => 0, g⟩ (fun r => (∀ c : Dev Cert.AddInRefIdeal.nD,
      r.2.mem ((c.tc : Thread Cert.AddInRefIdeal.nD Cert.AddInRefIdeal.τ).loc Cert.AddInRefIdeal.main_arg0) = m ((c.tc : Thread Cert.AddInRefIdeal.nD Cert.AddInRefIdeal.τ).loc Cert.AddInRefIdeal.main_arg0)
      ∧ r.2.mem ((c.tc : Thread Cert.AddInRefIdeal.nD Cert.AddInRefIdeal.τ).loc Cert.AddInRefIdeal.main_arg1) = m ((c.tc : Thread Cert.AddInRefIdeal.nD Cert.AddInRefIdeal.τ).loc Cert.AddInRefIdeal.main_arg1)
      ∧ r.2.mem ((c.tc : Thread Cert.AddInRefIdeal.nD Cert.AddInRefIdeal.τ).loc Cert.AddInRefIdeal.main_arg2) = m ((c.tc : Thread Cert.AddInRefIdeal.nD Cert.AddInRefIdeal.τ).loc Cert.AddInRefIdeal.main_arg2))
      ∧ r.2.sem = fun _ => 0)

def quiescent_AddOut [hAddOut : Cert.AddOut.Facts] [hPre_addout_core : Cert.Pre_addout_core.Facts] : Prop :=
  ∀ (m : (ℓ : Loc Cert.AddOut.nD Cert.AddOut.τ Cert.AddOut.sig) → Buf (Elt Bits) ℓ) (g : Dev Cert.AddOut.nD → PrngReg), Pre_AddOut m →
    θ_run (Cert.AddOut.defs (F := Bits)) (onTc (τ := Cert.AddOut.τ) (Cert.AddOut.main (F := Bits))) ⟨m, fun _ => 0, g⟩ (fun r => (∀ c : Dev Cert.AddOut.nD,
      r.2.mem ((c.tc : Thread Cert.AddOut.nD Cert.AddOut.τ).loc Cert.AddOut.main_arg0) = m ((c.tc : Thread Cert.AddOut.nD Cert.AddOut.τ).loc Cert.AddOut.main_arg0)
      ∧ r.2.mem ((c.tc : Thread Cert.AddOut.nD Cert.AddOut.τ).loc Cert.AddOut.main_arg1) = m ((c.tc : Thread Cert.AddOut.nD Cert.AddOut.τ).loc Cert.AddOut.main_arg1)
      ∧ r.2.mem ((c.tc : Thread Cert.AddOut.nD Cert.AddOut.τ).loc Cert.AddOut.main_arg2) = m ((c.tc : Thread Cert.AddOut.nD Cert.AddOut.τ).loc Cert.AddOut.main_arg2))
      ∧ r.2.sem = fun _ => 0)

def quiescent_AddOutIdeal [hAddOutIdeal : Cert.AddOutIdeal.Facts] [hPre_addout_core : Cert.Pre_addout_core.Facts] : Prop :=
  ∀ (m : (ℓ : Loc Cert.AddOutIdeal.nD Cert.AddOutIdeal.τ Cert.AddOutIdeal.sig) → Buf (Elt Ideal) ℓ) (g : Dev Cert.AddOutIdeal.nD → PrngReg), Pre_AddOutIdeal m →
    θ_run (Cert.AddOutIdeal.defs (F := Ideal)) (onTc (τ := Cert.AddOutIdeal.τ) (Cert.AddOutIdeal.main (F := Ideal))) ⟨m, fun _ => 0, g⟩ (fun r => (∀ c : Dev Cert.AddOutIdeal.nD,
      r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
      ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1)
      ∧ r.2.mem ((c.tc : Thread Cert.AddOutIdeal.nD Cert.AddOutIdeal.τ).loc Cert.AddOutIdeal.main_arg2) = m ((c.tc : Thread Cert.AddOutIdeal.nD Cert.AddOutIdeal.τ).loc Cert.AddOutIdeal.main_arg2))
      ∧ r.2.sem = fun _ => 0)

def quiescent_AddOutRefIdeal [hAddOutRefIdeal : Cert.AddOutRefIdeal.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1)
      ∧ r.2.mem ((c.tc : Thread Cert.AddOutRefIdeal.nD Cert.AddOutRefIdeal.τ).loc Cert.AddOutRefIdeal.main_arg2) = m ((c.tc : Thread Cert.AddOutRefIdeal.nD Cert.AddOutRefIdeal.τ).loc Cert.AddOutRefIdeal.main_arg2))
      ∧ r.2.sem = fun _ => 0)

def quiescent_AddOutRefIdeal_pre_addout_core [hAddOutRefIdeal : Cert.AddOutRefIdeal.Facts] [hPre_addout_core : Cert.Pre_addout_core.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal_addout_core m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1)
      ∧ r.2.mem ((c.tc : Thread Cert.AddOutRefIdeal.nD Cert.AddOutRefIdeal.τ).loc Cert.AddOutRefIdeal.main_arg2) = m ((c.tc : Thread Cert.AddOutRefIdeal.nD Cert.AddOutRefIdeal.τ).loc Cert.AddOutRefIdeal.main_arg2))
      ∧ r.2.sem = fun _ => 0)

def quiescent_AddDown [hAddDown : Cert.AddDown.Facts] [hPre_adddown_core : Cert.Pre_adddown_core.Facts] : Prop :=
  ∀ (m : (ℓ : Loc Cert.AddDown.nD Cert.AddDown.τ Cert.AddDown.sig) → Buf (Elt Bits) ℓ) (g : Dev Cert.AddDown.nD → PrngReg), Pre_AddDown m →
    θ_run (Cert.AddDown.defs (F := Bits)) (onTc (τ := Cert.AddDown.τ) (Cert.AddDown.main (F := Bits))) ⟨m, fun _ => 0, g⟩ (fun r => (∀ c : Dev Cert.AddDown.nD,
      r.2.mem ((c.tc : Thread Cert.AddDown.nD Cert.AddDown.τ).loc Cert.AddDown.main_arg0) = m ((c.tc : Thread Cert.AddDown.nD Cert.AddDown.τ).loc Cert.AddDown.main_arg0)
      ∧ r.2.mem ((c.tc : Thread Cert.AddDown.nD Cert.AddDown.τ).loc Cert.AddDown.main_arg1) = m ((c.tc : Thread Cert.AddDown.nD Cert.AddDown.τ).loc Cert.AddDown.main_arg1)
      ∧ r.2.mem ((c.tc : Thread Cert.AddDown.nD Cert.AddDown.τ).loc Cert.AddDown.main_arg2) = m ((c.tc : Thread Cert.AddDown.nD Cert.AddDown.τ).loc Cert.AddDown.main_arg2))
      ∧ r.2.sem = fun _ => 0)

def quiescent_AddDownIdeal [hAddDownIdeal : Cert.AddDownIdeal.Facts] [hPre_adddown_core : Cert.Pre_adddown_core.Facts] : Prop :=
  ∀ (m : (ℓ : Loc Cert.AddDownIdeal.nD Cert.AddDownIdeal.τ Cert.AddDownIdeal.sig) → Buf (Elt Ideal) ℓ) (g : Dev Cert.AddDownIdeal.nD → PrngReg), Pre_AddDownIdeal m →
    θ_run (Cert.AddDownIdeal.defs (F := Ideal)) (onTc (τ := Cert.AddDownIdeal.τ) (Cert.AddDownIdeal.main (F := Ideal))) ⟨m, fun _ => 0, g⟩ (fun r => (∀ c : Dev Cert.AddDownIdeal.nD,
      r.2.mem ((c.tc : Thread Cert.AddDownIdeal.nD Cert.AddDownIdeal.τ).loc Cert.AddDownIdeal.main_arg0) = m ((c.tc : Thread Cert.AddDownIdeal.nD Cert.AddDownIdeal.τ).loc Cert.AddDownIdeal.main_arg0)
      ∧ r.2.mem ((c.tc : Thread Cert.AddDownIdeal.nD Cert.AddDownIdeal.τ).loc Cert.AddDownIdeal.main_arg1) = m ((c.tc : Thread Cert.AddDownIdeal.nD Cert.AddDownIdeal.τ).loc Cert.AddDownIdeal.main_arg1)
      ∧ r.2.mem ((c.tc : Thread Cert.AddDownIdeal.nD Cert.AddDownIdeal.τ).loc Cert.AddDownIdeal.main_arg2) = m ((c.tc : Thread Cert.AddDownIdeal.nD Cert.AddDownIdeal.τ).loc Cert.AddDownIdeal.main_arg2))
      ∧ r.2.sem = fun _ => 0)

def quiescent_AddDownRefIdeal [hAddDownRefIdeal : Cert.AddDownRefIdeal.Facts] : Prop :=
  ∀ (m : (ℓ : Loc Cert.AddDownRefIdeal.nD Cert.AddDownRefIdeal.τ Cert.AddDownRefIdeal.sig) → Buf (Elt Ideal) ℓ) (g : Dev Cert.AddDownRefIdeal.nD → PrngReg), Pre_AddDownRefIdeal m →
    θ_run (Cert.AddDownRefIdeal.defs (F := Ideal)) (onTc (τ := Cert.AddDownRefIdeal.τ) (Cert.AddDownRefIdeal.main (F := Ideal))) ⟨m, fun _ => 0, g⟩ (fun r => (∀ c : Dev Cert.AddDownRefIdeal.nD,
      r.2.mem ((c.tc : Thread Cert.AddDownRefIdeal.nD Cert.AddDownRefIdeal.τ).loc Cert.AddDownRefIdeal.main_arg0) = m ((c.tc : Thread Cert.AddDownRefIdeal.nD Cert.AddDownRefIdeal.τ).loc Cert.AddDownRefIdeal.main_arg0)
      ∧ r.2.mem ((c.tc : Thread Cert.AddDownRefIdeal.nD Cert.AddDownRefIdeal.τ).loc Cert.AddDownRefIdeal.main_arg1) = m ((c.tc : Thread Cert.AddDownRefIdeal.nD Cert.AddDownRefIdeal.τ).loc Cert.AddDownRefIdeal.main_arg1)
      ∧ r.2.mem ((c.tc : Thread Cert.AddDownRefIdeal.nD Cert.AddDownRefIdeal.τ).loc Cert.AddDownRefIdeal.main_arg2) = m ((c.tc : Thread Cert.AddDownRefIdeal.nD Cert.AddDownRefIdeal.τ).loc Cert.AddDownRefIdeal.main_arg2))
      ∧ r.2.sem = fun _ => 0)

def quiescent_AddDownRefIdeal_pre_adddown_core [hAddDownRefIdeal : Cert.AddDownRefIdeal.Facts] [hPre_adddown_core : Cert.Pre_adddown_core.Facts] : Prop :=
  ∀ (m : (ℓ : Loc Cert.AddDownRefIdeal.nD Cert.AddDownRefIdeal.τ Cert.AddDownRefIdeal.sig) → Buf (Elt Ideal) ℓ) (g : Dev Cert.AddDownRefIdeal.nD → PrngReg), Pre_AddDownRefIdeal_adddown_core m →
    θ_run (Cert.AddDownRefIdeal.defs (F := Ideal)) (onTc (τ := Cert.AddDownRefIdeal.τ) (Cert.AddDownRefIdeal.main (F := Ideal))) ⟨m, fun _ => 0, g⟩ (fun r => (∀ c : Dev Cert.AddDownRefIdeal.nD,
      r.2.mem ((c.tc : Thread Cert.AddDownRefIdeal.nD Cert.AddDownRefIdeal.τ).loc Cert.AddDownRefIdeal.main_arg0) = m ((c.tc : Thread Cert.AddDownRefIdeal.nD Cert.AddDownRefIdeal.τ).loc Cert.AddDownRefIdeal.main_arg0)
      ∧ r.2.mem ((c.tc : Thread Cert.AddDownRefIdeal.nD Cert.AddDownRefIdeal.τ).loc Cert.AddDownRefIdeal.main_arg1) = m ((c.tc : Thread Cert.AddDownRefIdeal.nD Cert.AddDownRefIdeal.τ).loc Cert.AddDownRefIdeal.main_arg1)
      ∧ r.2.mem ((c.tc : Thread Cert.AddDownRefIdeal.nD Cert.AddDownRefIdeal.τ).loc Cert.AddDownRefIdeal.main_arg2) = m ((c.tc : Thread Cert.AddDownRefIdeal.nD Cert.AddDownRefIdeal.τ).loc Cert.AddDownRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v12) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v14) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v6) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v4) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v4) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v1) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v4) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v1) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v4) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v39) = v1 c
          ∧ r.2.mem ((c.tc : Thread Cert.NormBwdRefIdeal.nD Cert.NormBwdRefIdeal.τ).loc Cert.NormBwdRefIdeal.main_v40) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_InNormBwd_InNormBwdIdeal : Prop :=
  True

def algebraic_InNormBwdIdeal_InNormBwdRefIdeal [hInNormBwdIdeal : Cert.InNormBwdIdeal.Facts] [hInNormBwdRefIdeal : Cert.InNormBwdRefIdeal.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg)
    (m' : (ℓ : Loc Cert.InNormBwdRefIdeal.nD Cert.InNormBwdRefIdeal.τ Cert.InNormBwdRefIdeal.sig) → Buf (Elt Ideal) ℓ) (g' : Dev Cert.InNormBwdRefIdeal.nD → PrngReg), Pre_InNormBwdIdeal m →
    (∀ c : Dev Cert.InNormBwdIdeal.nD,
      m' ((c.tc : Thread Cert.InNormBwdRefIdeal.nD Cert.InNormBwdRefIdeal.τ).loc Cert.InNormBwdRefIdeal.main_arg0) = m ((c.tc : Thread Cert.InNormBwdIdeal.nD Cert.InNormBwdIdeal.τ).loc Cert.InNormBwdIdeal.main_arg0)
      ∧ m' ((c.tc : Thread Cert.InNormBwdRefIdeal.nD Cert.InNormBwdRefIdeal.τ).loc Cert.InNormBwdRefIdeal.main_arg1) = m ((c.tc : Thread Cert.InNormBwdIdeal.nD Cert.InNormBwdIdeal.τ).loc Cert.InNormBwdIdeal.main_arg1)
      ∧ m' ((c.tc : Thread Cert.InNormBwdRefIdeal.nD Cert.InNormBwdRefIdeal.τ).loc Cert.InNormBwdRefIdeal.main_arg2) = m ((c.tc : Thread Cert.InNormBwdIdeal.nD Cert.InNormBwdIdeal.τ).loc Cert.InNormBwdIdeal.main_arg2)
      ∧ m' ((c.tc : Thread Cert.InNormBwdRefIdeal.nD Cert.InNormBwdRefIdeal.τ).loc Cert.InNormBwdRefIdeal.main_arg3) = m ((c.tc : Thread Cert.InNormBwdIdeal.nD Cert.InNormBwdIdeal.τ).loc Cert.InNormBwdIdeal.main_arg3)) →
    ∃ (v0 : (c : Dev Cert.InNormBwdIdeal.nD) → Buf (Elt Ideal) ((c.tc : Thread Cert.InNormBwdIdeal.nD Cert.InNormBwdIdeal.τ).loc Cert.InNormBwdIdeal.main_v0_0)) (v1 : (c : Dev Cert.InNormBwdIdeal.nD) → Buf (Elt Ideal) ((c.tc : Thread Cert.InNormBwdIdeal.nD Cert.InNormBwdIdeal.τ).loc Cert.InNormBwdIdeal.main_v0_1)),
      θ_run (Cert.InNormBwdIdeal.defs (F := Ideal)) (onTc (τ := Cert.InNormBwdIdeal.τ) (Cert.InNormBwdIdeal.main (F := Ideal))) ⟨m, fun _ => 0, g⟩ (fun r => ∀ c : Dev Cert.InNormBwdIdeal.nD,
          r.2.mem ((c.tc : Thread Cert.InNormBwdIdeal.nD Cert.InNormBwdIdeal.τ).loc Cert.InNormBwdIdeal.main_v0_0) = v0 c
          ∧ r.2.mem ((c.tc : Thread Cert.InNormBwdIdeal.nD Cert.InNormBwdIdeal.τ).loc Cert.InNormBwdIdeal.main_v0_1) = v1 c
          ∧ r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
          ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
          ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
          ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3))
      ∧ θ_run (Cert.InNormBwdRefIdeal.defs (F := Ideal)) (onTc (τ := Cert.InNormBwdRefIdeal.τ) (Cert.InNormBwdRefIdeal.main (F := Ideal))) ⟨m', fun _ => 0, g'⟩ (fun r => ∀ c : Dev Cert.InNormBwdRefIdeal.nD,
          r.2.mem ((c.tc : Thread Cert.InNormBwdRefIdeal.nD Cert.InNormBwdRefIdeal.τ).loc Cert.InNormBwdRefIdeal.main_v37) = v0 c
          ∧ r.2.mem ((c.tc : Thread Cert.InNormBwdRefIdeal.nD Cert.InNormBwdRefIdeal.τ).loc Cert.InNormBwdRefIdeal.main_v38) = v1 c
          ∧ r.2.mem ((c.tc : Thread Cert.InNormBwdRefIdeal.nD Cert.InNormBwdRefIdeal.τ).loc Cert.InNormBwdRefIdeal.main_arg0) = m' ((c.tc : Thread Cert.InNormBwdRefIdeal.nD Cert.InNormBwdRefIdeal.τ).loc Cert.InNormBwdRefIdeal.main_arg0)
          ∧ r.2.mem ((c.tc : Thread Cert.InNormBwdRefIdeal.nD Cert.InNormBwdRefIdeal.τ).loc Cert.InNormBwdRefIdeal.main_arg1) = m' ((c.tc : Thread Cert.InNormBwdRefIdeal.nD Cert.InNormBwdRefIdeal.τ).loc Cert.InNormBwdRefIdeal.main_arg1)
          ∧ r.2.mem ((c.tc : Thread Cert.InNormBwdRefIdeal.nD Cert.InNormBwdRefIdeal.τ).loc Cert.InNormBwdRefIdeal.main_arg2) = m' ((c.tc : Thread Cert.InNormBwdRefIdeal.nD Cert.InNormBwdRefIdeal.τ).loc Cert.InNormBwdRefIdeal.main_arg2)
          ∧ r.2.mem ((c.tc : Thread Cert.InNormBwdRefIdeal.nD Cert.InNormBwdRefIdeal.τ).loc Cert.InNormBwdRefIdeal.main_arg3) = m' ((c.tc : Thread Cert.InNormBwdRefIdeal.nD Cert.InNormBwdRefIdeal.τ).loc Cert.InNormBwdRefIdeal.main_arg3))

def preserves_HalfNormBwd_HalfNormBwdIdeal : Prop :=
  True

def algebraic_HalfNormBwdIdeal_HalfNormBwdRefIdeal [hHalfNormBwdIdeal : Cert.HalfNormBwdIdeal.Facts] [hHalfNormBwdRefIdeal : Cert.HalfNormBwdRefIdeal.Facts] : Prop :=
  ∀ (m : (ℓ : Loc Cert.HalfNormBwdIdeal.nD Cert.HalfNormBwdIdeal.τ Cert.HalfNormBwdIdeal.sig) → Buf (Elt Ideal) ℓ) (g : Dev Cert.HalfNormBwdIdeal.nD → PrngReg)
    (m' : (ℓ : Loc Cert.HalfNormBwdRefIdeal.nD Cert.HalfNormBwdRefIdeal.τ Cert.HalfNormBwdRefIdeal.sig) → Buf (Elt Ideal) ℓ) (g' : Dev Cert.HalfNormBwdRefIdeal.nD → PrngReg), Pre_HalfNormBwdIdeal m →
    (∀ c : Dev Cert.HalfNormBwdIdeal.nD,
      m' ((c.tc : Thread Cert.HalfNormBwdRefIdeal.nD Cert.HalfNormBwdRefIdeal.τ).loc Cert.HalfNormBwdRefIdeal.main_arg0) = m ((c.tc : Thread Cert.HalfNormBwdIdeal.nD Cert.HalfNormBwdIdeal.τ).loc Cert.HalfNormBwdIdeal.main_arg0)
      ∧ m' ((c.tc : Thread Cert.HalfNormBwdRefIdeal.nD Cert.HalfNormBwdRefIdeal.τ).loc Cert.HalfNormBwdRefIdeal.main_arg1) = m ((c.tc : Thread Cert.HalfNormBwdIdeal.nD Cert.HalfNormBwdIdeal.τ).loc Cert.HalfNormBwdIdeal.main_arg1)
      ∧ m' ((c.tc : Thread Cert.HalfNormBwdRefIdeal.nD Cert.HalfNormBwdRefIdeal.τ).loc Cert.HalfNormBwdRefIdeal.main_arg2) = m ((c.tc : Thread Cert.HalfNormBwdIdeal.nD Cert.HalfNormBwdIdeal.τ).loc Cert.HalfNormBwdIdeal.main_arg2)) →
    ∃ (v0 : (c : Dev Cert.HalfNormBwdIdeal.nD) → Buf (Elt Ideal) ((c.tc : Thread Cert.HalfNormBwdIdeal.nD Cert.HalfNormBwdIdeal.τ).loc Cert.HalfNormBwdIdeal.main_v0_0)) (v1 : (c : Dev Cert.HalfNormBwdIdeal.nD) → Buf (Elt Ideal) ((c.tc : Thread Cert.HalfNormBwdIdeal.nD Cert.HalfNormBwdIdeal.τ).loc Cert.HalfNormBwdIdeal.main_v0_1)),
      θ_run (Cert.HalfNormBwdIdeal.defs (F := Ideal)) (onTc (τ := Cert.HalfNormBwdIdeal.τ) (Cert.HalfNormBwdIdeal.main (F := Ideal))) ⟨m, fun _ => 0, g⟩ (fun r => ∀ c : Dev Cert.HalfNormBwdIdeal.nD,
          r.2.mem ((c.tc : Thread Cert.HalfNormBwdIdeal.nD Cert.HalfNormBwdIdeal.τ).loc Cert.HalfNormBwdIdeal.main_v0_0) = v0 c
          ∧ r.2.mem ((c.tc : Thread Cert.HalfNormBwdIdeal.nD Cert.HalfNormBwdIdeal.τ).loc Cert.HalfNormBwdIdeal.main_v0_1) = v1 c
          ∧ r.2.mem ((c.tc : Thread Cert.HalfNormBwdIdeal.nD Cert.HalfNormBwdIdeal.τ).loc Cert.HalfNormBwdIdeal.main_arg0) = m ((c.tc : Thread Cert.HalfNormBwdIdeal.nD Cert.HalfNormBwdIdeal.τ).loc Cert.HalfNormBwdIdeal.main_arg0)
          ∧ r.2.mem ((c.tc : Thread Cert.HalfNormBwdIdeal.nD Cert.HalfNormBwdIdeal.τ).loc Cert.HalfNormBwdIdeal.main_arg1) = m ((c.tc : Thread Cert.HalfNormBwdIdeal.nD Cert.HalfNormBwdIdeal.τ).loc Cert.HalfNormBwdIdeal.main_arg1)
          ∧ r.2.mem ((c.tc : Thread Cert.HalfNormBwdIdeal.nD Cert.HalfNormBwdIdeal.τ).loc Cert.HalfNormBwdIdeal.main_arg2) = m ((c.tc : Thread Cert.HalfNormBwdIdeal.nD Cert.HalfNormBwdIdeal.τ).loc Cert.HalfNormBwdIdeal.main_arg2))
      ∧ θ_run (Cert.HalfNormBwdRefIdeal.defs (F := Ideal)) (onTc (τ := Cert.HalfNormBwdRefIdeal.τ) (Cert.HalfNormBwdRefIdeal.main (F := Ideal))) ⟨m', fun _ => 0, g'⟩ (fun r => ∀ c : Dev Cert.HalfNormBwdRefIdeal.nD,
          r.2.mem ((c.tc : Thread Cert.HalfNormBwdRefIdeal.nD Cert.HalfNormBwdRefIdeal.τ).loc Cert.HalfNormBwdRefIdeal.main_v37) = v0 c
          ∧ r.2.mem ((c.tc : Thread Cert.HalfNormBwdRefIdeal.nD Cert.HalfNormBwdRefIdeal.τ).loc Cert.HalfNormBwdRefIdeal.main_v38) = v1 c
          ∧ r.2.mem ((c.tc : Thread Cert.HalfNormBwdRefIdeal.nD Cert.HalfNormBwdRefIdeal.τ).loc Cert.HalfNormBwdRefIdeal.main_arg0) = m' ((c.tc : Thread Cert.HalfNormBwdRefIdeal.nD Cert.HalfNormBwdRefIdeal.τ).loc Cert.HalfNormBwdRefIdeal.main_arg0)
          ∧ r.2.mem ((c.tc : Thread Cert.HalfNormBwdRefIdeal.nD Cert.HalfNormBwdRefIdeal.τ).loc Cert.HalfNormBwdRefIdeal.main_arg1) = m' ((c.tc : Thread Cert.HalfNormBwdRefIdeal.nD Cert.HalfNormBwdRefIdeal.τ).loc Cert.HalfNormBwdRefIdeal.main_arg1)
          ∧ r.2.mem ((c.tc : Thread Cert.HalfNormBwdRefIdeal.nD Cert.HalfNormBwdRefIdeal.τ).loc Cert.HalfNormBwdRefIdeal.main_arg2) = m' ((c.tc : Thread Cert.HalfNormBwdRefIdeal.nD Cert.HalfNormBwdRefIdeal.τ).loc Cert.HalfNormBwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v52) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_v54) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_HalfNormFwd_HalfNormFwdIdeal : Prop :=
  True

def algebraic_HalfNormFwdIdeal_HalfNormFwdRefIdeal [hHalfNormFwdIdeal : Cert.HalfNormFwdIdeal.Facts] [hHalfNormFwdRefIdeal : Cert.HalfNormFwdRefIdeal.Facts] : Prop :=
  ∀ (m : (ℓ : Loc Cert.HalfNormFwdIdeal.nD Cert.HalfNormFwdIdeal.τ Cert.HalfNormFwdIdeal.sig) → Buf (Elt Ideal) ℓ) (g : Dev Cert.HalfNormFwdIdeal.nD → PrngReg)
    (m' : (ℓ : Loc Cert.HalfNormFwdRefIdeal.nD Cert.HalfNormFwdRefIdeal.τ Cert.HalfNormFwdRefIdeal.sig) → Buf (Elt Ideal) ℓ) (g' : Dev Cert.HalfNormFwdRefIdeal.nD → PrngReg), Pre_HalfNormFwdIdeal m →
    (∀ c : Dev Cert.HalfNormFwdIdeal.nD,
      m' ((c.tc : Thread Cert.HalfNormFwdRefIdeal.nD Cert.HalfNormFwdRefIdeal.τ).loc Cert.HalfNormFwdRefIdeal.main_arg0) = m ((c.tc : Thread Cert.HalfNormFwdIdeal.nD Cert.HalfNormFwdIdeal.τ).loc Cert.HalfNormFwdIdeal.main_arg0)
      ∧ m' ((c.tc : Thread Cert.HalfNormFwdRefIdeal.nD Cert.HalfNormFwdRefIdeal.τ).loc Cert.HalfNormFwdRefIdeal.main_arg1) = m ((c.tc : Thread Cert.HalfNormFwdIdeal.nD Cert.HalfNormFwdIdeal.τ).loc Cert.HalfNormFwdIdeal.main_arg1)) →
    ∃ (v0 : (c : Dev Cert.HalfNormFwdIdeal.nD) → Buf (Elt Ideal) ((c.tc : Thread Cert.HalfNormFwdIdeal.nD Cert.HalfNormFwdIdeal.τ).loc Cert.HalfNormFwdIdeal.main_v0)),
      θ_run (Cert.HalfNormFwdIdeal.defs (F := Ideal)) (onTc (τ := Cert.HalfNormFwdIdeal.τ) (Cert.HalfNormFwdIdeal.main (F := Ideal))) ⟨m, fun _ => 0, g⟩ (fun r => ∀ c : Dev Cert.HalfNormFwdIdeal.nD,
          r.2.mem ((c.tc : Thread Cert.HalfNormFwdIdeal.nD Cert.HalfNormFwdIdeal.τ).loc Cert.HalfNormFwdIdeal.main_v0) = v0 c
          ∧ r.2.mem ((c.tc : Thread Cert.HalfNormFwdIdeal.nD Cert.HalfNormFwdIdeal.τ).loc Cert.HalfNormFwdIdeal.main_arg0) = m ((c.tc : Thread Cert.HalfNormFwdIdeal.nD Cert.HalfNormFwdIdeal.τ).loc Cert.HalfNormFwdIdeal.main_arg0)
          ∧ r.2.mem ((c.tc : Thread Cert.HalfNormFwdIdeal.nD Cert.HalfNormFwdIdeal.τ).loc Cert.HalfNormFwdIdeal.main_arg1) = m ((c.tc : Thread Cert.HalfNormFwdIdeal.nD Cert.HalfNormFwdIdeal.τ).loc Cert.HalfNormFwdIdeal.main_arg1))
      ∧ θ_run (Cert.HalfNormFwdRefIdeal.defs (F := Ideal)) (onTc (τ := Cert.HalfNormFwdRefIdeal.τ) (Cert.HalfNormFwdRefIdeal.main (F := Ideal))) ⟨m', fun _ => 0, g'⟩ (fun r => ∀ c : Dev Cert.HalfNormFwdRefIdeal.nD,
          r.2.mem ((c.tc : Thread Cert.HalfNormFwdRefIdeal.nD Cert.HalfNormFwdRefIdeal.τ).loc Cert.HalfNormFwdRefIdeal.main_v14) = v0 c
          ∧ r.2.mem ((c.tc : Thread Cert.HalfNormFwdRefIdeal.nD Cert.HalfNormFwdRefIdeal.τ).loc Cert.HalfNormFwdRefIdeal.main_arg0) = m' ((c.tc : Thread Cert.HalfNormFwdRefIdeal.nD Cert.HalfNormFwdRefIdeal.τ).loc Cert.HalfNormFwdRefIdeal.main_arg0)
          ∧ r.2.mem ((c.tc : Thread Cert.HalfNormFwdRefIdeal.nD Cert.HalfNormFwdRefIdeal.τ).loc Cert.HalfNormFwdRefIdeal.main_arg1) = m' ((c.tc : Thread Cert.HalfNormFwdRefIdeal.nD Cert.HalfNormFwdRefIdeal.τ).loc Cert.HalfNormFwdRefIdeal.main_arg1))

def preserves_ActFwd_ActFwdIdeal : Prop :=
  True

def algebraic_ActFwdIdeal_ActFwdRefIdeal [hActFwdIdeal : Cert.ActFwdIdeal.Facts] [hActFwdRefIdeal : Cert.ActFwdRefIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg)
    (m' : (ℓ : Loc Cert.ActFwdRefIdeal.nD Cert.ActFwdRefIdeal.τ Cert.ActFwdRefIdeal.sig) → Buf (Elt Ideal) ℓ) (g' : Dev Cert.ActFwdRefIdeal.nD → PrngReg), Pre_ActFwdIdeal m →
    (∀ c : Dev Cert.ActFwdIdeal.nD,
      m' ((c.tc : Thread Cert.ActFwdRefIdeal.nD Cert.ActFwdRefIdeal.τ).loc Cert.ActFwdRefIdeal.main_arg0) = m ((c.tc : Thread Cert.ActFwdIdeal.nD Cert.ActFwdIdeal.τ).loc Cert.ActFwdIdeal.main_arg0)
      ∧ m' ((c.tc : Thread Cert.ActFwdRefIdeal.nD Cert.ActFwdRefIdeal.τ).loc Cert.ActFwdRefIdeal.main_arg1) = m ((c.tc : Thread Cert.ActFwdIdeal.nD Cert.ActFwdIdeal.τ).loc Cert.ActFwdIdeal.main_arg1)
      ∧ m' ((c.tc : Thread Cert.ActFwdRefIdeal.nD Cert.ActFwdRefIdeal.τ).loc Cert.ActFwdRefIdeal.main_arg2) = m ((c.tc : Thread Cert.ActFwdIdeal.nD Cert.ActFwdIdeal.τ).loc Cert.ActFwdIdeal.main_arg2)) →
    ∃ (v0 : (c : Dev Cert.ActFwdIdeal.nD) → Buf (Elt Ideal) ((c.tc : Thread Cert.ActFwdIdeal.nD Cert.ActFwdIdeal.τ).loc Cert.ActFwdIdeal.main_v0)),
      θ_run (Cert.ActFwdIdeal.defs (F := Ideal)) (onTc (τ := Cert.ActFwdIdeal.τ) (Cert.ActFwdIdeal.main (F := Ideal))) ⟨m, fun _ => 0, g⟩ (fun r => ∀ c : Dev Cert.ActFwdIdeal.nD,
          r.2.mem ((c.tc : Thread Cert.ActFwdIdeal.nD Cert.ActFwdIdeal.τ).loc Cert.ActFwdIdeal.main_v0) = v0 c
          ∧ r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
          ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
          ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2))
      ∧ θ_run (Cert.ActFwdRefIdeal.defs (F := Ideal)) (onTc (τ := Cert.ActFwdRefIdeal.τ) (Cert.ActFwdRefIdeal.main (F := Ideal))) ⟨m', fun _ => 0, g'⟩ (fun r => ∀ c : Dev Cert.ActFwdRefIdeal.nD,
          r.2.mem ((c.tc : Thread Cert.ActFwdRefIdeal.nD Cert.ActFwdRefIdeal.τ).loc Cert.ActFwdRefIdeal.main_v32) = v0 c
          ∧ r.2.mem ((c.tc : Thread Cert.ActFwdRefIdeal.nD Cert.ActFwdRefIdeal.τ).loc Cert.ActFwdRefIdeal.main_arg0) = m' ((c.tc : Thread Cert.ActFwdRefIdeal.nD Cert.ActFwdRefIdeal.τ).loc Cert.ActFwdRefIdeal.main_arg0)
          ∧ r.2.mem ((c.tc : Thread Cert.ActFwdRefIdeal.nD Cert.ActFwdRefIdeal.τ).loc Cert.ActFwdRefIdeal.main_arg1) = m' ((c.tc : Thread Cert.ActFwdRefIdeal.nD Cert.ActFwdRefIdeal.τ).loc Cert.ActFwdRefIdeal.main_arg1)
          ∧ r.2.mem ((c.tc : Thread Cert.ActFwdRefIdeal.nD Cert.ActFwdRefIdeal.τ).loc Cert.ActFwdRefIdeal.main_arg2) = m' ((c.tc : Thread Cert.ActFwdRefIdeal.nD Cert.ActFwdRefIdeal.τ).loc Cert.ActFwdRefIdeal.main_arg2))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v4) = v0 c
          ∧ r.2.mem ((c.tc : Thread Cert.AdamDownRefIdeal.nD Cert.AdamDownRefIdeal.τ).loc Cert.AdamDownRefIdeal.main_v29) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_v16) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v6) = v0 c
          ∧ r.2.mem ((c.tc : Thread Cert.AdamUpRefIdeal.nD Cert.AdamUpRefIdeal.τ).loc Cert.AdamUpRefIdeal.main_v31) = v1 c
          ∧ r.2.mem ((c.tc : Thread Cert.AdamUpRefIdeal.nD Cert.AdamUpRefIdeal.τ).loc Cert.AdamUpRefIdeal.main_v12) = v2 c
          ∧ r.2.mem ((c.tc : Thread Cert.AdamUpRefIdeal.nD Cert.AdamUpRefIdeal.τ).loc Cert.AdamUpRefIdeal.main_v18) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v4) = v0 c
          ∧ r.2.mem ((c.tc : Thread Cert.AdamOutRefIdeal.nD Cert.AdamOutRefIdeal.τ).loc Cert.AdamOutRefIdeal.main_v29) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_v16) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v4) = v0 c
          ∧ r.2.mem ((c.tc : Thread Cert.AdamInRefIdeal.nD Cert.AdamInRefIdeal.τ).loc Cert.AdamInRefIdeal.main_v29) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_v16) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AddUp_AddUpIdeal : Prop :=
  True

def algebraic_AddUpIdeal_AddUpRefIdeal [hAddUpIdeal : Cert.AddUpIdeal.Facts] [hAddUpRefIdeal : Cert.AddUpRefIdeal.Facts] [hPre_addup_core : Cert.Pre_addup_core.Facts] : Prop :=
  ∀ (m : (ℓ : Loc Cert.AddUpIdeal.nD Cert.AddUpIdeal.τ Cert.AddUpIdeal.sig) → Buf (Elt Ideal) ℓ) (g : Dev Cert.AddUpIdeal.nD → PrngReg)
    (m' : (ℓ : Loc Cert.AddUpRefIdeal.nD Cert.AddUpRefIdeal.τ Cert.AddUpRefIdeal.sig) → Buf (Elt Ideal) ℓ) (g' : Dev Cert.AddUpRefIdeal.nD → PrngReg), Pre_AddUpIdeal m →
    (∀ c : Dev Cert.AddUpIdeal.nD,
      m' ((c.tc : Thread Cert.AddUpRefIdeal.nD Cert.AddUpRefIdeal.τ).loc Cert.AddUpRefIdeal.main_arg0) = m ((c.tc : Thread Cert.AddUpIdeal.nD Cert.AddUpIdeal.τ).loc Cert.AddUpIdeal.main_arg0)
      ∧ m' ((c.tc : Thread Cert.AddUpRefIdeal.nD Cert.AddUpRefIdeal.τ).loc Cert.AddUpRefIdeal.main_arg1) = m ((c.tc : Thread Cert.AddUpIdeal.nD Cert.AddUpIdeal.τ).loc Cert.AddUpIdeal.main_arg1)
      ∧ m' ((c.tc : Thread Cert.AddUpRefIdeal.nD Cert.AddUpRefIdeal.τ).loc Cert.AddUpRefIdeal.main_arg2) = m ((c.tc : Thread Cert.AddUpIdeal.nD Cert.AddUpIdeal.τ).loc Cert.AddUpIdeal.main_arg2)) →
    ∃ (v0 : (c : Dev Cert.AddUpIdeal.nD) → Buf (Elt Ideal) ((c.tc : Thread Cert.AddUpIdeal.nD Cert.AddUpIdeal.τ).loc Cert.AddUpIdeal.main_v0)),
      θ_run (Cert.AddUpIdeal.defs (F := Ideal)) (onTc (τ := Cert.AddUpIdeal.τ) (Cert.AddUpIdeal.main (F := Ideal))) ⟨m, fun _ => 0, g⟩ (fun r => ∀ c : Dev Cert.AddUpIdeal.nD,
          r.2.mem ((c.tc : Thread Cert.AddUpIdeal.nD Cert.AddUpIdeal.τ).loc Cert.AddUpIdeal.main_v0) = v0 c
          ∧ r.2.mem ((c.tc : Thread Cert.AddUpIdeal.nD Cert.AddUpIdeal.τ).loc Cert.AddUpIdeal.main_arg0) = m ((c.tc : Thread Cert.AddUpIdeal.nD Cert.AddUpIdeal.τ).loc Cert.AddUpIdeal.main_arg0)
          ∧ r.2.mem ((c.tc : Thread Cert.AddUpIdeal.nD Cert.AddUpIdeal.τ).loc Cert.AddUpIdeal.main_arg1) = m ((c.tc : Thread Cert.AddUpIdeal.nD Cert.AddUpIdeal.τ).loc Cert.AddUpIdeal.main_arg1)
          ∧ r.2.mem ((c.tc : Thread Cert.AddUpIdeal.nD Cert.AddUpIdeal.τ).loc Cert.AddUpIdeal.main_arg2) = m ((c.tc : Thread Cert.AddUpIdeal.nD Cert.AddUpIdeal.τ).loc Cert.AddUpIdeal.main_arg2))
      ∧ θ_run (Cert.AddUpRefIdeal.defs (F := Ideal)) (onTc (τ := Cert.AddUpRefIdeal.τ) (Cert.AddUpRefIdeal.main (F := Ideal))) ⟨m', fun _ => 0, g'⟩ (fun r => ∀ c : Dev Cert.AddUpRefIdeal.nD,
          r.2.mem ((c.tc : Thread Cert.AddUpRefIdeal.nD Cert.AddUpRefIdeal.τ).loc Cert.AddUpRefIdeal.main_v9) = v0 c
          ∧ r.2.mem ((c.tc : Thread Cert.AddUpRefIdeal.nD Cert.AddUpRefIdeal.τ).loc Cert.AddUpRefIdeal.main_arg0) = m' ((c.tc : Thread Cert.AddUpRefIdeal.nD Cert.AddUpRefIdeal.τ).loc Cert.AddUpRefIdeal.main_arg0)
          ∧ r.2.mem ((c.tc : Thread Cert.AddUpRefIdeal.nD Cert.AddUpRefIdeal.τ).loc Cert.AddUpRefIdeal.main_arg1) = m' ((c.tc : Thread Cert.AddUpRefIdeal.nD Cert.AddUpRefIdeal.τ).loc Cert.AddUpRefIdeal.main_arg1)
          ∧ r.2.mem ((c.tc : Thread Cert.AddUpRefIdeal.nD Cert.AddUpRefIdeal.τ).loc Cert.AddUpRefIdeal.main_arg2) = m' ((c.tc : Thread Cert.AddUpRefIdeal.nD Cert.AddUpRefIdeal.τ).loc Cert.AddUpRefIdeal.main_arg2))

def preserves_AddIn_AddInIdeal : Prop :=
  True

def algebraic_AddInIdeal_AddInRefIdeal [hAddInIdeal : Cert.AddInIdeal.Facts] [hAddInRefIdeal : Cert.AddInRefIdeal.Facts] [hPre_addin_core : Cert.Pre_addin_core.Facts] : Prop :=
  ∀ (m : (ℓ : Loc Cert.AddInIdeal.nD Cert.AddInIdeal.τ Cert.AddInIdeal.sig) → Buf (Elt Ideal) ℓ) (g : Dev Cert.AddInIdeal.nD → PrngReg)
    (m' : (ℓ : Loc Cert.AddInRefIdeal.nD Cert.AddInRefIdeal.τ Cert.AddInRefIdeal.sig) → Buf (Elt Ideal) ℓ) (g' : Dev Cert.AddInRefIdeal.nD → PrngReg), Pre_AddInIdeal m →
    (∀ c : Dev Cert.AddInIdeal.nD,
      m' ((c.tc : Thread Cert.AddInRefIdeal.nD Cert.AddInRefIdeal.τ).loc Cert.AddInRefIdeal.main_arg0) = m ((c.tc : Thread Cert.AddInIdeal.nD Cert.AddInIdeal.τ).loc Cert.AddInIdeal.main_arg0)
      ∧ m' ((c.tc : Thread Cert.AddInRefIdeal.nD Cert.AddInRefIdeal.τ).loc Cert.AddInRefIdeal.main_arg1) = m ((c.tc : Thread Cert.AddInIdeal.nD Cert.AddInIdeal.τ).loc Cert.AddInIdeal.main_arg1)
      ∧ m' ((c.tc : Thread Cert.AddInRefIdeal.nD Cert.AddInRefIdeal.τ).loc Cert.AddInRefIdeal.main_arg2) = m ((c.tc : Thread Cert.AddInIdeal.nD Cert.AddInIdeal.τ).loc Cert.AddInIdeal.main_arg2)) →
    ∃ (v0 : (c : Dev Cert.AddInIdeal.nD) → Buf (Elt Ideal) ((c.tc : Thread Cert.AddInIdeal.nD Cert.AddInIdeal.τ).loc Cert.AddInIdeal.main_v0)),
      θ_run (Cert.AddInIdeal.defs (F := Ideal)) (onTc (τ := Cert.AddInIdeal.τ) (Cert.AddInIdeal.main (F := Ideal))) ⟨m, fun _ => 0, g⟩ (fun r => ∀ c : Dev Cert.AddInIdeal.nD,
          r.2.mem ((c.tc : Thread Cert.AddInIdeal.nD Cert.AddInIdeal.τ).loc Cert.AddInIdeal.main_v0) = v0 c
          ∧ r.2.mem ((c.tc : Thread Cert.AddInIdeal.nD Cert.AddInIdeal.τ).loc Cert.AddInIdeal.main_arg0) = m ((c.tc : Thread Cert.AddInIdeal.nD Cert.AddInIdeal.τ).loc Cert.AddInIdeal.main_arg0)
          ∧ r.2.mem ((c.tc : Thread Cert.AddInIdeal.nD Cert.AddInIdeal.τ).loc Cert.AddInIdeal.main_arg1) = m ((c.tc : Thread Cert.AddInIdeal.nD Cert.AddInIdeal.τ).loc Cert.AddInIdeal.main_arg1)
          ∧ r.2.mem ((c.tc : Thread Cert.AddInIdeal.nD Cert.AddInIdeal.τ).loc Cert.AddInIdeal.main_arg2) = m ((c.tc : Thread Cert.AddInIdeal.nD Cert.AddInIdeal.τ).loc Cert.AddInIdeal.main_arg2))
      ∧ θ_run (Cert.AddInRefIdeal.defs (F := Ideal)) (onTc (τ := Cert.AddInRefIdeal.τ) (Cert.AddInRefIdeal.main (F := Ideal))) ⟨m', fun _ => 0, g'⟩ (fun r => ∀ c : Dev Cert.AddInRefIdeal.nD,
          r.2.mem ((c.tc : Thread Cert.AddInRefIdeal.nD Cert.AddInRefIdeal.τ).loc Cert.AddInRefIdeal.main_v9) = v0 c
          ∧ r.2.mem ((c.tc : Thread Cert.AddInRefIdeal.nD Cert.AddInRefIdeal.τ).loc Cert.AddInRefIdeal.main_arg0) = m' ((c.tc : Thread Cert.AddInRefIdeal.nD Cert.AddInRefIdeal.τ).loc Cert.AddInRefIdeal.main_arg0)
          ∧ r.2.mem ((c.tc : Thread Cert.AddInRefIdeal.nD Cert.AddInRefIdeal.τ).loc Cert.AddInRefIdeal.main_arg1) = m' ((c.tc : Thread Cert.AddInRefIdeal.nD Cert.AddInRefIdeal.τ).loc Cert.AddInRefIdeal.main_arg1)
          ∧ r.2.mem ((c.tc : Thread Cert.AddInRefIdeal.nD Cert.AddInRefIdeal.τ).loc Cert.AddInRefIdeal.main_arg2) = m' ((c.tc : Thread Cert.AddInRefIdeal.nD Cert.AddInRefIdeal.τ).loc Cert.AddInRefIdeal.main_arg2))

def preserves_AddOut_AddOutIdeal : Prop :=
  True

def algebraic_AddOutIdeal_AddOutRefIdeal [hAddOutIdeal : Cert.AddOutIdeal.Facts] [hAddOutRefIdeal : Cert.AddOutRefIdeal.Facts] [hPre_addout_core : Cert.Pre_addout_core.Facts] : Prop :=
  ∀ (m : (ℓ : Loc Cert.AddOutIdeal.nD Cert.AddOutIdeal.τ Cert.AddOutIdeal.sig) → Buf (Elt Ideal) ℓ) (g : Dev Cert.AddOutIdeal.nD → PrngReg)
    (m' : (ℓ : Loc Cert.AddOutRefIdeal.nD Cert.AddOutRefIdeal.τ Cert.AddOutRefIdeal.sig) → Buf (Elt Ideal) ℓ) (g' : Dev Cert.AddOutRefIdeal.nD → PrngReg), Pre_AddOutIdeal m →
    (∀ c : Dev Cert.AddOutIdeal.nD,
      m' ((c.tc : Thread Cert.AddOutRefIdeal.nD Cert.AddOutRefIdeal.τ).loc Cert.AddOutRefIdeal.main_arg0) = m ((c.tc : Thread Cert.AddOutIdeal.nD Cert.AddOutIdeal.τ).loc Cert.AddOutIdeal.main_arg0)
      ∧ m' ((c.tc : Thread Cert.AddOutRefIdeal.nD Cert.AddOutRefIdeal.τ).loc Cert.AddOutRefIdeal.main_arg1) = m ((c.tc : Thread Cert.AddOutIdeal.nD Cert.AddOutIdeal.τ).loc Cert.AddOutIdeal.main_arg1)
      ∧ m' ((c.tc : Thread Cert.AddOutRefIdeal.nD Cert.AddOutRefIdeal.τ).loc Cert.AddOutRefIdeal.main_arg2) = m ((c.tc : Thread Cert.AddOutIdeal.nD Cert.AddOutIdeal.τ).loc Cert.AddOutIdeal.main_arg2)) →
    ∃ (v0 : (c : Dev Cert.AddOutIdeal.nD) → Buf (Elt Ideal) ((c.tc : Thread Cert.AddOutIdeal.nD Cert.AddOutIdeal.τ).loc Cert.AddOutIdeal.main_v0)),
      θ_run (Cert.AddOutIdeal.defs (F := Ideal)) (onTc (τ := Cert.AddOutIdeal.τ) (Cert.AddOutIdeal.main (F := Ideal))) ⟨m, fun _ => 0, g⟩ (fun r => ∀ c : Dev Cert.AddOutIdeal.nD,
          r.2.mem ((c.tc : Thread Cert.AddOutIdeal.nD Cert.AddOutIdeal.τ).loc Cert.AddOutIdeal.main_v0) = v0 c
          ∧ r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
          ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1)
          ∧ r.2.mem ((c.tc : Thread Cert.AddOutIdeal.nD Cert.AddOutIdeal.τ).loc Cert.AddOutIdeal.main_arg2) = m ((c.tc : Thread Cert.AddOutIdeal.nD Cert.AddOutIdeal.τ).loc Cert.AddOutIdeal.main_arg2))
      ∧ θ_run (Cert.AddOutRefIdeal.defs (F := Ideal)) (onTc (τ := Cert.AddOutRefIdeal.τ) (Cert.AddOutRefIdeal.main (F := Ideal))) ⟨m', fun _ => 0, g'⟩ (fun r => ∀ c : Dev Cert.AddOutRefIdeal.nD,
          r.2.mem ((c.tc : Thread Cert.AddOutRefIdeal.nD Cert.AddOutRefIdeal.τ).loc Cert.AddOutRefIdeal.main_v9) = v0 c
          ∧ r.2.mem ((c.tc : Thread Cert.AddOutRefIdeal.nD Cert.AddOutRefIdeal.τ).loc Cert.AddOutRefIdeal.main_arg0) = m' ((c.tc : Thread Cert.AddOutRefIdeal.nD Cert.AddOutRefIdeal.τ).loc Cert.AddOutRefIdeal.main_arg0)
          ∧ r.2.mem ((c.tc : Thread Cert.AddOutRefIdeal.nD Cert.AddOutRefIdeal.τ).loc Cert.AddOutRefIdeal.main_arg1) = m' ((c.tc : Thread Cert.AddOutRefIdeal.nD Cert.AddOutRefIdeal.τ).loc Cert.AddOutRefIdeal.main_arg1)
          ∧ r.2.mem ((c.tc : Thread Cert.AddOutRefIdeal.nD Cert.AddOutRefIdeal.τ).loc Cert.AddOutRefIdeal.main_arg2) = m' ((c.tc : Thread Cert.AddOutRefIdeal.nD Cert.AddOutRefIdeal.τ).loc Cert.AddOutRefIdeal.main_arg2))

def preserves_AddDown_AddDownIdeal : Prop :=
  True

def algebraic_AddDownIdeal_AddDownRefIdeal [hAddDownIdeal : Cert.AddDownIdeal.Facts] [hAddDownRefIdeal : Cert.AddDownRefIdeal.Facts] [hPre_adddown_core : Cert.Pre_adddown_core.Facts] : Prop :=
  ∀ (m : (ℓ : Loc Cert.AddDownIdeal.nD Cert.AddDownIdeal.τ Cert.AddDownIdeal.sig) → Buf (Elt Ideal) ℓ) (g : Dev Cert.AddDownIdeal.nD → PrngReg)
    (m' : (ℓ : Loc Cert.AddDownRefIdeal.nD Cert.AddDownRefIdeal.τ Cert.AddDownRefIdeal.sig) → Buf (Elt Ideal) ℓ) (g' : Dev Cert.AddDownRefIdeal.nD → PrngReg), Pre_AddDownIdeal m →
    (∀ c : Dev Cert.AddDownIdeal.nD,
      m' ((c.tc : Thread Cert.AddDownRefIdeal.nD Cert.AddDownRefIdeal.τ).loc Cert.AddDownRefIdeal.main_arg0) = m ((c.tc : Thread Cert.AddDownIdeal.nD Cert.AddDownIdeal.τ).loc Cert.AddDownIdeal.main_arg0)
      ∧ m' ((c.tc : Thread Cert.AddDownRefIdeal.nD Cert.AddDownRefIdeal.τ).loc Cert.AddDownRefIdeal.main_arg1) = m ((c.tc : Thread Cert.AddDownIdeal.nD Cert.AddDownIdeal.τ).loc Cert.AddDownIdeal.main_arg1)
      ∧ m' ((c.tc : Thread Cert.AddDownRefIdeal.nD Cert.AddDownRefIdeal.τ).loc Cert.AddDownRefIdeal.main_arg2) = m ((c.tc : Thread Cert.AddDownIdeal.nD Cert.AddDownIdeal.τ).loc Cert.AddDownIdeal.main_arg2)) →
    ∃ (v0 : (c : Dev Cert.AddDownIdeal.nD) → Buf (Elt Ideal) ((c.tc : Thread Cert.AddDownIdeal.nD Cert.AddDownIdeal.τ).loc Cert.AddDownIdeal.main_v1)),
      θ_run (Cert.AddDownIdeal.defs (F := Ideal)) (onTc (τ := Cert.AddDownIdeal.τ) (Cert.AddDownIdeal.main (F := Ideal))) ⟨m, fun _ => 0, g⟩ (fun r => ∀ c : Dev Cert.AddDownIdeal.nD,
          r.2.mem ((c.tc : Thread Cert.AddDownIdeal.nD Cert.AddDownIdeal.τ).loc Cert.AddDownIdeal.main_v1) = v0 c
          ∧ r.2.mem ((c.tc : Thread Cert.AddDownIdeal.nD Cert.AddDownIdeal.τ).loc Cert.AddDownIdeal.main_arg0) = m ((c.tc : Thread Cert.AddDownIdeal.nD Cert.AddDownIdeal.τ).loc Cert.AddDownIdeal.main_arg0)
          ∧ r.2.mem ((c.tc : Thread Cert.AddDownIdeal.nD Cert.AddDownIdeal.τ).loc Cert.AddDownIdeal.main_arg1) = m ((c.tc : Thread Cert.AddDownIdeal.nD Cert.AddDownIdeal.τ).loc Cert.AddDownIdeal.main_arg1)
          ∧ r.2.mem ((c.tc : Thread Cert.AddDownIdeal.nD Cert.AddDownIdeal.τ).loc Cert.AddDownIdeal.main_arg2) = m ((c.tc : Thread Cert.AddDownIdeal.nD Cert.AddDownIdeal.τ).loc Cert.AddDownIdeal.main_arg2))
      ∧ θ_run (Cert.AddDownRefIdeal.defs (F := Ideal)) (onTc (τ := Cert.AddDownRefIdeal.τ) (Cert.AddDownRefIdeal.main (F := Ideal))) ⟨m', fun _ => 0, g'⟩ (fun r => ∀ c : Dev Cert.AddDownRefIdeal.nD,
          r.2.mem ((c.tc : Thread Cert.AddDownRefIdeal.nD Cert.AddDownRefIdeal.τ).loc Cert.AddDownRefIdeal.main_v9) = v0 c
          ∧ r.2.mem ((c.tc : Thread Cert.AddDownRefIdeal.nD Cert.AddDownRefIdeal.τ).loc Cert.AddDownRefIdeal.main_arg0) = m' ((c.tc : Thread Cert.AddDownRefIdeal.nD Cert.AddDownRefIdeal.τ).loc Cert.AddDownRefIdeal.main_arg0)
          ∧ r.2.mem ((c.tc : Thread Cert.AddDownRefIdeal.nD Cert.AddDownRefIdeal.τ).loc Cert.AddDownRefIdeal.main_arg1) = m' ((c.tc : Thread Cert.AddDownRefIdeal.nD Cert.AddDownRefIdeal.τ).loc Cert.AddDownRefIdeal.main_arg1)
          ∧ r.2.mem ((c.tc : Thread Cert.AddDownRefIdeal.nD Cert.AddDownRefIdeal.τ).loc Cert.AddDownRefIdeal.main_arg2) = m' ((c.tc : Thread Cert.AddDownRefIdeal.nD Cert.AddDownRefIdeal.τ).loc Cert.AddDownRefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutFwd : Cert.OutFwd.Facts) (hOutFwdIdeal : Cert.OutFwdIdeal.Facts) (hOutFwdRefIdeal : Cert.OutFwdRefIdeal.Facts) (hDownFwd : Cert.DownFwd.Facts) (hDownFwdIdeal : Cert.DownFwdIdeal.Facts) (hDownFwdRefIdeal : Cert.DownFwdRefIdeal.Facts) (hInFwd : Cert.InFwd.Facts) (hInFwdIdeal : Cert.InFwdIdeal.Facts) (hInFwdRefIdeal : Cert.InFwdRefIdeal.Facts) (hUpFwd : Cert.UpFwd.Facts) (hUpFwdIdeal : Cert.UpFwdIdeal.Facts) (hUpFwdRefIdeal : Cert.UpFwdRefIdeal.Facts) (hNormBwd : Cert.NormBwd.Facts) (hNormBwdIdeal : Cert.NormBwdIdeal.Facts) (hNormBwdRefIdeal : Cert.NormBwdRefIdeal.Facts) (hInNormBwd : Cert.InNormBwd.Facts) (hInNormBwdIdeal : Cert.InNormBwdIdeal.Facts) (hInNormBwdRefIdeal : Cert.InNormBwdRefIdeal.Facts) (hHalfNormBwd : Cert.HalfNormBwd.Facts) (hHalfNormBwdIdeal : Cert.HalfNormBwdIdeal.Facts) (hHalfNormBwdRefIdeal : Cert.HalfNormBwdRefIdeal.Facts) (hLossHead : Cert.LossHead.Facts) (hLossHeadIdeal : Cert.LossHeadIdeal.Facts) (hLossHeadRefIdeal : Cert.LossHeadRefIdeal.Facts) (hNormFwd : Cert.NormFwd.Facts) (hNormFwdIdeal : Cert.NormFwdIdeal.Facts) (hNormFwdRefIdeal : Cert.NormFwdRefIdeal.Facts) (hHalfNormFwd : Cert.HalfNormFwd.Facts) (hHalfNormFwdIdeal : Cert.HalfNormFwdIdeal.Facts) (hHalfNormFwdRefIdeal : Cert.HalfNormFwdRefIdeal.Facts) (hActFwd : Cert.ActFwd.Facts) (hActFwdIdeal : Cert.ActFwdIdeal.Facts) (hActFwdRefIdeal : Cert.ActFwdRefIdeal.Facts) (hAdamDown : Cert.AdamDown.Facts) (hAdamDownIdeal : Cert.AdamDownIdeal.Facts) (hAdamDownRefIdeal : Cert.AdamDownRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamSmall : Cert.AdamSmall.Facts) (hAdamSmallIdeal : Cert.AdamSmallIdeal.Facts) (hAdamSmallRefIdeal : Cert.AdamSmallRefIdeal.Facts) (hAddUp : Cert.AddUp.Facts) (hAddUpIdeal : Cert.AddUpIdeal.Facts) (hAddUpRefIdeal : Cert.AddUpRefIdeal.Facts) (hAddIn : Cert.AddIn.Facts) (hAddInIdeal : Cert.AddInIdeal.Facts) (hAddInRefIdeal : Cert.AddInRefIdeal.Facts) (hAddOut : Cert.AddOut.Facts) (hAddOutIdeal : Cert.AddOutIdeal.Facts) (hAddOutRefIdeal : Cert.AddOutRefIdeal.Facts) (hAddDown : Cert.AddDown.Facts) (hAddDownIdeal : Cert.AddDownIdeal.Facts) (hAddDownRefIdeal : Cert.AddDownRefIdeal.Facts) (hPre_finite : Cert.Pre_finite.Facts) (hPre_addup_core : Cert.Pre_addup_core.Facts) (hPre_addin_core : Cert.Pre_addin_core.Facts) (hPre_addout_core : Cert.Pre_addout_core.Facts) (hPre_adddown_core : Cert.Pre_adddown_core.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_InNormBwd (hInNormBwd := hInNormBwd)
    ∧ quiescent_InNormBwdIdeal (hInNormBwdIdeal := hInNormBwdIdeal)
    ∧ quiescent_InNormBwdRefIdeal (hInNormBwdRefIdeal := hInNormBwdRefIdeal)
    ∧ quiescent_HalfNormBwd (hHalfNormBwd := hHalfNormBwd)
    ∧ quiescent_HalfNormBwdIdeal (hHalfNormBwdIdeal := hHalfNormBwdIdeal)
    ∧ quiescent_HalfNormBwdRefIdeal (hHalfNormBwdRefIdeal := hHalfNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_HalfNormFwd (hHalfNormFwd := hHalfNormFwd)
    ∧ quiescent_HalfNormFwdIdeal (hHalfNormFwdIdeal := hHalfNormFwdIdeal)
    ∧ quiescent_HalfNormFwdRefIdeal (hHalfNormFwdRefIdeal := hHalfNormFwdRefIdeal)
    ∧ quiescent_ActFwd (hActFwd := hActFwd)
    ∧ quiescent_ActFwdIdeal (hActFwdIdeal := hActFwdIdeal)
    ∧ quiescent_ActFwdRefIdeal (hActFwdRefIdeal := hActFwdRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AddUp (hAddUp := hAddUp) (hPre_addup_core := hPre_addup_core)
    ∧ quiescent_AddUpIdeal (hAddUpIdeal := hAddUpIdeal) (hPre_addup_core := hPre_addup_core)
    ∧ quiescent_AddUpRefIdeal (hAddUpRefIdeal := hAddUpRefIdeal)
    ∧ quiescent_AddUpRefIdeal_pre_addup_core (hAddUpRefIdeal := hAddUpRefIdeal) (hPre_addup_core := hPre_addup_core)
    ∧ quiescent_AddIn (hAddIn := hAddIn) (hPre_addin_core := hPre_addin_core)
    ∧ quiescent_AddInIdeal (hAddInIdeal := hAddInIdeal) (hPre_addin_core := hPre_addin_core)
    ∧ quiescent_AddInRefIdeal (hAddInRefIdeal := hAddInRefIdeal)
    ∧ quiescent_AddInRefIdeal_pre_addin_core (hAddInRefIdeal := hAddInRefIdeal) (hPre_addin_core := hPre_addin_core)
    ∧ quiescent_AddOut (hAddOut := hAddOut) (hPre_addout_core := hPre_addout_core)
    ∧ quiescent_AddOutIdeal (hAddOutIdeal := hAddOutIdeal) (hPre_addout_core := hPre_addout_core)
    ∧ quiescent_AddOutRefIdeal (hAddOutRefIdeal := hAddOutRefIdeal)
    ∧ quiescent_AddOutRefIdeal_pre_addout_core (hAddOutRefIdeal := hAddOutRefIdeal) (hPre_addout_core := hPre_addout_core)
    ∧ quiescent_AddDown (hAddDown := hAddDown) (hPre_adddown_core := hPre_adddown_core)
    ∧ quiescent_AddDownIdeal (hAddDownIdeal := hAddDownIdeal) (hPre_adddown_core := hPre_adddown_core)
    ∧ quiescent_AddDownRefIdeal (hAddDownRefIdeal := hAddDownRefIdeal)
    ∧ quiescent_AddDownRefIdeal_pre_adddown_core (hAddDownRefIdeal := hAddDownRefIdeal) (hPre_adddown_core := hPre_adddown_core)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutFwd_OutFwdIdeal
    ∧ algebraic_OutFwdIdeal_OutFwdRefIdeal (hOutFwdIdeal := hOutFwdIdeal) (hOutFwdRefIdeal := hOutFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_InFwd_InFwdIdeal
    ∧ algebraic_InFwdIdeal_InFwdRefIdeal (hInFwdIdeal := hInFwdIdeal) (hInFwdRefIdeal := hInFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_InNormBwd_InNormBwdIdeal
    ∧ algebraic_InNormBwdIdeal_InNormBwdRefIdeal (hInNormBwdIdeal := hInNormBwdIdeal) (hInNormBwdRefIdeal := hInNormBwdRefIdeal)
    ∧ preserves_HalfNormBwd_HalfNormBwdIdeal
    ∧ algebraic_HalfNormBwdIdeal_HalfNormBwdRefIdeal (hHalfNormBwdIdeal := hHalfNormBwdIdeal) (hHalfNormBwdRefIdeal := hHalfNormBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_NormFwd_NormFwdIdeal
    ∧ algebraic_NormFwdIdeal_NormFwdRefIdeal (hNormFwdIdeal := hNormFwdIdeal) (hNormFwdRefIdeal := hNormFwdRefIdeal)
    ∧ preserves_HalfNormFwd_HalfNormFwdIdeal
    ∧ algebraic_HalfNormFwdIdeal_HalfNormFwdRefIdeal (hHalfNormFwdIdeal := hHalfNormFwdIdeal) (hHalfNormFwdRefIdeal := hHalfNormFwdRefIdeal)
    ∧ preserves_ActFwd_ActFwdIdeal
    ∧ algebraic_ActFwdIdeal_ActFwdRefIdeal (hActFwdIdeal := hActFwdIdeal) (hActFwdRefIdeal := hActFwdRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AddUp_AddUpIdeal
    ∧ algebraic_AddUpIdeal_AddUpRefIdeal (hAddUpIdeal := hAddUpIdeal) (hAddUpRefIdeal := hAddUpRefIdeal) (hPre_addup_core := hPre_addup_core)
    ∧ preserves_AddIn_AddInIdeal
    ∧ algebraic_AddInIdeal_AddInRefIdeal (hAddInIdeal := hAddInIdeal) (hAddInRefIdeal := hAddInRefIdeal) (hPre_addin_core := hPre_addin_core)
    ∧ preserves_AddOut_AddOutIdeal
    ∧ algebraic_AddOutIdeal_AddOutRefIdeal (hAddOutIdeal := hAddOutIdeal) (hAddOutRefIdeal := hAddOutRefIdeal) (hPre_addout_core := hPre_addout_core)
    ∧ preserves_AddDown_AddDownIdeal
    ∧ algebraic_AddDownIdeal_AddDownRefIdeal (hAddDownIdeal := hAddDownIdeal) (hAddDownRefIdeal := hAddDownRefIdeal) (hPre_adddown_core := hPre_adddown_core)
-- ==== Pre_adddown_core.lean ====
abbrev S4x2816x4096 : Shape := ⟨3, ![4, 2816, 4096]⟩
abbrev S4x1376x4096 : Shape := ⟨3, ![4, 1376, 4096]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x2816x4096 .bf16) (main_arg1 : FVec F S4x1376x4096 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_addin_core.lean ====
abbrev S4x8192x1536 : Shape := ⟨3, ![4, 8192, 1536]⟩
abbrev S4x4096x1536 : Shape := ⟨3, ![4, 4096, 1536]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x8192x1536 .bf16) (main_arg1 : FVec F S4x4096x1536 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_addout_core.lean ====
abbrev S4x1024x4096 : Shape := ⟨3, ![4, 1024, 4096]⟩
abbrev S4x512x4096 : Shape := ⟨3, ![4, 512, 4096]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x4096 .bf16) (main_arg1 : FVec F S4x512x4096 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_addup_core.lean ====
abbrev S4x5632x4096 : Shape := ⟨3, ![4, 5632, 4096]⟩
abbrev S4x2816x4096 : Shape := ⟨3, ![4, 2816, 4096]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x5632x4096 .bf16) (main_arg1 : FVec F S4x2816x4096 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_finite.lean ====
abbrev S4096x11264 : Shape := ⟨2, ![4096, 11264]⟩
abbrev S4096x22528 : Shape := ⟨2, ![4096, 22528]⟩
abbrev S3x22528 : Shape := ⟨2, ![3, 22528]⟩
abbrev S1x22528 : Shape := ⟨2, ![1, 22528]⟩
abbrev S_ : Shape := ⟨0, ![]⟩
abbrev S3x11264 : Shape := ⟨2, ![3, 11264]⟩
abbrev S1x11264 : Shape := ⟨2, ![1, 11264]⟩

class Facts : Prop where
  bcast_S_S4096x11264 : S_.BroadcastsInDim S4096x11264 (![] : Fin 0 → Fin S4096x11264.rank)
  slices_S4096x22528_S4096x11264_0_11264 : S4096x22528.Slices ![0, 11264] S4096x11264
  slices_S3x22528_S3x11264_0_11264 : S3x22528.Slices ![0, 11264] S3x11264
  bcast_S_S3x11264 : S_.BroadcastsInDim S3x11264 (![] : Fin 0 → Fin S3x11264.rank)
  slices_S1x22528_S1x11264_0_11264 : S1x22528.Slices ![0, 11264] S1x11264
  bcast_S_S1x11264 : S_.BroadcastsInDim S1x11264 (![] : Fin 0 → Fin S1x11264.rank)

variable [Facts]

def fn {F : FTy → Type} [FloatOps F] (main_arg0 : FVec F S4096x11264 .f32) (main_arg1 : FVec F S4096x22528 .f32) (main_arg2 : FVec F S3x22528 .f32) (main_arg3 : FVec F S1x22528 .f32) : IVec S4096x11264 1 × IVec S4096x11264 1 × IVec S3x11264 1 × IVec S1x11264 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_v3 : FVec F S4096x11264 .f32 := (extractStridedSlice S4096x11264 ![0, 11264] · slices_S4096x22528_S4096x11264_0_11264) main_arg1
  let main_v4 : FVec F S4096x11264 .f32 := Host.absf main_v3
  let main_cst_0 : FVec F S_ .f32 := constant S_ .f32 0x7F800000#32
  let main_v5 : FVec F S4096x11264 .f32 := broadcastInDim S4096x11264 ![] bcast_S_S4096x11264 main_cst_0
  let main_v6 : IVec S4096x11264 1 := cmpf .olt main_v4 main_v5
  let main_v7 : FVec F S3x11264 .f32 := (extractStridedSlice S3x11264 ![0, 11264] · slices_S3x22528_S3x11264_0_11264) main_arg2
  let main_v8 : FVec F S3x11264 .f32 := Host.absf main_v7
  let main_cst_1 : FVec F S_ .f32 := constant S_ .f32 0x7F800000#32
  let main_v9 : FVec F S3x11264 .f32 := broadcastInDim S3x11264 ![] bcast_S_S3x11264 main_cst_1
  let main_v10 : IVec S3x11264 1 := cmpf .olt main_v8 main_v9
  let main_v11 : FVec F S1x11264 .f32 := (extractStridedSlice S1x11264 ![0, 11264] · slices_S1x22528_S1x11264_0_11264) main_arg3
  let main_v12 : FVec F S1x11264 .f32 := Host.absf main_v11
  let main_cst_2 : FVec F S_ .f32 := constant S_ .f32 0x7F800000#32
  let main_v13 : FVec F S1x11264 .f32 := broadcastInDim S1x11264 ![] bcast_S_S1x11264 main_cst_2
  let main_v14 : IVec S1x11264 1 := cmpf .olt main_v12 main_v13
  (main_v2, main_v6, main_v10, main_v14)
-- ==== Kernel.lean ====
abbrev S4096x11264 : Shape := ⟨2, ![4096, 11264]⟩
abbrev S4096x22528 : Shape := ⟨2, ![4096, 22528]⟩
abbrev S3x22528 : Shape := ⟨2, ![3, 22528]⟩
abbrev S1x22528 : Shape := ⟨2, ![1, 22528]⟩
abbrev S2x4096x11264 : Shape := ⟨3, ![2, 4096, 11264]⟩
abbrev S8x11264 : Shape := ⟨2, ![8, 11264]⟩
abbrev S2048x512 : Shape := ⟨2, ![2048, 512]⟩
abbrev S3x512 : Shape := ⟨2, ![3, 512]⟩
abbrev S1x512 : Shape := ⟨2, ![1, 512]⟩
abbrev S2x2048x512 : Shape := ⟨3, ![2, 2048, 512]⟩
abbrev S8x512 : Shape := ⟨2, ![8, 512]⟩
abbrev S2056x512 : Shape := ⟨2, ![2056, 512]⟩
abbrev S128x512 : Shape := ⟨2, ![128, 512]⟩
abbrev S136x512 : Shape := ⟨2, ![136, 512]⟩
abbrev S512 : Shape := ⟨1, ![512]⟩
abbrev S1x128x512 : Shape := ⟨3, ![1, 128, 512]⟩

abbrev nBuf : Space → Nat
  | .hbm => 7
  | .vmem => 24
  | .smem => 0
  | _ => 0

abbrev bufTy : (tb : Table) → Fin (tcTables nBuf tb) → BufTy
  | .hbm, ⟨0, _⟩ => ⟨S4096x11264, .f32⟩
  | .hbm, ⟨1, _⟩ => ⟨S4096x22528, .f32⟩
  | .hbm, ⟨2, _⟩ => ⟨S3x22528, .f32⟩
  | .hbm, ⟨3, _⟩ => ⟨S1x22528, .f32⟩
  | .hbm, ⟨4, _⟩ => ⟨S2x4096x11264, .bf16⟩
  | .hbm, ⟨5, _⟩ => ⟨S8x11264, .f32⟩
  | .hbm, ⟨6, _⟩ => ⟨S8x11264, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S2x2048x512, .bf16⟩
  | .local _ .vmem, ⟨15, _⟩ => ⟨S2x2048x512, .bf16⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S2056x512, .f32⟩
  | .local _ .vmem, ⟨21, _⟩ => ⟨S2056x512, .f32⟩
  | .local _ .vmem, ⟨22, _⟩ => ⟨S8x512, .f32⟩
  | .local _ .vmem, ⟨23, _⟩ => ⟨S8x512, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![22, 2], ![false, false]⟩

@[reducible] def k0_t1_loop : Scf.Loop 32 :=
  let c0_i32_7 : BitVec 32 := 0#32
  let c16_i32 : BitVec 32 := 16#32
  let v12 : BitVec 32 := Scalar.addi c0_i32_7 c16_i32
  let c1_i32 : BitVec 32 := 1#32
  ⟨c0_i32_7, v12, c1_i32⟩
def k0_mult1 (k0_t1 : Fin k0_t1_loop.trips) : BitVec 32 :=
  let c0_i32_7 : BitVec 32 := 0#32
  let c1_i32 : BitVec 32 := 1#32
  let arg16 : BitVec 32 := Scf.iv c0_i32_7 c1_i32 k0_t1
  let c128_i32 : BitVec 32 := 128#32
  let v593 : BitVec 32 := Scalar.muli arg16 c128_i32
  v593
def k0_off1 (k0_t1 : Fin k0_t1_loop.trips) : Fin 2 → Nat :=
  let c0_i32_7 : BitVec 32 := 0#32
  let c1_i32 : BitVec 32 := 1#32
  let arg16 : BitVec 32 := Scf.iv c0_i32_7 c1_i32 k0_t1
  let c128_i32 : BitVec 32 := 128#32
  let v593 : BitVec 32 := Scalar.muli arg16 c128_i32
  let v594 : BitVec 32 := v593
  let v595 : Index := Scalar.indexCast v594
  let c0_444 : Index := 0#32
  ![v595.toNat, 0]
def k0_off2 (k0_t1 : Fin k0_t1_loop.trips) : Fin 2 → Nat :=
  let c0_i32_7 : BitVec 32 := 0#32
  let c1_i32 : BitVec 32 := 1#32
  let arg16 : BitVec 32 := Scf.iv c0_i32_7 c1_i32 k0_t1
  let c128_i32 : BitVec 32 := 128#32
  let v593 : BitVec 32 := Scalar.muli arg16 c128_i32
  let v594 : BitVec 32 := v593
  let v650 : Index := Scalar.indexCast v594
  let c0_464 : Index := 0#32
  ![v650.toNat, 0]
def k0_cond2 (i : grid0.Coords) : BitVec 1 :=
  let arg1 : BitVec 32 := BitVec.ofNat 32 (i 1).val
  let c1_i32_442 : BitVec 32 := 1#32
  let v590 : BitVec 1 := Scalar.cmpi .eq arg1 c1_i32_442
  let v591 : BitVec 32 := Scalar.extui v590
  let c0_i32_443 : BitVec 32 := 0#32
  let v592 : BitVec 1 := Scalar.cmpi .ne v591 c0_i32_443
  v592

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x11264 : Shape := ⟨2, ![4096, 11264]⟩
abbrev S4096x22528 : Shape := ⟨2, ![4096, 22528]⟩
abbrev S3x22528 : Shape := ⟨2, ![3, 22528]⟩
abbrev S1x22528 : Shape := ⟨2, ![1, 22528]⟩
abbrev S2x2048x22528 : Shape := ⟨3, ![2, 2048, 22528]⟩
abbrev S22528 : Shape := ⟨1, ![22528]⟩
abbrev S_ : Shape := ⟨0, ![]⟩
abbrev S2x2x22528 : Shape := ⟨3, ![2, 2, 22528]⟩
abbrev S2x2050x22528 : Shape := ⟨3, ![2, 2050, 22528]⟩
abbrev S1x1x22528 : Shape := ⟨3, ![1, 1, 22528]⟩
abbrev S2x2048x11264 : Shape := ⟨3, ![2, 2048, 11264]⟩
abbrev S1x4096x11264 : Shape := ⟨3, ![1, 4096, 11264]⟩
abbrev S2x4096x11264 : Shape := ⟨3, ![2, 4096, 11264]⟩
abbrev S4x22528 : Shape := ⟨2, ![4, 22528]⟩
abbrev S8x22528 : Shape := ⟨2, ![8, 22528]⟩
abbrev S8x11264 : Shape := ⟨2, ![8, 11264]⟩

abbrev nBuf : Space → Nat
  | .hbm => 121
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x22528, .f32⟩
  | .hbm, ⟨2, _⟩ => ⟨S3x22528, .f32⟩
  | .hbm, ⟨3, _⟩ => ⟨S1x22528, .f32⟩
  | .hbm, ⟨4, _⟩ => ⟨S2x2048x22528, .f32⟩
  | .hbm, ⟨5, _⟩ => ⟨S22528, .f32⟩
  | .hbm, ⟨6, _⟩ => ⟨S_, .f32⟩
  | .hbm, ⟨7, _⟩ => ⟨S2x2x22528, .f32⟩
  | .hbm, ⟨8, _⟩ => ⟨S2x2050x22528, .f32⟩
  | .hbm, ⟨9, _⟩ => ⟨S_, .f32⟩
  | .hbm, ⟨10, _⟩ => ⟨S2x2x22528, .f32⟩
  | .hbm, ⟨11, _⟩ => ⟨S2x2048x22528, .f32⟩
  | .hbm, ⟨12, _⟩ => ⟨S1x22528, .f32⟩
  | .hbm, ⟨13, _⟩ => ⟨S22528, .f32⟩
  | .hbm, ⟨14, _⟩ => ⟨S1x1x22528, .f32⟩
  | .hbm, ⟨15, _⟩ => ⟨S2x2048x22528, .f32⟩
  | .hbm, ⟨16, _⟩ => ⟨S2x2048x22528, .f32⟩
  | .hbm, ⟨17, _⟩ => ⟨S1x1x22528, .f32⟩
  | .hbm, ⟨18, _⟩ => ⟨S2x2048x22528, .f32⟩
  | .hbm, ⟨19, _⟩ => ⟨S2x2048x22528, .f32⟩
  | .hbm, ⟨20, _⟩ => ⟨S2x2048x22528, .f32⟩
  | .hbm, ⟨21, _⟩ => ⟨S1x22528, .f32⟩
  | .hbm, ⟨22, _⟩ => ⟨S22528, .f32⟩
  | .hbm, ⟨23, _⟩ => ⟨S1x1x22528, .f32⟩
  | .hbm, ⟨24, _⟩ => ⟨S2x2048x22528, .f32⟩
  | .hbm, ⟨25, _⟩ => ⟨S2x2048x22528, .f32⟩
  | .hbm, ⟨26, _⟩ => ⟨S2x2048x22528, .f32⟩
  | .hbm, ⟨27, _⟩ => ⟨S2x2048x22528, .f32⟩
  | .hbm, ⟨28, _⟩ => ⟨S1x22528, .f32⟩
  | .hbm, ⟨29, _⟩ => ⟨S22528, .f32⟩
  | .hbm, ⟨30, _⟩ => ⟨S1x1x22528, .f32⟩
  | .hbm, ⟨31, _⟩ => ⟨S2x2048x22528, .f32⟩
  | .hbm, ⟨32, _⟩ => ⟨S2x2048x22528, .f32⟩
  | .hbm, ⟨33, _⟩ => ⟨S2x2048x22528, .f32⟩
  | .hbm, ⟨34, _⟩ => ⟨S2x2048x11264, .f32⟩
  | .hbm, ⟨35, _⟩ => ⟨S2x2048x11264, .f32⟩
  | .hbm, ⟨36, _⟩ => ⟨S2x2048x11264, .f32⟩
  | .hbm, ⟨37, _⟩ => ⟨S2x2048x11264, .f32⟩
  | .hbm, ⟨38, _⟩ => ⟨S_, .f32⟩
  | .hbm, ⟨39, _⟩ => ⟨S2x2048x11264, .f32⟩
  | .hbm, ⟨40, _⟩ => ⟨S2x2048x11264, .f32⟩
  | .hbm, ⟨41, _⟩ => ⟨S_, .f32⟩
  | .hbm, ⟨42, _⟩ => ⟨S2x2048x11264, .f32⟩
  | .hbm, ⟨43, _⟩ => ⟨S2x2048x11264, .f32⟩
  | .hbm, ⟨44, _⟩ => ⟨S_, .f32⟩
  | .hbm, ⟨45, _⟩ => ⟨S2x2048x11264, .f32⟩
  | .hbm, ⟨46, _⟩ => ⟨S2x2048x11264, .f32⟩
  | .hbm, ⟨47, _⟩ => ⟨S2x2048x11264, .f32⟩
  | .hbm, ⟨48, _⟩ => ⟨S2x2048x11264, .f32⟩
  | .hbm, ⟨49, _⟩ => ⟨S2x2048x11264, .f32⟩
  | .hbm, ⟨50, _⟩ => ⟨S2x2048x11264, .f32⟩
  | .hbm, ⟨51, _⟩ => ⟨S2x2048x11264, .f32⟩
  | .hbm, ⟨52, _⟩ => ⟨S2x2048x11264, .f32⟩
  | .hbm, ⟨53, _⟩ => ⟨S2x2048x11264, .f32⟩
  | .hbm, ⟨54, _⟩ => ⟨S2x2048x11264, .f32⟩
  | .hbm, ⟨55, _⟩ => ⟨S2x2048x11264, .f32⟩
  | .hbm, ⟨56, _⟩ => ⟨S2x2048x11264, .f32⟩
  | .hbm, ⟨57, _⟩ => ⟨S2x2048x22528, .f32⟩
  | .hbm, ⟨58, _⟩ => ⟨S2x2048x22528, .f32⟩
  | .hbm, ⟨59, _⟩ => ⟨S_, .f32⟩
  | .hbm, ⟨60, _⟩ => ⟨S22528, .f32⟩
  | .hbm, ⟨61, _⟩ => ⟨S1x1x22528, .f32⟩
  | .hbm, ⟨62, _⟩ => ⟨S2x2048x22528, .f32⟩
  | .hbm, ⟨63, _⟩ => ⟨S2x2048x22528, .f32⟩
  | .hbm, ⟨64, _⟩ => ⟨S_, .f32⟩
  | .hbm, ⟨65, _⟩ => ⟨S22528, .f32⟩
  | .hbm, ⟨66, _⟩ => ⟨S1x22528, .f32⟩
  | .hbm, ⟨67, _⟩ => ⟨S_, .f32⟩
  | .hbm, ⟨68, _⟩ => ⟨S3x22528, .f32⟩
  | .hbm, ⟨69, _⟩ => ⟨S_, .f32⟩
  | .hbm, ⟨70, _⟩ => ⟨S2x2050x22528, .f32⟩
  | .hbm, ⟨71, _⟩ => ⟨S2x2048x22528, .f32⟩
  | .hbm, ⟨72, _⟩ => ⟨S_, .f32⟩
  | .hbm, ⟨73, _⟩ => ⟨S22528, .f32⟩
  | .hbm, ⟨74, _⟩ => ⟨S1x1x22528, .f32⟩
  | .hbm, ⟨75, _⟩ => ⟨S2x2048x22528, .f32⟩
  | .hbm, ⟨76, _⟩ => ⟨S2x2048x22528, .f32⟩
  | .hbm, ⟨77, _⟩ => ⟨S_, .f32⟩
  | .hbm, ⟨78, _⟩ => ⟨S22528, .f32⟩
  | .hbm, ⟨79, _⟩ => ⟨S1x22528, .f32⟩
  | .hbm, ⟨80, _⟩ => ⟨S_, .f32⟩
  | .hbm, ⟨81, _⟩ => ⟨S3x22528, .f32⟩
  | .hbm, ⟨82, _⟩ => ⟨S3x22528, .f32⟩
  | .hbm, ⟨83, _⟩ => ⟨S_, .f32⟩
  | .hbm, ⟨84, _⟩ => ⟨S2x2050x22528, .f32⟩
  | .hbm, ⟨85, _⟩ => ⟨S2x2050x22528, .f32⟩
  | .hbm, ⟨86, _⟩ => ⟨S_, .f32⟩
  | .hbm, ⟨87, _⟩ => ⟨S22528, .f32⟩
  | .hbm, ⟨88, _⟩ => ⟨S1x1x22528, .f32⟩
  | .hbm, ⟨89, _⟩ => ⟨S_, .f32⟩
  | .hbm, ⟨90, _⟩ => ⟨S22528, .f32⟩
  | .hbm, ⟨91, _⟩ => ⟨S2x2048x22528, .f32⟩
  | .hbm, ⟨92, _⟩ => ⟨S_, .f32⟩
  | .hbm, ⟨93, _⟩ => ⟨S22528, .f32⟩
  | .hbm, ⟨94, _⟩ => ⟨S1x1x22528, .f32⟩
  | .hbm, ⟨95, _⟩ => ⟨S2x2048x22528, .f32⟩
  | .hbm, ⟨96, _⟩ => ⟨S2x2048x22528, .f32⟩
  | .hbm, ⟨97, _⟩ => ⟨S_, .f32⟩
  | .hbm, ⟨98, _⟩ => ⟨S22528, .f32⟩
  | .hbm, ⟨99, _⟩ => ⟨S1x22528, .f32⟩
  | .hbm, ⟨100, _⟩ => ⟨S_, .f32⟩
  | .hbm, ⟨101, _⟩ => ⟨S3x22528, .f32⟩
  | .hbm, ⟨102, _⟩ => ⟨S3x22528, .f32⟩
  | .hbm, ⟨103, _⟩ => ⟨S_, .f32⟩
  | .hbm, ⟨104, _⟩ => ⟨S2x2050x22528, .f32⟩
  | .hbm, ⟨105, _⟩ => ⟨S2x2050x22528, .f32⟩
  | .hbm, ⟨106, _⟩ => ⟨S2x2x22528, .f32⟩
  | .hbm, ⟨107, _⟩ => ⟨S2x2048x22528, .f32⟩
  | .hbm, ⟨108, _⟩ => ⟨S4096x22528, .f32⟩
  | .hbm, ⟨109, _⟩ => ⟨S4096x11264, .f32⟩
  | .hbm, ⟨110, _⟩ => ⟨S4096x11264, .f32⟩
  | .hbm, ⟨111, _⟩ => ⟨S1x4096x11264, .f32⟩
  | .hbm, ⟨112, _⟩ => ⟨S1x4096x11264, .f32⟩
  | .hbm, ⟨113, _⟩ => ⟨S2x4096x11264, .f32⟩
  | .hbm, ⟨114, _⟩ => ⟨S2x4096x11264, .bf16⟩
  | .hbm, ⟨115, _⟩ => ⟨S1x22528, .f32⟩
  | .hbm, ⟨116, _⟩ => ⟨S_, .f32⟩
  | .hbm, ⟨117, _⟩ => ⟨S4x22528, .f32⟩
  | .hbm, ⟨118, _⟩ => ⟨S8x22528, .f32⟩
  | .hbm, ⟨119, _⟩ => ⟨S8x11264, .f32⟩
  | .hbm, ⟨120, _⟩ => ⟨S8x11264, .f32⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v30_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v30_1 : Ref sig .tc := ⟨.hbm, 47, rfl⟩
abbrev main_v30_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_1 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== DownDx.lean ====
abbrev S4096x4096 : Shape := ⟨2, ![4096, 4096]⟩
abbrev S1x11264x4096 : Shape := ⟨3, ![1, 11264, 4096]⟩
abbrev S4096x11264 : Shape := ⟨2, ![4096, 11264]⟩
abbrev S512x4096 : Shape := ⟨2, ![512, 4096]⟩
abbrev S1x1408x4096 : Shape := ⟨3, ![1, 1408, 4096]⟩
abbrev S512x1408 : Shape := ⟨2, ![512, 1408]⟩
abbrev S1408x4096 : Shape := ⟨2, ![1408, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S1x11264x4096, .bf16⟩
  | .hbm, ⟨2, _⟩ => ⟨S4096x11264, .f32⟩
  | .local _ .vmem, ⟨0, _⟩ => ⟨S512x4096, .bf16⟩
  | .local _ .vmem, ⟨1, _⟩ => ⟨S512x4096, .bf16⟩
  | .local _ .vmem, ⟨2, _⟩ => ⟨S1x1408x4096, .bf16⟩
  | .local _ .vmem, ⟨3, _⟩ => ⟨S1x1408x4096, .bf16⟩
  | .local _ .vmem, ⟨4, _⟩ => ⟨S512x1408, .f32⟩
  | .local _ .vmem, ⟨5, _⟩ => ⟨S512x1408, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x4096 : Shape := ⟨2, ![4096, 4096]⟩
abbrev S1x11264x4096 : Shape := ⟨3, ![1, 11264, 4096]⟩
abbrev S11264x4096 : Shape := ⟨2, ![11264, 4096]⟩
abbrev S_ : Shape := ⟨0, ![]⟩
abbrev S4096x11264 : Shape := ⟨2, ![4096, 11264]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x11264x4096, .bf16⟩
  | .hbm, ⟨2, _⟩ => ⟨S4096x4096, .f32⟩
  | .hbm, ⟨3, _⟩ => ⟨S11264x4096, .bf16⟩
  | .hbm, ⟨4, _⟩ => ⟨S11264x4096, .f32⟩
  | .hbm, ⟨5, _⟩ => ⟨S_, .f32⟩
  | .hbm, ⟨6, _⟩ => ⟨S4096x11264, .f32⟩
  | .hbm, ⟨7, _⟩ => ⟨S4096x4096, .f32⟩
  | .hbm, ⟨8, _⟩ => ⟨S4096x11264, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4096x11264 : Shape := ⟨2, ![4096, 11264]⟩
abbrev S4096x4096 : Shape := ⟨2, ![4096, 4096]⟩
abbrev S1x11264x4096 : Shape := ⟨3, ![1, 11264, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S1x11264x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x11264 : Shape := ⟨2, ![4096, 11264]⟩
abbrev S4096x4096 : Shape := ⟨2, ![4096, 4096]⟩
abbrev S_ : Shape := ⟨0, ![]⟩
abbrev S11264x4096 : Shape := ⟨2, ![11264, 4096]⟩
abbrev S1x11264x4096 : Shape := ⟨3, ![1, 11264, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S4096x11264, .f32⟩
  | .hbm, ⟨3, _⟩ => ⟨S4096x4096, .f32⟩
  | .hbm, ⟨4, _⟩ => ⟨S_, .f32⟩
  | .hbm, ⟨5, _⟩ => ⟨S11264x4096, .f32⟩
  | .hbm, ⟨6, _⟩ => ⟨S4096x4096, .f32⟩
  | .hbm, ⟨7, _⟩ => ⟨S4096x11264, .f32⟩
  | .hbm, ⟨8, _⟩ => ⟨S11264x4096, .f32⟩
  | .hbm, ⟨9, _⟩ => ⟨S11264x4096, .bf16⟩
  | .hbm, ⟨10, _⟩ => ⟨S1x11264x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDx.lean ====
abbrev S2x4096x11264 : Shape := ⟨3, ![2, 4096, 11264]⟩
abbrev S8x4096x2816 : Shape := ⟨3, ![8, 4096, 2816]⟩
abbrev S4096x4096 : Shape := ⟨2, ![4096, 4096]⟩
abbrev S1x512x5632 : Shape := ⟨3, ![1, 512, 5632]⟩
abbrev S2x1024x2816 : Shape := ⟨3, ![2, 1024, 2816]⟩
abbrev S512x1024 : Shape := ⟨2, ![512, 1024]⟩
abbrev S1x512x2816 : Shape := ⟨3, ![1, 512, 2816]⟩
abbrev S512x2816 : Shape := ⟨2, ![512, 2816]⟩
abbrev S1x1024x2816 : Shape := ⟨3, ![1, 1024, 2816]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x11264, .bf16⟩
  | .hbm, ⟨1, _⟩ => ⟨S8x4096x2816, .bf16⟩
  | .hbm, ⟨2, _⟩ => ⟨S4096x4096, .f32⟩
  | .local _ .vmem, ⟨0, _⟩ => ⟨S1x512x5632, .bf16⟩
  | .local _ .vmem, ⟨1, _⟩ => ⟨S1x512x5632, .bf16⟩
  | .local _ .vmem, ⟨2, _⟩ => ⟨S2x1024x2816, .bf16⟩
  | .local _ .vmem, ⟨3, _⟩ => ⟨S2x1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2x4096x11264 : Shape := ⟨3, ![2, 4096, 11264]⟩
abbrev S8x4096x2816 : Shape := ⟨3, ![8, 4096, 2816]⟩
abbrev S1x4096x11264 : Shape := ⟨3, ![1, 4096, 11264]⟩
abbrev S4096x11264 : Shape := ⟨2, ![4096, 11264]⟩
abbrev S4096x22528 : Shape := ⟨2, ![4096, 22528]⟩
abbrev S4096x8x2816 : Shape := ⟨3, ![4096, 8, 2816]⟩
abbrev S_ : Shape := ⟨0, ![]⟩
abbrev S4096x4096 : Shape := ⟨2, ![4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x11264, .bf16⟩
  | .hbm, ⟨1, _⟩ => ⟨S8x4096x2816, .bf16⟩
  | .hbm, ⟨2, _⟩ => ⟨S1x4096x11264, .bf16⟩
  | .hbm, ⟨3, _⟩ => ⟨S4096x11264, .bf16⟩
  | .hbm, ⟨4, _⟩ => ⟨S4096x11264, .f32⟩
  | .hbm, ⟨5, _⟩ => ⟨S1x4096x11264, .bf16⟩
  | .hbm, ⟨6, _⟩ => ⟨S4096x11264, .bf16⟩
  | .hbm, ⟨7, _⟩ => ⟨S4096x11264, .f32⟩
  | .hbm, ⟨8, _⟩ => ⟨S4096x22528, .f32⟩
  | .hbm, ⟨9, _⟩ => ⟨S8x4096x2816, .f32⟩
  | .hbm, ⟨10, _⟩ => ⟨S4096x8x2816, .f32⟩
  | .hbm, ⟨11, _⟩ => ⟨S4096x22528, .f32⟩
  | .hbm, ⟨12, _⟩ => ⟨S_, .f32⟩
  | .hbm, ⟨13, _⟩ => ⟨S4096x4096, .f32⟩
  | .hbm, ⟨14, _⟩ => ⟨S4096x22528, .f32⟩
  | .hbm, ⟨15, _⟩ => ⟨S4096x4096, .f32⟩
  | _, _ => ⟨S2x4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== UpDw.lean ====
abbrev S2x4096x11264 : Shape := ⟨3, ![2, 4096, 11264]⟩
abbrev S4096x4096 : Shape := ⟨2, ![4096, 4096]⟩
abbrev S1x22528x4096 : Shape := ⟨3, ![1, 22528, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x11264, .bf16⟩
  | .hbm, ⟨1, _⟩ => ⟨S4096x4096, .bf16⟩
  | .hbm, ⟨2, _⟩ => ⟨S1x22528x4096, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S2x4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2x4096x11264 : Shape := ⟨3, ![2, 4096, 11264]⟩
abbrev S4096x4096 : Shape := ⟨2, ![4096, 4096]⟩
abbrev S1x4096x11264 : Shape := ⟨3, ![1, 4096, 11264]⟩
abbrev S4096x11264 : Shape := ⟨2, ![4096, 11264]⟩
abbrev S4096x22528 : Shape := ⟨2, ![4096, 22528]⟩
abbrev S_ : Shape := ⟨0, ![]⟩
abbrev S22528x4096 : Shape := ⟨2, ![22528, 4096]⟩
abbrev S1x22528x4096 : Shape := ⟨3, ![1, 22528, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x11264, .bf16⟩
  | .hbm, ⟨1, _⟩ => ⟨S4096x4096, .bf16⟩
  | .hbm, ⟨2, _⟩ => ⟨S4096x4096, .f32⟩
  | .hbm, ⟨3, _⟩ => ⟨S1x4096x11264, .bf16⟩
  | .hbm, ⟨4, _⟩ => ⟨S4096x11264, .bf16⟩
  | .hbm, ⟨5, _⟩ => ⟨S4096x11264, .f32⟩
  | .hbm, ⟨6, _⟩ => ⟨S1x4096x11264, .bf16⟩
  | .hbm, ⟨7, _⟩ => ⟨S4096x11264, .bf16⟩
  | .hbm, ⟨8, _⟩ => ⟨S4096x11264, .f32⟩
  | .hbm, ⟨9, _⟩ => ⟨S4096x22528, .f32⟩
  | .hbm, ⟨10, _⟩ => ⟨S_, .f32⟩
  | .hbm, ⟨11, _⟩ => ⟨S4096x22528, .f32⟩
  | .hbm, ⟨12, _⟩ => ⟨S4096x22528, .f32⟩
  | .hbm, ⟨13, _⟩ => ⟨S22528x4096, .f32⟩
  | .hbm, ⟨14, _⟩ => ⟨S4096x22528, .f32⟩
  | .hbm, ⟨15, _⟩ => ⟨S22528x4096, .f32⟩
  | .hbm, ⟨16, _⟩ => ⟨S22528x4096, .bf16⟩
  | .hbm, ⟨17, _⟩ => ⟨S1x22528x4096, .bf16⟩
  | _, _ => ⟨S2x4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== OutDx.lean ====
abbrev S4096x4096 : Shape := ⟨2, ![4096, 4096]⟩
abbrev S1x4096x4096 : Shape := ⟨3, ![1, 4096, 4096]⟩
abbrev S512x4096 : Shape := ⟨2, ![512, 4096]⟩
abbrev S1x1024x4096 : Shape := ⟨3, ![1, 1024, 4096]⟩
abbrev S512x1024 : Shape := ⟨2, ![512, 1024]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S512x1024, .f32⟩
  | .local _ .vmem, ⟨5, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x4096 : Shape := ⟨2, ![4096, 4096]⟩
abbrev S1x4096x4096 : Shape := ⟨3, ![1, 4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .f32⟩
  | .hbm, ⟨3, _⟩ => ⟨S4096x4096, .bf16⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S4096x4096 : Shape := ⟨2, ![4096, 4096]⟩
abbrev S1x4096x4096 : Shape := ⟨3, ![1, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S1x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x4096 : Shape := ⟨2, ![4096, 4096]⟩
abbrev S_ : Shape := ⟨0, ![]⟩
abbrev S1x4096x4096 : Shape := ⟨3, ![1, 4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S1x4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDx.lean ====
abbrev S4096x12288 : Shape := ⟨2, ![4096, 12288]⟩
abbrev S8x4096x1536 : Shape := ⟨3, ![8, 4096, 1536]⟩
abbrev S4096x4096 : Shape := ⟨2, ![4096, 4096]⟩
abbrev S512x6144 : Shape := ⟨2, ![512, 6144]⟩
abbrev S4x1024x1536 : Shape := ⟨3, ![4, 1024, 1536]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S8x4096x1536, .bf16⟩
  | .hbm, ⟨2, _⟩ => ⟨S4096x4096, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S4x1024x1536, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_20 : BitVec 32 := 0#32
  let v29 : BitVec 1 := Scalar.cmpi .ne v28 c0_i32_20
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x12288 : Shape := ⟨2, ![4096, 12288]⟩
abbrev S8x4096x1536 : Shape := ⟨3, ![8, 4096, 1536]⟩
abbrev S4096x8x1536 : Shape := ⟨3, ![4096, 8, 1536]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S8x4096x1536, .bf16⟩
  | .hbm, ⟨2, _⟩ => ⟨S4096x12288, .f32⟩
  | .hbm, ⟨3, _⟩ => ⟨S8x4096x1536, .f32⟩
  | .hbm, ⟨4, _⟩ => ⟨S4096x8x1536, .f32⟩
  | .hbm, ⟨5, _⟩ => ⟨S4096x12288, .f32⟩
  | .hbm, ⟨6, _⟩ => ⟨S_, .f32⟩
  | .hbm, ⟨7, _⟩ => ⟨S4096x4096, .f32⟩
  | .hbm, ⟨8, _⟩ => ⟨S4096x12288, .f32⟩
  | .hbm, ⟨9, _⟩ => ⟨S4096x4096, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4096x4096 : Shape := ⟨2, ![4096, 4096]⟩
abbrev S4096x12288 : Shape := ⟨2, ![4096, 12288]⟩
abbrev S8x4096x1536 : Shape := ⟨3, ![8, 4096, 1536]⟩
abbrev S4096x512 : Shape := ⟨2, ![4096, 512]⟩
abbrev S4096x1536 : Shape := ⟨2, ![4096, 1536]⟩
abbrev S1x512x1536 : Shape := ⟨3, ![1, 512, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S8x4096x1536, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S1x512x1536, .bf16⟩
  | .local _ .vmem, ⟨5, _⟩ => ⟨S1x512x1536, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x4096 : Shape := ⟨2, ![4096, 4096]⟩
abbrev S4096x12288 : Shape := ⟨2, ![4096, 12288]⟩
abbrev S_ : Shape := ⟨0, ![]⟩
abbrev S12288x4096 : Shape := ⟨2, ![12288, 4096]⟩
abbrev S4096x8x1536 : Shape := ⟨3, ![4096, 8, 1536]⟩
abbrev S8x4096x1536 : Shape := ⟨3, ![8, 4096, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x4096, .f32⟩
  | .hbm, ⟨3, _⟩ => ⟨S4096x12288, .f32⟩
  | .hbm, ⟨4, _⟩ => ⟨S_, .f32⟩
  | .hbm, ⟨5, _⟩ => ⟨S4096x12288, .f32⟩
  | .hbm, ⟨6, _⟩ => ⟨S4096x12288, .f32⟩
  | .hbm, ⟨7, _⟩ => ⟨S12288x4096, .f32⟩
  | .hbm, ⟨8, _⟩ => ⟨S4096x12288, .f32⟩
  | .hbm, ⟨9, _⟩ => ⟨S4096x12288, .bf16⟩
  | .hbm, ⟨10, _⟩ => ⟨S4096x8x1536, .bf16⟩
  | .hbm, ⟨11, _⟩ => ⟨S8x4096x1536, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutFwd.lean ====
abbrev S4096x4096 : Shape := ⟨2, ![4096, 4096]⟩
abbrev S1x4096x4096 : Shape := ⟨3, ![1, 4096, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .f32⟩
  | .hbm, ⟨3, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S4096x4096 : Shape := ⟨2, ![4096, 4096]⟩
abbrev S1x4096x4096 : Shape := ⟨3, ![1, 4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownFwd.lean ====
abbrev S4096x11264 : Shape := ⟨2, ![4096, 11264]⟩
abbrev S1x11264x4096 : Shape := ⟨3, ![1, 11264, 4096]⟩
abbrev S4096x4096 : Shape := ⟨2, ![4096, 4096]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S1x11264x4096, .bf16⟩
  | .hbm, ⟨2, _⟩ => ⟨S4096x4096, .f32⟩
  | .hbm, ⟨3, _⟩ => ⟨S4096x4096, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S4096x11264 : Shape := ⟨2, ![4096, 11264]⟩
abbrev S1x11264x4096 : Shape := ⟨3, ![1, 11264, 4096]⟩
abbrev S4096x4096 : Shape := ⟨2, ![4096, 4096]⟩
abbrev S11264x4096 : Shape := ⟨2, ![11264, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S1x11264x4096, .bf16⟩
  | .hbm, ⟨2, _⟩ => ⟨S4096x4096, .f32⟩
  | .hbm, ⟨3, _⟩ => ⟨S4096x11264, .f32⟩
  | .hbm, ⟨4, _⟩ => ⟨S11264x4096, .bf16⟩
  | .hbm, ⟨5, _⟩ => ⟨S11264x4096, .f32⟩
  | .hbm, ⟨6, _⟩ => ⟨S4096x4096, .f32⟩
  | .hbm, ⟨7, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFwd.lean ====
abbrev S4096x4096 : Shape := ⟨2, ![4096, 4096]⟩
abbrev S8x4096x1536 : Shape := ⟨3, ![8, 4096, 1536]⟩
abbrev S4096x12288 : Shape := ⟨2, ![4096, 12288]⟩
abbrev S512x4096 : Shape := ⟨2, ![512, 4096]⟩
abbrev S1x4096x768 : Shape := ⟨3, ![1, 4096, 768]⟩
abbrev S512x768 : Shape := ⟨2, ![512, 768]⟩
abbrev S4096x768 : Shape := ⟨2, ![4096, 768]⟩

abbrev nBuf : Space → Nat
  | .hbm => 4
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S8x4096x1536, .bf16⟩
  | .hbm, ⟨2, _⟩ => ⟨S4096x12288, .f32⟩
  | .hbm, ⟨3, _⟩ => ⟨S4096x12288, .f32⟩
  | .local _ .vmem, ⟨0, _⟩ => ⟨S512x4096, .bf16⟩
  | .local _ .vmem, ⟨1, _⟩ => ⟨S512x4096, .bf16⟩
  | .local _ .vmem, ⟨2, _⟩ => ⟨S1x4096x768, .bf16⟩
  | .local _ .vmem, ⟨3, _⟩ => ⟨S1x4096x768, .bf16⟩
  | .local _ .vmem, ⟨4, _⟩ => ⟨S512x768, .f32⟩
  | .local _ .vmem, ⟨5, _⟩ => ⟨S512x768, .f32⟩
  | .local _ .vmem, ⟨6, _⟩ => ⟨S512x4096, .bf16⟩
  | .local _ .vmem, ⟨7, _⟩ => ⟨S512x4096, .bf16⟩
  | .local _ .vmem, ⟨8, _⟩ => ⟨S1x4096x768, .bf16⟩
  | .local _ .vmem, ⟨9, _⟩ => ⟨S1x4096x768, .bf16⟩
  | .local _ .vmem, ⟨10, _⟩ => ⟨S512x768, .f32⟩
  | .local _ .vmem, ⟨11, _⟩ => ⟨S512x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  ![arg1.toNat, v1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x4096x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== InFwdRefIdeal.lean ====
abbrev S4096x4096 : Shape := ⟨2, ![4096, 4096]⟩
abbrev S8x4096x1536 : Shape := ⟨3, ![8, 4096, 1536]⟩
abbrev S4096x8x1536 : Shape := ⟨3, ![4096, 8, 1536]⟩
abbrev S4096x12288 : Shape := ⟨2, ![4096, 12288]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x1536, .bf16⟩
  | .hbm, ⟨2, _⟩ => ⟨S4096x4096, .f32⟩
  | .hbm, ⟨3, _⟩ => ⟨S8x4096x1536, .f32⟩
  | .hbm, ⟨4, _⟩ => ⟨S4096x8x1536, .f32⟩
  | .hbm, ⟨5, _⟩ => ⟨S4096x12288, .f32⟩
  | .hbm, ⟨6, _⟩ => ⟨S4096x12288, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpFwd.lean ====
abbrev S4096x4096 : Shape := ⟨2, ![4096, 4096]⟩
abbrev S8x4096x2816 : Shape := ⟨3, ![8, 4096, 2816]⟩
abbrev S4096x22528 : Shape := ⟨2, ![4096, 22528]⟩
abbrev S512x4096 : Shape := ⟨2, ![512, 4096]⟩
abbrev S1x4096x1408 : Shape := ⟨3, ![1, 4096, 1408]⟩
abbrev S512x1408 : Shape := ⟨2, ![512, 1408]⟩
abbrev S4096x1408 : Shape := ⟨2, ![4096, 1408]⟩

abbrev nBuf : Space → Nat
  | .hbm => 4
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S8x4096x2816, .bf16⟩
  | .hbm, ⟨2, _⟩ => ⟨S4096x22528, .f32⟩
  | .hbm, ⟨3, _⟩ => ⟨S4096x22528, .f32⟩
  | .local _ .vmem, ⟨0, _⟩ => ⟨S512x4096, .bf16⟩
  | .local _ .vmem, ⟨1, _⟩ => ⟨S512x4096, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S512x1408, .f32⟩
  | .local _ .vmem, ⟨5, _⟩ => ⟨S512x1408, .f32⟩
  | .local _ .vmem, ⟨6, _⟩ => ⟨S512x4096, .bf16⟩
  | .local _ .vmem, ⟨7, _⟩ => ⟨S512x4096, .bf16⟩
  | .local _ .vmem, ⟨8, _⟩ => ⟨S1x4096x1408, .bf16⟩
  | .local _ .vmem, ⟨9, _⟩ => ⟨S1x4096x1408, .bf16⟩
  | .local _ .vmem, ⟨10, _⟩ => ⟨S512x1408, .f32⟩
  | .local _ .vmem, ⟨11, _⟩ => ⟨S512x1408, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  ![arg1.toNat, v1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x4096x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== UpFwdRefIdeal.lean ====
abbrev S4096x4096 : Shape := ⟨2, ![4096, 4096]⟩
abbrev S8x4096x2816 : Shape := ⟨3, ![8, 4096, 2816]⟩
abbrev S4096x8x2816 : Shape := ⟨3, ![4096, 8, 2816]⟩
abbrev S4096x22528 : Shape := ⟨2, ![4096, 22528]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2816, .bf16⟩
  | .hbm, ⟨2, _⟩ => ⟨S4096x4096, .f32⟩
  | .hbm, ⟨3, _⟩ => ⟨S8x4096x2816, .f32⟩
  | .hbm, ⟨4, _⟩ => ⟨S4096x8x2816, .f32⟩
  | .hbm, ⟨5, _⟩ => ⟨S4096x22528, .f32⟩
  | .hbm, ⟨6, _⟩ => ⟨S4096x22528, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NormBwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .bf16⟩
  | .hbm, ⟨53, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== InNormBwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InNormBwdRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== HalfNormBwd.lean ====
abbrev S4096x4096 : Shape := ⟨2, ![4096, 4096]⟩
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== HalfNormBwdRefIdeal.lean ====
abbrev S4096x4096 : Shape := ⟨2, ![4096, 4096]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== LossHead.lean ====
abbrev S4096x4096 : Shape := ⟨2, ![4096, 4096]⟩
abbrev S1x4096 : Shape := ⟨2, ![1, 4096]⟩
abbrev S1x128 : Shape := ⟨2, ![1, 128]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S4096 : Shape := ⟨1, ![4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S1x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S1x4096, .f32⟩
  | .local _ .vmem, ⟨10, _⟩ => ⟨S1x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .sgt arg0 c0_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x4096, .f32⟩
  | .hbm, ⟨60, _⟩ => ⟨S4096x4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .bf16⟩
  | .hbm, ⟨73, _⟩ => ⟨S1x4096, .f32⟩
  | .hbm, ⟨74, _⟩ => ⟨S1x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== NormFwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== HalfNormFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HalfNormFwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ActFwd.lean ====
abbrev S4096x22528 : Shape := ⟨2, ![4096, 22528]⟩
abbrev S3x22528 : Shape := ⟨2, ![3, 22528]⟩
abbrev S1x22528 : Shape := ⟨2, ![1, 22528]⟩
abbrev S4096x11264 : Shape := ⟨2, ![4096, 11264]⟩
abbrev S2048x512 : Shape := ⟨2, ![2048, 512]⟩
abbrev S3x512 : Shape := ⟨2, ![3, 512]⟩
abbrev S1x512 : Shape := ⟨2, ![1, 512]⟩
abbrev S8x512 : Shape := ⟨2, ![8, 512]⟩
abbrev S128x512 : Shape := ⟨2, ![128, 512]⟩
abbrev S136x512 : Shape := ⟨2, ![136, 512]⟩

abbrev nBuf : Space → Nat
  | .hbm => 4
  | .vmem => 14
  | .smem => 0
  | _ => 0

abbrev bufTy : (tb : Table) → Fin (tcTables nBuf tb) → BufTy
  | .hbm, ⟨0, _⟩ => ⟨S4096x22528, .f32⟩
  | .hbm, ⟨1, _⟩ => ⟨S3x22528, .f32⟩
  | .hbm, ⟨2, _⟩ => ⟨S1x22528, .f32⟩
  | .hbm, ⟨3, _⟩ => ⟨S4096x11264, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S2048x512, .bf16⟩
  | .local _ .vmem, ⟨13, _⟩ => ⟨S2048x512, .bf16⟩
  | _, _ => ⟨S4096x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![22, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ActFwdRefIdeal.lean ====
abbrev S4096x22528 : Shape := ⟨2, ![4096, 22528]⟩
abbrev S3x22528 : Shape := ⟨2, ![3, 22528]⟩
abbrev S1x22528 : Shape := ⟨2, ![1, 22528]⟩
abbrev S2x2048x22528 : Shape := ⟨3, ![2, 2048, 22528]⟩
abbrev S22528 : Shape := ⟨1, ![22528]⟩
abbrev S_ : Shape := ⟨0, ![]⟩
abbrev S2x2x22528 : Shape := ⟨3, ![2, 2, 22528]⟩
abbrev S2x2050x22528 : Shape := ⟨3, ![2, 2050, 22528]⟩
abbrev S1x1x22528 : Shape := ⟨3, ![1, 1, 22528]⟩
abbrev S2x2048x11264 : Shape := ⟨3, ![2, 2048, 11264]⟩
abbrev S4096x11264 : Shape := ⟨2, ![4096, 11264]⟩

abbrev nBuf : Space → Nat
  | .hbm => 45
  | .vmem => 0
  | .smem => 0
  | _ => 0

abbrev bufTy : (tb : Table) → Fin (tcTables nBuf tb) → BufTy
  | .hbm, ⟨0, _⟩ => ⟨S4096x22528, .f32⟩
  | .hbm, ⟨1, _⟩ => ⟨S3x22528, .f32⟩
  | .hbm, ⟨2, _⟩ => ⟨S1x22528, .f32⟩
  | .hbm, ⟨3, _⟩ => ⟨S2x2048x22528, .f32⟩
  | .hbm, ⟨4, _⟩ => ⟨S22528, .f32⟩
  | .hbm, ⟨5, _⟩ => ⟨S_, .f32⟩
  | .hbm, ⟨6, _⟩ => ⟨S2x2x22528, .f32⟩
  | .hbm, ⟨7, _⟩ => ⟨S2x2050x22528, .f32⟩
  | .hbm, ⟨8, _⟩ => ⟨S2x2048x22528, .f32⟩
  | .hbm, ⟨9, _⟩ => ⟨S1x22528, .f32⟩
  | .hbm, ⟨10, _⟩ => ⟨S22528, .f32⟩
  | .hbm, ⟨11, _⟩ => ⟨S1x1x22528, .f32⟩
  | .hbm, ⟨12, _⟩ => ⟨S2x2048x22528, .f32⟩
  | .hbm, ⟨13, _⟩ => ⟨S2x2048x22528, .f32⟩
  | .hbm, ⟨14, _⟩ => ⟨S1x1x22528, .f32⟩
  | .hbm, ⟨15, _⟩ => ⟨S2x2048x22528, .f32⟩
  | .hbm, ⟨16, _⟩ => ⟨S2x2048x22528, .f32⟩
  | .hbm, ⟨17, _⟩ => ⟨S2x2048x22528, .f32⟩
  | .hbm, ⟨18, _⟩ => ⟨S1x22528, .f32⟩
  | .hbm, ⟨19, _⟩ => ⟨S22528, .f32⟩
  | .hbm, ⟨20, _⟩ => ⟨S1x1x22528, .f32⟩
  | .hbm, ⟨21, _⟩ => ⟨S2x2048x22528, .f32⟩
  | .hbm, ⟨22, _⟩ => ⟨S2x2048x22528, .f32⟩
  | .hbm, ⟨23, _⟩ => ⟨S2x2048x22528, .f32⟩
  | .hbm, ⟨24, _⟩ => ⟨S2x2048x22528, .f32⟩
  | .hbm, ⟨25, _⟩ => ⟨S1x22528, .f32⟩
  | .hbm, ⟨26, _⟩ => ⟨S22528, .f32⟩
  | .hbm, ⟨27, _⟩ => ⟨S1x1x22528, .f32⟩
  | .hbm, ⟨28, _⟩ => ⟨S2x2048x22528, .f32⟩
  | .hbm, ⟨29, _⟩ => ⟨S2x2048x22528, .f32⟩
  | .hbm, ⟨30, _⟩ => ⟨S2x2048x22528, .f32⟩
  | .hbm, ⟨31, _⟩ => ⟨S2x2048x11264, .f32⟩
  | .hbm, ⟨32, _⟩ => ⟨S2x2048x11264, .f32⟩
  | .hbm, ⟨33, _⟩ => ⟨S2x2048x11264, .f32⟩
  | .hbm, ⟨34, _⟩ => ⟨S2x2048x11264, .f32⟩
  | .hbm, ⟨35, _⟩ => ⟨S_, .f32⟩
  | .hbm, ⟨36, _⟩ => ⟨S2x2048x11264, .f32⟩
  | .hbm, ⟨37, _⟩ => ⟨S2x2048x11264, .f32⟩
  | .hbm, ⟨38, _⟩ => ⟨S_, .f32⟩
  | .hbm, ⟨39, _⟩ => ⟨S2x2048x11264, .f32⟩
  | .hbm, ⟨40, _⟩ => ⟨S2x2048x11264, .f32⟩
  | .hbm, ⟨41, _⟩ => ⟨S2x2048x11264, .f32⟩
  | .hbm, ⟨42, _⟩ => ⟨S2x2048x11264, .f32⟩
  | .hbm, ⟨43, _⟩ => ⟨S4096x11264, .f32⟩
  | .hbm, ⟨44, _⟩ => ⟨S4096x11264, .bf16⟩
  | _, _ => ⟨S4096x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== AdamDown.lean ====
abbrev S1x1376x4096 : Shape := ⟨3, ![1, 1376, 4096]⟩
abbrev S1376x4096 : Shape := ⟨2, ![1376, 4096]⟩
abbrev S3x1376x4096 : Shape := ⟨3, ![3, 1376, 4096]⟩
abbrev S1x32x4096 : Shape := ⟨3, ![1, 32, 4096]⟩
abbrev S32x4096 : Shape := ⟨2, ![32, 4096]⟩
abbrev S3x32x4096 : Shape := ⟨3, ![3, 32, 4096]⟩

abbrev nBuf : Space → Nat
  | .hbm => 9
  | .vmem => 18
  | .smem => 0
  | _ => 0

abbrev bufTy : (tb : Table) → Fin (tcTables nBuf tb) → BufTy
  | .hbm, ⟨0, _⟩ => ⟨S1x1376x4096, .f32⟩
  | .hbm, ⟨1, _⟩ => ⟨S1x1376x4096, .f32⟩
  | .hbm, ⟨2, _⟩ => ⟨S1x1376x4096, .f32⟩
  | .hbm, ⟨3, _⟩ => ⟨S1376x4096, .bf16⟩
  | .hbm, ⟨4, _⟩ => ⟨S3x1376x4096, .bf16⟩
  | .hbm, ⟨5, _⟩ => ⟨S1x1376x4096, .f32⟩
  | .hbm, ⟨6, _⟩ => ⟨S1x1376x4096, .f32⟩
  | .hbm, ⟨7, _⟩ => ⟨S1x1376x4096, .f32⟩
  | .hbm, ⟨8, _⟩ => ⟨S1x1376x4096, .f32⟩
  | .local _ .vmem, ⟨0, _⟩ => ⟨S1x32x4096, .f32⟩
  | .local _ .vmem, ⟨1, _⟩ => ⟨S1x32x4096, .f32⟩
  | .local _ .vmem, ⟨2, _⟩ => ⟨S1x32x4096, .f32⟩
  | .local _ .vmem, ⟨3, _⟩ => ⟨S1x32x4096, .f32⟩
  | .local _ .vmem, ⟨4, _⟩ => ⟨S1x32x4096, .f32⟩
  | .local _ .vmem, ⟨5, _⟩ => ⟨S1x32x4096, .f32⟩
  | .local _ .vmem, ⟨6, _⟩ => ⟨S32x4096, .bf16⟩
  | .local _ .vmem, ⟨7, _⟩ => ⟨S32x4096, .bf16⟩
  | .local _ .vmem, ⟨8, _⟩ => ⟨S3x32x4096, .bf16⟩
  | .local _ .vmem, ⟨9, _⟩ => ⟨S3x32x4096, .bf16⟩
  | .local _ .vmem, ⟨10, _⟩ => ⟨S1x32x4096, .f32⟩
  | .local _ .vmem, ⟨11, _⟩ => ⟨S1x32x4096, .f32⟩
  | .local _ .vmem, ⟨12, _⟩ => ⟨S1x32x4096, .f32⟩
  | .local _ .vmem, ⟨13, _⟩ => ⟨S1x32x4096, .f32⟩
  | .local _ .vmem, ⟨14, _⟩ => ⟨S1x32x4096, .f32⟩
  | .local _ .vmem, ⟨15, _⟩ => ⟨S1x32x4096, .f32⟩
  | .local _ .vmem, ⟨16, _⟩ => ⟨S1x32x4096, .f32⟩
  | .local _ .vmem, ⟨17, _⟩ => ⟨S1x32x4096, .f32⟩
  | _, _ => ⟨S1x1376x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x32x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S1x1376x4096 : Shape := ⟨3, ![1, 1376, 4096]⟩
abbrev S1376x4096 : Shape := ⟨2, ![1376, 4096]⟩
abbrev S3x1376x4096 : Shape := ⟨3, ![3, 1376, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x1376x4096, .f32⟩
  | .hbm, ⟨1, _⟩ => ⟨S1x1376x4096, .f32⟩
  | .hbm, ⟨2, _⟩ => ⟨S1x1376x4096, .f32⟩
  | .hbm, ⟨3, _⟩ => ⟨S1376x4096, .bf16⟩
  | .hbm, ⟨4, _⟩ => ⟨S3x1376x4096, .bf16⟩
  | .hbm, ⟨5, _⟩ => ⟨S1376x4096, .f32⟩
  | .hbm, ⟨6, _⟩ => ⟨S3x1376x4096, .f32⟩
  | .hbm, ⟨7, _⟩ => ⟨S_, .f32⟩
  | .hbm, ⟨8, _⟩ => ⟨S1376x4096, .f32⟩
  | .hbm, ⟨9, _⟩ => ⟨S1376x4096, .f32⟩
  | .hbm, ⟨10, _⟩ => ⟨S1x1376x4096, .f32⟩
  | .hbm, ⟨11, _⟩ => ⟨S1x1376x4096, .f32⟩
  | .hbm, ⟨12, _⟩ => ⟨S_, .f32⟩
  | .hbm, ⟨13, _⟩ => ⟨S1x1376x4096, .f32⟩
  | .hbm, ⟨14, _⟩ => ⟨S1x1376x4096, .f32⟩
  | .hbm, ⟨15, _⟩ => ⟨S_, .f32⟩
  | .hbm, ⟨16, _⟩ => ⟨S1x1376x4096, .f32⟩
  | .hbm, ⟨17, _⟩ => ⟨S1x1376x4096, .f32⟩
  | .hbm, ⟨18, _⟩ => ⟨S1x1376x4096, .f32⟩
  | .hbm, ⟨19, _⟩ => ⟨S_, .f32⟩
  | .hbm, ⟨20, _⟩ => ⟨S1x1376x4096, .f32⟩
  | .hbm, ⟨21, _⟩ => ⟨S1x1376x4096, .f32⟩
  | .hbm, ⟨22, _⟩ => ⟨S1x1376x4096, .f32⟩
  | .hbm, ⟨23, _⟩ => ⟨S_, .f32⟩
  | .hbm, ⟨24, _⟩ => ⟨S1x1376x4096, .f32⟩
  | .hbm, ⟨25, _⟩ => ⟨S1x1376x4096, .f32⟩
  | .hbm, ⟨26, _⟩ => ⟨S1x1376x4096, .f32⟩
  | .hbm, ⟨27, _⟩ => ⟨S_, .f32⟩
  | .hbm, ⟨28, _⟩ => ⟨S1x1376x4096, .f32⟩
  | .hbm, ⟨29, _⟩ => ⟨S1x1376x4096, .f32⟩
  | .hbm, ⟨30, _⟩ => ⟨S_, .f32⟩
  | .hbm, ⟨31, _⟩ => ⟨S1x1376x4096, .f32⟩
  | .hbm, ⟨32, _⟩ => ⟨S1x1376x4096, .f32⟩
  | .hbm, ⟨33, _⟩ => ⟨S1x1376x4096, .f32⟩
  | .hbm, ⟨34, _⟩ => ⟨S_, .f32⟩
  | .hbm, ⟨35, _⟩ => ⟨S1x1376x4096, .f32⟩
  | .hbm, ⟨36, _⟩ => ⟨S1x1376x4096, .f32⟩
  | .hbm, ⟨37, _⟩ => ⟨S1x1376x4096, .f32⟩
  | .hbm, ⟨38, _⟩ => ⟨S_, .f32⟩
  | .hbm, ⟨39, _⟩ => ⟨S1x1376x4096, .f32⟩
  | .hbm, ⟨40, _⟩ => ⟨S1x1376x4096, .f32⟩
  | .hbm, ⟨41, _⟩ => ⟨S1x1376x4096, .f32⟩
  | .hbm, ⟨42, _⟩ => ⟨S_, .f32⟩
  | .hbm, ⟨43, _⟩ => ⟨S1x1376x4096, .f32⟩
  | .hbm, ⟨44, _⟩ => ⟨S1x1376x4096, .f32⟩
  | _, _ => ⟨S1x1376x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamUp.lean ====
abbrev S1x2752x4096 : Shape := ⟨3, ![1, 2752, 4096]⟩
abbrev S2816x4096 : Shape := ⟨2, ![2816, 4096]⟩
abbrev S3x2816x4096 : Shape := ⟨3, ![3, 2816, 4096]⟩
abbrev S1x64x4096 : Shape := ⟨3, ![1, 64, 4096]⟩
abbrev S64x4096 : Shape := ⟨2, ![64, 4096]⟩
abbrev S3x64x4096 : Shape := ⟨3, ![3, 64, 4096]⟩

abbrev nBuf : Space → Nat
  | .hbm => 9
  | .vmem => 18
  | .smem => 0
  | _ => 0

abbrev bufTy : (tb : Table) → Fin (tcTables nBuf tb) → BufTy
  | .hbm, ⟨0, _⟩ => ⟨S1x2752x4096, .f32⟩
  | .hbm, ⟨1, _⟩ => ⟨S1x2752x4096, .f32⟩
  | .hbm, ⟨2, _⟩ => ⟨S1x2752x4096, .f32⟩
  | .hbm, ⟨3, _⟩ => ⟨S2816x4096, .bf16⟩
  | .hbm, ⟨4, _⟩ => ⟨S3x2816x4096, .bf16⟩
  | .hbm, ⟨5, _⟩ => ⟨S1x2752x4096, .f32⟩
  | .hbm, ⟨6, _⟩ => ⟨S1x2752x4096, .f32⟩
  | .hbm, ⟨7, _⟩ => ⟨S1x2752x4096, .f32⟩
  | .hbm, ⟨8, _⟩ => ⟨S1x2752x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S64x4096, .bf16⟩
  | .local _ .vmem, ⟨7, _⟩ => ⟨S64x4096, .bf16⟩
  | .local _ .vmem, ⟨8, _⟩ => ⟨S3x64x4096, .bf16⟩
  | .local _ .vmem, ⟨9, _⟩ => ⟨S3x64x4096, .bf16⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S1x64x4096, .f32⟩
  | .local _ .vmem, ⟨14, _⟩ => ⟨S1x64x4096, .f32⟩
  | .local _ .vmem, ⟨15, _⟩ => ⟨S1x64x4096, .f32⟩
  | .local _ .vmem, ⟨16, _⟩ => ⟨S1x64x4096, .f32⟩
  | .local _ .vmem, ⟨17, _⟩ => ⟨S1x64x4096, .f32⟩
  | _, _ => ⟨S1x2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S1x2752x4096 : Shape := ⟨3, ![1, 2752, 4096]⟩
abbrev S2816x4096 : Shape := ⟨2, ![2816, 4096]⟩
abbrev S3x2816x4096 : Shape := ⟨3, ![3, 2816, 4096]⟩
abbrev S2752x4096 : Shape := ⟨2, ![2752, 4096]⟩
abbrev S3x2752x4096 : Shape := ⟨3, ![3, 2752, 4096]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1x2752x4096, .f32⟩
  | .hbm, ⟨1, _⟩ => ⟨S1x2752x4096, .f32⟩
  | .hbm, ⟨2, _⟩ => ⟨S1x2752x4096, .f32⟩
  | .hbm, ⟨3, _⟩ => ⟨S2816x4096, .bf16⟩
  | .hbm, ⟨4, _⟩ => ⟨S3x2816x4096, .bf16⟩
  | .hbm, ⟨5, _⟩ => ⟨S2752x4096, .bf16⟩
  | .hbm, ⟨6, _⟩ => ⟨S2752x4096, .f32⟩
  | .hbm, ⟨7, _⟩ => ⟨S3x2752x4096, .bf16⟩
  | .hbm, ⟨8, _⟩ => ⟨S3x2752x4096, .f32⟩
  | .hbm, ⟨9, _⟩ => ⟨S_, .f32⟩
  | .hbm, ⟨10, _⟩ => ⟨S2752x4096, .f32⟩
  | .hbm, ⟨11, _⟩ => ⟨S2752x4096, .f32⟩
  | .hbm, ⟨12, _⟩ => ⟨S1x2752x4096, .f32⟩
  | .hbm, ⟨13, _⟩ => ⟨S1x2752x4096, .f32⟩
  | .hbm, ⟨14, _⟩ => ⟨S_, .f32⟩
  | .hbm, ⟨15, _⟩ => ⟨S1x2752x4096, .f32⟩
  | .hbm, ⟨16, _⟩ => ⟨S1x2752x4096, .f32⟩
  | .hbm, ⟨17, _⟩ => ⟨S_, .f32⟩
  | .hbm, ⟨18, _⟩ => ⟨S1x2752x4096, .f32⟩
  | .hbm, ⟨19, _⟩ => ⟨S1x2752x4096, .f32⟩
  | .hbm, ⟨20, _⟩ => ⟨S1x2752x4096, .f32⟩
  | .hbm, ⟨21, _⟩ => ⟨S_, .f32⟩
  | .hbm, ⟨22, _⟩ => ⟨S1x2752x4096, .f32⟩
  | .hbm, ⟨23, _⟩ => ⟨S1x2752x4096, .f32⟩
  | .hbm, ⟨24, _⟩ => ⟨S1x2752x4096, .f32⟩
  | .hbm, ⟨25, _⟩ => ⟨S_, .f32⟩
  | .hbm, ⟨26, _⟩ => ⟨S1x2752x4096, .f32⟩
  | .hbm, ⟨27, _⟩ => ⟨S1x2752x4096, .f32⟩
  | .hbm, ⟨28, _⟩ => ⟨S1x2752x4096, .f32⟩
  | .hbm, ⟨29, _⟩ => ⟨S_, .f32⟩
  | .hbm, ⟨30, _⟩ => ⟨S1x2752x4096, .f32⟩
  | .hbm, ⟨31, _⟩ => ⟨S1x2752x4096, .f32⟩
  | .hbm, ⟨32, _⟩ => ⟨S_, .f32⟩
  | .hbm, ⟨33, _⟩ => ⟨S1x2752x4096, .f32⟩
  | .hbm, ⟨34, _⟩ => ⟨S1x2752x4096, .f32⟩
  | .hbm, ⟨35, _⟩ => ⟨S1x2752x4096, .f32⟩
  | .hbm, ⟨36, _⟩ => ⟨S_, .f32⟩
  | .hbm, ⟨37, _⟩ => ⟨S1x2752x4096, .f32⟩
  | .hbm, ⟨38, _⟩ => ⟨S1x2752x4096, .f32⟩
  | .hbm, ⟨39, _⟩ => ⟨S1x2752x4096, .f32⟩
  | .hbm, ⟨40, _⟩ => ⟨S_, .f32⟩
  | .hbm, ⟨41, _⟩ => ⟨S1x2752x4096, .f32⟩
  | .hbm, ⟨42, _⟩ => ⟨S1x2752x4096, .f32⟩
  | .hbm, ⟨43, _⟩ => ⟨S1x2752x4096, .f32⟩
  | .hbm, ⟨44, _⟩ => ⟨S_, .f32⟩
  | .hbm, ⟨45, _⟩ => ⟨S1x2752x4096, .f32⟩
  | .hbm, ⟨46, _⟩ => ⟨S1x2752x4096, .f32⟩
  | _, _ => ⟨S1x2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== AdamOut.lean ====
abbrev S1x512x4096 : Shape := ⟨3, ![1, 512, 4096]⟩
abbrev S512x4096 : Shape := ⟨2, ![512, 4096]⟩
abbrev S3x512x4096 : Shape := ⟨3, ![3, 512, 4096]⟩
abbrev S1x64x4096 : Shape := ⟨3, ![1, 64, 4096]⟩
abbrev S64x4096 : Shape := ⟨2, ![64, 4096]⟩
abbrev S3x64x4096 : Shape := ⟨3, ![3, 64, 4096]⟩

abbrev nBuf : Space → Nat
  | .hbm => 9
  | .vmem => 18
  | .smem => 0
  | _ => 0

abbrev bufTy : (tb : Table) → Fin (tcTables nBuf tb) → BufTy
  | .hbm, ⟨0, _⟩ => ⟨S1x512x4096, .f32⟩
  | .hbm, ⟨1, _⟩ => ⟨S1x512x4096, .f32⟩
  | .hbm, ⟨2, _⟩ => ⟨S1x512x4096, .f32⟩
  | .hbm, ⟨3, _⟩ => ⟨S512x4096, .bf16⟩
  | .hbm, ⟨4, _⟩ => ⟨S3x512x4096, .bf16⟩
  | .hbm, ⟨5, _⟩ => ⟨S1x512x4096, .f32⟩
  | .hbm, ⟨6, _⟩ => ⟨S1x512x4096, .f32⟩
  | .hbm, ⟨7, _⟩ => ⟨S1x512x4096, .f32⟩
  | .hbm, ⟨8, _⟩ => ⟨S1x512x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S64x4096, .bf16⟩
  | .local _ .vmem, ⟨7, _⟩ => ⟨S64x4096, .bf16⟩
  | .local _ .vmem, ⟨8, _⟩ => ⟨S3x64x4096, .bf16⟩
  | .local _ .vmem, ⟨9, _⟩ => ⟨S3x64x4096, .bf16⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S1x64x4096, .f32⟩
  | .local _ .vmem, ⟨14, _⟩ => ⟨S1x64x4096, .f32⟩
  | .local _ .vmem, ⟨15, _⟩ => ⟨S1x64x4096, .f32⟩
  | .local _ .vmem, ⟨16, _⟩ => ⟨S1x64x4096, .f32⟩
  | .local _ .vmem, ⟨17, _⟩ => ⟨S1x64x4096, .f32⟩
  | _, _ => ⟨S1x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S1x512x4096 : Shape := ⟨3, ![1, 512, 4096]⟩
abbrev S512x4096 : Shape := ⟨2, ![512, 4096]⟩
abbrev S3x512x4096 : Shape := ⟨3, ![3, 512, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x512x4096, .f32⟩
  | .hbm, ⟨1, _⟩ => ⟨S1x512x4096, .f32⟩
  | .hbm, ⟨2, _⟩ => ⟨S1x512x4096, .f32⟩
  | .hbm, ⟨3, _⟩ => ⟨S512x4096, .bf16⟩
  | .hbm, ⟨4, _⟩ => ⟨S3x512x4096, .bf16⟩
  | .hbm, ⟨5, _⟩ => ⟨S512x4096, .f32⟩
  | .hbm, ⟨6, _⟩ => ⟨S3x512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S1x512x4096, .f32⟩
  | .hbm, ⟨11, _⟩ => ⟨S1x512x4096, .f32⟩
  | .hbm, ⟨12, _⟩ => ⟨S_, .f32⟩
  | .hbm, ⟨13, _⟩ => ⟨S1x512x4096, .f32⟩
  | .hbm, ⟨14, _⟩ => ⟨S1x512x4096, .f32⟩
  | .hbm, ⟨15, _⟩ => ⟨S_, .f32⟩
  | .hbm, ⟨16, _⟩ => ⟨S1x512x4096, .f32⟩
  | .hbm, ⟨17, _⟩ => ⟨S1x512x4096, .f32⟩
  | .hbm, ⟨18, _⟩ => ⟨S1x512x4096, .f32⟩
  | .hbm, ⟨19, _⟩ => ⟨S_, .f32⟩
  | .hbm, ⟨20, _⟩ => ⟨S1x512x4096, .f32⟩
  | .hbm, ⟨21, _⟩ => ⟨S1x512x4096, .f32⟩
  | .hbm, ⟨22, _⟩ => ⟨S1x512x4096, .f32⟩
  | .hbm, ⟨23, _⟩ => ⟨S_, .f32⟩
  | .hbm, ⟨24, _⟩ => ⟨S1x512x4096, .f32⟩
  | .hbm, ⟨25, _⟩ => ⟨S1x512x4096, .f32⟩
  | .hbm, ⟨26, _⟩ => ⟨S1x512x4096, .f32⟩
  | .hbm, ⟨27, _⟩ => ⟨S_, .f32⟩
  | .hbm, ⟨28, _⟩ => ⟨S1x512x4096, .f32⟩
  | .hbm, ⟨29, _⟩ => ⟨S1x512x4096, .f32⟩
  | .hbm, ⟨30, _⟩ => ⟨S_, .f32⟩
  | .hbm, ⟨31, _⟩ => ⟨S1x512x4096, .f32⟩
  | .hbm, ⟨32, _⟩ => ⟨S1x512x4096, .f32⟩
  | .hbm, ⟨33, _⟩ => ⟨S1x512x4096, .f32⟩
  | .hbm, ⟨34, _⟩ => ⟨S_, .f32⟩
  | .hbm, ⟨35, _⟩ => ⟨S1x512x4096, .f32⟩
  | .hbm, ⟨36, _⟩ => ⟨S1x512x4096, .f32⟩
  | .hbm, ⟨37, _⟩ => ⟨S1x512x4096, .f32⟩
  | .hbm, ⟨38, _⟩ => ⟨S_, .f32⟩
  | .hbm, ⟨39, _⟩ => ⟨S1x512x4096, .f32⟩
  | .hbm, ⟨40, _⟩ => ⟨S1x512x4096, .f32⟩
  | .hbm, ⟨41, _⟩ => ⟨S1x512x4096, .f32⟩
  | .hbm, ⟨42, _⟩ => ⟨S_, .f32⟩
  | .hbm, ⟨43, _⟩ => ⟨S1x512x4096, .f32⟩
  | .hbm, ⟨44, _⟩ => ⟨S1x512x4096, .f32⟩
  | _, _ => ⟨S1x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamIn.lean ====
abbrev S1x4096x1536 : Shape := ⟨3, ![1, 4096, 1536]⟩
abbrev S4096x1536 : Shape := ⟨2, ![4096, 1536]⟩
abbrev S3x4096x1536 : Shape := ⟨3, ![3, 4096, 1536]⟩
abbrev S1x128x1536 : Shape := ⟨3, ![1, 128, 1536]⟩
abbrev S128x1536 : Shape := ⟨2, ![128, 1536]⟩
abbrev S3x128x1536 : Shape := ⟨3, ![3, 128, 1536]⟩

abbrev nBuf : Space → Nat
  | .hbm => 9
  | .vmem => 18
  | .smem => 0
  | _ => 0

abbrev bufTy : (tb : Table) → Fin (tcTables nBuf tb) → BufTy
  | .hbm, ⟨0, _⟩ => ⟨S1x4096x1536, .f32⟩
  | .hbm, ⟨1, _⟩ => ⟨S1x4096x1536, .f32⟩
  | .hbm, ⟨2, _⟩ => ⟨S1x4096x1536, .f32⟩
  | .hbm, ⟨3, _⟩ => ⟨S4096x1536, .bf16⟩
  | .hbm, ⟨4, _⟩ => ⟨S3x4096x1536, .bf16⟩
  | .hbm, ⟨5, _⟩ => ⟨S1x4096x1536, .f32⟩
  | .hbm, ⟨6, _⟩ => ⟨S1x4096x1536, .f32⟩
  | .hbm, ⟨7, _⟩ => ⟨S1x4096x1536, .f32⟩
  | .hbm, ⟨8, _⟩ => ⟨S1x4096x1536, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S128x1536, .bf16⟩
  | .local _ .vmem, ⟨7, _⟩ => ⟨S128x1536, .bf16⟩
  | .local _ .vmem, ⟨8, _⟩ => ⟨S3x128x1536, .bf16⟩
  | .local _ .vmem, ⟨9, _⟩ => ⟨S3x128x1536, .bf16⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | .local _ .vmem, ⟨16, _⟩ => ⟨S1x128x1536, .f32⟩
  | .local _ .vmem, ⟨17, _⟩ => ⟨S1x128x1536, .f32⟩
  | _, _ => ⟨S1x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1x4096x1536 : Shape := ⟨3, ![1, 4096, 1536]⟩
abbrev S4096x1536 : Shape := ⟨2, ![4096, 1536]⟩
abbrev S3x4096x1536 : Shape := ⟨3, ![3, 4096, 1536]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x4096x1536, .f32⟩
  | .hbm, ⟨1, _⟩ => ⟨S1x4096x1536, .f32⟩
  | .hbm, ⟨2, _⟩ => ⟨S1x4096x1536, .f32⟩
  | .hbm, ⟨3, _⟩ => ⟨S4096x1536, .bf16⟩
  | .hbm, ⟨4, _⟩ => ⟨S3x4096x1536, .bf16⟩
  | .hbm, ⟨5, _⟩ => ⟨S4096x1536, .f32⟩
  | .hbm, ⟨6, _⟩ => ⟨S3x4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S1x4096x1536, .f32⟩
  | .hbm, ⟨11, _⟩ => ⟨S1x4096x1536, .f32⟩
  | .hbm, ⟨12, _⟩ => ⟨S_, .f32⟩
  | .hbm, ⟨13, _⟩ => ⟨S1x4096x1536, .f32⟩
  | .hbm, ⟨14, _⟩ => ⟨S1x4096x1536, .f32⟩
  | .hbm, ⟨15, _⟩ => ⟨S_, .f32⟩
  | .hbm, ⟨16, _⟩ => ⟨S1x4096x1536, .f32⟩
  | .hbm, ⟨17, _⟩ => ⟨S1x4096x1536, .f32⟩
  | .hbm, ⟨18, _⟩ => ⟨S1x4096x1536, .f32⟩
  | .hbm, ⟨19, _⟩ => ⟨S_, .f32⟩
  | .hbm, ⟨20, _⟩ => ⟨S1x4096x1536, .f32⟩
  | .hbm, ⟨21, _⟩ => ⟨S1x4096x1536, .f32⟩
  | .hbm, ⟨22, _⟩ => ⟨S1x4096x1536, .f32⟩
  | .hbm, ⟨23, _⟩ => ⟨S_, .f32⟩
  | .hbm, ⟨24, _⟩ => ⟨S1x4096x1536, .f32⟩
  | .hbm, ⟨25, _⟩ => ⟨S1x4096x1536, .f32⟩
  | .hbm, ⟨26, _⟩ => ⟨S1x4096x1536, .f32⟩
  | .hbm, ⟨27, _⟩ => ⟨S_, .f32⟩
  | .hbm, ⟨28, _⟩ => ⟨S1x4096x1536, .f32⟩
  | .hbm, ⟨29, _⟩ => ⟨S1x4096x1536, .f32⟩
  | .hbm, ⟨30, _⟩ => ⟨S_, .f32⟩
  | .hbm, ⟨31, _⟩ => ⟨S1x4096x1536, .f32⟩
  | .hbm, ⟨32, _⟩ => ⟨S1x4096x1536, .f32⟩
  | .hbm, ⟨33, _⟩ => ⟨S1x4096x1536, .f32⟩
  | .hbm, ⟨34, _⟩ => ⟨S_, .f32⟩
  | .hbm, ⟨35, _⟩ => ⟨S1x4096x1536, .f32⟩
  | .hbm, ⟨36, _⟩ => ⟨S1x4096x1536, .f32⟩
  | .hbm, ⟨37, _⟩ => ⟨S1x4096x1536, .f32⟩
  | .hbm, ⟨38, _⟩ => ⟨S_, .f32⟩
  | .hbm, ⟨39, _⟩ => ⟨S1x4096x1536, .f32⟩
  | .hbm, ⟨40, _⟩ => ⟨S1x4096x1536, .f32⟩
  | .hbm, ⟨41, _⟩ => ⟨S1x4096x1536, .f32⟩
  | .hbm, ⟨42, _⟩ => ⟨S_, .f32⟩
  | .hbm, ⟨43, _⟩ => ⟨S1x4096x1536, .f32⟩
  | .hbm, ⟨44, _⟩ => ⟨S1x4096x1536, .f32⟩
  | _, _ => ⟨S1x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamSmall.lean ====
abbrev S4608x128 : Shape := ⟨2, ![4608, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S4608x128 : Shape := ⟨2, ![4608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S4608x128, .f32⟩
  | .hbm, ⟨11, _⟩ => ⟨S_, .f32⟩
  | .hbm, ⟨12, _⟩ => ⟨S4608x128, .f32⟩
  | .hbm, ⟨13, _⟩ => ⟨S4608x128, .f32⟩
  | .hbm, ⟨14, _⟩ => ⟨S4608x128, .f32⟩
  | .hbm, ⟨15, _⟩ => ⟨S_, .f32⟩
  | .hbm, ⟨16, _⟩ => ⟨S4608x128, .f32⟩
  | .hbm, ⟨17, _⟩ => ⟨S4608x128, .f32⟩
  | .hbm, ⟨18, _⟩ => ⟨S4608x128, .f32⟩
  | .hbm, ⟨19, _⟩ => ⟨S_, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S4608x128, .f32⟩
  | .hbm, ⟨26, _⟩ => ⟨S_, .f32⟩
  | .hbm, ⟨27, _⟩ => ⟨S4608x128, .f32⟩
  | .hbm, ⟨28, _⟩ => ⟨S4608x128, .f32⟩
  | .hbm, ⟨29, _⟩ => ⟨S4608x128, .f32⟩
  | .hbm, ⟨30, _⟩ => ⟨S_, .f32⟩
  | .hbm, ⟨31, _⟩ => ⟨S4608x128, .f32⟩
  | .hbm, ⟨32, _⟩ => ⟨S4608x128, .f32⟩
  | .hbm, ⟨33, _⟩ => ⟨S4608x128, .f32⟩
  | .hbm, ⟨34, _⟩ => ⟨S_, .f32⟩
  | .hbm, ⟨35, _⟩ => ⟨S4608x128, .f32⟩
  | .hbm, ⟨36, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AddUp.lean ====
abbrev S4x5632x4096 : Shape := ⟨3, ![4, 5632, 4096]⟩
abbrev S4x2816x4096 : Shape := ⟨3, ![4, 2816, 4096]⟩
abbrev S1 : Shape := ⟨1, ![1]⟩
abbrev S1x704x4096 : Shape := ⟨3, ![1, 704, 4096]⟩
abbrev S704x4096 : Shape := ⟨2, ![704, 4096]⟩

abbrev nBuf : Space → Nat
  | .hbm => 3
  | .vmem => 6
  | .smem => 1
  | _ => 0

abbrev bufTy : (tb : Table) → Fin (tcTables nBuf tb) → BufTy
  | .hbm, ⟨0, _⟩ => ⟨S4x5632x4096, .bf16⟩
  | .hbm, ⟨1, _⟩ => ⟨S4x2816x4096, .bf16⟩
  | .hbm, ⟨2, _⟩ => ⟨S4x2816x4096, .bf16⟩
  | .local _ .vmem, ⟨0, _⟩ => ⟨S1x704x4096, .bf16⟩
  | .local _ .vmem, ⟨1, _⟩ => ⟨S1x704x4096, .bf16⟩
  | .local _ .vmem, ⟨2, _⟩ => ⟨S1x704x4096, .bf16⟩
  | .local _ .vmem, ⟨3, _⟩ => ⟨S1x704x4096, .bf16⟩
  | .local _ .vmem, ⟨4, _⟩ => ⟨S1x704x4096, .bf16⟩
  | .local _ .vmem, ⟨5, _⟩ => ⟨S1x704x4096, .bf16⟩
  | .local _ .smem, ⟨0, _⟩ => ⟨S1, .i32⟩
  | _, _ => ⟨S4x5632x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddUpIdeal.lean ====
abbrev S4x5632x4096 : Shape := ⟨3, ![4, 5632, 4096]⟩
abbrev S4x2816x4096 : Shape := ⟨3, ![4, 2816, 4096]⟩
abbrev S1 : Shape := ⟨1, ![1]⟩
abbrev S1x704x4096 : Shape := ⟨3, ![1, 704, 4096]⟩
abbrev S704x4096 : Shape := ⟨2, ![704, 4096]⟩

abbrev nBuf : Space → Nat
  | .hbm => 3
  | .vmem => 6
  | .smem => 1
  | _ => 0

abbrev bufTy : (tb : Table) → Fin (tcTables nBuf tb) → BufTy
  | .hbm, ⟨0, _⟩ => ⟨S4x5632x4096, .bf16⟩
  | .hbm, ⟨1, _⟩ => ⟨S4x2816x4096, .bf16⟩
  | .hbm, ⟨2, _⟩ => ⟨S4x2816x4096, .bf16⟩
  | .local _ .vmem, ⟨0, _⟩ => ⟨S1x704x4096, .bf16⟩
  | .local _ .vmem, ⟨1, _⟩ => ⟨S1x704x4096, .bf16⟩
  | .local _ .vmem, ⟨2, _⟩ => ⟨S1x704x4096, .bf16⟩
  | .local _ .vmem, ⟨3, _⟩ => ⟨S1x704x4096, .bf16⟩
  | .local _ .vmem, ⟨4, _⟩ => ⟨S1x704x4096, .bf16⟩
  | .local _ .vmem, ⟨5, _⟩ => ⟨S1x704x4096, .bf16⟩
  | .local _ .smem, ⟨0, _⟩ => ⟨S1, .i32⟩
  | _, _ => ⟨S4x5632x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddUpRefIdeal.lean ====
abbrev S4x5632x4096 : Shape := ⟨3, ![4, 5632, 4096]⟩
abbrev S4x2816x4096 : Shape := ⟨3, ![4, 2816, 4096]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x5632x4096, .bf16⟩
  | .hbm, ⟨1, _⟩ => ⟨S4x2816x4096, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x2816x4096, .i1⟩
  | .hbm, ⟨7, _⟩ => ⟨S4x2816x4096, .bf16⟩
  | .hbm, ⟨8, _⟩ => ⟨S4x2816x4096, .bf16⟩
  | .hbm, ⟨9, _⟩ => ⟨S4x2816x4096, .bf16⟩
  | .hbm, ⟨10, _⟩ => ⟨S4x2816x4096, .f32⟩
  | .hbm, ⟨11, _⟩ => ⟨S4x2816x4096, .f32⟩
  | .hbm, ⟨12, _⟩ => ⟨S4x2816x4096, .f32⟩
  | .hbm, ⟨13, _⟩ => ⟨S4x2816x4096, .bf16⟩
  | _, _ => ⟨S4x5632x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AddIn.lean ====
abbrev S4x8192x1536 : Shape := ⟨3, ![4, 8192, 1536]⟩
abbrev S4x4096x1536 : Shape := ⟨3, ![4, 4096, 1536]⟩
abbrev S1 : Shape := ⟨1, ![1]⟩
abbrev S1x2048x1536 : Shape := ⟨3, ![1, 2048, 1536]⟩
abbrev S2048x1536 : Shape := ⟨2, ![2048, 1536]⟩

abbrev nBuf : Space → Nat
  | .hbm => 3
  | .vmem => 6
  | .smem => 1
  | _ => 0

abbrev bufTy : (tb : Table) → Fin (tcTables nBuf tb) → BufTy
  | .hbm, ⟨0, _⟩ => ⟨S4x8192x1536, .bf16⟩
  | .hbm, ⟨1, _⟩ => ⟨S4x4096x1536, .bf16⟩
  | .hbm, ⟨2, _⟩ => ⟨S4x4096x1536, .bf16⟩
  | .local _ .vmem, ⟨0, _⟩ => ⟨S1x2048x1536, .bf16⟩
  | .local _ .vmem, ⟨1, _⟩ => ⟨S1x2048x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1x2048x1536, .bf16⟩
  | .local _ .vmem, ⟨5, _⟩ => ⟨S1x2048x1536, .bf16⟩
  | .local _ .smem, ⟨0, _⟩ => ⟨S1, .i32⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddInIdeal.lean ====
abbrev S4x8192x1536 : Shape := ⟨3, ![4, 8192, 1536]⟩
abbrev S4x4096x1536 : Shape := ⟨3, ![4, 4096, 1536]⟩
abbrev S1 : Shape := ⟨1, ![1]⟩
abbrev S1x2048x1536 : Shape := ⟨3, ![1, 2048, 1536]⟩
abbrev S2048x1536 : Shape := ⟨2, ![2048, 1536]⟩

abbrev nBuf : Space → Nat
  | .hbm => 3
  | .vmem => 6
  | .smem => 1
  | _ => 0

abbrev bufTy : (tb : Table) → Fin (tcTables nBuf tb) → BufTy
  | .hbm, ⟨0, _⟩ => ⟨S4x8192x1536, .bf16⟩
  | .hbm, ⟨1, _⟩ => ⟨S4x4096x1536, .bf16⟩
  | .hbm, ⟨2, _⟩ => ⟨S4x4096x1536, .bf16⟩
  | .local _ .vmem, ⟨0, _⟩ => ⟨S1x2048x1536, .bf16⟩
  | .local _ .vmem, ⟨1, _⟩ => ⟨S1x2048x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1x2048x1536, .bf16⟩
  | .local _ .vmem, ⟨5, _⟩ => ⟨S1x2048x1536, .bf16⟩
  | .local _ .smem, ⟨0, _⟩ => ⟨S1, .i32⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddInRefIdeal.lean ====
abbrev S4x8192x1536 : Shape := ⟨3, ![4, 8192, 1536]⟩
abbrev S4x4096x1536 : Shape := ⟨3, ![4, 4096, 1536]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x1536, .bf16⟩
  | .hbm, ⟨1, _⟩ => ⟨S4x4096x1536, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x4096x1536, .i1⟩
  | .hbm, ⟨7, _⟩ => ⟨S4x4096x1536, .bf16⟩
  | .hbm, ⟨8, _⟩ => ⟨S4x4096x1536, .bf16⟩
  | .hbm, ⟨9, _⟩ => ⟨S4x4096x1536, .bf16⟩
  | .hbm, ⟨10, _⟩ => ⟨S4x4096x1536, .f32⟩
  | .hbm, ⟨11, _⟩ => ⟨S4x4096x1536, .f32⟩
  | .hbm, ⟨12, _⟩ => ⟨S4x4096x1536, .f32⟩
  | .hbm, ⟨13, _⟩ => ⟨S4x4096x1536, .bf16⟩
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AddOut.lean ====
abbrev S4x1024x4096 : Shape := ⟨3, ![4, 1024, 4096]⟩
abbrev S4x512x4096 : Shape := ⟨3, ![4, 512, 4096]⟩
abbrev S1 : Shape := ⟨1, ![1]⟩
abbrev S1x512x4096 : Shape := ⟨3, ![1, 512, 4096]⟩
abbrev S512x4096 : Shape := ⟨2, ![512, 4096]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x4096, .bf16⟩
  | .hbm, ⟨1, _⟩ => ⟨S4x512x4096, .bf16⟩
  | .hbm, ⟨2, _⟩ => ⟨S4x512x4096, .bf16⟩
  | .local _ .vmem, ⟨0, _⟩ => ⟨S1x512x4096, .bf16⟩
  | .local _ .vmem, ⟨1, _⟩ => ⟨S1x512x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x512x4096, .bf16⟩
  | .local _ .vmem, ⟨5, _⟩ => ⟨S1x512x4096, .bf16⟩
  | .local _ .smem, ⟨0, _⟩ => ⟨S1, .i32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddOutRefIdeal.lean ====
abbrev S4x1024x4096 : Shape := ⟨3, ![4, 1024, 4096]⟩
abbrev S4x512x4096 : Shape := ⟨3, ![4, 512, 4096]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S4x512x4096, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x4096, .i1⟩
  | .hbm, ⟨7, _⟩ => ⟨S4x512x4096, .bf16⟩
  | .hbm, ⟨8, _⟩ => ⟨S4x512x4096, .bf16⟩
  | .hbm, ⟨9, _⟩ => ⟨S4x512x4096, .bf16⟩
  | .hbm, ⟨10, _⟩ => ⟨S4x512x4096, .f32⟩
  | .hbm, ⟨11, _⟩ => ⟨S4x512x4096, .f32⟩
  | .hbm, ⟨12, _⟩ => ⟨S4x512x4096, .f32⟩
  | .hbm, ⟨13, _⟩ => ⟨S4x512x4096, .bf16⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AddDown.lean ====
abbrev S4x2816x4096 : Shape := ⟨3, ![4, 2816, 4096]⟩
abbrev S4x1376x4096 : Shape := ⟨3, ![4, 1376, 4096]⟩
abbrev S1 : Shape := ⟨1, ![1]⟩
abbrev S4x2752x4096 : Shape := ⟨3, ![4, 2752, 4096]⟩
abbrev S1x688x4096 : Shape := ⟨3, ![1, 688, 4096]⟩
abbrev S688x4096 : Shape := ⟨2, ![688, 4096]⟩

abbrev nBuf : Space → Nat
  | .hbm => 4
  | .vmem => 6
  | .smem => 1
  | _ => 0

abbrev bufTy : (tb : Table) → Fin (tcTables nBuf tb) → BufTy
  | .hbm, ⟨0, _⟩ => ⟨S4x2816x4096, .bf16⟩
  | .hbm, ⟨1, _⟩ => ⟨S4x1376x4096, .bf16⟩
  | .hbm, ⟨2, _⟩ => ⟨S4x2752x4096, .bf16⟩
  | .hbm, ⟨3, _⟩ => ⟨S4x1376x4096, .bf16⟩
  | .local _ .vmem, ⟨0, _⟩ => ⟨S1x688x4096, .bf16⟩
  | .local _ .vmem, ⟨1, _⟩ => ⟨S1x688x4096, .bf16⟩
  | .local _ .vmem, ⟨2, _⟩ => ⟨S1x688x4096, .bf16⟩
  | .local _ .vmem, ⟨3, _⟩ => ⟨S1x688x4096, .bf16⟩
  | .local _ .vmem, ⟨4, _⟩ => ⟨S1x688x4096, .bf16⟩
  | .local _ .vmem, ⟨5, _⟩ => ⟨S1x688x4096, .bf16⟩
  | .local _ .smem, ⟨0, _⟩ => ⟨S1, .i32⟩
  | _, _ => ⟨S4x2816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x688x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddDownRefIdeal.lean ====
abbrev S4x2816x4096 : Shape := ⟨3, ![4, 2816, 4096]⟩
abbrev S4x1376x4096 : Shape := ⟨3, ![4, 1376, 4096]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2816x4096, .bf16⟩
  | .hbm, ⟨1, _⟩ => ⟨S4x1376x4096, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1376x4096, .i1⟩
  | .hbm, ⟨7, _⟩ => ⟨S4x1376x4096, .bf16⟩
  | .hbm, ⟨8, _⟩ => ⟨S4x1376x4096, .bf16⟩
  | .hbm, ⟨9, _⟩ => ⟨S4x1376x4096, .bf16⟩
  | .hbm, ⟨10, _⟩ => ⟨S4x1376x4096, .f32⟩
  | .hbm, ⟨11, _⟩ => ⟨S4x1376x4096, .f32⟩
  | .hbm, ⟨12, _⟩ => ⟨S4x1376x4096, .f32⟩
  | .hbm, ⟨13, _⟩ => ⟨S4x1376x4096, .bf16⟩
  | _, _ => ⟨S4x2816x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.FfnFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (Dat Cfg Window BodyObligation cellOf)

variable {F : FTy → Type} [FloatOps F]
local notation "𝕄" => MT nD τ sig Unit (Elt F) ℕ (UR sig nD τ) ℕ

set_option maxHeartbeats 8000000 in
/-- The first sequence of a block runs, reads its inputs and leaves something in each of its outputs. -/
theorem runs_first (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x2048x512 .bf16) (harg9 : arg9.IsWhole) (arg10 : Memref sig .tc .vmem S8x512 .f32) (harg10 : arg10.IsWhole) (arg11 : Memref sig .tc .vmem S8x512 .f32) (harg11 : arg11.IsWhole) (arg12 : Memref sig .tc .vmem S2056x512 .f32) (harg12 : arg12.IsWhole) (arg13 : Memref sig .tc .vmem S2056x512 .f32) (harg13 : arg13.IsWhole) (arg14 : Memref sig .tc .vmem S8x512 .f32) (harg14 : arg14.IsWhole) (arg15 : Memref sig .tc .vmem S8x512 .f32) (harg15 : arg15.IsWhole) (hc0 : (Scalar.cmpi .ne (Scalar.extui (Scalar.cmpi .eq (BitVec.ofNat 32 (i 1).val) 0#32)) 0#32) = 1#1) (hc1 : ¬ k0_cond2 i = 1#1)
   (x0 x1 x2 : Vec F S2048x512 .f32) (x3 x4 : Vec F S3x512 .f32) (x5 x6 : Vec F S1x512 .f32) (E : Set ℕ) (K : PUnit → sProp 𝕄) :
   iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
     ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
     ⊢ wp frame (wpE (defs₀ (F := F)) Variants.none c none) E (cc0_ffn_act_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_act_bwd_eq_skeleton]; unfold cc0_ffn_act_bwd_skel
  simp only [k0_part22_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; ipureintro; exact harg2.read_unread _; iexact H0
  isplitl [H1]
  · iexists _; isplitr; ipureintro; exact harg3.read_unread _; iexact H1
  isplitl [H2]
  · iexists _; isplitr; ipureintro; exact harg4.read_unread _; iexact H2
  isplitl [H3]
  · iexists _; isplitr; ipureintro; exact harg5.read_unread _; iexact H3
  isplitl [H4]
  · iexists _; isplitr; ipureintro; exact harg6.read_unread _; iexact H4
  isplitl [H5]
  · iexists _; isplitr; ipureintro; exact harg7.read_unread _; iexact H5
  isplitl [H6]
  · iexists _; isplitr; ipureintro; exact harg8.read_unread _; iexact H6
  isplitl [H7]
  · iexists _; iexists _; isplitr; swap; iexact H7; ipureintro; exact rfl
  isplitl [H8]
  · iexists _; iexists _; isplitr; swap; iexact H8; ipureintro; exact rfl
  isplitl [H9]
  · iexists _; iexists _; isplitr; swap; iexact H9; ipureintro; exact rfl
  isplitl [HS0]
  · iexists _; iexists _; isplitr; swap; iexact HS0; ipureintro; exact rfl
  isplitl [HS1]
  · iexists _; iexists _; isplitr; swap; iexact HS1; ipureintro; exact rfl
  isplitl [HS2]
  · iexists _; iexists _; isplitr; swap; iexact HS2; ipureintro; exact rfl
  · iexists _; iexists _; isplitr; swap; iexact HS3; ipureintro; exact rfl

set_option maxHeartbeats 8000000 in
/-- The second sequence of a block runs, reads its inputs and leaves something in each of its outputs. -/
theorem runs_second (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x2048x512 .bf16) (harg9 : arg9.IsWhole) (arg10 : Memref sig .tc .vmem S8x512 .f32) (harg10 : arg10.IsWhole) (arg11 : Memref sig .tc .vmem S8x512 .f32) (harg11 : arg11.IsWhole) (arg12 : Memref sig .tc .vmem S2056x512 .f32) (harg12 : arg12.IsWhole) (arg13 : Memref sig .tc .vmem S2056x512 .f32) (harg13 : arg13.IsWhole) (arg14 : Memref sig .tc .vmem S8x512 .f32) (harg14 : arg14.IsWhole) (arg15 : Memref sig .tc .vmem S8x512 .f32) (harg15 : arg15.IsWhole) (hc0 : ¬ (Scalar.cmpi .ne (Scalar.extui (Scalar.cmpi .eq (BitVec.ofNat 32 (i 1).val) 0#32)) 0#32) = 1#1) (hc1 : k0_cond2 i = 1#1)
   (x0 x1 x2 : Vec F S2048x512 .f32) (x3 x4 : Vec F S3x512 .f32) (x5 x6 : Vec F S1x512 .f32) (E : Set ℕ) (K : PUnit → sProp 𝕄) :
   iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
     ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
     ⊢ wp frame (wpE (defs₀ (F := F)) Variants.none c none) E (cc0_ffn_act_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_act_bwd_eq_skeleton]; unfold cc0_ffn_act_bwd_skel
  simp only [k0_part22_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; ipureintro; exact harg2.read_unread _; iexact H0
  isplitl [H1]
  · iexists _; isplitr; ipureintro; exact harg3.read_unread _; iexact H1
  isplitl [H2]
  · iexists _; isplitr; ipureintro; exact harg4.read_unread _; iexact H2
  isplitl [H3]
  · iexists _; isplitr; ipureintro; exact harg5.read_unread _; iexact H3
  isplitl [H4]
  · iexists _; isplitr; ipureintro; exact harg6.read_unread _; iexact H4
  isplitl [H5]
  · iexists _; isplitr; ipureintro; exact harg7.read_unread _; iexact H5
  isplitl [H6]
  · iexists _; isplitr; ipureintro; exact harg8.read_unread _; iexact H6
  isplitl [H7]
  · iexists _; iexists _; isplitr; swap; iexact H7; ipureintro; exact rfl
  isplitl [H8]
  · iexists _; iexists _; isplitr; swap; iexact H8; ipureintro; exact rfl
  isplitl [H9]
  · iexists _; iexists _; isplitr; swap; iexact H9; ipureintro; exact rfl
  isplitl [HS0]
  · iexists _; iexists _; isplitr; swap; iexact HS0; ipureintro; exact rfl
  isplitl [HS1]
  · iexists _; iexists _; isplitr; swap; iexact HS1; ipureintro; exact rfl
  isplitl [HS2]
  · iexists _; iexists _; isplitr; swap; iexact HS2; ipureintro; exact rfl
  · iexists _; iexists _; isplitr; swap; iexact HS3; ipureintro; exact rfl

variable (m : (ℓ : Loc nD τ sig) → Buf (Elt F) ℓ) (ρ : Dev nD → PrngReg)

abbrev stg0 (t : Fin cfg0.N) : Memref sig .tc .vmem S2048x512 .f32 := win0_0.stage (cfg0.slots t 0)
abbrev stg1 (t : Fin cfg0.N) : Memref sig .tc .vmem S2048x512 .f32 := win0_1.stage (cfg0.slots t 1)
abbrev stg2 (t : Fin cfg0.N) : Memref sig .tc .vmem S2048x512 .f32 := win0_2.stage (cfg0.slots t 2)
abbrev stg3 (t : Fin cfg0.N) : Memref sig .tc .vmem S3x512 .f32 := win0_3.stage (cfg0.slots t 3)
abbrev stg4 (t : Fin cfg0.N) : Memref sig .tc .vmem S3x512 .f32 := win0_4.stage (cfg0.slots t 4)
abbrev stg5 (t : Fin cfg0.N) : Memref sig .tc .vmem S1x512 .f32 := win0_5.stage (cfg0.slots t 5)
abbrev stg6 (t : Fin cfg0.N) : Memref sig .tc .vmem S1x512 .f32 := win0_6.stage (cfg0.slots t 6)
abbrev stg7 (t : Fin cfg0.N) : Memref sig .tc .vmem S2x2048x512 .bf16 := win0_7.stage (cfg0.slots t 7)
abbrev stg8 (t : Fin cfg0.N) : Memref sig .tc .vmem S8x512 .f32 := win0_8.stage (cfg0.slots t 8)
abbrev stg9 (t : Fin cfg0.N) : Memref sig .tc .vmem S8x512 .f32 := win0_9.stage (cfg0.slots t 9)
abbrev scr0 : Memref sig .tc .vmem S2056x512 .f32 := Memref.whole cc0_scratch0
abbrev scr1 : Memref sig .tc .vmem S2056x512 .f32 := Memref.whole cc0_scratch1
abbrev scr2 : Memref sig .tc .vmem S8x512 .f32 := Memref.whole cc0_scratch2
abbrev scr3 : Memref sig .tc .vmem S8x512 .f32 := Memref.whole cc0_scratch3

theorem first_iff (t : Fin cfg0.N) : ((Scalar.cmpi .ne (Scalar.extui (Scalar.cmpi .eq (BitVec.ofNat 32 (grid0.coords t 1).val) 0#32)) 0#32) = 1#1) ↔ t.val % 2 = 0 := by
  have ht : t.val < 44 := Nat.lt_of_lt_of_eq t.isLt N_0
  have e1 : (grid0.coords t 1).val = t.val / 1 % 2 := Pipeline.Grid.coords_val t 1 (by decide) rfl
  simp only [e1]
  word_cmp

theorem last_iff (t : Fin cfg0.N) : k0_cond2 (grid0.coords t) = 1#1 ↔ t.val % 2 = 1 := by
  have ht : t.val < 44 := Nat.lt_of_lt_of_eq t.isLt N_0
  have e1 : (grid0.coords t 1).val = t.val / 1 % 2 := Pipeline.Grid.coords_val t 1 (by decide) rfl
  simp only [k0_cond2, e1]
  word_cmp

theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA
  rw [scopedRest0_eq]
  simp only [scr0, scr1, scr2, scr3, owns_whole]
  rfl

/-- The outputs, of whose contents nothing is said. -/
def outputs : Fin 10 → Bool := fun w => decide (7 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

def entered (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare d)
    ∗ (∃ d, owns (c : Thread nD τ) (stg8 t) fullShare d)
    ∗ (∃ d, owns (c : Thread nD τ) (stg9 t) fullShare d))

def left (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (stg7 t) fullShare d)
    ∗ (∃ d, owns (c : Thread nD τ) (stg8 t) fullShare d)
    ∗ (∃ d, owns (c : Thread nD τ) (stg9 t) fullShare d))

set_option maxHeartbeats 4000000 in
theorem point_sound (c : Dev nD) (t : Fin cfg0.N) :
    entered m c t ⊢ wp frame (wpE (defs₀ (F := F)) Variants.none c none) Set.univ (bodyAt0 t) (fun _ => left m c t) := by
  unfold entered left bodyAt0
  simp only [before_0, before_1, before_2, before_3, before_4, before_5, before_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, scratch_eq]
  rw [show (dats m 0 c).leavesExact 0 t = owns (c : Thread nD τ) (stg0 t) fullShare ((dats m 0 c).after 0 t) from by
    unfold Dat.leavesExact; rw [show cfg0.idle 0 (grid0.coords t) = false from rfl], after_0]
  rw [show (dats m 0 c).leavesExact 1 t = owns (c : Thread nD τ) (stg1 t) fullShare ((dats m 0 c).after 1 t) from by
    unfold Dat.leavesExact; rw [show cfg0.idle 1 (grid0.coords t) = false from rfl], after_1]
  rw [show (dats m 0 c).leavesExact 2 t = owns (c : Thread nD τ) (stg2 t) fullShare ((dats m 0 c).after 2 t) from by
    unfold Dat.leavesExact; rw [show cfg0.idle 2 (grid0.coords t) = false from rfl], after_2]
  rw [show (dats m 0 c).leavesExact 3 t = owns (c : Thread nD τ) (stg3 t) fullShare ((dats m 0 c).after 3 t) from by
    unfold Dat.leavesExact; rw [show cfg0.idle 3 (grid0.coords t) = false from rfl], after_3]
  rw [show (dats m 0 c).leavesExact 4 t = owns (c : Thread nD τ) (stg4 t) fullShare ((dats m 0 c).after 4 t) from by
    unfold Dat.leavesExact; rw [show cfg0.idle 4 (grid0.coords t) = false from rfl], after_4]
  rw [show (dats m 0 c).leavesExact 5 t = owns (c : Thread nD τ) (stg5 t) fullShare ((dats m 0 c).after 5 t) from by
    unfold Dat.leavesExact; rw [show cfg0.idle 5 (grid0.coords t) = false from rfl], after_5]
  rw [show (dats m 0 c).leavesExact 6 t = owns (c : Thread nD τ) (stg6 t) fullShare ((dats m 0 c).after 6 t) from by
    unfold Dat.leavesExact; rw [show cfg0.idle 6 (grid0.coords t) = false from rfl], after_6]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 2 = 0
  · iapply (runs_first c (grid0.coords t) _ _ _ _ _ _ _ _ _ _ _ _ _ _ _ _ _ _ _ _ _ _ _ _ _ _ _ _ ((first_iff t).mpr h0) (fun h => absurd ((last_iff t).mp h) (by omega)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iapply (runs_second c (grid0.coords t) _ _ _ _ _ _ _ _ _ _ _ _ _ _ _ _ _ _ _ _ _ _ _ _ _ _ _ _ (fun h => absurd ((first_iff t).mp h) h0) ((last_iff t).mpr (by omega)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem obligation (c : Dev nD) : BodyObligation (dats (F := F) m 0 c) (defs₀ (F := F)) Variants.none () Set.univ outputs := fun t => by
  rw [bigSep_W0, bigSep_W0, show defs₀ (F := F) .tc cfg0.body (cfg0.bodyArgs t (cfg0.slots t)) = bodyAt0 t from by unfold defs₀; rw [Defs.onTc_tc]]
  exact triple_restated (point_sound m c t) rfl .rfl fun _ => .rfl

set_option backward.isDefEq.respectTransparency.types false in
theorem launch_holds : θ_run defs (onTc (τ := τ) (main (F := F))) (s₀ m ρ) (fun r => (Pipeline.RDat.FramePost (cfgs 0) (fun c => (dats m 0 c).toRForget outputs) (V m)) r ∧ r.2.sem = fun _ => 0) :=
  Pipeline.θ_run_frame_track_forget_shared (Q' := _) cfgs (dats m) (0 : Fin 1) launch₀0 defs₀ Variants.none outputs m ρ main
    (hbody := fun c => (obligation m c).loose) (hq := fun _ _ _ => rfl)
    (howed := fun _ _ => rfl) (V := V m) (hmain := hmain m Variants.none) (hA := A_eq m) (hin := fun _ => .rfl) (hout := fun _ => .rfl)

theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (Pipeline.RDat.FramePost.arr_in h.1 c 0 rfl).trans ((A_eq m c 0).trans (V_main_arg0 m c)),
      (Pipeline.RDat.FramePost.arr_in h.1 c 2 rfl).trans ((A_eq m c 2).trans (V_main_arg1 m c)),
      (Pipeline.RDat.FramePost.arr_in h.1 c 4 rfl).trans ((A_eq m c 4).trans (V_main_arg2 m c)),
      (Pipeline.RDat.FramePost.arr_in h.1 c 6 rfl).trans ((A_eq m c 6).trans (V_main_arg3 m c))⟩, h.2⟩) (launch_holds m ρ)

end Cert.Kernel
-- ==== Proof.FfnBlock.lean ====
module

public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.PureOps.Ideal
public import Idealize.ShloMosaic.PureOps.IdealRules
public import Idealize.ShloMosaic.Lib.Pointwise
public import Idealize.ShloMosaic.Lib.VecWindow
public import Idealize.ShloMosaic.Lib.WritesUnit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal.Gen

/-! ## What one block of the backward pass computes

The block holds 2048 rows of 512 channels. `a` is the gradient arriving at the product, `xg` and `xv` are the two halves
before the convolution, `wg`, `wv` the three taps of each half and `bg`, `bv` the two rows of offsets. -/

/-- Row `r`, channel `l` of a block, and nothing outside it. -/
def rd (x : Vec Ideal S2048x512 .f32) (r : ℕ) (l : Fin 512) : EReal :=
  if h : r < 2048 then x (ix2 ⟨r, h⟩ l) else 0

/-- The row `d` places earlier, zero before the sequence begins. -/
def back (x : Vec Ideal S2048x512 .f32) (d r : ℕ) (l : Fin 512) : EReal :=
  if d ≤ r then rd x (r - d) l else 0

/-- The causal convolution of three taps. -/
def conv (x : Vec Ideal S2048x512 .f32) (w : Vec Ideal S3x512 .f32) (b : Vec Ideal S1x512 .f32) (r : ℕ) (l : Fin 512) : EReal :=
  b (ix2 0 l) + back x 2 r l * w (ix2 0 l) + back x 1 r l * w (ix2 1 l) + rd x r l * w (ix2 2 l)

/-- The gradient at the gate, after the convolution. -/
def dgate (a xg xv : Vec Ideal S2048x512 .f32) (wg wv : Vec Ideal S3x512 .f32) (bg bv : Vec Ideal S1x512 .f32) (r : ℕ) (l : Fin 512) : EReal :=
  rd a r l * conv xv wv bv r l * (Ideal.logistic (conv xg wg bg r l) * (1 + conv xg wg bg r l * (1 - Ideal.logistic (conv xg wg bg r l))))

/-- The gradient at the value, after the convolution. -/
def dval (a xg : Vec Ideal S2048x512 .f32) (wg : Vec Ideal S3x512 .f32) (bg : Vec Ideal S1x512 .f32) (r : ℕ) (l : Fin 512) : EReal :=
  rd a r l * (conv xg wg bg r l * Ideal.logistic (conv xg wg bg r l))

/-- What row `r` adds to the small gradients: the three taps, then the offset. Rows four to seven of the buffer take nothing. -/
def term (x : Vec Ideal S2048x512 .f32) (e : ℕ → Fin 512 → EReal) (j : Fin 8) (r : ℕ) (l : Fin 512) : EReal :=
  match j with
  | 0 => back x 2 r l * e r l
  | 1 => back x 1 r l * e r l
  | 2 => rd x r l * e r l
  | 3 => e r l
  | _ => 0

/-- A half's gradient with the rows behind the sequence's end zero. -/
def pad (e : ℕ → Fin 512 → EReal) (r : ℕ) (l : Fin 512) : EReal := if r < 2048 then e r l else 0

/-- The gradient before the convolution: each row takes from itself and the two rows behind it. -/
def spread (e : ℕ → Fin 512 → EReal) (w : Vec Ideal S3x512 .f32) (r : ℕ) (l : Fin 512) : EReal :=
  pad e r l * w (ix2 2 l) + pad e (r + 1) l * w (ix2 1 l) + pad e (r + 2) l * w (ix2 0 l)

/-! ## One trip of 128 rows -/

theorem shift2 (c : FVec Ideal S8x512 .f32) (x : FVec Ideal S128x512 .f32) (X : Vec Ideal S2048x512 .f32) (k : ℕ)
    (hc : ∀ r l, c (ix2 r l) = back X 8 (128 * k + r.val) l) (hx : ∀ r l, x (ix2 r l) = rd X (128 * k + r.val) l)
    (r : Fin 128) (l : Fin 512) : k0_pay1 (F := Ideal) c x (ix2 r l) = back X 2 (128 * k + r.val) l := by
  unfold k0_pay1
  pointwise
  have hr := r.isLt
  by_cases h : r.val < 2
  · have e : (8 + r.val + 136 - 2) % 136 = 6 + r.val := by omega
    rw [dif_pos (by omega), hc]
    simp only [e, back]
    by_cases hk : 2 ≤ 128 * k + r.val
    · rw [if_pos (by omega), if_pos hk]
      congr 1; omega
    · rw [if_neg (by omega), if_neg hk]
  · have e : (8 + r.val + 136 - 2) % 136 = 6 + r.val := by omega
    rw [dif_neg (by omega), hx]
    simp only [e, back]
    rw [if_pos (by omega)]
    congr 1; omega

theorem shift1 (c : FVec Ideal S8x512 .f32) (x : FVec Ideal S128x512 .f32) (X : Vec Ideal S2048x512 .f32) (k : ℕ)
    (hc : ∀ r l, c (ix2 r l) = back X 8 (128 * k + r.val) l) (hx : ∀ r l, x (ix2 r l) = rd X (128 * k + r.val) l)
    (r : Fin 128) (l : Fin 512) : k0_pay2 (F := Ideal) c x (ix2 r l) = back X 1 (128 * k + r.val) l := by
  unfold k0_pay2
  pointwise
  have hr := r.isLt
  by_cases h : r.val < 1
  · have e : (8 + r.val + 136 - 1) % 136 = 7 + r.val := by omega
    rw [dif_pos (by omega), hc]
    simp only [e, back]
    by_cases hk : 1 ≤ 128 * k + r.val
    · rw [if_pos (by omega), if_pos hk]
      congr 1; omega
    · rw [if_neg (by omega), if_neg hk]
  · have e : (8 + r.val + 136 - 1) % 136 = 7 + r.val := by omega
    rw [dif_neg (by omega), hx]
    simp only [e, back]
    rw [if_pos (by omega)]
    congr 1; omega

theorem carried (x : FVec Ideal S128x512 .f32) (X : Vec Ideal S2048x512 .f32) (k : ℕ)
    (hx : ∀ r l, x (ix2 r l) = rd X (128 * k + r.val) l) (r : Fin 8) (l : Fin 512) :
    k0_pay26 (F := Ideal) x (ix2 r l) = back X 8 (128 * (k + 1) + r.val) l := by
  unfold k0_pay26
  pointwise
  have hr := r.isLt
  rw [hx]
  unfold back
  rw [if_pos (by omega)]
  congr 1
  show 128 * k + (120 + r.val) = _
  omega

theorem conv_gate (c : FVec Ideal S8x512 .f32) (x : FVec Ideal S128x512 .f32) (X : Vec Ideal S2048x512 .f32) (k : ℕ)
    (hc : ∀ r l, c (ix2 r l) = back X 8 (128 * k + r.val) l) (hx : ∀ r l, x (ix2 r l) = rd X (128 * k + r.val) l)
    (b w0 w1 w2 : Vec Ideal S1x512 .f32) (w : Vec Ideal S3x512 .f32) (h0 : ∀ l, w0 (ix2 0 l) = w (ix2 0 l))
    (h1 : ∀ l, w1 (ix2 0 l) = w (ix2 1 l)) (h2 : ∀ l, w2 (ix2 0 l) = w (ix2 2 l)) (r : Fin 128) (l : Fin 512) :
    k0_pay3 (F := Ideal) b c x w0 w1 w2 (ix2 r l) = conv X w b (128 * k + r.val) l := by
  unfold k0_pay3
  pointwise
  rw [shift2 c x X k hc hx, shift1 c x X k hc hx, hx, h0, h1, h2]
  rfl

theorem conv_value (c : FVec Ideal S8x512 .f32) (x : FVec Ideal S128x512 .f32) (X : Vec Ideal S2048x512 .f32) (k : ℕ)
    (hc : ∀ r l, c (ix2 r l) = back X 8 (128 * k + r.val) l) (hx : ∀ r l, x (ix2 r l) = rd X (128 * k + r.val) l)
    (b w0 w1 w2 : Vec Ideal S1x512 .f32) (w : Vec Ideal S3x512 .f32) (h0 : ∀ l, w0 (ix2 0 l) = w (ix2 0 l))
    (h1 : ∀ l, w1 (ix2 0 l) = w (ix2 1 l)) (h2 : ∀ l, w2 (ix2 0 l) = w (ix2 2 l)) (r : Fin 128) (l : Fin 512) :
    k0_pay6 (F := Ideal) b c x w0 w1 (ix2 r l) + x (ix2 r l) * w2 (ix2 0 l) = conv X w b (128 * k + r.val) l := by
  unfold k0_pay6
  pointwise
  rw [show k0_pay4 (F := Ideal) = k0_pay1 from rfl, show k0_pay5 (F := Ideal) = k0_pay2 from rfl,
    shift2 c x X k hc hx, shift1 c x X k hc hx, hx, h0, h1, h2]
  rfl

/-- The sum over the rows before a trip, and the trip's own. -/
theorem sum_trip (f : ℕ → EReal) (k : ℕ) :
    ∑ r ∈ Finset.range (128 * (k + 1)), f r = ∑ r ∈ Finset.range (128 * k), f r + ∑ r : Fin 128, f (128 * k + r.val) := by
  rw [show 128 * (k + 1) = 128 * k + 128 by omega, Finset.sum_range_add, Finset.sum_range (n := 128)]

/-! ## The loop -/

/-- What holds before trip `k`: the carried rows, the rows of the two halves' gradients already written and the zero rows
    behind them, and the small gradients summed over the rows already seen. -/
structure Before (a xg xv : Vec Ideal S2048x512 .f32) (wg wv : Vec Ideal S3x512 .f32) (bg bv : Vec Ideal S1x512 .f32)
    (Ag Av : Vec Ideal S8x512 .f32) (k : ℕ) (acc : FVec Ideal S8x512 .f32 × FVec Ideal S8x512 .f32)
    (Eg Ev : Vec Ideal S2056x512 .f32) (Sg Sv : Vec Ideal S8x512 .f32) : Prop where
  cg : ∀ r l, acc.1 (ix2 r l) = back xg 8 (128 * k + r.val) l
  cv : ∀ r l, acc.2 (ix2 r l) = back xv 8 (128 * k + r.val) l
  eg : ∀ (r : Fin 2056) l, r.val < 128 * k → Eg (ix2 r l) = dgate a xg xv wg wv bg bv r.val l
  ev : ∀ (r : Fin 2056) l, r.val < 128 * k → Ev (ix2 r l) = dval a xg wg bg r.val l
  zg : ∀ (r : Fin 2056) l, 2048 ≤ r.val → Eg (ix2 r l) = 0
  zv : ∀ (r : Fin 2056) l, 2048 ≤ r.val → Ev (ix2 r l) = 0
  sg : ∀ j l, Sg (ix2 j l) = Ag (ix2 j l) + ∑ r ∈ Finset.range (128 * k), term xg (dgate a xg xv wg wv bg bv) j r l
  sv : ∀ j l, Sv (ix2 j l) = Av (ix2 j l) + ∑ r ∈ Finset.range (128 * k), term xv (dval a xg wg bg) j r l

/-- A load of 128 rows from row `128 * k`. -/
theorem load_rows (m : Memref sig .tc .vmem S2048x512 .f32) (X : BufTy.Contents (Elt Ideal) m.view.ty) (k : Fin k0_t1_loop.trips)
    (r : Fin 128) (l : Fin 512) :
    m.view.readAt (Elt Ideal) (Rect.unit (s := S2048x512) (k0_off1 k) S128x512.size (Gen.facts.k0_off1_inb k)).toLoadRect X (ix2 r l)
      = rd (m.view.read (Elt Ideal) X) (128 * k.val + r.val) l := by
  have hk : k.val < 16 := Nat.lt_of_lt_of_le k.isLt k0_t1_abs.2.1
  have hr := r.isLt
  rw [View.readAt_unit m.view X _ (k0_off1_eq k) (by rw [← k0_off1_eq k]; exact Gen.facts.k0_off1_inb k)]
  unfold rd
  rw [dif_pos (by omega)]
  refine congrArg (m.view.read (Elt Ideal) X) (funext fun b => ?_)
  fin_cases b <;> (refine Fin.ext ?_) <;> simp [ix2]

/-- A load of one row of the taps. -/
theorem load_tap (m : Memref sig .tc .vmem S3x512 .f32) (X : BufTy.Contents (Elt Ideal) m.view.ty) (j : Fin 3)
    (h : ∀ b, (![j.val, 0] : Fin 2 → ℕ) b + S1x512.size b ≤ S3x512.size b) (l : Fin 512) :
    m.view.readAt (Elt Ideal) (Rect.unit (s := S3x512) ![j.val, 0] S1x512.size h).toLoadRect X (ix2 0 l)
      = m.view.read (Elt Ideal) X (ix2 j l) := by
  refine congrArg (m.view.read (Elt Ideal) X) (funext fun b => ?_)
  fin_cases b <;> (refine Fin.ext ?_) <;> simp [Rect.unit, ix2]

theorem read_tile_rows (m : Memref sig .tc .vmem S2056x512 .f32) (f : BufTy.Contents (Elt Ideal) m.view.ty) (k : Fin k0_t1_loop.trips)
    (w : FVec Ideal S128x512 .f32) (r : Fin 2056) (l : Fin 512) :
    m.view.read (Elt Ideal) (m.view.writes (Elt Ideal) f [⟨Rect.unit (s := S2056x512) (k0_off2 k) S128x512.size (Gen.facts.k0_off2_inb k), w⟩]) (ix2 r l)
      = if h : 128 * k.val ≤ r.val ∧ r.val < 128 * k.val + 128 then w (ix2 ⟨r.val - 128 * k.val, by omega⟩ l)
        else m.view.read (Elt Ideal) f (ix2 r l) := by
  by_cases h : 128 * k.val ≤ r.val ∧ r.val < 128 * k.val + 128
  · rw [dif_pos h]
    exact View.read_writes_cons_rows_of_mem (o := 128 * k.val) m.view f _ w [] (ix2 r l) (ix2 ⟨r.val - 128 * k.val, by omega⟩ l)
      (k0_off2_eq k) (by show r.val = 128 * k.val + (r.val - 128 * k.val); omega) rfl
  · rw [dif_neg h]
    exact View.read_writes_cons_rows_of_not_mem (o := 128 * k.val) (W := 128) m.view f _ w [] (ix2 r l)
      (k0_off2_eq k) rfl (by show r.val < 128 * k.val ∨ 128 * k.val + 128 ≤ r.val; omega)

/-- Four rows written one after another, the last written first in the list. -/
theorem read_four_rows (m : Memref sig .tc .vmem S8x512 .f32) (f : BufTy.Contents (Elt Ideal) m.view.ty)
    (w0 w1 w2 w3 : FVec Ideal S1x512 .f32) (h0 h1 h2 h3) (j : Fin 8) (l : Fin 512) :
    m.view.read (Elt Ideal) (m.view.writes (Elt Ideal) f [⟨Rect.unit (s := S8x512) ![3, 0] S1x512.size h3, w3⟩,
        ⟨Rect.unit (s := S8x512) ![2, 0] S1x512.size h2, w2⟩, ⟨Rect.unit (s := S8x512) ![1, 0] S1x512.size h1, w1⟩,
        ⟨Rect.unit (s := S8x512) ![0, 0] S1x512.size h0, w0⟩]) (ix2 j l)
      = match j with
        | 0 => w0 (ix2 0 l) | 1 => w1 (ix2 0 l) | 2 => w2 (ix2 0 l) | 3 => w3 (ix2 0 l)
        | _ => m.view.read (Elt Ideal) f (ix2 j l) := by
  have hit : ∀ (o : ℕ) (w : FVec Ideal S1x512 .f32) (h : ∀ b : Fin 2, (![o, 0] : Fin 2 → ℕ) b + S1x512.size b ≤ S8x512.size b) L, j.val = o →
      m.view.read (Elt Ideal) (m.view.writes (Elt Ideal) f (⟨Rect.unit (s := S8x512) ![o, 0] S1x512.size h, w⟩ :: L)) (ix2 j l) = w (ix2 0 l) :=
    fun o w h L e => View.read_writes_cons_rows_of_mem m.view f h w L (ix2 j l) (ix2 0 l) rfl e rfl
  have miss : ∀ (o : ℕ) (w : FVec Ideal S1x512 .f32) (h : ∀ b : Fin 2, (![o, 0] : Fin 2 → ℕ) b + S1x512.size b ≤ S8x512.size b) L, j.val ≠ o →
      m.view.read (Elt Ideal) (m.view.writes (Elt Ideal) f (⟨Rect.unit (s := S8x512) ![o, 0] S1x512.size h, w⟩ :: L)) (ix2 j l)
        = m.view.read (Elt Ideal) (m.view.writes (Elt Ideal) f L) (ix2 j l) :=
    fun o w h L e => View.read_writes_cons_rows_of_not_mem (W := 1) m.view f h w L (ix2 j l) rfl rfl (by
      show j.val < o ∨ o + 1 ≤ j.val
      omega)
  fin_cases j
  · exact (miss 3 w3 _ _ (by decide)).trans ((miss 2 w2 _ _ (by decide)).trans ((miss 1 w1 _ _ (by decide)).trans (hit 0 w0 _ _ rfl)))
  · exact (miss 3 w3 _ _ (by decide)).trans ((miss 2 w2 _ _ (by decide)).trans (hit 1 w1 _ _ rfl))
  · exact (miss 3 w3 _ _ (by decide)).trans (hit 2 w2 _ _ rfl)
  · exact hit 3 w3 _ _ rfl
  all_goals exact (miss 3 w3 _ _ (by decide)).trans ((miss 2 w2 _ _ (by decide)).trans ((miss 1 w1 _ _ (by decide)).trans (miss 0 w0 _ _ (by decide))))

/-- A load of one row of the small gradients. -/
theorem load_small (m : Memref sig .tc .vmem S8x512 .f32) (X : BufTy.Contents (Elt Ideal) m.view.ty) (j : Fin 8)
    (h : ∀ b, (![j.val, 0] : Fin 2 → ℕ) b + S1x512.size b ≤ S8x512.size b) (l : Fin 512) :
    m.view.readAt (Elt Ideal) (Rect.unit (s := S8x512) ![j.val, 0] S1x512.size h).toLoadRect X (ix2 0 l)
      = m.view.read (Elt Ideal) X (ix2 j l) := by
  refine congrArg (m.view.read (Elt Ideal) X) (funext fun b => ?_)
  fin_cases b <;> (refine Fin.ext ?_) <;> simp [Rect.unit, ix2]

end Cert.KernelIdeal
-- ==== Proof.FfnRef.lean ====
module

public import proofs.«01_k».proof.Proof.FfnBlock
public import proofs.«01_k».proof.Proof.Gen.ReferenceIdeal.Read

@[expose] public section

set_option maxRecDepth 16384

noncomputable section

namespace Cert.ReferenceIdeal

open Idealize.ShloMosaic Idealize.ShloMosaic.TcCoe Idealize.ShloMosaic.Tactic
open Cert.ReferenceIdeal.Gen Cert.ReferenceIdeal.Read
open Cert.KernelIdeal (rd back conv dgate dval term pad spread)

/-! ## The reference, read one entry at a time

A column `c` of the reference's arrays is compared with lane `l` of a block; `b` is the sequence. The hypotheses say that the
block holds that column. -/

abbrev Col := Vec Ideal Cert.KernelIdeal.S2048x512 .f32
abbrev Taps := Vec Ideal Cert.KernelIdeal.S3x512 .f32
abbrev Bias := Vec Ideal Cert.KernelIdeal.S1x512 .f32

/-- The block holds the column of the wide array. -/
def Holds (x1 : Vec Ideal S4096x22528 .f32) (X : Col) (b : Fin 2) (c : Fin 22528) (l : Fin 512) : Prop :=
  ∀ r : Fin 2048, X (ix2 r l) = x1 (ix2 ⟨2048 * b.val + r.val, by omega⟩ c)

/-- The block holds the column of the narrow array. -/
def HoldsA (x0 : Vec Ideal S4096x11264 .f32) (A : Col) (b : Fin 2) (c : Fin 11264) (l : Fin 512) : Prop :=
  ∀ r : Fin 2048, A (ix2 r l) = x0 (ix2 ⟨2048 * b.val + r.val, by omega⟩ c)

/-- The three taps of the column. -/
def HoldsW (x2 : Vec Ideal S3x22528 .f32) (W : Taps) (c : Fin 22528) (l : Fin 512) : Prop :=
  ∀ j : Fin 3, W (ix2 j l) = x2 (ix2 j c)

/-- The offset of the column. -/
def HoldsB (x3 : Vec Ideal S1x22528 .f32) (B : Bias) (c : Fin 22528) (l : Fin 512) : Prop := B (ix2 0 l) = x3 (ix2 0 c)

theorem wide_rows (x1 : Vec Ideal S4096x22528 .f32) (b : Fin 2) (s : Fin 2048) (c : Fin 22528) :
    val_main_v0 (F := Ideal) x1 (ix3 b s c) = x1 (ix2 ⟨2048 * b.val + s.val, by omega⟩ c) := by
  rw [val_main_v0_apply]
  refine congrArg x1 (funext fun a => ?_)
  fin_cases a <;> (refine Fin.ext ?_) <;> simp [idx_main_v0, ix2, ix3] <;> omega

theorem led (x1 : Vec Ideal S4096x22528 .f32) (X : Col) (b : Fin 2) (c : Fin 22528) (l : Fin 512) (hX : Holds x1 X b c l) (r : Fin 2050) :
    val_main_v3 (F := Ideal) x1 (ix3 b r c) = back X 2 r.val l := by
  unfold val_main_v3
  pointwise
  unfold back
  have hr := r.isLt
  by_cases h : r.val < 2
  · rw [dif_pos h, if_neg (by omega)]
    unfold val_main_v2 val_main_cst
    pointwise
    done
  · rw [dif_neg h]
    refine (wide_rows x1 b ⟨r.val - 2, by omega⟩ c).trans ?_
    rw [if_pos (by omega), rd, dif_pos (by omega), hX]

theorem lag2 (x1 : Vec Ideal S4096x22528 .f32) (X : Col) (b : Fin 2) (c : Fin 22528) (l : Fin 512) (hX : Holds x1 X b c l) (s : Fin 2048) :
    val_main_v5 (F := Ideal) x1 (ix3 b s c) = back X 2 s.val l := by
  unfold val_main_v5
  pointwise
  exact (led x1 X b c l hX _).trans (by simp)

theorem lag1 (x1 : Vec Ideal S4096x22528 .f32) (X : Col) (b : Fin 2) (c : Fin 22528) (l : Fin 512) (hX : Holds x1 X b c l) (s : Fin 2048) :
    val_main_v14 (F := Ideal) x1 (ix3 b s c) = back X 1 s.val l := by
  unfold val_main_v14
  pointwise
  refine (led x1 X b c l hX _).trans ?_
  simp only [back]
  by_cases h : 1 ≤ s.val
  · rw [if_pos (by omega), if_pos h]; congr 1; omega
  · rw [if_neg (by omega), if_neg h]

theorem lag0 (x1 : Vec Ideal S4096x22528 .f32) (X : Col) (b : Fin 2) (c : Fin 22528) (l : Fin 512) (hX : Holds x1 X b c l) (s : Fin 2048) :
    val_main_v21 (F := Ideal) x1 (ix3 b s c) = rd X s.val l := by
  unfold val_main_v21
  pointwise
  refine (led x1 X b c l hX _).trans ?_
  simp only [back]
  rw [if_pos (by omega)]; congr 1; omega

theorem tap0 (x2 : Vec Ideal S3x22528 .f32) (b : Fin 2) (s : Fin 2048) (c : Fin 22528) :
    val_main_v9 (F := Ideal) x2 (ix3 b s c) = x2 (ix2 0 c) := by
  unfold val_main_v9 val_main_v8 val_main_v7 val_main_v6
  pointwise
  done

theorem tap1 (x2 : Vec Ideal S3x22528 .f32) (b : Fin 2) (s : Fin 2048) (c : Fin 22528) :
    val_main_v18 (F := Ideal) x2 (ix3 b s c) = x2 (ix2 1 c) := by
  unfold val_main_v18 val_main_v17 val_main_v16 val_main_v15
  pointwise
  done

theorem tap2 (x2 : Vec Ideal S3x22528 .f32) (b : Fin 2) (s : Fin 2048) (c : Fin 22528) :
    val_main_v25 (F := Ideal) x2 (ix3 b s c) = x2 (ix2 2 c) := by
  unfold val_main_v25 val_main_v24 val_main_v23 val_main_v22
  pointwise
  done

theorem offset (x3 : Vec Ideal S1x22528 .f32) (b : Fin 2) (s : Fin 2048) (c : Fin 22528) :
    val_main_v12 (F := Ideal) x3 (ix3 b s c) = x3 (ix2 0 c) := by
  unfold val_main_v12 val_main_v11 val_main_v1
  pointwise
  done

theorem conv_read (x1 : Vec Ideal S4096x22528 .f32) (x2 : Vec Ideal S3x22528 .f32) (x3 : Vec Ideal S1x22528 .f32)
    (X : Col) (W : Taps) (B : Bias) (b : Fin 2) (c : Fin 22528) (l : Fin 512)
    (hX : Holds x1 X b c l) (hW : HoldsW x2 W c l) (hB : HoldsB x3 B c l) (s : Fin 2048) :
    val_main_v27 (F := Ideal) x1 x2 x3 (ix3 b s c) = conv X W B s.val l := by
  unfold val_main_v27 val_main_v20 val_main_v13 val_main_v10 val_main_v19 val_main_v26
  pointwise
  rw [offset, tap0, tap1, tap2, lag0 x1 X b c l hX, lag1 x1 X b c l hX, lag2 x1 X b c l hX, conv, hW, hW, hW, hB]

/-- The value is a real number. -/
def Real1 (z : EReal) : Prop := ∃ x : ℝ, z = (x : EReal)

theorem Real1.mul {y z : EReal} : Real1 y → Real1 z → Real1 (y * z) := fun ⟨a, ha⟩ ⟨b, hb⟩ => ⟨a * b, by rw [ha, hb, EReal.coe_mul]⟩
theorem Real1.add {y z : EReal} : Real1 y → Real1 z → Real1 (y + z) := fun ⟨a, ha⟩ ⟨b, hb⟩ => ⟨a + b, by rw [ha, hb, EReal.coe_add]⟩
theorem Real1.zero : Real1 0 := ⟨0, rfl⟩

theorem Real1.rd {X : Col} (h : ∀ y, Real1 (X y)) (r : ℕ) (l : Fin 512) : Real1 (rd X r l) := by
  unfold Cert.KernelIdeal.rd
  split
  · exact h _
  · exact Real1.zero

theorem Real1.back {X : Col} (h : ∀ y, Real1 (X y)) (d r : ℕ) (l : Fin 512) : Real1 (back X d r l) := by
  unfold Cert.KernelIdeal.back
  split
  · exact Real1.rd h _ _
  · exact Real1.zero

theorem Real1.conv {X : Col} {W : Taps} {B : Bias} (hX : ∀ y, Real1 (X y)) (hW : ∀ y, Real1 (W y)) (hB : ∀ y, Real1 (B y))
    (r : ℕ) (l : Fin 512) : Real1 (conv X W B r l) :=
  (((hB _).add ((Real1.back hX 2 r l).mul (hW _))).add ((Real1.back hX 1 r l).mul (hW _))).add ((Real1.rd hX r l).mul (hW _))

/-- For real `a` and `v` the two ways to write the derivative of the gate agree, whatever the gate is. -/
theorem gate_rule {a v : EReal} (ha : Real1 a) (hv : Real1 v) (g : EReal) :
    a * v * Ideal.logistic g + g * (a * v) * (Ideal.logistic g * (1 - Ideal.logistic g))
      = a * v * (Ideal.logistic g * (1 + g * (1 - Ideal.logistic g))) := by
  obtain ⟨a, rfl⟩ := ha
  obtain ⟨v, rfl⟩ := hv
  induction g with
  | bot => simp
  | top =>
    have e : (1 : EReal) - 1 = 0 := by rw [← EReal.coe_one, ← EReal.coe_sub, sub_self, EReal.coe_zero]
    simp [e]
  | coe g =>
    rw [Ideal.logistic_coe]
    generalize (1 + Real.exp (-g))⁻¹ = s
    simp only [← EReal.coe_one, ← EReal.coe_mul, ← EReal.coe_add, ← EReal.coe_sub]
    congr 1
    ring

theorem narrow_rows (x0 : Vec Ideal S4096x11264 .f32) (b : Fin 2) (s : Fin 2048) (c : Fin 11264) :
    val_main_v32 (F := Ideal) x0 (ix3 b s c) = x0 (ix2 ⟨2048 * b.val + s.val, by omega⟩ c) := by
  rw [val_main_v32_apply]
  refine congrArg x0 (funext fun a => ?_)
  fin_cases a <;> (refine Fin.ext ?_) <;> simp [idx_main_v32, ix2, ix3] <;> omega

/-- A column of the first half, and the column as far on in the second. -/
def low (c : Fin 11264) : Fin 22528 := ⟨c.val, by omega⟩
def high (c : Fin 11264) : Fin 22528 := ⟨11264 + c.val, by omega⟩

section Whole
variable (x0 : Vec Ideal S4096x11264 .f32) (x1 : Vec Ideal S4096x22528 .f32) (x2 : Vec Ideal S3x22528 .f32) (x3 : Vec Ideal S1x22528 .f32)
  (A Xg Xv : Col) (Wg Wv : Taps) (Bg Bv : Bias) (b : Fin 2) (c : Fin 11264) (l : Fin 512)

theorem gate_read (hX : Holds x1 Xg b (low c) l) (hW : HoldsW x2 Wg (low c) l) (hB : HoldsB x3 Bg (low c) l) (s : Fin 2048) :
    val_main_v28 (F := Ideal) x1 x2 x3 (ix3 b s c) = conv Xg Wg Bg s.val l := by
  refine Eq.trans ?_ (conv_read x1 x2 x3 Xg Wg Bg b (low c) l hX hW hB s)
  unfold val_main_v28
  pointwise
  refine congrArg _ ?_
  simp [low]

theorem value_read (hX : Holds x1 Xv b (high c) l) (hW : HoldsW x2 Wv (high c) l) (hB : HoldsB x3 Bv (high c) l) (s : Fin 2048) :
    val_main_v29 (F := Ideal) x1 x2 x3 (ix3 b s c) = conv Xv Wv Bv s.val l := by
  refine Eq.trans ?_ (conv_read x1 x2 x3 Xv Wv Bv b (high c) l hX hW hB s)
  unfold val_main_v29
  pointwise
  refine congrArg _ ?_
  simp [high]

theorem logistic_read (i : S2x2048x11264.Idx) :
    val_main_v30_2 (F := Ideal) x1 x2 x3 i = Ideal.logistic (val_main_v28 (F := Ideal) x1 x2 x3 i) := by
  unfold val_main_v30_2 val_main_call0_v3 val_main_call0_v1 val_main_call0_v0 val_main_call0_v4 val_main_call0_v2
  unfold val_main_call0_cst val_main_call0_cst_0
  pointwise
  simp [Ideal.logistic]

theorem dval_read (hA : HoldsA x0 A b c l) (hX : Holds x1 Xg b (low c) l) (hW : HoldsW x2 Wg (low c) l) (hB : HoldsB x3 Bg (low c) l) (s : Fin 2048) :
    val_main_v33 (F := Ideal) x0 x1 x2 x3 (ix3 b s c) = dval A Xg Wg Bg s.val l := by
  unfold val_main_v33 val_main_v30_0
  pointwise
  rw [logistic_read, gate_read x1 x2 x3 Xg Wg Bg b c l hX hW hB, narrow_rows, dval, rd, dif_pos s.isLt, hA, mul_comm]

theorem dgate_read (hA : HoldsA x0 A b c l) (hX : Holds x1 Xg b (low c) l) (hW : HoldsW x2 Wg (low c) l) (hB : HoldsB x3 Bg (low c) l)
    (hXv : Holds x1 Xv b (high c) l) (hWv : HoldsW x2 Wv (high c) l) (hBv : HoldsB x3 Bv (high c) l)
    (ra : ∀ y, Real1 (A y)) (rv : ∀ y, Real1 (Xv y)) (rwv : ∀ y, Real1 (Wv y)) (rbv : ∀ y, Real1 (Bv y)) (s : Fin 2048) :
    val_main_v35 (F := Ideal) x0 x1 x2 x3 (ix3 b s c) = dgate A Xg Xv Wg Wv Bg Bv s.val l := by
  unfold val_main_v35 val_main_call1_v1 val_main_call1_v2 val_main_call1_v0 val_main_v34 val_main_v30_1 val_main_call0_v7 val_main_call0_v6
  unfold val_main_call0_cst_1
  pointwise
  rw [logistic_read, gate_read x1 x2 x3 Xg Wg Bg b c l hX hW hB, value_read x1 x2 x3 Xv Wv Bv b c l hXv hWv hBv, narrow_rows]
  have e : x0 (ix2 ⟨2048 * b.val + s.val, by omega⟩ c) = rd A s.val l := by rw [rd, dif_pos s.isLt, hA]
  rw [e, dgate]
  exact gate_rule (Real1.rd ra _ _) (Real1.conv rv rwv rbv _ _) _

theorem joined_low (s : Fin 2048) : val_main_v36 (F := Ideal) x0 x1 x2 x3 (ix3 b s (low c)) = val_main_v35 (F := Ideal) x0 x1 x2 x3 (ix3 b s c) := by
  unfold val_main_v36
  pointwise
  rw [dif_pos (show (low c).val < 11264 from c.isLt)]
  rfl

theorem joined_high (s : Fin 2048) : val_main_v36 (F := Ideal) x0 x1 x2 x3 (ix3 b s (high c)) = val_main_v33 (F := Ideal) x0 x1 x2 x3 (ix3 b s c) := by
  unfold val_main_v36
  pointwise
  rw [dif_neg (show ¬ (high c).val < 11264 by simp [high])]
  refine congrArg _ ?_
  simp [high]

end Whole

end Cert.ReferenceIdeal
-- ==== Proof.FfnRows.lean ====
module

public import proofs.«01_k».proof.Proof.FfnRef
public import proofs.«01_k».proof.Proof.Gen.ReferenceIdeal.Read

@[expose] public section

set_option maxRecDepth 16384

noncomputable section

namespace Cert.ReferenceIdeal

open Idealize.ShloMosaic Idealize.ShloMosaic.TcCoe Idealize.ShloMosaic.Tactic
open Cert.ReferenceIdeal.Gen Cert.ReferenceIdeal.Read
open Cert.KernelIdeal (rd back conv dgate dval term pad spread)

/-! ## Sums over sequences and rows, and padding along rows -/

theorem sum_two {n0 n1 n2 : ℕ} (h : (⟨3, ![n0, n1, n2]⟩ : Shape).ReducesTo [0, 1] ⟨1, ![n2]⟩) (v : (⟨3, ![n0, n1, n2]⟩ : Shape).Idx → EReal)
    (init : EReal) (c : Fin n2) : Ideal.hostReduceAdd h v init (ix1 c) = init + ∑ b : Fin n0, ∑ s : Fin n1, v (ix3 b s c) := by
  unfold Ideal.hostReduceAdd
  refine congrArg (init + ·) ?_
  rw [← Fintype.sum_prod_type' (f := fun b s => v (ix3 b s c))]
  symm
  refine Finset.sum_nbij' (i := fun p : Fin n0 × Fin n1 => ix3 p.1 p.2 c) (j := fun i => (i 0, i 1)) ?_ ?_ ?_ ?_ ?_
  · intro p _
    refine Finset.mem_filter.mpr ⟨Finset.mem_univ _, funext fun a => Fin.ext ?_⟩
    match a with
    | ⟨0, _⟩ => rfl
  · intro i _; exact Finset.mem_univ _
  · intro p _; rfl
  · intro i hi
    have e := (Finset.mem_filter.mp hi).2
    funext a
    match a with
    | ⟨0, _⟩ => rfl
    | ⟨1, _⟩ => rfl
    | ⟨2, _⟩ => exact Fin.ext (congrArg Fin.val (congrFun e 0)).symm
  · intro p _; rfl

theorem pad_rows2 {α : Type} {m M n : ℕ} (lo hi : ℕ) (x : (⟨2, ![m, n]⟩ : Shape).Idx → α) {u : Shape} (v : u.Idx → α)
    (h : (⟨2, ![m, n]⟩ : Shape).Pads ![lo, 0] ![hi, 0] ![0, 0] ⟨2, ![M, n]⟩) (hu : 0 < u.numel) (j : Fin M) (c : Fin n) :
    pad ⟨2, ![M, n]⟩ ![lo, 0] ![hi, 0] ![0, 0] x v h hu (ix2 j c)
      = if e : lo ≤ j.val ∧ j.val - lo < m then x (ix2 ⟨j.val - lo, e.2⟩ c) else v (Shape.Idx.first hu) := by
  rw [pad_apply]
  by_cases e : lo ≤ j.val ∧ j.val - lo < m
  · rw [dif_pos e, dif_pos]
    · refine congrArg x (funext fun a => Fin.ext ?_)
      match a with
      | ⟨0, _⟩ => show (j.val - lo) / (0 + 1) = j.val - lo; simp
      | ⟨1, _⟩ => show (c.val - 0) / (0 + 1) = c.val; simp
    · intro a
      match a with
      | ⟨0, _⟩ => simpa [ix2, Nat.mod_one] using e
      | ⟨1, _⟩ => simp [ix2, Nat.mod_one]
  · rw [dif_neg e, dif_neg]
    intro k
    refine e ⟨(k 0).1, ?_⟩
    have q := (k 0).2.2
    change (j.val - lo) / (0 + 1) < m at q
    simpa using q

theorem pad_rows3 {α : Type} {k m M n : ℕ} (lo hi : ℕ) (x : (⟨3, ![k, m, n]⟩ : Shape).Idx → α) {u : Shape} (v : u.Idx → α)
    (h : (⟨3, ![k, m, n]⟩ : Shape).Pads ![0, lo, 0] ![0, hi, 0] ![0, 0, 0] ⟨3, ![k, M, n]⟩) (hu : 0 < u.numel) (b : Fin k) (j : Fin M) (c : Fin n) :
    pad ⟨3, ![k, M, n]⟩ ![0, lo, 0] ![0, hi, 0] ![0, 0, 0] x v h hu (ix3 b j c)
      = if e : lo ≤ j.val ∧ j.val - lo < m then x (ix3 b ⟨j.val - lo, e.2⟩ c) else v (Shape.Idx.first hu) := by
  rw [pad_apply]
  by_cases e : lo ≤ j.val ∧ j.val - lo < m
  · rw [dif_pos e, dif_pos]
    · refine congrArg x (funext fun a => Fin.ext ?_)
      match a with
      | ⟨0, _⟩ => show (b.val - 0) / (0 + 1) = b.val; simp
      | ⟨1, _⟩ => show (j.val - lo) / (0 + 1) = j.val - lo; simp
      | ⟨2, _⟩ => show (c.val - 0) / (0 + 1) = c.val; simp
    · intro a
      match a with
      | ⟨0, _⟩ => simp [ix3, Nat.mod_one]
      | ⟨1, _⟩ => simpa [ix3, Nat.mod_one] using e
      | ⟨2, _⟩ => simp [ix3, Nat.mod_one]
  · rw [dif_neg e, dif_neg]
    intro q
    refine e ⟨(q 1).1, ?_⟩
    have q' := (q 1).2.2
    change (j.val - lo) / (0 + 1) < m at q'
    simpa using q'

section Whole
variable (x0 : Vec Ideal S4096x11264 .f32) (x1 : Vec Ideal S4096x22528 .f32) (x2 : Vec Ideal S3x22528 .f32) (x3 : Vec Ideal S1x22528 .f32)
  (X : Fin 2 → Col) (W : Taps) (b : Fin 2) (c : Fin 22528) (l : Fin 512) (e : Fin 2 → ℕ → Fin 512 → EReal)

theorem zero_scalar (z : S_.Idx → EReal) (h : z = constant (F := Ideal) S_ .f32 0x00000000#32) (i : S_.Idx) : z i = 0 := by
  subst h
  pointwise
  done

theorem shift_two (hE : ∀ b (s : Fin 2048), val_main_v36 (F := Ideal) x0 x1 x2 x3 (ix3 b s c) = e b s.val l) (hW : HoldsW x2 W c l) (r : Fin 2050) :
    val_main_v45 (F := Ideal) x0 x1 x2 x3 (ix3 b r c) = if 2 ≤ r.val then pad (e b) (r.val - 2) l * W (ix2 2 l) else 0 := by
  unfold val_main_v45
  refine (pad_rows3 2 0 _ _ _ _ b r c).trans ?_
  have hr := r.isLt
  have z : val_main_cst_4 (F := Ideal) (Shape.Idx.first h_S_) = 0 := zero_scalar _ rfl _
  by_cases h : 2 ≤ r.val ∧ r.val - 2 < 2048
  · rw [dif_pos h, if_pos h.1, Cert.KernelIdeal.pad, if_pos h.2, hW]
    unfold val_main_v41 val_main_v40
    pointwise
    rw [hE]
    refine congrArg _ ?_
    unfold val_main_v24 val_main_v23 val_main_v22
    pointwise
    done
  · rw [dif_neg h]
    refine z.trans ?_
    by_cases h' : 2 ≤ r.val
    · rw [if_pos h', Cert.KernelIdeal.pad, if_neg (fun q => h ⟨h', q⟩), zero_mul]
    · rw [if_neg h']

theorem shift_one (hE : ∀ b (s : Fin 2048), val_main_v36 (F := Ideal) x0 x1 x2 x3 (ix3 b s c) = e b s.val l) (hW : HoldsW x2 W c l) (r : Fin 2050) :
    val_main_v55 (F := Ideal) x0 x1 x2 x3 (ix3 b r c) = if 1 ≤ r.val then pad (e b) (r.val - 1) l * W (ix2 1 l) else 0 := by
  unfold val_main_v55
  refine (pad_rows3 1 1 _ _ _ _ b r c).trans ?_
  have hr := r.isLt
  have z : val_main_cst_8 (F := Ideal) (Shape.Idx.first h_S_) = 0 := zero_scalar _ rfl _
  by_cases h : 1 ≤ r.val ∧ r.val - 1 < 2048
  · rw [dif_pos h, if_pos h.1, Cert.KernelIdeal.pad, if_pos h.2, hW]
    unfold val_main_v50 val_main_v49
    pointwise
    rw [hE]
    refine congrArg _ ?_
    unfold val_main_v17 val_main_v16 val_main_v15
    pointwise
    done
  · rw [dif_neg h]
    refine z.trans ?_
    by_cases h' : 1 ≤ r.val
    · rw [if_pos h', Cert.KernelIdeal.pad, if_neg (fun q => h ⟨h', q⟩), zero_mul]
    · rw [if_neg h']

theorem shift_none (hE : ∀ b (s : Fin 2048), val_main_v36 (F := Ideal) x0 x1 x2 x3 (ix3 b s c) = e b s.val l) (hW : HoldsW x2 W c l) (r : Fin 2050) :
    val_main_v69 (F := Ideal) x0 x1 x2 x3 (ix3 b r c) = if 0 ≤ r.val then pad (e b) (r.val - 0) l * W (ix2 0 l) else 0 := by
  unfold val_main_v69
  refine (pad_rows3 0 2 _ _ _ _ b r c).trans ?_
  have hr := r.isLt
  have z : val_main_cst_14 (F := Ideal) (Shape.Idx.first h_S_) = 0 := zero_scalar _ rfl _
  by_cases h : 0 ≤ r.val ∧ r.val - 0 < 2048
  · rw [dif_pos h, if_pos h.1, Cert.KernelIdeal.pad, if_pos h.2, hW]
    unfold val_main_v64 val_main_v63
    pointwise
    rw [hE]
    refine congrArg _ ?_
    unfold val_main_v8 val_main_v7 val_main_v6
    pointwise
    done
  · rw [dif_neg h]
    refine z.trans ?_
    by_cases h' : 0 ≤ r.val
    · rw [if_pos h', Cert.KernelIdeal.pad, if_neg (fun q => h ⟨h', q⟩), zero_mul]
    · rw [if_neg h']

theorem spread_read (hE : ∀ b (s : Fin 2048), val_main_v36 (F := Ideal) x0 x1 x2 x3 (ix3 b s c) = e b s.val l) (hW : HoldsW x2 W c l) (s : Fin 2048) :
    val_main_v72 (F := Ideal) x0 x1 x2 x3 (ix3 b s c) = spread (e b) W s.val l := by
  unfold val_main_v72 val_main_v70 val_main_v56
  pointwise
  rw [shift_two x0 x1 x2 x3 W b c l e hE hW, shift_one x0 x1 x2 x3 W b c l e hE hW, shift_none x0 x1 x2 x3 W b c l e hE hW]
  rw [if_pos (by simp), if_pos (by simp; omega), if_pos (by simp), spread]
  have e0 : 2 + s.val - 2 = s.val := by omega
  have e1 : 2 + s.val - 1 = s.val + 1 := by omega
  have e2 : 2 + s.val - 0 = s.val + 2 := by omega
  simp only [e0, e1, e2]

theorem sum_tap2 (hE : ∀ b (s : Fin 2048), val_main_v36 (F := Ideal) x0 x1 x2 x3 (ix3 b s c) = e b s.val l) (hX : ∀ b, Holds x1 (X b) b c l) :
    val_main_v42 (F := Ideal) x0 x1 x2 x3 (ix1 c) = ∑ b : Fin 2, ∑ s : Fin 2048, rd (X b) s.val l * e b s.val l := by
  unfold val_main_v42
  refine (sum_two _ _ _ c).trans ?_
  rw [zero_scalar (val_main_cst_2 (F := Ideal)) rfl, zero_add, Fin.sum_univ_one, Fin.sum_univ_one]
  unfold val_main_v39
  pointwise
  unfold val_main_v38
  refine (sum_two _ _ _ c).trans ?_
  rw [zero_scalar (val_main_cst_1 (F := Ideal)) rfl, zero_add]
  refine Finset.sum_congr rfl fun b _ => Finset.sum_congr rfl fun s _ => ?_
  unfold val_main_v37
  pointwise
  rw [lag0 x1 (X b) b c l (hX b), hE]

theorem sum_tap1 (hE : ∀ b (s : Fin 2048), val_main_v36 (F := Ideal) x0 x1 x2 x3 (ix3 b s c) = e b s.val l) (hX : ∀ b, Holds x1 (X b) b c l) :
    val_main_v51 (F := Ideal) x0 x1 x2 x3 (ix1 c) = ∑ b : Fin 2, ∑ s : Fin 2048, back (X b) 1 s.val l * e b s.val l := by
  unfold val_main_v51
  refine (sum_two _ _ _ c).trans ?_
  rw [zero_scalar (val_main_cst_6 (F := Ideal)) rfl, zero_add, Fin.sum_univ_one, Fin.sum_univ_one]
  unfold val_main_v48
  pointwise
  unfold val_main_v47
  refine (sum_two _ _ _ c).trans ?_
  rw [zero_scalar (val_main_cst_5 (F := Ideal)) rfl, zero_add]
  refine Finset.sum_congr rfl fun b _ => Finset.sum_congr rfl fun s _ => ?_
  unfold val_main_v46
  pointwise
  rw [lag1 x1 (X b) b c l (hX b), hE]

theorem sum_tap0 (hE : ∀ b (s : Fin 2048), val_main_v36 (F := Ideal) x0 x1 x2 x3 (ix3 b s c) = e b s.val l) (hX : ∀ b, Holds x1 (X b) b c l) :
    val_main_v65 (F := Ideal) x0 x1 x2 x3 (ix1 c) = ∑ b : Fin 2, ∑ s : Fin 2048, back (X b) 2 s.val l * e b s.val l := by
  unfold val_main_v65
  refine (sum_two _ _ _ c).trans ?_
  rw [zero_scalar (val_main_cst_12 (F := Ideal)) rfl, zero_add, Fin.sum_univ_one, Fin.sum_univ_one]
  unfold val_main_v62
  pointwise
  unfold val_main_v61
  refine (sum_two _ _ _ c).trans ?_
  rw [zero_scalar (val_main_cst_11 (F := Ideal)) rfl, zero_add]
  refine Finset.sum_congr rfl fun b _ => Finset.sum_congr rfl fun s _ => ?_
  unfold val_main_v60
  pointwise
  rw [lag2 x1 (X b) b c l (hX b), hE]

theorem sum_offset (hE : ∀ b (s : Fin 2048), val_main_v36 (F := Ideal) x0 x1 x2 x3 (ix3 b s c) = e b s.val l) (hX : ∀ b, Holds x1 (X b) b c l) :
    val_main_v59 (F := Ideal) x0 x1 x2 x3 (ix1 c) = ∑ b : Fin 2, ∑ s : Fin 2048, e b s.val l := by
  unfold val_main_v59
  refine (sum_two _ _ _ c).trans ?_
  rw [zero_scalar (val_main_cst_10 (F := Ideal)) rfl, zero_add, Fin.sum_univ_one, Fin.sum_univ_one]
  unfold val_main_v58
  pointwise
  unfold val_main_v57
  refine (sum_two _ _ _ c).trans ?_
  rw [zero_scalar (val_main_cst_9 (F := Ideal)) rfl, zero_add]
  refine Finset.sum_congr rfl fun b _ => Finset.sum_congr rfl fun s _ => ?_
  exact hE b s

theorem taps_read (hE : ∀ b (s : Fin 2048), val_main_v36 (F := Ideal) x0 x1 x2 x3 (ix3 b s c) = e b s.val l) (hX : ∀ b, Holds x1 (X b) b c l) (j : Fin 3) :
    val_main_v68 (F := Ideal) x0 x1 x2 x3 (ix2 j c) = ∑ b : Fin 2, ∑ s : Fin 2048, term (X b) (e b) ⟨j.val, by omega⟩ s.val l := by
  unfold val_main_v68 val_main_v54
  pointwise
  have e44 : val_main_v44 (F := Ideal) x0 x1 x2 x3 (ix2 j c) = if j.val = 2 then ∑ b : Fin 2, ∑ s : Fin 2048, rd (X b) s.val l * e b s.val l else 0 := by
    unfold val_main_v44
    refine (pad_rows2 2 0 _ _ _ _ j c).trans ?_
    by_cases h : j.val = 2
    · rw [dif_pos (by omega), if_pos h]
      refine Eq.trans ?_ (sum_tap2 x0 x1 x2 x3 X c l e hE hX)
      unfold val_main_v43
      pointwise
      done
    · rw [dif_neg (by omega), if_neg h]
      exact zero_scalar _ rfl _
  have e53 : val_main_v53 (F := Ideal) x0 x1 x2 x3 (ix2 j c) = if j.val = 1 then ∑ b : Fin 2, ∑ s : Fin 2048, back (X b) 1 s.val l * e b s.val l else 0 := by
    unfold val_main_v53
    refine (pad_rows2 1 1 _ _ _ _ j c).trans ?_
    by_cases h : j.val = 1
    · rw [dif_pos (by omega), if_pos h]
      refine Eq.trans ?_ (sum_tap1 x0 x1 x2 x3 X c l e hE hX)
      unfold val_main_v52
      pointwise
      done
    · rw [dif_neg (by omega), if_neg h]
      exact zero_scalar _ rfl _
  have e67 : val_main_v67 (F := Ideal) x0 x1 x2 x3 (ix2 j c) = if j.val = 0 then ∑ b : Fin 2, ∑ s : Fin 2048, back (X b) 2 s.val l * e b s.val l else 0 := by
    unfold val_main_v67
    refine (pad_rows2 0 2 _ _ _ _ j c).trans ?_
    by_cases h : j.val = 0
    · rw [dif_pos (by omega), if_pos h]
      refine Eq.trans ?_ (sum_tap0 x0 x1 x2 x3 X c l e hE hX)
      unfold val_main_v66
      pointwise
      done
    · rw [dif_neg (by omega), if_neg h]
      exact zero_scalar _ rfl _
  rw [e44, e53, e67]
  fin_cases j <;> simp [term]

/-- Eight rows of the small gradients: three taps, the offset, four rows of zeros. -/
theorem small_read (hE : ∀ b (s : Fin 2048), val_main_v36 (F := Ideal) x0 x1 x2 x3 (ix3 b s c) = e b s.val l) (hX : ∀ b, Holds x1 (X b) b c l) (j : Fin 8) :
    val_main_v82 (F := Ideal) x0 x1 x2 x3 (ix2 j c) = ∑ b : Fin 2, ∑ s : Fin 2048, term (X b) (e b) j s.val l := by
  unfold val_main_v82
  pointwise
  have hj := j.isLt
  by_cases h : j.val < 3
  · rw [dif_pos h]
    exact taps_read x0 x1 x2 x3 X c l e hE hX ⟨j.val, h⟩
  · rw [dif_neg h]
    by_cases h3 : j.val = 3
    · rw [dif_pos (by omega)]
      refine Eq.trans ?_ ((sum_offset x0 x1 x2 x3 X c l e hE hX).trans ?_)
      · unfold val_main_v80
        pointwise
        done
      · obtain rfl : j = 3 := Fin.ext h3
        rfl
    · rw [dif_neg (by omega)]
      have z : ∀ b (s : ℕ), term (X b) (e b) j s l = 0 := by
        intro b s
        rcases (by omega : j.val = 4 ∨ j.val = 5 ∨ j.val = 6 ∨ j.val = 7) with q | q | q | q
        · obtain rfl : j = 4 := Fin.ext q
          rfl
        · obtain rfl : j = 5 := Fin.ext q
          rfl
        · obtain rfl : j = 6 := Fin.ext q
          rfl
        · obtain rfl : j = 7 := Fin.ext q
          rfl
      simp only [z, Finset.sum_const_zero]
      unfold val_main_v81
      pointwise
      exact zero_scalar _ rfl _

/-- The gradient of the wide array, at its row and column. -/
theorem wide_read (hE : ∀ b (s : Fin 2048), val_main_v36 (F := Ideal) x0 x1 x2 x3 (ix3 b s c) = e b s.val l) (hW : HoldsW x2 W c l) (s : Fin 2048) :
    val_main_v73 (F := Ideal) x0 x1 x2 x3 (ix2 ⟨2048 * b.val + s.val, by omega⟩ c) = spread (e b) W s.val l := by
  rw [val_main_v73_apply]
  refine Eq.trans (congrArg _ (funext fun a => ?_)) (spread_read x0 x1 x2 x3 W b c l e hE hW s)
  fin_cases a <;> (refine Fin.ext ?_) <;> simp [idx_main_v73, ix2, ix3] <;> omega

theorem halves_low (r : Fin 4096) (k : Fin 11264) :
    val_main_v79 (F := Ideal) x0 x1 x2 x3 (ix3 0 r k) = val_main_v73 (F := Ideal) x0 x1 x2 x3 (ix2 r (low k)) := by
  unfold val_main_v79 val_main_v78
  pointwise
  unfold val_main_v76 val_main_v74
  pointwise
  refine congrArg _ ?_
  simp [low]

theorem halves_high (r : Fin 4096) (k : Fin 11264) :
    val_main_v79 (F := Ideal) x0 x1 x2 x3 (ix3 1 r k) = val_main_v73 (F := Ideal) x0 x1 x2 x3 (ix2 r (high k)) := by
  unfold val_main_v79 val_main_v78
  pointwise
  unfold val_main_v77 val_main_v75
  pointwise
  refine congrArg _ ?_
  simp [high]

theorem small_low (j : Fin 8) (k : Fin 11264) :
    val_main_v83 (F := Ideal) x0 x1 x2 x3 (ix2 j k) = val_main_v82 (F := Ideal) x0 x1 x2 x3 (ix2 j (low k)) := by
  unfold val_main_v83
  pointwise
  refine congrArg _ ?_
  simp [low]

theorem small_high (j : Fin 8) (k : Fin 11264) :
    val_main_v84 (F := Ideal) x0 x1 x2 x3 (ix2 j k) = val_main_v82 (F := Ideal) x0 x1 x2 x3 (ix2 j (high k)) := by
  unfold val_main_v84
  pointwise
  refine congrArg _ ?_
  simp [high]

end Whole

end Cert.ReferenceIdeal
-- ==== Proof.FfnTrip.lean ====
module

public import proofs.«01_k».proof.Proof.Gen.KernelIdeal.Loops
public import proofs.«01_k».proof.Proof.FfnBlock
public import proofs.«01_k».proof.Proof.Gen.KernelIdeal.Launch
public import proofs.«01_k».proof.Proof.Gen.KernelIdeal.Points
public import proofs.«01_k».proof.Proof.Gen.KernelIdeal.Frame
public import Idealize.ShloMosaic.PureOps.Ideal
public import Idealize.ShloMosaic.PureOps.IdealRules
public import Idealize.ShloMosaic.Lib.Pointwise
public import Idealize.ShloMosaic.Lib.VecWindow
public import Idealize.ShloMosaic.Lib.WritesUnit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal.Gen

theorem gate_tile (a xg xv : Vec Ideal S2048x512 .f32) (wg wv : Vec Ideal S3x512 .f32) (bg bv : Vec Ideal S1x512 .f32) (k : ℕ)
    (A V g v : FVec Ideal S128x512 .f32) (w : Vec Ideal S1x512 .f32) (hA : ∀ r l, A (ix2 r l) = rd a (128 * k + r.val) l)
    (hg : ∀ r l, g (ix2 r l) = conv xg wg bg (128 * k + r.val) l)
    (hv : ∀ r l, v (ix2 r l) + V (ix2 r l) * w (ix2 0 l) = conv xv wv bv (128 * k + r.val) l) (r : Fin 128) (l : Fin 512) :
    k0_pay8 (F := Ideal) V g v w A (ix2 r l) = dgate a xg xv wg wv bg bv (128 * k + r.val) l := by
  unfold_payloads
  pointwise
  rw [hA, hg, hv]
  rfl

theorem value_tile (a xg : Vec Ideal S2048x512 .f32) (wg : Vec Ideal S3x512 .f32) (bg : Vec Ideal S1x512 .f32) (k : ℕ)
    (A g : FVec Ideal S128x512 .f32) (hA : ∀ r l, A (ix2 r l) = rd a (128 * k + r.val) l)
    (hg : ∀ r l, g (ix2 r l) = conv xg wg bg (128 * k + r.val) l) (r : Fin 128) (l : Fin 512) :
    k0_pay9 (F := Ideal) g A (ix2 r l) = dval a xg wg bg (128 * k + r.val) l := by
  unfold_payloads
  pointwise
  rw [hA, hg]
  rfl

/-- A row of the small gradients after a trip: what it held, and the sum over the trip's rows of a product. -/
theorem small_product (x d : FVec Ideal S128x512 .f32) (o : Vec Ideal S1x512 .f32) (S : Vec Ideal S8x512 .f32) (j : Fin 8) (l : Fin 512)
    (A : EReal) (f : ℕ → EReal) (k : ℕ) (ho : o (ix2 0 l) = S (ix2 j l)) (hS : S (ix2 j l) = A + ∑ r ∈ Finset.range (128 * k), f r)
    (hf : ∀ r : Fin 128, x (ix2 r l) * d (ix2 r l) = f (128 * k + r.val)) :
    k0_pay14 (F := Ideal) x d o (ix2 0 l) = A + ∑ r ∈ Finset.range (128 * (k + 1)), f r := by
  unfold k0_pay14
  pointwise
  rw [ho, hS, sum_trip, add_assoc]
  exact congrArg (fun s => A + (_ + s)) (Finset.sum_congr rfl fun r _ => hf r)

/-- The same of a plain sum. -/
theorem small_sum (d : FVec Ideal S128x512 .f32) (o : Vec Ideal S1x512 .f32) (S : Vec Ideal S8x512 .f32) (j : Fin 8) (l : Fin 512)
    (A : EReal) (f : ℕ → EReal) (k : ℕ) (ho : o (ix2 0 l) = S (ix2 j l)) (hS : S (ix2 j l) = A + ∑ r ∈ Finset.range (128 * k), f r)
    (hf : ∀ r : Fin 128, d (ix2 r l) = f (128 * k + r.val)) :
    k0_pay15 (F := Ideal) d o (ix2 0 l) = A + ∑ r ∈ Finset.range (128 * (k + 1)), f r := by
  unfold k0_pay15
  pointwise
  rw [ho, hS, sum_trip, add_assoc]
  exact congrArg (fun s => A + (_ + s)) (Finset.sum_congr rfl fun r _ => hf r)

set_option maxHeartbeats 2000000 in
theorem trip_step (𝒱 : Variants) (c : Dev nD) (bd : Option 𝒱.V) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x2048x512 .bf16) (harg9 : arg9.IsWhole) (arg10 : Memref sig .tc .vmem S8x512 .f32) (harg10 : arg10.IsWhole) (arg11 : Memref sig .tc .vmem S8x512 .f32) (harg11 : arg11.IsWhole) (arg12 : Memref sig .tc .vmem S2056x512 .f32) (harg12 : arg12.IsWhole) (arg13 : Memref sig .tc .vmem S2056x512 .f32) (harg13 : arg13.IsWhole) (arg14 : Memref sig .tc .vmem S8x512 .f32) (harg14 : arg14.IsWhole) (arg15 : Memref sig .tc .vmem S8x512 .f32) (harg15 : arg15.IsWhole) (v0 v1 : Vec Ideal S1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (Ag Av : Vec Ideal S8x512 .f32) (k : Fin k0_t1_loop.trips) (acc : FVec Ideal S8x512 .f32 × FVec Ideal S8x512 .f32)
    (f12 : BufTy.Contents (Elt Ideal) arg12.view.ty) (f13 : BufTy.Contents (Elt Ideal) arg13.view.ty) (f14 : BufTy.Contents (Elt Ideal) arg14.view.ty) (f15 : BufTy.Contents (Elt Ideal) arg15.view.ty)
    (H : Before (arg2.view.read (Elt Ideal) X2) (arg3.view.read (Elt Ideal) X3) (arg4.view.read (Elt Ideal) X4) (arg5.view.read (Elt Ideal) X5) (arg6.view.read (Elt Ideal) X6) v0 v1 Ag Av k.val acc (arg12.view.read (Elt Ideal) f12) (arg13.view.read (Elt Ideal) f13) (arg14.view.read (Elt Ideal) f14) (arg15.view.read (Elt Ideal) f15)) :
    Before (arg2.view.read (Elt Ideal) X2) (arg3.view.read (Elt Ideal) X3) (arg4.view.read (Elt Ideal) X4) (arg5.view.read (Elt Ideal) X5) (arg6.view.read (Elt Ideal) X6) v0 v1 Ag Av (k.val + 1)
      (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 k acc f12 f13 f14 f15)
      (arg12.view.read (Elt Ideal) (arg12.view.writes (Elt Ideal) f12 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 k acc f12 f13 f14 f15).1))
      (arg13.view.read (Elt Ideal) (arg13.view.writes (Elt Ideal) f13 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 k acc f12 f13 f14 f15).2.1))
      (arg14.view.read (Elt Ideal) (arg14.view.writes (Elt Ideal) f14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 k acc f12 f13 f14 f15).2.2.1))
      (arg15.view.read (Elt Ideal) (arg15.view.writes (Elt Ideal) f15 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 k acc f12 f13 f14 f15).2.2.2)) := by
  have hk : k.val < 16 := Nat.lt_of_lt_of_le k.isLt k0_t1_abs.2.1
  have ta := load_rows arg2 X2 k
  have tg := load_rows arg3 X3 k
  have tv := load_rows arg4 X4 k
  have g := conv_gate acc.1 _ _ k.val H.cg tg v0 _ _ _ _ (load_tap arg5 X5 0 inb_S3x512_S1x512_0_0) (load_tap arg5 X5 1 inb_S3x512_S1x512_1_0) (load_tap arg5 X5 2 inb_S3x512_S1x512_2_0)
  have v := conv_value acc.2 _ _ k.val H.cv tv v1 _ _ _ _ (load_tap arg6 X6 0 inb_S3x512_S1x512_0_0) (load_tap arg6 X6 1 inb_S3x512_S1x512_1_0) (load_tap arg6 X6 2 inb_S3x512_S1x512_2_0)
  have dg := gate_tile _ _ _ _ _ _ _ k.val _ _ _ _ _ ta g v
  have dv := value_tile _ _ _ _ k.val _ _ ta g
  refine ⟨?_, ?_, ?_, ?_, ?_, ?_, ?_, ?_⟩
  · unfold tripR_k0_t1 trip_k0_t1
    exact carried _ _ k.val tg
  · unfold tripR_k0_t1 trip_k0_t1
    exact carried _ _ k.val tv
  · intro r l hr
    unfold tripL_k0_t1 trip_k0_t1
    refine (read_tile_rows arg12 f12 k _ r l).trans ?_
    split_ifs with h
    · unfold k0_pay10
      pointwise
      refine (dg _ _).trans ?_
      congr 1
      show 128 * k.val + (r.val - 128 * k.val) = r.val
      omega
    · exact H.eg r l (by omega)
  · intro r l hr
    unfold tripL_k0_t1 trip_k0_t1
    refine (read_tile_rows arg13 f13 k _ r l).trans ?_
    split_ifs with h
    · unfold k0_pay11
      pointwise
      refine (dv _ _).trans ?_
      congr 1
      show 128 * k.val + (r.val - 128 * k.val) = r.val
      omega
    · exact H.ev r l (by omega)
  · intro r l hr
    unfold tripL_k0_t1 trip_k0_t1
    refine (read_tile_rows arg12 f12 k _ r l).trans ?_
    rw [dif_neg (by omega)]
    exact H.zg r l hr
  · intro r l hr
    unfold tripL_k0_t1 trip_k0_t1
    refine (read_tile_rows arg13 f13 k _ r l).trans ?_
    rw [dif_neg (by omega)]
    exact H.zv r l hr
  · intro j l
    unfold tripL_k0_t1 trip_k0_t1
    refine (read_four_rows arg14 f14 _ _ _ _ _ _ _ _ j l).trans ?_
    fin_cases j
    · exact small_product _ _ _ _ 0 l _ _ k.val (load_small arg14 f14 0 inb_S8x512_S1x512_0_0 l) (H.sg 0 l)
        fun r => congrArg₂ (· * ·) (shift2 acc.1 _ _ k.val H.cg tg r l) (dg r l)
    · exact small_product _ _ _ _ 1 l _ _ k.val (load_small arg14 f14 1 inb_S8x512_S1x512_1_0 l) (H.sg 1 l)
        fun r => congrArg₂ (· * ·) (shift1 acc.1 _ _ k.val H.cg tg r l) (dg r l)
    · exact small_product _ _ _ _ 2 l _ _ k.val (load_small arg14 f14 2 inb_S8x512_S1x512_2_0 l) (H.sg 2 l)
        fun r => congrArg₂ (· * ·) (tg r l) (dg r l)
    · exact small_sum _ _ _ 3 l _ _ k.val (load_small arg14 f14 3 inb_S8x512_S1x512_3_0 l) (H.sg 3 l) fun r => dg r l
    all_goals
      refine (H.sg _ l).trans ?_
      simp [term]
  · intro j l
    unfold tripL_k0_t1 trip_k0_t1
    refine (read_four_rows arg15 f15 _ _ _ _ _ _ _ _ j l).trans ?_
    fin_cases j
    · exact small_product _ _ _ _ 0 l _ _ k.val (load_small arg15 f15 0 inb_S8x512_S1x512_0_0 l) (H.sv 0 l)
        fun r => congrArg₂ (· * ·) (shift2 acc.2 _ _ k.val H.cv tv r l) (dv r l)
    · exact small_product _ _ _ _ 1 l _ _ k.val (load_small arg15 f15 1 inb_S8x512_S1x512_1_0 l) (H.sv 1 l)
        fun r => congrArg₂ (· * ·) (shift1 acc.2 _ _ k.val H.cv tv r l) (dv r l)
    · exact small_product _ _ _ _ 2 l _ _ k.val (load_small arg15 f15 2 inb_S8x512_S1x512_2_0 l) (H.sv 2 l)
        fun r => congrArg₂ (· * ·) (tv r l) (dv r l)
    · exact small_sum _ _ _ 3 l _ _ k.val (load_small arg15 f15 3 inb_S8x512_S1x512_3_0 l) (H.sv 3 l) fun r => dv r l
    all_goals
      refine (H.sv _ l).trans ?_
      simp [term]

theorem loop_holds (𝒱 : Variants) (c : Dev nD) (bd : Option 𝒱.V) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x2048x512 .bf16) (harg9 : arg9.IsWhole) (arg10 : Memref sig .tc .vmem S8x512 .f32) (harg10 : arg10.IsWhole) (arg11 : Memref sig .tc .vmem S8x512 .f32) (harg11 : arg11.IsWhole) (arg12 : Memref sig .tc .vmem S2056x512 .f32) (harg12 : arg12.IsWhole) (arg13 : Memref sig .tc .vmem S2056x512 .f32) (harg13 : arg13.IsWhole) (arg14 : Memref sig .tc .vmem S8x512 .f32) (harg14 : arg14.IsWhole) (arg15 : Memref sig .tc .vmem S8x512 .f32) (harg15 : arg15.IsWhole) (v0 v1 : Vec Ideal S1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (Ag Av : Vec Ideal S8x512 .f32) (init : FVec Ideal S8x512 .f32 × FVec Ideal S8x512 .f32)
    (G12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (H : Before (arg2.view.read (Elt Ideal) X2) (arg3.view.read (Elt Ideal) X3) (arg4.view.read (Elt Ideal) X4) (arg5.view.read (Elt Ideal) X5) (arg6.view.read (Elt Ideal) X6) v0 v1 Ag Av 0 init (arg12.view.read (Elt Ideal) G12) (arg13.view.read (Elt Ideal) G13) (arg14.view.read (Elt Ideal) G14) (arg15.view.read (Elt Ideal) G15)) (k : ℕ) (hk : k ≤ k0_t1_loop.trips) :
    Before (arg2.view.read (Elt Ideal) X2) (arg3.view.read (Elt Ideal) X3) (arg4.view.read (Elt Ideal) X4) (arg5.view.read (Elt Ideal) X5) (arg6.view.read (Elt Ideal) X6) v0 v1 Ag Av k (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 G12 G13 G14 G15 init k).1
      (arg12.view.read (Elt Ideal) (arg12.view.writes (Elt Ideal) G12 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 G12 G13 G14 G15 init k).2.1))
      (arg13.view.read (Elt Ideal) (arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 G12 G13 G14 G15 init k).2.2.1))
      (arg14.view.read (Elt Ideal) (arg14.view.writes (Elt Ideal) G14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 G12 G13 G14 G15 init k).2.2.2.1))
      (arg15.view.read (Elt Ideal) (arg15.view.writes (Elt Ideal) G15 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 G12 G13 G14 G15 init k).2.2.2.2)) := by
  induction k with
  | zero =>
    rw [st_k0_t1_zero]
    exact H
  | succ k ih =>
    have hk' : k < k0_t1_loop.trips := hk
    have h := trip_step 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 Ag Av ⟨k, hk'⟩ _ _ _ _ _ (ih (by omega))
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 G12 G13 G14 G15 init ⟨k, hk'⟩]
    simp only [View.writes_append]
    exact h

end Cert.KernelIdeal
-- ==== Proof.FfnSpread.lean ====
module

public import proofs.«01_k».proof.Proof.Gen.KernelIdeal.Loops
public import proofs.«01_k».proof.Proof.FfnTrip
public import proofs.«01_k».proof.Proof.Gen.KernelIdeal.Launch
public import proofs.«01_k».proof.Proof.Gen.KernelIdeal.Points
public import proofs.«01_k».proof.Proof.Gen.KernelIdeal.Frame
public import Idealize.ShloMosaic.PureOps.Ideal
public import Idealize.ShloMosaic.PureOps.IdealRules
public import Idealize.ShloMosaic.Lib.Pointwise
public import Idealize.ShloMosaic.Lib.VecWindow
public import Idealize.ShloMosaic.Lib.WritesUnit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384
open Cert.KernelIdeal.Gen

/-! ## The rows spread back over the taps -/

/-- The block of input gradients: half 0 belongs to the gate, half 1 to the value. -/
def dupBlock (a xg xv : Vec Ideal S2048x512 .f32) (wg wv : Vec Ideal S3x512 .f32) (bg bv : Vec Ideal S1x512 .f32) : Vec Ideal S2x2048x512 .bf16 :=
  fun y => if (y 0).val = 0 then spread (dgate a xg xv wg wv bg bv) wg (y 1).val (y 2) else spread (dval a xg wg bg) wv (y 1).val (y 2)

/-- What one sequence adds to the small gradients of the gate half. -/
def smallGate (a xg xv : Vec Ideal S2048x512 .f32) (wg wv : Vec Ideal S3x512 .f32) (bg bv : Vec Ideal S1x512 .f32) (A : Vec Ideal S8x512 .f32) : Vec Ideal S8x512 .f32 :=
  fun y => A y + ∑ r ∈ Finset.range 2048, term xg (dgate a xg xv wg wv bg bv) (y 0) r (y 1)

/-- What one sequence adds to the small gradients of the value half. -/
def smallValue (a xg xv : Vec Ideal S2048x512 .f32) (wg : Vec Ideal S3x512 .f32) (bg : Vec Ideal S1x512 .f32) (A : Vec Ideal S8x512 .f32) : Vec Ideal S8x512 .f32 :=
  fun y => A y + ∑ r ∈ Finset.range 2048, term xv (dval a xg wg bg) (y 0) r (y 1)

/-- A load of 128 rows at a fixed row. -/
theorem load_spread (m : Memref sig .tc .vmem S2056x512 .f32) (F : BufTy.Contents (Elt Ideal) m.view.ty) (o : ℕ)
    (h : ∀ b, (![o, 0] : Fin 2 → ℕ) b + S128x512.size b ≤ S2056x512.size b) (e : ℕ → Fin 512 → EReal)
    (hF : ∀ (r : Fin 2056) l, m.view.read (Elt Ideal) F (ix2 r l) = pad e r.val l) (r : Fin 128) (l : Fin 512) :
    m.view.readAt (Elt Ideal) (Rect.unit (s := S2056x512) ![o, 0] S128x512.size h).toLoadRect F (ix2 r l) = pad e (o + r.val) l := by
  have hb : o + 128 ≤ 2056 := h 0
  have hr := r.isLt
  refine Eq.trans ?_ (hF ⟨o + r.val, by omega⟩ l)
  refine congrArg (m.view.read (Elt Ideal) F) (funext fun b => ?_)
  fin_cases b <;> (refine Fin.ext ?_) <;> simp [Rect.unit, ix2]

/-- One store of 128 rows of the input gradient. -/
theorem spread_piece (m : Memref sig .tc .vmem S2056x512 .f32) (F : BufTy.Contents (Elt Ideal) m.view.ty)
    (n : Memref sig .tc .vmem S3x512 .f32) (X : BufTy.Contents (Elt Ideal) n.view.ty) (o : ℕ)
    (h0 : ∀ b, (![o, 0] : Fin 2 → ℕ) b + S128x512.size b ≤ S2056x512.size b)
    (h1 : ∀ b, (![o + 1, 0] : Fin 2 → ℕ) b + S128x512.size b ≤ S2056x512.size b)
    (h2 : ∀ b, (![o + 2, 0] : Fin 2 → ℕ) b + S128x512.size b ≤ S2056x512.size b) (e : ℕ → Fin 512 → EReal)
    (hF : ∀ (r : Fin 2056) l, m.view.read (Elt Ideal) F (ix2 r l) = pad e r.val l) (y : S1x128x512.Idx) :
    k0_pay30 (F := Ideal) (m.view.readAt (Elt Ideal) (Rect.unit (s := S2056x512) ![o, 0] S128x512.size h0).toLoadRect F)
      (m.view.readAt (Elt Ideal) (Rect.unit (s := S2056x512) ![o + 1, 0] S128x512.size h1).toLoadRect F)
      (m.view.readAt (Elt Ideal) (Rect.unit (s := S2056x512) ![o + 2, 0] S128x512.size h2).toLoadRect F)
      (n.view.readAt (Elt Ideal) (Rect.unit (s := S3x512) ![2, 0] S1x512.size inb_S3x512_S1x512_2_0).toLoadRect X)
      (n.view.readAt (Elt Ideal) (Rect.unit (s := S3x512) ![1, 0] S1x512.size inb_S3x512_S1x512_1_0).toLoadRect X)
      (n.view.readAt (Elt Ideal) (Rect.unit (s := S3x512) ![0, 0] S1x512.size inb_S3x512_S1x512_0_0).toLoadRect X) y
      = spread e (n.view.read (Elt Ideal) X) (o + (y 1).val) (y 2) := by
  obtain ⟨u, r, l, rfl⟩ : ∃ (u : Fin 1) (r : Fin 128) (l : Fin 512), y = ix3 u r l :=
    ⟨y 0, y 1, y 2, funext fun b => by fin_cases b <;> rfl⟩
  unfold k0_pay30
  pointwise
  show _ = spread e (n.view.read (Elt Ideal) X) (o + r.val) l
  unfold spread
  have e1 := load_spread m F (o + 1) h1 e hF r l
  have e2 := load_spread m F (o + 2) h2 e hF r l
  rw [show o + 1 + r.val = o + r.val + 1 by omega] at e1
  rw [show o + 2 + r.val = o + r.val + 2 by omega] at e2
  exact congrArg₂ (· + ·) (congrArg₂ (· + ·) (congrArg₂ (· * ·) (load_spread m F o h0 e hF r l) (load_tap n X 2 inb_S3x512_S1x512_2_0 l))
    (congrArg₂ (· * ·) e1 (load_tap n X 1 inb_S3x512_S1x512_1_0 l))) (congrArg₂ (· * ·) e2 (load_tap n X 0 inb_S3x512_S1x512_0_0 l))

theorem piece_eq_0 (o : ℕ) (h : ∀ b, (![0, o, 0] : Fin 3 → ℕ) b + S1x128x512.size b ≤ S2x2048x512.size b) (P Q : ℕ → Fin 512 → EReal) (x : S1x128x512.Idx) :
    (fun y : S2x2048x512.Idx => if (y 0).val = 0 then P (y 1).val (y 2) else Q (y 1).val (y 2)) ((Rect.unit (s := S2x2048x512) ![0, o, 0] S1x128x512.size h).emb x)
      = P (o + (x 1).val) (x 2) := by
  have hx : (x 0).val = 0 := by have := (x 0).isLt; change (x 0).val < 1 at this; omega
  have e0 : (((Rect.unit (s := S2x2048x512) ![0, o, 0] S1x128x512.size h).emb x) 0).val = 0 := by simp [Rect.emb, Rect.unit, hx]
  have e1 : (((Rect.unit (s := S2x2048x512) ![0, o, 0] S1x128x512.size h).emb x) 1).val = o + (x 1).val := by simp [Rect.emb, Rect.unit]
  have e2 : (((Rect.unit (s := S2x2048x512) ![0, o, 0] S1x128x512.size h).emb x) 2) = x 2 := by apply Fin.ext; simp [Rect.emb, Rect.unit]
  show (if _ then _ else _) = _
  rw [if_pos e0, e1, e2]

theorem piece_eq_1 (o : ℕ) (h : ∀ b, (![1, o, 0] : Fin 3 → ℕ) b + S1x128x512.size b ≤ S2x2048x512.size b) (P Q : ℕ → Fin 512 → EReal) (x : S1x128x512.Idx) :
    (fun y : S2x2048x512.Idx => if (y 0).val = 0 then P (y 1).val (y 2) else Q (y 1).val (y 2)) ((Rect.unit (s := S2x2048x512) ![1, o, 0] S1x128x512.size h).emb x)
      = Q (o + (x 1).val) (x 2) := by
  have e0 : ¬ (((Rect.unit (s := S2x2048x512) ![1, o, 0] S1x128x512.size h).emb x) 0).val = 0 := by simp [Rect.emb, Rect.unit]
  have e1 : (((Rect.unit (s := S2x2048x512) ![1, o, 0] S1x128x512.size h).emb x) 1).val = o + (x 1).val := by simp [Rect.emb, Rect.unit]
  have e2 : (((Rect.unit (s := S2x2048x512) ![1, o, 0] S1x128x512.size h).emb x) 2) = x 2 := by apply Fin.ext; simp [Rect.emb, Rect.unit]
  show (if _ then _ else _) = _
  rw [if_neg e0, e1, e2]

theorem dup_of_pieces (m9 : Memref sig .tc .vmem S2x2048x512 .bf16) (f9 : BufTy.Contents (Elt Ideal) m9.view.ty) (m12 m13 : Memref sig .tc .vmem S2056x512 .f32) (m5 m6 : Memref sig .tc .vmem S3x512 .f32)
    (F12 : BufTy.Contents (Elt Ideal) m12.view.ty) (F13 : BufTy.Contents (Elt Ideal) m13.view.ty) (X5 : BufTy.Contents (Elt Ideal) m5.view.ty) (X6 : BufTy.Contents (Elt Ideal) m6.view.ty)
    (eg ev : ℕ → Fin 512 → EReal) (hg : ∀ (r : Fin 2056) l, m12.view.read (Elt Ideal) F12 (ix2 r l) = pad eg r.val l)
    (hv : ∀ (r : Fin 2056) l, m13.view.read (Elt Ideal) F13 (ix2 r l) = pad ev r.val l) :
    m9.view.read (Elt Ideal) (m9.view.writes (Elt Ideal) f9 [
    ⟨Rect.unit (s := S2x2048x512) ![1, 1920, 0] S1x128x512.size inb_S2x2048x512_S1x128x512_1_1920_0,
      k0_pay30 (m13.view.readAt (Elt Ideal) (Rect.unit (s := S2056x512) ![1920, 0] S128x512.size inb_S2056x512_S128x512_1920_0).toLoadRect F13) (m13.view.readAt (Elt Ideal) (Rect.unit (s := S2056x512) ![1921, 0] S128x512.size inb_S2056x512_S128x512_1921_0).toLoadRect F13) (m13.view.readAt (Elt Ideal) (Rect.unit (s := S2056x512) ![1922, 0] S128x512.size inb_S2056x512_S128x512_1922_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 1920, 0] S1x128x512.size inb_S2x2048x512_S1x128x512_0_1920_0,
      k0_pay30 (m12.view.readAt (Elt Ideal) (Rect.unit (s := S2056x512) ![1920, 0] S128x512.size inb_S2056x512_S128x512_1920_0).toLoadRect F12) (m12.view.readAt (Elt Ideal) (Rect.unit (s := S2056x512) ![1921, 0] S128x512.size inb_S2056x512_S128x512_1921_0).toLoadRect F12) (m12.view.readAt (Elt Ideal) (Rect.unit (s := S2056x512) ![1922, 0] S128x512.size inb_S2056x512_S128x512_1922_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 1792, 0] S1x128x512.size inb_S2x2048x512_S1x128x512_1_1792_0,
      k0_pay30 (m13.view.readAt (Elt Ideal) (Rect.unit (s := S2056x512) ![1792, 0] S128x512.size inb_S2056x512_S128x512_1792_0).toLoadRect F13) (m13.view.readAt (Elt Ideal) (Rect.unit (s := S2056x512) ![1793, 0] S128x512.size inb_S2056x512_S128x512_1793_0).toLoadRect F13) (m13.view.readAt (Elt Ideal) (Rect.unit (s := S2056x512) ![1794, 0] S128x512.size inb_S2056x512_S128x512_1794_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 1792, 0] S1x128x512.size inb_S2x2048x512_S1x128x512_0_1792_0,
      k0_pay30 (m12.view.readAt (Elt Ideal) (Rect.unit (s := S2056x512) ![1792, 0] S128x512.size inb_S2056x512_S128x512_1792_0).toLoadRect F12) (m12.view.readAt (Elt Ideal) (Rect.unit (s := S2056x512) ![1793, 0] S128x512.size inb_S2056x512_S128x512_1793_0).toLoadRect F12) (m12.view.readAt (Elt Ideal) (Rect.unit (s := S2056x512) ![1794, 0] S128x512.size inb_S2056x512_S128x512_1794_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 1664, 0] S1x128x512.size inb_S2x2048x512_S1x128x512_1_1664_0,
      k0_pay30 (m13.view.readAt (Elt Ideal) (Rect.unit (s := S2056x512) ![1664, 0] S128x512.size inb_S2056x512_S128x512_1664_0).toLoadRect F13) (m13.view.readAt (Elt Ideal) (Rect.unit (s := S2056x512) ![1665, 0] S128x512.size inb_S2056x512_S128x512_1665_0).toLoadRect F13) (m13.view.readAt (Elt Ideal) (Rect.unit (s := S2056x512) ![1666, 0] S128x512.size inb_S2056x512_S128x512_1666_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 1664, 0] S1x128x512.size inb_S2x2048x512_S1x128x512_0_1664_0,
      k0_pay30 (m12.view.readAt (Elt Ideal) (Rect.unit (s := S2056x512) ![1664, 0] S128x512.size inb_S2056x512_S128x512_1664_0).toLoadRect F12) (m12.view.readAt (Elt Ideal) (Rect.unit (s := S2056x512) ![1665, 0] S128x512.size inb_S2056x512_S128x512_1665_0).toLoadRect F12) (m12.view.readAt (Elt Ideal) (Rect.unit (s := S2056x512) ![1666, 0] S128x512.size inb_S2056x512_S128x512_1666_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 1536, 0] S1x128x512.size inb_S2x2048x512_S1x128x512_1_1536_0,
      k0_pay30 (m13.view.readAt (Elt Ideal) (Rect.unit (s := S2056x512) ![1536, 0] S128x512.size inb_S2056x512_S128x512_1536_0).toLoadRect F13) (m13.view.readAt (Elt Ideal) (Rect.unit (s := S2056x512) ![1537, 0] S128x512.size inb_S2056x512_S128x512_1537_0).toLoadRect F13) (m13.view.readAt (Elt Ideal) (Rect.unit (s := S2056x512) ![1538, 0] S128x512.size inb_S2056x512_S128x512_1538_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 1536, 0] S1x128x512.size inb_S2x2048x512_S1x128x512_0_1536_0,
      k0_pay30 (m12.view.readAt (Elt Ideal) (Rect.unit (s := S2056x512) ![1536, 0] S128x512.size inb_S2056x512_S128x512_1536_0).toLoadRect F12) (m12.view.readAt (Elt Ideal) (Rect.unit (s := S2056x512) ![1537, 0] S128x512.size inb_S2056x512_S128x512_1537_0).toLoadRect F12) (m12.view.readAt (Elt Ideal) (Rect.unit (s := S2056x512) ![1538, 0] S128x512.size inb_S2056x512_S128x512_1538_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 1408, 0] S1x128x512.size inb_S2x2048x512_S1x128x512_1_1408_0,
      k0_pay30 (m13.view.readAt (Elt Ideal) (Rect.unit (s := S2056x512) ![1408, 0] S128x512.size inb_S2056x512_S128x512_1408_0).toLoadRect F13) (m13.view.readAt (Elt Ideal) (Rect.unit (s := S2056x512) ![1409, 0] S128x512.size inb_S2056x512_S128x512_1409_0).toLoadRect F13) (m13.view.readAt (Elt Ideal) (Rect.unit (s := S2056x512) ![1410, 0] S128x512.size inb_S2056x512_S128x512_1410_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 1408, 0] S1x128x512.size inb_S2x2048x512_S1x128x512_0_1408_0,
      k0_pay30 (m12.view.readAt (Elt Ideal) (Rect.unit (s := S2056x512) ![1408, 0] S128x512.size inb_S2056x512_S128x512_1408_0).toLoadRect F12) (m12.view.readAt (Elt Ideal) (Rect.unit (s := S2056x512) ![1409, 0] S128x512.size inb_S2056x512_S128x512_1409_0).toLoadRect F12) (m12.view.readAt (Elt Ideal) (Rect.unit (s := S2056x512) ![1410, 0] S128x512.size inb_S2056x512_S128x512_1410_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 1280, 0] S1x128x512.size inb_S2x2048x512_S1x128x512_1_1280_0,
      k0_pay30 (m13.view.readAt (Elt Ideal) (Rect.unit (s := S2056x512) ![1280, 0] S128x512.size inb_S2056x512_S128x512_1280_0).toLoadRect F13) (m13.view.readAt (Elt Ideal) (Rect.unit (s := S2056x512) ![1281, 0] S128x512.size inb_S2056x512_S128x512_1281_0).toLoadRect F13) (m13.view.readAt (Elt Ideal) (Rect.unit (s := S2056x512) ![1282, 0] S128x512.size inb_S2056x512_S128x512_1282_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 1280, 0] S1x128x512.size inb_S2x2048x512_S1x128x512_0_1280_0,
      k0_pay30 (m12.view.readAt (Elt Ideal) (Rect.unit (s := S2056x512) ![1280, 0] S128x512.size inb_S2056x512_S128x512_1280_0).toLoadRect F12) (m12.view.readAt (Elt Ideal) (Rect.unit (s := S2056x512) ![1281, 0] S128x512.size inb_S2056x512_S128x512_1281_0).toLoadRect F12) (m12.view.readAt (Elt Ideal) (Rect.unit (s := S2056x512) ![1282, 0] S128x512.size inb_S2056x512_S128x512_1282_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 1152, 0] S1x128x512.size inb_S2x2048x512_S1x128x512_1_1152_0,
      k0_pay30 (m13.view.readAt (Elt Ideal) (Rect.unit (s := S2056x512) ![1152, 0] S128x512.size inb_S2056x512_S128x512_1152_0).toLoadRect F13) (m13.view.readAt (Elt Ideal) (Rect.unit (s := S2056x512) ![1153, 0] S128x512.size inb_S2056x512_S128x512_1153_0).toLoadRect F13) (m13.view.readAt (Elt Ideal) (Rect.unit (s := S2056x512) ![1154, 0] S128x512.size inb_S2056x512_S128x512_1154_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 1152, 0] S1x128x512.size inb_S2x2048x512_S1x128x512_0_1152_0,
      k0_pay30 (m12.view.readAt (Elt Ideal) (Rect.unit (s := S2056x512) ![1152, 0] S128x512.size inb_S2056x512_S128x512_1152_0).toLoadRect F12) (m12.view.readAt (Elt Ideal) (Rect.unit (s := S2056x512) ![1153, 0] S128x512.size inb_S2056x512_S128x512_1153_0).toLoadRect F12) (m12.view.readAt (Elt Ideal) (Rect.unit (s := S2056x512) ![1154, 0] S128x512.size inb_S2056x512_S128x512_1154_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 1024, 0] S1x128x512.size inb_S2x2048x512_S1x128x512_1_1024_0,
      k0_pay30 (m13.view.readAt (Elt Ideal) (Rect.unit (s := S2056x512) ![1024, 0] S128x512.size inb_S2056x512_S128x512_1024_0).toLoadRect F13) (m13.view.readAt (Elt Ideal) (Rect.unit (s := S2056x512) ![1025, 0] S128x512.size inb_S2056x512_S128x512_1025_0).toLoadRect F13) (m13.view.readAt (Elt Ideal) (Rect.unit (s := S2056x512) ![1026, 0] S128x512.size inb_S2056x512_S128x512_1026_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 1024, 0] S1x128x512.size inb_S2x2048x512_S1x128x512_0_1024_0,
      k0_pay30 (m12.view.readAt (Elt Ideal) (Rect.unit (s := S2056x512) ![1024, 0] S128x512.size inb_S2056x512_S128x512_1024_0).toLoadRect F12) (m12.view.readAt (Elt Ideal) (Rect.unit (s := S2056x512) ![1025, 0] S128x512.size inb_S2056x512_S128x512_1025_0).toLoadRect F12) (m12.view.readAt (Elt Ideal) (Rect.unit (s := S2056x512) ![1026, 0] S128x512.size inb_S2056x512_S128x512_1026_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 896, 0] S1x128x512.size inb_S2x2048x512_S1x128x512_1_896_0,
      k0_pay30 (m13.view.readAt (Elt Ideal) (Rect.unit (s := S2056x512) ![896, 0] S128x512.size inb_S2056x512_S128x512_896_0).toLoadRect F13) (m13.view.readAt (Elt Ideal) (Rect.unit (s := S2056x512) ![897, 0] S128x512.size inb_S2056x512_S128x512_897_0).toLoadRect F13) (m13.view.readAt (Elt Ideal) (Rect.unit (s := S2056x512) ![898, 0] S128x512.size inb_S2056x512_S128x512_898_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 896, 0] S1x128x512.size inb_S2x2048x512_S1x128x512_0_896_0,
      k0_pay30 (m12.view.readAt (Elt Ideal) (Rect.unit (s := S2056x512) ![896, 0] S128x512.size inb_S2056x512_S128x512_896_0).toLoadRect F12) (m12.view.readAt (Elt Ideal) (Rect.unit (s := S2056x512) ![897, 0] S128x512.size inb_S2056x512_S128x512_897_0).toLoadRect F12) (m12.view.readAt (Elt Ideal) (Rect.unit (s := S2056x512) ![898, 0] S128x512.size inb_S2056x512_S128x512_898_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 768, 0] S1x128x512.size inb_S2x2048x512_S1x128x512_1_768_0,
      k0_pay30 (m13.view.readAt (Elt Ideal) (Rect.unit (s := S2056x512) ![768, 0] S128x512.size inb_S2056x512_S128x512_768_0).toLoadRect F13) (m13.view.readAt (Elt Ideal) (Rect.unit (s := S2056x512) ![769, 0] S128x512.size inb_S2056x512_S128x512_769_0).toLoadRect F13) (m13.view.readAt (Elt Ideal) (Rect.unit (s := S2056x512) ![770, 0] S128x512.size inb_S2056x512_S128x512_770_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 768, 0] S1x128x512.size inb_S2x2048x512_S1x128x512_0_768_0,
      k0_pay30 (m12.view.readAt (Elt Ideal) (Rect.unit (s := S2056x512) ![768, 0] S128x512.size inb_S2056x512_S128x512_768_0).toLoadRect F12) (m12.view.readAt (Elt Ideal) (Rect.unit (s := S2056x512) ![769, 0] S128x512.size inb_S2056x512_S128x512_769_0).toLoadRect F12) (m12.view.readAt (Elt Ideal) (Rect.unit (s := S2056x512) ![770, 0] S128x512.size inb_S2056x512_S128x512_770_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 640, 0] S1x128x512.size inb_S2x2048x512_S1x128x512_1_640_0,
      k0_pay30 (m13.view.readAt (Elt Ideal) (Rect.unit (s := S2056x512) ![640, 0] S128x512.size inb_S2056x512_S128x512_640_0).toLoadRect F13) (m13.view.readAt (Elt Ideal) (Rect.unit (s := S2056x512) ![641, 0] S128x512.size inb_S2056x512_S128x512_641_0).toLoadRect F13) (m13.view.readAt (Elt Ideal) (Rect.unit (s := S2056x512) ![642, 0] S128x512.size inb_S2056x512_S128x512_642_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 640, 0] S1x128x512.size inb_S2x2048x512_S1x128x512_0_640_0,
      k0_pay30 (m12.view.readAt (Elt Ideal) (Rect.unit (s := S2056x512) ![640, 0] S128x512.size inb_S2056x512_S128x512_640_0).toLoadRect F12) (m12.view.readAt (Elt Ideal) (Rect.unit (s := S2056x512) ![641, 0] S128x512.size inb_S2056x512_S128x512_641_0).toLoadRect F12) (m12.view.readAt (Elt Ideal) (Rect.unit (s := S2056x512) ![642, 0] S128x512.size inb_S2056x512_S128x512_642_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 512, 0] S1x128x512.size inb_S2x2048x512_S1x128x512_1_512_0,
      k0_pay30 (m13.view.readAt (Elt Ideal) (Rect.unit (s := S2056x512) ![512, 0] S128x512.size inb_S2056x512_S128x512_512_0).toLoadRect F13) (m13.view.readAt (Elt Ideal) (Rect.unit (s := S2056x512) ![513, 0] S128x512.size inb_S2056x512_S128x512_513_0).toLoadRect F13) (m13.view.readAt (Elt Ideal) (Rect.unit (s := S2056x512) ![514, 0] S128x512.size inb_S2056x512_S128x512_514_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 512, 0] S1x128x512.size inb_S2x2048x512_S1x128x512_0_512_0,
      k0_pay30 (m12.view.readAt (Elt Ideal) (Rect.unit (s := S2056x512) ![512, 0] S128x512.size inb_S2056x512_S128x512_512_0).toLoadRect F12) (m12.view.readAt (Elt Ideal) (Rect.unit (s := S2056x512) ![513, 0] S128x512.size inb_S2056x512_S128x512_513_0).toLoadRect F12) (m12.view.readAt (Elt Ideal) (Rect.unit (s := S2056x512) ![514, 0] S128x512.size inb_S2056x512_S128x512_514_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 384, 0] S1x128x512.size inb_S2x2048x512_S1x128x512_1_384_0,
      k0_pay30 (m13.view.readAt (Elt Ideal) (Rect.unit (s := S2056x512) ![384, 0] S128x512.size inb_S2056x512_S128x512_384_0).toLoadRect F13) (m13.view.readAt (Elt Ideal) (Rect.unit (s := S2056x512) ![385, 0] S128x512.size inb_S2056x512_S128x512_385_0).toLoadRect F13) (m13.view.readAt (Elt Ideal) (Rect.unit (s := S2056x512) ![386, 0] S128x512.size inb_S2056x512_S128x512_386_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 384, 0] S1x128x512.size inb_S2x2048x512_S1x128x512_0_384_0,
      k0_pay30 (m12.view.readAt (Elt Ideal) (Rect.unit (s := S2056x512) ![384, 0] S128x512.size inb_S2056x512_S128x512_384_0).toLoadRect F12) (m12.view.readAt (Elt Ideal) (Rect.unit (s := S2056x512) ![385, 0] S128x512.size inb_S2056x512_S128x512_385_0).toLoadRect F12) (m12.view.readAt (Elt Ideal) (Rect.unit (s := S2056x512) ![386, 0] S128x512.size inb_S2056x512_S128x512_386_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 256, 0] S1x128x512.size inb_S2x2048x512_S1x128x512_1_256_0,
      k0_pay30 (m13.view.readAt (Elt Ideal) (Rect.unit (s := S2056x512) ![256, 0] S128x512.size inb_S2056x512_S128x512_256_0).toLoadRect F13) (m13.view.readAt (Elt Ideal) (Rect.unit (s := S2056x512) ![257, 0] S128x512.size inb_S2056x512_S128x512_257_0).toLoadRect F13) (m13.view.readAt (Elt Ideal) (Rect.unit (s := S2056x512) ![258, 0] S128x512.size inb_S2056x512_S128x512_258_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 256, 0] S1x128x512.size inb_S2x2048x512_S1x128x512_0_256_0,
      k0_pay30 (m12.view.readAt (Elt Ideal) (Rect.unit (s := S2056x512) ![256, 0] S128x512.size inb_S2056x512_S128x512_256_0).toLoadRect F12) (m12.view.readAt (Elt Ideal) (Rect.unit (s := S2056x512) ![257, 0] S128x512.size inb_S2056x512_S128x512_257_0).toLoadRect F12) (m12.view.readAt (Elt Ideal) (Rect.unit (s := S2056x512) ![258, 0] S128x512.size inb_S2056x512_S128x512_258_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 128, 0] S1x128x512.size inb_S2x2048x512_S1x128x512_1_128_0,
      k0_pay30 (m13.view.readAt (Elt Ideal) (Rect.unit (s := S2056x512) ![128, 0] S128x512.size inb_S2056x512_S128x512_128_0).toLoadRect F13) (m13.view.readAt (Elt Ideal) (Rect.unit (s := S2056x512) ![129, 0] S128x512.size inb_S2056x512_S128x512_129_0).toLoadRect F13) (m13.view.readAt (Elt Ideal) (Rect.unit (s := S2056x512) ![130, 0] S128x512.size inb_S2056x512_S128x512_130_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 128, 0] S1x128x512.size inb_S2x2048x512_S1x128x512_0_128_0,
      k0_pay30 (m12.view.readAt (Elt Ideal) (Rect.unit (s := S2056x512) ![128, 0] S128x512.size inb_S2056x512_S128x512_128_0).toLoadRect F12) (m12.view.readAt (Elt Ideal) (Rect.unit (s := S2056x512) ![129, 0] S128x512.size inb_S2056x512_S128x512_129_0).toLoadRect F12) (m12.view.readAt (Elt Ideal) (Rect.unit (s := S2056x512) ![130, 0] S128x512.size inb_S2056x512_S128x512_130_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩,
    ⟨Rect.unit (s := S2x2048x512) ![1, 0, 0] S1x128x512.size inb_S2x2048x512_S1x128x512_1_0_0,
      k0_pay30 (m13.view.readAt (Elt Ideal) (Rect.unit (s := S2056x512) ![0, 0] S128x512.size inb_S2056x512_S128x512_0_0).toLoadRect F13) (m13.view.readAt (Elt Ideal) (Rect.unit (s := S2056x512) ![1, 0] S128x512.size inb_S2056x512_S128x512_1_0).toLoadRect F13) (m13.view.readAt (Elt Ideal) (Rect.unit (s := S2056x512) ![2, 0] S128x512.size inb_S2056x512_S128x512_2_0).toLoadRect F13) (m6.view.readAt (Elt Ideal) (Rect.unit (s := S3x512) ![2, 0] S1x512.size inb_S3x512_S1x512_2_0).toLoadRect X6) (m6.view.readAt (Elt Ideal) (Rect.unit (s := S3x512) ![1, 0] S1x512.size inb_S3x512_S1x512_1_0).toLoadRect X6) (m6.view.readAt (Elt Ideal) (Rect.unit (s := S3x512) ![0, 0] S1x512.size inb_S3x512_S1x512_0_0).toLoadRect X6)⟩,
    ⟨Rect.unit (s := S2x2048x512) ![0, 0, 0] S1x128x512.size inb_S2x2048x512_S1x128x512_0_0_0,
      k0_pay30 (m12.view.readAt (Elt Ideal) (Rect.unit (s := S2056x512) ![0, 0] S128x512.size inb_S2056x512_S128x512_0_0).toLoadRect F12) (m12.view.readAt (Elt Ideal) (Rect.unit (s := S2056x512) ![1, 0] S128x512.size inb_S2056x512_S128x512_1_0).toLoadRect F12) (m12.view.readAt (Elt Ideal) (Rect.unit (s := S2056x512) ![2, 0] S128x512.size inb_S2056x512_S128x512_2_0).toLoadRect F12) (m5.view.readAt (Elt Ideal) (Rect.unit (s := S3x512) ![2, 0] S1x512.size inb_S3x512_S1x512_2_0).toLoadRect X5) (m5.view.readAt (Elt Ideal) (Rect.unit (s := S3x512) ![1, 0] S1x512.size inb_S3x512_S1x512_1_0).toLoadRect X5) (m5.view.readAt (Elt Ideal) (Rect.unit (s := S3x512) ![0, 0] S1x512.size inb_S3x512_S1x512_0_0).toLoadRect X5)⟩])
      = fun y => if (y 0).val = 0 then spread eg (m5.view.read (Elt Ideal) X5) (y 1).val (y 2) else spread ev (m6.view.read (Elt Ideal) X6) (y 1).val (y 2) := by
  funext y
  refine View.read_writes_apply_of_pieces m9.view f9 (fun y => if (y 0).val = 0 then spread eg (m5.view.read (Elt Ideal) X5) (y 1).val (y 2) else spread ev (m6.view.read (Elt Ideal) X6) (y 1).val (y 2)) _ ?_ y (View.cover_of_tiledL _ ![1, 128, 512] (by rfl) y)
  refine List.forall_mem_cons.2 ⟨?_, ?_⟩
  · intro x; exact (spread_piece m13 F13 m6 X6 1920 _ _ _ _ hv x).trans (piece_eq_1 1920 inb_S2x2048x512_S1x128x512_1_1920_0 _ _ x).symm
  refine List.forall_mem_cons.2 ⟨?_, ?_⟩
  · intro x; exact (spread_piece m12 F12 m5 X5 1920 _ _ _ _ hg x).trans (piece_eq_0 1920 inb_S2x2048x512_S1x128x512_0_1920_0 _ _ x).symm
  refine List.forall_mem_cons.2 ⟨?_, ?_⟩
  · intro x; exact (spread_piece m13 F13 m6 X6 1792 _ _ _ _ hv x).trans (piece_eq_1 1792 inb_S2x2048x512_S1x128x512_1_1792_0 _ _ x).symm
  refine List.forall_mem_cons.2 ⟨?_, ?_⟩
  · intro x; exact (spread_piece m12 F12 m5 X5 1792 _ _ _ _ hg x).trans (piece_eq_0 1792 inb_S2x2048x512_S1x128x512_0_1792_0 _ _ x).symm
  refine List.forall_mem_cons.2 ⟨?_, ?_⟩
  · intro x; exact (spread_piece m13 F13 m6 X6 1664 _ _ _ _ hv x).trans (piece_eq_1 1664 inb_S2x2048x512_S1x128x512_1_1664_0 _ _ x).symm
  refine List.forall_mem_cons.2 ⟨?_, ?_⟩
  · intro x; exact (spread_piece m12 F12 m5 X5 1664 _ _ _ _ hg x).trans (piece_eq_0 1664 inb_S2x2048x512_S1x128x512_0_1664_0 _ _ x).symm
  refine List.forall_mem_cons.2 ⟨?_, ?_⟩
  · intro x; exact (spread_piece m13 F13 m6 X6 1536 _ _ _ _ hv x).trans (piece_eq_1 1536 inb_S2x2048x512_S1x128x512_1_1536_0 _ _ x).symm
  refine List.forall_mem_cons.2 ⟨?_, ?_⟩
  · intro x; exact (spread_piece m12 F12 m5 X5 1536 _ _ _ _ hg x).trans (piece_eq_0 1536 inb_S2x2048x512_S1x128x512_0_1536_0 _ _ x).symm
  refine List.forall_mem_cons.2 ⟨?_, ?_⟩
  · intro x; exact (spread_piece m13 F13 m6 X6 1408 _ _ _ _ hv x).trans (piece_eq_1 1408 inb_S2x2048x512_S1x128x512_1_1408_0 _ _ x).symm
  refine List.forall_mem_cons.2 ⟨?_, ?_⟩
  · intro x; exact (spread_piece m12 F12 m5 X5 1408 _ _ _ _ hg x).trans (piece_eq_0 1408 inb_S2x2048x512_S1x128x512_0_1408_0 _ _ x).symm
  refine List.forall_mem_cons.2 ⟨?_, ?_⟩
  · intro x; exact (spread_piece m13 F13 m6 X6 1280 _ _ _ _ hv x).trans (piece_eq_1 1280 inb_S2x2048x512_S1x128x512_1_1280_0 _ _ x).symm
  refine List.forall_mem_cons.2 ⟨?_, ?_⟩
  · intro x; exact (spread_piece m12 F12 m5 X5 1280 _ _ _ _ hg x).trans (piece_eq_0 1280 inb_S2x2048x512_S1x128x512_0_1280_0 _ _ x).symm
  refine List.forall_mem_cons.2 ⟨?_, ?_⟩
  · intro x; exact (spread_piece m13 F13 m6 X6 1152 _ _ _ _ hv x).trans (piece_eq_1 1152 inb_S2x2048x512_S1x128x512_1_1152_0 _ _ x).symm
  refine List.forall_mem_cons.2 ⟨?_, ?_⟩
  · intro x; exact (spread_piece m12 F12 m5 X5 1152 _ _ _ _ hg x).trans (piece_eq_0 1152 inb_S2x2048x512_S1x128x512_0_1152_0 _ _ x).symm
  refine List.forall_mem_cons.2 ⟨?_, ?_⟩
  · intro x; exact (spread_piece m13 F13 m6 X6 1024 _ _ _ _ hv x).trans (piece_eq_1 1024 inb_S2x2048x512_S1x128x512_1_1024_0 _ _ x).symm
  refine List.forall_mem_cons.2 ⟨?_, ?_⟩
  · intro x; exact (spread_piece m12 F12 m5 X5 1024 _ _ _ _ hg x).trans (piece_eq_0 1024 inb_S2x2048x512_S1x128x512_0_1024_0 _ _ x).symm
  refine List.forall_mem_cons.2 ⟨?_, ?_⟩
  · intro x; exact (spread_piece m13 F13 m6 X6 896 _ _ _ _ hv x).trans (piece_eq_1 896 inb_S2x2048x512_S1x128x512_1_896_0 _ _ x).symm
  refine List.forall_mem_cons.2 ⟨?_, ?_⟩
  · intro x; exact (spread_piece m12 F12 m5 X5 896 _ _ _ _ hg x).trans (piece_eq_0 896 inb_S2x2048x512_S1x128x512_0_896_0 _ _ x).symm
  refine List.forall_mem_cons.2 ⟨?_, ?_⟩
  · intro x; exact (spread_piece m13 F13 m6 X6 768 _ _ _ _ hv x).trans (piece_eq_1 768 inb_S2x2048x512_S1x128x512_1_768_0 _ _ x).symm
  refine List.forall_mem_cons.2 ⟨?_, ?_⟩
  · intro x; exact (spread_piece m12 F12 m5 X5 768 _ _ _ _ hg x).trans (piece_eq_0 768 inb_S2x2048x512_S1x128x512_0_768_0 _ _ x).symm
  refine List.forall_mem_cons.2 ⟨?_, ?_⟩
  · intro x; exact (spread_piece m13 F13 m6 X6 640 _ _ _ _ hv x).trans (piece_eq_1 640 inb_S2x2048x512_S1x128x512_1_640_0 _ _ x).symm
  refine List.forall_mem_cons.2 ⟨?_, ?_⟩
  · intro x; exact (spread_piece m12 F12 m5 X5 640 _ _ _ _ hg x).trans (piece_eq_0 640 inb_S2x2048x512_S1x128x512_0_640_0 _ _ x).symm
  refine List.forall_mem_cons.2 ⟨?_, ?_⟩
  · intro x; exact (spread_piece m13 F13 m6 X6 512 _ _ _ _ hv x).trans (piece_eq_1 512 inb_S2x2048x512_S1x128x512_1_512_0 _ _ x).symm
  refine List.forall_mem_cons.2 ⟨?_, ?_⟩
  · intro x; exact (spread_piece m12 F12 m5 X5 512 _ _ _ _ hg x).trans (piece_eq_0 512 inb_S2x2048x512_S1x128x512_0_512_0 _ _ x).symm
  refine List.forall_mem_cons.2 ⟨?_, ?_⟩
  · intro x; exact (spread_piece m13 F13 m6 X6 384 _ _ _ _ hv x).trans (piece_eq_1 384 inb_S2x2048x512_S1x128x512_1_384_0 _ _ x).symm
  refine List.forall_mem_cons.2 ⟨?_, ?_⟩
  · intro x; exact (spread_piece m12 F12 m5 X5 384 _ _ _ _ hg x).trans (piece_eq_0 384 inb_S2x2048x512_S1x128x512_0_384_0 _ _ x).symm
  refine List.forall_mem_cons.2 ⟨?_, ?_⟩
  · intro x; exact (spread_piece m13 F13 m6 X6 256 _ _ _ _ hv x).trans (piece_eq_1 256 inb_S2x2048x512_S1x128x512_1_256_0 _ _ x).symm
  refine List.forall_mem_cons.2 ⟨?_, ?_⟩
  · intro x; exact (spread_piece m12 F12 m5 X5 256 _ _ _ _ hg x).trans (piece_eq_0 256 inb_S2x2048x512_S1x128x512_0_256_0 _ _ x).symm
  refine List.forall_mem_cons.2 ⟨?_, ?_⟩
  · intro x; exact (spread_piece m13 F13 m6 X6 128 _ _ _ _ hv x).trans (piece_eq_1 128 inb_S2x2048x512_S1x128x512_1_128_0 _ _ x).symm
  refine List.forall_mem_cons.2 ⟨?_, ?_⟩
  · intro x; exact (spread_piece m12 F12 m5 X5 128 _ _ _ _ hg x).trans (piece_eq_0 128 inb_S2x2048x512_S1x128x512_0_128_0 _ _ x).symm
  refine List.forall_mem_cons.2 ⟨?_, ?_⟩
  · intro x; exact (spread_piece m13 F13 m6 X6 0 _ _ _ _ hv x).trans (piece_eq_1 0 inb_S2x2048x512_S1x128x512_1_0_0 _ _ x).symm
  refine List.forall_mem_cons.2 ⟨?_, fun _ h => absurd h List.not_mem_nil⟩
  · intro x; exact (spread_piece m12 F12 m5 X5 0 _ _ _ _ hg x).trans (piece_eq_0 0 inb_S2x2048x512_S1x128x512_0_0_0 _ _ x).symm

/-- The rows written and the zero rows behind them, read as one padded column. -/
theorem padded (e : ℕ → Fin 512 → EReal) (E : Vec Ideal S2056x512 .f32) (h : ∀ (r : Fin 2056) l, r.val < 2048 → E (ix2 r l) = e r.val l)
    (z : ∀ (r : Fin 2056) l, 2048 ≤ r.val → E (ix2 r l) = 0) (r : Fin 2056) (l : Fin 512) : E (ix2 r l) = pad e r.val l := by
  unfold pad
  by_cases hr : r.val < 2048
  · rw [if_pos hr, h r l hr]
  · rw [if_neg hr, z r l (by omega)]

theorem zero_rows (m : Memref sig .tc .vmem S2056x512 .f32) (f : BufTy.Contents (Elt Ideal) m.view.ty) (w : FVec Ideal S8x512 .f32)
    (hw : ∀ r l, w (ix2 r l) = 0) (r : Fin 2056) (l : Fin 512) (hr : 2048 ≤ r.val) :
    m.view.read (Elt Ideal) (m.view.writes (Elt Ideal) f [⟨Rect.unit (s := S2056x512) ![2048, 0] S8x512.size inb_S2056x512_S8x512_2048_0, w⟩]) (ix2 r l) = 0 :=
  (View.read_writes_cons_rows_of_mem (o := 2048) m.view f _ w [] (ix2 r l) (ix2 ⟨r.val - 2048, by have := r.isLt; omega⟩ l)
      rfl (by show r.val = 2048 + (r.val - 2048); omega) rfl).trans (hw _ _)

/-- Before the first trip. -/
theorem before_zero (a xg xv : Vec Ideal S2048x512 .f32) (wg wv : Vec Ideal S3x512 .f32) (bg bv : Vec Ideal S1x512 .f32)
    (Sg Sv : Vec Ideal S8x512 .f32) (m12 m13 : Memref sig .tc .vmem S2056x512 .f32)
    (f12 : BufTy.Contents (Elt Ideal) m12.view.ty) (f13 : BufTy.Contents (Elt Ideal) m13.view.ty) :
    Before a xg xv wg wv bg bv Sg Sv 0 (k0_pay21 (F := Ideal), k0_pay21 (F := Ideal))
      (m12.view.read (Elt Ideal) (m12.view.writes (Elt Ideal) f12 [⟨Rect.unit (s := S2056x512) ![2048, 0] S8x512.size inb_S2056x512_S8x512_2048_0, k0_pay22 (F := Ideal)⟩]))
      (m13.view.read (Elt Ideal) (m13.view.writes (Elt Ideal) f13 [⟨Rect.unit (s := S2056x512) ![2048, 0] S8x512.size inb_S2056x512_S8x512_2048_0, k0_pay23 (F := Ideal)⟩]))
      Sg Sv := by
  have z : ∀ (X : Vec Ideal S2048x512 .f32) (r : Fin 8) l, (k0_pay21 (F := Ideal)) (ix2 r l) = back X 8 (128 * 0 + r.val) l := by
    intro X r l
    have h : ¬ 8 ≤ 128 * 0 + r.val := by have := r.isLt; omega
    simp only [back, if_neg h]
    unfold k0_pay21
    pointwise
  refine ⟨z xg, z xv, fun r l h => absurd h (by omega), fun r l h => absurd h (by omega), zero_rows m12 f12 _ ?_, zero_rows m13 f13 _ ?_, ?_, ?_⟩
  · intro r l; unfold k0_pay22 k0_pay21; pointwise
  · intro r l; unfold k0_pay23 k0_pay21; pointwise
  · intro j l; simp
  · intro j l; simp

end Cert.KernelIdeal
-- ==== Proof.FfnLoop.lean ====
module

public import proofs.«01_k».proof.Proof.Gen.KernelIdeal.Loops
public import proofs.«01_k».proof.Proof.FfnSpread
public import proofs.«01_k».proof.Proof.Gen.KernelIdeal.Launch
public import proofs.«01_k».proof.Proof.Gen.KernelIdeal.Points
public import proofs.«01_k».proof.Proof.Gen.KernelIdeal.Frame
public import Idealize.ShloMosaic.PureOps.Ideal
public import Idealize.ShloMosaic.PureOps.IdealRules
public import Idealize.ShloMosaic.Lib.Pointwise
public import Idealize.ShloMosaic.Lib.VecWindow
public import Idealize.ShloMosaic.Lib.WritesUnit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

open Cert.KernelIdeal.Gen
open Idealize.ShloMosaic.Pipeline (Dat Cfg Window BodyObligation cellOf)

local notation "𝕄" => MT nD τ sig Unit (Elt Ideal) ℕ (UR sig nD τ) ℕ

/-- A load of a whole row vector. -/
theorem load_whole (m : Memref sig .tc .vmem S1x512 .f32) (X : BufTy.Contents (Elt Ideal) m.view.ty) :
    m.view.readAt (Elt Ideal) (Rect.unit (s := S1x512) ![0, 0] S1x512.size inb_S1x512_S1x512_0_0).toLoadRect X = m.view.read (Elt Ideal) X := by
  funext y
  refine congrArg (m.view.read (Elt Ideal) X) (funext fun b => ?_)
  fin_cases b <;> (refine Fin.ext ?_) <;> simp [Rect.unit]

theorem trips_eq : k0_t1_loop.trips = 16 := by decide +kernel

/-- Rows of zeros written over the whole of the small sums. -/
theorem zero_small (m : Memref sig .tc .vmem S8x512 .f32) (f : BufTy.Contents (Elt Ideal) m.view.ty) (w : FVec Ideal S8x512 .f32)
    (hw : ∀ j l, w (ix2 j l) = 0) :
    m.view.read (Elt Ideal) (m.view.writes (Elt Ideal) f [⟨Rect.unit (s := S8x512) ![0, 0] S8x512.size inb_S8x512_S8x512_0_0, w⟩]) = fun _ => 0 := by
  funext y
  obtain ⟨j, l, rfl⟩ : ∃ (j : Fin 8) (l : Fin 512), y = ix2 j l := ⟨y 0, y 1, funext fun b => by fin_cases b <;> rfl⟩
  exact (View.read_writes_cons_rows_of_mem (o := 0) m.view f _ w [] (ix2 j l) (ix2 j l) rfl (by show j.val = 0 + j.val; omega) rfl).trans (hw j l)

/-- After the last trip: the gradients of both halves, padded by the zero rows, and the small sums. -/
theorem loop_end (𝒱 : Variants) (c : Dev nD) (bd : Option 𝒱.V) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x2048x512 .bf16) (harg9 : arg9.IsWhole) (arg10 : Memref sig .tc .vmem S8x512 .f32) (harg10 : arg10.IsWhole) (arg11 : Memref sig .tc .vmem S8x512 .f32) (harg11 : arg11.IsWhole) (arg12 : Memref sig .tc .vmem S2056x512 .f32) (harg12 : arg12.IsWhole) (arg13 : Memref sig .tc .vmem S2056x512 .f32) (harg13 : arg13.IsWhole) (arg14 : Memref sig .tc .vmem S8x512 .f32) (harg14 : arg14.IsWhole) (arg15 : Memref sig .tc .vmem S8x512 .f32) (harg15 : arg15.IsWhole) (v0 v1 : Vec Ideal S1x512 .f32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (x0 x1 x2 : Vec Ideal S2048x512 .f32) (x3 x4 : Vec Ideal S3x512 .f32) (x5 x6 : Vec Ideal S1x512 .f32) (e0 : arg2.view.read (Elt Ideal) X2 = x0) (e1 : arg3.view.read (Elt Ideal) X3 = x1) (e2 : arg4.view.read (Elt Ideal) X4 = x2)
    (e3 : arg5.view.read (Elt Ideal) X5 = x3) (e4 : arg6.view.read (Elt Ideal) X6 = x4) (e5 : v0 = x5) (e6 : v1 = x6)
    (f12 : BufTy.Contents (Elt Ideal) arg12.view.ty) (f13 : BufTy.Contents (Elt Ideal) arg13.view.ty) (G14 : BufTy.Contents (Elt Ideal) arg14.view.ty) (G15 : BufTy.Contents (Elt Ideal) arg15.view.ty) :
    (∀ (r : Fin 2056) l, arg12.view.read (Elt Ideal) (arg12.view.writes (Elt Ideal) f12 ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6
      (arg12.view.writes (Elt Ideal) f12 [⟨Rect.unit (s := S2056x512) ![2048, 0] S8x512.size inb_S2056x512_S8x512_2048_0, k0_pay22 (F := Ideal)⟩])
      (arg13.view.writes (Elt Ideal) f13 [⟨Rect.unit (s := S2056x512) ![2048, 0] S8x512.size inb_S2056x512_S8x512_2048_0, k0_pay23 (F := Ideal)⟩]) G14 G15 (k0_pay21 (F := Ideal), k0_pay21 (F := Ideal)) k0_t1_loop.trips).2.1 ++ [⟨Rect.unit (s := S2056x512) ![2048, 0] S8x512.size inb_S2056x512_S8x512_2048_0, k0_pay22 (F := Ideal)⟩])) (ix2 r l) = pad (dgate x0 x1 x2 x3 x4 x5 x6) r.val l) ∧
    (∀ (r : Fin 2056) l, arg13.view.read (Elt Ideal) (arg13.view.writes (Elt Ideal) f13 ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6
      (arg12.view.writes (Elt Ideal) f12 [⟨Rect.unit (s := S2056x512) ![2048, 0] S8x512.size inb_S2056x512_S8x512_2048_0, k0_pay22 (F := Ideal)⟩])
      (arg13.view.writes (Elt Ideal) f13 [⟨Rect.unit (s := S2056x512) ![2048, 0] S8x512.size inb_S2056x512_S8x512_2048_0, k0_pay23 (F := Ideal)⟩]) G14 G15 (k0_pay21 (F := Ideal), k0_pay21 (F := Ideal)) k0_t1_loop.trips).2.2.1 ++ [⟨Rect.unit (s := S2056x512) ![2048, 0] S8x512.size inb_S2056x512_S8x512_2048_0, k0_pay23 (F := Ideal)⟩])) (ix2 r l) = pad (dval x0 x1 x3 x5) r.val l) ∧
    arg14.view.read (Elt Ideal) (arg14.view.writes (Elt Ideal) G14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6
      (arg12.view.writes (Elt Ideal) f12 [⟨Rect.unit (s := S2056x512) ![2048, 0] S8x512.size inb_S2056x512_S8x512_2048_0, k0_pay22 (F := Ideal)⟩])
      (arg13.view.writes (Elt Ideal) f13 [⟨Rect.unit (s := S2056x512) ![2048, 0] S8x512.size inb_S2056x512_S8x512_2048_0, k0_pay23 (F := Ideal)⟩]) G14 G15 (k0_pay21 (F := Ideal), k0_pay21 (F := Ideal)) k0_t1_loop.trips).2.2.2.1) = smallGate x0 x1 x2 x3 x4 x5 x6 (arg14.view.read (Elt Ideal) G14) ∧
    arg15.view.read (Elt Ideal) (arg15.view.writes (Elt Ideal) G15 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6
      (arg12.view.writes (Elt Ideal) f12 [⟨Rect.unit (s := S2056x512) ![2048, 0] S8x512.size inb_S2056x512_S8x512_2048_0, k0_pay22 (F := Ideal)⟩])
      (arg13.view.writes (Elt Ideal) f13 [⟨Rect.unit (s := S2056x512) ![2048, 0] S8x512.size inb_S2056x512_S8x512_2048_0, k0_pay23 (F := Ideal)⟩]) G14 G15 (k0_pay21 (F := Ideal), k0_pay21 (F := Ideal)) k0_t1_loop.trips).2.2.2.2) = smallValue x0 x1 x2 x3 x5 (arg15.view.read (Elt Ideal) G15) := by
  subst e0 e1 e2 e3 e4 e5 e6
  have H := loop_holds 𝒱 c bd i arg2 harg2 arg3 harg3 arg4 harg4 arg5 harg5 arg6 harg6 arg7 harg7 arg8 harg8 arg9 harg9 arg10 harg10 arg11 harg11 arg12 harg12 arg13 harg13 arg14 harg14 arg15 harg15 v0 v1 X2 X3 X4 X5 X6 (arg14.view.read (Elt Ideal) G14) (arg15.view.read (Elt Ideal) G15)
    (k0_pay21 (F := Ideal), k0_pay21 (F := Ideal)) _ _ G14 G15 (before_zero _ _ _ _ _ _ _ _ _ arg12 arg13 f12 f13) k0_t1_loop.trips le_rfl
  have e : 128 * k0_t1_loop.trips = 2048 := by rw [trips_eq]
  have eg := H.eg
  have ev := H.ev
  have sg := H.sg
  have sv := H.sv
  rw [e] at eg ev sg sv
  refine ⟨fun r l => ?_, fun r l => ?_, funext fun y => ?_, funext fun y => ?_⟩
  · rw [View.writes_append]
    exact padded _ _ eg H.zg r l
  · rw [View.writes_append]
    exact padded _ _ ev H.zv r l
  · obtain ⟨j, l, rfl⟩ : ∃ (j : Fin 8) (l : Fin 512), y = ix2 j l := ⟨y 0, y 1, funext fun b => by fin_cases b <;> rfl⟩
    exact sg j l
  · obtain ⟨j, l, rfl⟩ : ∃ (j : Fin 8) (l : Fin 512), y = ix2 j l := ⟨y 0, y 1, funext fun b => by fin_cases b <;> rfl⟩
    exact sv j l

theorem zero_start (j : Fin 8) (l : Fin 512) : (k0_pay19 (F := Ideal)) (ix2 j l) = 0 := by unfold k0_pay19; pointwise

/-- A store of the whole of the small sums. -/
theorem store_small (m : Memref sig .tc .vmem S8x512 .f32) (f : BufTy.Contents (Elt Ideal) m.view.ty) (w : FVec Ideal S8x512 .f32) :
    m.view.read (Elt Ideal) (m.view.writes (Elt Ideal) f [⟨Rect.unit (s := S8x512) ![0, 0] S8x512.size inb_S8x512_S8x512_0_0, w⟩]) = w := by
  funext y
  obtain ⟨j, l, rfl⟩ : ∃ (j : Fin 8) (l : Fin 512), y = ix2 j l := ⟨y 0, y 1, funext fun b => by fin_cases b <;> rfl⟩
  exact View.read_writes_cons_rows_of_mem (o := 0) m.view f _ w [] (ix2 j l) (ix2 j l) rfl (by show j.val = 0 + j.val; omega) rfl

/-- A load of the whole of the small sums. -/
theorem load_small_whole (m : Memref sig .tc .vmem S8x512 .f32) (X : BufTy.Contents (Elt Ideal) m.view.ty) :
    m.view.readAt (Elt Ideal) (Rect.unit (s := S8x512) ![0, 0] S8x512.size inb_S8x512_S8x512_0_0).toLoadRect X = m.view.read (Elt Ideal) X := by
  funext y
  refine congrArg (m.view.read (Elt Ideal) X) (funext fun b => ?_)
  fin_cases b <;> (refine Fin.ext ?_) <;> simp [Rect.unit]

end Cert.KernelIdeal
-- ==== Proof.FfnFirst.lean ====
module

public import proofs.«01_k».proof.Proof.Gen.KernelIdeal.Loops
public import proofs.«01_k».proof.Proof.FfnLoop
public import proofs.«01_k».proof.Proof.Gen.KernelIdeal.Launch
public import proofs.«01_k».proof.Proof.Gen.KernelIdeal.Points
public import proofs.«01_k».proof.Proof.Gen.KernelIdeal.Frame
public import Idealize.ShloMosaic.PureOps.Ideal
public import Idealize.ShloMosaic.PureOps.IdealRules
public import Idealize.ShloMosaic.Lib.Pointwise
public import Idealize.ShloMosaic.Lib.VecWindow
public import Idealize.ShloMosaic.Lib.WritesUnit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

open Cert.KernelIdeal.Gen
open Idealize.ShloMosaic.Pipeline (Dat Cfg Window BodyObligation cellOf)

local notation "𝕄" => MT nD τ sig Unit (Elt Ideal) ℕ (UR sig nD τ) ℕ

set_option maxHeartbeats 8000000 in
/-- The first sequence of a block; the outputs of the small gradients are not touched. -/
theorem run_first (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x2048x512 .bf16) (harg9 : arg9.IsWhole) (arg10 : Memref sig .tc .vmem S8x512 .f32) (harg10 : arg10.IsWhole) (arg11 : Memref sig .tc .vmem S8x512 .f32) (harg11 : arg11.IsWhole) (arg12 : Memref sig .tc .vmem S2056x512 .f32) (harg12 : arg12.IsWhole) (arg13 : Memref sig .tc .vmem S2056x512 .f32) (harg13 : arg13.IsWhole) (arg14 : Memref sig .tc .vmem S8x512 .f32) (harg14 : arg14.IsWhole) (arg15 : Memref sig .tc .vmem S8x512 .f32) (harg15 : arg15.IsWhole) (hc0 : (Scalar.cmpi .ne (Scalar.extui (Scalar.cmpi .eq (BitVec.ofNat 32 (i 1).val) 0#32)) 0#32) = 1#1) (hc1 : ¬ k0_cond2 i = 1#1)
   (x0 x1 x2 : Vec Ideal S2048x512 .f32) (x3 x4 : Vec Ideal S3x512 .f32) (x5 x6 : Vec Ideal S1x512 .f32) (E : Set ℕ) (K : PUnit → sProp 𝕄) :
   iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
     ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dupBlock x0 x1 x2 x3 x4 x5 x6) ∗ (∃ d, owns (c : Thread nD τ) arg12 fullShare d) ∗ (∃ d, owns (c : Thread nD τ) arg13 fullShare d) ∗ owns (c : Thread nD τ) arg14 fullShare (smallGate x0 x1 x2 x3 x4 x5 x6 (fun _ => 0)) ∗ owns (c : Thread nD τ) arg15 fullShare (smallValue x0 x1 x2 x3 x5 (fun _ => 0))) -∗ K ⟨⟩))
     ⊢ wp frame (wpE (defs₀ (F := Ideal)) Variants.none c none) E (cc0_ffn_act_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_act_bwd_eq_skeleton]; unfold cc0_ffn_act_bwd_skel
  simp only [k0_part22_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; ipureintro; exact harg2.read_unread _; iexact H0
  isplitl [H1]
  · iexists _; isplitr; ipureintro; exact harg3.read_unread _; iexact H1
  isplitl [H2]
  · iexists _; isplitr; ipureintro; exact harg4.read_unread _; iexact H2
  isplitl [H3]
  · iexists _; isplitr; ipureintro; exact harg5.read_unread _; iexact H3
  isplitl [H4]
  · iexists _; isplitr; ipureintro; exact harg6.read_unread _; iexact H4
  isplitl [H5]
  · iexists _; isplitr; ipureintro; exact harg7.read_unread _; iexact H5
  isplitl [H6]
  · iexists _; isplitr; ipureintro; exact harg8.read_unread _; iexact H6
  isplitl [H7]
  · iexists _; isplitr
    swap; iexact H7
    ipureintro
    refine (dup_of_pieces arg9 _ arg12 arg13 arg5 arg6 _ _ (harg5.unread x3) (harg6.unread x4) (dgate x0 x1 x2 x3 x4 x5 x6) (dval x0 x1 x3 x5)
      (loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 _ _).1
      (loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 _ _).2.1).trans ?_
    rw [harg5.read_unread, harg6.read_unread]
    rfl
  isplitl [HS0]
  · iexists _; iexists _; isplitr; swap; iexact HS0; ipureintro; exact rfl
  isplitl [HS1]
  · iexists _; iexists _; isplitr; swap; iexact HS1; ipureintro; exact rfl
  isplitl [HS2]
  · iexists _; isplitr
    swap; iexact HS2
    ipureintro
    rw [View.writes_append]
    refine ((loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 _ _).2.2.1).trans ?_
    exact congrArg _ (zero_small arg14 _ _ zero_start)
  · iexists _; isplitr
    swap; iexact HS3
    ipureintro
    rw [View.writes_append]
    refine ((loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 _ _).2.2.2).trans ?_
    exact congrArg _ (zero_small arg15 _ _ zero_start)

end Cert.KernelIdeal
-- ==== Proof.FfnSecond.lean ====
module

public import proofs.«01_k».proof.Proof.Gen.KernelIdeal.Loops
public import proofs.«01_k».proof.Proof.FfnLoop
public import proofs.«01_k».proof.Proof.Gen.KernelIdeal.Launch
public import proofs.«01_k».proof.Proof.Gen.KernelIdeal.Points
public import proofs.«01_k».proof.Proof.Gen.KernelIdeal.Frame
public import Idealize.ShloMosaic.PureOps.Ideal
public import Idealize.ShloMosaic.PureOps.IdealRules
public import Idealize.ShloMosaic.Lib.Pointwise
public import Idealize.ShloMosaic.Lib.VecWindow
public import Idealize.ShloMosaic.Lib.WritesUnit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

open Cert.KernelIdeal.Gen
open Idealize.ShloMosaic.Pipeline (Dat Cfg Window BodyObligation cellOf)

local notation "𝕄" => MT nD τ sig Unit (Elt Ideal) ℕ (UR sig nD τ) ℕ

set_option maxHeartbeats 8000000 in
/-- The second sequence of a block. -/
theorem run_second (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x2048x512 .bf16) (harg9 : arg9.IsWhole) (arg10 : Memref sig .tc .vmem S8x512 .f32) (harg10 : arg10.IsWhole) (arg11 : Memref sig .tc .vmem S8x512 .f32) (harg11 : arg11.IsWhole) (arg12 : Memref sig .tc .vmem S2056x512 .f32) (harg12 : arg12.IsWhole) (arg13 : Memref sig .tc .vmem S2056x512 .f32) (harg13 : arg13.IsWhole) (arg14 : Memref sig .tc .vmem S8x512 .f32) (harg14 : arg14.IsWhole) (arg15 : Memref sig .tc .vmem S8x512 .f32) (harg15 : arg15.IsWhole) (hc0 : ¬ (Scalar.cmpi .ne (Scalar.extui (Scalar.cmpi .eq (BitVec.ofNat 32 (i 1).val) 0#32)) 0#32) = 1#1) (hc1 : k0_cond2 i = 1#1)
   (x0 x1 x2 : Vec Ideal S2048x512 .f32) (x3 x4 : Vec Ideal S3x512 .f32) (x5 x6 : Vec Ideal S1x512 .f32) (s0 s1 : Vec Ideal S8x512 .f32) (E : Set ℕ) (K : PUnit → sProp 𝕄) :
   iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s0 ∗ owns (c : Thread nD τ) arg15 fullShare s1
     ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dupBlock x0 x1 x2 x3 x4 x5 x6) ∗ owns (c : Thread nD τ) arg10 fullShare (smallGate x0 x1 x2 x3 x4 x5 x6 s0) ∗ owns (c : Thread nD τ) arg11 fullShare (smallValue x0 x1 x2 x3 x5 s1) ∗ (∃ d, owns (c : Thread nD τ) arg12 fullShare d) ∗ (∃ d, owns (c : Thread nD τ) arg13 fullShare d) ∗ owns (c : Thread nD τ) arg14 fullShare (smallGate x0 x1 x2 x3 x4 x5 x6 s0) ∗ owns (c : Thread nD τ) arg15 fullShare (smallValue x0 x1 x2 x3 x5 s1)) -∗ K ⟨⟩))
     ⊢ wp frame (wpE (defs₀ (F := Ideal)) Variants.none c none) E (cc0_ffn_act_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_act_bwd_eq_skeleton]; unfold cc0_ffn_act_bwd_skel
  simp only [k0_part22_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%fs2, %hs2, HS2⟩, ⟨%fs3, %hs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; ipureintro; exact harg2.read_unread _; iexact H0
  isplitl [H1]
  · iexists _; isplitr; ipureintro; exact harg3.read_unread _; iexact H1
  isplitl [H2]
  · iexists _; isplitr; ipureintro; exact harg4.read_unread _; iexact H2
  isplitl [H3]
  · iexists _; isplitr; ipureintro; exact harg5.read_unread _; iexact H3
  isplitl [H4]
  · iexists _; isplitr; ipureintro; exact harg6.read_unread _; iexact H4
  isplitl [H5]
  · iexists _; isplitr; ipureintro; exact harg7.read_unread _; iexact H5
  isplitl [H6]
  · iexists _; isplitr; ipureintro; exact harg8.read_unread _; iexact H6
  isplitl [H7]
  · iexists _; isplitr
    swap; iexact H7
    ipureintro
    refine (dup_of_pieces arg9 _ arg12 arg13 arg5 arg6 _ _ (harg5.unread x3) (harg6.unread x4) (dgate x0 x1 x2 x3 x4 x5 x6) (dval x0 x1 x3 x5)
      (loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 fs2 fs3).1
      (loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 fs2 fs3).2.1).trans ?_
    rw [harg5.read_unread, harg6.read_unread]
    rfl
  isplitl [H8]
  · iexists _; isplitr
    swap; iexact H8
    ipureintro
    refine (store_small arg10 _ _).trans ?_
    refine (load_small_whole arg14 _).trans ?_
    refine ((loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 fs2 fs3).2.2.1).trans ?_
    rw [hs2]
  isplitl [H9]
  · iexists _; isplitr
    swap; iexact H9
    ipureintro
    refine (store_small arg11 _ _).trans ?_
    refine (load_small_whole arg15 _).trans ?_
    refine ((loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 fs2 fs3).2.2.2).trans ?_
    rw [hs3]
  isplitl [HS0]
  · iexists _; iexists _; isplitr; swap; iexact HS0; ipureintro; exact rfl
  isplitl [HS1]
  · iexists _; iexists _; isplitr; swap; iexact HS1; ipureintro; exact rfl
  isplitl [HS2]
  · iexists _; isplitr
    swap; iexact HS2
    ipureintro
    refine ((loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 fs2 fs3).2.2.1).trans ?_
    rw [hs2]
  · iexists _; isplitr
    swap; iexact HS3
    ipureintro
    refine ((loop_end Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x3 x4 x5 x6 hf0 hf1 hf2 hf3 hf4 ((load_whole arg7 _).trans hf5) ((load_whole arg8 _).trans hf6) fs0 fs1 fs2 fs3).2.2.2).trans ?_
    rw [hs3]

end Cert.KernelIdeal
-- ==== Proof.FfnFlow.lean ====
module

public import proofs.«01_k».proof.Proof.Gen.KernelIdeal.Loops
public import proofs.«01_k».proof.Proof.FfnFirst
public import proofs.«01_k».proof.Proof.FfnSecond
public import Idealize.ShloMosaic.Lib.Pipeline.FrameBody
public import Idealize.ShloMosaic.Lib.WordCmp
public import Idealize.ShloMosaic.Lib.Claim
public import proofs.«01_k».proof.Proof.Gen.KernelIdeal.Launch
public import proofs.«01_k».proof.Proof.Gen.KernelIdeal.Points
public import proofs.«01_k».proof.Proof.Gen.KernelIdeal.Frame
public import Idealize.ShloMosaic.PureOps.Ideal
public import Idealize.ShloMosaic.PureOps.IdealRules
public import Idealize.ShloMosaic.Lib.Pointwise
public import Idealize.ShloMosaic.Lib.VecWindow
public import Idealize.ShloMosaic.Lib.WritesUnit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 16384

open Cert.KernelIdeal.Gen
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev stg0 (t : Fin cfg0.N) : Memref sig .tc .vmem S2048x512 .f32 := win0_0.stage (cfg0.slots t 0)
abbrev stg1 (t : Fin cfg0.N) : Memref sig .tc .vmem S2048x512 .f32 := win0_1.stage (cfg0.slots t 1)
abbrev stg2 (t : Fin cfg0.N) : Memref sig .tc .vmem S2048x512 .f32 := win0_2.stage (cfg0.slots t 2)
abbrev stg3 (t : Fin cfg0.N) : Memref sig .tc .vmem S3x512 .f32 := win0_3.stage (cfg0.slots t 3)
abbrev stg4 (t : Fin cfg0.N) : Memref sig .tc .vmem S3x512 .f32 := win0_4.stage (cfg0.slots t 4)
abbrev stg5 (t : Fin cfg0.N) : Memref sig .tc .vmem S1x512 .f32 := win0_5.stage (cfg0.slots t 5)
abbrev stg6 (t : Fin cfg0.N) : Memref sig .tc .vmem S1x512 .f32 := win0_6.stage (cfg0.slots t 6)
abbrev stg7 (t : Fin cfg0.N) : Memref sig .tc .vmem S2x2048x512 .bf16 := win0_7.stage (cfg0.slots t 7)
abbrev stg8 (t : Fin cfg0.N) : Memref sig .tc .vmem S8x512 .f32 := win0_8.stage (cfg0.slots t 8)
abbrev stg9 (t : Fin cfg0.N) : Memref sig .tc .vmem S8x512 .f32 := win0_9.stage (cfg0.slots t 9)
abbrev scr0 : Memref sig .tc .vmem S2056x512 .f32 := Memref.whole cc0_scratch0
abbrev scr1 : Memref sig .tc .vmem S2056x512 .f32 := Memref.whole cc0_scratch1
abbrev scr2 : Memref sig .tc .vmem S8x512 .f32 := Memref.whole cc0_scratch2
abbrev scr3 : Memref sig .tc .vmem S8x512 .f32 := Memref.whole cc0_scratch3

theorem first_iff (t : Fin cfg0.N) : ((Scalar.cmpi .ne (Scalar.extui (Scalar.cmpi .eq (BitVec.ofNat 32 (grid0.coords t 1).val) 0#32)) 0#32) = 1#1) ↔ t.val % 2 = 0 := by
  have ht : t.val < 44 := Nat.lt_of_lt_of_eq t.isLt N_0
  have e1 : (grid0.coords t 1).val = t.val / 1 % 2 := Pipeline.Grid.coords_val t 1 (by decide) rfl
  simp only [e1]
  word_cmp

theorem last_iff (t : Fin cfg0.N) : k0_cond2 (grid0.coords t) = 1#1 ↔ t.val % 2 = 1 := by
  have ht : t.val < 44 := Nat.lt_of_lt_of_eq t.isLt N_0
  have e1 : (grid0.coords t 1).val = t.val / 1 % 2 := Pipeline.Grid.coords_val t 1 (by decide) rfl
  simp only [k0_cond2, e1]
  word_cmp

theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA
  rw [scopedRest0_eq]
  simp only [scr0, scr1, scr2, scr3, owns_whole]
  rfl

/-- The block of input gradients of a point. -/
def dupAt (c : Dev nD) (t : Fin cfg0.N) : Vec Ideal S2x2048x512 .bf16 := dupBlock (iblk m c 0 t) (iblk m c 1 t) (iblk m c 2 t) (iblk m c 3 t) (iblk m c 4 t) (iblk m c 5 t) (iblk m c 6 t)
/-- The small sums of the gate half, increased by what a point adds. -/
def gateAt (c : Dev nD) (t : Fin cfg0.N) (A : Vec Ideal S8x512 .f32) : Vec Ideal S8x512 .f32 := smallGate (iblk m c 0 t) (iblk m c 1 t) (iblk m c 2 t) (iblk m c 3 t) (iblk m c 4 t) (iblk m c 5 t) (iblk m c 6 t) A
/-- The small sums of the value half, increased by what a point adds. -/
def valueAt (c : Dev nD) (t : Fin cfg0.N) (A : Vec Ideal S8x512 .f32) : Vec Ideal S8x512 .f32 :=
  smallValue (iblk m c 0 t) (iblk m c 1 t) (iblk m c 2 t) (iblk m c 3 t) (iblk m c 5 t) A
/-- The point before. -/
abbrev prev (t : Fin cfg0.N) : Fin cfg0.N := ⟨t.val - 1, lt_of_le_of_lt (Nat.sub_le _ _) t.isLt⟩

/-- Between the two sequences of a block the small sums of the first are kept; elsewhere nothing is said of them. -/
def kept (c : Dev nD) (n : ℕ) (hn : n ≤ cfg0.N) : sProp 𝕄 :=
  if h : n % 2 = 1 then
    iprop(iprop((∃ d, owns (c : Thread nD τ) scr0 fullShare d) ∗ (∃ d, owns (c : Thread nD τ) scr1 fullShare d)
      ∗ owns (c : Thread nD τ) scr2 fullShare (gateAt m c ⟨n - 1, by omega⟩ fun _ => 0) ∗ owns (c : Thread nD τ) scr3 fullShare (valueAt m c ⟨n - 1, by omega⟩ fun _ => 0)) ∗ (∃ r, prngReg c r))
  else Pipeline.ΦA spec0 c

theorem kept_even (c : Dev nD) (n : ℕ) (hn : n ≤ cfg0.N) (h : n % 2 = 0) : kept m c n hn = Pipeline.ΦA spec0 c := by
  unfold kept
  rw [dif_neg (by omega)]

theorem kept_odd (c : Dev nD) (n : ℕ) (hn : n ≤ cfg0.N) (h : n % 2 = 1) : kept m c n hn =
    iprop(iprop((∃ d, owns (c : Thread nD τ) scr0 fullShare d) ∗ (∃ d, owns (c : Thread nD τ) scr1 fullShare d)
      ∗ owns (c : Thread nD τ) scr2 fullShare (gateAt m c ⟨n - 1, by omega⟩ fun _ => 0) ∗ owns (c : Thread nD τ) scr3 fullShare (valueAt m c ⟨n - 1, by omega⟩ fun _ => 0)) ∗ (∃ r, prngReg c r)) := by
  unfold kept
  rw [dif_pos h]

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dupAt m c t
    | ⟨8, _⟩ => gateAt m c t (gateAt m c (prev t) fun _ => 0)
    | ⟨9, _⟩ => valueAt m c t (valueAt m c (prev t) fun _ => 0)
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem kept_castSucc (c : Dev nD) (t : Fin cfg0.N) : (dats m 0 c).Φ t.castSucc = kept m c t.val (Nat.le_of_lt t.isLt) := by
  dsimp only [dats]; exact Pipeline.Dat.Φ_castSucc (kept m c) t
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = dupAt m c t := by dsimp only [dats]
theorem after_8 (c : Dev nD) (t : Fin cfg0.N) : (dats m 0 c).after 8 t = gateAt m c t (gateAt m c (prev t) fun _ => 0) := by dsimp only [dats]
theorem after_9 (c : Dev nD) (t : Fin cfg0.N) : (dats m 0 c).after 9 t = valueAt m c t (valueAt m c (prev t) fun _ => 0) := by dsimp only [dats]

theorem idle_8 (t : Fin cfg0.N) (h : t.val % 2 = 0) : cfg0.idle 8 (grid0.coords t) = true := by
  show (!(k0_cond2 (grid0.coords t) == 1#1)) = true
  simp only [Bool.not_eq_true', beq_eq_false_iff_ne, ne_eq, last_iff]
  omega
theorem idle_9 (t : Fin cfg0.N) (h : t.val % 2 = 0) : cfg0.idle 9 (grid0.coords t) = true := idle_8 t h
theorem live_8 (t : Fin cfg0.N) (h : t.val % 2 = 1) : cfg0.idle 8 (grid0.coords t) = false := by
  show (!(k0_cond2 (grid0.coords t) == 1#1)) = false
  simp only [Bool.not_eq_false', beq_iff_eq, last_iff]
  exact h
theorem live_9 (t : Fin cfg0.N) (h : t.val % 2 = 1) : cfg0.idle 9 (grid0.coords t) = false := live_8 t h
theorem quiet_8 (t : Fin cfg0.N) (h : t.val % 2 = 0) : (cfg0.win 8).flush t = false := by
  rw [Bool.eq_false_iff, ne_eq, flush0_8]
  omega
theorem quiet_9 (t : Fin cfg0.N) (h : t.val % 2 = 0) : (cfg0.win 9).flush t = false := by
  rw [Bool.eq_false_iff, ne_eq, flush0_9]
  omega

def entered (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

def left (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
theorem point_sound (c : Dev nD) (t : Fin cfg0.N) :
    entered m c t ⊢ wp frame (wpE (defs₀ (F := Ideal)) Variants.none c none) Set.univ (bodyAt0 t) (fun _ => left m c t) := by
  unfold entered left bodyAt0
  simp only [before_0, before_1, before_2, before_3, before_4, before_5, before_6]
  rw [show (dats m 0 c).owesAt () t.succ = (dats m 0 c).owesAt () t.castSucc from rfl]
  rw [show (dats m 0 c).Φ t.succ = kept m c (t.val + 1) t.isLt from rfl, kept_castSucc m c t]
  rw [show (dats m 0 c).leavesExact 0 t = owns (c : Thread nD τ) (stg0 t) fullShare ((dats m 0 c).after 0 t) from by
    unfold Dat.leavesExact; rw [show cfg0.idle 0 (grid0.coords t) = false from rfl], after_0]
  rw [show (dats m 0 c).leavesExact 1 t = owns (c : Thread nD τ) (stg1 t) fullShare ((dats m 0 c).after 1 t) from by
    unfold Dat.leavesExact; rw [show cfg0.idle 1 (grid0.coords t) = false from rfl], after_1]
  rw [show (dats m 0 c).leavesExact 2 t = owns (c : Thread nD τ) (stg2 t) fullShare ((dats m 0 c).after 2 t) from by
    unfold Dat.leavesExact; rw [show cfg0.idle 2 (grid0.coords t) = false from rfl], after_2]
  rw [show (dats m 0 c).leavesExact 3 t = owns (c : Thread nD τ) (stg3 t) fullShare ((dats m 0 c).after 3 t) from by
    unfold Dat.leavesExact; rw [show cfg0.idle 3 (grid0.coords t) = false from rfl], after_3]
  rw [show (dats m 0 c).leavesExact 4 t = owns (c : Thread nD τ) (stg4 t) fullShare ((dats m 0 c).after 4 t) from by
    unfold Dat.leavesExact; rw [show cfg0.idle 4 (grid0.coords t) = false from rfl], after_4]
  rw [show (dats m 0 c).leavesExact 5 t = owns (c : Thread nD τ) (stg5 t) fullShare ((dats m 0 c).after 5 t) from by
    unfold Dat.leavesExact; rw [show cfg0.idle 5 (grid0.coords t) = false from rfl], after_5]
  rw [show (dats m 0 c).leavesExact 6 t = owns (c : Thread nD τ) (stg6 t) fullShare ((dats m 0 c).after 6 t) from by
    unfold Dat.leavesExact; rw [show cfg0.idle 6 (grid0.coords t) = false from rfl], after_6]
  rw [show (dats m 0 c).leavesExact 7 t = owns (c : Thread nD τ) (stg7 t) fullShare ((dats m 0 c).after 7 t) from by
    unfold Dat.leavesExact; rw [show cfg0.idle 7 (grid0.coords t) = false from rfl], after_7]
  by_cases h0 : t.val % 2 = 0
  · rw [Dat.leavesExact_idle (dats m 0 c) 8 t (idle_8 t h0) (quiet_8 t h0), Dat.leavesExact_idle (dats m 0 c) 9 t (idle_9 t h0) (quiet_9 t h0)]
    rw [kept_even m c _ _ h0, kept_odd m c (t.val + 1) t.isLt (by omega), scratch_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ _ _ _ _ ((first_iff t).mpr h0) (fun h => absurd ((last_iff t).mp h) (by omega)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have h1 : t.val % 2 = 1 := by omega
    rw [show (dats m 0 c).leavesExact 8 t = owns (c : Thread nD τ) (stg8 t) fullShare ((dats m 0 c).after 8 t) from by
      unfold Dat.leavesExact; rw [live_8 t h1], after_8]
    rw [show (dats m 0 c).leavesExact 9 t = owns (c : Thread nD τ) (stg9 t) fullShare ((dats m 0 c).after 9 t) from by
      unfold Dat.leavesExact; rw [live_9 t h1], after_9]
    rw [kept_odd m c _ _ h1, kept_even m c (t.val + 1) t.isLt (by omega), scratch_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_second c (grid0.coords t) _ _ _ _ _ _ _ _ _ _ _ _ _ _ _ _ _ _ _ _ _ _ _ _ _ _ _ _ (fun h => absurd ((first_iff t).mp h) h0) ((last_iff t).mpr h1) (iblk m c 0 t) (iblk m c 1 t) (iblk m c 2 t) (iblk m c 3 t) (iblk m c 4 t) (iblk m c 5 t) (iblk m c 6 t) (gateAt m c (prev t) fun _ => 0) (valueAt m c (prev t) fun _ => 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexists _; iexact HS2
        iexists _; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t from by unfold defs₀; rw [Defs.onTc_tc]]
  exact triple_restated (point_sound m c t) rfl .rfl fun _ => .rfl

theorem enter (c : Dev nD) : Pipeline.ΦA spec0 c ⊢ (dats m 0 c).Φ 0 := by
  rw [show (dats m 0 c).Φ 0 = kept m c 0 (Nat.zero_le _) from rfl, kept_even m c 0 _ rfl]
theorem leave (c : Dev nD) : (dats m 0 c).Φ (Fin.last cfg0.N) ⊢ Pipeline.ΦA spec0 c := by
  rw [show (dats m 0 c).Φ (Fin.last cfg0.N) = kept m c cfg0.N le_rfl from rfl, kept_even m c _ _ (by rw [show cfg0.N = 44 from N_0])]

set_option backward.isDefEq.respectTransparency.types false in
/-- The whole launch: every window's array ends as the points wrote it, and no signal is left pending. -/
theorem launch_holds : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem frame_holds : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (launch_holds m ρ)))
    ((θ_run defs _ _).mono (fun _ h => h.2) (launch_holds m ρ))

end Cert.KernelIdeal
-- ==== Proof.FfnValue.lean ====
module

public import proofs.«01_k».proof.Proof.FfnRows
public import proofs.«01_k».proof.Proof.FfnFlow
public import Idealize.ShloMosaic.Lib.Pipeline.ValueKit.Geometry

@[expose] public section

set_option maxRecDepth 16384

noncomputable section

namespace Cert.KernelIdeal

open Idealize.ShloMosaic Idealize.ShloMosaic.TcCoe Idealize.ShloMosaic.Tactic
open Idealize.SL.Sem
open Cert.KernelIdeal.Gen Cert.ReferenceIdeal.Read
open Cert.ReferenceIdeal (Real1 Holds HoldsA HoldsW HoldsB low high)

/-! ## The three results, entry by entry -/

variable (m : (ℓ : Loc nD τ sig) → Buf (Elt Ideal) ℓ) (ρ : Dev nD → PrngReg) (c : Dev nD)

/-- The four arguments on one device. -/
abbrev argA : Vec Ideal S4096x11264 .f32 := m ((c.tc : Thread nD τ).loc main_arg0)
abbrev argX : Vec Ideal S4096x22528 .f32 := m ((c.tc : Thread nD τ).loc main_arg1)
abbrev argW : Vec Ideal S3x22528 .f32 := m ((c.tc : Thread nD τ).loc main_arg2)
abbrev argB : Vec Ideal S1x22528 .f32 := m ((c.tc : Thread nD τ).loc main_arg3)

/-- The point that works on channel block `f` of sequence `b`. -/
def point (f : Fin 22) (b : Fin 2) : Fin cfg0.N := ⟨2 * f.val + b.val, by have h : cfg0.N = 44 := rfl; omega⟩

/-- The channel of a lane. -/
def chan (f : Fin 22) (l : Fin 512) : Fin 11264 := ⟨512 * f.val + l.val, by omega⟩

theorem place (f : Fin 22) (b : Fin 2) :
    win0_0.index (point f b) = ![b.val, f.val] ∧ win0_1.index (point f b) = ![b.val, f.val]
    ∧ win0_2.index (point f b) = ![b.val, 22 + f.val] ∧ win0_3.index (point f b) = ![0, f.val]
    ∧ win0_4.index (point f b) = ![0, 22 + f.val] ∧ win0_5.index (point f b) = ![0, f.val]
    ∧ win0_6.index (point f b) = ![0, 22 + f.val] ∧ win0_7.index (point f b) = ![0, b.val, f.val]
    ∧ win0_8.index (point f b) = ![0, f.val] ∧ win0_9.index (point f b) = ![0, f.val] := by
  revert f b
  decide +kernel

theorem holds_a (f : Fin 22) (b : Fin 2) (l : Fin 512) : HoldsA (argA m c) (iblk m c 0 (point f b)) b (chan f l) l := by
  intro r
  unfold iblk
  blk_simp
  refine congrArg (argA m c) (funext fun a => Fin.ext ?_)
  have e := (place f b).1
  match a with
  | ⟨0, _⟩ => blk_simp; simp [e, ix2]; try omega
  | ⟨1, _⟩ => blk_simp; simp [e, ix2, chan]; try omega

theorem holds_xg (f : Fin 22) (b : Fin 2) (l : Fin 512) : Holds (argX m c) (iblk m c 1 (point f b)) b (low (chan f l)) l := by
  intro r
  unfold iblk
  blk_simp
  refine congrArg (argX m c) (funext fun a => Fin.ext ?_)
  have e := (place f b).2.1
  match a with
  | ⟨0, _⟩ => blk_simp; simp [e, ix2]; try omega
  | ⟨1, _⟩ => blk_simp; simp [e, ix2, low, chan]; try omega

theorem holds_xv (f : Fin 22) (b : Fin 2) (l : Fin 512) : Holds (argX m c) (iblk m c 2 (point f b)) b (high (chan f l)) l := by
  intro r
  unfold iblk
  blk_simp
  refine congrArg (argX m c) (funext fun a => Fin.ext ?_)
  have e := (place f b).2.2.1
  match a with
  | ⟨0, _⟩ => blk_simp; simp [e, ix2]; try omega
  | ⟨1, _⟩ => blk_simp; simp [e, ix2, high, chan]; try omega

theorem holds_wg (f : Fin 22) (b : Fin 2) (l : Fin 512) : HoldsW (argW m c) (iblk m c 3 (point f b)) (low (chan f l)) l := by
  intro j
  unfold iblk
  blk_simp
  refine congrArg (argW m c) (funext fun a => Fin.ext ?_)
  have e := (place f b).2.2.2.1
  match a with
  | ⟨0, _⟩ => blk_simp; simp [e, ix2]; try omega
  | ⟨1, _⟩ => blk_simp; simp [e, ix2, low, chan]; try omega

theorem holds_wv (f : Fin 22) (b : Fin 2) (l : Fin 512) : HoldsW (argW m c) (iblk m c 4 (point f b)) (high (chan f l)) l := by
  intro j
  unfold iblk
  blk_simp
  refine congrArg (argW m c) (funext fun a => Fin.ext ?_)
  have e := (place f b).2.2.2.2.1
  match a with
  | ⟨0, _⟩ => blk_simp; simp [e, ix2]; try omega
  | ⟨1, _⟩ => blk_simp; simp [e, ix2, high, chan]; try omega

theorem holds_bg (f : Fin 22) (b : Fin 2) (l : Fin 512) : HoldsB (argB m c) (iblk m c 5 (point f b)) (low (chan f l)) l := by
  unfold HoldsB
  unfold iblk
  blk_simp
  refine congrArg (argB m c) (funext fun a => Fin.ext ?_)
  have e := (place f b).2.2.2.2.2.1
  match a with
  | ⟨0, _⟩ => blk_simp; simp [e, ix2]; try omega
  | ⟨1, _⟩ => blk_simp; simp [e, ix2, low, chan]; try omega

theorem holds_bv (f : Fin 22) (b : Fin 2) (l : Fin 512) : HoldsB (argB m c) (iblk m c 6 (point f b)) (high (chan f l)) l := by
  unfold HoldsB
  unfold iblk
  blk_simp
  refine congrArg (argB m c) (funext fun a => Fin.ext ?_)
  have e := (place f b).2.2.2.2.2.2.1
  match a with
  | ⟨0, _⟩ => blk_simp; simp [e, ix2]; try omega
  | ⟨1, _⟩ => blk_simp; simp [e, ix2, high, chan]; try omega

/-- On this device the gradient's entries are real numbers, and so are the entries of the three other arguments in the value half. -/
def AllReal : Prop := (∀ i, Real1 (argA m c i)) ∧ (∀ r k, Real1 (argX m c (ix2 r (high k)))) ∧ (∀ j k, Real1 (argW m c (ix2 j (high k))))
  ∧ (∀ k, Real1 (argB m c (ix2 0 (high k))))

/-- A block all of whose entries, read by row and lane, are real numbers. -/
theorem by_row {n : ℕ} {x : (⟨2, ![n, 512]⟩ : Shape).Idx → EReal} (h : ∀ r l, Real1 (x (ix2 r l))) (y) : Real1 (x y) := by
  have e : y = ix2 (y 0) (y 1) := funext fun a => match a with
    | ⟨0, _⟩ => rfl
    | ⟨1, _⟩ => rfl
  exact e ▸ h (y 0) (y 1)

/-- The gradients at the gate and at the value for channel block `f` of sequence `b`. -/
def gateOf (f : Fin 22) (b : Fin 2) : ℕ → Fin 512 → EReal := dgate (iblk m c 0 (point f b)) (iblk m c 1 (point f b)) (iblk m c 2 (point f b))
  (iblk m c 3 (point f b)) (iblk m c 4 (point f b)) (iblk m c 5 (point f b)) (iblk m c 6 (point f b))
def valueOf (f : Fin 22) (b : Fin 2) : ℕ → Fin 512 → EReal := dval (iblk m c 0 (point f b)) (iblk m c 1 (point f b))
  (iblk m c 3 (point f b)) (iblk m c 5 (point f b))

theorem value_column (f : Fin 22) (l : Fin 512) (b : Fin 2) (s : Fin 2048) :
    val_main_v36 (F := Ideal) (argA m c) (argX m c) (argW m c) (argB m c) (ix3 b s (high (chan f l))) = valueOf m c f b s.val l := by
  rw [Cert.ReferenceIdeal.joined_high]
  exact Cert.ReferenceIdeal.dval_read _ _ _ _ _ _ _ _ b (chan f l) l (holds_a m c f b l) (holds_xg m c f b l) (holds_wg m c f b l) (holds_bg m c f b l) s

theorem gate_column (R : AllReal m c) (f : Fin 22) (l : Fin 512) (b : Fin 2) (s : Fin 2048) :
    val_main_v36 (F := Ideal) (argA m c) (argX m c) (argW m c) (argB m c) (ix3 b s (low (chan f l))) = gateOf m c f b s.val l := by
  rw [Cert.ReferenceIdeal.joined_low]
  refine Cert.ReferenceIdeal.dgate_read _ _ _ _ _ _ _ _ _ _ _ b (chan f l) l (holds_a m c f b l) (holds_xg m c f b l) (holds_wg m c f b l) (holds_bg m c f b l)
    (holds_xv m c f b l) (holds_wv m c f b l) (holds_bv m c f b l) ?_ ?_ ?_ ?_ s
  · exact fun y => R.1 _
  · exact by_row fun r k => by rw [holds_xv m c f b k r]; exact R.2.1 _ _
  · exact by_row fun r k => by rw [holds_wv m c f b k r]; exact R.2.2.1 _ _
  · refine by_row fun r k => ?_
    obtain rfl : r = 0 := Fin.ext (by omega)
    rw [holds_bv m c f b k]
    exact R.2.2.2 _

theorem point_of (t : Fin cfg0.N) : ∃ f b, t = point f b := by
  have h : cfg0.N = 44 := rfl
  exact ⟨⟨t.val / 2, by omega⟩, ⟨t.val % 2, by omega⟩, Fin.ext (by simp only [point]; omega)⟩

theorem flush_second (w : Fin cfg0.W) (hw : w = 8 ∨ w = 9) (f : Fin 22) (b : Fin 2) : (cfg0.win w).flush (point f b) = true → b = 1 := by
  rcases hw with rfl | rfl <;> (revert f b; decide +kernel)

theorem prev_point (f : Fin 22) : prev (point f 1) = point f 0 := Fin.ext (by simp [point])

theorem result_0 (R : AllReal m c) : (dats m 0 c).arrAt 7 cfg0.N
    = val_main_v79 (F := Ideal) (argA m c) (argX m c) (argW m c) (argB m c) := by
  refine (dats m 0 c).arrAt_eq_of_covers 7 _ (by decide +kernel) fun t hf y => ?_
  blk_simp
  rw [after_7]
  obtain ⟨f, b, rfl⟩ := point_of t
  have e := (place f b).2.2.2.2.2.2.2.1
  have hy : (y 1).val < 2048 := (y 1).isLt
  have hb := b.isLt
  by_cases h : (y 0).val = 0
  · have q : ((win0_7.blk (point f b)).view.emb y) = ix3 0 ⟨2048 * b.val + (y 1).val, by omega⟩ (chan f (y 2)) := by
      refine funext fun a => Fin.ext ?_
      match a with
      | ⟨0, _⟩ => blk_simp; simp [e, ix3]; omega
      | ⟨1, _⟩ => blk_simp; simp [e, ix3]; try omega
      | ⟨2, _⟩ => blk_simp; simp [e, ix3, chan]; try omega
    refine Eq.trans ?_ (congrArg _ q).symm
    rw [Cert.ReferenceIdeal.halves_low]
    refine Eq.trans ?_ (Cert.ReferenceIdeal.wide_read _ _ _ _ (iblk m c 3 (point f b)) b (low (chan f (y 2))) (y 2) (gateOf m c f)
      (gate_column m c R f (y 2)) (holds_wg m c f b (y 2)) (y 1)).symm
    unfold dupAt dupBlock
    rw [if_pos h]
    rfl
  · have h1 : (y 0).val = 1 := by have := (y 0).isLt; change (y 0).val < 2 at this; omega
    have q : ((win0_7.blk (point f b)).view.emb y) = ix3 1 ⟨2048 * b.val + (y 1).val, by omega⟩ (chan f (y 2)) := by
      refine funext fun a => Fin.ext ?_
      match a with
      | ⟨0, _⟩ => blk_simp; simp [e, ix3]; omega
      | ⟨1, _⟩ => blk_simp; simp [e, ix3]; try omega
      | ⟨2, _⟩ => blk_simp; simp [e, ix3, chan]; try omega
    refine Eq.trans ?_ (congrArg _ q).symm
    rw [Cert.ReferenceIdeal.halves_high]
    refine Eq.trans ?_ (Cert.ReferenceIdeal.wide_read _ _ _ _ (iblk m c 4 (point f b)) b (high (chan f (y 2))) (y 2) (valueOf m c f)
      (value_column m c f (y 2)) (holds_wv m c f b (y 2)) (y 1)).symm
    unfold dupAt dupBlock
    rw [if_neg h]
    rfl

theorem result_1 (R : AllReal m c) : (dats m 0 c).arrAt 8 cfg0.N
    = val_main_v83 (F := Ideal) (argA m c) (argX m c) (argW m c) (argB m c) := by
  refine (dats m 0 c).arrAt_eq_of_covers 8 _ (by decide +kernel) fun t hf y => ?_
  blk_simp
  rw [after_8]
  obtain ⟨f, b, rfl⟩ := point_of t
  obtain rfl := flush_second 8 (Or.inl rfl) f b hf
  have e := (place f 1).2.2.2.2.2.2.2.2.1
  have q : ((win0_8.blk (point f 1)).view.emb y) = ix2 (y 0) (chan f (y 1)) := by
    refine funext fun a => Fin.ext ?_
    match a with
    | ⟨0, _⟩ => blk_simp; simp [e, ix2]; try omega
    | ⟨1, _⟩ => blk_simp; simp [e, ix2, chan]; try omega
  refine Eq.trans ?_ (congrArg _ q).symm
  refine Eq.trans ?_ (Cert.ReferenceIdeal.small_low (argA m c) (argX m c) (argW m c) (argB m c) (y 0) (chan f (y 1))).symm
  refine Eq.trans ?_ (Cert.ReferenceIdeal.small_read _ _ _ _ (fun b => iblk m c 1 (point f b)) (low (chan f (y 1))) (y 1) (gateOf m c f)
    (gate_column m c R f (y 1)) (fun b => holds_xg m c f b (y 1)) (y 0)).symm
  rw [prev_point, Fin.sum_univ_two]
  unfold gateAt smallGate
  simp only [zero_add, Finset.sum_range]
  rfl

theorem result_2 : (dats m 0 c).arrAt 9 cfg0.N
    = val_main_v84 (F := Ideal) (argA m c) (argX m c) (argW m c) (argB m c) := by
  refine (dats m 0 c).arrAt_eq_of_covers 9 _ (by decide +kernel) fun t hf y => ?_
  blk_simp
  rw [after_9]
  obtain ⟨f, b, rfl⟩ := point_of t
  obtain rfl := flush_second 9 (Or.inr rfl) f b hf
  have e := (place f 1).2.2.2.2.2.2.2.2.2
  have q : ((win0_9.blk (point f 1)).view.emb y) = ix2 (y 0) (chan f (y 1)) := by
    refine funext fun a => Fin.ext ?_
    match a with
    | ⟨0, _⟩ => blk_simp; simp [e, ix2]; try omega
    | ⟨1, _⟩ => blk_simp; simp [e, ix2, chan]; try omega
  refine Eq.trans ?_ (congrArg _ q).symm
  refine Eq.trans ?_ (Cert.ReferenceIdeal.small_high (argA m c) (argX m c) (argW m c) (argB m c) (y 0) (chan f (y 1))).symm
  refine Eq.trans ?_ (Cert.ReferenceIdeal.small_read _ _ _ _ (fun b => iblk m c 2 (point f b)) (high (chan f (y 1))) (y 1) (valueOf m c f)
    (value_column m c f (y 1)) (fun b => holds_xv m c f b (y 1)) (y 0)).symm
  rw [prev_point, Fin.sum_univ_two]
  unfold valueAt smallValue
  simp only [zero_add, Finset.sum_range]
  rfl

end Cert.KernelIdeal
-- ==== Proof.FfnClaim.lean ====
module

public import proofs.«01_k».proof.Proof.FfnValue
public import proofs.«01_k».proof.Defs
public import proofs.«01_k».proof.Proof.Gen.Pre_finite
public import proofs.«01_k».proof.Proof.Gen.ReferenceIdeal
public import Idealize.ShloMosaic.Lib.Claim
public import Idealize.ShloMosaic.Lib.Pipeline.ValueKit.Geometry

@[expose] public section

set_option maxRecDepth 16384

noncomputable section

namespace Cert.KernelIdeal

open Idealize.ShloMosaic Idealize.ShloMosaic.TcCoe Idealize.ShloMosaic.Tactic
open Idealize.SL.Sem
open Cert.KernelIdeal.Gen Cert.ReferenceIdeal.Read
open Cert.ReferenceIdeal (Real1 Holds HoldsA HoldsW HoldsB low high)

/-! ## From finite arguments to equal results -/

/-- A number whose absolute value lies below infinity is real. -/
theorem real_of_below (z : EReal) (h : max z (-z) < ⊤) : Real1 z := by
  refine ⟨z.toReal, (EReal.coe_toReal ?_ ?_).symm⟩
  · rintro rfl
    exact absurd h (by simp)
  · rintro rfl
    exact absurd h (by simp)

theorem real_of_test {s : Shape} (x : FVec Ideal s .f32) (hb) (i : s.Idx)
    (h : cmpf .olt (Host.absf x) (broadcastInDim s ![] hb (constant (F := Ideal) Cert.Pre_finite.S_ .f32 0x7F800000#32)) i = 1#1) : Real1 (x i) := by
  refine real_of_below _ ?_
  pointwise at h
  rw [show Ideal.ofBits FTy.f32 2139095040#32 = ⊤ by simp [Ideal.ofBits, Ideal.ieee]] at h
  by_contra hn
  have e : decide (FloatOps.absf (x i) < (⊤ : EReal)) = false := decide_eq_false hn
  rw [e] at h
  exact absurd h (by decide)

theorem all_real (m : (ℓ : Loc nD τ sig) → Buf (Elt Ideal) ℓ) (c : Dev nD) (h : Cert.Pre_KernelIdeal_finite m) : AllReal m c := by
  obtain ⟨h0, h1, h2, h3⟩ := h c
  refine ⟨fun i => real_of_test _ _ i (congrFun h0 i), fun r k => ?_, fun j k => ?_, fun k => ?_⟩
  · have e := real_of_test _ _ (ix2 r k) (congrFun h1 (ix2 r k))
    pointwise at e
    exact e
  · have e := real_of_test _ _ (ix2 j k) (congrFun h2 (ix2 j k))
    pointwise at e
    exact e
  · have e := real_of_test _ _ (ix2 0 k) (congrFun h3 (ix2 0 k))
    pointwise at e
    exact e

theorem four {α β γ δ ε : Type} (f : α → β → γ → δ → ε) {a a' : α} {b b' : β} {c c' : γ} {d d' : δ} (h0 : a = a') (h1 : b = b') (h2 : c = c') (h3 : d = d') :
    f a b c d = f a' b' c' d' := by rw [h0, h1, h2, h3]

theorem agree : Cert.algebraic_KernelIdeal_ReferenceIdeal_pre_finite := by
  intro m g m' g' hp hm
  refine ⟨fun c => val_main_v79 (F := Ideal) (argA m c) (argX m c) (argW m c) (argB m c),
    fun c => val_main_v83 (F := Ideal) (argA m c) (argX m c) (argW m c) (argB m c),
    fun c => val_main_v84 (F := Ideal) (argA m c) (argX m c) (argW m c) (argB m c), ?_, ?_⟩
  · refine (θ_run defs _ _).mono (fun r h c => ?_) (θ_run_and (launch_holds m g) (frame_holds m g))
    have R := all_real m c hp
    exact ⟨((h.1.1 c).1 7).trans (result_0 m c R), ((h.1.1 c).1 8).trans (result_1 m c R), ((h.1.1 c).1 9).trans (result_2 m c), h.2.1 c⟩
  · refine (θ_run Cert.ReferenceIdeal.defs _ _).mono (fun r h c => ?_) (Cert.ReferenceIdeal.Value.run m' g')
    obtain ⟨r0, r1, r2, ra⟩ := h c
    obtain ⟨e0, e1, e2, e3⟩ := hm c
    have q0 := (Idealize.ShloMosaic.StableHlo.launchContents_devRef m' c Cert.ReferenceIdeal.main_arg0).trans e0
    have q1 := (Idealize.ShloMosaic.StableHlo.launchContents_devRef m' c Cert.ReferenceIdeal.main_arg1).trans e1
    have q2 := (Idealize.ShloMosaic.StableHlo.launchContents_devRef m' c Cert.ReferenceIdeal.main_arg2).trans e2
    have q3 := (Idealize.ShloMosaic.StableHlo.launchContents_devRef m' c Cert.ReferenceIdeal.main_arg3).trans e3
    exact ⟨r0.trans ((val_main_v79_eq (F := Ideal) (Idealize.ShloMosaic.StableHlo.launchContents m' c)).trans (four (val_main_v79 (F := Ideal)) q0 q1 q2 q3)),
      r1.trans ((val_main_v83_eq (F := Ideal) (Idealize.ShloMosaic.StableHlo.launchContents m' c)).trans (four (val_main_v83 (F := Ideal)) q0 q1 q2 q3)),
      r2.trans ((val_main_v84_eq (F := Ideal) (Idealize.ShloMosaic.StableHlo.launchContents m' c)).trans (four (val_main_v84 (F := Ideal)) q0 q1 q2 q3)), ra⟩

end Cert.KernelIdeal
-- ==== Proof.ProductDownDx.lean ====
module

public import proofs.«01_k».proof.Defs
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.DownDxRefIdeal

open Idealize.ShloMosaic Idealize.ShloMosaic.TcCoe
open Idealize.SL.Sem

/-- The reference runs on the host alone: it leaves its arguments as they were, and it has no semaphores. -/
theorem frame_holds : Cert.quiescent_DownDxRefIdeal := fun m g _ =>
  (θ_run _ _ _).mono (fun r h => ⟨fun c => (h c).2, sem_eq_zero_of_no_sems rfl r.2⟩) (Value.run m g)

end Cert.DownDxRefIdeal

namespace Cert.DownDxIdeal

open Idealize.ShloMosaic Idealize.ShloMosaic.TcCoe Idealize.ShloMosaic.Tactic
open Idealize.SL.Sem
open Cert.DownDxIdeal.Gen

/-! ## The gradient of the down-projection with respect to its input -/

variable (m : (ℓ : Loc nD τ sig) → Buf (Elt Ideal) ℓ) (c : Dev nD)

/-- The arguments on one device. -/
abbrev argA : Vec Ideal S4096x4096 .bf16 := m ((c.tc : Thread nD τ).loc main_arg0)
abbrev argB : Vec Ideal S1x11264x4096 .bf16 := m ((c.tc : Thread nD τ).loc main_arg1)

/-- The result, entry by entry. -/
def result (a : Vec Ideal S4096x4096 .bf16) (b : Vec Ideal S1x11264x4096 .bf16) : Vec Ideal S4096x11264 .f32 := fun y => (∑ k : Fin 4096, a (ix2 (y 0) k) * b (ix3 0 (y 1) k) : EReal)

/-- The point of the grid that works on block `j` of the outer axis and block `i` of the inner one. -/
def point (j : Fin 8) (i : Fin 8) : Fin cfg0.N := ⟨8 * j.val + i.val, by have h : cfg0.N = 64 := rfl; omega⟩

theorem place (j : Fin 8) (i : Fin 8) : win0_0.index (point j i) = ![i.val, 0] ∧ win0_1.index (point j i) = ![0, j.val, 0] ∧ win0_2.index (point j i) = ![i.val, j.val] := by
  revert j i
  decide +kernel

theorem point_of (t : Fin cfg0.N) : ∃ j i, t = point j i := by
  have h : cfg0.N = 64 := rfl
  exact ⟨⟨t.val / 8, by omega⟩, ⟨t.val % 8, by omega⟩, Fin.ext (by simp only [point]; omega)⟩

theorem block_0 (j : Fin 8) (i : Fin 8) (r : Fin 512) (k : Fin 4096) :
    iblk m c 0 (point j i) (ix2 r k) = argA m c (ix2 ⟨512 * i.val + r.val, by omega⟩ k) := by
  unfold iblk
  blk_simp
  refine congrArg (argA m c) (funext fun a => Fin.ext ?_)
  have e := (place j i).1
  match a with
  | ⟨0, _⟩ => blk_simp; simp [e, ix2]; try omega
  | ⟨1, _⟩ => blk_simp; simp [e, ix2]; try omega

theorem block_1 (j : Fin 8) (i : Fin 8) (r : Fin 1408) (k : Fin 4096) :
    iblk m c 1 (point j i) (ix3 0 r k) = argB m c (ix3 0 ⟨1408 * j.val + r.val, by omega⟩ k) := by
  unfold iblk
  blk_simp
  refine congrArg (argB m c) (funext fun a => Fin.ext ?_)
  have e := (place j i).2.1
  match a with
  | ⟨0, _⟩ => blk_simp; simp [e, ix3]; try omega
  | ⟨1, _⟩ => blk_simp; simp [e, ix3]; try omega
  | ⟨2, _⟩ => blk_simp; simp [e, ix3]; try omega

/-- One block of the result from the blocks it is computed from. -/
theorem entry (x0 : Vec Ideal S512x4096 .bf16) (x1 : Vec Ideal S1x1408x4096 .bf16) (r : Fin 512) (s : Fin 1408) :
    out0_2 (F := Ideal) x0 x1 (ix2 r s) = (∑ k : Fin 4096, x0 (ix2 r k) * x1 (ix3 0 s k) : EReal) := by
  unfold out0_2
  rw [View.canon_unit_zero (View.eq_zero_of_forall (by decide))]
  simp (disch := decide) only [View.ld_unit_lit']
  unfold k0_pay1
  pointwise

theorem same_sum {K : ℕ} (f g : Fin K → EReal) (h : ∀ k, f k = g k) : ∑ k, f k = ∑ k, g k := Finset.sum_congr rfl fun k _ => h k

/-- The array the kernel leaves is the result. -/
theorem computed : (dats m 0 c).arrAt 2 cfg0.N = result (argA m c) (argB m c) := by
  refine (dats m 0 c).arrAt_eq_of_covers 2 _ (by decide +kernel) fun t hf y => ?_
  blk_simp
  rw [after0_2]
  obtain ⟨j, i, rfl⟩ := point_of t
  obtain ⟨r, s, rfl⟩ : ∃ (r : Fin 512) (s : Fin 1408), y = (ix2 r s) := ⟨y 0, y 1, funext fun a => match a with | ⟨0, _⟩ => rfl | ⟨1, _⟩ => rfl⟩
  have e := (place j i).2.2
  have q : ((win0_2.blk (point j i)).view.emb (ix2 r s)) = (ix2 ⟨512 * i.val + r.val, by omega⟩ ⟨1408 * j.val + s.val, by omega⟩) := by
    refine funext fun a => Fin.ext ?_
    match a with
    | ⟨0, _⟩ => blk_simp; simp [e, ix2]; try omega
    | ⟨1, _⟩ => blk_simp; simp [e, ix2]; try omega
  refine Eq.trans ?_ (congrArg _ q).symm
  refine (entry _ _ r s).trans ?_
  exact same_sum _ _ fun k => congrArg₂ (· * ·) (block_0 m c j i r k) (block_1 m c j i s k)

/-- The reference computes the same sums. -/
theorem reference_result (a : Vec Ideal S4096x4096 .bf16) (b : Vec Ideal S1x11264x4096 .bf16) :
    Cert.DownDxRefIdeal.Read.val_main_v5 (F := Ideal) a b = result a b := by
  funext y
  rw [Cert.DownDxRefIdeal.Read.val_main_v5_apply]
  refine same_sum _ _ fun k => congrArg₂ (· * ·) ?_ ?_
  · exact congrArg a (funext fun x => match x with | ⟨0, _⟩ => rfl | ⟨1, _⟩ => rfl)
  · exact (Cert.DownDxRefIdeal.Read.val_main_v1_apply _ _).trans (congrArg b (funext fun a => Fin.ext (by
      match a with
      | ⟨0, _⟩ => rfl
      | ⟨1, _⟩ => show ((y 1).val * 4096 + k.val) / 4096 % 11264 = (y 1).val; have h : (y 1).val < 11264 := (y 1).isLt; omega
      | ⟨2, _⟩ => show ((y 1).val * 4096 + k.val) % 4096 = k.val; omega)))

theorem agree : Cert.algebraic_DownDxIdeal_DownDxRefIdeal := by
  intro m g m' g' hp hm
  refine ⟨fun c => result (argA m c) (argB m c), ?_, ?_⟩
  · refine (θ_run defs _ _).mono (fun r h c => ?_) (Value.run_blocks m g)
    exact ⟨(h c).1.trans (computed m c), (h c).2⟩
  · refine (θ_run Cert.DownDxRefIdeal.defs _ _).mono (fun r h c => ?_) (Cert.DownDxRefIdeal.Value.run m' g')
    refine ⟨?_, (h c).2⟩
    obtain ⟨e0, e1⟩ := hm c
    rw [(h c).1, e0, e1]
    exact (Cert.DownDxRefIdeal.Read.val_main_v5_eq (F := Ideal) _ _).trans (reference_result _ _)

end Cert.DownDxIdeal
-- ==== Proof.ProductDownDw.lean ====
module

public import proofs.«01_k».proof.Defs
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.DownDwRefIdeal

open Idealize.ShloMosaic Idealize.ShloMosaic.TcCoe
open Idealize.SL.Sem

/-- The reference runs on the host alone: it leaves its arguments as they were, and it has no semaphores. -/
theorem frame_holds : Cert.quiescent_DownDwRefIdeal := fun m g _ =>
  (θ_run _ _ _).mono (fun r h => ⟨fun c => (h c).2, sem_eq_zero_of_no_sems rfl r.2⟩) (Value.run m g)

end Cert.DownDwRefIdeal

namespace Cert.DownDwIdeal

open Idealize.ShloMosaic Idealize.ShloMosaic.TcCoe Idealize.ShloMosaic.Tactic
open Idealize.SL.Sem
open Cert.DownDwIdeal.Gen

/-! ## The gradient of the down-projection with respect to its weight -/

variable (m : (ℓ : Loc nD τ sig) → Buf (Elt Ideal) ℓ) (c : Dev nD)

/-- The arguments on one device. -/
abbrev argA : Vec Ideal S4096x11264 .bf16 := m ((c.tc : Thread nD τ).loc main_arg0)
abbrev argB : Vec Ideal S4096x4096 .bf16 := m ((c.tc : Thread nD τ).loc main_arg1)

/-- The result, entry by entry. -/
def result (a : Vec Ideal S4096x11264 .bf16) (b : Vec Ideal S4096x4096 .bf16) : Vec Ideal S1x11264x4096 .bf16 := fun y => (∑ k : Fin 4096, a (ix2 k (y 1)) * b (ix2 k (y 2)) : EReal)

/-- The point of the grid that works on block `j` of the outer axis and block `i` of the inner one. -/
def point (j : Fin 4) (i : Fin 11) : Fin cfg0.N := ⟨11 * j.val + i.val, by have h : cfg0.N = 44 := rfl; omega⟩

theorem place (j : Fin 4) (i : Fin 11) : win0_0.index (point j i) = ![0, i.val] ∧ win0_1.index (point j i) = ![0, j.val] ∧ win0_2.index (point j i) = ![0, i.val, j.val] := by
  revert j i
  decide +kernel

theorem point_of (t : Fin cfg0.N) : ∃ j i, t = point j i := by
  have h : cfg0.N = 44 := rfl
  exact ⟨⟨t.val / 11, by omega⟩, ⟨t.val % 11, by omega⟩, Fin.ext (by simp only [point]; omega)⟩

theorem block_0 (j : Fin 4) (i : Fin 11) (k : Fin 4096) (r : Fin 1024) :
    iblk m c 0 (point j i) (ix2 k r) = argA m c (ix2 k ⟨1024 * i.val + r.val, by omega⟩) := by
  unfold iblk
  blk_simp
  refine congrArg (argA m c) (funext fun a => Fin.ext ?_)
  have e := (place j i).1
  match a with
  | ⟨0, _⟩ => blk_simp; simp [e, ix2]; try omega
  | ⟨1, _⟩ => blk_simp; simp [e, ix2]; try omega

theorem block_1 (j : Fin 4) (i : Fin 11) (k : Fin 4096) (r : Fin 1024) :
    iblk m c 1 (point j i) (ix2 k r) = argB m c (ix2 k ⟨1024 * j.val + r.val, by omega⟩) := by
  unfold iblk
  blk_simp
  refine congrArg (argB m c) (funext fun a => Fin.ext ?_)
  have e := (place j i).2.1
  match a with
  | ⟨0, _⟩ => blk_simp; simp [e, ix2]; try omega
  | ⟨1, _⟩ => blk_simp; simp [e, ix2]; try omega

/-- One block of the result from the blocks it is computed from. -/
theorem entry (x0 : Vec Ideal S4096x1024 .bf16) (x1 : Vec Ideal S4096x1024 .bf16) (r : Fin 1024) (s : Fin 1024) :
    out0_2 (F := Ideal) x0 x1 (ix3 0 r s) = (∑ k : Fin 4096, x0 (ix2 k r) * x1 (ix2 k s) : EReal) := by
  unfold out0_2
  rw [View.canon_unit_zero (View.eq_zero_of_forall (by decide))]
  simp (disch := decide) only [View.ld_unit_lit']
  unfold k0_pay1
  pointwise

theorem same_sum {K : ℕ} (f g : Fin K → EReal) (h : ∀ k, f k = g k) : ∑ k, f k = ∑ k, g k := Finset.sum_congr rfl fun k _ => h k

/-- The array the kernel leaves is the result. -/
theorem computed : (dats m 0 c).arrAt 2 cfg0.N = result (argA m c) (argB m c) := by
  refine (dats m 0 c).arrAt_eq_of_covers 2 _ (by decide +kernel) fun t hf y => ?_
  blk_simp
  rw [after0_2]
  obtain ⟨j, i, rfl⟩ := point_of t
  obtain ⟨r, s, rfl⟩ : ∃ (r : Fin 1024) (s : Fin 1024), y = (ix3 0 r s) := ⟨y 1, y 2, funext fun a => match a with | ⟨0, _⟩ => Fin.ext (by have h := (y 0).isLt; change (y 0).val < 1 at h; show (y 0).val = 0; omega) | ⟨1, _⟩ => rfl | ⟨2, _⟩ => rfl⟩
  have e := (place j i).2.2
  have q : ((win0_2.blk (point j i)).view.emb (ix3 0 r s)) = (ix3 0 ⟨1024 * i.val + r.val, by omega⟩ ⟨1024 * j.val + s.val, by omega⟩) := by
    refine funext fun a => Fin.ext ?_
    match a with
    | ⟨0, _⟩ => blk_simp; simp [e, ix3]; try omega
    | ⟨1, _⟩ => blk_simp; simp [e, ix3]; try omega
    | ⟨2, _⟩ => blk_simp; simp [e, ix3]; try omega
  refine Eq.trans ?_ (congrArg _ q).symm
  refine (entry _ _ r s).trans ?_
  exact same_sum _ _ fun k => congrArg₂ (· * ·) (block_0 m c j i k r) (block_1 m c j i k s)

/-- The reference computes the same sums. -/
theorem reference_result (a : Vec Ideal S4096x11264 .bf16) (b : Vec Ideal S4096x4096 .bf16) :
    Cert.DownDwRefIdeal.Read.val_main_v7 (F := Ideal) a b = result a b := by
  funext y
  rw [Cert.DownDwRefIdeal.Read.val_main_v7_apply, Cert.DownDwRefIdeal.Read.val_main_v6_apply]
  refine Eq.trans (b := Cert.DownDwRefIdeal.Read.val_main_v5 (F := Ideal) a b (ix2 (y 1) (y 2))) (congrArg (Cert.DownDwRefIdeal.Read.val_main_v5 (F := Ideal) a b) (funext fun x => match x with | ⟨0, _⟩ => rfl | ⟨1, _⟩ => rfl)) ?_
  rw [Cert.DownDwRefIdeal.Read.val_main_v5_apply, Cert.DownDwRefIdeal.Read.val_main_v4_apply]
  refine same_sum _ _ fun k => (mul_comm _ _).trans (congrArg₂ (· * ·) ?_ ?_)
  · exact congrArg a (funext fun x => match x with | ⟨0, _⟩ => rfl | ⟨1, _⟩ => rfl)
  · exact congrArg b (funext fun x => match x with | ⟨0, _⟩ => rfl | ⟨1, _⟩ => rfl)

theorem agree : Cert.algebraic_DownDwIdeal_DownDwRefIdeal := by
  intro m g m' g' hp hm
  refine ⟨fun c => result (argA m c) (argB m c), ?_, ?_⟩
  · refine (θ_run defs _ _).mono (fun r h c => ?_) (Value.run_blocks m g)
    exact ⟨(h c).1.trans (computed m c), (h c).2⟩
  · refine (θ_run Cert.DownDwRefIdeal.defs _ _).mono (fun r h c => ?_) (Cert.DownDwRefIdeal.Value.run m' g')
    refine ⟨?_, (h c).2⟩
    obtain ⟨e0, e1⟩ := hm c
    rw [(h c).1, e0, e1]
    exact (Cert.DownDwRefIdeal.Read.val_main_v7_eq (F := Ideal) _ _).trans (reference_result _ _)

end Cert.DownDwIdeal
-- ==== Proof.ProductUpDx.lean ====
module

public import proofs.«01_k».proof.Defs
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.UpDxRefIdeal

open Idealize.ShloMosaic Idealize.ShloMosaic.TcCoe
open Idealize.SL.Sem

/-- The reference runs on the host alone: it leaves its arguments as they were, and it has no semaphores. -/
theorem frame_holds : Cert.quiescent_UpDxRefIdeal := fun m g _ =>
  (θ_run _ _ _).mono (fun r h => ⟨fun c => (h c).2, sem_eq_zero_of_no_sems rfl r.2⟩) (Value.run m g)

end Cert.UpDxRefIdeal

namespace Cert.UpDxIdeal

open Idealize.ShloMosaic Idealize.ShloMosaic.TcCoe Idealize.ShloMosaic.Tactic
open Idealize.SL.Sem
open Cert.UpDxIdeal.Gen

/-! ## The gradient of the up-projection with respect to its input -/

variable (m : (ℓ : Loc nD τ sig) → Buf (Elt Ideal) ℓ) (c : Dev nD)

/-- The arguments on one device. -/
abbrev argA : Vec Ideal S2x4096x11264 .bf16 := m ((c.tc : Thread nD τ).loc main_arg0)
abbrev argB : Vec Ideal S8x4096x2816 .bf16 := m ((c.tc : Thread nD τ).loc main_arg1)

/-- One slab of the contraction. -/
def slab (a : Vec Ideal S2x4096x11264 .bf16) (b : Vec Ideal S8x4096x2816 .bf16) (u v : Fin 4096) (q : Fin 8) : EReal := ∑ l : Fin 2816, a (ix3 ⟨(2816 * q.val + l.val) / 11264, by omega⟩ u ⟨(2816 * q.val + l.val) % 11264, by omega⟩) * b (ix3 q v l)

/-- The result, entry by entry. -/
def result (a : Vec Ideal S2x4096x11264 .bf16) (b : Vec Ideal S8x4096x2816 .bf16) : Vec Ideal S4096x4096 .f32 := fun y => (∑ q : Fin 8, slab a b (y 0) (y 1) q : EReal)

/-- The point of the grid that works on block `j` of the outer axis and block `i` of the inner one. -/
def point (j : Fin 8) (i : Fin 4) (k : Fin 4) : Fin cfg0.N := ⟨4 * (4 * j.val + i.val) + k.val, by have h : cfg0.N = 128 := rfl; omega⟩

theorem place (j : Fin 8) (i : Fin 4) (k : Fin 4) : win0_0.index (point j i k) = ![k.val / 2, j.val, k.val % 2] ∧ win0_1.index (point j i k) = ![k.val, i.val, 0] ∧ win0_2.index (point j i k) = ![j.val, i.val] := by
  revert j i k
  decide +kernel

theorem point_of (t : Fin cfg0.N) : ∃ j i k, t = point j i k := by
  have h : cfg0.N = 128 := rfl
  exact ⟨⟨t.val / 16, by omega⟩, ⟨t.val / 4 % 4, by omega⟩, ⟨t.val % 4, by omega⟩, Fin.ext (by simp only [point]; omega)⟩

theorem block_0 (j : Fin 8) (i : Fin 4) (k : Fin 4) (r : Fin 512) (p : Fin 5632) :
    iblk m c 0 (point j i k) (ix3 0 r p) = argA m c (ix3 ⟨k.val / 2, by omega⟩ ⟨512 * j.val + r.val, by omega⟩ ⟨5632 * (k.val % 2) + p.val, by omega⟩) := by
  unfold iblk
  blk_simp
  refine congrArg (argA m c) (funext fun a => Fin.ext ?_)
  have e := (place j i k).1
  match a with
  | ⟨0, _⟩ => blk_simp; simp [e, ix3]; try omega
  | ⟨1, _⟩ => blk_simp; simp [e, ix3]; try omega
  | ⟨2, _⟩ => blk_simp; simp [e, ix3]; try omega

theorem block_1 (j : Fin 8) (i : Fin 4) (k : Fin 4) (h : Fin 2) (s : Fin 1024) (p : Fin 2816) :
    iblk m c 1 (point j i k) (ix3 h s p) = argB m c (ix3 ⟨2 * k.val + h.val, by omega⟩ ⟨1024 * i.val + s.val, by omega⟩ p) := by
  unfold iblk
  blk_simp
  refine congrArg (argB m c) (funext fun a => Fin.ext ?_)
  have e := (place j i k).2.1
  match a with
  | ⟨0, _⟩ => blk_simp; simp [e, ix3]; try omega
  | ⟨1, _⟩ => blk_simp; simp [e, ix3]; try omega
  | ⟨2, _⟩ => blk_simp; simp [e, ix3]; try omega

/-- The products a point of the grid adds up. -/
theorem products (va0 : Vec Ideal S1x512x2816 .bf16) (vb0 : Vec Ideal S1x1024x2816 .bf16) (va1 : Vec Ideal S1x512x2816 .bf16) (vb1 : Vec Ideal S1x1024x2816 .bf16) (r : Fin 512) (s : Fin 1024) :
    k0_pay1 (F := Ideal) va0 vb0 va1 vb1 (ix2 r s) = (∑ l : Fin 2816, va0 (ix3 0 r l) * vb0 (ix3 0 s l) : EReal) + (∑ l : Fin 2816, va1 (ix3 0 r l) * vb1 (ix3 0 s l) : EReal) := by
  unfold k0_pay1
  pointwise

theorem same_sum {K : ℕ} (f g : Fin K → EReal) (h : ∀ k, f k = g k) : ∑ k, f k = ∑ k, g k := Finset.sum_congr rfl fun k _ => h k

theorem factor_A0 (j : Fin 8) (i : Fin 4) (k : Fin 4) (r : Fin 512) (l : Fin 2816) :
    View.ld (iblk m c 0 (point j i k)) (Rect.unit (s := S1x512x5632) ![0, 0, 0] ![1, 512, 2816] inb_S1x512x5632_S1x512x2816_0_0_0) (ix3 0 r l) = argA m c (ix3 ⟨(2816 * (2 * k.val + 0) + l.val) / 11264, by omega⟩ ⟨512 * j.val + r.val, by omega⟩ ⟨(2816 * (2 * k.val + 0) + l.val) % 11264, by omega⟩) := by
  refine Eq.trans (b := iblk m c 0 (point j i k) (ix3 0 r (⟨0 + l.val, by omega⟩ : Fin 5632))) ?_ ?_
  · refine congrArg (iblk m c 0 (point j i k)) (funext fun a => Fin.ext ?_)
    match a with
    | ⟨0, _⟩ => show 0 + 1 * 0 = 0; omega
    | ⟨1, _⟩ => show 0 + 1 * r.val = r.val; omega
    | ⟨2, _⟩ => show 0 + 1 * l.val = 0 + l.val; omega
  rewrite [block_0]
  refine congrArg (argA m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem factor_B0 (j : Fin 8) (i : Fin 4) (k : Fin 4) (s : Fin 1024) (l : Fin 2816) :
    View.ld (iblk m c 1 (point j i k)) (Rect.unit (s := S2x1024x2816) ![0, 0, 0] ![1, 1024, 2816] inb_S2x1024x2816_S1x1024x2816_0_0_0) (ix3 0 s l) = argB m c (ix3 ⟨2 * k.val + 0, by omega⟩ ⟨1024 * i.val + s.val, by omega⟩ l) := by
  refine Eq.trans (b := iblk m c 1 (point j i k) (ix3 (⟨0, by omega⟩ : Fin 2) s l)) ?_ ?_
  · refine congrArg (iblk m c 1 (point j i k)) (funext fun a => Fin.ext ?_)
    match a with
    | ⟨0, _⟩ => show 0 + 1 * 0 = 0; omega
    | ⟨1, _⟩ => show 0 + 1 * s.val = s.val; omega
    | ⟨2, _⟩ => show 0 + 1 * l.val = l.val; omega
  rewrite [block_1]
  refine congrArg (argB m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem factor_A1 (j : Fin 8) (i : Fin 4) (k : Fin 4) (r : Fin 512) (l : Fin 2816) :
    View.ld (iblk m c 0 (point j i k)) (Rect.unit (s := S1x512x5632) ![0, 0, 2816] ![1, 512, 2816] inb_S1x512x5632_S1x512x2816_0_0_2816) (ix3 0 r l) = argA m c (ix3 ⟨(2816 * (2 * k.val + 1) + l.val) / 11264, by omega⟩ ⟨512 * j.val + r.val, by omega⟩ ⟨(2816 * (2 * k.val + 1) + l.val) % 11264, by omega⟩) := by
  refine Eq.trans (b := iblk m c 0 (point j i k) (ix3 0 r (⟨2816 + l.val, by omega⟩ : Fin 5632))) ?_ ?_
  · refine congrArg (iblk m c 0 (point j i k)) (funext fun a => Fin.ext ?_)
    match a with
    | ⟨0, _⟩ => show 0 + 1 * 0 = 0; omega
    | ⟨1, _⟩ => show 0 + 1 * r.val = r.val; omega
    | ⟨2, _⟩ => show 2816 + 1 * l.val = 2816 + l.val; omega
  rewrite [block_0]
  refine congrArg (argA m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem factor_B1 (j : Fin 8) (i : Fin 4) (k : Fin 4) (s : Fin 1024) (l : Fin 2816) :
    View.ld (iblk m c 1 (point j i k)) (Rect.unit (s := S2x1024x2816) ![1, 0, 0] ![1, 1024, 2816] inb_S2x1024x2816_S1x1024x2816_1_0_0) (ix3 0 s l) = argB m c (ix3 ⟨2 * k.val + 1, by omega⟩ ⟨1024 * i.val + s.val, by omega⟩ l) := by
  refine Eq.trans (b := iblk m c 1 (point j i k) (ix3 (⟨1, by omega⟩ : Fin 2) s l)) ?_ ?_
  · refine congrArg (iblk m c 1 (point j i k)) (funext fun a => Fin.ext ?_)
    match a with
    | ⟨0, _⟩ => show 1 + 1 * 0 = 1; omega
    | ⟨1, _⟩ => show 0 + 1 * s.val = s.val; omega
    | ⟨2, _⟩ => show 0 + 1 * l.val = l.val; omega
  rewrite [block_1]
  refine congrArg (argB m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem contribution (j : Fin 8) (i : Fin 4) (k : Fin 4) (r : Fin 512) (s : Fin 1024) :
    k0_pay1 (F := Ideal) (View.ld (iblk m c 0 (point j i k)) (Rect.unit (s := S1x512x5632) ![0, 0, 0] ![1, 512, 2816] inb_S1x512x5632_S1x512x2816_0_0_0)) (View.ld (iblk m c 1 (point j i k)) (Rect.unit (s := S2x1024x2816) ![0, 0, 0] ![1, 1024, 2816] inb_S2x1024x2816_S1x1024x2816_0_0_0)) (View.ld (iblk m c 0 (point j i k)) (Rect.unit (s := S1x512x5632) ![0, 0, 2816] ![1, 512, 2816] inb_S1x512x5632_S1x512x2816_0_0_2816)) (View.ld (iblk m c 1 (point j i k)) (Rect.unit (s := S2x1024x2816) ![1, 0, 0] ![1, 1024, 2816] inb_S2x1024x2816_S1x1024x2816_1_0_0)) (ix2 r s) = (slab (argA m c) (argB m c) ⟨512 * j.val + r.val, by omega⟩ ⟨1024 * i.val + s.val, by omega⟩ ⟨2 * k.val + 0, by omega⟩ + slab (argA m c) (argB m c) ⟨512 * j.val + r.val, by omega⟩ ⟨1024 * i.val + s.val, by omega⟩ ⟨2 * k.val + 1, by omega⟩ : EReal) :=
  (products _ _ _ _ r s).trans (congrArg₂ (· + ·) (same_sum _ _ fun l => congrArg₂ (· * ·) (factor_A0 m c j i k r l) (factor_B0 m c j i k s l)) (same_sum _ _ fun l => congrArg₂ (· * ·) (factor_A1 m c j i k r l) (factor_B1 m c j i k s l)))

theorem outs_at {a b : ℕ} (e : a = b) (ha : a < cfg0.N) (hb : b < cfg0.N) : outsAt0 m c a ha = outsAt0 m c b hb := by subst e; rfl

theorem first_store (va0 : Vec Ideal S1x512x2816 .bf16) (vb0 : Vec Ideal S1x1024x2816 .bf16) (va1 : Vec Ideal S1x512x2816 .bf16) (vb1 : Vec Ideal S1x1024x2816 .bf16) (y : S512x1024.Idx) : k0_pay2 (F := Ideal) va0 vb0 va1 vb1 y = k0_pay1 (F := Ideal) va0 vb0 va1 vb1 y := by
  unfold k0_pay2
  rw [shapeCast_apply _ _ y y rfl]

theorem later_store (va0 : Vec Ideal S1x512x2816 .bf16) (vb0 : Vec Ideal S1x1024x2816 .bf16) (va1 : Vec Ideal S1x512x2816 .bf16) (vb1 : Vec Ideal S1x1024x2816 .bf16) (w : Vec Ideal S512x1024 .f32) (y : S512x1024.Idx) :
    k0_pay3 (F := Ideal) va0 vb0 va1 vb1 w y = (w y + k0_pay1 (F := Ideal) va0 vb0 va1 vb1 y : EReal) := by
  unfold k0_pay3
  exact shapeCast_apply _ _ y y rfl

theorem at_first (t : Fin cfg0.N) (h0 : t.val % 4 = 0) (h1 : ¬(1 ≤ t.val % 4)) (h2 : ¬t.val % 4 = 3) : (outsAt0 m c t.val t.isLt).2 = k0_pay2 (F := Ideal) (View.ld (iblk m c 0 t) (Rect.unit (s := S1x512x5632) ![0, 0, 0] ![1, 512, 2816] inb_S1x512x5632_S1x512x2816_0_0_0)) (View.ld (iblk m c 1 t) (Rect.unit (s := S2x1024x2816) ![0, 0, 0] ![1, 1024, 2816] inb_S2x1024x2816_S1x1024x2816_0_0_0)) (View.ld (iblk m c 0 t) (Rect.unit (s := S1x512x5632) ![0, 0, 2816] ![1, 512, 2816] inb_S1x512x5632_S1x512x2816_0_0_2816)) (View.ld (iblk m c 1 t) (Rect.unit (s := S2x1024x2816) ![1, 0, 0] ![1, 1024, 2816] inb_S2x1024x2816_S1x1024x2816_1_0_0)) := by
  rw [outsAt0_A m c t h0 h1 h2]
  frame_out
  all_goals rfl

theorem at_middle (t : Fin cfg0.N) (h0 : ¬t.val % 4 = 0) (h1 : 1 ≤ t.val % 4) (h2 : ¬t.val % 4 = 3) : (outsAt0 m c t.val t.isLt).2 = k0_pay3 (F := Ideal) (View.ld (iblk m c 0 t) (Rect.unit (s := S1x512x5632) ![0, 0, 0] ![1, 512, 2816] inb_S1x512x5632_S1x512x2816_0_0_0)) (View.ld (iblk m c 1 t) (Rect.unit (s := S2x1024x2816) ![0, 0, 0] ![1, 1024, 2816] inb_S2x1024x2816_S1x1024x2816_0_0_0)) (View.ld (iblk m c 0 t) (Rect.unit (s := S1x512x5632) ![0, 0, 2816] ![1, 512, 2816] inb_S1x512x5632_S1x512x2816_0_0_2816)) (View.ld (iblk m c 1 t) (Rect.unit (s := S2x1024x2816) ![1, 0, 0] ![1, 1024, 2816] inb_S2x1024x2816_S1x1024x2816_1_0_0)) (outsAt0 m c (t.val - 1) (Nat.lt_of_le_of_lt (Nat.sub_le _ _) t.isLt)).2 := by
  rw [outsAt0_B m c t h0 h1 h2]
  frame_out
  rw [(Memref.isWhole_whole _).read_unread]
  all_goals rfl

theorem at_last (t : Fin cfg0.N) (h0 : ¬t.val % 4 = 0) (h1 : 1 ≤ t.val % 4) (h2 : t.val % 4 = 3) : (outsAt0 m c t.val t.isLt).1 = k0_pay3 (F := Ideal) (View.ld (iblk m c 0 t) (Rect.unit (s := S1x512x5632) ![0, 0, 0] ![1, 512, 2816] inb_S1x512x5632_S1x512x2816_0_0_0)) (View.ld (iblk m c 1 t) (Rect.unit (s := S2x1024x2816) ![0, 0, 0] ![1, 1024, 2816] inb_S2x1024x2816_S1x1024x2816_0_0_0)) (View.ld (iblk m c 0 t) (Rect.unit (s := S1x512x5632) ![0, 0, 2816] ![1, 512, 2816] inb_S1x512x5632_S1x512x2816_0_0_2816)) (View.ld (iblk m c 1 t) (Rect.unit (s := S2x1024x2816) ![1, 0, 0] ![1, 1024, 2816] inb_S2x1024x2816_S1x1024x2816_1_0_0)) (outsAt0 m c (t.val - 1) (Nat.lt_of_le_of_lt (Nat.sub_le _ _) t.isLt)).2 := by
  rw [outsAt0_C m c t h0 h1 h2]
  frame_out
  rw [(Memref.isWhole_whole _).read_unread]
  all_goals rfl

theorem after_0 (j : Fin 8) (i : Fin 4) (r : Fin 512) (s : Fin 1024) : ((outsAt0 m c (point j i 0).val (point j i 0).isLt).2 (ix2 r s) : EReal) = slab (argA m c) (argB m c) ⟨512 * j.val + r.val, by omega⟩ ⟨1024 * i.val + s.val, by omega⟩ ⟨2 * 0 + 0, by omega⟩ + slab (argA m c) (argB m c) ⟨512 * j.val + r.val, by omega⟩ ⟨1024 * i.val + s.val, by omega⟩ ⟨2 * 0 + 1, by omega⟩ := by
  have h0 : (point j i 0).val % 4 = 0 := by simp only [point]; omega
  have h1 : ¬(1 ≤ (point j i 0).val % 4) := by simp only [point]; omega
  have h2 : ¬(point j i 0).val % 4 = 3 := by simp only [point]; omega
  rw [at_first m c (point j i 0) h0 h1 h2]
  exact (first_store _ _ _ _ _).trans (contribution m c j i 0 r s)

theorem after_1 (j : Fin 8) (i : Fin 4) (r : Fin 512) (s : Fin 1024) : ((outsAt0 m c (point j i 1).val (point j i 1).isLt).2 (ix2 r s) : EReal) = ((outsAt0 m c (point j i 0).val (point j i 0).isLt).2 (ix2 r s) : EReal) + (slab (argA m c) (argB m c) ⟨512 * j.val + r.val, by omega⟩ ⟨1024 * i.val + s.val, by omega⟩ ⟨2 * 1 + 0, by omega⟩ + slab (argA m c) (argB m c) ⟨512 * j.val + r.val, by omega⟩ ⟨1024 * i.val + s.val, by omega⟩ ⟨2 * 1 + 1, by omega⟩) := by
  have h0 : ¬(point j i 1).val % 4 = 0 := by simp only [point]; omega
  have h1 : 1 ≤ (point j i 1).val % 4 := by simp only [point]; omega
  have h2 : ¬(point j i 1).val % 4 = 3 := by simp only [point]; omega
  rw [at_middle m c (point j i 1) h0 h1 h2]
  refine (later_store _ _ _ _ _ _).trans (congrArg₂ (· + ·) ?_ (contribution m c j i 1 r s))
  rw [outs_at m c (b := (point j i 0).val) (by simp only [point]; rfl) _ (point j i 0).isLt]

theorem after_2 (j : Fin 8) (i : Fin 4) (r : Fin 512) (s : Fin 1024) : ((outsAt0 m c (point j i 2).val (point j i 2).isLt).2 (ix2 r s) : EReal) = ((outsAt0 m c (point j i 1).val (point j i 1).isLt).2 (ix2 r s) : EReal) + (slab (argA m c) (argB m c) ⟨512 * j.val + r.val, by omega⟩ ⟨1024 * i.val + s.val, by omega⟩ ⟨2 * 2 + 0, by omega⟩ + slab (argA m c) (argB m c) ⟨512 * j.val + r.val, by omega⟩ ⟨1024 * i.val + s.val, by omega⟩ ⟨2 * 2 + 1, by omega⟩) := by
  have h0 : ¬(point j i 2).val % 4 = 0 := by simp only [point]; omega
  have h1 : 1 ≤ (point j i 2).val % 4 := by simp only [point]; omega
  have h2 : ¬(point j i 2).val % 4 = 3 := by simp only [point]; omega
  rw [at_middle m c (point j i 2) h0 h1 h2]
  refine (later_store _ _ _ _ _ _).trans (congrArg₂ (· + ·) ?_ (contribution m c j i 2 r s))
  rw [outs_at m c (b := (point j i 1).val) (by simp only [point]; rfl) _ (point j i 1).isLt]

theorem at_the_end (j : Fin 8) (i : Fin 4) (r : Fin 512) (s : Fin 1024) : ((outsAt0 m c (point j i 3).val (point j i 3).isLt).1 (ix2 r s) : EReal) = (((outsAt0 m c (point j i 2).val (point j i 2).isLt).2 (ix2 r s) : EReal) + (slab (argA m c) (argB m c) ⟨512 * j.val + r.val, by omega⟩ ⟨1024 * i.val + s.val, by omega⟩ ⟨2 * 3 + 0, by omega⟩ + slab (argA m c) (argB m c) ⟨512 * j.val + r.val, by omega⟩ ⟨1024 * i.val + s.val, by omega⟩ ⟨2 * 3 + 1, by omega⟩)) := by
  have h0 : ¬(point j i 3).val % 4 = 0 := by simp only [point]; omega
  have h1 : 1 ≤ (point j i 3).val % 4 := by simp only [point]; omega
  have h2 : (point j i 3).val % 4 = 3 := by simp only [point]; omega
  rw [at_last m c (point j i 3) h0 h1 h2]
  skip
  refine (later_store _ _ _ _ _ _).trans (congrArg₂ (· + ·) ?_ (contribution m c j i 3 r s))
  rw [outs_at m c (b := (point j i 2).val) (by simp only [point]; rfl) _ (point j i 2).isLt]

theorem sums (j : Fin 8) (i : Fin 4) (r : Fin 512) (s : Fin 1024) : ((outsAt0 m c (point j i 3).val (point j i 3).isLt).1 (ix2 r s) : EReal) = (∑ q : Fin 8, slab (argA m c) (argB m c) ⟨512 * j.val + r.val, by omega⟩ ⟨1024 * i.val + s.val, by omega⟩ q : EReal) := by
  rw [at_the_end, after_2, after_1, after_0]
  skip
  generalize slab (argA m c) (argB m c) ⟨512 * j.val + r.val, by omega⟩ ⟨1024 * i.val + s.val, by omega⟩ = f
  rw [Fin.sum_univ_eight]
  simp only [← add_assoc]; rfl

/-- The array the kernel leaves is the result. -/
theorem computed : (dats m 0 c).arrAt 2 cfg0.N = result (argA m c) (argB m c) := by
  refine (dats m 0 c).arrAt_eq_of_covers 2 _ (by decide +kernel) fun t hf y => ?_
  blk_simp
  rw [after0_2]
  obtain ⟨j, i, k, rfl⟩ := point_of t
  obtain ⟨r, s, rfl⟩ : ∃ (r : Fin 512) (s : Fin 1024), y = ix2 r s := ⟨y 0, y 1, funext fun a => match a with | ⟨0, _⟩ => rfl | ⟨1, _⟩ => rfl⟩
  have hk : (point j i k).val % 4 = 3 := (flush0_2 _).mp hf
  obtain rfl : k = 3 := Fin.ext (by simp only [point] at hk; have h := k.isLt; show k.val = 3; omega)
  have e := (place j i 3).2.2
  have q : ((win0_2.blk (point j i 3)).view.emb (ix2 r s)) = (ix2 ⟨512 * j.val + r.val, by omega⟩ ⟨1024 * i.val + s.val, by omega⟩) := by
    refine funext fun a => Fin.ext ?_
    match a with
    | ⟨0, _⟩ => blk_simp; simp [e, ix2]; try omega
    | ⟨1, _⟩ => blk_simp; simp [e, ix2]; try omega
  refine Eq.trans ?_ (congrArg _ q).symm
  exact sums m c j i r s

/-- A sum over the whole contraction is the sum of its slabs. -/
theorem split_sum (f : Fin 22528 → EReal) : ∑ k, f k = ∑ q : Fin 8, ∑ l : Fin 2816, f ⟨2816 * q.val + l.val, by omega⟩ := by
  refine (Fin.sum_mul_add_fin 8 2816 f (by decide)).symm.trans ?_
  refine same_sum _ _ fun q => same_sum _ _ fun l => congrArg f (Fin.ext ?_)
  show q.val * 2816 + l.val = 2816 * q.val + l.val
  omega

/-- The two halves of the gradient set side by side. -/
theorem both_halves (a : Vec Ideal S2x4096x11264 .bf16) (r : Fin 4096) (p : Fin 22528) :
    Cert.UpDxRefIdeal.Read.val_main_v6 (F := Ideal) a (ix2 r p) = a (ix3 ⟨p.val / 11264, by omega⟩ r ⟨p.val % 11264, by omega⟩) := by
  unfold Cert.UpDxRefIdeal.Read.val_main_v6
  by_cases h : p.val < 11264
  · refine (concatenate_pair_apply_left (t := Cert.UpDxRefIdeal.S4096x22528) (s₁ := Cert.UpDxRefIdeal.S4096x11264) (s₂ := Cert.UpDxRefIdeal.S4096x11264) 1 _ _ _ (ix2 r p) rfl (ix2 r (⟨p.val, h⟩ : Fin 11264)) (fun (b : Fin 2) => match b with | ⟨0, _⟩ => rfl | ⟨1, _⟩ => rfl)).trans ?_
    refine Eq.trans (b := Cert.UpDxRefIdeal.Read.val_main_v1 (F := Ideal) a (ix2 r (⟨p.val, h⟩ : Fin 11264))) rfl ?_
    rw [Cert.UpDxRefIdeal.Read.val_main_v1_apply, Cert.UpDxRefIdeal.Read.val_main_v0_apply]
    refine congrArg a (funext fun x => Fin.ext ?_)
    match x with
    | ⟨0, _⟩ => show 0 = p.val / 11264; omega
    | ⟨1, _⟩ => show (r.val * 11264 + p.val) / 11264 % 4096 = r.val; omega
    | ⟨2, _⟩ => show (r.val * 11264 + p.val) % 11264 = p.val % 11264; omega
  · refine (concatenate_pair_apply_right (t := Cert.UpDxRefIdeal.S4096x22528) (s₁ := Cert.UpDxRefIdeal.S4096x11264) (s₂ := Cert.UpDxRefIdeal.S4096x11264) 1 _ _ _ (ix2 r p) rfl rfl (ix2 r (⟨p.val - 11264, by omega⟩ : Fin 11264)) (fun (b : Fin 2) hb => match b, hb with | ⟨0, _⟩, _ => rfl | ⟨1, _⟩, hb => absurd rfl hb) (by show p.val - 11264 + 11264 = p.val; omega)).trans ?_
    refine Eq.trans (b := Cert.UpDxRefIdeal.Read.val_main_v4 (F := Ideal) a (ix2 r (⟨p.val - 11264, by omega⟩ : Fin 11264))) rfl ?_
    rw [Cert.UpDxRefIdeal.Read.val_main_v4_apply, Cert.UpDxRefIdeal.Read.val_main_v3_apply]
    refine congrArg a (funext fun x => Fin.ext ?_)
    match x with
    | ⟨0, _⟩ => show 1 + 0 = p.val / 11264; omega
    | ⟨1, _⟩ => show (r.val * 11264 + (p.val - 11264)) / 11264 % 4096 = r.val; omega
    | ⟨2, _⟩ => show (r.val * 11264 + (p.val - 11264)) % 11264 = p.val % 11264; omega

/-- The reference computes the same sums. -/
theorem reference_result (a : Vec Ideal S2x4096x11264 .bf16) (b : Vec Ideal S8x4096x2816 .bf16) :
    Cert.UpDxRefIdeal.Read.val_main_v12 (F := Ideal) a b = result a b := by
  funext y
  rw [Cert.UpDxRefIdeal.Read.val_main_v12_apply]
  refine Eq.trans (same_sum _ (fun p => (a (ix3 ⟨p.val / 11264, by omega⟩ (y 0) ⟨p.val % 11264, by omega⟩) * b (ix3 ⟨p.val / 2816, by omega⟩ (y 1) ⟨p.val % 2816, by omega⟩) : EReal)) fun p => congrArg₂ (· * ·) ?_ ?_) ?_
  · refine Eq.trans (congrArg (Cert.UpDxRefIdeal.Read.val_main_v6 (F := Ideal) a) ?_) (both_halves a (y 0) p)
    exact funext fun x => match x with | ⟨0, _⟩ => rfl | ⟨1, _⟩ => rfl
  · rw [Cert.UpDxRefIdeal.Read.val_main_v9_apply, Cert.UpDxRefIdeal.Read.val_main_v8_apply]
    refine congrArg b (funext fun x => Fin.ext ?_)
    have h : (y 1).val < 4096 := (y 1).isLt
    match x with
    | ⟨0, _⟩ => show ((y 1).val * 22528 + p.val) / 2816 % 8 = p.val / 2816; omega
    | ⟨1, _⟩ => show ((y 1).val * 22528 + p.val) / 22528 = (y 1).val; omega
    | ⟨2, _⟩ => show ((y 1).val * 22528 + p.val) % 2816 = p.val % 2816; omega
  · refine (split_sum _).trans (same_sum _ _ fun q => same_sum _ _ fun l => congrArg₂ (· * ·) rfl (congrArg b (funext fun x => Fin.ext ?_)))
    match x with
    | ⟨0, _⟩ => show (2816 * q.val + l.val) / 2816 = q.val; omega
    | ⟨1, _⟩ => rfl
    | ⟨2, _⟩ => show (2816 * q.val + l.val) % 2816 = l.val; omega

theorem agree : Cert.algebraic_UpDxIdeal_UpDxRefIdeal := by
  intro m g m' g' hp hm
  refine ⟨fun c => result (argA m c) (argB m c), ?_, ?_⟩
  · refine (θ_run defs _ _).mono (fun r h c => ?_) (Value.run_blocks m g)
    exact ⟨(h c).1.trans (computed m c), (h c).2⟩
  · refine (θ_run Cert.UpDxRefIdeal.defs _ _).mono (fun r h c => ?_) (Cert.UpDxRefIdeal.Value.run m' g')
    refine ⟨?_, (h c).2⟩
    obtain ⟨e0, e1⟩ := hm c
    rw [(h c).1, e0, e1]
    exact (Cert.UpDxRefIdeal.Read.val_main_v12_eq (F := Ideal) _ _).trans (reference_result _ _)

end Cert.UpDxIdeal
-- ==== Proof.ProductUpDw.lean ====
module

public import proofs.«01_k».proof.Defs
public import proofs.«01_k».proof.Proof.Gen.UpDwIdeal
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.UpDwRefIdeal

open Idealize.ShloMosaic Idealize.ShloMosaic.TcCoe
open Idealize.SL.Sem

/-- The reference runs on the host alone: it leaves its arguments as they were, and it has no semaphores. -/
theorem frame_holds : Cert.quiescent_UpDwRefIdeal := fun m g _ =>
  (θ_run _ _ _).mono (fun r h => ⟨fun c => (h c).2, sem_eq_zero_of_no_sems rfl r.2⟩) (Value.run m g)

end Cert.UpDwRefIdeal

namespace Cert.UpDwIdeal

open Idealize.ShloMosaic Idealize.ShloMosaic.TcCoe Idealize.ShloMosaic.Tactic
open Idealize.SL.Sem
open Cert.UpDwIdeal.Gen

/-! ## The gradient of the up-projection with respect to its weight -/

variable (m : (ℓ : Loc nD τ sig) → Buf (Elt Ideal) ℓ) (c : Dev nD)

/-- The arguments on one device. -/
abbrev argA : Vec Ideal S2x4096x11264 .bf16 := m ((c.tc : Thread nD τ).loc main_arg0)
abbrev argB : Vec Ideal S4096x4096 .bf16 := m ((c.tc : Thread nD τ).loc main_arg1)

/-- The result, entry by entry. -/
def result (a : Vec Ideal S2x4096x11264 .bf16) (b : Vec Ideal S4096x4096 .bf16) : Vec Ideal S1x22528x4096 .bf16 := fun y => (∑ k : Fin 4096, a (ix3 ⟨(y 1).val / 11264, by have h : (y 1).val < 22528 := (y 1).isLt; omega⟩ k ⟨(y 1).val % 11264, by omega⟩) * b (ix2 k (y 2)) : EReal)

/-- The point of the grid that works on block `j` of the outer axis and block `i` of the inner one. -/
def point (j : Fin 4) (i : Fin 22) : Fin cfg0.N := ⟨22 * j.val + i.val, by have h : cfg0.N = 88 := rfl; omega⟩

theorem place (j : Fin 4) (i : Fin 22) : win0_0.index (point j i) = ![i.val / 11, 0, i.val % 11] ∧ win0_1.index (point j i) = ![0, j.val] ∧ win0_2.index (point j i) = ![0, i.val, j.val] := by
  revert j i
  decide +kernel

theorem point_of (t : Fin cfg0.N) : ∃ j i, t = point j i := by
  have h : cfg0.N = 88 := rfl
  exact ⟨⟨t.val / 22, by omega⟩, ⟨t.val % 22, by omega⟩, Fin.ext (by simp only [point]; omega)⟩

theorem block_0 (j : Fin 4) (i : Fin 22) (k : Fin 4096) (r : Fin 1024) :
    iblk m c 0 (point j i) (ix3 0 k r) = argA m c (ix3 ⟨(1024 * i.val + r.val) / 11264, by omega⟩ k ⟨(1024 * i.val + r.val) % 11264, by omega⟩) := by
  unfold iblk
  blk_simp
  refine congrArg (argA m c) (funext fun a => Fin.ext ?_)
  have e := (place j i).1
  match a with
  | ⟨0, _⟩ => blk_simp; simp [e, ix3]; try omega
  | ⟨1, _⟩ => blk_simp; simp [e, ix3]; try omega
  | ⟨2, _⟩ => blk_simp; simp [e, ix3]; try omega

theorem block_1 (j : Fin 4) (i : Fin 22) (k : Fin 4096) (r : Fin 1024) :
    iblk m c 1 (point j i) (ix2 k r) = argB m c (ix2 k ⟨1024 * j.val + r.val, by omega⟩) := by
  unfold iblk
  blk_simp
  refine congrArg (argB m c) (funext fun a => Fin.ext ?_)
  have e := (place j i).2.1
  match a with
  | ⟨0, _⟩ => blk_simp; simp [e, ix2]; try omega
  | ⟨1, _⟩ => blk_simp; simp [e, ix2]; try omega

/-- One block of the result from the blocks it is computed from. -/
theorem entry (x0 : Vec Ideal S1x4096x1024 .bf16) (x1 : Vec Ideal S4096x1024 .bf16) (r : Fin 1024) (s : Fin 1024) :
    out0_2 (F := Ideal) x0 x1 (ix3 0 r s) = (∑ k : Fin 4096, x0 (ix3 0 k r) * x1 (ix2 k s) : EReal) := by
  unfold out0_2
  rw [View.canon_unit_zero (View.eq_zero_of_forall (by decide))]
  simp (disch := decide) only [View.ld_unit_lit']
  unfold k0_pay1
  pointwise

theorem same_sum {K : ℕ} (f g : Fin K → EReal) (h : ∀ k, f k = g k) : ∑ k, f k = ∑ k, g k := Finset.sum_congr rfl fun k _ => h k

/-- The array the kernel leaves is the result. -/
theorem computed : (dats m 0 c).arrAt 2 cfg0.N = result (argA m c) (argB m c) := by
  refine (dats m 0 c).arrAt_eq_of_covers 2 _ (by decide +kernel) fun t hf y => ?_
  blk_simp
  rw [after0_2]
  obtain ⟨j, i, rfl⟩ := point_of t
  obtain ⟨r, s, rfl⟩ : ∃ (r : Fin 1024) (s : Fin 1024), y = (ix3 0 r s) := ⟨y 1, y 2, funext fun a => match a with | ⟨0, _⟩ => Fin.ext (by have h := (y 0).isLt; change (y 0).val < 1 at h; show (y 0).val = 0; omega) | ⟨1, _⟩ => rfl | ⟨2, _⟩ => rfl⟩
  have e := (place j i).2.2
  have q : ((win0_2.blk (point j i)).view.emb (ix3 0 r s)) = (ix3 0 ⟨1024 * i.val + r.val, by omega⟩ ⟨1024 * j.val + s.val, by omega⟩) := by
    refine funext fun a => Fin.ext ?_
    match a with
    | ⟨0, _⟩ => blk_simp; simp [e, ix3]; try omega
    | ⟨1, _⟩ => blk_simp; simp [e, ix3]; try omega
    | ⟨2, _⟩ => blk_simp; simp [e, ix3]; try omega
  refine Eq.trans ?_ (congrArg _ q).symm
  refine (entry _ _ r s).trans ?_
  exact same_sum _ _ fun k => congrArg₂ (· * ·) (block_0 m c j i k r) (block_1 m c j i k s)

/-- The two halves of the gradient set side by side. -/
theorem both_halves (a : Vec Ideal S2x4096x11264 .bf16) (r : Fin 4096) (p : Fin 22528) :
    Cert.UpDwRefIdeal.Read.val_main_v7 (F := Ideal) a (ix2 r p) = a (ix3 ⟨p.val / 11264, by omega⟩ r ⟨p.val % 11264, by omega⟩) := by
  unfold Cert.UpDwRefIdeal.Read.val_main_v7
  by_cases h : p.val < 11264
  · refine (concatenate_pair_apply_left (t := Cert.UpDwRefIdeal.S4096x22528) (s₁ := Cert.UpDwRefIdeal.S4096x11264) (s₂ := Cert.UpDwRefIdeal.S4096x11264) 1 _ _ _ (ix2 r p) rfl (ix2 r (⟨p.val, h⟩ : Fin 11264)) (fun (b : Fin 2) => match b with | ⟨0, _⟩ => rfl | ⟨1, _⟩ => rfl)).trans ?_
    refine Eq.trans (b := Cert.UpDwRefIdeal.Read.val_main_v2 (F := Ideal) a (ix2 r (⟨p.val, h⟩ : Fin 11264))) rfl ?_
    rw [Cert.UpDwRefIdeal.Read.val_main_v2_apply, Cert.UpDwRefIdeal.Read.val_main_v1_apply]
    refine congrArg a (funext fun x => Fin.ext ?_)
    match x with
    | ⟨0, _⟩ => show 0 = p.val / 11264; omega
    | ⟨1, _⟩ => show (r.val * 11264 + p.val) / 11264 % 4096 = r.val; omega
    | ⟨2, _⟩ => show (r.val * 11264 + p.val) % 11264 = p.val % 11264; omega
  · refine (concatenate_pair_apply_right (t := Cert.UpDwRefIdeal.S4096x22528) (s₁ := Cert.UpDwRefIdeal.S4096x11264) (s₂ := Cert.UpDwRefIdeal.S4096x11264) 1 _ _ _ (ix2 r p) rfl rfl (ix2 r (⟨p.val - 11264, by omega⟩ : Fin 11264)) (fun (b : Fin 2) hb => match b, hb with | ⟨0, _⟩, _ => rfl | ⟨1, _⟩, hb => absurd rfl hb) (by show p.val - 11264 + 11264 = p.val; omega)).trans ?_
    refine Eq.trans (b := Cert.UpDwRefIdeal.Read.val_main_v5 (F := Ideal) a (ix2 r (⟨p.val - 11264, by omega⟩ : Fin 11264))) rfl ?_
    rw [Cert.UpDwRefIdeal.Read.val_main_v5_apply, Cert.UpDwRefIdeal.Read.val_main_v4_apply]
    refine congrArg a (funext fun x => Fin.ext ?_)
    match x with
    | ⟨0, _⟩ => show 1 + 0 = p.val / 11264; omega
    | ⟨1, _⟩ => show (r.val * 11264 + (p.val - 11264)) / 11264 % 4096 = r.val; omega
    | ⟨2, _⟩ => show (r.val * 11264 + (p.val - 11264)) % 11264 = p.val % 11264; omega

/-- The reference computes the same sums. -/
theorem reference_result (a : Vec Ideal S2x4096x11264 .bf16) (b : Vec Ideal S4096x4096 .bf16) :
    Cert.UpDwRefIdeal.Read.val_main_v14 (F := Ideal) a b = result a b := by
  funext y
  have h1 : (y 1).val < 22528 := (y 1).isLt
  rw [Cert.UpDwRefIdeal.Read.val_main_v14_apply, Cert.UpDwRefIdeal.Read.val_main_v13_apply]
  refine Eq.trans (b := Cert.UpDwRefIdeal.Read.val_main_v12 (F := Ideal) a b (ix2 (y 1) (y 2))) (congrArg (Cert.UpDwRefIdeal.Read.val_main_v12 (F := Ideal) a b) (funext fun x => match x with | ⟨0, _⟩ => rfl | ⟨1, _⟩ => rfl)) ?_
  rw [Cert.UpDwRefIdeal.Read.val_main_v12_apply, Cert.UpDwRefIdeal.Read.val_main_v11_apply, Cert.UpDwRefIdeal.Read.val_main_v10_apply]
  refine same_sum _ _ fun k => congrArg₂ (· * ·) ?_ ?_
  · refine Eq.trans (congrArg (Cert.UpDwRefIdeal.Read.val_main_v7 (F := Ideal) a) ?_) (both_halves a k (y 1))
    exact funext fun x => match x with | ⟨0, _⟩ => rfl | ⟨1, _⟩ => rfl
  · exact congrArg b (funext fun x => match x with | ⟨0, _⟩ => rfl | ⟨1, _⟩ => rfl)

theorem agree : Cert.algebraic_UpDwIdeal_UpDwRefIdeal := by
  intro m g m' g' hp hm
  refine ⟨fun c => result (argA m c) (argB m c), ?_, ?_⟩
  · refine (θ_run defs _ _).mono (fun r h c => ?_) (Value.run_blocks m g)
    exact ⟨(h c).1.trans (computed m c), (h c).2⟩
  · refine (θ_run Cert.UpDwRefIdeal.defs _ _).mono (fun r h c => ?_) (Cert.UpDwRefIdeal.Value.run m' g')
    refine ⟨?_, (h c).2⟩
    obtain ⟨e0, e1⟩ := hm c
    rw [(h c).1, e0, e1]
    exact (Cert.UpDwRefIdeal.Read.val_main_v14_eq (F := Ideal) _ _).trans (reference_result _ _)

end Cert.UpDwIdeal
-- ==== Proof.ProductOutDx.lean ====
module

public import proofs.«01_k».proof.Defs
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.OutDxRefIdeal

open Idealize.ShloMosaic Idealize.ShloMosaic.TcCoe
open Idealize.SL.Sem

/-- The reference runs on the host alone: it leaves its arguments as they were, and it has no semaphores. -/
theorem frame_holds : Cert.quiescent_OutDxRefIdeal := fun m g _ =>
  (θ_run _ _ _).mono (fun r h => ⟨fun c => (h c).2, sem_eq_zero_of_no_sems rfl r.2⟩) (Value.run m g)

end Cert.OutDxRefIdeal

namespace Cert.OutDxIdeal

open Idealize.ShloMosaic Idealize.ShloMosaic.TcCoe Idealize.ShloMosaic.Tactic
open Idealize.SL.Sem
open Cert.OutDxIdeal.Gen

/-! ## The gradient of the output projection with respect to its input -/

variable (m : (ℓ : Loc nD τ sig) → Buf (Elt Ideal) ℓ) (c : Dev nD)

/-- The arguments on one device. -/
abbrev argA : Vec Ideal S4096x4096 .bf16 := m ((c.tc : Thread nD τ).loc main_arg0)
abbrev argB : Vec Ideal S1x4096x4096 .bf16 := m ((c.tc : Thread nD τ).loc main_arg1)

/-- The result, entry by entry. -/
def result (a : Vec Ideal S4096x4096 .bf16) (b : Vec Ideal S1x4096x4096 .bf16) : Vec Ideal S4096x4096 .f32 := fun y => (∑ k : Fin 4096, a (ix2 (y 0) k) * b (ix3 0 (y 1) k) : EReal)

/-- The point of the grid that works on block `j` of the outer axis and block `i` of the inner one. -/
def point (j : Fin 4) (i : Fin 8) : Fin cfg0.N := ⟨8 * j.val + i.val, by have h : cfg0.N = 32 := rfl; omega⟩

theorem place (j : Fin 4) (i : Fin 8) : win0_0.index (point j i) = ![i.val, 0] ∧ win0_1.index (point j i) = ![0, j.val, 0] ∧ win0_2.index (point j i) = ![i.val, j.val] := by
  revert j i
  decide +kernel

theorem point_of (t : Fin cfg0.N) : ∃ j i, t = point j i := by
  have h : cfg0.N = 32 := rfl
  exact ⟨⟨t.val / 8, by omega⟩, ⟨t.val % 8, by omega⟩, Fin.ext (by simp only [point]; omega)⟩

theorem block_0 (j : Fin 4) (i : Fin 8) (r : Fin 512) (k : Fin 4096) :
    iblk m c 0 (point j i) (ix2 r k) = argA m c (ix2 ⟨512 * i.val + r.val, by omega⟩ k) := by
  unfold iblk
  blk_simp
  refine congrArg (argA m c) (funext fun a => Fin.ext ?_)
  have e := (place j i).1
  match a with
  | ⟨0, _⟩ => blk_simp; simp [e, ix2]; try omega
  | ⟨1, _⟩ => blk_simp; simp [e, ix2]; try omega

theorem block_1 (j : Fin 4) (i : Fin 8) (r : Fin 1024) (k : Fin 4096) :
    iblk m c 1 (point j i) (ix3 0 r k) = argB m c (ix3 0 ⟨1024 * j.val + r.val, by omega⟩ k) := by
  unfold iblk
  blk_simp
  refine congrArg (argB m c) (funext fun a => Fin.ext ?_)
  have e := (place j i).2.1
  match a with
  | ⟨0, _⟩ => blk_simp; simp [e, ix3]; try omega
  | ⟨1, _⟩ => blk_simp; simp [e, ix3]; try omega
  | ⟨2, _⟩ => blk_simp; simp [e, ix3]; try omega

/-- One block of the result from the blocks it is computed from. -/
theorem entry (x0 : Vec Ideal S512x4096 .bf16) (x1 : Vec Ideal S1x1024x4096 .bf16) (r : Fin 512) (s : Fin 1024) :
    out0_2 (F := Ideal) x0 x1 (ix2 r s) = (∑ k : Fin 4096, x0 (ix2 r k) * x1 (ix3 0 s k) : EReal) := by
  unfold out0_2
  rw [View.canon_unit_zero (View.eq_zero_of_forall (by decide))]
  simp (disch := decide) only [View.ld_unit_lit']
  unfold k0_pay1
  pointwise

theorem same_sum {K : ℕ} (f g : Fin K → EReal) (h : ∀ k, f k = g k) : ∑ k, f k = ∑ k, g k := Finset.sum_congr rfl fun k _ => h k

/-- The array the kernel leaves is the result. -/
theorem computed : (dats m 0 c).arrAt 2 cfg0.N = result (argA m c) (argB m c) := by
  refine (dats m 0 c).arrAt_eq_of_covers 2 _ (by decide +kernel) fun t hf y => ?_
  blk_simp
  rw [after0_2]
  obtain ⟨j, i, rfl⟩ := point_of t
  obtain ⟨r, s, rfl⟩ : ∃ (r : Fin 512) (s : Fin 1024), y = (ix2 r s) := ⟨y 0, y 1, funext fun a => match a with | ⟨0, _⟩ => rfl | ⟨1, _⟩ => rfl⟩
  have e := (place j i).2.2
  have q : ((win0_2.blk (point j i)).view.emb (ix2 r s)) = (ix2 ⟨512 * i.val + r.val, by omega⟩ ⟨1024 * j.val + s.val, by omega⟩) := by
    refine funext fun a => Fin.ext ?_
    match a with
    | ⟨0, _⟩ => blk_simp; simp [e, ix2]; try omega
    | ⟨1, _⟩ => blk_simp; simp [e, ix2]; try omega
  refine Eq.trans ?_ (congrArg _ q).symm
  refine (entry _ _ r s).trans ?_
  exact same_sum _ _ fun k => congrArg₂ (· * ·) (block_0 m c j i r k) (block_1 m c j i s k)

/-- The reference computes the same sums. -/
theorem reference_result (a : Vec Ideal S4096x4096 .bf16) (b : Vec Ideal S1x4096x4096 .bf16) :
    Cert.OutDxRefIdeal.Read.val_main_v5 (F := Ideal) a b = result a b := by
  funext y
  rw [Cert.OutDxRefIdeal.Read.val_main_v5_apply]
  refine same_sum _ _ fun k => congrArg₂ (· * ·) ?_ ?_
  · exact congrArg a (funext fun x => match x with | ⟨0, _⟩ => rfl | ⟨1, _⟩ => rfl)
  · exact (Cert.OutDxRefIdeal.Read.val_main_v1_apply _ _).trans (congrArg b (funext fun a => Fin.ext (by
      match a with
      | ⟨0, _⟩ => rfl
      | ⟨1, _⟩ => show ((y 1).val * 4096 + k.val) / 4096 % 4096 = (y 1).val; have h : (y 1).val < 4096 := (y 1).isLt; omega
      | ⟨2, _⟩ => show ((y 1).val * 4096 + k.val) % 4096 = k.val; omega)))

theorem agree : Cert.algebraic_OutDxIdeal_OutDxRefIdeal := by
  intro m g m' g' hp hm
  refine ⟨fun c => result (argA m c) (argB m c), ?_, ?_⟩
  · refine (θ_run defs _ _).mono (fun r h c => ?_) (Value.run_blocks m g)
    exact ⟨(h c).1.trans (computed m c), (h c).2⟩
  · refine (θ_run Cert.OutDxRefIdeal.defs _ _).mono (fun r h c => ?_) (Cert.OutDxRefIdeal.Value.run m' g')
    refine ⟨?_, (h c).2⟩
    obtain ⟨e0, e1⟩ := hm c
    rw [(h c).1, e0, e1]
    exact (Cert.OutDxRefIdeal.Read.val_main_v5_eq (F := Ideal) _ _).trans (reference_result _ _)

end Cert.OutDxIdeal
-- ==== Proof.ProductOutDw.lean ====
module

public import proofs.«01_k».proof.Defs
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.OutDwRefIdeal

open Idealize.ShloMosaic Idealize.ShloMosaic.TcCoe
open Idealize.SL.Sem

/-- The reference runs on the host alone: it leaves its arguments as they were, and it has no semaphores. -/
theorem frame_holds : Cert.quiescent_OutDwRefIdeal := fun m g _ =>
  (θ_run _ _ _).mono (fun r h => ⟨fun c => (h c).2, sem_eq_zero_of_no_sems rfl r.2⟩) (Value.run m g)

end Cert.OutDwRefIdeal

namespace Cert.OutDwIdeal

open Idealize.ShloMosaic Idealize.ShloMosaic.TcCoe Idealize.ShloMosaic.Tactic
open Idealize.SL.Sem
open Cert.OutDwIdeal.Gen

/-! ## The gradient of the output projection with respect to its weight -/

variable (m : (ℓ : Loc nD τ sig) → Buf (Elt Ideal) ℓ) (c : Dev nD)

/-- The arguments on one device. -/
abbrev argA : Vec Ideal S4096x4096 .bf16 := m ((c.tc : Thread nD τ).loc main_arg0)
abbrev argB : Vec Ideal S4096x4096 .bf16 := m ((c.tc : Thread nD τ).loc main_arg1)

/-- The result, entry by entry. -/
def result (a : Vec Ideal S4096x4096 .bf16) (b : Vec Ideal S4096x4096 .bf16) : Vec Ideal S1x4096x4096 .bf16 := fun y => (∑ k : Fin 4096, a (ix2 k (y 1)) * b (ix2 k (y 2)) : EReal)

/-- The point of the grid that works on block `j` of the outer axis and block `i` of the inner one. -/
def point (j : Fin 4) (i : Fin 4) : Fin cfg0.N := ⟨4 * j.val + i.val, by have h : cfg0.N = 16 := rfl; omega⟩

theorem place (j : Fin 4) (i : Fin 4) : win0_0.index (point j i) = ![0, i.val] ∧ win0_1.index (point j i) = ![0, j.val] ∧ win0_2.index (point j i) = ![0, i.val, j.val] := by
  revert j i
  decide +kernel

theorem point_of (t : Fin cfg0.N) : ∃ j i, t = point j i := by
  have h : cfg0.N = 16 := rfl
  exact ⟨⟨t.val / 4, by omega⟩, ⟨t.val % 4, by omega⟩, Fin.ext (by simp only [point]; omega)⟩

theorem block_0 (j : Fin 4) (i : Fin 4) (k : Fin 4096) (r : Fin 1024) :
    iblk m c 0 (point j i) (ix2 k r) = argA m c (ix2 k ⟨1024 * i.val + r.val, by omega⟩) := by
  unfold iblk
  blk_simp
  refine congrArg (argA m c) (funext fun a => Fin.ext ?_)
  have e := (place j i).1
  match a with
  | ⟨0, _⟩ => blk_simp; simp [e, ix2]; try omega
  | ⟨1, _⟩ => blk_simp; simp [e, ix2]; try omega

theorem block_1 (j : Fin 4) (i : Fin 4) (k : Fin 4096) (r : Fin 1024) :
    iblk m c 1 (point j i) (ix2 k r) = argB m c (ix2 k ⟨1024 * j.val + r.val, by omega⟩) := by
  unfold iblk
  blk_simp
  refine congrArg (argB m c) (funext fun a => Fin.ext ?_)
  have e := (place j i).2.1
  match a with
  | ⟨0, _⟩ => blk_simp; simp [e, ix2]; try omega
  | ⟨1, _⟩ => blk_simp; simp [e, ix2]; try omega

/-- One block of the result from the blocks it is computed from. -/
theorem entry (x0 : Vec Ideal S4096x1024 .bf16) (x1 : Vec Ideal S4096x1024 .bf16) (r : Fin 1024) (s : Fin 1024) :
    out0_2 (F := Ideal) x0 x1 (ix3 0 r s) = (∑ k : Fin 4096, x0 (ix2 k r) * x1 (ix2 k s) : EReal) := by
  unfold out0_2
  rw [View.canon_unit_zero (View.eq_zero_of_forall (by decide))]
  simp (disch := decide) only [View.ld_unit_lit']
  unfold k0_pay1
  pointwise

theorem same_sum {K : ℕ} (f g : Fin K → EReal) (h : ∀ k, f k = g k) : ∑ k, f k = ∑ k, g k := Finset.sum_congr rfl fun k _ => h k

/-- The array the kernel leaves is the result. -/
theorem computed : (dats m 0 c).arrAt 2 cfg0.N = result (argA m c) (argB m c) := by
  refine (dats m 0 c).arrAt_eq_of_covers 2 _ (by decide +kernel) fun t hf y => ?_
  blk_simp
  rw [after0_2]
  obtain ⟨j, i, rfl⟩ := point_of t
  obtain ⟨r, s, rfl⟩ : ∃ (r : Fin 1024) (s : Fin 1024), y = (ix3 0 r s) := ⟨y 1, y 2, funext fun a => match a with | ⟨0, _⟩ => Fin.ext (by have h := (y 0).isLt; change (y 0).val < 1 at h; show (y 0).val = 0; omega) | ⟨1, _⟩ => rfl | ⟨2, _⟩ => rfl⟩
  have e := (place j i).2.2
  have q : ((win0_2.blk (point j i)).view.emb (ix3 0 r s)) = (ix3 0 ⟨1024 * i.val + r.val, by omega⟩ ⟨1024 * j.val + s.val, by omega⟩) := by
    refine funext fun a => Fin.ext ?_
    match a with
    | ⟨0, _⟩ => blk_simp; simp [e, ix3]; try omega
    | ⟨1, _⟩ => blk_simp; simp [e, ix3]; try omega
    | ⟨2, _⟩ => blk_simp; simp [e, ix3]; try omega
  refine Eq.trans ?_ (congrArg _ q).symm
  refine (entry _ _ r s).trans ?_
  exact same_sum _ _ fun k => congrArg₂ (· * ·) (block_0 m c j i k r) (block_1 m c j i k s)

/-- The reference computes the same sums. -/
theorem reference_result (a : Vec Ideal S4096x4096 .bf16) (b : Vec Ideal S4096x4096 .bf16) :
    Cert.OutDwRefIdeal.Read.val_main_v7 (F := Ideal) a b = result a b := by
  funext y
  rw [Cert.OutDwRefIdeal.Read.val_main_v7_apply, Cert.OutDwRefIdeal.Read.val_main_v6_apply]
  refine Eq.trans (b := Cert.OutDwRefIdeal.Read.val_main_v5 (F := Ideal) a b (ix2 (y 1) (y 2))) (congrArg (Cert.OutDwRefIdeal.Read.val_main_v5 (F := Ideal) a b) (funext fun x => match x with | ⟨0, _⟩ => rfl | ⟨1, _⟩ => rfl)) ?_
  rw [Cert.OutDwRefIdeal.Read.val_main_v5_apply, Cert.OutDwRefIdeal.Read.val_main_v4_apply]
  refine same_sum _ _ fun k => (mul_comm _ _).trans (congrArg₂ (· * ·) ?_ ?_)
  · exact congrArg a (funext fun x => match x with | ⟨0, _⟩ => rfl | ⟨1, _⟩ => rfl)
  · exact congrArg b (funext fun x => match x with | ⟨0, _⟩ => rfl | ⟨1, _⟩ => rfl)

theorem agree : Cert.algebraic_OutDwIdeal_OutDwRefIdeal := by
  intro m g m' g' hp hm
  refine ⟨fun c => result (argA m c) (argB m c), ?_, ?_⟩
  · refine (θ_run defs _ _).mono (fun r h c => ?_) (Value.run_blocks m g)
    exact ⟨(h c).1.trans (computed m c), (h c).2⟩
  · refine (θ_run Cert.OutDwRefIdeal.defs _ _).mono (fun r h c => ?_) (Cert.OutDwRefIdeal.Value.run m' g')
    refine ⟨?_, (h c).2⟩
    obtain ⟨e0, e1⟩ := hm c
    rw [(h c).1, e0, e1]
    exact (Cert.OutDwRefIdeal.Read.val_main_v7_eq (F := Ideal) _ _).trans (reference_result _ _)

end Cert.OutDwIdeal
-- ==== Proof.ProductInDx.lean ====
module

public import proofs.«01_k».proof.Defs
public import proofs.«01_k».proof.Proof.Gen.InDxIdeal
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.InDxRefIdeal

open Idealize.ShloMosaic Idealize.ShloMosaic.TcCoe
open Idealize.SL.Sem

/-- The reference runs on the host alone: it leaves its arguments as they were, and it has no semaphores. -/
theorem frame_holds : Cert.quiescent_InDxRefIdeal := fun m g _ =>
  (θ_run _ _ _).mono (fun r h => ⟨fun c => (h c).2, sem_eq_zero_of_no_sems rfl r.2⟩) (Value.run m g)

end Cert.InDxRefIdeal

namespace Cert.InDxIdeal

open Idealize.ShloMosaic Idealize.ShloMosaic.TcCoe Idealize.ShloMosaic.Tactic
open Idealize.SL.Sem
open Cert.InDxIdeal.Gen

/-! ## The gradient of the input projections with respect to their input -/

variable (m : (ℓ : Loc nD τ sig) → Buf (Elt Ideal) ℓ) (c : Dev nD)

/-- The arguments on one device. -/
abbrev argA : Vec Ideal S4096x12288 .bf16 := m ((c.tc : Thread nD τ).loc main_arg0)
abbrev argB : Vec Ideal S8x4096x1536 .bf16 := m ((c.tc : Thread nD τ).loc main_arg1)

/-- One slab of the contraction. -/
def slab (a : Vec Ideal S4096x12288 .bf16) (b : Vec Ideal S8x4096x1536 .bf16) (u v : Fin 4096) (q : Fin 8) : EReal := ∑ l : Fin 1536, a (ix2 u ⟨1536 * q.val + l.val, by omega⟩) * b (ix3 q v l)

/-- The result, entry by entry. -/
def result (a : Vec Ideal S4096x12288 .bf16) (b : Vec Ideal S8x4096x1536 .bf16) : Vec Ideal S4096x4096 .f32 := fun y => (∑ q : Fin 8, slab a b (y 0) (y 1) q : EReal)

/-- The point of the grid that works on block `j` of the outer axis and block `i` of the inner one. -/
def point (j : Fin 8) (i : Fin 4) (k : Fin 2) : Fin cfg0.N := ⟨2 * (4 * j.val + i.val) + k.val, by have h : cfg0.N = 64 := rfl; omega⟩

theorem place (j : Fin 8) (i : Fin 4) (k : Fin 2) : win0_0.index (point j i k) = ![j.val, k.val] ∧ win0_1.index (point j i k) = ![k.val, i.val, 0] ∧ win0_2.index (point j i k) = ![j.val, i.val] := by
  revert j i k
  decide +kernel

theorem point_of (t : Fin cfg0.N) : ∃ j i k, t = point j i k := by
  have h : cfg0.N = 64 := rfl
  exact ⟨⟨t.val / 8, by omega⟩, ⟨t.val / 2 % 4, by omega⟩, ⟨t.val % 2, by omega⟩, Fin.ext (by simp only [point]; omega)⟩

theorem block_0 (j : Fin 8) (i : Fin 4) (k : Fin 2) (r : Fin 512) (p : Fin 6144) :
    iblk m c 0 (point j i k) (ix2 r p) = argA m c (ix2 ⟨512 * j.val + r.val, by omega⟩ ⟨6144 * k.val + p.val, by omega⟩) := by
  unfold iblk
  blk_simp
  refine congrArg (argA m c) (funext fun a => Fin.ext ?_)
  have e := (place j i k).1
  match a with
  | ⟨0, _⟩ => blk_simp; simp [e, ix2]; try omega
  | ⟨1, _⟩ => blk_simp; simp [e, ix2]; try omega

theorem block_1 (j : Fin 8) (i : Fin 4) (k : Fin 2) (h : Fin 4) (s : Fin 1024) (p : Fin 1536) :
    iblk m c 1 (point j i k) (ix3 h s p) = argB m c (ix3 ⟨4 * k.val + h.val, by omega⟩ ⟨1024 * i.val + s.val, by omega⟩ p) := by
  unfold iblk
  blk_simp
  refine congrArg (argB m c) (funext fun a => Fin.ext ?_)
  have e := (place j i k).2.1
  match a with
  | ⟨0, _⟩ => blk_simp; simp [e, ix3]; try omega
  | ⟨1, _⟩ => blk_simp; simp [e, ix3]; try omega
  | ⟨2, _⟩ => blk_simp; simp [e, ix3]; try omega

/-- The products a point of the grid adds up. -/
theorem products (va0 : Vec Ideal S512x1536 .bf16) (vb0 : Vec Ideal S1x1024x1536 .bf16) (va1 : Vec Ideal S512x1536 .bf16) (vb1 : Vec Ideal S1x1024x1536 .bf16) (va2 : Vec Ideal S512x1536 .bf16) (vb2 : Vec Ideal S1x1024x1536 .bf16) (va3 : Vec Ideal S512x1536 .bf16) (vb3 : Vec Ideal S1x1024x1536 .bf16) (r : Fin 512) (s : Fin 1024) :
    k0_pay2 (F := Ideal) va0 vb0 va1 vb1 va2 vb2 va3 vb3 (ix2 r s) = (∑ l : Fin 1536, va0 (ix2 r l) * vb0 (ix3 0 s l) : EReal) + (∑ l : Fin 1536, va1 (ix2 r l) * vb1 (ix3 0 s l) : EReal) + (∑ l : Fin 1536, va2 (ix2 r l) * vb2 (ix3 0 s l) : EReal) + (∑ l : Fin 1536, va3 (ix2 r l) * vb3 (ix3 0 s l) : EReal) := by
  unfold k0_pay2
  pointwise

theorem same_sum {K : ℕ} (f g : Fin K → EReal) (h : ∀ k, f k = g k) : ∑ k, f k = ∑ k, g k := Finset.sum_congr rfl fun k _ => h k

theorem factor_A0 (j : Fin 8) (i : Fin 4) (k : Fin 2) (r : Fin 512) (l : Fin 1536) :
    View.ld (iblk m c 0 (point j i k)) (Rect.unit (s := S512x6144) ![0, 0] ![512, 1536] inb_S512x6144_S512x1536_0_0) (ix2 r l) = argA m c (ix2 ⟨512 * j.val + r.val, by omega⟩ ⟨1536 * (4 * k.val + 0) + l.val, by omega⟩) := by
  refine Eq.trans (b := iblk m c 0 (point j i k) (ix2 r (⟨0 + l.val, by omega⟩ : Fin 6144))) ?_ ?_
  · refine congrArg (iblk m c 0 (point j i k)) (funext fun a => Fin.ext ?_)
    match a with
    | ⟨0, _⟩ => show 0 + 1 * r.val = r.val; omega
    | ⟨1, _⟩ => show 0 + 1 * l.val = 0 + l.val; omega
  rewrite [block_0]
  refine congrArg (argA m c) (funext fun a => Fin.ext ?_)
  match a with
  | ⟨0, _⟩ => first | rfl | (simp only [ix2]; omega)
  | ⟨1, _⟩ => first | rfl | (simp only [ix2]; omega)

theorem factor_B0 (j : Fin 8) (i : Fin 4) (k : Fin 2) (s : Fin 1024) (l : Fin 1536) :
    View.ld (iblk m c 1 (point j i k)) (Rect.unit (s := S4x1024x1536) ![0, 0, 0] ![1, 1024, 1536] inb_S4x1024x1536_S1x1024x1536_0_0_0) (ix3 0 s l) = argB m c (ix3 ⟨4 * k.val + 0, by omega⟩ ⟨1024 * i.val + s.val, by omega⟩ l) := by
  refine Eq.trans (b := iblk m c 1 (point j i k) (ix3 (⟨0, by omega⟩ : Fin 4) s l)) ?_ ?_
  · refine congrArg (iblk m c 1 (point j i k)) (funext fun a => Fin.ext ?_)
    match a with
    | ⟨0, _⟩ => show 0 + 1 * 0 = 0; omega
    | ⟨1, _⟩ => show 0 + 1 * s.val = s.val; omega
    | ⟨2, _⟩ => show 0 + 1 * l.val = l.val; omega
  rewrite [block_1]
  refine congrArg (argB m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem factor_A1 (j : Fin 8) (i : Fin 4) (k : Fin 2) (r : Fin 512) (l : Fin 1536) :
    View.ld (iblk m c 0 (point j i k)) (Rect.unit (s := S512x6144) ![0, 1536] ![512, 1536] inb_S512x6144_S512x1536_0_1536) (ix2 r l) = argA m c (ix2 ⟨512 * j.val + r.val, by omega⟩ ⟨1536 * (4 * k.val + 1) + l.val, by omega⟩) := by
  refine Eq.trans (b := iblk m c 0 (point j i k) (ix2 r (⟨1536 + l.val, by omega⟩ : Fin 6144))) ?_ ?_
  · refine congrArg (iblk m c 0 (point j i k)) (funext fun a => Fin.ext ?_)
    match a with
    | ⟨0, _⟩ => show 0 + 1 * r.val = r.val; omega
    | ⟨1, _⟩ => show 1536 + 1 * l.val = 1536 + l.val; omega
  rewrite [block_0]
  refine congrArg (argA m c) (funext fun a => Fin.ext ?_)
  match a with
  | ⟨0, _⟩ => first | rfl | (simp only [ix2]; omega)
  | ⟨1, _⟩ => first | rfl | (simp only [ix2]; omega)

theorem factor_B1 (j : Fin 8) (i : Fin 4) (k : Fin 2) (s : Fin 1024) (l : Fin 1536) :
    View.ld (iblk m c 1 (point j i k)) (Rect.unit (s := S4x1024x1536) ![1, 0, 0] ![1, 1024, 1536] inb_S4x1024x1536_S1x1024x1536_1_0_0) (ix3 0 s l) = argB m c (ix3 ⟨4 * k.val + 1, by omega⟩ ⟨1024 * i.val + s.val, by omega⟩ l) := by
  refine Eq.trans (b := iblk m c 1 (point j i k) (ix3 (⟨1, by omega⟩ : Fin 4) s l)) ?_ ?_
  · refine congrArg (iblk m c 1 (point j i k)) (funext fun a => Fin.ext ?_)
    match a with
    | ⟨0, _⟩ => show 1 + 1 * 0 = 1; omega
    | ⟨1, _⟩ => show 0 + 1 * s.val = s.val; omega
    | ⟨2, _⟩ => show 0 + 1 * l.val = l.val; omega
  rewrite [block_1]
  refine congrArg (argB m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem factor_A2 (j : Fin 8) (i : Fin 4) (k : Fin 2) (r : Fin 512) (l : Fin 1536) :
    View.ld (iblk m c 0 (point j i k)) (Rect.unit (s := S512x6144) ![0, 3072] ![512, 1536] inb_S512x6144_S512x1536_0_3072) (ix2 r l) = argA m c (ix2 ⟨512 * j.val + r.val, by omega⟩ ⟨1536 * (4 * k.val + 2) + l.val, by omega⟩) := by
  refine Eq.trans (b := iblk m c 0 (point j i k) (ix2 r (⟨3072 + l.val, by omega⟩ : Fin 6144))) ?_ ?_
  · refine congrArg (iblk m c 0 (point j i k)) (funext fun a => Fin.ext ?_)
    match a with
    | ⟨0, _⟩ => show 0 + 1 * r.val = r.val; omega
    | ⟨1, _⟩ => show 3072 + 1 * l.val = 3072 + l.val; omega
  rewrite [block_0]
  refine congrArg (argA m c) (funext fun a => Fin.ext ?_)
  match a with
  | ⟨0, _⟩ => first | rfl | (simp only [ix2]; omega)
  | ⟨1, _⟩ => first | rfl | (simp only [ix2]; omega)

theorem factor_B2 (j : Fin 8) (i : Fin 4) (k : Fin 2) (s : Fin 1024) (l : Fin 1536) :
    View.ld (iblk m c 1 (point j i k)) (Rect.unit (s := S4x1024x1536) ![2, 0, 0] ![1, 1024, 1536] inb_S4x1024x1536_S1x1024x1536_2_0_0) (ix3 0 s l) = argB m c (ix3 ⟨4 * k.val + 2, by omega⟩ ⟨1024 * i.val + s.val, by omega⟩ l) := by
  refine Eq.trans (b := iblk m c 1 (point j i k) (ix3 (⟨2, by omega⟩ : Fin 4) s l)) ?_ ?_
  · refine congrArg (iblk m c 1 (point j i k)) (funext fun a => Fin.ext ?_)
    match a with
    | ⟨0, _⟩ => show 2 + 1 * 0 = 2; omega
    | ⟨1, _⟩ => show 0 + 1 * s.val = s.val; omega
    | ⟨2, _⟩ => show 0 + 1 * l.val = l.val; omega
  rewrite [block_1]
  refine congrArg (argB m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem factor_A3 (j : Fin 8) (i : Fin 4) (k : Fin 2) (r : Fin 512) (l : Fin 1536) :
    View.ld (iblk m c 0 (point j i k)) (Rect.unit (s := S512x6144) ![0, 4608] ![512, 1536] inb_S512x6144_S512x1536_0_4608) (ix2 r l) = argA m c (ix2 ⟨512 * j.val + r.val, by omega⟩ ⟨1536 * (4 * k.val + 3) + l.val, by omega⟩) := by
  refine Eq.trans (b := iblk m c 0 (point j i k) (ix2 r (⟨4608 + l.val, by omega⟩ : Fin 6144))) ?_ ?_
  · refine congrArg (iblk m c 0 (point j i k)) (funext fun a => Fin.ext ?_)
    match a with
    | ⟨0, _⟩ => show 0 + 1 * r.val = r.val; omega
    | ⟨1, _⟩ => show 4608 + 1 * l.val = 4608 + l.val; omega
  rewrite [block_0]
  refine congrArg (argA m c) (funext fun a => Fin.ext ?_)
  match a with
  | ⟨0, _⟩ => first | rfl | (simp only [ix2]; omega)
  | ⟨1, _⟩ => first | rfl | (simp only [ix2]; omega)

theorem factor_B3 (j : Fin 8) (i : Fin 4) (k : Fin 2) (s : Fin 1024) (l : Fin 1536) :
    View.ld (iblk m c 1 (point j i k)) (Rect.unit (s := S4x1024x1536) ![3, 0, 0] ![1, 1024, 1536] inb_S4x1024x1536_S1x1024x1536_3_0_0) (ix3 0 s l) = argB m c (ix3 ⟨4 * k.val + 3, by omega⟩ ⟨1024 * i.val + s.val, by omega⟩ l) := by
  refine Eq.trans (b := iblk m c 1 (point j i k) (ix3 (⟨3, by omega⟩ : Fin 4) s l)) ?_ ?_
  · refine congrArg (iblk m c 1 (point j i k)) (funext fun a => Fin.ext ?_)
    match a with
    | ⟨0, _⟩ => show 3 + 1 * 0 = 3; omega
    | ⟨1, _⟩ => show 0 + 1 * s.val = s.val; omega
    | ⟨2, _⟩ => show 0 + 1 * l.val = l.val; omega
  rewrite [block_1]
  refine congrArg (argB m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem contribution (j : Fin 8) (i : Fin 4) (k : Fin 2) (r : Fin 512) (s : Fin 1024) :
    k0_pay2 (F := Ideal) (View.ld (iblk m c 0 (point j i k)) (Rect.unit (s := S512x6144) ![0, 0] ![512, 1536] inb_S512x6144_S512x1536_0_0)) (View.ld (iblk m c 1 (point j i k)) (Rect.unit (s := S4x1024x1536) ![0, 0, 0] ![1, 1024, 1536] inb_S4x1024x1536_S1x1024x1536_0_0_0)) (View.ld (iblk m c 0 (point j i k)) (Rect.unit (s := S512x6144) ![0, 1536] ![512, 1536] inb_S512x6144_S512x1536_0_1536)) (View.ld (iblk m c 1 (point j i k)) (Rect.unit (s := S4x1024x1536) ![1, 0, 0] ![1, 1024, 1536] inb_S4x1024x1536_S1x1024x1536_1_0_0)) (View.ld (iblk m c 0 (point j i k)) (Rect.unit (s := S512x6144) ![0, 3072] ![512, 1536] inb_S512x6144_S512x1536_0_3072)) (View.ld (iblk m c 1 (point j i k)) (Rect.unit (s := S4x1024x1536) ![2, 0, 0] ![1, 1024, 1536] inb_S4x1024x1536_S1x1024x1536_2_0_0)) (View.ld (iblk m c 0 (point j i k)) (Rect.unit (s := S512x6144) ![0, 4608] ![512, 1536] inb_S512x6144_S512x1536_0_4608)) (View.ld (iblk m c 1 (point j i k)) (Rect.unit (s := S4x1024x1536) ![3, 0, 0] ![1, 1024, 1536] inb_S4x1024x1536_S1x1024x1536_3_0_0)) (ix2 r s) = (slab (argA m c) (argB m c) ⟨512 * j.val + r.val, by omega⟩ ⟨1024 * i.val + s.val, by omega⟩ ⟨4 * k.val + 0, by omega⟩ + slab (argA m c) (argB m c) ⟨512 * j.val + r.val, by omega⟩ ⟨1024 * i.val + s.val, by omega⟩ ⟨4 * k.val + 1, by omega⟩ + slab (argA m c) (argB m c) ⟨512 * j.val + r.val, by omega⟩ ⟨1024 * i.val + s.val, by omega⟩ ⟨4 * k.val + 2, by omega⟩ + slab (argA m c) (argB m c) ⟨512 * j.val + r.val, by omega⟩ ⟨1024 * i.val + s.val, by omega⟩ ⟨4 * k.val + 3, by omega⟩ : EReal) :=
  (products _ _ _ _ _ _ _ _ r s).trans (congrArg₂ (· + ·) (congrArg₂ (· + ·) (congrArg₂ (· + ·) (same_sum _ _ fun l => congrArg₂ (· * ·) (factor_A0 m c j i k r l) (factor_B0 m c j i k s l)) (same_sum _ _ fun l => congrArg₂ (· * ·) (factor_A1 m c j i k r l) (factor_B1 m c j i k s l))) (same_sum _ _ fun l => congrArg₂ (· * ·) (factor_A2 m c j i k r l) (factor_B2 m c j i k s l))) (same_sum _ _ fun l => congrArg₂ (· * ·) (factor_A3 m c j i k r l) (factor_B3 m c j i k s l)))

theorem outs_at {a b : ℕ} (e : a = b) (ha : a < cfg0.N) (hb : b < cfg0.N) : outsAt0 m c a ha = outsAt0 m c b hb := by subst e; rfl

theorem first_store (va0 : Vec Ideal S512x1536 .bf16) (vb0 : Vec Ideal S1x1024x1536 .bf16) (va1 : Vec Ideal S512x1536 .bf16) (vb1 : Vec Ideal S1x1024x1536 .bf16) (va2 : Vec Ideal S512x1536 .bf16) (vb2 : Vec Ideal S1x1024x1536 .bf16) (va3 : Vec Ideal S512x1536 .bf16) (vb3 : Vec Ideal S1x1024x1536 .bf16) (y : S512x1024.Idx) : k0_pay3 (F := Ideal) va0 vb0 va1 vb1 va2 vb2 va3 vb3 y = k0_pay2 (F := Ideal) va0 vb0 va1 vb1 va2 vb2 va3 vb3 y := by
  unfold k0_pay3
  rw [shapeCast_apply _ _ y y rfl]

theorem later_store (va0 : Vec Ideal S512x1536 .bf16) (vb0 : Vec Ideal S1x1024x1536 .bf16) (va1 : Vec Ideal S512x1536 .bf16) (vb1 : Vec Ideal S1x1024x1536 .bf16) (va2 : Vec Ideal S512x1536 .bf16) (vb2 : Vec Ideal S1x1024x1536 .bf16) (va3 : Vec Ideal S512x1536 .bf16) (vb3 : Vec Ideal S1x1024x1536 .bf16) (w : Vec Ideal S512x1024 .f32) (y : S512x1024.Idx) :
    k0_pay1 (F := Ideal) (k0_pay2 (F := Ideal) va0 vb0 va1 vb1 va2 vb2 va3 vb3) w y = (w y + k0_pay2 (F := Ideal) va0 vb0 va1 vb1 va2 vb2 va3 vb3 y : EReal) := by
  unfold k0_pay1
  exact shapeCast_apply _ _ y y rfl

theorem at_first (t : Fin cfg0.N) (h0 : t.val % 2 = 0) (h1 : ¬(t.val % 2 = 1)) (h2 : ¬t.val % 2 = 1) : (outsAt0 m c t.val t.isLt).2 = k0_pay3 (F := Ideal) (View.ld (iblk m c 0 t) (Rect.unit (s := S512x6144) ![0, 0] ![512, 1536] inb_S512x6144_S512x1536_0_0)) (View.ld (iblk m c 1 t) (Rect.unit (s := S4x1024x1536) ![0, 0, 0] ![1, 1024, 1536] inb_S4x1024x1536_S1x1024x1536_0_0_0)) (View.ld (iblk m c 0 t) (Rect.unit (s := S512x6144) ![0, 1536] ![512, 1536] inb_S512x6144_S512x1536_0_1536)) (View.ld (iblk m c 1 t) (Rect.unit (s := S4x1024x1536) ![1, 0, 0] ![1, 1024, 1536] inb_S4x1024x1536_S1x1024x1536_1_0_0)) (View.ld (iblk m c 0 t) (Rect.unit (s := S512x6144) ![0, 3072] ![512, 1536] inb_S512x6144_S512x1536_0_3072)) (View.ld (iblk m c 1 t) (Rect.unit (s := S4x1024x1536) ![2, 0, 0] ![1, 1024, 1536] inb_S4x1024x1536_S1x1024x1536_2_0_0)) (View.ld (iblk m c 0 t) (Rect.unit (s := S512x6144) ![0, 4608] ![512, 1536] inb_S512x6144_S512x1536_0_4608)) (View.ld (iblk m c 1 t) (Rect.unit (s := S4x1024x1536) ![3, 0, 0] ![1, 1024, 1536] inb_S4x1024x1536_S1x1024x1536_3_0_0)) := by
  rw [outsAt0_A m c t h0 h1 h2]
  frame_out
  all_goals rfl

theorem at_last (t : Fin cfg0.N) (h0 : ¬t.val % 2 = 0) (h1 : t.val % 2 = 1) (h2 : t.val % 2 = 1) : (outsAt0 m c t.val t.isLt).1 = k0_pay1 (F := Ideal) (k0_pay2 (F := Ideal) (View.ld (iblk m c 0 t) (Rect.unit (s := S512x6144) ![0, 0] ![512, 1536] inb_S512x6144_S512x1536_0_0)) (View.ld (iblk m c 1 t) (Rect.unit (s := S4x1024x1536) ![0, 0, 0] ![1, 1024, 1536] inb_S4x1024x1536_S1x1024x1536_0_0_0)) (View.ld (iblk m c 0 t) (Rect.unit (s := S512x6144) ![0, 1536] ![512, 1536] inb_S512x6144_S512x1536_0_1536)) (View.ld (iblk m c 1 t) (Rect.unit (s := S4x1024x1536) ![1, 0, 0] ![1, 1024, 1536] inb_S4x1024x1536_S1x1024x1536_1_0_0)) (View.ld (iblk m c 0 t) (Rect.unit (s := S512x6144) ![0, 3072] ![512, 1536] inb_S512x6144_S512x1536_0_3072)) (View.ld (iblk m c 1 t) (Rect.unit (s := S4x1024x1536) ![2, 0, 0] ![1, 1024, 1536] inb_S4x1024x1536_S1x1024x1536_2_0_0)) (View.ld (iblk m c 0 t) (Rect.unit (s := S512x6144) ![0, 4608] ![512, 1536] inb_S512x6144_S512x1536_0_4608)) (View.ld (iblk m c 1 t) (Rect.unit (s := S4x1024x1536) ![3, 0, 0] ![1, 1024, 1536] inb_S4x1024x1536_S1x1024x1536_3_0_0))) (outsAt0 m c (t.val - 1) (Nat.lt_of_le_of_lt (Nat.sub_le _ _) t.isLt)).2 := by
  rw [outsAt0_B m c t h0 h1 h2]
  frame_out
  rw [(Memref.isWhole_whole _).read_unread]
  all_goals rfl

theorem after_0 (j : Fin 8) (i : Fin 4) (r : Fin 512) (s : Fin 1024) : ((outsAt0 m c (point j i 0).val (point j i 0).isLt).2 (ix2 r s) : EReal) = slab (argA m c) (argB m c) ⟨512 * j.val + r.val, by omega⟩ ⟨1024 * i.val + s.val, by omega⟩ ⟨4 * 0 + 0, by omega⟩ + slab (argA m c) (argB m c) ⟨512 * j.val + r.val, by omega⟩ ⟨1024 * i.val + s.val, by omega⟩ ⟨4 * 0 + 1, by omega⟩ + slab (argA m c) (argB m c) ⟨512 * j.val + r.val, by omega⟩ ⟨1024 * i.val + s.val, by omega⟩ ⟨4 * 0 + 2, by omega⟩ + slab (argA m c) (argB m c) ⟨512 * j.val + r.val, by omega⟩ ⟨1024 * i.val + s.val, by omega⟩ ⟨4 * 0 + 3, by omega⟩ := by
  have h0 : (point j i 0).val % 2 = 0 := by simp only [point]; omega
  have h1 : ¬((point j i 0).val % 2 = 1) := by simp only [point]; omega
  have h2 : ¬(point j i 0).val % 2 = 1 := by simp only [point]; omega
  rw [at_first m c (point j i 0) h0 h1 h2]
  exact (first_store _ _ _ _ _ _ _ _ _).trans (contribution m c j i 0 r s)

theorem at_the_end (j : Fin 8) (i : Fin 4) (r : Fin 512) (s : Fin 1024) : ((outsAt0 m c (point j i 1).val (point j i 1).isLt).1 (ix2 r s) : EReal) = (((outsAt0 m c (point j i 0).val (point j i 0).isLt).2 (ix2 r s) : EReal) + (slab (argA m c) (argB m c) ⟨512 * j.val + r.val, by omega⟩ ⟨1024 * i.val + s.val, by omega⟩ ⟨4 * 1 + 0, by omega⟩ + slab (argA m c) (argB m c) ⟨512 * j.val + r.val, by omega⟩ ⟨1024 * i.val + s.val, by omega⟩ ⟨4 * 1 + 1, by omega⟩ + slab (argA m c) (argB m c) ⟨512 * j.val + r.val, by omega⟩ ⟨1024 * i.val + s.val, by omega⟩ ⟨4 * 1 + 2, by omega⟩ + slab (argA m c) (argB m c) ⟨512 * j.val + r.val, by omega⟩ ⟨1024 * i.val + s.val, by omega⟩ ⟨4 * 1 + 3, by omega⟩)) := by
  have h0 : ¬(point j i 1).val % 2 = 0 := by simp only [point]; omega
  have h1 : (point j i 1).val % 2 = 1 := by simp only [point]; omega
  have h2 : (point j i 1).val % 2 = 1 := by simp only [point]; omega
  rw [at_last m c (point j i 1) h0 h1 h2]
  skip
  refine (later_store _ _ _ _ _ _ _ _ _ _).trans (congrArg₂ (· + ·) ?_ (contribution m c j i 1 r s))
  rw [outs_at m c (b := (point j i 0).val) (by simp only [point]; rfl) _ (point j i 0).isLt]

theorem sums (j : Fin 8) (i : Fin 4) (r : Fin 512) (s : Fin 1024) : ((outsAt0 m c (point j i 1).val (point j i 1).isLt).1 (ix2 r s) : EReal) = (∑ q : Fin 8, slab (argA m c) (argB m c) ⟨512 * j.val + r.val, by omega⟩ ⟨1024 * i.val + s.val, by omega⟩ q : EReal) := by
  rw [at_the_end, after_0]
  skip
  generalize slab (argA m c) (argB m c) ⟨512 * j.val + r.val, by omega⟩ ⟨1024 * i.val + s.val, by omega⟩ = f
  rw [Fin.sum_univ_eight]
  simp only [← add_assoc]; rfl

/-- The array the kernel leaves is the result. -/
theorem computed : (dats m 0 c).arrAt 2 cfg0.N = result (argA m c) (argB m c) := by
  refine (dats m 0 c).arrAt_eq_of_covers 2 _ (by decide +kernel) fun t hf y => ?_
  blk_simp
  rw [after0_2]
  obtain ⟨j, i, k, rfl⟩ := point_of t
  obtain ⟨r, s, rfl⟩ : ∃ (r : Fin 512) (s : Fin 1024), y = ix2 r s := ⟨y 0, y 1, funext fun a => match a with | ⟨0, _⟩ => rfl | ⟨1, _⟩ => rfl⟩
  have hk : (point j i k).val % 2 = 1 := (flush0_2 _).mp hf
  obtain rfl : k = 1 := Fin.ext (by simp only [point] at hk; have h := k.isLt; show k.val = 1; omega)
  have e := (place j i 1).2.2
  have q : ((win0_2.blk (point j i 1)).view.emb (ix2 r s)) = (ix2 ⟨512 * j.val + r.val, by omega⟩ ⟨1024 * i.val + s.val, by omega⟩) := by
    refine funext fun a => Fin.ext ?_
    match a with
    | ⟨0, _⟩ => blk_simp; simp [e, ix2]; try omega
    | ⟨1, _⟩ => blk_simp; simp [e, ix2]; try omega
  refine Eq.trans ?_ (congrArg _ q).symm
  exact sums m c j i r s

/-- A sum over the whole contraction is the sum of its slabs. -/
theorem split_sum (f : Fin 12288 → EReal) : ∑ k, f k = ∑ q : Fin 8, ∑ l : Fin 1536, f ⟨1536 * q.val + l.val, by omega⟩ := by
  refine (Fin.sum_mul_add_fin 8 1536 f (by decide)).symm.trans ?_
  refine same_sum _ _ fun q => same_sum _ _ fun l => congrArg f (Fin.ext ?_)
  show q.val * 1536 + l.val = 1536 * q.val + l.val
  omega

/-- The reference computes the same sums. -/
theorem reference_result (a : Vec Ideal S4096x12288 .bf16) (b : Vec Ideal S8x4096x1536 .bf16) :
    Cert.InDxRefIdeal.Read.val_main_v6 (F := Ideal) a b = result a b := by
  funext y
  rw [Cert.InDxRefIdeal.Read.val_main_v6_apply]
  refine Eq.trans (same_sum _ (fun p => (a (ix2 (y 0) p) * b (ix3 ⟨p.val / 1536, by omega⟩ (y 1) ⟨p.val % 1536, by omega⟩) : EReal)) fun p => congrArg₂ (· * ·) ?_ ?_) ?_
  · exact congrArg a (funext fun x => match x with | ⟨0, _⟩ => rfl | ⟨1, _⟩ => rfl)
  · rw [Cert.InDxRefIdeal.Read.val_main_v3_apply, Cert.InDxRefIdeal.Read.val_main_v2_apply]
    refine congrArg b (funext fun x => Fin.ext ?_)
    have h : (y 1).val < 4096 := (y 1).isLt
    match x with
    | ⟨0, _⟩ => show ((y 1).val * 12288 + p.val) / 1536 % 8 = p.val / 1536; omega
    | ⟨1, _⟩ => show ((y 1).val * 12288 + p.val) / 12288 = (y 1).val; omega
    | ⟨2, _⟩ => show ((y 1).val * 12288 + p.val) % 1536 = p.val % 1536; omega
  · refine (split_sum _).trans (same_sum _ _ fun q => same_sum _ _ fun l => congrArg₂ (· * ·) rfl (congrArg b (funext fun x => Fin.ext ?_)))
    match x with
    | ⟨0, _⟩ => show (1536 * q.val + l.val) / 1536 = q.val; omega
    | ⟨1, _⟩ => rfl
    | ⟨2, _⟩ => show (1536 * q.val + l.val) % 1536 = l.val; omega

theorem agree : Cert.algebraic_InDxIdeal_InDxRefIdeal := by
  intro m g m' g' hp hm
  refine ⟨fun c => result (argA m c) (argB m c), ?_, ?_⟩
  · refine (θ_run defs _ _).mono (fun r h c => ?_) (Value.run_blocks m g)
    exact ⟨(h c).1.trans (computed m c), (h c).2⟩
  · refine (θ_run Cert.InDxRefIdeal.defs _ _).mono (fun r h c => ?_) (Cert.InDxRefIdeal.Value.run m' g')
    refine ⟨?_, (h c).2⟩
    obtain ⟨e0, e1⟩ := hm c
    rw [(h c).1, e0, e1]
    exact (Cert.InDxRefIdeal.Read.val_main_v6_eq (F := Ideal) _ _).trans (reference_result _ _)

end Cert.InDxIdeal
-- ==== Proof.ProductInDw.lean ====
module

public import proofs.«01_k».proof.Defs
public import proofs.«01_k».proof.Proof.Gen.InDwIdeal
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.InDwRefIdeal

open Idealize.ShloMosaic Idealize.ShloMosaic.TcCoe
open Idealize.SL.Sem

/-- The reference runs on the host alone: it leaves its arguments as they were, and it has no semaphores. -/
theorem frame_holds : Cert.quiescent_InDwRefIdeal := fun m g _ =>
  (θ_run _ _ _).mono (fun r h => ⟨fun c => (h c).2, sem_eq_zero_of_no_sems rfl r.2⟩) (Value.run m g)

end Cert.InDwRefIdeal

namespace Cert.InDwIdeal

open Idealize.ShloMosaic Idealize.ShloMosaic.TcCoe Idealize.ShloMosaic.Tactic
open Idealize.SL.Sem
open Cert.InDwIdeal.Gen

/-! ## The gradient of the input projections with respect to their weight -/

variable (m : (ℓ : Loc nD τ sig) → Buf (Elt Ideal) ℓ) (c : Dev nD)

/-- The arguments on one device. -/
abbrev argA : Vec Ideal S4096x4096 .bf16 := m ((c.tc : Thread nD τ).loc main_arg0)
abbrev argB : Vec Ideal S4096x12288 .bf16 := m ((c.tc : Thread nD τ).loc main_arg1)

/-- The result, entry by entry. -/
def result (a : Vec Ideal S4096x4096 .bf16) (b : Vec Ideal S4096x12288 .bf16) : Vec Ideal S8x4096x1536 .bf16 := fun y => (∑ k : Fin 4096, a (ix2 k (y 1)) * b (ix2 k ⟨1536 * (y 0).val + (y 2).val, by have h : (y 0).val < 8 := (y 0).isLt; have h2 : (y 2).val < 1536 := (y 2).isLt; omega⟩) : EReal)

/-- The point of the grid that works on block `j` of the outer axis and block `i` of the inner one. -/
def point (j : Fin 8) (i : Fin 8) : Fin cfg0.N := ⟨8 * j.val + i.val, by have h : cfg0.N = 64 := rfl; omega⟩

theorem place (j : Fin 8) (i : Fin 8) : win0_0.index (point j i) = ![0, i.val] ∧ win0_1.index (point j i) = ![0, j.val] ∧ win0_2.index (point j i) = ![j.val, i.val, 0] := by
  revert j i
  decide +kernel

theorem point_of (t : Fin cfg0.N) : ∃ j i, t = point j i := by
  have h : cfg0.N = 64 := rfl
  exact ⟨⟨t.val / 8, by omega⟩, ⟨t.val % 8, by omega⟩, Fin.ext (by simp only [point]; omega)⟩

theorem block_0 (j : Fin 8) (i : Fin 8) (k : Fin 4096) (r : Fin 512) :
    iblk m c 0 (point j i) (ix2 k r) = argA m c (ix2 k ⟨512 * i.val + r.val, by omega⟩) := by
  unfold iblk
  blk_simp
  refine congrArg (argA m c) (funext fun a => Fin.ext ?_)
  have e := (place j i).1
  match a with
  | ⟨0, _⟩ => blk_simp; simp [e, ix2]; try omega
  | ⟨1, _⟩ => blk_simp; simp [e, ix2]; try omega

theorem block_1 (j : Fin 8) (i : Fin 8) (k : Fin 4096) (r : Fin 1536) :
    iblk m c 1 (point j i) (ix2 k r) = argB m c (ix2 k ⟨1536 * j.val + r.val, by omega⟩) := by
  unfold iblk
  blk_simp
  refine congrArg (argB m c) (funext fun a => Fin.ext ?_)
  have e := (place j i).2.1
  match a with
  | ⟨0, _⟩ => blk_simp; simp [e, ix2]; try omega
  | ⟨1, _⟩ => blk_simp; simp [e, ix2]; try omega

/-- One block of the result from the blocks it is computed from. -/
theorem entry (x0 : Vec Ideal S4096x512 .bf16) (x1 : Vec Ideal S4096x1536 .bf16) (r : Fin 512) (s : Fin 1536) :
    out0_2 (F := Ideal) x0 x1 (ix3 0 r s) = (∑ k : Fin 4096, x0 (ix2 k r) * x1 (ix2 k s) : EReal) := by
  unfold out0_2
  rw [View.canon_unit_zero (View.eq_zero_of_forall (by decide))]
  simp (disch := decide) only [View.ld_unit_lit']
  unfold k0_pay1
  pointwise

theorem same_sum {K : ℕ} (f g : Fin K → EReal) (h : ∀ k, f k = g k) : ∑ k, f k = ∑ k, g k := Finset.sum_congr rfl fun k _ => h k

/-- The array the kernel leaves is the result. -/
theorem computed : (dats m 0 c).arrAt 2 cfg0.N = result (argA m c) (argB m c) := by
  refine (dats m 0 c).arrAt_eq_of_covers 2 _ (by decide +kernel) fun t hf y => ?_
  blk_simp
  rw [after0_2]
  obtain ⟨j, i, rfl⟩ := point_of t
  obtain ⟨r, s, rfl⟩ : ∃ (r : Fin 512) (s : Fin 1536), y = (ix3 0 r s) := ⟨y 1, y 2, funext fun a => match a with | ⟨0, _⟩ => Fin.ext (by have h := (y 0).isLt; change (y 0).val < 1 at h; show (y 0).val = 0; omega) | ⟨1, _⟩ => rfl | ⟨2, _⟩ => rfl⟩
  have e := (place j i).2.2
  have q : ((win0_2.blk (point j i)).view.emb (ix3 0 r s)) = (ix3 j ⟨512 * i.val + r.val, by omega⟩ s) := by
    refine funext fun a => Fin.ext ?_
    match a with
    | ⟨0, _⟩ => blk_simp; simp [e, ix3]; try omega
    | ⟨1, _⟩ => blk_simp; simp [e, ix3]; try omega
    | ⟨2, _⟩ => blk_simp; simp [e, ix3]; try omega
  refine Eq.trans ?_ (congrArg _ q).symm
  refine (entry _ _ r s).trans ?_
  exact same_sum _ _ fun k => congrArg₂ (· * ·) (block_0 m c j i k r) (block_1 m c j i k s)

/-- The reference computes the same sums. -/
theorem reference_result (a : Vec Ideal S4096x4096 .bf16) (b : Vec Ideal S4096x12288 .bf16) :
    Cert.InDwRefIdeal.Read.val_main_v8 (F := Ideal) a b = result a b := by
  funext y
  have h0 : (y 0).val < 8 := (y 0).isLt
  have h2 : (y 2).val < 1536 := (y 2).isLt
  rw [Cert.InDwRefIdeal.Read.val_main_v8_apply, Cert.InDwRefIdeal.Read.val_main_v7_apply, Cert.InDwRefIdeal.Read.val_main_v6_apply]
  refine Eq.trans (b := Cert.InDwRefIdeal.Read.val_main_v5 (F := Ideal) a b (ix2 (y 1) ⟨1536 * (y 0).val + (y 2).val, by omega⟩)) (congrArg (Cert.InDwRefIdeal.Read.val_main_v5 (F := Ideal) a b) (funext fun x => Fin.ext (by
      have h1 : (y 1).val < 4096 := (y 1).isLt
      match x with
      | ⟨0, _⟩ => show (((y 1).val * 8 + (y 0).val) * 1536 + (y 2).val) / 12288 = (y 1).val; omega
      | ⟨1, _⟩ => show (((y 1).val * 8 + (y 0).val) * 1536 + (y 2).val) % 12288 = 1536 * (y 0).val + (y 2).val; omega))) ?_
  rw [Cert.InDwRefIdeal.Read.val_main_v5_apply, Cert.InDwRefIdeal.Read.val_main_v4_apply]
  refine same_sum _ _ fun k => (mul_comm _ _).trans (congrArg₂ (· * ·) ?_ ?_)
  · exact congrArg a (funext fun x => match x with | ⟨0, _⟩ => rfl | ⟨1, _⟩ => rfl)
  · exact congrArg b (funext fun x => match x with | ⟨0, _⟩ => rfl | ⟨1, _⟩ => rfl)

theorem agree : Cert.algebraic_InDwIdeal_InDwRefIdeal := by
  intro m g m' g' hp hm
  refine ⟨fun c => result (argA m c) (argB m c), ?_, ?_⟩
  · refine (θ_run defs _ _).mono (fun r h c => ?_) (Value.run_blocks m g)
    exact ⟨(h c).1.trans (computed m c), (h c).2⟩
  · refine (θ_run Cert.InDwRefIdeal.defs _ _).mono (fun r h c => ?_) (Cert.InDwRefIdeal.Value.run m' g')
    refine ⟨?_, (h c).2⟩
    obtain ⟨e0, e1⟩ := hm c
    rw [(h c).1, e0, e1]
    exact (Cert.InDwRefIdeal.Read.val_main_v8_eq (F := Ideal) _ _).trans (reference_result _ _)

end Cert.InDwIdeal
-- ==== Proof.ProductOutFwd.lean ====
module

public import proofs.«01_k».proof.Defs
public import proofs.«01_k».proof.Proof.Gen.OutFwdIdeal
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.OutFwdRefIdeal

open Idealize.ShloMosaic Idealize.ShloMosaic.TcCoe
open Idealize.SL.Sem

/-- The reference runs on the host alone: it leaves its arguments as they were, and it has no semaphores. -/
theorem frame_holds : Cert.quiescent_OutFwdRefIdeal := fun m g _ =>
  (θ_run _ _ _).mono (fun r h => ⟨fun c => (h c).2, sem_eq_zero_of_no_sems rfl r.2⟩) (Value.run m g)

end Cert.OutFwdRefIdeal

namespace Cert.OutFwdIdeal

open Idealize.ShloMosaic Idealize.ShloMosaic.TcCoe Idealize.ShloMosaic.Tactic
open Idealize.SL.Sem
open Cert.OutFwdIdeal.Gen

/-! ## The output projection added to the residual -/

variable (m : (ℓ : Loc nD τ sig) → Buf (Elt Ideal) ℓ) (c : Dev nD)

/-- The arguments on one device. -/
abbrev argA : Vec Ideal S4096x4096 .bf16 := m ((c.tc : Thread nD τ).loc main_arg0)
abbrev argB : Vec Ideal S1x4096x4096 .bf16 := m ((c.tc : Thread nD τ).loc main_arg1)
abbrev argC : Vec Ideal S4096x4096 .f32 := m ((c.tc : Thread nD τ).loc main_arg2)

/-- The result, entry by entry. -/
def result (a : Vec Ideal S4096x4096 .bf16) (b : Vec Ideal S1x4096x4096 .bf16) (c : Vec Ideal S4096x4096 .f32) : Vec Ideal S4096x4096 .f32 := fun y => (∑ k : Fin 4096, a (ix2 (y 0) k) * b (ix3 0 k (y 1)) : EReal) + (c y : EReal)

/-- The point of the grid that works on block `j` of the outer axis and block `i` of the inner one. -/
def point (j : Fin 4) (i : Fin 8) : Fin cfg0.N := ⟨8 * j.val + i.val, by have h : cfg0.N = 32 := rfl; omega⟩

theorem place (j : Fin 4) (i : Fin 8) : win0_0.index (point j i) = ![i.val, 0] ∧ win0_1.index (point j i) = ![0, 0, j.val] ∧ win0_2.index (point j i) = ![i.val, j.val] ∧ win0_3.index (point j i) = ![i.val, j.val] := by
  revert j i
  decide +kernel

theorem point_of (t : Fin cfg0.N) : ∃ j i, t = point j i := by
  have h : cfg0.N = 32 := rfl
  exact ⟨⟨t.val / 8, by omega⟩, ⟨t.val % 8, by omega⟩, Fin.ext (by simp only [point]; omega)⟩

theorem block_0 (j : Fin 4) (i : Fin 8) (r : Fin 512) (k : Fin 4096) :
    iblk m c 0 (point j i) (ix2 r k) = argA m c (ix2 ⟨512 * i.val + r.val, by omega⟩ k) := by
  unfold iblk
  blk_simp
  refine congrArg (argA m c) (funext fun a => Fin.ext ?_)
  have e := (place j i).1
  match a with
  | ⟨0, _⟩ => blk_simp; simp [e, ix2]; try omega
  | ⟨1, _⟩ => blk_simp; simp [e, ix2]; try omega

theorem block_1 (j : Fin 4) (i : Fin 8) (k : Fin 4096) (r : Fin 1024) :
    iblk m c 1 (point j i) (ix3 0 k r) = argB m c (ix3 0 k ⟨1024 * j.val + r.val, by omega⟩) := by
  unfold iblk
  blk_simp
  refine congrArg (argB m c) (funext fun a => Fin.ext ?_)
  have e := (place j i).2.1
  match a with
  | ⟨0, _⟩ => blk_simp; simp [e, ix3]; try omega
  | ⟨1, _⟩ => blk_simp; simp [e, ix3]; try omega
  | ⟨2, _⟩ => blk_simp; simp [e, ix3]; try omega

theorem block_2 (j : Fin 4) (i : Fin 8) (r : Fin 512) (s : Fin 1024) :
    iblk m c 2 (point j i) (ix2 r s) = argC m c (ix2 ⟨512 * i.val + r.val, by omega⟩ ⟨1024 * j.val + s.val, by omega⟩) := by
  unfold iblk
  blk_simp
  refine congrArg (argC m c) (funext fun a => Fin.ext ?_)
  have e := (place j i).2.2.1
  match a with
  | ⟨0, _⟩ => blk_simp; simp [e, ix2]; try omega
  | ⟨1, _⟩ => blk_simp; simp [e, ix2]; try omega

/-- One block of the result from the blocks it is computed from. -/
theorem entry (x0 : Vec Ideal S512x4096 .bf16) (x1 : Vec Ideal S1x4096x1024 .bf16) (x2 : Vec Ideal S512x1024 .f32) (r : Fin 512) (s : Fin 1024) :
    out0_3 (F := Ideal) x0 x1 x2 (ix2 r s) = (∑ k : Fin 4096, x0 (ix2 r k) * x1 (ix3 0 k s) : EReal) + (x2 (ix2 r s) : EReal) := by
  unfold out0_3
  rw [View.canon_unit_zero (View.eq_zero_of_forall (by decide))]
  simp (disch := decide) only [View.ld_unit_lit']
  unfold k0_pay1
  pointwise

theorem same_sum {K : ℕ} (f g : Fin K → EReal) (h : ∀ k, f k = g k) : ∑ k, f k = ∑ k, g k := Finset.sum_congr rfl fun k _ => h k

/-- The array the kernel leaves is the result. -/
theorem computed : (dats m 0 c).arrAt 3 cfg0.N = result (argA m c) (argB m c) (argC m c) := by
  refine (dats m 0 c).arrAt_eq_of_covers 3 _ (by decide +kernel) fun t hf y => ?_
  blk_simp
  rw [after0_3]
  obtain ⟨j, i, rfl⟩ := point_of t
  obtain ⟨r, s, rfl⟩ : ∃ (r : Fin 512) (s : Fin 1024), y = (ix2 r s) := ⟨y 0, y 1, funext fun a => match a with | ⟨0, _⟩ => rfl | ⟨1, _⟩ => rfl⟩
  have e := (place j i).2.2.2
  have q : ((win0_3.blk (point j i)).view.emb (ix2 r s)) = (ix2 ⟨512 * i.val + r.val, by omega⟩ ⟨1024 * j.val + s.val, by omega⟩) := by
    refine funext fun a => Fin.ext ?_
    match a with
    | ⟨0, _⟩ => blk_simp; simp [e, ix2]; try omega
    | ⟨1, _⟩ => blk_simp; simp [e, ix2]; try omega
  refine Eq.trans ?_ (congrArg _ q).symm
  refine (entry _ _ _ r s).trans ?_
  exact congrArg₂ (· + ·) (same_sum _ _ fun k => congrArg₂ (· * ·) (block_0 m c j i r k) (block_1 m c j i k s)) (block_2 m c j i r s)

/-- The reference computes the same sums. -/
theorem reference_result (a : Vec Ideal S4096x4096 .bf16) (b : Vec Ideal S1x4096x4096 .bf16) (c : Vec Ideal S4096x4096 .f32) :
    Cert.OutFwdRefIdeal.Read.val_main_v4 (F := Ideal) a b c = result a b c := by
  funext y
  rw [Cert.OutFwdRefIdeal.Read.val_main_v4_apply, Cert.OutFwdRefIdeal.Read.val_main_v3_apply]
  refine (add_comm _ _).trans (congrArg₂ (· + ·) (same_sum _ _ fun k => congrArg₂ (· * ·) ?_ ?_) rfl)
  · exact congrArg a (funext fun x => match x with | ⟨0, _⟩ => rfl | ⟨1, _⟩ => rfl)
  · exact (Cert.OutFwdRefIdeal.Read.val_main_v1_apply _ _).trans (congrArg b (funext fun x => Fin.ext (by
      have h : (y 1).val < 4096 := (y 1).isLt
      match x with
      | ⟨0, _⟩ => rfl
      | ⟨1, _⟩ => show (k.val * 4096 + (y 1).val) / 4096 % 4096 = k.val; omega
      | ⟨2, _⟩ => show (k.val * 4096 + (y 1).val) % 4096 = (y 1).val; omega)))

theorem agree : Cert.algebraic_OutFwdIdeal_OutFwdRefIdeal := by
  intro m g m' g' hp hm
  refine ⟨fun c => result (argA m c) (argB m c) (argC m c), ?_, ?_⟩
  · refine (θ_run defs _ _).mono (fun r h c => ?_) (Value.run_blocks m g)
    exact ⟨(h c).1.trans (computed m c), (h c).2⟩
  · refine (θ_run Cert.OutFwdRefIdeal.defs _ _).mono (fun r h c => ?_) (Cert.OutFwdRefIdeal.Value.run m' g')
    refine ⟨?_, (h c).2⟩
    obtain ⟨e0, e1, e2⟩ := hm c
    rw [(h c).1, e0, e1, e2]
    exact (Cert.OutFwdRefIdeal.Read.val_main_v4_eq (F := Ideal) _ _ _).trans (reference_result _ _ _)

end Cert.OutFwdIdeal
-- ==== Proof.ProductDownFwd.lean ====
module

public import proofs.«01_k».proof.Defs
public import proofs.«01_k».proof.Proof.Gen.DownFwdIdeal
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.DownFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.DownFwdRefIdeal

open Idealize.ShloMosaic Idealize.ShloMosaic.TcCoe
open Idealize.SL.Sem

/-- The reference runs on the host alone: it leaves its arguments as they were, and it has no semaphores. -/
theorem frame_holds : Cert.quiescent_DownFwdRefIdeal := fun m g _ =>
  (θ_run _ _ _).mono (fun r h => ⟨fun c => (h c).2, sem_eq_zero_of_no_sems rfl r.2⟩) (Value.run m g)

end Cert.DownFwdRefIdeal

namespace Cert.DownFwdIdeal

open Idealize.ShloMosaic Idealize.ShloMosaic.TcCoe Idealize.ShloMosaic.Tactic
open Idealize.SL.Sem
open Cert.DownFwdIdeal.Gen

/-! ## The down-projection added to the residual -/

variable (m : (ℓ : Loc nD τ sig) → Buf (Elt Ideal) ℓ) (c : Dev nD)

/-- The arguments on one device. -/
abbrev argA : Vec Ideal S4096x11264 .bf16 := m ((c.tc : Thread nD τ).loc main_arg0)
abbrev argB : Vec Ideal S1x11264x4096 .bf16 := m ((c.tc : Thread nD τ).loc main_arg1)
abbrev argC : Vec Ideal S4096x4096 .f32 := m ((c.tc : Thread nD τ).loc main_arg2)

/-- One slab of the contraction. -/
def slab (a : Vec Ideal S4096x11264 .bf16) (b : Vec Ideal S1x11264x4096 .bf16) (u v : Fin 4096) (q : Fin 2) : EReal := ∑ l : Fin 5632, a (ix2 u ⟨5632 * q.val + l.val, by omega⟩) * b (ix3 0 ⟨5632 * q.val + l.val, by omega⟩ v)

/-- The result, entry by entry. -/
def result (a : Vec Ideal S4096x11264 .bf16) (b : Vec Ideal S1x11264x4096 .bf16) (c : Vec Ideal S4096x4096 .f32) : Vec Ideal S4096x4096 .f32 := fun y => (∑ q : Fin 2, slab a b (y 0) (y 1) q : EReal) + (c y : EReal)

/-- The point of the grid that works on block `j` of the outer axis and block `i` of the inner one. -/
def point (j : Fin 8) (i : Fin 4) (k : Fin 2) : Fin cfg0.N := ⟨2 * (4 * j.val + i.val) + k.val, by have h : cfg0.N = 64 := rfl; omega⟩

theorem place (j : Fin 8) (i : Fin 4) (k : Fin 2) : win0_0.index (point j i k) = ![j.val, k.val] ∧ win0_1.index (point j i k) = ![0, k.val, i.val] ∧ win0_2.index (point j i k) = ![j.val, i.val] ∧ win0_3.index (point j i k) = ![j.val, i.val] := by
  revert j i k
  decide +kernel

theorem point_of (t : Fin cfg0.N) : ∃ j i k, t = point j i k := by
  have h : cfg0.N = 64 := rfl
  exact ⟨⟨t.val / 8, by omega⟩, ⟨t.val / 2 % 4, by omega⟩, ⟨t.val % 2, by omega⟩, Fin.ext (by simp only [point]; omega)⟩

theorem block_0 (j : Fin 8) (i : Fin 4) (k : Fin 2) (r : Fin 512) (p : Fin 5632) :
    iblk m c 0 (point j i k) (ix2 r p) = argA m c (ix2 ⟨512 * j.val + r.val, by omega⟩ ⟨5632 * k.val + p.val, by omega⟩) := by
  unfold iblk
  blk_simp
  refine congrArg (argA m c) (funext fun a => Fin.ext ?_)
  have e := (place j i k).1
  match a with
  | ⟨0, _⟩ => blk_simp; simp [e, ix2]; try omega
  | ⟨1, _⟩ => blk_simp; simp [e, ix2]; try omega

theorem block_1 (j : Fin 8) (i : Fin 4) (k : Fin 2) (p : Fin 5632) (s : Fin 1024) :
    iblk m c 1 (point j i k) (ix3 0 p s) = argB m c (ix3 0 ⟨5632 * k.val + p.val, by omega⟩ ⟨1024 * i.val + s.val, by omega⟩) := by
  unfold iblk
  blk_simp
  refine congrArg (argB m c) (funext fun a => Fin.ext ?_)
  have e := (place j i k).2.1
  match a with
  | ⟨0, _⟩ => blk_simp; simp [e, ix3]; try omega
  | ⟨1, _⟩ => blk_simp; simp [e, ix3]; try omega
  | ⟨2, _⟩ => blk_simp; simp [e, ix3]; try omega

theorem block_2 (j : Fin 8) (i : Fin 4) (k : Fin 2) (r : Fin 512) (s : Fin 1024) :
    iblk m c 2 (point j i k) (ix2 r s) = argC m c (ix2 ⟨512 * j.val + r.val, by omega⟩ ⟨1024 * i.val + s.val, by omega⟩) := by
  unfold iblk
  blk_simp
  refine congrArg (argC m c) (funext fun a => Fin.ext ?_)
  have e := (place j i k).2.2.1
  match a with
  | ⟨0, _⟩ => blk_simp; simp [e, ix2]; try omega
  | ⟨1, _⟩ => blk_simp; simp [e, ix2]; try omega

/-- The products a point of the grid adds up. -/
theorem products (va0 : Vec Ideal S512x5632 .bf16) (vb0 : Vec Ideal S1x5632x1024 .bf16) (r : Fin 512) (s : Fin 1024) :
    k0_pay1 (F := Ideal) va0 vb0 (ix2 r s) = (∑ l : Fin 5632, va0 (ix2 r l) * vb0 (ix3 0 l s) : EReal) := by
  unfold k0_pay1
  pointwise

theorem same_sum {K : ℕ} (f g : Fin K → EReal) (h : ∀ k, f k = g k) : ∑ k, f k = ∑ k, g k := Finset.sum_congr rfl fun k _ => h k

theorem factor_A0 (j : Fin 8) (i : Fin 4) (k : Fin 2) (r : Fin 512) (l : Fin 5632) :
    iblk m c 0 (point j i k) (ix2 r l) = argA m c (ix2 ⟨512 * j.val + r.val, by omega⟩ ⟨5632 * (1 * k.val + 0) + l.val, by omega⟩) := by
  refine Eq.trans (b := iblk m c 0 (point j i k) (ix2 r l)) rfl ?_
  rw [block_0]
  refine congrArg (argA m c) (funext fun a => Fin.ext ?_)
  match a with
  | ⟨0, _⟩ => first | rfl | (simp only [ix2]; omega)
  | ⟨1, _⟩ => first | rfl | (simp only [ix2]; omega)

theorem factor_B0 (j : Fin 8) (i : Fin 4) (k : Fin 2) (s : Fin 1024) (l : Fin 5632) :
    iblk m c 1 (point j i k) (ix3 0 l s) = argB m c (ix3 0 ⟨5632 * (1 * k.val + 0) + l.val, by omega⟩ ⟨1024 * i.val + s.val, by omega⟩) := by
  refine Eq.trans (b := iblk m c 1 (point j i k) (ix3 0 l s)) rfl ?_
  rw [block_1]
  refine congrArg (argB m c) (funext fun a => Fin.ext ?_)
  match a with
  | ⟨0, _⟩ => first | rfl | (simp only [ix3]; omega)
  | ⟨1, _⟩ => first | rfl | (simp only [ix3]; omega)
  | ⟨2, _⟩ => first | rfl | (simp only [ix3]; omega)

theorem contribution (j : Fin 8) (i : Fin 4) (k : Fin 2) (r : Fin 512) (s : Fin 1024) :
    k0_pay1 (F := Ideal) (iblk m c 0 (point j i k)) (iblk m c 1 (point j i k)) (ix2 r s) = (slab (argA m c) (argB m c) ⟨512 * j.val + r.val, by omega⟩ ⟨1024 * i.val + s.val, by omega⟩ ⟨1 * k.val + 0, by omega⟩ : EReal) :=
  (products _ _ r s).trans (same_sum _ _ fun l => congrArg₂ (· * ·) (factor_A0 m c j i k r l) (factor_B0 m c j i k s l))

theorem outs_at {a b : ℕ} (e : a = b) (ha : a < cfg0.N) (hb : b < cfg0.N) : outsAt0 m c a ha = outsAt0 m c b hb := by subst e; rfl

theorem first_store (va0 : Vec Ideal S512x5632 .bf16) (vb0 : Vec Ideal S1x5632x1024 .bf16) (y : S512x1024.Idx) : k0_pay2 (F := Ideal) va0 vb0 y = k0_pay1 (F := Ideal) va0 vb0 y := by
  unfold k0_pay2
  rw [shapeCast_apply _ _ y y rfl]

theorem later_store (va0 : Vec Ideal S512x5632 .bf16) (vb0 : Vec Ideal S1x5632x1024 .bf16) (w : Vec Ideal S512x1024 .f32) (y : S512x1024.Idx) :
    k0_pay3 (F := Ideal) va0 vb0 w y = (w y + k0_pay1 (F := Ideal) va0 vb0 y : EReal) := by
  unfold k0_pay3
  exact shapeCast_apply _ _ y y rfl

theorem at_first (t : Fin cfg0.N) (h0 : t.val % 2 = 0) (h1 : ¬(t.val % 2 = 1)) (h2 : ¬t.val % 2 = 1) : (outsAt0 m c t.val t.isLt).2 = k0_pay2 (F := Ideal) (iblk m c 0 t) (iblk m c 1 t) := by
  rw [outsAt0_A m c t h0 h1 h2]
  frame_out

theorem at_last (t : Fin cfg0.N) (h0 : ¬t.val % 2 = 0) (h1 : t.val % 2 = 1) (h2 : t.val % 2 = 1) : (outsAt0 m c t.val t.isLt).1 = k0_pay4 (F := Ideal) (k0_pay3 (F := Ideal) (iblk m c 0 t) (iblk m c 1 t) (outsAt0 m c (t.val - 1) (Nat.lt_of_le_of_lt (Nat.sub_le _ _) t.isLt)).2) (iblk m c 2 t) := by
  rw [outsAt0_B m c t h0 h1 h2]
  frame_out
  rw [(Memref.isWhole_whole _).read_unread]

theorem after_0 (j : Fin 8) (i : Fin 4) (r : Fin 512) (s : Fin 1024) : ((outsAt0 m c (point j i 0).val (point j i 0).isLt).2 (ix2 r s) : EReal) = slab (argA m c) (argB m c) ⟨512 * j.val + r.val, by omega⟩ ⟨1024 * i.val + s.val, by omega⟩ ⟨1 * 0 + 0, by omega⟩ := by
  have h0 : (point j i 0).val % 2 = 0 := by simp only [point]; omega
  have h1 : ¬((point j i 0).val % 2 = 1) := by simp only [point]; omega
  have h2 : ¬(point j i 0).val % 2 = 1 := by simp only [point]; omega
  rw [at_first m c (point j i 0) h0 h1 h2]
  exact (first_store _ _ _).trans (contribution m c j i 0 r s)

theorem at_the_end (j : Fin 8) (i : Fin 4) (r : Fin 512) (s : Fin 1024) : ((outsAt0 m c (point j i 1).val (point j i 1).isLt).1 (ix2 r s) : EReal) = (((outsAt0 m c (point j i 0).val (point j i 0).isLt).2 (ix2 r s) : EReal) + (slab (argA m c) (argB m c) ⟨512 * j.val + r.val, by omega⟩ ⟨1024 * i.val + s.val, by omega⟩ ⟨1 * 1 + 0, by omega⟩)) + (argC m c (ix2 ⟨512 * j.val + r.val, by omega⟩ ⟨1024 * i.val + s.val, by omega⟩) : EReal) := by
  have h0 : ¬(point j i 1).val % 2 = 0 := by simp only [point]; omega
  have h1 : (point j i 1).val % 2 = 1 := by simp only [point]; omega
  have h2 : (point j i 1).val % 2 = 1 := by simp only [point]; omega
  rw [at_last m c (point j i 1) h0 h1 h2]
  refine congrArg₂ (· + ·) ?_ (block_2 m c j i 1 r s)
  refine (later_store _ _ _ _).trans (congrArg₂ (· + ·) ?_ (contribution m c j i 1 r s))
  rw [outs_at m c (b := (point j i 0).val) (by simp only [point]; rfl) _ (point j i 0).isLt]

theorem sums (j : Fin 8) (i : Fin 4) (r : Fin 512) (s : Fin 1024) : ((outsAt0 m c (point j i 1).val (point j i 1).isLt).1 (ix2 r s) : EReal) = (∑ q : Fin 2, slab (argA m c) (argB m c) ⟨512 * j.val + r.val, by omega⟩ ⟨1024 * i.val + s.val, by omega⟩ q : EReal) + (argC m c (ix2 ⟨512 * j.val + r.val, by omega⟩ ⟨1024 * i.val + s.val, by omega⟩) : EReal) := by
  rw [at_the_end, after_0]
  congr 1
  generalize slab (argA m c) (argB m c) ⟨512 * j.val + r.val, by omega⟩ ⟨1024 * i.val + s.val, by omega⟩ = f
  rw [Fin.sum_univ_two]
  rfl

/-- The array the kernel leaves is the result. -/
theorem computed : (dats m 0 c).arrAt 3 cfg0.N = result (argA m c) (argB m c) (argC m c) := by
  refine (dats m 0 c).arrAt_eq_of_covers 3 _ (by decide +kernel) fun t hf y => ?_
  blk_simp
  rw [after0_3]
  obtain ⟨j, i, k, rfl⟩ := point_of t
  obtain ⟨r, s, rfl⟩ : ∃ (r : Fin 512) (s : Fin 1024), y = ix2 r s := ⟨y 0, y 1, funext fun a => match a with | ⟨0, _⟩ => rfl | ⟨1, _⟩ => rfl⟩
  have hk : (point j i k).val % 2 = 1 := (flush0_3 _).mp hf
  obtain rfl : k = 1 := Fin.ext (by simp only [point] at hk; have h := k.isLt; show k.val = 1; omega)
  have e := (place j i 1).2.2.2
  have q : ((win0_3.blk (point j i 1)).view.emb (ix2 r s)) = (ix2 ⟨512 * j.val + r.val, by omega⟩ ⟨1024 * i.val + s.val, by omega⟩) := by
    refine funext fun a => Fin.ext ?_
    match a with
    | ⟨0, _⟩ => blk_simp; simp [e, ix2]; try omega
    | ⟨1, _⟩ => blk_simp; simp [e, ix2]; try omega
  refine Eq.trans ?_ (congrArg _ q).symm
  exact sums m c j i r s

/-- A sum over the whole contraction is the sum of its slabs. -/
theorem split_sum (f : Fin 11264 → EReal) : ∑ k, f k = ∑ q : Fin 2, ∑ l : Fin 5632, f ⟨5632 * q.val + l.val, by omega⟩ := by
  refine (Fin.sum_mul_add_fin 2 5632 f (by decide)).symm.trans ?_
  refine same_sum _ _ fun q => same_sum _ _ fun l => congrArg f (Fin.ext ?_)
  show q.val * 5632 + l.val = 5632 * q.val + l.val
  omega

/-- The reference computes the same sums. -/
theorem reference_result (a : Vec Ideal S4096x11264 .bf16) (b : Vec Ideal S1x11264x4096 .bf16) (c : Vec Ideal S4096x4096 .f32) :
    Cert.DownFwdRefIdeal.Read.val_main_v4 (F := Ideal) a b c = result a b c := by
  funext y
  rw [Cert.DownFwdRefIdeal.Read.val_main_v4_apply, Cert.DownFwdRefIdeal.Read.val_main_v3_apply]
  refine (add_comm _ _).trans (congrArg₂ (· + ·) ?_ rfl)
  refine Eq.trans (same_sum _ (fun k => (a (ix2 (y 0) k) * b (ix3 0 k (y 1)) : EReal)) fun k => congrArg₂ (· * ·) ?_ ?_) ?_
  · exact congrArg a (funext fun x => match x with | ⟨0, _⟩ => rfl | ⟨1, _⟩ => rfl)
  · exact (Cert.DownFwdRefIdeal.Read.val_main_v1_apply _ _).trans (congrArg b (funext fun x => Fin.ext (by
      have h : (y 1).val < 4096 := (y 1).isLt
      match x with
      | ⟨0, _⟩ => rfl
      | ⟨1, _⟩ => show (k.val * 4096 + (y 1).val) / 4096 % 11264 = k.val; omega
      | ⟨2, _⟩ => show (k.val * 4096 + (y 1).val) % 4096 = (y 1).val; omega)))
  · exact split_sum _

theorem agree : Cert.algebraic_DownFwdIdeal_DownFwdRefIdeal := by
  intro m g m' g' hp hm
  refine ⟨fun c => result (argA m c) (argB m c) (argC m c), ?_, ?_⟩
  · refine (θ_run defs _ _).mono (fun r h c => ?_) (Value.run_blocks m g)
    exact ⟨(h c).1.trans (computed m c), (h c).2⟩
  · refine (θ_run Cert.DownFwdRefIdeal.defs _ _).mono (fun r h c => ?_) (Cert.DownFwdRefIdeal.Value.run m' g')
    refine ⟨?_, (h c).2⟩
    obtain ⟨e0, e1, e2⟩ := hm c
    rw [(h c).1, e0, e1, e2]
    exact (Cert.DownFwdRefIdeal.Read.val_main_v4_eq (F := Ideal) _ _ _).trans (reference_result _ _ _)

end Cert.DownFwdIdeal
-- ==== Proof.ProductInFwd.lean ====
module

public import proofs.«01_k».proof.Defs
public import proofs.«01_k».proof.Proof.Gen.InFwdIdeal
public import proofs.«01_k».proof.Proof.Gen.InFwdIdeal.Frame
public import proofs.«01_k».proof.Proof.Gen.InFwdRefIdeal
public import proofs.«01_k».proof.Proof.Gen.InFwdRefIdeal.Run
public import proofs.«01_k».proof.Proof.Gen.InFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.InFwdRefIdeal

open Idealize.ShloMosaic Idealize.ShloMosaic.TcCoe
open Idealize.SL.Sem

/-- The reference runs on the host alone: it leaves its arguments as they were, and it has no semaphores. -/
theorem frame_holds : Cert.quiescent_InFwdRefIdeal := fun m g _ =>
  (θ_run _ _ _).mono (fun r h => ⟨fun c => (h c).2, sem_eq_zero_of_no_sems rfl r.2⟩) (Value.run m g)

end Cert.InFwdRefIdeal

namespace Cert.InFwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InFwdIdeal.Gen

/-! ## The forward product of the input projections: two calls, each filling half of the columns of one array -/

variable (m : (ℓ : Loc nD τ sig) → Buf (Elt Ideal) ℓ) (ρ : Dev nD → PrngReg) (c : Dev nD)

/-- The result, entry by entry: column `y 1` belongs to panel `y 1 / 1536` of the weight. -/
def result (a : Vec Ideal S4096x4096 .bf16) (b : Vec Ideal S8x4096x1536 .bf16) : Vec Ideal S4096x12288 .f32 := fun y =>
  (∑ k : Fin 4096, a (ix2 (y 0) k) * b (ix3 ⟨(y 1).val / 1536, by have h : (y 1).val < 12288 := (y 1).isLt; omega⟩ k ⟨(y 1).val % 1536, by omega⟩) : EReal)

theorem same_sum {K : ℕ} (f g : Fin K → EReal) (h : ∀ k, f k = g k) : ∑ k, f k = ∑ k, g k := Finset.sum_congr rfl fun k _ => h k

local notation "𝕄" => MT nD τ sig Unit (Elt Ideal) ℕ (UR sig nD τ) ℕ

/-! ### Call 1: the even blocks of columns -/

/-- The point of call 1 that works on panel `j` and on rows `512 * i` and after. -/
def point0 (j i : Fin 8) : Fin cfg0.N := ⟨8 * j.val + i.val, by have h : cfg0.N = 64 := rfl; omega⟩

theorem place0 (j i : Fin 8) : win0_0.index (point0 j i) = ![i.val, 0] ∧ win0_1.index (point0 j i) = ![j.val, 0, 0] ∧ win0_2.index (point0 j i) = ![i.val, 2 * j.val + 0] := by
  revert j i
  decide +kernel

theorem point0_of (t : Fin cfg0.N) : ∃ j i, t = point0 j i := by
  have h : cfg0.N = 64 := rfl
  exact ⟨⟨t.val / 8, by omega⟩, ⟨t.val % 8, by omega⟩, Fin.ext (by simp only [point0]; omega)⟩

section
variable (V : (c : Dev nD) → (b : Ref sig .tc) → Buf (Elt Ideal) ((c : Thread nD τ).loc b))

theorem rows0 (j i : Fin 8) (r : Fin 512) (p : Fin 4096) :
    iblk0 V c 0 (point0 j i) (ix2 r p) = (V c main_arg0 : Vec Ideal S4096x4096 .bf16) (ix2 ⟨512 * i.val + r.val, by omega⟩ p) := by
  unfold iblk0
  blk_simp
  refine congrArg (V c main_arg0 : Vec Ideal S4096x4096 .bf16) (funext fun a => Fin.ext ?_)
  have e := (place0 j i).1
  match a with
  | ⟨0, _⟩ => blk_simp; simp [e, ix2]; try omega
  | ⟨1, _⟩ => blk_simp; simp [e, ix2]; try omega

theorem columns0 (j i : Fin 8) (h : Fin 1) (p : Fin 4096) (s : Fin 768) :
    iblk0 V c 1 (point0 j i) (ix3 h p s) = (V c main_arg1 : Vec Ideal S8x4096x1536 .bf16) (ix3 ⟨j.val, by omega⟩ p ⟨0 + s.val, by omega⟩) := by
  unfold iblk0
  blk_simp
  refine congrArg (V c main_arg1 : Vec Ideal S8x4096x1536 .bf16) (funext fun a => Fin.ext ?_)
  have e := (place0 j i).2.1
  match a with
  | ⟨0, _⟩ => blk_simp; simp [e, ix3]; try omega
  | ⟨1, _⟩ => blk_simp; simp [e, ix3]; try omega
  | ⟨2, _⟩ => blk_simp; simp [e, ix3]; try omega

/-- The block a point stores is the product of its two blocks. -/
theorem product0 (a : Vec Ideal S512x4096 .bf16) (b : Vec Ideal S1x4096x768 .bf16) (r : Fin 512) (s : Fin 768) :
    k0_pay1 (F := Ideal) a b (ix2 r s) = (∑ k : Fin 4096, a (ix2 r k) * b (ix3 0 k s) : EReal) := by
  unfold k0_pay1
  pointwise

theorem cell0 (j i : Fin 8) (r : Fin 512) (s : Fin 768) :
    ((win0_2.blk (point0 j i)).view.emb (ix2 r s)) = (ix2 ⟨512 * i.val + r.val, by omega⟩ ⟨1536 * j.val + 0 + s.val, by omega⟩ : S4096x12288.Idx) := by
  have e := (place0 j i).2.2
  refine funext fun a => Fin.ext ?_
  match a with
  | ⟨0, _⟩ => blk_simp; simp [e, ix2]; try omega
  | ⟨1, _⟩ => blk_simp; simp [e, ix2]; try omega

theorem entry0 (j i : Fin 8) (r : Fin 512) (s : Fin 768) :
    k0_pay1 (F := Ideal) (iblk0 V c 0 (point0 j i)) (iblk0 V c 1 (point0 j i)) (ix2 r s)
      = result (V c main_arg0) (V c main_arg1) (ix2 ⟨512 * i.val + r.val, by omega⟩ ⟨1536 * j.val + 0 + s.val, by omega⟩) := by
  refine (product0 _ _ r s).trans (same_sum _ _ fun k => ?_)
  rw [rows0, columns0]
  refine congrArg₂ (· * ·) rfl (congrArg (V c main_arg1 : Vec Ideal S8x4096x1536 .bf16) (funext fun a => Fin.ext ?_))
  match a with
  | ⟨0, _⟩ => show j.val = (1536 * j.val + 0 + s.val) / 1536; omega
  | ⟨1, _⟩ => rfl
  | ⟨2, _⟩ => show 0 + s.val = (1536 * j.val + 0 + s.val) % 1536; omega

/-- What a point leaves is its block of the result. -/
theorem left0 (j i : Fin 8) (r : Fin 512) (s : Fin 768) :
    (dat0 V c).after 2 (point0 j i) (ix2 r s) = result (V c main_arg0) (V c main_arg1) (ix2 ⟨512 * i.val + r.val, by omega⟩ ⟨1536 * j.val + 0 + s.val, by omega⟩) := by
  rw [after0_2]
  unfold out0_2
  rw [View.canon_unit_zero (View.eq_zero_of_forall (by decide))]
  simp (disch := decide) only [View.ld_unit_lit']
  exact entry0 c V j i r s

end

/-- Call 1 fills the even blocks of columns with the result. -/
theorem filled0 (j : S4096x12288.Idx) (h : (j 1).val / 768 % 2 = 0) : (dat0 (V0 m ρ) c).arrAt 2 cfg0.N j = result (V0 m ρ c main_arg0) (V0 m ρ c main_arg1) j := by
  have e := Pipeline.Dat.arrAt_emb_eq_of_coversWhere (dat0 (V0 m ρ) c) 2 (result (V0 m ρ c main_arg0) (V0 m ρ c main_arg1))
    (fun f => f 1 % 2 = 0) (by decide +kernel) (fun t hf y => ?_) j
  · refine e.trans (if_pos ?_)
    exact h
  · blk_simp
    obtain ⟨j, i, rfl⟩ := point0_of t
    obtain ⟨r, s, rfl⟩ : ∃ (r : Fin 512) (s : Fin 768), y = ix2 r s := ⟨y 0, y 1, funext fun a => match a with | ⟨0, _⟩ => rfl | ⟨1, _⟩ => rfl⟩
    exact (left0 c (V0 m ρ) j i r s).trans (congrArg _ (cell0 j i r s)).symm

theorem stored (V : (c : Dev nD) → (b : Ref sig .tc) → Buf (Elt Ideal) ((c : Thread nD τ).loc b)) (c : Dev nD) (t : Fin cfg1.N) :
    outsAt1 V c t = k1_pay1 (F := Ideal) (iblk1 V c 0 t) (iblk1 V c 1 t) := by
  unfold outsAt1
  frame_out

/-! ### Call 2: the odd blocks of columns -/

/-- The point of call 2 that works on panel `j` and on rows `512 * i` and after. -/
def point1 (j i : Fin 8) : Fin cfg1.N := ⟨8 * j.val + i.val, by have h : cfg1.N = 64 := rfl; omega⟩

theorem place1 (j i : Fin 8) : win1_0.index (point1 j i) = ![i.val, 0] ∧ win1_1.index (point1 j i) = ![j.val, 0, 1] ∧ win1_2.index (point1 j i) = ![i.val, 2 * j.val + 1] := by
  revert j i
  decide +kernel

theorem point1_of (t : Fin cfg1.N) : ∃ j i, t = point1 j i := by
  have h : cfg1.N = 64 := rfl
  exact ⟨⟨t.val / 8, by omega⟩, ⟨t.val % 8, by omega⟩, Fin.ext (by simp only [point1]; omega)⟩

section
variable (V : (c : Dev nD) → (b : Ref sig .tc) → Buf (Elt Ideal) ((c : Thread nD τ).loc b))

theorem rows1 (j i : Fin 8) (r : Fin 512) (p : Fin 4096) :
    iblk1 V c 0 (point1 j i) (ix2 r p) = (V c main_arg0 : Vec Ideal S4096x4096 .bf16) (ix2 ⟨512 * i.val + r.val, by omega⟩ p) := by
  unfold iblk1
  blk_simp
  refine congrArg (V c main_arg0 : Vec Ideal S4096x4096 .bf16) (funext fun a => Fin.ext ?_)
  have e := (place1 j i).1
  match a with
  | ⟨0, _⟩ => blk_simp; simp [e, ix2]; try omega
  | ⟨1, _⟩ => blk_simp; simp [e, ix2]; try omega

theorem columns1 (j i : Fin 8) (h : Fin 1) (p : Fin 4096) (s : Fin 768) :
    iblk1 V c 1 (point1 j i) (ix3 h p s) = (V c main_arg1 : Vec Ideal S8x4096x1536 .bf16) (ix3 ⟨j.val, by omega⟩ p ⟨768 + s.val, by omega⟩) := by
  unfold iblk1
  blk_simp
  refine congrArg (V c main_arg1 : Vec Ideal S8x4096x1536 .bf16) (funext fun a => Fin.ext ?_)
  have e := (place1 j i).2.1
  match a with
  | ⟨0, _⟩ => blk_simp; simp [e, ix3]; try omega
  | ⟨1, _⟩ => blk_simp; simp [e, ix3]; try omega
  | ⟨2, _⟩ => blk_simp; simp [e, ix3]; try omega

/-- The block a point stores is the product of its two blocks. -/
theorem product1 (a : Vec Ideal S512x4096 .bf16) (b : Vec Ideal S1x4096x768 .bf16) (r : Fin 512) (s : Fin 768) :
    k1_pay1 (F := Ideal) a b (ix2 r s) = (∑ k : Fin 4096, a (ix2 r k) * b (ix3 0 k s) : EReal) := by
  unfold k1_pay1
  pointwise

theorem cell1 (j i : Fin 8) (r : Fin 512) (s : Fin 768) :
    ((win1_2.blk (point1 j i)).view.emb (ix2 r s)) = (ix2 ⟨512 * i.val + r.val, by omega⟩ ⟨1536 * j.val + 768 + s.val, by omega⟩ : S4096x12288.Idx) := by
  have e := (place1 j i).2.2
  refine funext fun a => Fin.ext ?_
  match a with
  | ⟨0, _⟩ => blk_simp; simp [e, ix2]; try omega
  | ⟨1, _⟩ => blk_simp; simp [e, ix2]; try omega

theorem entry1 (j i : Fin 8) (r : Fin 512) (s : Fin 768) :
    k1_pay1 (F := Ideal) (iblk1 V c 0 (point1 j i)) (iblk1 V c 1 (point1 j i)) (ix2 r s)
      = result (V c main_arg0) (V c main_arg1) (ix2 ⟨512 * i.val + r.val, by omega⟩ ⟨1536 * j.val + 768 + s.val, by omega⟩) := by
  refine (product1 _ _ r s).trans (same_sum _ _ fun k => ?_)
  rw [rows1, columns1]
  refine congrArg₂ (· * ·) rfl (congrArg (V c main_arg1 : Vec Ideal S8x4096x1536 .bf16) (funext fun a => Fin.ext ?_))
  match a with
  | ⟨0, _⟩ => show j.val = (1536 * j.val + 768 + s.val) / 1536; omega
  | ⟨1, _⟩ => rfl
  | ⟨2, _⟩ => show 768 + s.val = (1536 * j.val + 768 + s.val) % 1536; omega

/-- What a point leaves is its block of the result. -/
theorem left1 (j i : Fin 8) (r : Fin 512) (s : Fin 768) :
    (dat1 V c).after 2 (point1 j i) (ix2 r s) = result (V c main_arg0) (V c main_arg1) (ix2 ⟨512 * i.val + r.val, by omega⟩ ⟨1536 * j.val + 768 + s.val, by omega⟩) := by
  rw [after1_2]
  refine Eq.trans (congrFun (stored V c (point1 j i)) (ix2 r s)) ?_
  exact entry1 c V j i r s

end

/-! ### Both calls -/

theorem entry_args : V2 m ρ c main_arg0 = m ((c.tc : Thread nD τ).loc main_arg0) ∧ V2 m ρ c main_arg1 = m ((c.tc : Thread nD τ).loc main_arg1) :=
  ⟨W2_args m ρ c main_arg0 (by decide), W2_args m ρ c main_arg1 (by decide)⟩

/-- The second call finds the first one's array in its own. -/
theorem handed_over : V2 m ρ c main_v1 = (dat0 (V0 m ρ) c).arrAt 2 cfg0.N := by
  refine Eq.trans ?_ (W1_arr m ρ c 2)
  show StableHlo.after hostOps1 (W1 m ρ c) (Proc.devRef .tc main_v1) = _
  unfold hostOps1
  after_results <;> rfl

/-- After both calls the array is the result, in every column. -/
theorem computed : (dat1 (V2 m ρ) c).arrAt 2 cfg1.N = result (m ((c.tc : Thread nD τ).loc main_arg0)) (m ((c.tc : Thread nD τ).loc main_arg1)) := by
  refine Pipeline.Dat.arrAt_eq_of_coversWhere_of_agree (dat1 (V2 m ρ) c) 2 _ (fun f => f 1 % 2 = 1) (by decide +kernel) (fun t hf y => ?_) (fun j hj => ?_)
  · blk_simp
    obtain ⟨j, i, rfl⟩ := point1_of t
    obtain ⟨r, s, rfl⟩ : ∃ (r : Fin 512) (s : Fin 768), y = ix2 r s := ⟨y 0, y 1, funext fun a => match a with | ⟨0, _⟩ => rfl | ⟨1, _⟩ => rfl⟩
    refine (left1 c (V2 m ρ) j i r s).trans ?_
    rw [(entry_args m ρ c).1, (entry_args m ρ c).2]
    exact (congrArg _ (cell1 j i r s)).symm
  · rw [A_eq1]
    refine Eq.trans (congrFun (handed_over m ρ c) j) (filled0 m ρ c j ?_)
    have h : ¬((j 1).val / 768 % 2 = 1) := hj
    omega

-- the launch theorem's implicit arguments are found by unifying its conclusion with this statement
set_option backward.isDefEq.respectTransparency.types false in
/-- Every run of the two calls ends with the second call's array, and with the arguments as they were. -/
theorem run : θ_run defs (onTc (τ := τ) (main (F := Ideal))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have nothing : (BI.emp : sProp 𝕄) ⊢ bigSep Finset.univ (fun _ : Dev nD => (BI.emp : sProp 𝕄)) := by rw [BI.bigSep_emp_const]
      have tokens : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
      iintro Htok
      imodintro
      isplitl [Htok]
      · iapply tokens
        iexact Htok
      · iapply nothing
        iempintro)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl⟩)
    (hinit := Pipeline.initEach L lv fun d => by
      rw [show unscopedBufs d (fun b => m ((d : Thread nD τ).loc b)) = StableHlo.held (d : Thread nD τ) (Pipeline.ucRefs τ sig) (W0 m ρ d)
        from Pipeline.unscopedBufs_held d (W0 m ρ d)]
      iintro ⟨⟨Hbufs, -, Howed, -, Hrng, -⟩, -⟩
      imodintro
      isplitl [Hbufs]
      · iexact Hbufs
      isplitl [Hrng]
      · iexists _; iexact Hrng
      · iexists ∅; iexact Howed)
    (QY := fun d s => ∀ b ∈ Pipeline.ucRefs τ sig, s.mem (((d : Thread nD τ)).1, b) = W3 m ρ d b)
    (hfin := fun d s => by
      iintro ⟨⟨Hbufs, -⟩, Hstate⟩
      unfold StableHlo.held
      imodintro
      iapply (pointsTo_read_all (Pipeline.ucRefs τ sig) (fun b => (((d : Thread nD τ)).1, b)) (W3 m ρ d) s)
      isplitl [Hbufs]
      · iexact Hbufs
      · iexact Hstate)
    (hQ := fun s held _ d =>
      ⟨(held d _ (mem_uc main_v1 (by decide))).trans (W3_arr m ρ d 2),
       (held d _ (mem_uc main_arg0 (by decide))).trans (W3_main_arg0 m ρ d),
       (held d _ (mem_uc main_arg1 (by decide))).trans (W3_main_arg1 m ρ d)⟩)

/-- The reference computes the same sums. -/
theorem reference_result (a : Vec Ideal S4096x4096 .bf16) (b : Vec Ideal S8x4096x1536 .bf16) :
    Cert.InFwdRefIdeal.Read.val_main_v4 (F := Ideal) a b = result a b := by
  funext y
  rw [Cert.InFwdRefIdeal.Read.val_main_v4_apply]
  refine same_sum _ _ fun p => congrArg₂ (· * ·) ?_ ?_
  · exact congrArg a (funext fun x => match x with | ⟨0, _⟩ => rfl | ⟨1, _⟩ => rfl)
  · rw [Cert.InFwdRefIdeal.Read.val_main_v3_apply, Cert.InFwdRefIdeal.Read.val_main_v2_apply]
    refine congrArg b (funext fun x => Fin.ext ?_)
    have h : (y 1).val < 12288 := (y 1).isLt
    match x with
    | ⟨0, _⟩ => show (p.val * 12288 + (y 1).val) / 1536 % 8 = (y 1).val / 1536; omega
    | ⟨1, _⟩ => show (p.val * 12288 + (y 1).val) / 12288 = p.val; omega
    | ⟨2, _⟩ => show (p.val * 12288 + (y 1).val) % 1536 = (y 1).val % 1536; omega

theorem agree : Cert.algebraic_InFwdIdeal_InFwdRefIdeal := by
  intro m g m' g' hp hm
  refine ⟨fun c => result (m ((c.tc : Thread nD τ).loc main_arg0)) (m ((c.tc : Thread nD τ).loc main_arg1)), ?_, ?_⟩
  · refine (θ_run defs _ _).mono (fun r h c => ?_) (run m g)
    exact ⟨(h c).1.trans (computed m g c), (h c).2⟩
  · refine (θ_run Cert.InFwdRefIdeal.defs _ _).mono (fun r h c => ?_) (Cert.InFwdRefIdeal.Value.run m' g')
    refine ⟨?_, (h c).2⟩
    obtain ⟨e0, e1⟩ := hm c
    rw [(h c).1, e0, e1]
    exact (Cert.InFwdRefIdeal.Read.val_main_v4_eq (F := Ideal) _ _).trans (reference_result _ _)

end Cert.InFwdIdeal
-- ==== Proof.ProductUpFwd.lean ====
module

public import proofs.«01_k».proof.Defs
public import proofs.«01_k».proof.Proof.Gen.UpFwdIdeal
public import proofs.«01_k».proof.Proof.Gen.UpFwdIdeal.Frame
public import proofs.«01_k».proof.Proof.Gen.UpFwdRefIdeal
public import proofs.«01_k».proof.Proof.Gen.UpFwdRefIdeal.Run
public import proofs.«01_k».proof.Proof.Gen.UpFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.UpFwdRefIdeal

open Idealize.ShloMosaic Idealize.ShloMosaic.TcCoe
open Idealize.SL.Sem

/-- The reference runs on the host alone: it leaves its arguments as they were, and it has no semaphores. -/
theorem frame_holds : Cert.quiescent_UpFwdRefIdeal := fun m g _ =>
  (θ_run _ _ _).mono (fun r h => ⟨fun c => (h c).2, sem_eq_zero_of_no_sems rfl r.2⟩) (Value.run m g)

end Cert.UpFwdRefIdeal

namespace Cert.UpFwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.UpFwdIdeal.Gen

/-! ## The forward product of the projections into the feed-forward layer: two calls, each filling half of the columns of one array -/

variable (m : (ℓ : Loc nD τ sig) → Buf (Elt Ideal) ℓ) (ρ : Dev nD → PrngReg) (c : Dev nD)

/-- The result, entry by entry: column `y 1` belongs to panel `y 1 / 2816` of the weight. -/
def result (a : Vec Ideal S4096x4096 .bf16) (b : Vec Ideal S8x4096x2816 .bf16) : Vec Ideal S4096x22528 .f32 := fun y =>
  (∑ k : Fin 4096, a (ix2 (y 0) k) * b (ix3 ⟨(y 1).val / 2816, by have h : (y 1).val < 22528 := (y 1).isLt; omega⟩ k ⟨(y 1).val % 2816, by omega⟩) : EReal)

theorem same_sum {K : ℕ} (f g : Fin K → EReal) (h : ∀ k, f k = g k) : ∑ k, f k = ∑ k, g k := Finset.sum_congr rfl fun k _ => h k

local notation "𝕄" => MT nD τ sig Unit (Elt Ideal) ℕ (UR sig nD τ) ℕ

/-! ### Call 1: the even blocks of columns -/

/-- The point of call 1 that works on panel `j` and on rows `512 * i` and after. -/
def point0 (j i : Fin 8) : Fin cfg0.N := ⟨8 * j.val + i.val, by have h : cfg0.N = 64 := rfl; omega⟩

theorem place0 (j i : Fin 8) : win0_0.index (point0 j i) = ![i.val, 0] ∧ win0_1.index (point0 j i) = ![j.val, 0, 0] ∧ win0_2.index (point0 j i) = ![i.val, 2 * j.val + 0] := by
  revert j i
  decide +kernel

theorem point0_of (t : Fin cfg0.N) : ∃ j i, t = point0 j i := by
  have h : cfg0.N = 64 := rfl
  exact ⟨⟨t.val / 8, by omega⟩, ⟨t.val % 8, by omega⟩, Fin.ext (by simp only [point0]; omega)⟩

section
variable (V : (c : Dev nD) → (b : Ref sig .tc) → Buf (Elt Ideal) ((c : Thread nD τ).loc b))

theorem rows0 (j i : Fin 8) (r : Fin 512) (p : Fin 4096) :
    iblk0 V c 0 (point0 j i) (ix2 r p) = (V c main_arg0 : Vec Ideal S4096x4096 .bf16) (ix2 ⟨512 * i.val + r.val, by omega⟩ p) := by
  unfold iblk0
  blk_simp
  refine congrArg (V c main_arg0 : Vec Ideal S4096x4096 .bf16) (funext fun a => Fin.ext ?_)
  have e := (place0 j i).1
  match a with
  | ⟨0, _⟩ => blk_simp; simp [e, ix2]; try omega
  | ⟨1, _⟩ => blk_simp; simp [e, ix2]; try omega

theorem columns0 (j i : Fin 8) (h : Fin 1) (p : Fin 4096) (s : Fin 1408) :
    iblk0 V c 1 (point0 j i) (ix3 h p s) = (V c main_arg1 : Vec Ideal S8x4096x2816 .bf16) (ix3 ⟨j.val, by omega⟩ p ⟨0 + s.val, by omega⟩) := by
  unfold iblk0
  blk_simp
  refine congrArg (V c main_arg1 : Vec Ideal S8x4096x2816 .bf16) (funext fun a => Fin.ext ?_)
  have e := (place0 j i).2.1
  match a with
  | ⟨0, _⟩ => blk_simp; simp [e, ix3]; try omega
  | ⟨1, _⟩ => blk_simp; simp [e, ix3]; try omega
  | ⟨2, _⟩ => blk_simp; simp [e, ix3]; try omega

/-- The block a point stores is the product of its two blocks. -/
theorem product0 (a : Vec Ideal S512x4096 .bf16) (b : Vec Ideal S1x4096x1408 .bf16) (r : Fin 512) (s : Fin 1408) :
    k0_pay1 (F := Ideal) a b (ix2 r s) = (∑ k : Fin 4096, a (ix2 r k) * b (ix3 0 k s) : EReal) := by
  unfold k0_pay1
  pointwise

theorem cell0 (j i : Fin 8) (r : Fin 512) (s : Fin 1408) :
    ((win0_2.blk (point0 j i)).view.emb (ix2 r s)) = (ix2 ⟨512 * i.val + r.val, by omega⟩ ⟨2816 * j.val + 0 + s.val, by omega⟩ : S4096x22528.Idx) := by
  have e := (place0 j i).2.2
  refine funext fun a => Fin.ext ?_
  match a with
  | ⟨0, _⟩ => blk_simp; simp [e, ix2]; try omega
  | ⟨1, _⟩ => blk_simp; simp [e, ix2]; try omega

theorem entry0 (j i : Fin 8) (r : Fin 512) (s : Fin 1408) :
    k0_pay1 (F := Ideal) (iblk0 V c 0 (point0 j i)) (iblk0 V c 1 (point0 j i)) (ix2 r s)
      = result (V c main_arg0) (V c main_arg1) (ix2 ⟨512 * i.val + r.val, by omega⟩ ⟨2816 * j.val + 0 + s.val, by omega⟩) := by
  refine (product0 _ _ r s).trans (same_sum _ _ fun k => ?_)
  rw [rows0, columns0]
  refine congrArg₂ (· * ·) rfl (congrArg (V c main_arg1 : Vec Ideal S8x4096x2816 .bf16) (funext fun a => Fin.ext ?_))
  match a with
  | ⟨0, _⟩ => show j.val = (2816 * j.val + 0 + s.val) / 2816; omega
  | ⟨1, _⟩ => rfl
  | ⟨2, _⟩ => show 0 + s.val = (2816 * j.val + 0 + s.val) % 2816; omega

/-- What a point leaves is its block of the result. -/
theorem left0 (j i : Fin 8) (r : Fin 512) (s : Fin 1408) :
    (dat0 V c).after 2 (point0 j i) (ix2 r s) = result (V c main_arg0) (V c main_arg1) (ix2 ⟨512 * i.val + r.val, by omega⟩ ⟨2816 * j.val + 0 + s.val, by omega⟩) := by
  rw [after0_2]
  unfold out0_2
  rw [View.canon_unit_zero (View.eq_zero_of_forall (by decide))]
  simp (disch := decide) only [View.ld_unit_lit']
  exact entry0 c V j i r s

end

/-- Call 1 fills the even blocks of columns with the result. -/
theorem filled0 (j : S4096x22528.Idx) (h : (j 1).val / 1408 % 2 = 0) : (dat0 (V0 m ρ) c).arrAt 2 cfg0.N j = result (V0 m ρ c main_arg0) (V0 m ρ c main_arg1) j := by
  have e := Pipeline.Dat.arrAt_emb_eq_of_coversWhere (dat0 (V0 m ρ) c) 2 (result (V0 m ρ c main_arg0) (V0 m ρ c main_arg1))
    (fun f => f 1 % 2 = 0) (by decide +kernel) (fun t hf y => ?_) j
  · refine e.trans (if_pos ?_)
    exact h
  · blk_simp
    obtain ⟨j, i, rfl⟩ := point0_of t
    obtain ⟨r, s, rfl⟩ : ∃ (r : Fin 512) (s : Fin 1408), y = ix2 r s := ⟨y 0, y 1, funext fun a => match a with | ⟨0, _⟩ => rfl | ⟨1, _⟩ => rfl⟩
    exact (left0 c (V0 m ρ) j i r s).trans (congrArg _ (cell0 j i r s)).symm

theorem stored (V : (c : Dev nD) → (b : Ref sig .tc) → Buf (Elt Ideal) ((c : Thread nD τ).loc b)) (c : Dev nD) (t : Fin cfg1.N) :
    outsAt1 V c t = k1_pay1 (F := Ideal) (iblk1 V c 0 t) (iblk1 V c 1 t) := by
  unfold outsAt1
  frame_out

/-! ### Call 2: the odd blocks of columns -/

/-- The point of call 2 that works on panel `j` and on rows `512 * i` and after. -/
def point1 (j i : Fin 8) : Fin cfg1.N := ⟨8 * j.val + i.val, by have h : cfg1.N = 64 := rfl; omega⟩

theorem place1 (j i : Fin 8) : win1_0.index (point1 j i) = ![i.val, 0] ∧ win1_1.index (point1 j i) = ![j.val, 0, 1] ∧ win1_2.index (point1 j i) = ![i.val, 2 * j.val + 1] := by
  revert j i
  decide +kernel

theorem point1_of (t : Fin cfg1.N) : ∃ j i, t = point1 j i := by
  have h : cfg1.N = 64 := rfl
  exact ⟨⟨t.val / 8, by omega⟩, ⟨t.val % 8, by omega⟩, Fin.ext (by simp only [point1]; omega)⟩

section
variable (V : (c : Dev nD) → (b : Ref sig .tc) → Buf (Elt Ideal) ((c : Thread nD τ).loc b))

theorem rows1 (j i : Fin 8) (r : Fin 512) (p : Fin 4096) :
    iblk1 V c 0 (point1 j i) (ix2 r p) = (V c main_arg0 : Vec Ideal S4096x4096 .bf16) (ix2 ⟨512 * i.val + r.val, by omega⟩ p) := by
  unfold iblk1
  blk_simp
  refine congrArg (V c main_arg0 : Vec Ideal S4096x4096 .bf16) (funext fun a => Fin.ext ?_)
  have e := (place1 j i).1
  match a with
  | ⟨0, _⟩ => blk_simp; simp [e, ix2]; try omega
  | ⟨1, _⟩ => blk_simp; simp [e, ix2]; try omega

theorem columns1 (j i : Fin 8) (h : Fin 1) (p : Fin 4096) (s : Fin 1408) :
    iblk1 V c 1 (point1 j i) (ix3 h p s) = (V c main_arg1 : Vec Ideal S8x4096x2816 .bf16) (ix3 ⟨j.val, by omega⟩ p ⟨1408 + s.val, by omega⟩) := by
  unfold iblk1
  blk_simp
  refine congrArg (V c main_arg1 : Vec Ideal S8x4096x2816 .bf16) (funext fun a => Fin.ext ?_)
  have e := (place1 j i).2.1
  match a with
  | ⟨0, _⟩ => blk_simp; simp [e, ix3]; try omega
  | ⟨1, _⟩ => blk_simp; simp [e, ix3]; try omega
  | ⟨2, _⟩ => blk_simp; simp [e, ix3]; try omega

/-- The block a point stores is the product of its two blocks. -/
theorem product1 (a : Vec Ideal S512x4096 .bf16) (b : Vec Ideal S1x4096x1408 .bf16) (r : Fin 512) (s : Fin 1408) :
    k1_pay1 (F := Ideal) a b (ix2 r s) = (∑ k : Fin 4096, a (ix2 r k) * b (ix3 0 k s) : EReal) := by
  unfold k1_pay1
  pointwise

theorem cell1 (j i : Fin 8) (r : Fin 512) (s : Fin 1408) :
    ((win1_2.blk (point1 j i)).view.emb (ix2 r s)) = (ix2 ⟨512 * i.val + r.val, by omega⟩ ⟨2816 * j.val + 1408 + s.val, by omega⟩ : S4096x22528.Idx) := by
  have e := (place1 j i).2.2
  refine funext fun a => Fin.ext ?_
  match a with
  | ⟨0, _⟩ => blk_simp; simp [e, ix2]; try omega
  | ⟨1, _⟩ => blk_simp; simp [e, ix2]; try omega

theorem entry1 (j i : Fin 8) (r : Fin 512) (s : Fin 1408) :
    k1_pay1 (F := Ideal) (iblk1 V c 0 (point1 j i)) (iblk1 V c 1 (point1 j i)) (ix2 r s)
      = result (V c main_arg0) (V c main_arg1) (ix2 ⟨512 * i.val + r.val, by omega⟩ ⟨2816 * j.val + 1408 + s.val, by omega⟩) := by
  refine (product1 _ _ r s).trans (same_sum _ _ fun k => ?_)
  rw [rows1, columns1]
  refine congrArg₂ (· * ·) rfl (congrArg (V c main_arg1 : Vec Ideal S8x4096x2816 .bf16) (funext fun a => Fin.ext ?_))
  match a with
  | ⟨0, _⟩ => show j.val = (2816 * j.val + 1408 + s.val) / 2816; omega
  | ⟨1, _⟩ => rfl
  | ⟨2, _⟩ => show 1408 + s.val = (2816 * j.val + 1408 + s.val) % 2816; omega

/-- What a point leaves is its block of the result. -/
theorem left1 (j i : Fin 8) (r : Fin 512) (s : Fin 1408) :
    (dat1 V c).after 2 (point1 j i) (ix2 r s) = result (V c main_arg0) (V c main_arg1) (ix2 ⟨512 * i.val + r.val, by omega⟩ ⟨2816 * j.val + 1408 + s.val, by omega⟩) := by
  rw [after1_2]
  refine Eq.trans (congrFun (stored V c (point1 j i)) (ix2 r s)) ?_
  exact entry1 c V j i r s

end

/-! ### Both calls -/

theorem entry_args : V2 m ρ c main_arg0 = m ((c.tc : Thread nD τ).loc main_arg0) ∧ V2 m ρ c main_arg1 = m ((c.tc : Thread nD τ).loc main_arg1) :=
  ⟨W2_args m ρ c main_arg0 (by decide), W2_args m ρ c main_arg1 (by decide)⟩

/-- The second call finds the first one's array in its own. -/
theorem handed_over : V2 m ρ c main_v1 = (dat0 (V0 m ρ) c).arrAt 2 cfg0.N := by
  refine Eq.trans ?_ (W1_arr m ρ c 2)
  show StableHlo.after hostOps1 (W1 m ρ c) (Proc.devRef .tc main_v1) = _
  unfold hostOps1
  after_results <;> rfl

/-- After both calls the array is the result, in every column. -/
theorem computed : (dat1 (V2 m ρ) c).arrAt 2 cfg1.N = result (m ((c.tc : Thread nD τ).loc main_arg0)) (m ((c.tc : Thread nD τ).loc main_arg1)) := by
  refine Pipeline.Dat.arrAt_eq_of_coversWhere_of_agree (dat1 (V2 m ρ) c) 2 _ (fun f => f 1 % 2 = 1) (by decide +kernel) (fun t hf y => ?_) (fun j hj => ?_)
  · blk_simp
    obtain ⟨j, i, rfl⟩ := point1_of t
    obtain ⟨r, s, rfl⟩ : ∃ (r : Fin 512) (s : Fin 1408), y = ix2 r s := ⟨y 0, y 1, funext fun a => match a with | ⟨0, _⟩ => rfl | ⟨1, _⟩ => rfl⟩
    refine (left1 c (V2 m ρ) j i r s).trans ?_
    rw [(entry_args m ρ c).1, (entry_args m ρ c).2]
    exact (congrArg _ (cell1 j i r s)).symm
  · rw [A_eq1]
    refine Eq.trans (congrFun (handed_over m ρ c) j) (filled0 m ρ c j ?_)
    have h : ¬((j 1).val / 1408 % 2 = 1) := hj
    omega

-- the launch theorem's implicit arguments are found by unifying its conclusion with this statement
set_option backward.isDefEq.respectTransparency.types false in
/-- Every run of the two calls ends with the second call's array, and with the arguments as they were. -/
theorem run : θ_run defs (onTc (τ := τ) (main (F := Ideal))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun d Q => by rw [main_run m ρ d])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have nothing : (BI.emp : sProp 𝕄) ⊢ bigSep Finset.univ (fun _ : Dev nD => (BI.emp : sProp 𝕄)) := by rw [BI.bigSep_emp_const]
      have tokens : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
      iintro Htok
      imodintro
      isplitl [Htok]
      · iapply tokens
        iexact Htok
      · iapply nothing
        iempintro)
    (T₀ := fun d => iprop(StableHlo.held (d : Thread nD τ) (Pipeline.ucRefs τ sig) (W0 m ρ d) ∗ R d)) (Tₙ := Tₙ m ρ)
    (hch := ⟨fun _ => .rfl, fun _ => .rfl, fun _ => .rfl, fun _ => .rfl⟩)
    (hinit := Pipeline.initEach L lv fun d => by
      rw [show unscopedBufs d (fun b => m ((d : Thread nD τ).loc b)) = StableHlo.held (d : Thread nD τ) (Pipeline.ucRefs τ sig) (W0 m ρ d)
        from Pipeline.unscopedBufs_held d (W0 m ρ d)]
      iintro ⟨⟨Hbufs, -, Howed, -, Hrng, -⟩, -⟩
      imodintro
      isplitl [Hbufs]
      · iexact Hbufs
      isplitl [Hrng]
      · iexists _; iexact Hrng
      · iexists ∅; iexact Howed)
    (QY := fun d s => ∀ b ∈ Pipeline.ucRefs τ sig, s.mem (((d : Thread nD τ)).1, b) = W3 m ρ d b)
    (hfin := fun d s => by
      iintro ⟨⟨Hbufs, -⟩, Hstate⟩
      unfold StableHlo.held
      imodintro
      iapply (pointsTo_read_all (Pipeline.ucRefs τ sig) (fun b => (((d : Thread nD τ)).1, b)) (W3 m ρ d) s)
      isplitl [Hbufs]
      · iexact Hbufs
      · iexact Hstate)
    (hQ := fun s held _ d =>
      ⟨(held d _ (mem_uc main_v1 (by decide))).trans (W3_arr m ρ d 2),
       (held d _ (mem_uc main_arg0 (by decide))).trans (W3_main_arg0 m ρ d),
       (held d _ (mem_uc main_arg1 (by decide))).trans (W3_main_arg1 m ρ d)⟩)

/-- The reference computes the same sums. -/
theorem reference_result (a : Vec Ideal S4096x4096 .bf16) (b : Vec Ideal S8x4096x2816 .bf16) :
    Cert.UpFwdRefIdeal.Read.val_main_v4 (F := Ideal) a b = result a b := by
  funext y
  rw [Cert.UpFwdRefIdeal.Read.val_main_v4_apply]
  refine same_sum _ _ fun p => congrArg₂ (· * ·) ?_ ?_
  · exact congrArg a (funext fun x => match x with | ⟨0, _⟩ => rfl | ⟨1, _⟩ => rfl)
  · rw [Cert.UpFwdRefIdeal.Read.val_main_v3_apply, Cert.UpFwdRefIdeal.Read.val_main_v2_apply]
    refine congrArg b (funext fun x => Fin.ext ?_)
    have h : (y 1).val < 22528 := (y 1).isLt
    match x with
    | ⟨0, _⟩ => show (p.val * 22528 + (y 1).val) / 2816 % 8 = (y 1).val / 2816; omega
    | ⟨1, _⟩ => show (p.val * 22528 + (y 1).val) / 22528 = p.val; omega
    | ⟨2, _⟩ => show (p.val * 22528 + (y 1).val) % 2816 = (y 1).val % 2816; omega

theorem agree : Cert.algebraic_UpFwdIdeal_UpFwdRefIdeal := by
  intro m g m' g' hp hm
  refine ⟨fun c => result (m ((c.tc : Thread nD τ).loc main_arg0)) (m ((c.tc : Thread nD τ).loc main_arg1)), ?_, ?_⟩
  · refine (θ_run defs _ _).mono (fun r h c => ?_) (run m g)
    exact ⟨(h c).1.trans (computed m g c), (h c).2⟩
  · refine (θ_run Cert.UpFwdRefIdeal.defs _ _).mono (fun r h c => ?_) (Cert.UpFwdRefIdeal.Value.run m' g')
    refine ⟨?_, (h c).2⟩
    obtain ⟨e0, e1⟩ := hm c
    rw [(h c).1, e0, e1]
    exact (Cert.UpFwdRefIdeal.Read.val_main_v4_eq (F := Ideal) _ _).trans (reference_result _ _)

end Cert.UpFwdIdeal
-- ==== Proof.Norm.lean ====
module

public import Idealize.ShloMosaic.Lib.Pointwise
public import Idealize.ShloMosaic.Lib.Pipeline.ValueKit

@[expose] public section

noncomputable section

/-! # The root-mean-square norm over the extended reals, and its gradient -/

namespace Cert.Norm

open Idealize.ShloMosaic

/-- The mean square of a row, with the small number added. -/
def square {K : ℕ} (n e : EReal) (x : Fin K → EReal) : EReal := Ideal.div (∑ p, x p * x p) n + e

/-- The scale of a row. -/
def scale {K : ℕ} (n e : EReal) (x : Fin K → EReal) : EReal := Ideal.rsqrt (square n e x)

/-- The gradient with respect to an entry of a row `x`, where `g` is the gradient of the normed row times the weight. -/
def slope {K : ℕ} (n e : EReal) (x g : Fin K → EReal) (k : Fin K) : EReal :=
  scale n e x * (g k - x k * scale n e x * Ideal.div (∑ p, g p * (x p * scale n e x)) n)

theorem same_sum {K : ℕ} (f g : Fin K → EReal) (h : ∀ k, f k = g k) : ∑ k, f k = ∑ k, g k := Finset.sum_congr rfl fun k _ => h k

/-- What is kept over the points of the grid, each adding its own part, is the sum of the parts so far. -/
theorem accumulate {M : ℕ} (f : (n : ℕ) → n < M → EReal) (P : ℕ → EReal) (h0 : ∀ h, f 0 h = P 0)
    (hs : ∀ n (h : n + 1 < M), f (n + 1) h = f n (Nat.lt_of_succ_lt h) + P (n + 1)) :
    ∀ n (h : n < M), f n h = ∑ q ∈ Finset.range (n + 1), P q := by
  intro n
  induction n with
  | zero => intro h; rw [h0, Finset.sum_range_one]
  | succ n ih => intro h; rw [hs n h, ih, Finset.sum_range_succ _ (n + 1)]

/-- The part of a sum over the rows that one block of 256 rows gives. -/
def part (F : Fin 4096 → EReal) (q : ℕ) : EReal := if h : q < 16 then ∑ r : Fin 256, F ⟨256 * q + r.val, by omega⟩ else 0

theorem parts (F : Fin 4096 → EReal) : ∑ q ∈ Finset.range 16, part F q = ∑ p, F p := by
  rw [Finset.sum_range]
  refine Eq.trans ?_ (Fin.sum_mul_add_fin 16 256 F (by decide))
  refine same_sum _ _ fun q => ?_
  rw [part, dif_pos q.isLt]
  refine same_sum _ _ fun r => congrArg F (Fin.ext ?_)
  show 256 * q.val + r.val = q.val * 256 + r.val
  omega

theorem self_mul_nonneg (a : EReal) : 0 ≤ a * a := by
  induction a with
  | bot => simp
  | top => simp
  | coe r => rw [← EReal.coe_mul]; exact EReal.coe_nonneg.mpr (mul_self_nonneg r)

theorem div_coe (a : EReal) (n : ℝ) (hn : 0 < n) : Ideal.div a (n : EReal) = a * ((n⁻¹ : ℝ) : EReal) := by
  have h : (n : EReal) ≠ 0 := by exact_mod_cast hn.ne'
  show (if (n : EReal) = 0 then _ else a * (n : EReal)⁻¹) = _
  rw [if_neg h, EReal.coe_inv]

/-- The scale of a row is a real number, and dividing it by the mean square gives its cube. -/
theorem scale_cube {K : ℕ} (n e : ℝ) (hn : 0 < n) (he : 0 < e) (x : Fin K → EReal) :
    ∃ s : ℝ, 0 ≤ s ∧ Ideal.rsqrt (square n e x) = (s : EReal)
      ∧ Ideal.div (Ideal.rsqrt (square n e x)) (square n e x) = ((s * s * s : ℝ) : EReal) := by
  have hpos : 0 < square (n : EReal) (e : EReal) x := by
    unfold square
    rw [div_coe _ n hn]
    refine lt_of_lt_of_le (EReal.coe_pos.mpr he) ?_
    refine le_add_of_nonneg_left (EReal.mul_nonneg (Finset.sum_nonneg fun p _ => self_mul_nonneg _) ?_)
    exact EReal.coe_nonneg.mpr (inv_nonneg.mpr hn.le)
  generalize square (n : EReal) (e : EReal) x = y at hpos
  induction y with
  | bot => exact absurd hpos (by simp)
  | top =>
    refine ⟨0, le_refl _, rfl, ?_⟩
    show (if (⊤ : EReal) = 0 then _ else (0 : EReal) * (⊤ : EReal)⁻¹) = _
    rw [if_neg (by simp)]
    simp
  | coe y =>
    have hy : 0 < y := EReal.coe_pos.mp hpos
    have hr : Ideal.rsqrt (y : EReal) = (((Real.sqrt y)⁻¹ : ℝ) : EReal) := by
      show (if y < 0 then (⊥ : EReal) else if y = 0 then ⊤ else (((Real.sqrt y)⁻¹ : ℝ) : EReal)) = _
      rw [if_neg hy.le.not_gt, if_neg hy.ne']
    refine ⟨(Real.sqrt y)⁻¹, inv_nonneg.mpr (Real.sqrt_nonneg y), hr, ?_⟩
    rw [hr, div_coe _ y hy, ← EReal.coe_mul]
    congr 1
    have hs : Real.sqrt y * Real.sqrt y = y := Real.mul_self_sqrt hy.le
    have hi : y⁻¹ = (Real.sqrt y)⁻¹ * (Real.sqrt y)⁻¹ := by rw [← mul_inv, hs]
    rw [hi, mul_assoc]

theorem sum_mul_coe {K : ℕ} (s : ℝ) (hs : 0 ≤ s) (f : Fin K → EReal) : ∑ p, f p * (s : EReal) = (∑ p, f p) * (s : EReal) := by
  have h : ∀ u : Finset (Fin K), ∑ p ∈ u, f p * (s : EReal) = (∑ p ∈ u, f p) * (s : EReal) := by
    intro u
    induction u using Finset.induction_on with
    | empty => simp
    | insert a u ha ih =>
      rw [Finset.sum_insert ha, Finset.sum_insert ha, ih, mul_comm _ (s : EReal), mul_comm _ (s : EReal), mul_comm _ (s : EReal),
        EReal.left_distrib_of_nonneg_of_ne_top (EReal.coe_nonneg.mpr hs) (EReal.coe_ne_top s)]
  exact h Finset.univ

theorem halves (b : EReal) : b * ((-(1 / 2) : ℝ) : EReal) + b * ((-(1 / 2) : ℝ) : EReal) = -b := by
  induction b with
  | bot => rw [EReal.bot_mul_coe_of_neg (by norm_num)]; rfl
  | top => rw [EReal.top_mul_coe_of_neg (by norm_num)]; rfl
  | coe r =>
    rw [← EReal.coe_mul, ← EReal.coe_add, ← EReal.coe_neg]
    congr 1
    ring

/-- The gradient of the norm with respect to one entry of a row: what differentiating the norm gives, term by term, is
    what the kernel computes. `x` is the row, `g` the gradient of the normed row times the weight. -/
theorem gradient {K : ℕ} (n e : ℝ) (hn : 0 < n) (he : 0 < e) (x g : Fin K → EReal) (k : Fin K) :
    let y := square n e x
    let r := Ideal.rsqrt y
    let t := Ideal.div ((∑ p, x p * g p) * (((-(1 / 2) : ℝ) : EReal) * Ideal.div r y)) (n : EReal)
    g k * r + x k * t + t * x k = r * (g k - x k * r * Ideal.div (∑ p, g p * (x p * r)) (n : EReal)) := by
  intro y r t
  obtain ⟨s, hs, h1, h2⟩ := scale_cube n e hn he x
  have e1 : r = (s : EReal) := h1
  have e2 : Ideal.div r y = ((s * s * s : ℝ) : EReal) := h2
  have e3 : ∑ p, g p * (x p * r) = (∑ p, x p * g p) * (s : EReal) := by
    rw [← sum_mul_coe s hs, e1]
    exact Finset.sum_congr rfl fun p _ => by rw [← mul_assoc, mul_comm (g p)]
  have e4 : t = (∑ p, x p * g p) * (((-(1 / 2) : ℝ) : EReal) * ((s * s * s : ℝ) : EReal)) * ((n⁻¹ : ℝ) : EReal) := by
    show Ideal.div ((∑ p, x p * g p) * (((-(1 / 2) : ℝ) : EReal) * Ideal.div r y)) (n : EReal) = _
    rw [e2, div_coe _ n hn]
  rw [e3, e4, e1, div_coe _ n hn, sub_eq_add_neg, EReal.left_distrib_of_nonneg_of_ne_top (EReal.coe_nonneg.mpr hs) (EReal.coe_ne_top s),
    mul_comm (g k), add_assoc, mul_neg]
  congr 1
  rw [← halves]
  simp only [EReal.coe_mul]
  generalize (∑ p, x p * g p) = S
  generalize ((-(1 / 2) : ℝ) : EReal) = h
  generalize ((n⁻¹ : ℝ) : EReal) = m
  generalize (s : EReal) = s
  generalize x k = z
  congr 1 <;> ac_rfl

/-- The same, with the program's constants. -/
theorem slope_of {K : ℕ} (n e h : EReal) (hn : ∃ v : ℝ, 0 < v ∧ n = (v : EReal)) (he : ∃ v : ℝ, 0 < v ∧ e = (v : EReal)) (hh : h = ((-(1 / 2) : ℝ) : EReal))
    (x g : Fin K → EReal) (k : Fin K) (t : EReal)
    (ht : t = Ideal.div ((∑ p, x p * g p) * (h * Ideal.div (scale n e x) (square n e x))) n) :
    g k * scale n e x + x k * t + t * x k = slope n e x g k := by
  obtain ⟨v, hv, rfl⟩ := hn
  obtain ⟨w, hw, rfl⟩ := he
  subst hh ht
  exact gradient v w hv hw x g k

/-- The constants of the program. -/
theorem width : Ideal.ofBits .f32 0x45800000#32 = ((4096 : ℝ) : EReal) := by
  simp [Ideal.ofBits, Ideal.ieee]
  rw [← EReal.coe_mul]
  norm_num

theorem half_width : Ideal.ofBits .f32 0x45000000#32 = ((2048 : ℝ) : EReal) := by
  simp [Ideal.ofBits, Ideal.ieee]
  rw [← EReal.coe_mul]
  norm_num

theorem minus_half : Ideal.ofBits .f32 0xBF000000#32 = ((-(1 / 2) : ℝ) : EReal) := by
  simp [Ideal.ofBits, Ideal.ieee]
  rw [← EReal.coe_mul]
  norm_num

theorem small : ∃ e : ℝ, 0 < e ∧ Ideal.ofBits .f32 0x358637BD#32 = (e : EReal) := by
  simp [Ideal.ofBits, Ideal.ieee]
  refine ⟨_, ?_, (EReal.coe_mul _ _).symm⟩
  norm_num

end Cert.Norm
-- ==== Proof.NormBwd.lean ====
module

public import proofs.«01_k».proof.Defs
public import proofs.«01_k».proof.Proof.Norm
public import proofs.«01_k».proof.Proof.Gen.NormBwdIdeal
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.NormBwdRefIdeal

open Idealize.ShloMosaic Idealize.ShloMosaic.TcCoe
open Idealize.SL.Sem

/-- The reference runs on the host alone: it leaves its arguments as they were, and it has no semaphores. -/
theorem frame_holds : Cert.quiescent_NormBwdRefIdeal := fun m g _ =>
  (θ_run _ _ _).mono (fun r h => ⟨fun c => (h c).2.2.2, sem_eq_zero_of_no_sems rfl r.2⟩) (Value.run m g)

end Cert.NormBwdRefIdeal

namespace Cert.NormBwdIdeal

open Idealize.ShloMosaic Idealize.ShloMosaic.TcCoe Idealize.ShloMosaic.Tactic
open Idealize.SL.Sem
open Cert.NormBwdIdeal.Gen
open Cert.Norm (scale slope part same_sum)

/-! ## The gradient of the norm before the feed-forward -/

variable (m : (ℓ : Loc nD τ sig) → Buf (Elt Ideal) ℓ) (c : Dev nD)

/-- The arguments on one device. -/
abbrev argDy : Vec Ideal S4096x4096 .f32 := m ((c.tc : Thread nD τ).loc main_arg0)
abbrev argX : Vec Ideal S4096x4096 .f32 := m ((c.tc : Thread nD τ).loc main_arg1)
abbrev argW : Vec Ideal S1x4096 .f32 := m ((c.tc : Thread nD τ).loc main_arg2)
abbrev argZ : Vec Ideal S4096x4096 .f32 := m ((c.tc : Thread nD τ).loc main_arg3)

/-- The width of a row, and the small number added to the mean square. -/
abbrev width : EReal := Ideal.ofBits .f32 0x45800000#32
abbrev small : EReal := Ideal.ofBits .f32 0x358637BD#32

/-- The scale of a row. -/
def rowScale (x : Vec Ideal S4096x4096 .f32) (u : Fin 4096) : EReal := scale width small fun p : Fin 4096 => x (ix2 u p)

/-- The gradient with respect to the input, entry by entry. -/
def dx (dy : Vec Ideal S4096x4096 .f32) (x : Vec Ideal S4096x4096 .f32) (w : Vec Ideal S1x4096 .f32) (z : Vec Ideal S4096x4096 .f32) : Vec Ideal S4096x4096 .f32 := fun y =>
  (slope width small (fun p : Fin 4096 => x (ix2 (y 0) p)) (fun p : Fin 4096 => dy (ix2 (y 0) p) * w (ix2 0 p)) (y 1) + z (ix2 (y 0) (y 1)) : EReal)

/-- The gradient with respect to the weight, entry by entry. -/
def dw (dy : Vec Ideal S4096x4096 .f32) (x : Vec Ideal S4096x4096 .f32) : Vec Ideal S1x4096 .f32 := fun y =>
  (∑ u : Fin 4096, dy (ix2 u (y 1)) * (x (ix2 u (y 1)) * rowScale x u) : EReal)

/-! ### The blocks of the grid's points -/

theorem place_0 : ∀ t : Fin cfg0.N, win0_0.index t = ![t.val, 0] :=
  (by decide +kernel : ∀ t : Fin grid0.N, win0_0.index t = ![t.val, 0])

theorem place_2 : ∀ t : Fin cfg0.N, win0_2.index t = ![0, 0] :=
  (by decide +kernel : ∀ t : Fin grid0.N, win0_2.index t = ![0, 0])

/-- An entry of a block of the first argument, or of an array laid out as it is, in its array. -/
theorem at_0 (t : Fin cfg0.N) (r : Fin 256) (s : Fin 4096) : (win0_0.blk t).view.emb (ix2 r s) = (ix2 ⟨256 * t.val + r.val, by have h : t.val < 16 := t.isLt; omega⟩ s : S4096x4096.Idx) := by
  refine funext fun a => Fin.ext ?_
  have e := place_0 t
  match a with
  | ⟨0, _⟩ => blk_simp; simp [e, ix2]; try omega
  | ⟨1, _⟩ => blk_simp; simp [e, ix2]; try omega

theorem block_0 (t : Fin cfg0.N) (r : Fin 256) (s : Fin 4096) :
    iblk m c 0 t (ix2 r s) = argDy m c (ix2 ⟨256 * t.val + r.val, by have h : t.val < 16 := t.isLt; omega⟩ s) :=
  congrArg (argDy m c) (at_0 t r s)

theorem block_1 (t : Fin cfg0.N) (r : Fin 256) (s : Fin 4096) :
    iblk m c 1 t (ix2 r s) = argX m c (ix2 ⟨256 * t.val + r.val, by have h : t.val < 16 := t.isLt; omega⟩ s) :=
  congrArg (argX m c) (at_0 t r s)

/-- An entry of a block of an array laid out as argument 2 is, in its array. -/
theorem at_2 (t : Fin cfg0.N) (s : Fin 4096) : (win0_2.blk t).view.emb (ix2 0 s) = (ix2 0 s : S1x4096.Idx) := by
  refine funext fun a => Fin.ext ?_
  have e := place_2 t
  match a with
  | ⟨0, _⟩ => blk_simp; simp [e, ix2]; try omega
  | ⟨1, _⟩ => blk_simp; simp [e, ix2]; try omega

theorem block_2 (t : Fin cfg0.N) (s : Fin 4096) :
    iblk m c 2 t (ix2 (0 : Fin 1) s) = argW m c (ix2 0 s) :=
  congrArg (argW m c) (at_2 t s)

theorem block_3 (t : Fin cfg0.N) (r : Fin 256) (s : Fin 4096) :
    iblk m c 3 t (ix2 r s) = argZ m c (ix2 ⟨256 * t.val + r.val, by have h : t.val < 16 := t.isLt; omega⟩ s) :=
  congrArg (argZ m c) (at_0 t r s)

/-! ### What one point computes, from a block `v0` of the input, `v1` of the incoming gradient, and the weight `v2` -/

theorem scale_entry (v0 : Vec Ideal S256x4096 .f32) (r : Fin 256) :
    k0_pay2 (F := Ideal) v0 (ix2 r 0) = scale width small fun p : Fin 4096 => v0 (ix2 r p) := by
  unfold k0_pay2
  pointwise
  rfl

theorem normed_entry (v0 : Vec Ideal S256x4096 .f32) (r : Fin 256) (s : Fin 4096) :
    k0_pay3 (F := Ideal) v0 (ix2 r s) = (v0 (ix2 r s) * scale width small fun p : Fin 4096 => v0 (ix2 r p) : EReal) := by
  unfold k0_pay3
  pointwise
  rw [scale_entry]

theorem dx_entry (v0 : Vec Ideal S256x4096 .f32) (v1 : Vec Ideal S256x4096 .f32) (v2 : Vec Ideal S1x4096 .f32) (v3 : Vec Ideal S256x4096 .f32) (r : Fin 256) (s : Fin 4096) :
    k0_pay4 (F := Ideal) v0 v1 v2 v3 (ix2 r s) = (slope width small (fun p : Fin 4096 => v0 (ix2 r p)) (fun p : Fin 4096 => v1 (ix2 r p) * v2 (ix2 0 p)) s + v3 (ix2 r s) : EReal) := by
  unfold k0_pay4
  pointwise
  simp only [scale_entry, normed_entry]
  rfl

theorem dx_of (v0 : Vec Ideal S256x4096 .f32) (v1 : Vec Ideal S256x4096 .f32) (v2 : Vec Ideal S1x4096 .f32) (v3 : Vec Ideal S256x4096 .f32) (r : Fin 256) (s : Fin 4096) (a g : Fin 4096 → EReal) (h1 : ∀ p, v0 (ix2 r p) = a p) (h0 : ∀ p, (v1 (ix2 r p) * v2 (ix2 0 p) : EReal) = g p) :
    k0_pay4 (F := Ideal) v0 v1 v2 v3 (ix2 r s) = (slope width small a g s + v3 (ix2 r s) : EReal) := by
  rw [dx_entry, funext h1, funext h0]

theorem rounded_entry (v0 : Vec Ideal S256x4096 .f32) (v1 : Vec Ideal S256x4096 .f32) (v2 : Vec Ideal S1x4096 .f32) (v3 : Vec Ideal S256x4096 .f32) (r : Fin 256) (s : Fin 4096) :
    k0_pay5 (F := Ideal) v0 v1 v2 v3 (ix2 r s) = k0_pay4 (F := Ideal) v0 v1 v2 v3 (ix2 r s) := by
  unfold k0_pay5
  pointwise

theorem dw_entry (v0 : Vec Ideal S256x4096 .f32) (v1 : Vec Ideal S256x4096 .f32) (s : Fin 4096) :
    k0_pay6 (F := Ideal) v0 v1 (ix2 0 s) = (∑ r : Fin 256, v1 (ix2 r s) * (v0 (ix2 r s) * scale width small fun p : Fin 4096 => v0 (ix2 r p)) : EReal) := by
  unfold k0_pay6
  pointwise
  simp only [normed_entry]

theorem later_entry (v0 : Vec Ideal S256x4096 .f32) (v1 : Vec Ideal S256x4096 .f32) (v : Vec Ideal S1x4096 .f32) (y : S1x4096.Idx) :
    k0_pay1 (F := Ideal) (k0_pay6 (F := Ideal) v0 v1) v y = (v y + k0_pay6 (F := Ideal) v0 v1 y : EReal) := by
  unfold k0_pay1
  exact congrArg (· + k0_pay6 (F := Ideal) v0 v1 y) (shapeCast_apply v _ y y rfl)

/-! ### What the points leave -/

theorem dx_first (t : Fin cfg0.N) (h0 : t.val % 16 = 0) (h1 : ¬1 ≤ t.val) : (outsAt0 m c t.val t.isLt).1 = k0_pay4 (F := Ideal) (iblk m c 1 t) (iblk m c 0 t) (iblk m c 2 t) (iblk m c 3 t) := by
  rw [outsAt0_A m c t h0 h1]
  frame_out
  all_goals rfl

theorem rounded_first (t : Fin cfg0.N) (h0 : t.val % 16 = 0) (h1 : ¬1 ≤ t.val) : (outsAt0 m c t.val t.isLt).2.1 = k0_pay5 (F := Ideal) (iblk m c 1 t) (iblk m c 0 t) (iblk m c 2 t) (iblk m c 3 t) := by
  rw [outsAt0_A m c t h0 h1]
  frame_out
  all_goals rfl

theorem dw_first (t : Fin cfg0.N) (h0 : t.val % 16 = 0) (h1 : ¬1 ≤ t.val) : (outsAt0 m c t.val t.isLt).2.2 = k0_pay6 (F := Ideal) (iblk m c 1 t) (iblk m c 0 t) := by
  rw [outsAt0_A m c t h0 h1]
  frame_out
  all_goals rfl

theorem dx_later (t : Fin cfg0.N) (h0 : ¬t.val % 16 = 0) (h1 : 1 ≤ t.val) : (outsAt0 m c t.val t.isLt).1 = k0_pay4 (F := Ideal) (iblk m c 1 t) (iblk m c 0 t) (iblk m c 2 t) (iblk m c 3 t) := by
  rw [outsAt0_B m c t h0 h1]
  frame_out
  all_goals rfl

theorem rounded_later (t : Fin cfg0.N) (h0 : ¬t.val % 16 = 0) (h1 : 1 ≤ t.val) : (outsAt0 m c t.val t.isLt).2.1 = k0_pay5 (F := Ideal) (iblk m c 1 t) (iblk m c 0 t) (iblk m c 2 t) (iblk m c 3 t) := by
  rw [outsAt0_B m c t h0 h1]
  frame_out
  all_goals rfl

theorem dw_later (t : Fin cfg0.N) (h0 : ¬t.val % 16 = 0) (h1 : 1 ≤ t.val) : (outsAt0 m c t.val t.isLt).2.2 = k0_pay1 (F := Ideal) (k0_pay6 (F := Ideal) (iblk m c 1 t) (iblk m c 0 t)) (outsAt0 m c (t.val - 1) (Nat.lt_of_le_of_lt (Nat.sub_le _ _) t.isLt)).2.2 := by
  rw [outsAt0_B m c t h0 h1]
  frame_out
  all_goals rfl

theorem dx_at (t : Fin cfg0.N) : (outsAt0 m c t.val t.isLt).1 = k0_pay4 (F := Ideal) (iblk m c 1 t) (iblk m c 0 t) (iblk m c 2 t) (iblk m c 3 t) := by
  have h : cfg0.N = 16 := rfl
  rcases Nat.eq_zero_or_pos t.val with h0 | h0
  · exact dx_first m c t (by omega) (by omega)
  · exact dx_later m c t (by omega) (by omega)

theorem rounded_at (t : Fin cfg0.N) : (outsAt0 m c t.val t.isLt).2.1 = k0_pay5 (F := Ideal) (iblk m c 1 t) (iblk m c 0 t) (iblk m c 2 t) (iblk m c 3 t) := by
  have h : cfg0.N = 16 := rfl
  rcases Nat.eq_zero_or_pos t.val with h0 | h0
  · exact rounded_first m c t (by omega) (by omega)
  · exact rounded_later m c t (by omega) (by omega)

/-- One term of the weight's gradient: what row `u` adds to column `s`. -/
def term (dy : Vec Ideal S4096x4096 .f32) (x : Vec Ideal S4096x4096 .f32) (s : Fin 4096) (u : Fin 4096) : EReal := dy (ix2 u s) * (x (ix2 u s) * rowScale x u)

/-- The rows of one point's block. -/
theorem part_at (t : Fin 16) (s : Fin 4096) :
    k0_pay6 (F := Ideal) (iblk m c 1 (t : Fin cfg0.N)) (iblk m c 0 (t : Fin cfg0.N)) (ix2 0 s) = part (term (argDy m c) (argX m c) s) t.val := by
  rw [dw_entry, part, dif_pos t.isLt]
  refine same_sum _ _ fun r => ?_
  have e : (fun p : Fin 4096 => iblk m c 1 (t : Fin cfg0.N) (ix2 r p)) = fun p : Fin 4096 => argX m c (ix2 ⟨256 * t.val + r.val, by omega⟩ p) := funext fun p => block_1 m c t r p
  unfold term rowScale
  rw [← e]
  exact congrArg₂ (· * ·) (block_0 m c t r s) (congrArg (· * _) (block_1 m c t r s))

theorem dw_at (s : Fin 4096) (n : ℕ) (h : n < cfg0.N) :
    ((outsAt0 m c n h).2.2 (ix2 0 s) : EReal) = ∑ q ∈ Finset.range (n + 1), part (term (argDy m c) (argX m c) s) q := by
  refine Cert.Norm.accumulate (M := cfg0.N) (fun n h => ((outsAt0 m c n h).2.2 (ix2 0 s) : EReal)) _ (fun h => ?_) (fun n h => ?_) n h
  · show (outsAt0 m c (⟨0, h⟩ : Fin cfg0.N).val (⟨0, h⟩ : Fin cfg0.N).isLt).2.2 (ix2 0 s) = _
    rw [dw_first m c ⟨0, h⟩ rfl (by show ¬1 ≤ 0; decide)]
    exact part_at m c 0 s
  · have hN : n + 1 < 16 := h
    show (outsAt0 m c (⟨n + 1, h⟩ : Fin cfg0.N).val (⟨n + 1, h⟩ : Fin cfg0.N).isLt).2.2 (ix2 0 s) = _
    rw [dw_later m c ⟨n + 1, h⟩ (by show ¬(n + 1) % 16 = 0; omega) (by show 1 ≤ n + 1; omega)]
    exact (later_entry _ _ _ _).trans (congrArg₂ (· + ·) rfl (part_at m c ⟨n + 1, hN⟩ s))

/-! ### The arrays the kernel leaves -/

theorem computed_dx : (dats m 0 c).arrAt 4 cfg0.N = dx (argDy m c) (argX m c) (argW m c) (argZ m c) := by
  refine (dats m 0 c).arrAt_eq_of_covers 4 _ (by decide +kernel) fun t hf y => ?_
  blk_simp
  rw [after0_4, dx_at m c t]
  obtain ⟨r, s, rfl⟩ : ∃ (r : Fin 256) (s : Fin 4096), y = ix2 r s := ⟨y 0, y 1, funext fun a => match a with | ⟨0, _⟩ => rfl | ⟨1, _⟩ => rfl⟩
  have ht : t.val < 16 := t.isLt
  refine Eq.trans ?_ (congrArg _ (at_0 t r s)).symm
  refine (dx_of _ _ _ _ r s _ _ (fun p => block_1 m c t r p) (fun p => congrArg₂ (· * ·) (block_0 m c t r p) (block_2 m c t p))).trans ?_
  exact congrArg (_ + ·) (block_3 m c t r s)

theorem computed_rounded : (dats m 0 c).arrAt 5 cfg0.N = dx (argDy m c) (argX m c) (argW m c) (argZ m c) := by
  refine (dats m 0 c).arrAt_eq_of_covers 5 _ (by decide +kernel) fun t hf y => ?_
  blk_simp
  rw [after0_5, rounded_at m c t]
  obtain ⟨r, s, rfl⟩ : ∃ (r : Fin 256) (s : Fin 4096), y = ix2 r s := ⟨y 0, y 1, funext fun a => match a with | ⟨0, _⟩ => rfl | ⟨1, _⟩ => rfl⟩
  have ht : t.val < 16 := t.isLt
  refine Eq.trans ?_ (congrArg _ (at_0 t r s)).symm
  refine ((rounded_entry _ _ _ _ r s).trans <| dx_of _ _ _ _ r s _ _ (fun p => block_1 m c t r p) (fun p => congrArg₂ (· * ·) (block_0 m c t r p) (block_2 m c t p))).trans ?_
  exact congrArg (_ + ·) (block_3 m c t r s)

theorem computed_dw : (dats m 0 c).arrAt 6 cfg0.N = dw (argDy m c) (argX m c) := by
  refine (dats m 0 c).arrAt_eq_of_covers 6 _ (by decide +kernel) fun t hf y => ?_
  blk_simp
  rw [after0_6]
  obtain ⟨s, rfl⟩ : ∃ (s : Fin 4096), y = ix2 0 s := ⟨y 1, funext fun a => match a with | ⟨0, _⟩ => Subsingleton.elim (α := Fin 1) _ _ | ⟨1, _⟩ => rfl⟩
  have ht : t.val < 16 := t.isLt
  have hk : t.val % 16 = 15 := (flush0_6 _).mp hf
  refine Eq.trans ?_ (congrArg _ (at_2 t s)).symm
  refine (dw_at m c s t.val t.isLt).trans ?_
  obtain hv : t.val + 1 = 16 := by omega
  rw [hv]
  exact Cert.Norm.parts _

/-! ### The reference -/

/-- The half of minus one that the differentiated norm multiplies by. -/
abbrev minusHalf : EReal := Ideal.ofBits .f32 0xBF000000#32

theorem reference_square (x : Vec Ideal S4096x4096 .f32) (u : Fin 4096) :
    Cert.NormBwdRefIdeal.Read.val_main_v7 (F := Ideal) x (ix2 u 0) = Cert.Norm.square width small fun p : Fin 4096 => x (ix2 u p) := by
  rw [Cert.NormBwdRefIdeal.Read.val_main_v7_apply, Cert.NormBwdRefIdeal.Read.val_main_v5_apply, Cert.NormBwdRefIdeal.Read.val_main_v3_apply, Cert.NormBwdRefIdeal.Read.val_main_v2_apply, Cert.NormBwdRefIdeal.Read.val_main_v4_apply, Cert.NormBwdRefIdeal.Read.val_main_v6_apply]
  refine congrArg (fun a => (Ideal.div a width + small : EReal)) ?_
  refine (congrArg₂ (· + ·) Ideal.ofBits_zero_f32 (same_sum _ (fun p : Fin 4096 => (x (ix2 u p) * x (ix2 u p) : EReal)) fun p => ?_)).trans (zero_add _)
  rw [Cert.NormBwdRefIdeal.Read.val_main_v1_apply]
  exact congrArg (fun i => (x i * x i : EReal)) (funext fun a => match a with | ⟨0, _⟩ => rfl | ⟨1, _⟩ => rfl)

theorem reference_scale (x : Vec Ideal S4096x4096 .f32) (u : Fin 4096) :
    Cert.NormBwdRefIdeal.Read.val_main_v8 (F := Ideal) x (ix2 u 0) = rowScale x u := by
  rw [Cert.NormBwdRefIdeal.Read.val_main_v8_apply, reference_square]
  rfl

theorem reference_incoming (dy : Vec Ideal S4096x4096 .f32) (w : Vec Ideal S1x4096 .f32) (u : Fin 4096) (k : Fin 4096) :
    Cert.NormBwdRefIdeal.Read.val_main_v21 (F := Ideal) dy w (ix2 u k) = (dy (ix2 u k) * w (ix2 0 k) : EReal) := by
  rw [Cert.NormBwdRefIdeal.Read.val_main_v21_apply, Cert.NormBwdRefIdeal.Read.val_main_v20_apply, Cert.NormBwdRefIdeal.Read.val_main_v14_apply, Cert.NormBwdRefIdeal.Read.val_main_v0_apply]
  refine congrArg₂ (· * ·) rfl (congrArg w (funext fun a => Fin.ext ?_))
  match a with
  | ⟨0, _⟩ => rfl
  | ⟨1, _⟩ => show k.val % 4096 = k.val; omega

theorem reference_mean (dy : Vec Ideal S4096x4096 .f32) (x : Vec Ideal S4096x4096 .f32) (w : Vec Ideal S1x4096 .f32) (u : Fin 4096) (k : Fin 4096) :
    Cert.NormBwdRefIdeal.Read.val_main_v32 (F := Ideal) dy x w (ix2 u k) = Ideal.div ((∑ p : Fin 4096, x (ix2 u p) * (dy (ix2 u p) * w (ix2 0 p))) * (minusHalf * Ideal.div (rowScale x u) (Cert.Norm.square width small fun p : Fin 4096 => x (ix2 u p)))) width := by
  rw [Cert.NormBwdRefIdeal.Read.val_main_v32_apply, Cert.NormBwdRefIdeal.Read.val_main_v31_apply, Fin.sum_univ_one]
  refine (congrArg₂ (· + ·) Ideal.ofBits_zero_f32 ?_).trans (zero_add _)
  have i : Cert.NormBwdRefIdeal.Read.idx_main_v31 (Cert.NormBwdRefIdeal.Read.idx_main_v32 (ix2 u k)) 0 = ix2 u 0 := funext fun a => match a with | ⟨0, _⟩ => rfl | ⟨1, _⟩ => rfl
  rw [i, Cert.NormBwdRefIdeal.Read.val_main_v30_apply, Cert.NormBwdRefIdeal.Read.val_main_v28_apply, Cert.NormBwdRefIdeal.Read.val_main_v11_apply, Cert.NormBwdRefIdeal.Read.val_main_v10_apply, Cert.NormBwdRefIdeal.Read.val_main_v9_apply, reference_scale, reference_square, Cert.NormBwdRefIdeal.Read.val_main_v25_apply, Cert.NormBwdRefIdeal.Read.val_main_v24_apply]
  refine congrArg (fun a => Ideal.div (a * (minusHalf * Ideal.div (rowScale x u) (Cert.Norm.square width small fun p : Fin 4096 => x (ix2 u p)))) width) ?_
  refine (congrArg₂ (· + ·) Ideal.ofBits_zero_f32 (same_sum _ (fun p : Fin 4096 => (x (ix2 u p) * (dy (ix2 u p) * w (ix2 0 p)) : EReal)) fun p => ?_)).trans (zero_add _)
  have j : Cert.NormBwdRefIdeal.Read.idx_main_v24 (Cert.NormBwdRefIdeal.Read.idx_main_v25 (ix2 u 0)) p = ix2 u p := funext fun a => Fin.ext (by
    match a with
    | ⟨0, _⟩ => show u.val * 1 + 0 = u.val; omega
    | ⟨1, _⟩ => rfl)
  rw [j, Cert.NormBwdRefIdeal.Read.val_main_v23_apply, reference_incoming]
  rfl

theorem reference_slope (dy : Vec Ideal S4096x4096 .f32) (x : Vec Ideal S4096x4096 .f32) (w : Vec Ideal S1x4096 .f32) (u : Fin 4096) (k : Fin 4096) :
    Cert.NormBwdRefIdeal.Read.val_main_v36 (F := Ideal) dy x w (ix2 u k) = slope width small (fun p : Fin 4096 => x (ix2 u p)) (fun p : Fin 4096 => dy (ix2 u p) * w (ix2 0 p)) k := by
  have i : Cert.NormBwdRefIdeal.Read.idx_main_v26 (ix2 u k) = ix2 u 0 := funext fun a => match a with | ⟨0, _⟩ => rfl | ⟨1, _⟩ => rfl
  rw [Cert.NormBwdRefIdeal.Read.val_main_v36_apply, Cert.NormBwdRefIdeal.Read.val_main_v34_apply, Cert.NormBwdRefIdeal.Read.val_main_v27_apply, Cert.NormBwdRefIdeal.Read.val_main_v26_apply, Cert.NormBwdRefIdeal.Read.val_main_v33_apply, Cert.NormBwdRefIdeal.Read.val_main_v35_apply, i, reference_scale, reference_incoming]
  exact Cert.Norm.slope_of width small minusHalf ⟨4096, by norm_num, Cert.Norm.width⟩ Cert.Norm.small Cert.Norm.minus_half
    (fun p : Fin 4096 => x (ix2 u p)) (fun p : Fin 4096 => (dy (ix2 u p) * w (ix2 0 p) : EReal)) k _ (reference_mean dy x w u k)

theorem reference_dx (dy : Vec Ideal S4096x4096 .f32) (x : Vec Ideal S4096x4096 .f32) (w : Vec Ideal S1x4096 .f32) (z : Vec Ideal S4096x4096 .f32) : Cert.NormBwdRefIdeal.Read.val_main_v37 (F := Ideal) dy x w z = dx dy x w z := by
  funext y
  obtain ⟨u, k, rfl⟩ : ∃ (u : Fin 4096) (k : Fin 4096), y = ix2 u k := ⟨y 0, y 1, funext fun a => match a with | ⟨0, _⟩ => rfl | ⟨1, _⟩ => rfl⟩
  rw [Cert.NormBwdRefIdeal.Read.val_main_v37_apply]
  exact congrArg (fun a => (a + z (ix2 u k) : EReal)) (reference_slope dy x w u k)

theorem reference_rounded (dy : Vec Ideal S4096x4096 .f32) (x : Vec Ideal S4096x4096 .f32) (w : Vec Ideal S1x4096 .f32) (z : Vec Ideal S4096x4096 .f32) : Cert.NormBwdRefIdeal.Read.val_main_v39 (F := Ideal) dy x w z = dx dy x w z := by
  funext y
  obtain ⟨u, k, rfl⟩ : ∃ (u : Fin 4096) (k : Fin 4096), y = ix2 u k := ⟨y 0, y 1, funext fun a => match a with | ⟨0, _⟩ => rfl | ⟨1, _⟩ => rfl⟩
  rw [Cert.NormBwdRefIdeal.Read.val_main_v39_apply, Cert.NormBwdRefIdeal.Read.val_main_v38_apply]
  exact congrArg (fun a => (a + z (ix2 u k) : EReal)) (reference_slope dy x w u k)

theorem reference_dw (dy : Vec Ideal S4096x4096 .f32) (x : Vec Ideal S4096x4096 .f32) : Cert.NormBwdRefIdeal.Read.val_main_v40 (F := Ideal) dy x = dw dy x := by
  funext y
  obtain ⟨s, rfl⟩ : ∃ (s : Fin 4096), y = ix2 0 s := ⟨y 1, funext fun a => match a with | ⟨0, _⟩ => Subsingleton.elim (α := Fin 1) _ _ | ⟨1, _⟩ => rfl⟩
  rw [Cert.NormBwdRefIdeal.Read.val_main_v40_apply, Cert.NormBwdRefIdeal.Read.val_main_v22_apply, Fin.sum_univ_one, Cert.NormBwdRefIdeal.Read.val_main_v19_apply, Cert.NormBwdRefIdeal.Read.val_main_v18_apply]
  refine (congrArg₂ (· + ·) Ideal.ofBits_zero_f32 ?_).trans (zero_add _)
  refine (congrArg₂ (· + ·) Ideal.ofBits_zero_f32 (same_sum _ (term dy x s) fun u => ?_)).trans (zero_add _)
  have j : Cert.NormBwdRefIdeal.Read.idx_main_v18 (Cert.NormBwdRefIdeal.Read.idx_main_v19 (Cert.NormBwdRefIdeal.Read.idx_main_v22 (Cert.NormBwdRefIdeal.Read.idx_main_v40 (ix2 0 s)) 0)) u = ix2 u s := funext fun a => Fin.ext (by
    match a with
    | ⟨0, _⟩ => rfl
    | ⟨1, _⟩ => show 0 * 4096 + s.val = s.val; omega)
  have i : Cert.NormBwdRefIdeal.Read.idx_main_v12 (ix2 u s) = ix2 u 0 := funext fun a => match a with | ⟨0, _⟩ => rfl | ⟨1, _⟩ => rfl
  rw [j, Cert.NormBwdRefIdeal.Read.val_main_v17_apply, Cert.NormBwdRefIdeal.Read.val_main_v13_apply, Cert.NormBwdRefIdeal.Read.val_main_v12_apply, i, reference_scale]
  exact mul_comm _ _

theorem agree : Cert.algebraic_NormBwdIdeal_NormBwdRefIdeal := by
  intro m g m' g' hp hm
  refine ⟨fun c => dx (argDy m c) (argX m c) (argW m c) (argZ m c), fun c => dx (argDy m c) (argX m c) (argW m c) (argZ m c), fun c => dw (argDy m c) (argX m c), ?_, ?_⟩
  · refine (θ_run defs _ _).mono (fun r h c => ?_) (Value.run_blocks m g)
    exact ⟨(h c).1.trans (computed_dx m c), (h c).2.1.trans (computed_rounded m c), (h c).2.2.1.trans (computed_dw m c), (h c).2.2.2⟩
  · refine (θ_run Cert.NormBwdRefIdeal.defs _ _).mono (fun r h c => ?_) (Cert.NormBwdRefIdeal.Value.run m' g')
    obtain ⟨e0, e1, e2, e3⟩ := hm c
    refine ⟨?_, ?_, ?_, (h c).2.2.2⟩
    · rw [(h c).1, Cert.NormBwdRefIdeal.Read.val_main_v37_eq, e0, e1, e2, e3]
      exact reference_dx _ _ _ _
    · rw [(h c).2.1, Cert.NormBwdRefIdeal.Read.val_main_v39_eq, e0, e1, e2, e3]
      exact reference_rounded _ _ _ _
    · rw [(h c).2.2.1, e0, e1]
      exact (Cert.NormBwdRefIdeal.Read.val_main_v40_eq (F := Ideal) _ _).trans (reference_dw _ _)

end Cert.NormBwdIdeal
-- ==== Proof.InNormBwd.lean ====
module

public import proofs.«01_k».proof.Defs
public import proofs.«01_k».proof.Proof.Norm
public import proofs.«01_k».proof.Proof.Gen.InNormBwdIdeal
public import proofs.«01_k».proof.Proof.Gen.InNormBwdIdeal.Value
public import proofs.«01_k».proof.Proof.Gen.InNormBwdRefIdeal
public import proofs.«01_k».proof.Proof.Gen.InNormBwdRefIdeal.Run
public import proofs.«01_k».proof.Proof.Gen.InNormBwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.InNormBwdRefIdeal

open Idealize.ShloMosaic Idealize.ShloMosaic.TcCoe
open Idealize.SL.Sem

/-- The reference runs on the host alone: it leaves its arguments as they were, and it has no semaphores. -/
theorem frame_holds : Cert.quiescent_InNormBwdRefIdeal := fun m g _ =>
  (θ_run _ _ _).mono (fun r h => ⟨fun c => (h c).2.2, sem_eq_zero_of_no_sems rfl r.2⟩) (Value.run m g)

end Cert.InNormBwdRefIdeal

namespace Cert.InNormBwdIdeal

open Idealize.ShloMosaic Idealize.ShloMosaic.TcCoe Idealize.ShloMosaic.Tactic
open Idealize.SL.Sem
open Cert.InNormBwdIdeal.Gen
open Cert.Norm (scale slope part same_sum)

/-! ## The gradient of the norm before the mixers -/

variable (m : (ℓ : Loc nD τ sig) → Buf (Elt Ideal) ℓ) (c : Dev nD)

/-- The arguments on one device. -/
abbrev argDy : Vec Ideal S4096x4096 .f32 := m ((c.tc : Thread nD τ).loc main_arg0)
abbrev argX : Vec Ideal S4096x4096 .f32 := m ((c.tc : Thread nD τ).loc main_arg1)
abbrev argW : Vec Ideal S1x4096 .f32 := m ((c.tc : Thread nD τ).loc main_arg2)
abbrev argZ : Vec Ideal S4096x4096 .f32 := m ((c.tc : Thread nD τ).loc main_arg3)

/-- The width of a row, and the small number added to the mean square. -/
abbrev width : EReal := Ideal.ofBits .f32 0x45800000#32
abbrev small : EReal := Ideal.ofBits .f32 0x358637BD#32

/-- The scale of a row. -/
def rowScale (x : Vec Ideal S4096x4096 .f32) (u : Fin 4096) : EReal := scale width small fun p : Fin 4096 => x (ix2 u p)

/-- The gradient with respect to the input, entry by entry. -/
def dx (dy : Vec Ideal S4096x4096 .f32) (x : Vec Ideal S4096x4096 .f32) (w : Vec Ideal S1x4096 .f32) (z : Vec Ideal S4096x4096 .f32) : Vec Ideal S4096x4096 .f32 := fun y =>
  (slope width small (fun p : Fin 4096 => x (ix2 (y 0) p)) (fun p : Fin 4096 => dy (ix2 (y 0) p) * w (ix2 0 p)) (y 1) + z (ix2 (y 0) (y 1)) : EReal)

/-- The gradient with respect to the weight, entry by entry. -/
def dw (dy : Vec Ideal S4096x4096 .f32) (x : Vec Ideal S4096x4096 .f32) : Vec Ideal S1x4096 .f32 := fun y =>
  (∑ u : Fin 4096, dy (ix2 u (y 1)) * (x (ix2 u (y 1)) * rowScale x u) : EReal)

/-! ### The blocks of the grid's points -/

theorem place_0 : ∀ t : Fin cfg0.N, win0_0.index t = ![t.val, 0] :=
  (by decide +kernel : ∀ t : Fin grid0.N, win0_0.index t = ![t.val, 0])

theorem place_2 : ∀ t : Fin cfg0.N, win0_2.index t = ![0, 0] :=
  (by decide +kernel : ∀ t : Fin grid0.N, win0_2.index t = ![0, 0])

/-- An entry of a block of the first argument, or of an array laid out as it is, in its array. -/
theorem at_0 (t : Fin cfg0.N) (r : Fin 256) (s : Fin 4096) : (win0_0.blk t).view.emb (ix2 r s) = (ix2 ⟨256 * t.val + r.val, by have h : t.val < 16 := t.isLt; omega⟩ s : S4096x4096.Idx) := by
  refine funext fun a => Fin.ext ?_
  have e := place_0 t
  match a with
  | ⟨0, _⟩ => blk_simp; simp [e, ix2]; try omega
  | ⟨1, _⟩ => blk_simp; simp [e, ix2]; try omega

theorem block_0 (t : Fin cfg0.N) (r : Fin 256) (s : Fin 4096) :
    iblk m c 0 t (ix2 r s) = argDy m c (ix2 ⟨256 * t.val + r.val, by have h : t.val < 16 := t.isLt; omega⟩ s) :=
  congrArg (argDy m c) (at_0 t r s)

theorem block_1 (t : Fin cfg0.N) (r : Fin 256) (s : Fin 4096) :
    iblk m c 1 t (ix2 r s) = argX m c (ix2 ⟨256 * t.val + r.val, by have h : t.val < 16 := t.isLt; omega⟩ s) :=
  congrArg (argX m c) (at_0 t r s)

/-- An entry of a block of an array laid out as argument 2 is, in its array. -/
theorem at_2 (t : Fin cfg0.N) (s : Fin 4096) : (win0_2.blk t).view.emb (ix2 0 s) = (ix2 0 s : S1x4096.Idx) := by
  refine funext fun a => Fin.ext ?_
  have e := place_2 t
  match a with
  | ⟨0, _⟩ => blk_simp; simp [e, ix2]; try omega
  | ⟨1, _⟩ => blk_simp; simp [e, ix2]; try omega

theorem block_2 (t : Fin cfg0.N) (s : Fin 4096) :
    iblk m c 2 t (ix2 (0 : Fin 1) s) = argW m c (ix2 0 s) :=
  congrArg (argW m c) (at_2 t s)

theorem block_3 (t : Fin cfg0.N) (r : Fin 256) (s : Fin 4096) :
    iblk m c 3 t (ix2 r s) = argZ m c (ix2 ⟨256 * t.val + r.val, by have h : t.val < 16 := t.isLt; omega⟩ s) :=
  congrArg (argZ m c) (at_0 t r s)

/-! ### What one point computes, from a block `v0` of the input, `v1` of the incoming gradient, and the weight `v2` -/

theorem scale_entry (v0 : Vec Ideal S256x4096 .f32) (r : Fin 256) :
    k0_pay2 (F := Ideal) v0 (ix2 r 0) = scale width small fun p : Fin 4096 => v0 (ix2 r p) := by
  unfold k0_pay2
  pointwise
  rfl

theorem normed_entry (v0 : Vec Ideal S256x4096 .f32) (r : Fin 256) (s : Fin 4096) :
    k0_pay3 (F := Ideal) v0 (ix2 r s) = (v0 (ix2 r s) * scale width small fun p : Fin 4096 => v0 (ix2 r p) : EReal) := by
  unfold k0_pay3
  pointwise
  rw [scale_entry]

theorem dx_entry (v0 : Vec Ideal S256x4096 .f32) (v1 : Vec Ideal S256x4096 .f32) (v2 : Vec Ideal S1x4096 .f32) (v3 : Vec Ideal S256x4096 .f32) (r : Fin 256) (s : Fin 4096) :
    k0_pay4 (F := Ideal) v0 v1 v2 v3 (ix2 r s) = (slope width small (fun p : Fin 4096 => v0 (ix2 r p)) (fun p : Fin 4096 => v1 (ix2 r p) * v2 (ix2 0 p)) s + v3 (ix2 r s) : EReal) := by
  unfold k0_pay4
  pointwise
  simp only [scale_entry, normed_entry]
  rfl

theorem dx_of (v0 : Vec Ideal S256x4096 .f32) (v1 : Vec Ideal S256x4096 .f32) (v2 : Vec Ideal S1x4096 .f32) (v3 : Vec Ideal S256x4096 .f32) (r : Fin 256) (s : Fin 4096) (a g : Fin 4096 → EReal) (h1 : ∀ p, v0 (ix2 r p) = a p) (h0 : ∀ p, (v1 (ix2 r p) * v2 (ix2 0 p) : EReal) = g p) :
    k0_pay4 (F := Ideal) v0 v1 v2 v3 (ix2 r s) = (slope width small a g s + v3 (ix2 r s) : EReal) := by
  rw [dx_entry, funext h1, funext h0]

theorem dw_entry (v0 : Vec Ideal S256x4096 .f32) (v1 : Vec Ideal S256x4096 .f32) (s : Fin 4096) :
    k0_pay5 (F := Ideal) v0 v1 (ix2 0 s) = (∑ r : Fin 256, v1 (ix2 r s) * (v0 (ix2 r s) * scale width small fun p : Fin 4096 => v0 (ix2 r p)) : EReal) := by
  unfold k0_pay5
  pointwise
  simp only [normed_entry]

theorem later_entry (v0 : Vec Ideal S256x4096 .f32) (v1 : Vec Ideal S256x4096 .f32) (v : Vec Ideal S1x4096 .f32) (y : S1x4096.Idx) :
    k0_pay1 (F := Ideal) (k0_pay5 (F := Ideal) v0 v1) v y = (v y + k0_pay5 (F := Ideal) v0 v1 y : EReal) := by
  unfold k0_pay1
  exact congrArg (· + k0_pay5 (F := Ideal) v0 v1 y) (shapeCast_apply v _ y y rfl)

/-! ### What the points leave -/

theorem dx_first (t : Fin cfg0.N) (h0 : t.val % 16 = 0) (h1 : ¬1 ≤ t.val) : (outsAt0 m c t.val t.isLt).1 = k0_pay4 (F := Ideal) (iblk m c 1 t) (iblk m c 0 t) (iblk m c 2 t) (iblk m c 3 t) := by
  rw [outsAt0_A m c t h0 h1]
  frame_out
  all_goals rfl

theorem dw_first (t : Fin cfg0.N) (h0 : t.val % 16 = 0) (h1 : ¬1 ≤ t.val) : (outsAt0 m c t.val t.isLt).2 = k0_pay5 (F := Ideal) (iblk m c 1 t) (iblk m c 0 t) := by
  rw [outsAt0_A m c t h0 h1]
  frame_out
  all_goals rfl

theorem dx_later (t : Fin cfg0.N) (h0 : ¬t.val % 16 = 0) (h1 : 1 ≤ t.val) : (outsAt0 m c t.val t.isLt).1 = k0_pay4 (F := Ideal) (iblk m c 1 t) (iblk m c 0 t) (iblk m c 2 t) (iblk m c 3 t) := by
  rw [outsAt0_B m c t h0 h1]
  frame_out
  all_goals rfl

theorem dw_later (t : Fin cfg0.N) (h0 : ¬t.val % 16 = 0) (h1 : 1 ≤ t.val) : (outsAt0 m c t.val t.isLt).2 = k0_pay1 (F := Ideal) (k0_pay5 (F := Ideal) (iblk m c 1 t) (iblk m c 0 t)) (outsAt0 m c (t.val - 1) (Nat.lt_of_le_of_lt (Nat.sub_le _ _) t.isLt)).2 := by
  rw [outsAt0_B m c t h0 h1]
  frame_out
  all_goals rfl

theorem dx_at (t : Fin cfg0.N) : (outsAt0 m c t.val t.isLt).1 = k0_pay4 (F := Ideal) (iblk m c 1 t) (iblk m c 0 t) (iblk m c 2 t) (iblk m c 3 t) := by
  have h : cfg0.N = 16 := rfl
  rcases Nat.eq_zero_or_pos t.val with h0 | h0
  · exact dx_first m c t (by omega) (by omega)
  · exact dx_later m c t (by omega) (by omega)

/-- One term of the weight's gradient: what row `u` adds to column `s`. -/
def term (dy : Vec Ideal S4096x4096 .f32) (x : Vec Ideal S4096x4096 .f32) (s : Fin 4096) (u : Fin 4096) : EReal := dy (ix2 u s) * (x (ix2 u s) * rowScale x u)

/-- The rows of one point's block. -/
theorem part_at (t : Fin 16) (s : Fin 4096) :
    k0_pay5 (F := Ideal) (iblk m c 1 (t : Fin cfg0.N)) (iblk m c 0 (t : Fin cfg0.N)) (ix2 0 s) = part (term (argDy m c) (argX m c) s) t.val := by
  rw [dw_entry, part, dif_pos t.isLt]
  refine same_sum _ _ fun r => ?_
  have e : (fun p : Fin 4096 => iblk m c 1 (t : Fin cfg0.N) (ix2 r p)) = fun p : Fin 4096 => argX m c (ix2 ⟨256 * t.val + r.val, by omega⟩ p) := funext fun p => block_1 m c t r p
  unfold term rowScale
  rw [← e]
  exact congrArg₂ (· * ·) (block_0 m c t r s) (congrArg (· * _) (block_1 m c t r s))

theorem dw_at (s : Fin 4096) (n : ℕ) (h : n < cfg0.N) :
    ((outsAt0 m c n h).2 (ix2 0 s) : EReal) = ∑ q ∈ Finset.range (n + 1), part (term (argDy m c) (argX m c) s) q := by
  refine Cert.Norm.accumulate (M := cfg0.N) (fun n h => ((outsAt0 m c n h).2 (ix2 0 s) : EReal)) _ (fun h => ?_) (fun n h => ?_) n h
  · show (outsAt0 m c (⟨0, h⟩ : Fin cfg0.N).val (⟨0, h⟩ : Fin cfg0.N).isLt).2 (ix2 0 s) = _
    rw [dw_first m c ⟨0, h⟩ rfl (by show ¬1 ≤ 0; decide)]
    exact part_at m c 0 s
  · have hN : n + 1 < 16 := h
    show (outsAt0 m c (⟨n + 1, h⟩ : Fin cfg0.N).val (⟨n + 1, h⟩ : Fin cfg0.N).isLt).2 (ix2 0 s) = _
    rw [dw_later m c ⟨n + 1, h⟩ (by show ¬(n + 1) % 16 = 0; omega) (by show 1 ≤ n + 1; omega)]
    exact (later_entry _ _ _ _).trans (congrArg₂ (· + ·) rfl (part_at m c ⟨n + 1, hN⟩ s))

/-! ### The arrays the kernel leaves -/

theorem computed_dx : (dats m 0 c).arrAt 4 cfg0.N = dx (argDy m c) (argX m c) (argW m c) (argZ m c) := by
  refine (dats m 0 c).arrAt_eq_of_covers 4 _ (by decide +kernel) fun t hf y => ?_
  blk_simp
  rw [after0_4, dx_at m c t]
  obtain ⟨r, s, rfl⟩ : ∃ (r : Fin 256) (s : Fin 4096), y = ix2 r s := ⟨y 0, y 1, funext fun a => match a with | ⟨0, _⟩ => rfl | ⟨1, _⟩ => rfl⟩
  have ht : t.val < 16 := t.isLt
  refine Eq.trans ?_ (congrArg _ (at_0 t r s)).symm
  refine (dx_of _ _ _ _ r s _ _ (fun p => block_1 m c t r p) (fun p => congrArg₂ (· * ·) (block_0 m c t r p) (block_2 m c t p))).trans ?_
  exact congrArg (_ + ·) (block_3 m c t r s)

theorem computed_dw : (dats m 0 c).arrAt 5 cfg0.N = dw (argDy m c) (argX m c) := by
  refine (dats m 0 c).arrAt_eq_of_covers 5 _ (by decide +kernel) fun t hf y => ?_
  blk_simp
  rw [after0_5]
  obtain ⟨s, rfl⟩ : ∃ (s : Fin 4096), y = ix2 0 s := ⟨y 1, funext fun a => match a with | ⟨0, _⟩ => Subsingleton.elim (α := Fin 1) _ _ | ⟨1, _⟩ => rfl⟩
  have ht : t.val < 16 := t.isLt
  have hk : t.val % 16 = 15 := (flush0_5 _).mp hf
  refine Eq.trans ?_ (congrArg _ (at_2 t s)).symm
  refine (dw_at m c s t.val t.isLt).trans ?_
  obtain hv : t.val + 1 = 16 := by omega
  rw [hv]
  exact Cert.Norm.parts _

/-! ### The reference -/

/-- The half of minus one that the differentiated norm multiplies by. -/
abbrev minusHalf : EReal := Ideal.ofBits .f32 0xBF000000#32

theorem reference_square (x : Vec Ideal S4096x4096 .f32) (u : Fin 4096) :
    Cert.InNormBwdRefIdeal.Read.val_main_v7 (F := Ideal) x (ix2 u 0) = Cert.Norm.square width small fun p : Fin 4096 => x (ix2 u p) := by
  rw [Cert.InNormBwdRefIdeal.Read.val_main_v7_apply, Cert.InNormBwdRefIdeal.Read.val_main_v5_apply, Cert.InNormBwdRefIdeal.Read.val_main_v3_apply, Cert.InNormBwdRefIdeal.Read.val_main_v2_apply, Cert.InNormBwdRefIdeal.Read.val_main_v4_apply, Cert.InNormBwdRefIdeal.Read.val_main_v6_apply]
  refine congrArg (fun a => (Ideal.div a width + small : EReal)) ?_
  refine (congrArg₂ (· + ·) Ideal.ofBits_zero_f32 (same_sum _ (fun p : Fin 4096 => (x (ix2 u p) * x (ix2 u p) : EReal)) fun p => ?_)).trans (zero_add _)
  rw [Cert.InNormBwdRefIdeal.Read.val_main_v1_apply]
  exact congrArg (fun i => (x i * x i : EReal)) (funext fun a => match a with | ⟨0, _⟩ => rfl | ⟨1, _⟩ => rfl)

theorem reference_scale (x : Vec Ideal S4096x4096 .f32) (u : Fin 4096) :
    Cert.InNormBwdRefIdeal.Read.val_main_v8 (F := Ideal) x (ix2 u 0) = rowScale x u := by
  rw [Cert.InNormBwdRefIdeal.Read.val_main_v8_apply, reference_square]
  rfl

theorem reference_incoming (dy : Vec Ideal S4096x4096 .f32) (w : Vec Ideal S1x4096 .f32) (u : Fin 4096) (k : Fin 4096) :
    Cert.InNormBwdRefIdeal.Read.val_main_v21 (F := Ideal) dy w (ix2 u k) = (dy (ix2 u k) * w (ix2 0 k) : EReal) := by
  rw [Cert.InNormBwdRefIdeal.Read.val_main_v21_apply, Cert.InNormBwdRefIdeal.Read.val_main_v20_apply, Cert.InNormBwdRefIdeal.Read.val_main_v14_apply, Cert.InNormBwdRefIdeal.Read.val_main_v0_apply]
  refine congrArg₂ (· * ·) rfl (congrArg w (funext fun a => Fin.ext ?_))
  match a with
  | ⟨0, _⟩ => rfl
  | ⟨1, _⟩ => show k.val % 4096 = k.val; omega

theorem reference_mean (dy : Vec Ideal S4096x4096 .f32) (x : Vec Ideal S4096x4096 .f32) (w : Vec Ideal S1x4096 .f32) (u : Fin 4096) (k : Fin 4096) :
    Cert.InNormBwdRefIdeal.Read.val_main_v32 (F := Ideal) dy x w (ix2 u k) = Ideal.div ((∑ p : Fin 4096, x (ix2 u p) * (dy (ix2 u p) * w (ix2 0 p))) * (minusHalf * Ideal.div (rowScale x u) (Cert.Norm.square width small fun p : Fin 4096 => x (ix2 u p)))) width := by
  rw [Cert.InNormBwdRefIdeal.Read.val_main_v32_apply, Cert.InNormBwdRefIdeal.Read.val_main_v31_apply, Fin.sum_univ_one]
  refine (congrArg₂ (· + ·) Ideal.ofBits_zero_f32 ?_).trans (zero_add _)
  have i : Cert.InNormBwdRefIdeal.Read.idx_main_v31 (Cert.InNormBwdRefIdeal.Read.idx_main_v32 (ix2 u k)) 0 = ix2 u 0 := funext fun a => match a with | ⟨0, _⟩ => rfl | ⟨1, _⟩ => rfl
  rw [i, Cert.InNormBwdRefIdeal.Read.val_main_v30_apply, Cert.InNormBwdRefIdeal.Read.val_main_v28_apply, Cert.InNormBwdRefIdeal.Read.val_main_v11_apply, Cert.InNormBwdRefIdeal.Read.val_main_v10_apply, Cert.InNormBwdRefIdeal.Read.val_main_v9_apply, reference_scale, reference_square, Cert.InNormBwdRefIdeal.Read.val_main_v25_apply, Cert.InNormBwdRefIdeal.Read.val_main_v24_apply]
  refine congrArg (fun a => Ideal.div (a * (minusHalf * Ideal.div (rowScale x u) (Cert.Norm.square width small fun p : Fin 4096 => x (ix2 u p)))) width) ?_
  refine (congrArg₂ (· + ·) Ideal.ofBits_zero_f32 (same_sum _ (fun p : Fin 4096 => (x (ix2 u p) * (dy (ix2 u p) * w (ix2 0 p)) : EReal)) fun p => ?_)).trans (zero_add _)
  have j : Cert.InNormBwdRefIdeal.Read.idx_main_v24 (Cert.InNormBwdRefIdeal.Read.idx_main_v25 (ix2 u 0)) p = ix2 u p := funext fun a => Fin.ext (by
    match a with
    | ⟨0, _⟩ => show u.val * 1 + 0 = u.val; omega
    | ⟨1, _⟩ => rfl)
  rw [j, Cert.InNormBwdRefIdeal.Read.val_main_v23_apply, reference_incoming]
  rfl

theorem reference_slope (dy : Vec Ideal S4096x4096 .f32) (x : Vec Ideal S4096x4096 .f32) (w : Vec Ideal S1x4096 .f32) (u : Fin 4096) (k : Fin 4096) :
    Cert.InNormBwdRefIdeal.Read.val_main_v36 (F := Ideal) dy x w (ix2 u k) = slope width small (fun p : Fin 4096 => x (ix2 u p)) (fun p : Fin 4096 => dy (ix2 u p) * w (ix2 0 p)) k := by
  have i : Cert.InNormBwdRefIdeal.Read.idx_main_v26 (ix2 u k) = ix2 u 0 := funext fun a => match a with | ⟨0, _⟩ => rfl | ⟨1, _⟩ => rfl
  rw [Cert.InNormBwdRefIdeal.Read.val_main_v36_apply, Cert.InNormBwdRefIdeal.Read.val_main_v34_apply, Cert.InNormBwdRefIdeal.Read.val_main_v27_apply, Cert.InNormBwdRefIdeal.Read.val_main_v26_apply, Cert.InNormBwdRefIdeal.Read.val_main_v33_apply, Cert.InNormBwdRefIdeal.Read.val_main_v35_apply, i, reference_scale, reference_incoming]
  exact Cert.Norm.slope_of width small minusHalf ⟨4096, by norm_num, Cert.Norm.width⟩ Cert.Norm.small Cert.Norm.minus_half
    (fun p : Fin 4096 => x (ix2 u p)) (fun p : Fin 4096 => (dy (ix2 u p) * w (ix2 0 p) : EReal)) k _ (reference_mean dy x w u k)

theorem reference_dx (dy : Vec Ideal S4096x4096 .f32) (x : Vec Ideal S4096x4096 .f32) (w : Vec Ideal S1x4096 .f32) (z : Vec Ideal S4096x4096 .f32) : Cert.InNormBwdRefIdeal.Read.val_main_v37 (F := Ideal) dy x w z = dx dy x w z := by
  funext y
  obtain ⟨u, k, rfl⟩ : ∃ (u : Fin 4096) (k : Fin 4096), y = ix2 u k := ⟨y 0, y 1, funext fun a => match a with | ⟨0, _⟩ => rfl | ⟨1, _⟩ => rfl⟩
  rw [Cert.InNormBwdRefIdeal.Read.val_main_v37_apply]
  exact congrArg (fun a => (a + z (ix2 u k) : EReal)) (reference_slope dy x w u k)

theorem reference_dw (dy : Vec Ideal S4096x4096 .f32) (x : Vec Ideal S4096x4096 .f32) : Cert.InNormBwdRefIdeal.Read.val_main_v38 (F := Ideal) dy x = dw dy x := by
  funext y
  obtain ⟨s, rfl⟩ : ∃ (s : Fin 4096), y = ix2 0 s := ⟨y 1, funext fun a => match a with | ⟨0, _⟩ => Subsingleton.elim (α := Fin 1) _ _ | ⟨1, _⟩ => rfl⟩
  rw [Cert.InNormBwdRefIdeal.Read.val_main_v38_apply, Cert.InNormBwdRefIdeal.Read.val_main_v22_apply, Fin.sum_univ_one, Cert.InNormBwdRefIdeal.Read.val_main_v19_apply, Cert.InNormBwdRefIdeal.Read.val_main_v18_apply]
  refine (congrArg₂ (· + ·) Ideal.ofBits_zero_f32 ?_).trans (zero_add _)
  refine (congrArg₂ (· + ·) Ideal.ofBits_zero_f32 (same_sum _ (term dy x s) fun u => ?_)).trans (zero_add _)
  have j : Cert.InNormBwdRefIdeal.Read.idx_main_v18 (Cert.InNormBwdRefIdeal.Read.idx_main_v19 (Cert.InNormBwdRefIdeal.Read.idx_main_v22 (Cert.InNormBwdRefIdeal.Read.idx_main_v38 (ix2 0 s)) 0)) u = ix2 u s := funext fun a => Fin.ext (by
    match a with
    | ⟨0, _⟩ => rfl
    | ⟨1, _⟩ => show 0 * 4096 + s.val = s.val; omega)
  have i : Cert.InNormBwdRefIdeal.Read.idx_main_v12 (ix2 u s) = ix2 u 0 := funext fun a => match a with | ⟨0, _⟩ => rfl | ⟨1, _⟩ => rfl
  rw [j, Cert.InNormBwdRefIdeal.Read.val_main_v17_apply, Cert.InNormBwdRefIdeal.Read.val_main_v13_apply, Cert.InNormBwdRefIdeal.Read.val_main_v12_apply, i, reference_scale]
  exact mul_comm _ _

theorem agree : Cert.algebraic_InNormBwdIdeal_InNormBwdRefIdeal := by
  intro m g m' g' hp hm
  refine ⟨fun c => dx (argDy m c) (argX m c) (argW m c) (argZ m c), fun c => dw (argDy m c) (argX m c), ?_, ?_⟩
  · refine (θ_run defs _ _).mono (fun r h c => ?_) (Value.run_blocks m g)
    exact ⟨(h c).1.trans (computed_dx m c), (h c).2.1.trans (computed_dw m c), (h c).2.2⟩
  · refine (θ_run Cert.InNormBwdRefIdeal.defs _ _).mono (fun r h c => ?_) (Cert.InNormBwdRefIdeal.Value.run m' g')
    obtain ⟨e0, e1, e2, e3⟩ := hm c
    refine ⟨?_, ?_, (h c).2.2⟩
    · rw [(h c).1, Cert.InNormBwdRefIdeal.Read.val_main_v37_eq, e0, e1, e2, e3]
      exact reference_dx _ _ _ _
    · rw [(h c).2.1, e0, e1]
      exact (Cert.InNormBwdRefIdeal.Read.val_main_v38_eq (F := Ideal) _ _).trans (reference_dw _ _)

end Cert.InNormBwdIdeal
-- ==== Proof.HalfNormBwd.lean ====
module

public import proofs.«01_k».proof.Defs
public import proofs.«01_k».proof.Proof.Norm
public import proofs.«01_k».proof.Proof.Gen.HalfNormBwdIdeal
public import proofs.«01_k».proof.Proof.Gen.HalfNormBwdIdeal.Value
public import proofs.«01_k».proof.Proof.Gen.HalfNormBwdRefIdeal
public import proofs.«01_k».proof.Proof.Gen.HalfNormBwdRefIdeal.Run
public import proofs.«01_k».proof.Proof.Gen.HalfNormBwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.HalfNormBwdRefIdeal

open Idealize.ShloMosaic Idealize.ShloMosaic.TcCoe
open Idealize.SL.Sem

/-- The reference runs on the host alone: it leaves its arguments as they were, and it has no semaphores. -/
theorem frame_holds : Cert.quiescent_HalfNormBwdRefIdeal := fun m g _ =>
  (θ_run _ _ _).mono (fun r h => ⟨fun c => (h c).2.2, sem_eq_zero_of_no_sems rfl r.2⟩) (Value.run m g)

end Cert.HalfNormBwdRefIdeal

namespace Cert.HalfNormBwdIdeal

open Idealize.ShloMosaic Idealize.ShloMosaic.TcCoe Idealize.ShloMosaic.Tactic
open Idealize.SL.Sem
open Cert.HalfNormBwdIdeal.Gen
open Cert.Norm (scale slope part same_sum)

/-! ## The gradient of the norm of one mixer's output -/

variable (m : (ℓ : Loc nD τ sig) → Buf (Elt Ideal) ℓ) (c : Dev nD)

/-- The arguments on one device. -/
abbrev argDy : Vec Ideal S4096x4096 .f32 := m ((c.tc : Thread nD τ).loc main_arg0)
abbrev argX : Vec Ideal S4096x2048 .f32 := m ((c.tc : Thread nD τ).loc main_arg1)
abbrev argW : Vec Ideal S1x2048 .f32 := m ((c.tc : Thread nD τ).loc main_arg2)

/-- The width of a row, and the small number added to the mean square. -/
abbrev width : EReal := Ideal.ofBits .f32 0x45000000#32
abbrev small : EReal := Ideal.ofBits .f32 0x358637BD#32

/-- The scale of a row. -/
def rowScale (x : Vec Ideal S4096x2048 .f32) (u : Fin 4096) : EReal := scale width small fun p : Fin 2048 => x (ix2 u p)

/-- The gradient with respect to the input, entry by entry. -/
def dx (dy : Vec Ideal S4096x4096 .f32) (x : Vec Ideal S4096x2048 .f32) (w : Vec Ideal S1x2048 .f32) : Vec Ideal S4096x2048 .f32 := fun y =>
  (slope width small (fun p : Fin 2048 => x (ix2 (y 0) p)) (fun p : Fin 2048 => dy (ix2 (y 0) ⟨2048 + p.val, by omega⟩) * w (ix2 0 p)) (y 1) : EReal)

/-- The gradient with respect to the weight, entry by entry. -/
def dw (dy : Vec Ideal S4096x4096 .f32) (x : Vec Ideal S4096x2048 .f32) : Vec Ideal S1x2048 .f32 := fun y =>
  (∑ u : Fin 4096, dy (ix2 u ⟨2048 + (y 1).val, by have h : (y 1).val < 2048 := (y 1).isLt; omega⟩) * (x (ix2 u (y 1)) * rowScale x u) : EReal)

/-! ### The blocks of the grid's points -/

theorem place_0 : ∀ t : Fin cfg0.N, win0_0.index t = ![t.val, 1] :=
  (by decide +kernel : ∀ t : Fin grid0.N, win0_0.index t = ![t.val, 1])

theorem place_1 : ∀ t : Fin cfg0.N, win0_1.index t = ![t.val, 0] :=
  (by decide +kernel : ∀ t : Fin grid0.N, win0_1.index t = ![t.val, 0])

theorem place_2 : ∀ t : Fin cfg0.N, win0_2.index t = ![0, 0] :=
  (by decide +kernel : ∀ t : Fin grid0.N, win0_2.index t = ![0, 0])

theorem block_0 (t : Fin cfg0.N) (r : Fin 256) (s : Fin 2048) :
    iblk m c 0 t (ix2 r s) = argDy m c (ix2 ⟨256 * t.val + r.val, by have h : t.val < 16 := t.isLt; omega⟩ ⟨2048 + s.val, by omega⟩) := by
  unfold iblk
  blk_simp
  refine congrArg (argDy m c) (funext fun a => Fin.ext ?_)
  have e := place_0 t
  match a with
  | ⟨0, _⟩ => blk_simp; simp [e, ix2]; try omega
  | ⟨1, _⟩ => blk_simp; simp [e, ix2]; try omega

/-- An entry of a block of an array laid out as argument 1 is, in its array. -/
theorem at_1 (t : Fin cfg0.N) (r : Fin 256) (s : Fin 2048) : (win0_1.blk t).view.emb (ix2 r s) = (ix2 ⟨256 * t.val + r.val, by have h : t.val < 16 := t.isLt; omega⟩ s : S4096x2048.Idx) := by
  refine funext fun a => Fin.ext ?_
  have e := place_1 t
  match a with
  | ⟨0, _⟩ => blk_simp; simp [e, ix2]; try omega
  | ⟨1, _⟩ => blk_simp; simp [e, ix2]; try omega

theorem block_1 (t : Fin cfg0.N) (r : Fin 256) (s : Fin 2048) :
    iblk m c 1 t (ix2 r s) = argX m c (ix2 ⟨256 * t.val + r.val, by have h : t.val < 16 := t.isLt; omega⟩ s) :=
  congrArg (argX m c) (at_1 t r s)

/-- An entry of a block of an array laid out as argument 2 is, in its array. -/
theorem at_2 (t : Fin cfg0.N) (s : Fin 2048) : (win0_2.blk t).view.emb (ix2 0 s) = (ix2 0 s : S1x2048.Idx) := by
  refine funext fun a => Fin.ext ?_
  have e := place_2 t
  match a with
  | ⟨0, _⟩ => blk_simp; simp [e, ix2]; try omega
  | ⟨1, _⟩ => blk_simp; simp [e, ix2]; try omega

theorem block_2 (t : Fin cfg0.N) (s : Fin 2048) :
    iblk m c 2 t (ix2 (0 : Fin 1) s) = argW m c (ix2 0 s) :=
  congrArg (argW m c) (at_2 t s)

/-! ### What one point computes, from a block `v0` of the input, `v1` of the incoming gradient, and the weight `v2` -/

theorem scale_entry (v0 : Vec Ideal S256x2048 .f32) (r : Fin 256) :
    k0_pay1 (F := Ideal) v0 (ix2 r 0) = scale width small fun p : Fin 2048 => v0 (ix2 r p) := by
  unfold k0_pay1
  pointwise
  rfl

theorem normed_entry (v0 : Vec Ideal S256x2048 .f32) (r : Fin 256) (s : Fin 2048) :
    k0_pay2 (F := Ideal) v0 (ix2 r s) = (v0 (ix2 r s) * scale width small fun p : Fin 2048 => v0 (ix2 r p) : EReal) := by
  unfold k0_pay2
  pointwise
  rw [scale_entry]

theorem dx_entry (v0 : Vec Ideal S256x2048 .f32) (v1 : Vec Ideal S256x2048 .f32) (v2 : Vec Ideal S1x2048 .f32) (r : Fin 256) (s : Fin 2048) :
    k0_pay3 (F := Ideal) v0 v1 v2 (ix2 r s) = (slope width small (fun p : Fin 2048 => v0 (ix2 r p)) (fun p : Fin 2048 => v1 (ix2 r p) * v2 (ix2 0 p)) s : EReal) := by
  unfold k0_pay3
  pointwise
  simp only [scale_entry, normed_entry]
  rfl

theorem dx_of (v0 : Vec Ideal S256x2048 .f32) (v1 : Vec Ideal S256x2048 .f32) (v2 : Vec Ideal S1x2048 .f32) (r : Fin 256) (s : Fin 2048) (a g : Fin 2048 → EReal) (h1 : ∀ p, v0 (ix2 r p) = a p) (h0 : ∀ p, (v1 (ix2 r p) * v2 (ix2 0 p) : EReal) = g p) :
    k0_pay3 (F := Ideal) v0 v1 v2 (ix2 r s) = (slope width small a g s : EReal) := by
  rw [dx_entry, funext h1, funext h0]

theorem dw_entry (v0 : Vec Ideal S256x2048 .f32) (v1 : Vec Ideal S256x2048 .f32) (s : Fin 2048) :
    k0_pay4 (F := Ideal) v0 v1 (ix2 0 s) = (∑ r : Fin 256, v1 (ix2 r s) * (v0 (ix2 r s) * scale width small fun p : Fin 2048 => v0 (ix2 r p)) : EReal) := by
  unfold k0_pay4
  pointwise
  simp only [normed_entry]

theorem later_entry (v0 : Vec Ideal S256x2048 .f32) (v1 : Vec Ideal S256x2048 .f32) (v : Vec Ideal S1x2048 .f32) (y : S1x2048.Idx) :
    k0_pay5 (F := Ideal) v0 v1 v y = (v y + k0_pay4 (F := Ideal) v0 v1 y : EReal) := by
  unfold k0_pay5
  exact congrArg (· + k0_pay4 (F := Ideal) v0 v1 y) (shapeCast_apply v _ y y rfl)

/-! ### What the points leave -/

theorem dx_first (t : Fin cfg0.N) (h0 : t.val % 16 = 0) (h1 : ¬1 ≤ t.val) : (outsAt0 m c t.val t.isLt).1 = k0_pay3 (F := Ideal) (iblk m c 1 t) (iblk m c 0 t) (iblk m c 2 t) := by
  rw [outsAt0_A m c t h0 h1]
  frame_out
  all_goals rfl

theorem dw_first (t : Fin cfg0.N) (h0 : t.val % 16 = 0) (h1 : ¬1 ≤ t.val) : (outsAt0 m c t.val t.isLt).2 = k0_pay4 (F := Ideal) (iblk m c 1 t) (iblk m c 0 t) := by
  rw [outsAt0_A m c t h0 h1]
  frame_out
  all_goals rfl

theorem dx_later (t : Fin cfg0.N) (h0 : ¬t.val % 16 = 0) (h1 : 1 ≤ t.val) : (outsAt0 m c t.val t.isLt).1 = k0_pay3 (F := Ideal) (iblk m c 1 t) (iblk m c 0 t) (iblk m c 2 t) := by
  rw [outsAt0_B m c t h0 h1]
  frame_out
  all_goals rfl

theorem dw_later (t : Fin cfg0.N) (h0 : ¬t.val % 16 = 0) (h1 : 1 ≤ t.val) : (outsAt0 m c t.val t.isLt).2 = k0_pay5 (F := Ideal) (iblk m c 1 t) (iblk m c 0 t) (outsAt0 m c (t.val - 1) (Nat.lt_of_le_of_lt (Nat.sub_le _ _) t.isLt)).2 := by
  rw [outsAt0_B m c t h0 h1]
  frame_out
  all_goals rfl

theorem dx_at (t : Fin cfg0.N) : (outsAt0 m c t.val t.isLt).1 = k0_pay3 (F := Ideal) (iblk m c 1 t) (iblk m c 0 t) (iblk m c 2 t) := by
  have h : cfg0.N = 16 := rfl
  rcases Nat.eq_zero_or_pos t.val with h0 | h0
  · exact dx_first m c t (by omega) (by omega)
  · exact dx_later m c t (by omega) (by omega)

/-- One term of the weight's gradient: what row `u` adds to column `s`. -/
def term (dy : Vec Ideal S4096x4096 .f32) (x : Vec Ideal S4096x2048 .f32) (s : Fin 2048) (u : Fin 4096) : EReal := dy (ix2 u ⟨2048 + s.val, by omega⟩) * (x (ix2 u s) * rowScale x u)

/-- The rows of one point's block. -/
theorem part_at (t : Fin 16) (s : Fin 2048) :
    k0_pay4 (F := Ideal) (iblk m c 1 (t : Fin cfg0.N)) (iblk m c 0 (t : Fin cfg0.N)) (ix2 0 s) = part (term (argDy m c) (argX m c) s) t.val := by
  rw [dw_entry, part, dif_pos t.isLt]
  refine same_sum _ _ fun r => ?_
  have e : (fun p : Fin 2048 => iblk m c 1 (t : Fin cfg0.N) (ix2 r p)) = fun p : Fin 2048 => argX m c (ix2 ⟨256 * t.val + r.val, by omega⟩ p) := funext fun p => block_1 m c t r p
  unfold term rowScale
  rw [← e]
  exact congrArg₂ (· * ·) (block_0 m c t r s) (congrArg (· * _) (block_1 m c t r s))

theorem dw_at (s : Fin 2048) (n : ℕ) (h : n < cfg0.N) :
    ((outsAt0 m c n h).2 (ix2 0 s) : EReal) = ∑ q ∈ Finset.range (n + 1), part (term (argDy m c) (argX m c) s) q := by
  refine Cert.Norm.accumulate (M := cfg0.N) (fun n h => ((outsAt0 m c n h).2 (ix2 0 s) : EReal)) _ (fun h => ?_) (fun n h => ?_) n h
  · show (outsAt0 m c (⟨0, h⟩ : Fin cfg0.N).val (⟨0, h⟩ : Fin cfg0.N).isLt).2 (ix2 0 s) = _
    rw [dw_first m c ⟨0, h⟩ rfl (by show ¬1 ≤ 0; decide)]
    exact part_at m c 0 s
  · have hN : n + 1 < 16 := h
    show (outsAt0 m c (⟨n + 1, h⟩ : Fin cfg0.N).val (⟨n + 1, h⟩ : Fin cfg0.N).isLt).2 (ix2 0 s) = _
    rw [dw_later m c ⟨n + 1, h⟩ (by show ¬(n + 1) % 16 = 0; omega) (by show 1 ≤ n + 1; omega)]
    exact (later_entry _ _ _ _).trans (congrArg₂ (· + ·) rfl (part_at m c ⟨n + 1, hN⟩ s))

/-! ### The arrays the kernel leaves -/

theorem computed_dx : (dats m 0 c).arrAt 3 cfg0.N = dx (argDy m c) (argX m c) (argW m c) := by
  refine (dats m 0 c).arrAt_eq_of_covers 3 _ (by decide +kernel) fun t hf y => ?_
  blk_simp
  rw [after0_3, dx_at m c t]
  obtain ⟨r, s, rfl⟩ : ∃ (r : Fin 256) (s : Fin 2048), y = ix2 r s := ⟨y 0, y 1, funext fun a => match a with | ⟨0, _⟩ => rfl | ⟨1, _⟩ => rfl⟩
  have ht : t.val < 16 := t.isLt
  refine Eq.trans ?_ (congrArg _ (at_1 t r s)).symm
  refine (dx_of _ _ _ r s _ _ (fun p => block_1 m c t r p) (fun p => congrArg₂ (· * ·) (block_0 m c t r p) (block_2 m c t p))).trans ?_
  rfl

theorem computed_dw : (dats m 0 c).arrAt 4 cfg0.N = dw (argDy m c) (argX m c) := by
  refine (dats m 0 c).arrAt_eq_of_covers 4 _ (by decide +kernel) fun t hf y => ?_
  blk_simp
  rw [after0_4]
  obtain ⟨s, rfl⟩ : ∃ (s : Fin 2048), y = ix2 0 s := ⟨y 1, funext fun a => match a with | ⟨0, _⟩ => Subsingleton.elim (α := Fin 1) _ _ | ⟨1, _⟩ => rfl⟩
  have ht : t.val < 16 := t.isLt
  have hk : t.val % 16 = 15 := (flush0_4 _).mp hf
  refine Eq.trans ?_ (congrArg _ (at_2 t s)).symm
  refine (dw_at m c s t.val t.isLt).trans ?_
  obtain hv : t.val + 1 = 16 := by omega
  rw [hv]
  exact Cert.Norm.parts _

/-! ### The reference -/

/-- The half of minus one that the differentiated norm multiplies by. -/
abbrev minusHalf : EReal := Ideal.ofBits .f32 0xBF000000#32

theorem reference_square (x : Vec Ideal S4096x2048 .f32) (u : Fin 4096) :
    Cert.HalfNormBwdRefIdeal.Read.val_main_v7 (F := Ideal) x (ix2 u 0) = Cert.Norm.square width small fun p : Fin 2048 => x (ix2 u p) := by
  rw [Cert.HalfNormBwdRefIdeal.Read.val_main_v7_apply, Cert.HalfNormBwdRefIdeal.Read.val_main_v5_apply, Cert.HalfNormBwdRefIdeal.Read.val_main_v3_apply, Cert.HalfNormBwdRefIdeal.Read.val_main_v2_apply, Cert.HalfNormBwdRefIdeal.Read.val_main_v4_apply, Cert.HalfNormBwdRefIdeal.Read.val_main_v6_apply]
  refine congrArg (fun a => (Ideal.div a width + small : EReal)) ?_
  refine (congrArg₂ (· + ·) Ideal.ofBits_zero_f32 (same_sum _ (fun p : Fin 2048 => (x (ix2 u p) * x (ix2 u p) : EReal)) fun p => ?_)).trans (zero_add _)
  rw [Cert.HalfNormBwdRefIdeal.Read.val_main_v1_apply]
  exact congrArg (fun i => (x i * x i : EReal)) (funext fun a => match a with | ⟨0, _⟩ => rfl | ⟨1, _⟩ => rfl)

theorem reference_scale (x : Vec Ideal S4096x2048 .f32) (u : Fin 4096) :
    Cert.HalfNormBwdRefIdeal.Read.val_main_v8 (F := Ideal) x (ix2 u 0) = rowScale x u := by
  rw [Cert.HalfNormBwdRefIdeal.Read.val_main_v8_apply, reference_square]
  rfl

theorem sliced (dy : Vec Ideal S4096x4096 .f32) (u : Fin 4096) (k : Fin 2048) :
    Cert.HalfNormBwdRefIdeal.Read.val_main_v17 (F := Ideal) dy (ix2 u k) = dy (ix2 u ⟨2048 + k.val, by omega⟩) := by
  rw [Cert.HalfNormBwdRefIdeal.Read.val_main_v17_apply]
  refine congrArg dy (funext fun a => Fin.ext ?_)
  match a with
  | ⟨0, _⟩ => first | rfl | (show 0 + u.val = u.val; omega) | (show u.val + 0 = u.val; omega)
  | ⟨1, _⟩ => first | rfl | (show k.val + 2048 = 2048 + k.val; omega)

theorem reference_incoming (dy : Vec Ideal S4096x4096 .f32) (w : Vec Ideal S1x2048 .f32) (u : Fin 4096) (k : Fin 2048) :
    Cert.HalfNormBwdRefIdeal.Read.val_main_v22 (F := Ideal) dy w (ix2 u k) = (dy (ix2 u ⟨2048 + k.val, by omega⟩) * w (ix2 0 k) : EReal) := by
  rw [Cert.HalfNormBwdRefIdeal.Read.val_main_v22_apply, Cert.HalfNormBwdRefIdeal.Read.val_main_v21_apply, Cert.HalfNormBwdRefIdeal.Read.val_main_v14_apply, Cert.HalfNormBwdRefIdeal.Read.val_main_v0_apply]
  refine congrArg₂ (· * ·) (sliced dy u k) (congrArg w (funext fun a => Fin.ext ?_))
  match a with
  | ⟨0, _⟩ => rfl
  | ⟨1, _⟩ => show k.val % 2048 = k.val; omega

theorem reference_mean (dy : Vec Ideal S4096x4096 .f32) (x : Vec Ideal S4096x2048 .f32) (w : Vec Ideal S1x2048 .f32) (u : Fin 4096) (k : Fin 2048) :
    Cert.HalfNormBwdRefIdeal.Read.val_main_v33 (F := Ideal) dy x w (ix2 u k) = Ideal.div ((∑ p : Fin 2048, x (ix2 u p) * (dy (ix2 u ⟨2048 + p.val, by omega⟩) * w (ix2 0 p))) * (minusHalf * Ideal.div (rowScale x u) (Cert.Norm.square width small fun p : Fin 2048 => x (ix2 u p)))) width := by
  rw [Cert.HalfNormBwdRefIdeal.Read.val_main_v33_apply, Cert.HalfNormBwdRefIdeal.Read.val_main_v32_apply, Fin.sum_univ_one]
  refine (congrArg₂ (· + ·) Ideal.ofBits_zero_f32 ?_).trans (zero_add _)
  have i : Cert.HalfNormBwdRefIdeal.Read.idx_main_v32 (Cert.HalfNormBwdRefIdeal.Read.idx_main_v33 (ix2 u k)) 0 = ix2 u 0 := funext fun a => match a with | ⟨0, _⟩ => rfl | ⟨1, _⟩ => rfl
  rw [i, Cert.HalfNormBwdRefIdeal.Read.val_main_v31_apply, Cert.HalfNormBwdRefIdeal.Read.val_main_v29_apply, Cert.HalfNormBwdRefIdeal.Read.val_main_v11_apply, Cert.HalfNormBwdRefIdeal.Read.val_main_v10_apply, Cert.HalfNormBwdRefIdeal.Read.val_main_v9_apply, reference_scale, reference_square, Cert.HalfNormBwdRefIdeal.Read.val_main_v26_apply, Cert.HalfNormBwdRefIdeal.Read.val_main_v25_apply]
  refine congrArg (fun a => Ideal.div (a * (minusHalf * Ideal.div (rowScale x u) (Cert.Norm.square width small fun p : Fin 2048 => x (ix2 u p)))) width) ?_
  refine (congrArg₂ (· + ·) Ideal.ofBits_zero_f32 (same_sum _ (fun p : Fin 2048 => (x (ix2 u p) * (dy (ix2 u ⟨2048 + p.val, by omega⟩) * w (ix2 0 p)) : EReal)) fun p => ?_)).trans (zero_add _)
  have j : Cert.HalfNormBwdRefIdeal.Read.idx_main_v25 (Cert.HalfNormBwdRefIdeal.Read.idx_main_v26 (ix2 u 0)) p = ix2 u p := funext fun a => Fin.ext (by
    match a with
    | ⟨0, _⟩ => show u.val * 1 + 0 = u.val; omega
    | ⟨1, _⟩ => rfl)
  rw [j, Cert.HalfNormBwdRefIdeal.Read.val_main_v24_apply, reference_incoming]
  rfl

theorem reference_slope (dy : Vec Ideal S4096x4096 .f32) (x : Vec Ideal S4096x2048 .f32) (w : Vec Ideal S1x2048 .f32) (u : Fin 4096) (k : Fin 2048) :
    Cert.HalfNormBwdRefIdeal.Read.val_main_v37 (F := Ideal) dy x w (ix2 u k) = slope width small (fun p : Fin 2048 => x (ix2 u p)) (fun p : Fin 2048 => dy (ix2 u ⟨2048 + p.val, by omega⟩) * w (ix2 0 p)) k := by
  have i : Cert.HalfNormBwdRefIdeal.Read.idx_main_v27 (ix2 u k) = ix2 u 0 := funext fun a => match a with | ⟨0, _⟩ => rfl | ⟨1, _⟩ => rfl
  rw [Cert.HalfNormBwdRefIdeal.Read.val_main_v37_apply, Cert.HalfNormBwdRefIdeal.Read.val_main_v35_apply, Cert.HalfNormBwdRefIdeal.Read.val_main_v28_apply, Cert.HalfNormBwdRefIdeal.Read.val_main_v27_apply, Cert.HalfNormBwdRefIdeal.Read.val_main_v34_apply, Cert.HalfNormBwdRefIdeal.Read.val_main_v36_apply, i, reference_scale, reference_incoming]
  exact Cert.Norm.slope_of width small minusHalf ⟨2048, by norm_num, Cert.Norm.half_width⟩ Cert.Norm.small Cert.Norm.minus_half
    (fun p : Fin 2048 => x (ix2 u p)) (fun p : Fin 2048 => (dy (ix2 u ⟨2048 + p.val, by omega⟩) * w (ix2 0 p) : EReal)) k _ (reference_mean dy x w u k)

theorem reference_dx (dy : Vec Ideal S4096x4096 .f32) (x : Vec Ideal S4096x2048 .f32) (w : Vec Ideal S1x2048 .f32) : Cert.HalfNormBwdRefIdeal.Read.val_main_v37 (F := Ideal) dy x w = dx dy x w := by
  funext y
  obtain ⟨u, k, rfl⟩ : ∃ (u : Fin 4096) (k : Fin 2048), y = ix2 u k := ⟨y 0, y 1, funext fun a => match a with | ⟨0, _⟩ => rfl | ⟨1, _⟩ => rfl⟩
  exact reference_slope dy x w u k

theorem reference_dw (dy : Vec Ideal S4096x4096 .f32) (x : Vec Ideal S4096x2048 .f32) : Cert.HalfNormBwdRefIdeal.Read.val_main_v38 (F := Ideal) dy x = dw dy x := by
  funext y
  obtain ⟨s, rfl⟩ : ∃ (s : Fin 2048), y = ix2 0 s := ⟨y 1, funext fun a => match a with | ⟨0, _⟩ => Subsingleton.elim (α := Fin 1) _ _ | ⟨1, _⟩ => rfl⟩
  rw [Cert.HalfNormBwdRefIdeal.Read.val_main_v38_apply, Cert.HalfNormBwdRefIdeal.Read.val_main_v23_apply, Fin.sum_univ_one, Cert.HalfNormBwdRefIdeal.Read.val_main_v20_apply, Cert.HalfNormBwdRefIdeal.Read.val_main_v19_apply]
  refine (congrArg₂ (· + ·) Ideal.ofBits_zero_f32 ?_).trans (zero_add _)
  refine (congrArg₂ (· + ·) Ideal.ofBits_zero_f32 (same_sum _ (term dy x s) fun u => ?_)).trans (zero_add _)
  have j : Cert.HalfNormBwdRefIdeal.Read.idx_main_v19 (Cert.HalfNormBwdRefIdeal.Read.idx_main_v20 (Cert.HalfNormBwdRefIdeal.Read.idx_main_v23 (Cert.HalfNormBwdRefIdeal.Read.idx_main_v38 (ix2 0 s)) 0)) u = ix2 u s := funext fun a => Fin.ext (by
    match a with
    | ⟨0, _⟩ => rfl
    | ⟨1, _⟩ => show 0 * 2048 + s.val = s.val; omega)
  have i : Cert.HalfNormBwdRefIdeal.Read.idx_main_v12 (ix2 u s) = ix2 u 0 := funext fun a => match a with | ⟨0, _⟩ => rfl | ⟨1, _⟩ => rfl
  rw [j, Cert.HalfNormBwdRefIdeal.Read.val_main_v18_apply, Cert.HalfNormBwdRefIdeal.Read.val_main_v13_apply, Cert.HalfNormBwdRefIdeal.Read.val_main_v12_apply, i, reference_scale, sliced]
  exact mul_comm _ _

theorem agree : Cert.algebraic_HalfNormBwdIdeal_HalfNormBwdRefIdeal := by
  intro m g m' g' hp hm
  refine ⟨fun c => dx (argDy m c) (argX m c) (argW m c), fun c => dw (argDy m c) (argX m c), ?_, ?_⟩
  · refine (θ_run defs _ _).mono (fun r h c => ?_) (Value.run_blocks m g)
    exact ⟨(h c).1.trans (computed_dx m c), (h c).2.1.trans (computed_dw m c), (h c).2.2⟩
  · refine (θ_run Cert.HalfNormBwdRefIdeal.defs _ _).mono (fun r h c => ?_) (Cert.HalfNormBwdRefIdeal.Value.run m' g')
    obtain ⟨e0, e1, e2⟩ := hm c
    refine ⟨?_, ?_, (h c).2.2⟩
    · rw [(h c).1, Cert.HalfNormBwdRefIdeal.Read.val_main_v37_eq, e0, e1, e2]
      exact reference_dx _ _ _
    · rw [(h c).2.1, e0, e1]
      exact (Cert.HalfNormBwdRefIdeal.Read.val_main_v38_eq (F := Ideal) _ _).trans (reference_dw _ _)

end Cert.HalfNormBwdIdeal
-- ==== Proof.LossHead.lean ====
module

public import proofs.«01_k».proof.Defs
public import proofs.«01_k».proof.Proof.Norm
public import proofs.«01_k».proof.Proof.Gen.LossHeadIdeal
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.LossHeadRefIdeal

open Idealize.ShloMosaic Idealize.ShloMosaic.TcCoe
open Idealize.SL.Sem

/-- The reference runs on the host alone: it leaves its arguments as they were, and it has no semaphores. -/
theorem frame_holds : Cert.quiescent_LossHeadRefIdeal := fun m g _ =>
  (θ_run _ _ _).mono (fun r h => ⟨fun c => (h c).2.2.2.2, sem_eq_zero_of_no_sems rfl r.2⟩) (Value.run m g)

end Cert.LossHeadRefIdeal

namespace Cert.LossHeadIdeal

open Idealize.ShloMosaic Idealize.ShloMosaic.TcCoe Idealize.ShloMosaic.Tactic
open Idealize.SL.Sem
open Cert.LossHeadIdeal.Gen
open Cert.Norm (scale slope part same_sum)

/-! ## The loss, its gradient, and the gradient of the last norm -/

variable (m : (ℓ : Loc nD τ sig) → Buf (Elt Ideal) ℓ) (c : Dev nD)

/-- The arguments on one device: the last hidden states, the weight of the norm, the targets. -/
abbrev argH : Vec Ideal S4096x4096 .f32 := m ((c.tc : Thread nD τ).loc main_arg0)
abbrev argW : Vec Ideal S1x4096 .f32 := m ((c.tc : Thread nD τ).loc main_arg1)
abbrev argT : Vec Ideal S4096x4096 .f32 := m ((c.tc : Thread nD τ).loc main_arg2)

/-- The width of a row, the small number added to the mean square, one over the width, and a half. -/
abbrev width : EReal := Ideal.ofBits .f32 0x45800000#32
abbrev small : EReal := Ideal.ofBits .f32 0x358637BD#32
abbrev share : EReal := Ideal.ofBits .f32 0x39800000#32
abbrev half : EReal := Ideal.ofBits .f32 0x3F000000#32

/-- How far the normed row is from its target. -/
def miss (x w z : Fin 4096 → EReal) (k : Fin 4096) : EReal := x k * scale width small x * w k - z k

/-- The mean square of a row's distances. -/
def rowLoss (x w z : Fin 4096 → EReal) : EReal := Ideal.div (∑ p, miss x w z p * miss x w z p) width

/-- The gradient with respect to an entry of a row. -/
def rowSlope (x w z : Fin 4096 → EReal) (k : Fin 4096) : EReal := slope width small x (fun p => miss x w z p * share * w p) k

/-- What a row adds to the gradient of the weight. -/
def rowTerm (x w z : Fin 4096 → EReal) (k : Fin 4096) : EReal := miss x w z k * share * (x k * scale width small x)

/-- One row of an array. -/
def row (x : Vec Ideal S4096x4096 .f32) (u : Fin 4096) : Fin 4096 → EReal := fun p => x (ix2 u p)
def only (w : Vec Ideal S1x4096 .f32) : Fin 4096 → EReal := fun p => w (ix2 0 p)

def dh (h : Vec Ideal S4096x4096 .f32) (w : Vec Ideal S1x4096 .f32) (z : Vec Ideal S4096x4096 .f32) : Vec Ideal S4096x4096 .f32 := fun y => rowSlope (row h (y 0)) (only w) (row z (y 0)) (y 1)
def dw (h : Vec Ideal S4096x4096 .f32) (w : Vec Ideal S1x4096 .f32) (z : Vec Ideal S4096x4096 .f32) : Vec Ideal S1x4096 .f32 := fun y => (∑ u : Fin 4096, rowTerm (row h u) (only w) (row z u) (y 1) : EReal)
def loss (h : Vec Ideal S4096x4096 .f32) (w : Vec Ideal S1x4096 .f32) (z : Vec Ideal S4096x4096 .f32) : Vec Ideal S1x128 .f32 := fun y => (∑ u : Fin 4096, rowLoss (row h u) (only w) (row z u) * half : EReal)

/-! ### The blocks of the grid's points -/

theorem place_0 : ∀ t : Fin cfg0.N, win0_0.index t = ![t.val, 0] :=
  (by decide +kernel : ∀ t : Fin grid0.N, win0_0.index t = ![t.val, 0])

theorem place_1 : ∀ t : Fin cfg0.N, win0_1.index t = ![0, 0] :=
  (by decide +kernel : ∀ t : Fin grid0.N, win0_1.index t = ![0, 0])

theorem place_6 : ∀ t : Fin cfg0.N, win0_6.index t = ![0, 0] :=
  (by decide +kernel : ∀ t : Fin grid0.N, win0_6.index t = ![0, 0])

/-- An entry of a block of an array laid out as argument 0 is, in its array. -/
theorem at_0 (t : Fin cfg0.N) (r : Fin 256) (s : Fin 4096) : (win0_0.blk t).view.emb (ix2 r s) = (ix2 ⟨256 * t.val + r.val, by have h : t.val < 16 := t.isLt; omega⟩ s : S4096x4096.Idx) := by
  refine funext fun a => Fin.ext ?_
  have e := place_0 t
  match a with
  | ⟨0, _⟩ => blk_simp; simp [e, ix2]; try omega
  | ⟨1, _⟩ => blk_simp; simp [e, ix2]; try omega

/-- An entry of a block of an array laid out as argument 1 is, in its array. -/
theorem at_1 (t : Fin cfg0.N) (s : Fin 4096) : (win0_1.blk t).view.emb (ix2 0 s) = (ix2 0 s : S1x4096.Idx) := by
  refine funext fun a => Fin.ext ?_
  have e := place_1 t
  match a with
  | ⟨0, _⟩ => blk_simp; simp [e, ix2]; try omega
  | ⟨1, _⟩ => blk_simp; simp [e, ix2]; try omega

theorem block_0 (t : Fin cfg0.N) (r : Fin 256) : (fun p : Fin 4096 => iblk m c 0 t (ix2 r p)) = row (argH m c) ⟨256 * t.val + r.val, by have h : t.val < 16 := t.isLt; omega⟩ :=
  funext fun p => congrArg (argH m c) (at_0 t r p)

theorem block_1 (t : Fin cfg0.N) : (fun p : Fin 4096 => iblk m c 1 t (ix2 (0 : Fin 1) p)) = only (argW m c) :=
  funext fun p => congrArg (argW m c) (at_1 t p)

theorem block_2 (t : Fin cfg0.N) (r : Fin 256) : (fun p : Fin 4096 => iblk m c 2 t (ix2 r p)) = row (argT m c) ⟨256 * t.val + r.val, by have h : t.val < 16 := t.isLt; omega⟩ :=
  funext fun p => congrArg (argT m c) (at_0 t r p)

/-! ### What one point computes, from a block `v0` of the hidden states, the weight `v1` and a block `v2` of the targets -/

theorem scale_entry (v0 : Vec Ideal S256x4096 .f32) (r : Fin 256) :
    k0_pay5 (F := Ideal) v0 (ix2 r 0) = scale width small fun p : Fin 4096 => v0 (ix2 r p) := by
  unfold k0_pay5
  pointwise
  rfl

theorem normed_entry (v0 : Vec Ideal S256x4096 .f32) (r : Fin 256) (s : Fin 4096) :
    k0_pay6 (F := Ideal) v0 (ix2 r s) = (v0 (ix2 r s) * scale width small fun p : Fin 4096 => v0 (ix2 r p) : EReal) := by
  unfold k0_pay6
  pointwise
  rw [scale_entry]

theorem miss_entry (v0 : Vec Ideal S256x4096 .f32) (v1 : Vec Ideal S1x4096 .f32) (v2 : Vec Ideal S256x4096 .f32) (r : Fin 256) (s : Fin 4096) :
    k0_pay7 (F := Ideal) v0 v1 v2 (ix2 r s) = miss (fun p : Fin 4096 => v0 (ix2 r p)) (fun p : Fin 4096 => v1 (ix2 0 p)) (fun p : Fin 4096 => v2 (ix2 r p)) s := by
  unfold k0_pay7
  pointwise
  rw [normed_entry]
  rfl

theorem shared_entry (v0 : Vec Ideal S256x4096 .f32) (v1 : Vec Ideal S1x4096 .f32) (v2 : Vec Ideal S256x4096 .f32) (r : Fin 256) (s : Fin 4096) :
    k0_pay9 (F := Ideal) v0 v1 v2 (ix2 r s) = (miss (fun p : Fin 4096 => v0 (ix2 r p)) (fun p : Fin 4096 => v1 (ix2 0 p)) (fun p : Fin 4096 => v2 (ix2 r p)) s * share : EReal) := by
  unfold k0_pay9
  pointwise
  rw [miss_entry]

theorem slope_entry (v0 : Vec Ideal S256x4096 .f32) (v1 : Vec Ideal S1x4096 .f32) (v2 : Vec Ideal S256x4096 .f32) (r : Fin 256) (s : Fin 4096) :
    k0_pay10 (F := Ideal) v0 v1 v2 (ix2 r s) = rowSlope (fun p : Fin 4096 => v0 (ix2 r p)) (fun p : Fin 4096 => v1 (ix2 0 p)) (fun p : Fin 4096 => v2 (ix2 r p)) s := by
  unfold k0_pay10
  pointwise
  simp only [scale_entry, normed_entry, shared_entry]
  rfl

theorem rounded_entry (v : Vec Ideal S256x4096 .f32) (y : S256x4096.Idx) : k0_pay1 (F := Ideal) v y = v y := by
  unfold k0_pay1
  pointwise

theorem term_entry (v0 : Vec Ideal S256x4096 .f32) (v1 : Vec Ideal S1x4096 .f32) (v2 : Vec Ideal S256x4096 .f32) (s : Fin 4096) :
    k0_pay2 (F := Ideal) (k0_pay6 (F := Ideal) v0) (k0_pay9 (F := Ideal) v0 v1 v2) (ix2 0 s) = (∑ r : Fin 256, rowTerm (fun p : Fin 4096 => v0 (ix2 r p)) (fun p : Fin 4096 => v1 (ix2 0 p)) (fun p : Fin 4096 => v2 (ix2 r p)) s : EReal) := by
  unfold k0_pay2
  pointwise
  simp only [normed_entry, shared_entry]
  rfl

theorem half_is : half = ((1 / 2 : ℝ) : EReal) := by
  simp [half, Ideal.ofBits, Ideal.ieee]
  rw [← EReal.coe_mul]
  norm_num

theorem loss_entry (v0 : Vec Ideal S256x4096 .f32) (v1 : Vec Ideal S1x4096 .f32) (v2 : Vec Ideal S256x4096 .f32) (l : Fin 128) :
    k0_pay8 (F := Ideal) v0 v1 v2 (ix2 0 l) = (∑ r : Fin 256, rowLoss (fun p : Fin 4096 => v0 (ix2 r p)) (fun p : Fin 4096 => v1 (ix2 0 p)) (fun p : Fin 4096 => v2 (ix2 r p)) * half : EReal) := by
  unfold k0_pay8
  pointwise
  simp only [miss_entry, Fin.sum_univ_one]
  show half * (∑ r : Fin 256, rowLoss (fun p : Fin 4096 => v0 (ix2 r p)) (fun p : Fin 4096 => v1 (ix2 0 p)) (fun p : Fin 4096 => v2 (ix2 r p))) = ∑ r : Fin 256, rowLoss (fun p : Fin 4096 => v0 (ix2 r p)) (fun p : Fin 4096 => v1 (ix2 0 p)) (fun p : Fin 4096 => v2 (ix2 r p)) * half
  rw [half_is, Cert.Norm.sum_mul_coe (1 / 2) (by norm_num), mul_comm]

theorem later_term (n g : Vec Ideal S256x4096 .f32) (v : Vec Ideal S1x4096 .f32) (y : S1x4096.Idx) :
    k0_pay3 (F := Ideal) n g v y = (v y + k0_pay2 (F := Ideal) n g y : EReal) := by
  unfold k0_pay3
  exact congrArg (· + k0_pay2 (F := Ideal) n g y) (shapeCast_apply v _ y y rfl)

theorem later_loss (p v : Vec Ideal S1x128 .f32) (y : S1x128.Idx) : k0_pay4 (F := Ideal) p v y = (v y + p y : EReal) := by
  unfold k0_pay4
  exact congrArg (· + p y) (shapeCast_apply v _ y y rfl)

/-! ### What the points leave -/

theorem dh_first (t : Fin cfg0.N) (h0 : t.val % 16 = 0) (h1 : ¬1 ≤ t.val) : (outsAt0 m c t.val t.isLt).1 = k0_pay10 (F := Ideal) (iblk m c 0 t) (iblk m c 1 t) (iblk m c 2 t) := by
  rw [outsAt0_A m c t h0 h1]
  frame_out
  all_goals rfl

theorem rounded_first (t : Fin cfg0.N) (h0 : t.val % 16 = 0) (h1 : ¬1 ≤ t.val) : (outsAt0 m c t.val t.isLt).2.1 = k0_pay1 (F := Ideal) (k0_pay10 (F := Ideal) (iblk m c 0 t) (iblk m c 1 t) (iblk m c 2 t)) := by
  rw [outsAt0_A m c t h0 h1]
  frame_out
  all_goals rfl

theorem dw_first (t : Fin cfg0.N) (h0 : t.val % 16 = 0) (h1 : ¬1 ≤ t.val) : (outsAt0 m c t.val t.isLt).2.2.1 = k0_pay2 (F := Ideal) (k0_pay6 (F := Ideal) (iblk m c 0 t)) (k0_pay9 (F := Ideal) (iblk m c 0 t) (iblk m c 1 t) (iblk m c 2 t)) := by
  rw [outsAt0_A m c t h0 h1]
  frame_out
  all_goals rfl

theorem loss_first (t : Fin cfg0.N) (h0 : t.val % 16 = 0) (h1 : ¬1 ≤ t.val) : (outsAt0 m c t.val t.isLt).2.2.2 = k0_pay8 (F := Ideal) (iblk m c 0 t) (iblk m c 1 t) (iblk m c 2 t) := by
  rw [outsAt0_A m c t h0 h1]
  frame_out
  all_goals rfl

theorem dh_later (t : Fin cfg0.N) (h0 : ¬t.val % 16 = 0) (h1 : 1 ≤ t.val) : (outsAt0 m c t.val t.isLt).1 = k0_pay10 (F := Ideal) (iblk m c 0 t) (iblk m c 1 t) (iblk m c 2 t) := by
  rw [outsAt0_B m c t h0 h1]
  frame_out
  all_goals rfl

theorem rounded_later (t : Fin cfg0.N) (h0 : ¬t.val % 16 = 0) (h1 : 1 ≤ t.val) : (outsAt0 m c t.val t.isLt).2.1 = k0_pay1 (F := Ideal) (k0_pay10 (F := Ideal) (iblk m c 0 t) (iblk m c 1 t) (iblk m c 2 t)) := by
  rw [outsAt0_B m c t h0 h1]
  frame_out
  all_goals rfl

theorem dw_later (t : Fin cfg0.N) (h0 : ¬t.val % 16 = 0) (h1 : 1 ≤ t.val) : (outsAt0 m c t.val t.isLt).2.2.1 = k0_pay3 (F := Ideal) (k0_pay6 (F := Ideal) (iblk m c 0 t)) (k0_pay9 (F := Ideal) (iblk m c 0 t) (iblk m c 1 t) (iblk m c 2 t)) (outsAt0 m c (t.val - 1) (Nat.lt_of_le_of_lt (Nat.sub_le _ _) t.isLt)).2.2.1 := by
  rw [outsAt0_B m c t h0 h1]
  frame_out
  all_goals rfl

theorem loss_later (t : Fin cfg0.N) (h0 : ¬t.val % 16 = 0) (h1 : 1 ≤ t.val) : (outsAt0 m c t.val t.isLt).2.2.2 = k0_pay4 (F := Ideal) (k0_pay8 (F := Ideal) (iblk m c 0 t) (iblk m c 1 t) (iblk m c 2 t)) (outsAt0 m c (t.val - 1) (Nat.lt_of_le_of_lt (Nat.sub_le _ _) t.isLt)).2.2.2 := by
  rw [outsAt0_B m c t h0 h1]
  frame_out
  all_goals rfl

theorem dh_at (t : Fin cfg0.N) : (outsAt0 m c t.val t.isLt).1 = k0_pay10 (F := Ideal) (iblk m c 0 t) (iblk m c 1 t) (iblk m c 2 t) := by
  have h : cfg0.N = 16 := rfl
  rcases Nat.eq_zero_or_pos t.val with h0 | h0
  · exact dh_first m c t (by omega) (by omega)
  · exact dh_later m c t (by omega) (by omega)

theorem rounded_at (t : Fin cfg0.N) : (outsAt0 m c t.val t.isLt).2.1 = k0_pay1 (F := Ideal) (k0_pay10 (F := Ideal) (iblk m c 0 t) (iblk m c 1 t) (iblk m c 2 t)) := by
  have h : cfg0.N = 16 := rfl
  rcases Nat.eq_zero_or_pos t.val with h0 | h0
  · exact rounded_first m c t (by omega) (by omega)
  · exact rounded_later m c t (by omega) (by omega)

/-- The rows of one point's block. -/
theorem term_part (t : Fin cfg0.N) (s : Fin 4096) :
    k0_pay2 (F := Ideal) (k0_pay6 (F := Ideal) (iblk m c 0 t)) (k0_pay9 (F := Ideal) (iblk m c 0 t) (iblk m c 1 t) (iblk m c 2 t)) (ix2 0 s) = part (fun u => rowTerm (row (argH m c) u) (only (argW m c)) (row (argT m c) u) s) t.val := by
  have ht : t.val < 16 := t.isLt
  rw [term_entry, part, dif_pos ht]
  refine same_sum _ _ fun r => ?_
  rw [block_0, block_1, block_2]

theorem loss_part (t : Fin cfg0.N) (l : Fin 128) :
    k0_pay8 (F := Ideal) (iblk m c 0 t) (iblk m c 1 t) (iblk m c 2 t) (ix2 0 l) = part (fun u => rowLoss (row (argH m c) u) (only (argW m c)) (row (argT m c) u) * half) t.val := by
  have ht : t.val < 16 := t.isLt
  rw [loss_entry, part, dif_pos ht]
  refine same_sum _ _ fun r => ?_
  rw [block_0, block_1, block_2]

theorem dw_at (s : Fin 4096) (n : ℕ) (h : n < cfg0.N) :
    ((outsAt0 m c n h).2.2.1 (ix2 0 s) : EReal) = ∑ q ∈ Finset.range (n + 1), part (fun u => rowTerm (row (argH m c) u) (only (argW m c)) (row (argT m c) u) s) q := by
  refine Cert.Norm.accumulate (M := cfg0.N) (fun n h => ((outsAt0 m c n h).2.2.1 (ix2 0 s) : EReal)) _ (fun h => ?_) (fun n h => ?_) n h
  · show (outsAt0 m c (⟨0, h⟩ : Fin cfg0.N).val (⟨0, h⟩ : Fin cfg0.N).isLt).2.2.1 (ix2 0 s) = _
    rw [dw_first m c ⟨0, h⟩ rfl (by show ¬1 ≤ 0; decide)]
    exact term_part m c ⟨0, h⟩ s
  · have hN : n + 1 < 16 := h
    show (outsAt0 m c (⟨n + 1, h⟩ : Fin cfg0.N).val (⟨n + 1, h⟩ : Fin cfg0.N).isLt).2.2.1 (ix2 0 s) = _
    rw [dw_later m c ⟨n + 1, h⟩ (by show ¬(n + 1) % 16 = 0; omega) (by show 1 ≤ n + 1; omega)]
    exact (later_term _ _ _ _).trans (congrArg₂ (· + ·) rfl (term_part m c ⟨n + 1, h⟩ s))

theorem loss_at (l : Fin 128) (n : ℕ) (h : n < cfg0.N) :
    ((outsAt0 m c n h).2.2.2 (ix2 0 l) : EReal) = ∑ q ∈ Finset.range (n + 1), part (fun u => rowLoss (row (argH m c) u) (only (argW m c)) (row (argT m c) u) * half) q := by
  refine Cert.Norm.accumulate (M := cfg0.N) (fun n h => ((outsAt0 m c n h).2.2.2 (ix2 0 l) : EReal)) _ (fun h => ?_) (fun n h => ?_) n h
  · show (outsAt0 m c (⟨0, h⟩ : Fin cfg0.N).val (⟨0, h⟩ : Fin cfg0.N).isLt).2.2.2 (ix2 0 l) = _
    rw [loss_first m c ⟨0, h⟩ rfl (by show ¬1 ≤ 0; decide)]
    exact loss_part m c ⟨0, h⟩ l
  · have hN : n + 1 < 16 := h
    show (outsAt0 m c (⟨n + 1, h⟩ : Fin cfg0.N).val (⟨n + 1, h⟩ : Fin cfg0.N).isLt).2.2.2 (ix2 0 l) = _
    rw [loss_later m c ⟨n + 1, h⟩ (by show ¬(n + 1) % 16 = 0; omega) (by show 1 ≤ n + 1; omega)]
    exact (later_loss _ _ _).trans (congrArg₂ (· + ·) rfl (loss_part m c ⟨n + 1, h⟩ l))

/-! ### The arrays the kernel leaves -/

theorem computed_dh : (dats m 0 c).arrAt 3 cfg0.N = dh (argH m c) (argW m c) (argT m c) := by
  refine (dats m 0 c).arrAt_eq_of_covers 3 _ (by decide +kernel) fun t hf y => ?_
  blk_simp
  rw [after0_3, dh_at m c t]
  obtain ⟨r, s, rfl⟩ : ∃ (r : Fin 256) (s : Fin 4096), y = ix2 r s := ⟨y 0, y 1, funext fun a => match a with | ⟨0, _⟩ => rfl | ⟨1, _⟩ => rfl⟩
  have ht : t.val < 16 := t.isLt
  refine Eq.trans ?_ (congrArg _ (at_0 t r s)).symm
  rw [slope_entry, block_0, block_1, block_2]
  rfl

theorem computed_rounded : (dats m 0 c).arrAt 4 cfg0.N = dh (argH m c) (argW m c) (argT m c) := by
  refine (dats m 0 c).arrAt_eq_of_covers 4 _ (by decide +kernel) fun t hf y => ?_
  blk_simp
  rw [after0_4, rounded_at m c t]
  obtain ⟨r, s, rfl⟩ : ∃ (r : Fin 256) (s : Fin 4096), y = ix2 r s := ⟨y 0, y 1, funext fun a => match a with | ⟨0, _⟩ => rfl | ⟨1, _⟩ => rfl⟩
  have ht : t.val < 16 := t.isLt
  refine Eq.trans ?_ (congrArg _ (at_0 t r s)).symm
  refine (rounded_entry _ _).trans ?_
  rw [slope_entry, block_0, block_1, block_2]
  rfl

theorem computed_dw : (dats m 0 c).arrAt 5 cfg0.N = dw (argH m c) (argW m c) (argT m c) := by
  refine (dats m 0 c).arrAt_eq_of_covers 5 _ (by decide +kernel) fun t hf y => ?_
  blk_simp
  rw [after0_5]
  obtain ⟨s, rfl⟩ : ∃ (s : Fin 4096), y = ix2 0 s := ⟨y 1, funext fun a => match a with | ⟨0, _⟩ => Subsingleton.elim (α := Fin 1) _ _ | ⟨1, _⟩ => rfl⟩
  have ht : t.val < 16 := t.isLt
  have hk : t.val % 16 = 15 := (flush0_5 _).mp hf
  refine Eq.trans ?_ (congrArg _ (at_1 t s)).symm
  refine (dw_at m c s t.val t.isLt).trans ?_
  obtain hv : t.val + 1 = 16 := by omega
  rw [hv]
  exact Cert.Norm.parts _

theorem computed_loss : (dats m 0 c).arrAt 6 cfg0.N = loss (argH m c) (argW m c) (argT m c) := by
  refine (dats m 0 c).arrAt_eq_of_covers 6 _ (by decide +kernel) fun t hf y => ?_
  blk_simp
  rw [after0_6]
  obtain ⟨l, rfl⟩ : ∃ (l : Fin 128), y = ix2 0 l := ⟨y 1, funext fun a => match a with | ⟨0, _⟩ => Subsingleton.elim (α := Fin 1) _ _ | ⟨1, _⟩ => rfl⟩
  have ht : t.val < 16 := t.isLt
  have hk : t.val % 16 = 15 := (flush0_6 _).mp hf
  have e := place_6 t
  have q : ((win0_6.blk t).view.emb (ix2 0 l)) = (ix2 0 l : S1x128.Idx) := by
    refine funext fun a => Fin.ext ?_
    match a with
    | ⟨0, _⟩ => blk_simp; simp [e, ix2]; try omega
    | ⟨1, _⟩ => blk_simp; simp [e, ix2]; try omega
  refine Eq.trans ?_ (congrArg _ q).symm
  refine (loss_at m c l t.val t.isLt).trans ?_
  obtain hv : t.val + 1 = 16 := by omega
  rw [hv]
  exact Cert.Norm.parts _

/-! ### The reference -/

/-- The half of minus one that the differentiated norm multiplies by. -/
abbrev minusHalf : EReal := Ideal.ofBits .f32 0xBF000000#32

theorem share_is : share = ((1 / 4096 : ℝ) : EReal) := by
  simp [share, Ideal.ofBits, Ideal.ieee]
  rw [← EReal.coe_mul]
  norm_num

theorem one_is : Ideal.ofBits .f32 0x3F800000#32 = ((1 : ℝ) : EReal) := by
  simp [Ideal.ofBits, Ideal.ieee]
  rw [← EReal.coe_mul]
  norm_num

theorem two_is : Ideal.ofBits .f32 0x40000000#32 = ((2 : ℝ) : EReal) := by
  simp [Ideal.ofBits, Ideal.ieee]
  rw [← EReal.coe_mul]
  norm_num

/-- Half of one over the width, times twice the distance, is one over the width times it. -/
theorem shared (a : EReal) :
    Ideal.div (half * Ideal.ofBits .f32 0x3F800000#32) width * (Ideal.ofBits .f32 0x40000000#32 * a) = a * share := by
  have e : width = ((4096 : ℝ) : EReal) := Cert.Norm.width
  rw [half_is, one_is, two_is, share_is, e, Cert.Norm.div_coe _ 4096 (by norm_num), ← EReal.coe_mul, ← EReal.coe_mul, ← mul_assoc, ← EReal.coe_mul, mul_comm]
  congr 2
  norm_num

theorem reference_square (x : Vec Ideal S4096x4096 .f32) (u : Fin 4096) :
    Cert.LossHeadRefIdeal.Read.val_main_v7 (F := Ideal) x (ix2 u 0) = Cert.Norm.square width small (row x u) := by
  rw [Cert.LossHeadRefIdeal.Read.val_main_v7_apply, Cert.LossHeadRefIdeal.Read.val_main_v5_apply, Cert.LossHeadRefIdeal.Read.val_main_v3_apply, Cert.LossHeadRefIdeal.Read.val_main_v2_apply, Cert.LossHeadRefIdeal.Read.val_main_v4_apply, Cert.LossHeadRefIdeal.Read.val_main_v6_apply]
  refine congrArg (fun a => (Ideal.div a width + small : EReal)) ?_
  refine (congrArg₂ (· + ·) Ideal.ofBits_zero_f32 (same_sum _ (fun p : Fin 4096 => (row x u p * row x u p : EReal)) fun p => ?_)).trans (zero_add _)
  rw [Cert.LossHeadRefIdeal.Read.val_main_v1_apply]
  exact congrArg (fun i => (x i * x i : EReal)) (funext fun a => match a with | ⟨0, _⟩ => rfl | ⟨1, _⟩ => rfl)

theorem reference_scale (x : Vec Ideal S4096x4096 .f32) (u : Fin 4096) :
    Cert.LossHeadRefIdeal.Read.val_main_v8 (F := Ideal) x (ix2 u 0) = scale width small (row x u) := by
  rw [Cert.LossHeadRefIdeal.Read.val_main_v8_apply, reference_square]
  rfl

theorem reference_normed (x : Vec Ideal S4096x4096 .f32) (u k : Fin 4096) :
    Cert.LossHeadRefIdeal.Read.val_main_v13 (F := Ideal) x (ix2 u k) = (row x u k * scale width small (row x u) : EReal) := by
  have i : Cert.LossHeadRefIdeal.Read.idx_main_v12 (ix2 u k) = ix2 u 0 := (funext fun a => match a with | ⟨0, _⟩ => rfl | ⟨1, _⟩ => rfl)
  rw [Cert.LossHeadRefIdeal.Read.val_main_v13_apply, Cert.LossHeadRefIdeal.Read.val_main_v12_apply, i, reference_scale]
  rfl

theorem reference_weight (w : Vec Ideal S1x4096 .f32) (k : Fin 4096) : Cert.LossHeadRefIdeal.Read.val_main_v14 (F := Ideal) w (ix2 0 k) = only w k := by
  rw [Cert.LossHeadRefIdeal.Read.val_main_v14_apply, Cert.LossHeadRefIdeal.Read.val_main_v0_apply]
  refine congrArg w (funext fun a => Fin.ext ?_)
  match a with
  | ⟨0, _⟩ => rfl
  | ⟨1, _⟩ => show k.val % 4096 = k.val; omega

theorem reference_miss (h : Vec Ideal S4096x4096 .f32) (w : Vec Ideal S1x4096 .f32) (z : Vec Ideal S4096x4096 .f32) (u k : Fin 4096) :
    Cert.LossHeadRefIdeal.Read.val_main_v17 (F := Ideal) h w z (ix2 u k) = miss (row h u) (only w) (row z u) k := by
  have i : Cert.LossHeadRefIdeal.Read.idx_main_v15 (ix2 u k) = ix2 0 k := (funext fun a => match a with | ⟨0, _⟩ => rfl | ⟨1, _⟩ => rfl)
  rw [Cert.LossHeadRefIdeal.Read.val_main_v17_apply, Cert.LossHeadRefIdeal.Read.val_main_v16_apply, Cert.LossHeadRefIdeal.Read.val_main_v15_apply, i, reference_weight, reference_normed]
  rfl

theorem reference_incoming (h : Vec Ideal S4096x4096 .f32) (w : Vec Ideal S1x4096 .f32) (z : Vec Ideal S4096x4096 .f32) (u k : Fin 4096) :
    Cert.LossHeadRefIdeal.Read.val_main_v31 (F := Ideal) h w z (ix2 u k) = (miss (row h u) (only w) (row z u) k * share : EReal) := by
  rw [Cert.LossHeadRefIdeal.Read.val_main_v31_apply, Cert.LossHeadRefIdeal.Read.val_main_v30_apply, Cert.LossHeadRefIdeal.Read.val_main_v29_apply, Cert.LossHeadRefIdeal.Read.val_main_v28_apply, Cert.LossHeadRefIdeal.Read.val_main_v27_apply, Cert.LossHeadRefIdeal.Read.val_main_v26_apply, Cert.LossHeadRefIdeal.Read.val_main_v20_apply, Cert.LossHeadRefIdeal.Read.val_main_v19_apply, reference_miss]
  exact shared _

theorem reference_scaled (h : Vec Ideal S4096x4096 .f32) (w : Vec Ideal S1x4096 .f32) (z : Vec Ideal S4096x4096 .f32) (u k : Fin 4096) :
    Cert.LossHeadRefIdeal.Read.val_main_v36 (F := Ideal) h w z (ix2 u k) = (miss (row h u) (only w) (row z u) k * share * only w k : EReal) := by
  have i : Cert.LossHeadRefIdeal.Read.idx_main_v35 (ix2 u k) = ix2 0 k := (funext fun a => match a with | ⟨0, _⟩ => rfl | ⟨1, _⟩ => rfl)
  rw [Cert.LossHeadRefIdeal.Read.val_main_v36_apply, Cert.LossHeadRefIdeal.Read.val_main_v35_apply, i, reference_weight, reference_incoming]
  rfl

theorem reference_mean (h : Vec Ideal S4096x4096 .f32) (w : Vec Ideal S1x4096 .f32) (z : Vec Ideal S4096x4096 .f32) (u k : Fin 4096) :
    Cert.LossHeadRefIdeal.Read.val_main_v47 (F := Ideal) h w z (ix2 u k) = Ideal.div ((∑ p : Fin 4096, row h u p * (miss (row h u) (only w) (row z u) p * share * only w p)) * (minusHalf * Ideal.div (scale width small (row h u)) (Cert.Norm.square width small (row h u)))) width := by
  rw [Cert.LossHeadRefIdeal.Read.val_main_v47_apply, Cert.LossHeadRefIdeal.Read.val_main_v46_apply, Fin.sum_univ_one]
  refine (congrArg₂ (· + ·) Ideal.ofBits_zero_f32 ?_).trans (zero_add _)
  have i : Cert.LossHeadRefIdeal.Read.idx_main_v46 (Cert.LossHeadRefIdeal.Read.idx_main_v47 (ix2 u k)) 0 = ix2 u 0 := (funext fun a => match a with | ⟨0, _⟩ => rfl | ⟨1, _⟩ => rfl)
  rw [i, Cert.LossHeadRefIdeal.Read.val_main_v45_apply, Cert.LossHeadRefIdeal.Read.val_main_v43_apply, Cert.LossHeadRefIdeal.Read.val_main_v11_apply, Cert.LossHeadRefIdeal.Read.val_main_v10_apply, Cert.LossHeadRefIdeal.Read.val_main_v9_apply, reference_scale, reference_square, Cert.LossHeadRefIdeal.Read.val_main_v40_apply, Cert.LossHeadRefIdeal.Read.val_main_v39_apply]
  refine congrArg (fun a => Ideal.div (a * (minusHalf * Ideal.div (scale width small (row h u)) (Cert.Norm.square width small (row h u)))) width) ?_
  refine (congrArg₂ (· + ·) Ideal.ofBits_zero_f32 (same_sum _ (fun p : Fin 4096 => (row h u p * (miss (row h u) (only w) (row z u) p * share * only w p) : EReal)) fun p => ?_)).trans (zero_add _)
  have j : Cert.LossHeadRefIdeal.Read.idx_main_v39 (Cert.LossHeadRefIdeal.Read.idx_main_v40 (ix2 u 0)) p = ix2 u p := funext fun a => Fin.ext (by
    match a with
    | ⟨0, _⟩ => show u.val * 1 + 0 = u.val; omega
    | ⟨1, _⟩ => rfl)
  rw [j, Cert.LossHeadRefIdeal.Read.val_main_v38_apply, reference_scaled]
  rfl

theorem reference_dh (h : Vec Ideal S4096x4096 .f32) (w : Vec Ideal S1x4096 .f32) (z : Vec Ideal S4096x4096 .f32) : Cert.LossHeadRefIdeal.Read.val_main_v51 (F := Ideal) h w z = dh h w z := by
  funext y
  obtain ⟨u, k, rfl⟩ : ∃ (u k : Fin 4096), y = ix2 u k := ⟨y 0, y 1, funext fun a => match a with | ⟨0, _⟩ => rfl | ⟨1, _⟩ => rfl⟩
  have i : Cert.LossHeadRefIdeal.Read.idx_main_v41 (ix2 u k) = ix2 u 0 := (funext fun a => match a with | ⟨0, _⟩ => rfl | ⟨1, _⟩ => rfl)
  rw [Cert.LossHeadRefIdeal.Read.val_main_v51_apply, Cert.LossHeadRefIdeal.Read.val_main_v49_apply, Cert.LossHeadRefIdeal.Read.val_main_v42_apply, Cert.LossHeadRefIdeal.Read.val_main_v41_apply, Cert.LossHeadRefIdeal.Read.val_main_v48_apply, Cert.LossHeadRefIdeal.Read.val_main_v50_apply, i, reference_scale, reference_scaled]
  exact Cert.Norm.slope_of width small minusHalf ⟨4096, by norm_num, Cert.Norm.width⟩ Cert.Norm.small Cert.Norm.minus_half
    (row h u) (fun p : Fin 4096 => (miss (row h u) (only w) (row z u) p * share * only w p : EReal)) k _ (reference_mean h w z u k)

theorem reference_dw (h : Vec Ideal S4096x4096 .f32) (w : Vec Ideal S1x4096 .f32) (z : Vec Ideal S4096x4096 .f32) : Cert.LossHeadRefIdeal.Read.val_main_v53 (F := Ideal) h w z = dw h w z := by
  funext y
  obtain ⟨s, rfl⟩ : ∃ (s : Fin 4096), y = ix2 0 s := ⟨y 1, funext fun a => match a with | ⟨0, _⟩ => Subsingleton.elim (α := Fin 1) _ _ | ⟨1, _⟩ => rfl⟩
  rw [Cert.LossHeadRefIdeal.Read.val_main_v53_apply, Cert.LossHeadRefIdeal.Read.val_main_v37_apply, Fin.sum_univ_one, Cert.LossHeadRefIdeal.Read.val_main_v34_apply, Cert.LossHeadRefIdeal.Read.val_main_v33_apply]
  refine (congrArg₂ (· + ·) Ideal.ofBits_zero_f32 ?_).trans (zero_add _)
  refine (congrArg₂ (· + ·) Ideal.ofBits_zero_f32 (same_sum _ (fun u => rowTerm (row h u) (only w) (row z u) s) fun u => ?_)).trans (zero_add _)
  have j : Cert.LossHeadRefIdeal.Read.idx_main_v33 (Cert.LossHeadRefIdeal.Read.idx_main_v34 (Cert.LossHeadRefIdeal.Read.idx_main_v37 (Cert.LossHeadRefIdeal.Read.idx_main_v53 (ix2 0 s)) 0)) u = ix2 u s := funext fun a => Fin.ext (by
    match a with
    | ⟨0, _⟩ => rfl
    | ⟨1, _⟩ => show 0 * 4096 + s.val = s.val; omega)
  rw [j, Cert.LossHeadRefIdeal.Read.val_main_v32_apply, reference_normed, reference_incoming]
  exact mul_comm _ _

/-- A sum over the entries of a column is the sum over its rows. -/
theorem sum_rows (f : S4096.Idx → EReal) (g : Fin 4096 → EReal) (h : ∀ u, f (ix1 u) = g u) : ∑ j, f j = ∑ u, g u :=
  (Fintype.sum_equiv ⟨fun u => ix1 u, fun j => j 0, fun u => rfl, fun j => funext fun a => (match a with | ⟨0, _⟩ => rfl)⟩ g f fun u => (h u).symm).symm

theorem reference_loss (h : Vec Ideal S4096x4096 .f32) (w : Vec Ideal S1x4096 .f32) (z : Vec Ideal S4096x4096 .f32) : Cert.LossHeadRefIdeal.Read.val_main_v54 (F := Ideal) h w z = loss h w z := by
  funext y
  rw [Cert.LossHeadRefIdeal.Read.val_main_v54_apply, Cert.LossHeadRefIdeal.Read.val_main_v25_apply, Cert.LossHeadRefIdeal.Read.val_main_v24_apply]
  refine Eq.trans (b := (half * ∑ u : Fin 4096, rowLoss (row h u) (only w) (row z u) : EReal)) (congrArg (fun a => (half * a : EReal)) ?_) ?_
  · refine (congrArg₂ (· + ·) Ideal.ofBits_zero_f32 (sum_rows _ (fun u => rowLoss (row h u) (only w) (row z u)) fun u => ?_)).trans (zero_add _)
    rw [Cert.LossHeadRefIdeal.Read.val_main_v23_apply, Cert.LossHeadRefIdeal.Read.val_main_v22_apply, Cert.LossHeadRefIdeal.Read.val_main_v21_apply]
    refine congrArg (fun a => Ideal.div a width) ?_
    refine (congrArg₂ (· + ·) Ideal.ofBits_zero_f32 (same_sum _ (fun p => miss (row h u) (only w) (row z u) p * miss (row h u) (only w) (row z u) p) fun p => ?_)).trans (zero_add _)
    have i : Cert.LossHeadRefIdeal.Read.idx_main_v21 (ix1 u) p = ix2 u p := (funext fun a => match a with | ⟨0, _⟩ => rfl | ⟨1, _⟩ => rfl)
    rw [i, Cert.LossHeadRefIdeal.Read.val_main_v18_apply, reference_miss]
    rfl
  · show half * (∑ u : Fin 4096, rowLoss (row h u) (only w) (row z u)) = ∑ u : Fin 4096, rowLoss (row h u) (only w) (row z u) * half
    rw [half_is, Cert.Norm.sum_mul_coe (1 / 2) (by norm_num), mul_comm]

theorem agree : Cert.algebraic_LossHeadIdeal_LossHeadRefIdeal := by
  intro m g m' g' hp hm
  refine ⟨fun c => dh (argH m c) (argW m c) (argT m c), fun c => dh (argH m c) (argW m c) (argT m c), fun c => dw (argH m c) (argW m c) (argT m c), fun c => loss (argH m c) (argW m c) (argT m c), ?_, ?_⟩
  · refine (θ_run defs _ _).mono (fun r h c => ?_) (Value.run_blocks m g)
    exact ⟨(h c).1.trans (computed_dh m c), (h c).2.1.trans (computed_rounded m c), (h c).2.2.1.trans (computed_dw m c), (h c).2.2.2.1.trans (computed_loss m c), (h c).2.2.2.2⟩
  · refine (θ_run Cert.LossHeadRefIdeal.defs _ _).mono (fun r h c => ?_) (Cert.LossHeadRefIdeal.Value.run m' g')
    obtain ⟨e0, e1, e2⟩ := hm c
    refine ⟨?_, ?_, ?_, ?_, (h c).2.2.2.2⟩
    · rw [(h c).1, Cert.LossHeadRefIdeal.Read.val_main_v51_eq, e0, e1, e2]
      exact reference_dh _ _ _
    · rw [(h c).2.1, Cert.LossHeadRefIdeal.Read.val_main_v52_eq, e0, e1, e2]
      exact reference_dh _ _ _
    · rw [(h c).2.2.1, e0, e1, e2]
      exact (Cert.LossHeadRefIdeal.Read.val_main_v53_eq (F := Ideal) _ _ _).trans (reference_dw _ _ _)
    · rw [(h c).2.2.2.1, e0, e1, e2]
      exact (Cert.LossHeadRefIdeal.Read.val_main_v54_eq (F := Ideal) _ _ _).trans (reference_loss _ _ _)

end Cert.LossHeadIdeal
-- ==== Proof.NormFwd.lean ====
module

public import proofs.«01_k».proof.Defs
public import proofs.«01_k».proof.Proof.Norm
public import proofs.«01_k».proof.Proof.Gen.NormFwdIdeal
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.NormFwdRefIdeal

open Idealize.ShloMosaic Idealize.ShloMosaic.TcCoe
open Idealize.SL.Sem

/-- The reference runs on the host alone: it leaves its arguments as they were, and it has no semaphores. -/
theorem frame_holds : Cert.quiescent_NormFwdRefIdeal := fun m g _ =>
  (θ_run _ _ _).mono (fun r h => ⟨fun c => (h c).2, sem_eq_zero_of_no_sems rfl r.2⟩) (Value.run m g)

end Cert.NormFwdRefIdeal

namespace Cert.NormFwdIdeal

open Idealize.ShloMosaic Idealize.ShloMosaic.TcCoe Idealize.ShloMosaic.Tactic
open Idealize.SL.Sem
open Cert.NormFwdIdeal.Gen
open Cert.Norm (scale slope part same_sum)

/-! ## The norm before the input projection -/

variable (m : (ℓ : Loc nD τ sig) → Buf (Elt Ideal) ℓ) (c : Dev nD)

/-- The arguments on one device: the rows, and the weight of the norm. -/
abbrev argX : Vec Ideal S4096x4096 .f32 := m ((c.tc : Thread nD τ).loc main_arg0)
abbrev argW : Vec Ideal S1x4096 .f32 := m ((c.tc : Thread nD τ).loc main_arg1)

/-- The width of a row, and the small number added to the mean square. -/
abbrev width : EReal := Ideal.ofBits .f32 0x45800000#32
abbrev small : EReal := Ideal.ofBits .f32 0x358637BD#32

def normed (x w : Fin 4096 → EReal) (k : Fin 4096) : EReal := x k * scale width small x * w k

/-- One row of an array. -/
def row (x : Vec Ideal S4096x4096 .f32) (u : Fin 4096) : Fin 4096 → EReal := fun p => x (ix2 u p)
def only (w : Vec Ideal S1x4096 .f32) : Fin 4096 → EReal := fun p => w (ix2 0 p)

def result (x : Vec Ideal S4096x4096 .f32) (w : Vec Ideal S1x4096 .f32) : Vec Ideal S4096x4096 .bf16 := fun y => normed (row x (y 0)) (only w) (y 1)

/-! ### The blocks of the grid's points -/

theorem place_0 : ∀ t : Fin cfg0.N, win0_0.index t = ![t.val, 0] :=
  (by decide +kernel : ∀ t : Fin grid0.N, win0_0.index t = ![t.val, 0])

theorem place_1 : ∀ t : Fin cfg0.N, win0_1.index t = ![0, 0] :=
  (by decide +kernel : ∀ t : Fin grid0.N, win0_1.index t = ![0, 0])

/-- An entry of a block of an array laid out as argument 0 is, in its array. -/
theorem at_0 (t : Fin cfg0.N) (r : Fin 256) (s : Fin 4096) : (win0_0.blk t).view.emb (ix2 r s) = (ix2 ⟨256 * t.val + r.val, by have h : t.val < 16 := t.isLt; omega⟩ s : S4096x4096.Idx) := by
  refine funext fun a => Fin.ext ?_
  have e := place_0 t
  match a with
  | ⟨0, _⟩ => blk_simp; simp [e, ix2]; try omega
  | ⟨1, _⟩ => blk_simp; simp [e, ix2]; try omega

theorem block_0 (t : Fin cfg0.N) (r : Fin 256) : (fun p : Fin 4096 => iblk m c 0 t (ix2 r p)) = row (argX m c) ⟨256 * t.val + r.val, by have h : t.val < 16 := t.isLt; omega⟩ :=
  funext fun p => congrArg (argX m c) (at_0 t r p)

theorem block_1 (t : Fin cfg0.N) : (fun p : Fin 4096 => iblk m c 1 t (ix2 (0 : Fin 1) p)) = only (argW m c) := by
  funext p
  unfold iblk only
  blk_simp
  refine congrArg (argW m c) (funext fun a => Fin.ext ?_)
  have e := place_1 t
  match a with
  | ⟨0, _⟩ => blk_simp; simp [e, ix2]; try omega
  | ⟨1, _⟩ => blk_simp; simp [e, ix2]; try omega

/-- What one point computes, from a block `v0` of the rows and the weight `v1`. -/
theorem entry (v0 : Vec Ideal S256x4096 .f32) (v1 : Vec Ideal S1x4096 .f32) (r : Fin 256) (s : Fin 4096) :
    k0_pay1 (F := Ideal) v0 v1 (ix2 r s) = normed (fun p : Fin 4096 => v0 (ix2 r p)) (fun p : Fin 4096 => v1 (ix2 0 p)) s := by
  unfold k0_pay1
  pointwise
  rfl

/-- The array the kernel leaves. -/
theorem computed : (dats m 0 c).arrAt 2 cfg0.N = result (argX m c) (argW m c) := by
  refine (dats m 0 c).arrAt_eq_of_covers 2 _ (by decide +kernel) fun t hf y => ?_
  blk_simp
  rw [after0_2]
  unfold out0_2
  simp (disch := decide) only [View.ld_unit_lit']
  rw [View.canon_unit_zero (View.eq_zero_of_forall (by decide))]
  obtain ⟨r, s, rfl⟩ : ∃ (r : Fin 256) (s : Fin 4096), y = ix2 r s := ⟨y 0, y 1, funext fun a => match a with | ⟨0, _⟩ => rfl | ⟨1, _⟩ => rfl⟩
  have ht : t.val < 16 := t.isLt
  refine Eq.trans ?_ (congrArg _ (at_0 t r s)).symm
  rw [entry, block_0, block_1]
  rfl

/-! ### The reference -/

theorem reference_square (x : Vec Ideal S4096x4096 .f32) (u : Fin 4096) :
    Cert.NormFwdRefIdeal.Read.val_main_v7 (F := Ideal) x (ix2 u 0) = Cert.Norm.square width small (row x u) := by
  rw [Cert.NormFwdRefIdeal.Read.val_main_v7_apply, Cert.NormFwdRefIdeal.Read.val_main_v5_apply, Cert.NormFwdRefIdeal.Read.val_main_v3_apply, Cert.NormFwdRefIdeal.Read.val_main_v2_apply, Cert.NormFwdRefIdeal.Read.val_main_v4_apply, Cert.NormFwdRefIdeal.Read.val_main_v6_apply]
  refine congrArg (fun a => (Ideal.div a width + small : EReal)) ?_
  refine (congrArg₂ (· + ·) Ideal.ofBits_zero_f32 (same_sum _ (fun p : Fin 4096 => (row x u p * row x u p : EReal)) fun p => ?_)).trans (zero_add _)
  rw [Cert.NormFwdRefIdeal.Read.val_main_v1_apply]
  exact congrArg (fun i => (x i * x i : EReal)) (funext fun a => match a with | ⟨0, _⟩ => rfl | ⟨1, _⟩ => rfl)

theorem reference_weight (w : Vec Ideal S1x4096 .f32) (k : Fin 4096) : Cert.NormFwdRefIdeal.Read.val_main_v11 (F := Ideal) w (ix2 0 k) = only w k := by
  rw [Cert.NormFwdRefIdeal.Read.val_main_v11_apply, Cert.NormFwdRefIdeal.Read.val_main_v0_apply]
  refine congrArg w (funext fun a => Fin.ext ?_)
  match a with
  | ⟨0, _⟩ => rfl
  | ⟨1, _⟩ => show k.val % 4096 = k.val; omega

theorem reference_result (x : Vec Ideal S4096x4096 .f32) (w : Vec Ideal S1x4096 .f32) : Cert.NormFwdRefIdeal.Read.val_main_v14 (F := Ideal) x w = result x w := by
  funext y
  obtain ⟨u, k, rfl⟩ : ∃ (u : Fin 4096) (k : Fin 4096), y = ix2 u k := ⟨y 0, y 1, funext fun a => match a with | ⟨0, _⟩ => rfl | ⟨1, _⟩ => rfl⟩
  have i : Cert.NormFwdRefIdeal.Read.idx_main_v12 (ix2 u k) = ix2 0 k := (funext fun a => match a with | ⟨0, _⟩ => rfl | ⟨1, _⟩ => rfl)
  have j : Cert.NormFwdRefIdeal.Read.idx_main_v9 (ix2 u k) = ix2 u 0 := (funext fun a => match a with | ⟨0, _⟩ => rfl | ⟨1, _⟩ => rfl)
  rw [Cert.NormFwdRefIdeal.Read.val_main_v14_apply, Cert.NormFwdRefIdeal.Read.val_main_v13_apply, Cert.NormFwdRefIdeal.Read.val_main_v10_apply, Cert.NormFwdRefIdeal.Read.val_main_v12_apply, i, reference_weight, Cert.NormFwdRefIdeal.Read.val_main_v9_apply, j, Cert.NormFwdRefIdeal.Read.val_main_v8_apply, reference_square]
  rfl

theorem agree : Cert.algebraic_NormFwdIdeal_NormFwdRefIdeal := by
  intro m g m' g' hp hm
  refine ⟨fun c => result (argX m c) (argW m c), ?_, ?_⟩
  · refine (θ_run defs _ _).mono (fun r h c => ?_) (Value.run_blocks m g)
    exact ⟨(h c).1.trans (computed m c), (h c).2⟩
  · refine (θ_run Cert.NormFwdRefIdeal.defs _ _).mono (fun r h c => ?_) (Cert.NormFwdRefIdeal.Value.run m' g')
    obtain ⟨e0, e1⟩ := hm c
    refine ⟨?_, (h c).2⟩
    rw [(h c).1, e0, e1]
    exact (Cert.NormFwdRefIdeal.Read.val_main_v14_eq (F := Ideal) _ _).trans (reference_result _ _)

end Cert.NormFwdIdeal
-- ==== Proof.HalfNormFwd.lean ====
module

public import proofs.«01_k».proof.Defs
public import proofs.«01_k».proof.Proof.Norm
public import proofs.«01_k».proof.Proof.Gen.HalfNormFwdIdeal
public import proofs.«01_k».proof.Proof.Gen.HalfNormFwdIdeal.Value
public import proofs.«01_k».proof.Proof.Gen.HalfNormFwdRefIdeal
public import proofs.«01_k».proof.Proof.Gen.HalfNormFwdRefIdeal.Run
public import proofs.«01_k».proof.Proof.Gen.HalfNormFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.HalfNormFwdRefIdeal

open Idealize.ShloMosaic Idealize.ShloMosaic.TcCoe
open Idealize.SL.Sem

/-- The reference runs on the host alone: it leaves its arguments as they were, and it has no semaphores. -/
theorem frame_holds : Cert.quiescent_HalfNormFwdRefIdeal := fun m g _ =>
  (θ_run _ _ _).mono (fun r h => ⟨fun c => (h c).2, sem_eq_zero_of_no_sems rfl r.2⟩) (Value.run m g)

end Cert.HalfNormFwdRefIdeal

namespace Cert.HalfNormFwdIdeal

open Idealize.ShloMosaic Idealize.ShloMosaic.TcCoe Idealize.ShloMosaic.Tactic
open Idealize.SL.Sem
open Cert.HalfNormFwdIdeal.Gen
open Cert.Norm (scale slope part same_sum)

/-! ## The norm of one half of the mixed rows -/

variable (m : (ℓ : Loc nD τ sig) → Buf (Elt Ideal) ℓ) (c : Dev nD)

/-- The arguments on one device: the rows, and the weight of the norm. -/
abbrev argX : Vec Ideal S4096x2048 .f32 := m ((c.tc : Thread nD τ).loc main_arg0)
abbrev argW : Vec Ideal S1x2048 .f32 := m ((c.tc : Thread nD τ).loc main_arg1)

/-- The width of a row, and the small number added to the mean square. -/
abbrev width : EReal := Ideal.ofBits .f32 0x45000000#32
abbrev small : EReal := Ideal.ofBits .f32 0x358637BD#32

def normed (x w : Fin 2048 → EReal) (k : Fin 2048) : EReal := x k * scale width small x * w k

/-- One row of an array. -/
def row (x : Vec Ideal S4096x2048 .f32) (u : Fin 4096) : Fin 2048 → EReal := fun p => x (ix2 u p)
def only (w : Vec Ideal S1x2048 .f32) : Fin 2048 → EReal := fun p => w (ix2 0 p)

def result (x : Vec Ideal S4096x2048 .f32) (w : Vec Ideal S1x2048 .f32) : Vec Ideal S4096x2048 .bf16 := fun y => normed (row x (y 0)) (only w) (y 1)

/-! ### The blocks of the grid's points -/

theorem place_0 : ∀ t : Fin cfg0.N, win0_0.index t = ![t.val, 0] :=
  (by decide +kernel : ∀ t : Fin grid0.N, win0_0.index t = ![t.val, 0])

theorem place_1 : ∀ t : Fin cfg0.N, win0_1.index t = ![0, 0] :=
  (by decide +kernel : ∀ t : Fin grid0.N, win0_1.index t = ![0, 0])

/-- An entry of a block of an array laid out as argument 0 is, in its array. -/
theorem at_0 (t : Fin cfg0.N) (r : Fin 256) (s : Fin 2048) : (win0_0.blk t).view.emb (ix2 r s) = (ix2 ⟨256 * t.val + r.val, by have h : t.val < 16 := t.isLt; omega⟩ s : S4096x2048.Idx) := by
  refine funext fun a => Fin.ext ?_
  have e := place_0 t
  match a with
  | ⟨0, _⟩ => blk_simp; simp [e, ix2]; try omega
  | ⟨1, _⟩ => blk_simp; simp [e, ix2]; try omega

theorem block_0 (t : Fin cfg0.N) (r : Fin 256) : (fun p : Fin 2048 => iblk m c 0 t (ix2 r p)) = row (argX m c) ⟨256 * t.val + r.val, by have h : t.val < 16 := t.isLt; omega⟩ :=
  funext fun p => congrArg (argX m c) (at_0 t r p)

theorem block_1 (t : Fin cfg0.N) : (fun p : Fin 2048 => iblk m c 1 t (ix2 (0 : Fin 1) p)) = only (argW m c) := by
  funext p
  unfold iblk only
  blk_simp
  refine congrArg (argW m c) (funext fun a => Fin.ext ?_)
  have e := place_1 t
  match a with
  | ⟨0, _⟩ => blk_simp; simp [e, ix2]; try omega
  | ⟨1, _⟩ => blk_simp; simp [e, ix2]; try omega

/-- What one point computes, from a block `v0` of the rows and the weight `v1`. -/
theorem entry (v0 : Vec Ideal S256x2048 .f32) (v1 : Vec Ideal S1x2048 .f32) (r : Fin 256) (s : Fin 2048) :
    k0_pay1 (F := Ideal) v0 v1 (ix2 r s) = normed (fun p : Fin 2048 => v0 (ix2 r p)) (fun p : Fin 2048 => v1 (ix2 0 p)) s := by
  unfold k0_pay1
  pointwise
  rfl

/-- The array the kernel leaves. -/
theorem computed : (dats m 0 c).arrAt 2 cfg0.N = result (argX m c) (argW m c) := by
  refine (dats m 0 c).arrAt_eq_of_covers 2 _ (by decide +kernel) fun t hf y => ?_
  blk_simp
  rw [after0_2]
  unfold out0_2
  simp (disch := decide) only [View.ld_unit_lit']
  rw [View.canon_unit_zero (View.eq_zero_of_forall (by decide))]
  obtain ⟨r, s, rfl⟩ : ∃ (r : Fin 256) (s : Fin 2048), y = ix2 r s := ⟨y 0, y 1, funext fun a => match a with | ⟨0, _⟩ => rfl | ⟨1, _⟩ => rfl⟩
  have ht : t.val < 16 := t.isLt
  refine Eq.trans ?_ (congrArg _ (at_0 t r s)).symm
  rw [entry, block_0, block_1]
  rfl

/-! ### The reference -/

theorem reference_square (x : Vec Ideal S4096x2048 .f32) (u : Fin 4096) :
    Cert.HalfNormFwdRefIdeal.Read.val_main_v7 (F := Ideal) x (ix2 u 0) = Cert.Norm.square width small (row x u) := by
  rw [Cert.HalfNormFwdRefIdeal.Read.val_main_v7_apply, Cert.HalfNormFwdRefIdeal.Read.val_main_v5_apply, Cert.HalfNormFwdRefIdeal.Read.val_main_v3_apply, Cert.HalfNormFwdRefIdeal.Read.val_main_v2_apply, Cert.HalfNormFwdRefIdeal.Read.val_main_v4_apply, Cert.HalfNormFwdRefIdeal.Read.val_main_v6_apply]
  refine congrArg (fun a => (Ideal.div a width + small : EReal)) ?_
  refine (congrArg₂ (· + ·) Ideal.ofBits_zero_f32 (same_sum _ (fun p : Fin 2048 => (row x u p * row x u p : EReal)) fun p => ?_)).trans (zero_add _)
  rw [Cert.HalfNormFwdRefIdeal.Read.val_main_v1_apply]
  exact congrArg (fun i => (x i * x i : EReal)) (funext fun a => match a with | ⟨0, _⟩ => rfl | ⟨1, _⟩ => rfl)

theorem reference_weight (w : Vec Ideal S1x2048 .f32) (k : Fin 2048) : Cert.HalfNormFwdRefIdeal.Read.val_main_v11 (F := Ideal) w (ix2 0 k) = only w k := by
  rw [Cert.HalfNormFwdRefIdeal.Read.val_main_v11_apply, Cert.HalfNormFwdRefIdeal.Read.val_main_v0_apply]
  refine congrArg w (funext fun a => Fin.ext ?_)
  match a with
  | ⟨0, _⟩ => rfl
  | ⟨1, _⟩ => show k.val % 2048 = k.val; omega

theorem reference_result (x : Vec Ideal S4096x2048 .f32) (w : Vec Ideal S1x2048 .f32) : Cert.HalfNormFwdRefIdeal.Read.val_main_v14 (F := Ideal) x w = result x w := by
  funext y
  obtain ⟨u, k, rfl⟩ : ∃ (u : Fin 4096) (k : Fin 2048), y = ix2 u k := ⟨y 0, y 1, funext fun a => match a with | ⟨0, _⟩ => rfl | ⟨1, _⟩ => rfl⟩
  have i : Cert.HalfNormFwdRefIdeal.Read.idx_main_v12 (ix2 u k) = ix2 0 k := (funext fun a => match a with | ⟨0, _⟩ => rfl | ⟨1, _⟩ => rfl)
  have j : Cert.HalfNormFwdRefIdeal.Read.idx_main_v9 (ix2 u k) = ix2 u 0 := (funext fun a => match a with | ⟨0, _⟩ => rfl | ⟨1, _⟩ => rfl)
  rw [Cert.HalfNormFwdRefIdeal.Read.val_main_v14_apply, Cert.HalfNormFwdRefIdeal.Read.val_main_v13_apply, Cert.HalfNormFwdRefIdeal.Read.val_main_v10_apply, Cert.HalfNormFwdRefIdeal.Read.val_main_v12_apply, i, reference_weight, Cert.HalfNormFwdRefIdeal.Read.val_main_v9_apply, j, Cert.HalfNormFwdRefIdeal.Read.val_main_v8_apply, reference_square]
  rfl

theorem agree : Cert.algebraic_HalfNormFwdIdeal_HalfNormFwdRefIdeal := by
  intro m g m' g' hp hm
  refine ⟨fun c => result (argX m c) (argW m c), ?_, ?_⟩
  · refine (θ_run defs _ _).mono (fun r h c => ?_) (Value.run_blocks m g)
    exact ⟨(h c).1.trans (computed m c), (h c).2⟩
  · refine (θ_run Cert.HalfNormFwdRefIdeal.defs _ _).mono (fun r h c => ?_) (Cert.HalfNormFwdRefIdeal.Value.run m' g')
    obtain ⟨e0, e1⟩ := hm c
    refine ⟨?_, (h c).2⟩
    rw [(h c).1, e0, e1]
    exact (Cert.HalfNormFwdRefIdeal.Read.val_main_v14_eq (F := Ideal) _ _).trans (reference_result _ _)

end Cert.HalfNormFwdIdeal
-- ==== Proof.ActFwd.lean ====
module

public import proofs.«01_k».proof.Defs
public import proofs.«01_k».proof.Proof.Gen.ActFwdIdeal
public import proofs.«01_k».proof.Proof.Gen.ActFwdIdeal.Value
public import proofs.«01_k».proof.Proof.Gen.ActFwdRefIdeal
public import proofs.«01_k».proof.Proof.Gen.ActFwdRefIdeal.Run
public import proofs.«01_k».proof.Proof.Gen.ActFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.ActFwdRefIdeal

open Idealize.ShloMosaic Idealize.ShloMosaic.TcCoe
open Idealize.SL.Sem

/-- The reference runs on the host alone: it leaves its arguments as they were, and it has no semaphores. -/
theorem frame_holds : Cert.quiescent_ActFwdRefIdeal := fun m g _ =>
  (θ_run _ _ _).mono (fun r h => ⟨fun c => (h c).2, sem_eq_zero_of_no_sems rfl r.2⟩) (Value.run m g)

end Cert.ActFwdRefIdeal

namespace Cert.ActFwdIdeal

open Idealize.ShloMosaic Idealize.ShloMosaic.TcCoe Idealize.ShloMosaic.Tactic
open Idealize.SL.Sem
open Cert.ActFwdIdeal.Gen

/-! ## The convolution of width three over both halves, and the gate

A block holds 2048 rows of 512 channels of each half. -/

/-- Row `r`, channel `l` of a block, and nothing outside it. -/
def cell (x : Vec Ideal S2048x512 .f32) (r : ℕ) (l : Fin 512) : EReal := if h : r < 2048 then x (ix2 ⟨r, h⟩ l) else 0

/-- The row `d` places before, and zero before the first. -/
def late (x : Vec Ideal S2048x512 .f32) (d r : ℕ) (l : Fin 512) : EReal := if d ≤ r then cell x (r - d) l else 0

/-- An offset, and three rows times their taps. -/
def three (b p2 t0 p1 t1 p0 t2 : EReal) : EReal := b + p2 * t0 + p1 * t1 + p0 * t2

def blend (x : Vec Ideal S2048x512 .f32) (w : Vec Ideal S3x512 .f32) (b : Vec Ideal S1x512 .f32) (r : ℕ) (l : Fin 512) : EReal :=
  three (b (ix2 0 l)) (late x 2 r l) (w (ix2 0 l)) (late x 1 r l) (w (ix2 1 l)) (cell x r l) (w (ix2 2 l))

/-- The gate's silu times the value. -/
def gated (g v : EReal) : EReal := g * Ideal.logistic g * v

section Block
variable (x0 x1 : Vec Ideal S2048x512 .f32) (x2 x3 : Vec Ideal S3x512 .f32) (x4 x5 : Vec Ideal S1x512 .f32)

def entry (r : ℕ) (l : Fin 512) : EReal := gated (blend x0 x2 x4 r l) (blend x1 x3 x5 r l)

/-- The whole block of the result. -/
def made : Vec Ideal S2048x512 .bf16 := fun y => entry x0 x1 x2 x3 x4 x5 (y 0).val (y 1)

/-! ### Loads -/

theorem rows_read (x : Vec Ideal S2048x512 .f32) (o : ℕ) (h : ∀ a, (![o, 0] : Fin 2 → ℕ) a + S128x512.size a ≤ S2048x512.size a) (r : Fin 128) (l : Fin 512) :
    View.ld x (Rect.unit (s := S2048x512) ![o, 0] S128x512.size h) (ix2 r l) = cell x (o + r.val) l := by
  have ho : o + 128 ≤ 2048 := h 0
  unfold cell
  rw [dif_pos (by omega)]
  refine congrArg x (funext fun a => Fin.ext ?_)
  match a with
  | ⟨0, _⟩ => show o + 1 * r.val = o + r.val; omega
  | ⟨1, _⟩ => show 0 + 1 * l.val = l.val; omega

theorem tap_read (x : Vec Ideal S3x512 .f32) (j : Fin 3) (h : ∀ a, (![j.val, 0] : Fin 2 → ℕ) a + S1x512.size a ≤ S3x512.size a) (l : Fin 512) :
    View.ld x (Rect.unit (s := S3x512) ![j.val, 0] S1x512.size h) (ix2 0 l) = x (ix2 j l) := by
  refine congrArg x (funext fun a => Fin.ext ?_)
  match a with
  | ⟨0, _⟩ => show j.val + 1 * 0 = j.val; omega
  | ⟨1, _⟩ => show 0 + 1 * l.val = l.val; omega

theorem offset_read (x : Vec Ideal S1x512 .f32) (h : ∀ a, (![0, 0] : Fin 2 → ℕ) a + S1x512.size a ≤ S1x512.size a) (l : Fin 512) :
    View.ld x (Rect.unit (s := S1x512) ![0, 0] S1x512.size h) (ix2 0 l) = x (ix2 0 l) := by
  refine congrArg x (funext fun a => Fin.ext ?_)
  match a with
  | ⟨0, _⟩ => rfl
  | ⟨1, _⟩ => show 0 + 1 * l.val = l.val; omega

/-! ### One tile of 128 rows -/

theorem later_entry (b c : Vec Ideal S1x512 .f32) (g0 g2 : Vec Ideal S128x512 .f32) (s0 : Vec Ideal S1x512 .f32) (g1 : Vec Ideal S128x512 .f32)
    (s1 s2 : Vec Ideal S1x512 .f32) (v0 v2 : Vec Ideal S128x512 .f32) (t0 : Vec Ideal S1x512 .f32) (v1 : Vec Ideal S128x512 .f32)
    (t1 t2 : Vec Ideal S1x512 .f32) (r : Fin 128) (l : Fin 512) :
    k0_pay29 (F := Ideal) b c g0 g2 s0 g1 s1 s2 v0 v2 t0 v1 t1 t2 (ix2 r l)
      = gated (three (b (ix2 0 l)) (g2 (ix2 r l)) (s0 (ix2 0 l)) (g1 (ix2 r l)) (s1 (ix2 0 l)) (g0 (ix2 r l)) (s2 (ix2 0 l)))
          (three (c (ix2 0 l)) (v2 (ix2 r l)) (t0 (ix2 0 l)) (v1 (ix2 r l)) (t1 (ix2 0 l)) (v0 (ix2 r l)) (t2 (ix2 0 l))) := by
  unfold k0_pay29
  pointwise
  rfl

theorem cell_late (x : Vec Ideal S2048x512 .f32) (d o p : ℕ) (r : ℕ) (l : Fin 512) (e : p + d = o) : cell x (p + r) l = late x d (o + r) l := by
  unfold late
  rw [if_pos (by omega)]
  exact congrArg (fun q => cell x q l) (by omega)

/-- A tile that is not the first: the rows before it are in the block. -/
theorem later_tile (o p q : ℕ) (hp : p + 2 = o) (hq : q + 1 = o)
    (h0 : ∀ a, (![o, 0] : Fin 2 → ℕ) a + S128x512.size a ≤ S2048x512.size a)
    (h2 : ∀ a, (![p, 0] : Fin 2 → ℕ) a + S128x512.size a ≤ S2048x512.size a)
    (h1 : ∀ a, (![q, 0] : Fin 2 → ℕ) a + S128x512.size a ≤ S2048x512.size a) (r : Fin 128) (l : Fin 512) :
    k0_pay29 (F := Ideal) (View.ld x4 r0_0) (View.ld x5 r0_0)
        (View.ld x0 (Rect.unit (s := S2048x512) ![o, 0] S128x512.size h0)) (View.ld x0 (Rect.unit (s := S2048x512) ![p, 0] S128x512.size h2)) (View.ld x2 r0_2)
        (View.ld x0 (Rect.unit (s := S2048x512) ![q, 0] S128x512.size h1)) (View.ld x2 r0_3) (View.ld x2 r0_4)
        (View.ld x1 (Rect.unit (s := S2048x512) ![o, 0] S128x512.size h0)) (View.ld x1 (Rect.unit (s := S2048x512) ![p, 0] S128x512.size h2)) (View.ld x3 r0_2)
        (View.ld x1 (Rect.unit (s := S2048x512) ![q, 0] S128x512.size h1)) (View.ld x3 r0_3) (View.ld x3 r0_4) (ix2 r l)
      = entry x0 x1 x2 x3 x4 x5 (o + r.val) l := by
  refine (later_entry _ _ _ _ _ _ _ _ _ _ _ _ _ _ r l).trans ?_
  rw [rows_read, rows_read, rows_read, rows_read, rows_read, rows_read, offset_read, offset_read]
  rw [cell_late x0 2 o p _ l hp, cell_late x0 1 o q _ l hq, cell_late x1 2 o p _ l hp, cell_late x1 1 o q _ l hq]
  rw [show View.ld x2 r0_2 (ix2 0 l) = x2 (ix2 0 l) from tap_read x2 0 _ l, show View.ld x2 r0_3 (ix2 0 l) = x2 (ix2 1 l) from tap_read x2 1 _ l,
    show View.ld x2 r0_4 (ix2 0 l) = x2 (ix2 2 l) from tap_read x2 2 _ l, show View.ld x3 r0_2 (ix2 0 l) = x3 (ix2 0 l) from tap_read x3 0 _ l,
    show View.ld x3 r0_3 (ix2 0 l) = x3 (ix2 1 l) from tap_read x3 1 _ l, show View.ld x3 r0_4 (ix2 0 l) = x3 (ix2 2 l) from tap_read x3 2 _ l]
  rfl

/-- The first tile's rows moved down by two, zeros moved in. -/
theorem shifted_two (x : FVec Ideal S128x512 .f32) (r : Fin 128) (l : Fin 512) :
    extractStridedSlice S128x512 ![8, 0] (dynamicRotate 0 2#32 none (concatenate S136x512 0 [⟨S8x512, k0_pay2 (F := Ideal)⟩, ⟨S128x512, x⟩]
        concatenates_S8x512_S128x512_S136x512_d0) rotates_S136x512_d0) slices_S136x512_o8_0_S128x512 (ix2 r l)
      = if h : 2 ≤ r.val then x (ix2 ⟨r.val - 2, by omega⟩ l) else 0 := by
  unfold k0_pay2
  pointwise
  have hr := r.isLt
  have e : (8 + r.val + 136 - 2) % 136 = 6 + r.val := by omega
  by_cases h : 2 ≤ r.val
  · rw [dif_pos h, dif_neg (by omega)]
    refine congrArg x ?_
    refine congrArg (fun q => ix2 q l) (Fin.ext ?_)
    simp only [e]
    omega
  · rw [dif_neg h, dif_pos (by omega)]

theorem shifted_one (x : FVec Ideal S128x512 .f32) (r : Fin 128) (l : Fin 512) :
    k0_pay4 (F := Ideal) x (ix2 r l) = if h : 1 ≤ r.val then x (ix2 ⟨r.val - 1, by omega⟩ l) else 0 := by
  unfold k0_pay4 k0_pay2
  pointwise
  have hr := r.isLt
  have e : (8 + r.val + 136 - 1) % 136 = 7 + r.val := by omega
  by_cases h : 1 ≤ r.val
  · rw [dif_pos h, dif_neg (by omega)]
    refine congrArg x ?_
    refine congrArg (fun q => ix2 q l) (Fin.ext ?_)
    simp only [e]
    omega
  · rw [dif_neg h, dif_pos (by omega)]

/-- The rows a tile of zeros is joined to, moved down by two. -/
def moved (x : FVec Ideal S128x512 .f32) : FVec Ideal S128x512 .f32 :=
  extractStridedSlice S128x512 ![8, 0] (dynamicRotate 0 2#32 none (concatenate S136x512 0 [⟨S8x512, k0_pay2 (F := Ideal)⟩, ⟨S128x512, x⟩]
    concatenates_S8x512_S128x512_S136x512_d0) rotates_S136x512_d0) slices_S136x512_o8_0_S128x512

/-- The first tile is a later one with the moved rows for the rows before. -/
theorem first_is (b c s0 s1 s2 t0 t1 t2 : Vec Ideal S1x512 .f32) (g v : Vec Ideal S128x512 .f32) :
    k0_pay6 (F := Ideal) (k0_pay3 b g s0 s1 s2) v (k0_pay4 v) (k0_pay5 c v t0) t1 t2
      = k0_pay29 (F := Ideal) b c g (moved g) s0 (k0_pay4 g) s1 s2 v (moved v) t0 (k0_pay4 v) t1 t2 := rfl

theorem moved_late (x : Vec Ideal S2048x512 .f32) (h0) (r : Fin 128) (l : Fin 512) :
    moved (View.ld x (Rect.unit (s := S2048x512) ![0, 0] S128x512.size h0)) (ix2 r l) = late x 2 (0 + r.val) l := by
  refine (shifted_two _ r l).trans ?_
  have hr := r.isLt
  unfold late
  by_cases h : 2 ≤ r.val
  · rw [dif_pos h, if_pos (by omega), rows_read]
    exact congrArg (fun q => cell x q l) (by show 0 + (r.val - 2) = _; omega)
  · rw [dif_neg h, if_neg (by omega)]

theorem before_late (x : Vec Ideal S2048x512 .f32) (h0) (r : Fin 128) (l : Fin 512) :
    k0_pay4 (F := Ideal) (View.ld x (Rect.unit (s := S2048x512) ![0, 0] S128x512.size h0)) (ix2 r l) = late x 1 (0 + r.val) l := by
  refine (shifted_one _ r l).trans ?_
  have hr := r.isLt
  unfold late
  by_cases h : 1 ≤ r.val
  · rw [dif_pos h, if_pos (by omega), rows_read]
    exact congrArg (fun q => cell x q l) (by show 0 + (r.val - 1) = _; omega)
  · rw [dif_neg h, if_neg (by omega)]

theorem first_tile (r : Fin 128) (l : Fin 512) :
    k0_pay6 (F := Ideal) (k0_pay3 (View.ld x4 r0_0) (View.ld x0 r0_1) (View.ld x2 r0_2) (View.ld x2 r0_3) (View.ld x2 r0_4)) (View.ld x1 r0_1)
        (k0_pay4 (View.ld x1 r0_1)) (k0_pay5 (View.ld x5 r0_0) (View.ld x1 r0_1) (View.ld x3 r0_2)) (View.ld x3 r0_3) (View.ld x3 r0_4) (ix2 r l)
      = entry x0 x1 x2 x3 x4 x5 (0 + r.val) l := by
  rw [first_is]
  refine (later_entry _ _ _ _ _ _ _ _ _ _ _ _ _ _ r l).trans ?_
  rw [moved_late, moved_late, before_late, before_late, rows_read, rows_read, offset_read, offset_read]
  rw [show View.ld x2 r0_2 (ix2 0 l) = x2 (ix2 0 l) from tap_read x2 0 _ l, show View.ld x2 r0_3 (ix2 0 l) = x2 (ix2 1 l) from tap_read x2 1 _ l,
    show View.ld x2 r0_4 (ix2 0 l) = x2 (ix2 2 l) from tap_read x2 2 _ l, show View.ld x3 r0_2 (ix2 0 l) = x3 (ix2 0 l) from tap_read x3 0 _ l,
    show View.ld x3 r0_3 (ix2 0 l) = x3 (ix2 1 l) from tap_read x3 1 _ l, show View.ld x3 r0_4 (ix2 0 l) = x3 (ix2 2 l) from tap_read x3 2 _ l]
  rfl

/-! ### The sixteen tiles of a block -/

theorem made_at (o : ℕ) (h : ∀ a, (![o, 0] : Fin 2 → ℕ) a + S128x512.size a ≤ S2048x512.size a) (r : Fin 128) (l : Fin 512) :
    made x0 x1 x2 x3 x4 x5 ((Rect.unit (s := S2048x512) ![o, 0] S128x512.size h).emb (ix2 r l)) = entry x0 x1 x2 x3 x4 x5 (o + r.val) l := by
  refine congrArg₂ (entry x0 x1 x2 x3 x4 x5) ?_ (Fin.ext ?_)
  · show o + 1 * r.val = o + r.val; omega
  · show 0 + 1 * l.val = l.val; omega

theorem pair (x : S128x512.Idx) : ∃ (r : Fin 128) (l : Fin 512), x = ix2 r l :=
  ⟨x 0, x 1, funext fun a => match a with | ⟨0, _⟩ => rfl | ⟨1, _⟩ => rfl⟩

theorem block_made : out0_6 (F := Ideal) x0 x1 x2 x3 x4 x5 = made x0 x1 x2 x3 x4 x5 := by
  funext y
  unfold out0_6
  refine View.canon_apply_of_pieces (made x0 x1 x2 x3 x4 x5) _ ?_ y (cover0_6 _ _ _ _ _ _ _ _ _ _ _ _ _ _ _ _ y)
  iterate 15
    refine List.forall_mem_cons.mpr ⟨fun x => ?_, ?_⟩
    · obtain ⟨r, l, rfl⟩ := pair x
      refine (later_tile x0 x1 x2 x3 x4 x5 _ _ _ ?_ ?_ ?_ ?_ ?_ r l).trans (Eq.symm (made_at x0 x1 x2 x3 x4 x5 _ ?_ r l)) <;> first | rfl | decide
  refine List.forall_mem_cons.mpr ⟨fun x => ?_, fun p hp => absurd hp List.not_mem_nil⟩
  obtain ⟨r, l, rfl⟩ := pair x
  refine (first_tile x0 x1 x2 x3 x4 x5 r l).trans (Eq.symm ?_)
  exact made_at x0 x1 x2 x3 x4 x5 0 inb_S2048x512_S128x512_0_0 r l

end Block

/-! ### The reference, one entry at a time

A column of the reference's arrays is compared with channel `l` of a block; `b` is the sequence. The hypotheses say that the
block holds that column. -/

section Reference
open Cert.ActFwdRefIdeal.Read

variable (x : Vec Ideal S4096x22528 .f32) (w : Vec Ideal S3x22528 .f32) (p : Vec Ideal S1x22528 .f32)
  (X : Vec Ideal S2048x512 .f32) (W : Vec Ideal S3x512 .f32) (P : Vec Ideal S1x512 .f32) (b : Fin 2) (c : Fin 22528) (l : Fin 512)

def Holds : Prop := ∀ r : Fin 2048, X (ix2 r l) = x (ix2 ⟨2048 * b.val + r.val, by omega⟩ c)
def HoldsTaps : Prop := ∀ j : Fin 3, W (ix2 j l) = w (ix2 j c)
def HoldsOffset : Prop := P (ix2 0 l) = p (ix2 0 c)

theorem reference_rows (s : Fin 2048) : val_main_v0 (F := Ideal) x (ix3 b s c) = x (ix2 ⟨2048 * b.val + s.val, by omega⟩ c) := by
  rw [val_main_v0_apply]
  refine congrArg x (funext fun a => ?_)
  fin_cases a <;> (refine Fin.ext ?_) <;> simp [idx_main_v0, ix2, ix3] <;> omega

theorem reference_led (h : Holds x X b c l) (r : Fin 2050) : val_main_v3 (F := Ideal) x (ix3 b r c) = late X 2 r.val l := by
  unfold val_main_v3
  pointwise
  unfold late
  have hr := r.isLt
  by_cases i : r.val < 2
  · rw [dif_pos i, if_neg (by omega)]
    unfold val_main_v2 val_main_cst
    pointwise
    done
  · rw [dif_neg i]
    refine (reference_rows x b c ⟨r.val - 2, by omega⟩).trans ?_
    rw [if_pos (by omega), cell, dif_pos (by omega), h]

theorem reference_two (h : Holds x X b c l) (s : Fin 2048) : val_main_v4 (F := Ideal) x (ix3 b s c) = late X 2 s.val l := by
  unfold val_main_v4
  pointwise
  exact (reference_led x X b c l h _).trans (by simp)

theorem reference_one (h : Holds x X b c l) (s : Fin 2048) : val_main_v13 (F := Ideal) x (ix3 b s c) = late X 1 s.val l := by
  unfold val_main_v13
  pointwise
  refine (reference_led x X b c l h _).trans ?_
  simp only [late]
  by_cases i : 1 ≤ s.val
  · rw [if_pos (by omega), if_pos i]; congr 1; omega
  · rw [if_neg (by omega), if_neg i]

theorem reference_zero (h : Holds x X b c l) (s : Fin 2048) : val_main_v20 (F := Ideal) x (ix3 b s c) = cell X s.val l := by
  unfold val_main_v20
  pointwise
  refine (reference_led x X b c l h _).trans ?_
  simp only [late]
  rw [if_pos (by omega)]; congr 1; omega

theorem reference_tap0 (s : Fin 2048) : val_main_v8 (F := Ideal) w (ix3 b s c) = w (ix2 0 c) := by
  unfold val_main_v8 val_main_v7 val_main_v6 val_main_v5
  pointwise
  done

theorem reference_tap1 (s : Fin 2048) : val_main_v17 (F := Ideal) w (ix3 b s c) = w (ix2 1 c) := by
  unfold val_main_v17 val_main_v16 val_main_v15 val_main_v14
  pointwise
  done

theorem reference_tap2 (s : Fin 2048) : val_main_v24 (F := Ideal) w (ix3 b s c) = w (ix2 2 c) := by
  unfold val_main_v24 val_main_v23 val_main_v22 val_main_v21
  pointwise
  done

theorem reference_offset (s : Fin 2048) : val_main_v11 (F := Ideal) p (ix3 b s c) = p (ix2 0 c) := by
  unfold val_main_v11 val_main_v10 val_main_v1
  pointwise
  done

theorem reference_blend (h : Holds x X b c l) (i : HoldsTaps w W c l) (j : HoldsOffset p P c l) (s : Fin 2048) :
    val_main_v26 (F := Ideal) x w p (ix3 b s c) = blend X W P s.val l := by
  unfold val_main_v26 val_main_v25 val_main_v19 val_main_v18 val_main_v12 val_main_v9
  pointwise
  rw [reference_offset, reference_tap0, reference_tap1, reference_tap2, reference_zero x X b c l h, reference_one x X b c l h,
    reference_two x X b c l h, blend, three, i, i, i, j]

theorem reference_logistic (y : Cert.ActFwdRefIdeal.S2x2048x11264.Idx) :
    val_main_call0_v5 (F := Ideal) x w p y = Ideal.logistic (val_main_v27 (F := Ideal) x w p y) := by
  unfold val_main_call0_v5 val_main_call0_v4 val_main_call0_v3 val_main_call0_v2 val_main_call0_v1 val_main_call0_v0
  unfold val_main_call0_cst val_main_call0_cst_0
  pointwise
  simp [Ideal.logistic]

end Reference

section Together
open Cert.ActFwdRefIdeal.Read

variable (x : Vec Ideal S4096x22528 .f32) (w : Vec Ideal S3x22528 .f32) (p : Vec Ideal S1x22528 .f32)
  (x0 x1 : Vec Ideal S2048x512 .f32) (x2 x3 : Vec Ideal S3x512 .f32) (x4 x5 : Vec Ideal S1x512 .f32) (b : Fin 2) (k : Fin 11264) (l : Fin 512)

/-- A channel of the first half, and the one as far on in the second. -/
def front (k : Fin 11264) : Fin 22528 := ⟨k.val, by omega⟩
def behind (k : Fin 11264) : Fin 22528 := ⟨11264 + k.val, by omega⟩

theorem reference_entry (h0 : Holds x x0 b (front k) l) (h1 : Holds x x1 b (behind k) l) (h2 : HoldsTaps w x2 (front k) l)
    (h3 : HoldsTaps w x3 (behind k) l) (h4 : HoldsOffset p x4 (front k) l) (h5 : HoldsOffset p x5 (behind k) l) (s : Fin 2048) :
    val_main_v32 (F := Ideal) x w p (ix2 ⟨2048 * b.val + s.val, by omega⟩ k) = entry x0 x1 x2 x3 x4 x5 s.val l := by
  have g : val_main_v27 (F := Ideal) x w p (ix3 b s k) = blend x0 x2 x4 s.val l := by
    refine Eq.trans ?_ (reference_blend x w p x0 x2 x4 b (front k) l h0 h2 h4 s)
    unfold val_main_v27
    pointwise
    refine congrArg _ ?_
    simp [front]
  have v : val_main_v28 (F := Ideal) x w p (ix3 b s k) = blend x1 x3 x5 s.val l := by
    refine Eq.trans ?_ (reference_blend x w p x1 x3 x5 b (behind k) l h1 h3 h5 s)
    unfold val_main_v28
    pointwise
    refine congrArg _ ?_
    simp [behind]
  have i : idx_main_v31 (ix2 ⟨2048 * b.val + s.val, by omega⟩ k) = ix3 b s k := by
    refine funext fun a => ?_
    fin_cases a <;> (refine Fin.ext ?_) <;> simp [idx_main_v31, ix2, ix3] <;> omega
  rw [val_main_v32_apply, val_main_v31_apply, i, val_main_v30_apply, val_main_v29_apply, reference_logistic, g, v]
  rfl

end Together

/-! ### The array the kernel leaves -/

variable (m : (ℓ : Loc nD τ sig) → Buf (Elt Ideal) ℓ) (c : Dev nD)

/-- The arguments on one device: the rows, the taps and the offsets. -/
abbrev argX : Vec Ideal S4096x22528 .f32 := m ((c.tc : Thread nD τ).loc main_arg0)
abbrev argW : Vec Ideal S3x22528 .f32 := m ((c.tc : Thread nD τ).loc main_arg1)
abbrev argB : Vec Ideal S1x22528 .f32 := m ((c.tc : Thread nD τ).loc main_arg2)

theorem place_0 : ∀ t : Fin cfg0.N, win0_0.index t = ![t.val % 2, t.val / 2] :=
  (by decide +kernel : ∀ t : Fin grid0.N, win0_0.index t = ![t.val % 2, t.val / 2])

theorem place_1 : ∀ t : Fin cfg0.N, win0_1.index t = ![t.val % 2, 22 + t.val / 2] :=
  (by decide +kernel : ∀ t : Fin grid0.N, win0_1.index t = ![t.val % 2, 22 + t.val / 2])

theorem place_2 : ∀ t : Fin cfg0.N, win0_2.index t = ![0, t.val / 2] :=
  (by decide +kernel : ∀ t : Fin grid0.N, win0_2.index t = ![0, t.val / 2])

theorem place_3 : ∀ t : Fin cfg0.N, win0_3.index t = ![0, 22 + t.val / 2] :=
  (by decide +kernel : ∀ t : Fin grid0.N, win0_3.index t = ![0, 22 + t.val / 2])

theorem place_4 : ∀ t : Fin cfg0.N, win0_4.index t = ![0, t.val / 2] :=
  (by decide +kernel : ∀ t : Fin grid0.N, win0_4.index t = ![0, t.val / 2])

theorem place_5 : ∀ t : Fin cfg0.N, win0_5.index t = ![0, 22 + t.val / 2] :=
  (by decide +kernel : ∀ t : Fin grid0.N, win0_5.index t = ![0, 22 + t.val / 2])

theorem place_6 : ∀ t : Fin cfg0.N, win0_6.index t = ![t.val % 2, t.val / 2] :=
  (by decide +kernel : ∀ t : Fin grid0.N, win0_6.index t = ![t.val % 2, t.val / 2])

/-- The sequence of a point, and the channel of its block's channel. -/
def seq (t : Fin cfg0.N) : Fin 2 := ⟨t.val % 2, by omega⟩
def chan (t : Fin cfg0.N) (l : Fin 512) : Fin 11264 := ⟨512 * (t.val / 2) + l.val, by have h : t.val < 44 := t.isLt; omega⟩

theorem block_0 (t : Fin cfg0.N) (l : Fin 512) : Holds (argX m c) (iblk m c 0 t) (seq t) (front (chan t l)) l := by
  intro r
  unfold iblk
  blk_simp
  refine congrArg (argX m c) (funext fun a => Fin.ext ?_)
  have e := place_0 t
  match a with
  | ⟨0, _⟩ => blk_simp; simp [e, ix2, seq]; try omega
  | ⟨1, _⟩ => blk_simp; simp [e, ix2, chan, front]; try omega

theorem block_1 (t : Fin cfg0.N) (l : Fin 512) : Holds (argX m c) (iblk m c 1 t) (seq t) (behind (chan t l)) l := by
  intro r
  unfold iblk
  blk_simp
  refine congrArg (argX m c) (funext fun a => Fin.ext ?_)
  have e := place_1 t
  match a with
  | ⟨0, _⟩ => blk_simp; simp [e, ix2, seq]; try omega
  | ⟨1, _⟩ => blk_simp; simp [e, ix2, chan, behind]; try omega

theorem block_2 (t : Fin cfg0.N) (l : Fin 512) : HoldsTaps (argW m c) (iblk m c 2 t) (front (chan t l)) l := by
  intro j
  unfold iblk
  blk_simp
  refine congrArg (argW m c) (funext fun a => Fin.ext ?_)
  have e := place_2 t
  match a with
  | ⟨0, _⟩ => blk_simp; simp [e, ix2]; try omega
  | ⟨1, _⟩ => blk_simp; simp [e, ix2, chan, front]; try omega

theorem block_3 (t : Fin cfg0.N) (l : Fin 512) : HoldsTaps (argW m c) (iblk m c 3 t) (behind (chan t l)) l := by
  intro j
  unfold iblk
  blk_simp
  refine congrArg (argW m c) (funext fun a => Fin.ext ?_)
  have e := place_3 t
  match a with
  | ⟨0, _⟩ => blk_simp; simp [e, ix2]; try omega
  | ⟨1, _⟩ => blk_simp; simp [e, ix2, chan, behind]; try omega

theorem block_4 (t : Fin cfg0.N) (l : Fin 512) : HoldsOffset (argB m c) (iblk m c 4 t) (front (chan t l)) l := by
  unfold HoldsOffset iblk
  blk_simp
  refine congrArg (argB m c) (funext fun a => Fin.ext ?_)
  have e := place_4 t
  match a with
  | ⟨0, _⟩ => blk_simp; simp [e, ix2]; try omega
  | ⟨1, _⟩ => blk_simp; simp [e, ix2, chan, front]; try omega

theorem block_5 (t : Fin cfg0.N) (l : Fin 512) : HoldsOffset (argB m c) (iblk m c 5 t) (behind (chan t l)) l := by
  unfold HoldsOffset iblk
  blk_simp
  refine congrArg (argB m c) (funext fun a => Fin.ext ?_)
  have e := place_5 t
  match a with
  | ⟨0, _⟩ => blk_simp; simp [e, ix2]; try omega
  | ⟨1, _⟩ => blk_simp; simp [e, ix2, chan, behind]; try omega

theorem computed : (dats m 0 c).arrAt 6 cfg0.N = Cert.ActFwdRefIdeal.Read.val_main_v32 (F := Ideal) (argX m c) (argW m c) (argB m c) := by
  refine (dats m 0 c).arrAt_eq_of_covers 6 _ (by decide +kernel) fun t hf y => ?_
  blk_simp
  rw [after0_6, block_made]
  obtain ⟨r, s, rfl⟩ : ∃ (r : Fin 2048) (s : Fin 512), y = ix2 r s := ⟨y 0, y 1, funext fun a => match a with | ⟨0, _⟩ => rfl | ⟨1, _⟩ => rfl⟩
  have ht : t.val < 44 := t.isLt
  have e := place_6 t
  have q : ((win0_6.blk t).view.emb (ix2 r s)) = (ix2 ⟨2048 * (seq t).val + r.val, by omega⟩ (chan t s) : S4096x11264.Idx) := by
    refine funext fun a => Fin.ext ?_
    match a with
    | ⟨0, _⟩ => blk_simp; simp [e, ix2, seq]; try omega
    | ⟨1, _⟩ => blk_simp; simp [e, ix2, chan]; try omega
  refine Eq.trans ?_ (congrArg _ q).symm
  exact (reference_entry (argX m c) (argW m c) (argB m c) (iblk m c 0 t) (iblk m c 1 t) (iblk m c 2 t) (iblk m c 3 t) (iblk m c 4 t) (iblk m c 5 t)
    (seq t) (chan t s) s (block_0 m c t s) (block_1 m c t s) (block_2 m c t s) (block_3 m c t s) (block_4 m c t s) (block_5 m c t s) r).symm

theorem agree : Cert.algebraic_ActFwdIdeal_ActFwdRefIdeal := by
  intro m g m' g' hp hm
  refine ⟨fun c => Cert.ActFwdRefIdeal.Read.val_main_v32 (F := Ideal) (argX m c) (argW m c) (argB m c), ?_, ?_⟩
  · refine (θ_run defs _ _).mono (fun r h c => ?_) (Value.run_blocks m g)
    exact ⟨(h c).1.trans (computed m c), (h c).2⟩
  · refine (θ_run Cert.ActFwdRefIdeal.defs _ _).mono (fun r h c => ?_) (Cert.ActFwdRefIdeal.Value.run m' g')
    obtain ⟨e0, e1, e2⟩ := hm c
    refine ⟨?_, (h c).2⟩
    rw [(h c).1]
    refine (Cert.ActFwdRefIdeal.Read.val_main_v32_eq (F := Ideal) m' c).trans ?_
    rw [e0, e1, e2]

end Cert.ActFwdIdeal
-- ==== Proof.Adam.lean ====
module

public import Idealize.ShloMosaic.Lib.Pointwise
public import Idealize.ShloMosaic.Lib.Pipeline.ValueKit

@[expose] public section

noncomputable section

namespace Cert.Adam

open Idealize.ShloMosaic

/-- The running mean of the gradient, after one more gradient `g`. -/
def first (g m : EReal) : EReal := Ideal.ofBits .f32 0x3F666666#32 * m + Ideal.ofBits .f32 0x3DCCCCCD#32 * g

/-- The running mean of the gradient's square. -/
def second (g v : EReal) : EReal := Ideal.ofBits .f32 0x3F7FBE77#32 * v + Ideal.ofBits .f32 0x3A83126F#32 * (g * g)

/-- What is added to the weight `w`. -/
def step (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- A device's own part and the three parts that it received. -/
def total (p : EReal) (q : Fin 3 → EReal) : EReal := p + q 0 + q 1 + q 2

theorem total_eq (p : EReal) (q : Fin 3 → EReal) : p + (Ideal.ofBits .f32 0x00000000#32 + ∑ k, q k) = total p q := by
  rw [Ideal.ofBits_zero_f32, zero_add, Fin.sum_univ_three, total, ← add_assoc, ← add_assoc]

end Cert.Adam
-- ==== Proof.AdamDown.lean ====
module

public import proofs.«01_k».proof.Defs
public import proofs.«01_k».proof.Proof.Adam
public import proofs.«01_k».proof.Proof.Gen.AdamDownIdeal
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamDownRefIdeal

open Idealize.ShloMosaic Idealize.ShloMosaic.TcCoe
open Idealize.SL.Sem

/-- The reference runs on the host alone: it leaves its arguments as they were, and it has no semaphores. -/
theorem frame_holds : Cert.quiescent_AdamDownRefIdeal := fun m g _ =>
  (θ_run _ _ _).mono (fun r h => ⟨fun c => (h c).2.2.2.2, sem_eq_zero_of_no_sems rfl r.2⟩) (Value.run m g)

end Cert.AdamDownRefIdeal

namespace Cert.AdamDownIdeal

open Idealize.ShloMosaic Idealize.ShloMosaic.TcCoe Idealize.ShloMosaic.Tactic
open Idealize.SL.Sem
open Cert.AdamDownIdeal.Gen
open Cert.Adam (first second step total total_eq)

/-! ## The step of the optimiser on the down-projection -/

variable (m : (ℓ : Loc nD τ sig) → Buf (Elt Ideal) ℓ) (c : Dev nD)

/-- The arguments on one device: the weight, the two running means, the device's own part of the gradient, and the parts received. -/
abbrev argW : Vec Ideal S1x1376x4096 .f32 := m ((c.tc : Thread nD τ).loc main_arg0)
abbrev argM : Vec Ideal S1x1376x4096 .f32 := m ((c.tc : Thread nD τ).loc main_arg1)
abbrev argV : Vec Ideal S1x1376x4096 .f32 := m ((c.tc : Thread nD τ).loc main_arg2)
abbrev argP : Vec Ideal S1376x4096 .bf16 := m ((c.tc : Thread nD τ).loc main_arg3)
abbrev argQ : Vec Ideal S3x1376x4096 .bf16 := m ((c.tc : Thread nD τ).loc main_arg4)

/-- An entry of the gradient. -/
def sum (p : Vec Ideal S1376x4096 .bf16) (q : Vec Ideal S3x1376x4096 .bf16) (u : Fin 1376) (k : Fin 4096) : EReal :=
  total (p (ix2 ⟨u.val, by omega⟩ k)) fun j => q (ix3 j ⟨u.val, by omega⟩ k)

def sums (p : Vec Ideal S1376x4096 .bf16) (q : Vec Ideal S3x1376x4096 .bf16) : Vec Ideal S1x1376x4096 .f32 := fun y => sum p q (y 1) (y 2)
def firsts (p : Vec Ideal S1376x4096 .bf16) (q : Vec Ideal S3x1376x4096 .bf16) (a : Vec Ideal S1x1376x4096 .f32) : Vec Ideal S1x1376x4096 .f32 := fun y => first (sum p q (y 1) (y 2)) (a y)
def seconds (p : Vec Ideal S1376x4096 .bf16) (q : Vec Ideal S3x1376x4096 .bf16) (a : Vec Ideal S1x1376x4096 .f32) : Vec Ideal S1x1376x4096 .f32 := fun y => second (sum p q (y 1) (y 2)) (a y)
def steps (w a b : Vec Ideal S1x1376x4096 .f32) (p : Vec Ideal S1376x4096 .bf16) (q : Vec Ideal S3x1376x4096 .bf16) : Vec Ideal S1x1376x4096 .f32 := fun y => step (w y) (sum p q (y 1) (y 2)) (a y) (b y)

/-! ### The blocks of the grid's points -/

theorem place_0 : ∀ t : Fin cfg0.N, win0_0.index t = ![0, t.val, 0] :=
  (by decide +kernel : ∀ t : Fin grid0.N, win0_0.index t = ![0, t.val, 0])

theorem place_3 : ∀ t : Fin cfg0.N, win0_3.index t = ![t.val, 0] :=
  (by decide +kernel : ∀ t : Fin grid0.N, win0_3.index t = ![t.val, 0])

theorem place_4 : ∀ t : Fin cfg0.N, win0_4.index t = ![0, t.val, 0] :=
  (by decide +kernel : ∀ t : Fin grid0.N, win0_4.index t = ![0, t.val, 0])

/-- An entry of a block of the weight, or of an array laid out as it is, in its array. -/
theorem at_0 (t : Fin cfg0.N) (r : Fin 32) (s : Fin 4096) : (win0_0.blk t).view.emb (ix3 0 r s) = (ix3 0 ⟨32 * t.val + r.val, by have h : t.val < 43 := t.isLt; omega⟩ s : S1x1376x4096.Idx) := by
  refine funext fun a => Fin.ext ?_
  have e := place_0 t
  match a with
  | ⟨0, _⟩ => blk_simp; simp [e, ix3]; try omega
  | ⟨1, _⟩ => blk_simp; simp [e, ix3]; try omega
  | ⟨2, _⟩ => blk_simp; simp [e, ix3]; try omega

theorem block_0 (t : Fin cfg0.N) (r : Fin 32) (s : Fin 4096) : iblk m c 0 t (ix3 (0 : Fin 1) r s) = argW m c (ix3 0 ⟨32 * t.val + r.val, by have h : t.val < 43 := t.isLt; omega⟩ s) :=
  congrArg (argW m c) (at_0 t r s)

theorem block_1 (t : Fin cfg0.N) (r : Fin 32) (s : Fin 4096) : iblk m c 1 t (ix3 (0 : Fin 1) r s) = argM m c (ix3 0 ⟨32 * t.val + r.val, by have h : t.val < 43 := t.isLt; omega⟩ s) :=
  congrArg (argM m c) (at_0 t r s)

theorem block_2 (t : Fin cfg0.N) (r : Fin 32) (s : Fin 4096) : iblk m c 2 t (ix3 (0 : Fin 1) r s) = argV m c (ix3 0 ⟨32 * t.val + r.val, by have h : t.val < 43 := t.isLt; omega⟩ s) :=
  congrArg (argV m c) (at_0 t r s)

theorem block_3 (t : Fin cfg0.N) (r : Fin 32) (s : Fin 4096) : iblk m c 3 t (ix2 r s) = argP m c (ix2 ⟨32 * t.val + r.val, by have h : t.val < 43 := t.isLt; omega⟩ s) := by
  unfold iblk
  blk_simp
  refine congrArg (argP m c) (funext fun a => Fin.ext ?_)
  have e := place_3 t
  match a with
  | ⟨0, _⟩ => blk_simp; simp [e, ix2, ix3]; try omega
  | ⟨1, _⟩ => blk_simp; simp [e, ix2, ix3]; try omega

theorem block_4 (t : Fin cfg0.N) (j : Fin 3) (r : Fin 32) (s : Fin 4096) : iblk m c 4 t (ix3 j r s) = argQ m c (ix3 j ⟨32 * t.val + r.val, by have h : t.val < 43 := t.isLt; omega⟩ s) := by
  unfold iblk
  blk_simp
  refine congrArg (argQ m c) (funext fun a => Fin.ext ?_)
  have e := place_4 t
  match a with
  | ⟨0, _⟩ => blk_simp; simp [e, ix2, ix3]; try omega
  | ⟨1, _⟩ => blk_simp; simp [e, ix2, ix3]; try omega
  | ⟨2, _⟩ => blk_simp; simp [e, ix2, ix3]; try omega

/-! ### What one point computes, from its block of the own part, `v0`, and its blocks of the parts received -/

theorem sum_entry (v0 : Vec Ideal S32x4096 .bf16) (v2 v6 v10 : Vec Ideal S1x32x4096 .bf16) (r : Fin 32) (s : Fin 4096) :
    k0_pay5 (F := Ideal) v0 v2 v6 v10 (ix2 r s) = total (v0 (ix2 r s)) ![v2 (ix3 0 r s), v6 (ix3 0 r s), v10 (ix3 0 r s)] := by
  unfold k0_pay5
  pointwise
  rfl

theorem stored_sum (v0 : Vec Ideal S32x4096 .bf16) (v2 v6 v10 : Vec Ideal S1x32x4096 .bf16) (r : Fin 32) (s : Fin 4096) :
    k0_pay6 (F := Ideal) v0 v2 v6 v10 (ix3 0 r s) = total (v0 (ix2 r s)) ![v2 (ix3 0 r s), v6 (ix3 0 r s), v10 (ix3 0 r s)] := by
  unfold k0_pay6
  pointwise
  rw [sum_entry]

theorem first_entry (v0 : Vec Ideal S32x4096 .bf16) (v2 v6 v10 : Vec Ideal S1x32x4096 .bf16) (a : Vec Ideal S1x32x4096 .f32) (r : Fin 32) (s : Fin 4096) :
    k0_pay8 (F := Ideal) v0 v2 v6 v10 a (ix2 r s) = first (total (v0 (ix2 r s)) ![v2 (ix3 0 r s), v6 (ix3 0 r s), v10 (ix3 0 r s)]) (a (ix3 0 r s)) := by
  unfold k0_pay8
  pointwise
  rw [sum_entry]
  rfl

theorem second_entry (v0 : Vec Ideal S32x4096 .bf16) (v2 v6 v10 : Vec Ideal S1x32x4096 .bf16) (b : Vec Ideal S1x32x4096 .f32) (r : Fin 32) (s : Fin 4096) :
    k0_pay1 (F := Ideal) (k0_pay9 (F := Ideal) b) (k0_pay10 (F := Ideal) v0 v2 v6 v10) (Scalar.ofBits .f32 0x3A83126F#32) (ix2 r s)
      = second (total (v0 (ix2 r s)) ![v2 (ix3 0 r s), v6 (ix3 0 r s), v10 (ix3 0 r s)]) (b (ix3 0 r s)) := by
  unfold k0_pay1 k0_pay9 k0_pay10
  pointwise
  rw [sum_entry]
  rfl

theorem stored_first (v : FVec Ideal S32x4096 .f32) (r : Fin 32) (s : Fin 4096) : k0_pay3 (F := Ideal) v (ix3 0 r s) = v (ix2 r s) := by
  unfold k0_pay3
  pointwise

theorem stored_second (a b : FVec Ideal S32x4096 .f32) (x : EReal) (r : Fin 32) (s : Fin 4096) :
    k0_pay4 (F := Ideal) a b x (ix3 0 r s) = k0_pay1 (F := Ideal) a b x (ix2 r s) := by
  unfold k0_pay4
  pointwise

theorem step_entry (w a b : Vec Ideal S1x32x4096 .f32) (v0 : Vec Ideal S32x4096 .bf16) (v2 v6 v10 : Vec Ideal S1x32x4096 .bf16) (r : Fin 32) (s : Fin 4096) :
    k0_pay2 (F := Ideal) (k0_pay7 (F := Ideal) w) (k0_pay8 (F := Ideal) v0 v2 v6 v10 a) (k0_pay9 (F := Ideal) b) (k0_pay10 (F := Ideal) v0 v2 v6 v10) (Scalar.ofBits .f32 0x3A83126F#32) (ix3 0 r s)
      = step (w (ix3 0 r s)) (total (v0 (ix2 r s)) ![v2 (ix3 0 r s), v6 (ix3 0 r s), v10 (ix3 0 r s)]) (a (ix3 0 r s)) (b (ix3 0 r s)) := by
  have h := second_entry v0 v2 v6 v10 b r s
  change k0_pay1 (F := Ideal) _ _ (Ideal.ofBits .f32 0x3A83126F#32) _ = _ at h
  unfold k0_pay2 k0_pay7
  pointwise
  rw [first_entry, h]
  rfl

/-- The parts received, read at one of the three. -/
theorem part_0 (x : Vec Ideal S3x32x4096 .bf16) (r : Fin 32) (s : Fin 4096) : View.ld x r0_1 (ix3 0 r s) = x (ix3 0 r s) :=
  congrArg x (funext fun a => Fin.ext (match a with
    | ⟨0, _⟩ => rfl
    | ⟨1, _⟩ => (by show 0 + 1 * r.val = r.val; omega)
    | ⟨2, _⟩ => (by show 0 + 1 * s.val = s.val; omega)))

theorem part_1 (x : Vec Ideal S3x32x4096 .bf16) (r : Fin 32) (s : Fin 4096) : View.ld x r0_2 (ix3 0 r s) = x (ix3 1 r s) :=
  congrArg x (funext fun a => Fin.ext (match a with
    | ⟨0, _⟩ => rfl
    | ⟨1, _⟩ => (by show 0 + 1 * r.val = r.val; omega)
    | ⟨2, _⟩ => (by show 0 + 1 * s.val = s.val; omega)))

theorem part_2 (x : Vec Ideal S3x32x4096 .bf16) (r : Fin 32) (s : Fin 4096) : View.ld x r0_3 (ix3 0 r s) = x (ix3 2 r s) :=
  congrArg x (funext fun a => Fin.ext (match a with
    | ⟨0, _⟩ => rfl
    | ⟨1, _⟩ => (by show 0 + 1 * r.val = r.val; omega)
    | ⟨2, _⟩ => (by show 0 + 1 * s.val = s.val; omega)))

/-- The gradient that a point sums is the array's, at the point's rows. -/
theorem sum_at (t : Fin cfg0.N) (r : Fin 32) (s : Fin 4096) :
    total (iblk m c 3 t (ix2 r s)) ![View.ld (iblk m c 4 t) r0_1 (ix3 0 r s), View.ld (iblk m c 4 t) r0_2 (ix3 0 r s), View.ld (iblk m c 4 t) r0_3 (ix3 0 r s)]
      = sum (argP m c) (argQ m c) ⟨32 * t.val + r.val, by have h : t.val < 43 := t.isLt; omega⟩ s := by
  rw [part_0, part_1, part_2, block_3, block_4, block_4, block_4]
  rfl

/-! ### The arrays the kernel leaves -/

theorem entries (y : S1x32x4096.Idx) : ∃ (r : Fin 32) (s : Fin 4096), y = ix3 0 r s := ⟨y 1, y 2, funext fun a => match a with | ⟨0, _⟩ => Subsingleton.elim (α := Fin 1) _ _ | ⟨1, _⟩ => rfl | ⟨2, _⟩ => rfl⟩

theorem computed_5 : (dats m 0 c).arrAt 5 cfg0.N = sums (argP m c) (argQ m c) := by
  refine (dats m 0 c).arrAt_eq_of_covers 5 _ (by decide +kernel) fun t hf y => ?_
  blk_simp
  rw [after0_5]
  unfold_out out0_5
  rw [View.canon_unit_zero (View.eq_zero_of_forall (by decide))]
  simp (disch := decide) only [View.ld_unit_lit']
  obtain ⟨r, s, rfl⟩ := entries y
  refine Eq.trans ?_ (congrArg _ (at_0 t r s)).symm
  rw [stored_sum, sum_at]
  rfl

theorem computed_6 : (dats m 0 c).arrAt 6 cfg0.N = steps (argW m c) (argM m c) (argV m c) (argP m c) (argQ m c) := by
  refine (dats m 0 c).arrAt_eq_of_covers 6 _ (by decide +kernel) fun t hf y => ?_
  blk_simp
  rw [after0_6]
  unfold_out out0_6
  rw [View.canon_unit_zero (View.eq_zero_of_forall (by decide))]
  simp (disch := decide) only [View.ld_unit_lit']
  obtain ⟨r, s, rfl⟩ := entries y
  refine Eq.trans ?_ (congrArg _ (at_0 t r s)).symm
  rw [step_entry, sum_at, block_0, block_1, block_2]
  rfl

theorem computed_7 : (dats m 0 c).arrAt 7 cfg0.N = firsts (argP m c) (argQ m c) (argM m c) := by
  refine (dats m 0 c).arrAt_eq_of_covers 7 _ (by decide +kernel) fun t hf y => ?_
  blk_simp
  rw [after0_7]
  unfold_out out0_7
  rw [View.canon_unit_zero (View.eq_zero_of_forall (by decide))]
  simp (disch := decide) only [View.ld_unit_lit']
  obtain ⟨r, s, rfl⟩ := entries y
  refine Eq.trans ?_ (congrArg _ (at_0 t r s)).symm
  rw [stored_first, first_entry, sum_at, block_1]
  rfl

theorem computed_8 : (dats m 0 c).arrAt 8 cfg0.N = seconds (argP m c) (argQ m c) (argV m c) := by
  refine (dats m 0 c).arrAt_eq_of_covers 8 _ (by decide +kernel) fun t hf y => ?_
  blk_simp
  rw [after0_8]
  unfold_out out0_8
  rw [View.canon_unit_zero (View.eq_zero_of_forall (by decide))]
  simp (disch := decide) only [View.ld_unit_lit']
  obtain ⟨r, s, rfl⟩ := entries y
  refine Eq.trans ?_ (congrArg _ (at_0 t r s)).symm
  rw [stored_second, second_entry, sum_at, block_2]
  rfl

/-! ### The reference -/

theorem reference_sum (p : Vec Ideal S1376x4096 .bf16) (q : Vec Ideal S3x1376x4096 .bf16) (i : Cert.AdamDownRefIdeal.S1376x4096.Idx) : Cert.AdamDownRefIdeal.Read.val_main_v3 (F := Ideal) p q i = sum p q (i 0) (i 1) := by
  rw [Cert.AdamDownRefIdeal.Read.val_main_v3_apply, Cert.AdamDownRefIdeal.Read.val_main_v0_apply, Cert.AdamDownRefIdeal.Read.val_main_v2_apply]
  refine Eq.trans ?_ (total_eq _ _)
  refine congrArg₂ (· + ·)
    (congrArg p (funext fun a => match a with | ⟨0, _⟩ => rfl | ⟨1, _⟩ => rfl))
    (congrArg (Ideal.ofBits .f32 0x00000000#32 + ·) (Finset.sum_congr rfl fun j _ => ?_))
  rw [Cert.AdamDownRefIdeal.Read.val_main_v1_apply]
  exact congrArg q (funext fun a => match a with | ⟨0, _⟩ => rfl | ⟨1, _⟩ => rfl | ⟨2, _⟩ => rfl)

theorem reference_sums (p : Vec Ideal S1376x4096 .bf16) (q : Vec Ideal S3x1376x4096 .bf16) : Cert.AdamDownRefIdeal.Read.val_main_v4 (F := Ideal) p q = sums p q := by
  funext y
  rw [Cert.AdamDownRefIdeal.Read.val_main_v4_apply, reference_sum]
  rfl

theorem reference_sums' (p : Vec Ideal S1376x4096 .bf16) (q : Vec Ideal S3x1376x4096 .bf16) : Cert.AdamDownRefIdeal.Read.val_main_v5 (F := Ideal) p q = sums p q := by
  funext y
  rw [Cert.AdamDownRefIdeal.Read.val_main_v5_apply, reference_sum]
  rfl

theorem reference_firsts (p : Vec Ideal S1376x4096 .bf16) (q : Vec Ideal S3x1376x4096 .bf16) (a : Vec Ideal S1x1376x4096 .f32) : Cert.AdamDownRefIdeal.Read.val_main_v10 (F := Ideal) a p q = firsts p q a := by
  funext y
  rw [Cert.AdamDownRefIdeal.Read.val_main_v10_apply, Cert.AdamDownRefIdeal.Read.val_main_v9_apply, Cert.AdamDownRefIdeal.Read.val_main_v8_apply, Cert.AdamDownRefIdeal.Read.val_main_v7_apply, Cert.AdamDownRefIdeal.Read.val_main_v6_apply, reference_sums']
  rfl

theorem reference_seconds (p : Vec Ideal S1376x4096 .bf16) (q : Vec Ideal S3x1376x4096 .bf16) (a : Vec Ideal S1x1376x4096 .f32) : Cert.AdamDownRefIdeal.Read.val_main_v16 (F := Ideal) a p q = seconds p q a := by
  funext y
  rw [Cert.AdamDownRefIdeal.Read.val_main_v16_apply, Cert.AdamDownRefIdeal.Read.val_main_v15_apply, Cert.AdamDownRefIdeal.Read.val_main_v14_apply, Cert.AdamDownRefIdeal.Read.val_main_v13_apply, Cert.AdamDownRefIdeal.Read.val_main_v12_apply, Cert.AdamDownRefIdeal.Read.val_main_v11_apply, reference_sums']
  rfl

theorem reference_steps (w a b : Vec Ideal S1x1376x4096 .f32) (p : Vec Ideal S1376x4096 .bf16) (q : Vec Ideal S3x1376x4096 .bf16) : Cert.AdamDownRefIdeal.Read.val_main_v29 (F := Ideal) w a b p q = steps w a b p q := by
  funext y
  rw [Cert.AdamDownRefIdeal.Read.val_main_v29_apply, Cert.AdamDownRefIdeal.Read.val_main_v28_apply, Cert.AdamDownRefIdeal.Read.val_main_v27_apply, Cert.AdamDownRefIdeal.Read.val_main_v26_apply, Cert.AdamDownRefIdeal.Read.val_main_v25_apply, Cert.AdamDownRefIdeal.Read.val_main_v24_apply, Cert.AdamDownRefIdeal.Read.val_main_v23_apply, Cert.AdamDownRefIdeal.Read.val_main_v22_apply, Cert.AdamDownRefIdeal.Read.val_main_v21_apply, Cert.AdamDownRefIdeal.Read.val_main_v20_apply, Cert.AdamDownRefIdeal.Read.val_main_v19_apply, Cert.AdamDownRefIdeal.Read.val_main_v18_apply, Cert.AdamDownRefIdeal.Read.val_main_v17_apply, reference_firsts, reference_seconds]
  rfl

theorem agree : Cert.algebraic_AdamDownIdeal_AdamDownRefIdeal := by
  intro m g m' g' hp hm
  refine ⟨fun c => sums (argP m c) (argQ m c), fun c => steps (argW m c) (argM m c) (argV m c) (argP m c) (argQ m c), fun c => firsts (argP m c) (argQ m c) (argM m c), fun c => seconds (argP m c) (argQ m c) (argV m c), ?_, ?_⟩
  · refine (θ_run defs _ _).mono (fun r h c => ?_) (Value.run_blocks m g)
    exact ⟨(h c).1.trans (computed_5 m c), (h c).2.1.trans (computed_6 m c), (h c).2.2.1.trans (computed_7 m c), (h c).2.2.2.1.trans (computed_8 m c), (h c).2.2.2.2⟩
  · refine (θ_run Cert.AdamDownRefIdeal.defs _ _).mono (fun r h c => ?_) (Cert.AdamDownRefIdeal.Value.run m' g')
    obtain ⟨e0, e1, e2, e3, e4⟩ := hm c
    refine ⟨?_, ?_, ?_, ?_, (h c).2.2.2.2⟩
    · rw [(h c).1, e3, e4]
      exact (Cert.AdamDownRefIdeal.Read.val_main_v4_eq (F := Ideal) _ _).trans (reference_sums _ _)
    · rw [(h c).2.1, e0, e1, e2, e3, e4]
      exact (Cert.AdamDownRefIdeal.Read.val_main_v29_eq (F := Ideal) _ _ _ _ _).trans (reference_steps _ _ _ _ _)
    · rw [(h c).2.2.1, e1, e3, e4]
      exact (Cert.AdamDownRefIdeal.Read.val_main_v10_eq (F := Ideal) _ _ _).trans (reference_firsts _ _ _)
    · rw [(h c).2.2.2.1, e2, e3, e4]
      exact (Cert.AdamDownRefIdeal.Read.val_main_v16_eq (F := Ideal) _ _ _).trans (reference_seconds _ _ _)

end Cert.AdamDownIdeal
-- ==== Proof.AdamUp.lean ====
module

public import proofs.«01_k».proof.Defs
public import proofs.«01_k».proof.Proof.Adam
public import proofs.«01_k».proof.Proof.Gen.AdamUpIdeal
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamUpRefIdeal

open Idealize.ShloMosaic Idealize.ShloMosaic.TcCoe
open Idealize.SL.Sem

/-- The reference runs on the host alone: it leaves its arguments as they were, and it has no semaphores. -/
theorem frame_holds : Cert.quiescent_AdamUpRefIdeal := fun m g _ =>
  (θ_run _ _ _).mono (fun r h => ⟨fun c => (h c).2.2.2.2, sem_eq_zero_of_no_sems rfl r.2⟩) (Value.run m g)

end Cert.AdamUpRefIdeal

namespace Cert.AdamUpIdeal

open Idealize.ShloMosaic Idealize.ShloMosaic.TcCoe Idealize.ShloMosaic.Tactic
open Idealize.SL.Sem
open Cert.AdamUpIdeal.Gen
open Cert.Adam (first second step total total_eq)

/-! ## The step of the optimiser on the up-projection -/

variable (m : (ℓ : Loc nD τ sig) → Buf (Elt Ideal) ℓ) (c : Dev nD)

/-- The arguments on one device: the weight, the two running means, the device's own part of the gradient, and the parts received. -/
abbrev argW : Vec Ideal S1x2752x4096 .f32 := m ((c.tc : Thread nD τ).loc main_arg0)
abbrev argM : Vec Ideal S1x2752x4096 .f32 := m ((c.tc : Thread nD τ).loc main_arg1)
abbrev argV : Vec Ideal S1x2752x4096 .f32 := m ((c.tc : Thread nD τ).loc main_arg2)
abbrev argP : Vec Ideal S2816x4096 .bf16 := m ((c.tc : Thread nD τ).loc main_arg3)
abbrev argQ : Vec Ideal S3x2816x4096 .bf16 := m ((c.tc : Thread nD τ).loc main_arg4)

/-- An entry of the gradient. -/
def sum (p : Vec Ideal S2816x4096 .bf16) (q : Vec Ideal S3x2816x4096 .bf16) (u : Fin 2752) (k : Fin 4096) : EReal :=
  total (p (ix2 ⟨u.val, by omega⟩ k)) fun j => q (ix3 j ⟨u.val, by omega⟩ k)

def sums (p : Vec Ideal S2816x4096 .bf16) (q : Vec Ideal S3x2816x4096 .bf16) : Vec Ideal S1x2752x4096 .f32 := fun y => sum p q (y 1) (y 2)
def firsts (p : Vec Ideal S2816x4096 .bf16) (q : Vec Ideal S3x2816x4096 .bf16) (a : Vec Ideal S1x2752x4096 .f32) : Vec Ideal S1x2752x4096 .f32 := fun y => first (sum p q (y 1) (y 2)) (a y)
def seconds (p : Vec Ideal S2816x4096 .bf16) (q : Vec Ideal S3x2816x4096 .bf16) (a : Vec Ideal S1x2752x4096 .f32) : Vec Ideal S1x2752x4096 .f32 := fun y => second (sum p q (y 1) (y 2)) (a y)
def steps (w a b : Vec Ideal S1x2752x4096 .f32) (p : Vec Ideal S2816x4096 .bf16) (q : Vec Ideal S3x2816x4096 .bf16) : Vec Ideal S1x2752x4096 .f32 := fun y => step (w y) (sum p q (y 1) (y 2)) (a y) (b y)

/-! ### The blocks of the grid's points -/

theorem place_0 : ∀ t : Fin cfg0.N, win0_0.index t = ![0, t.val, 0] :=
  (by decide +kernel : ∀ t : Fin grid0.N, win0_0.index t = ![0, t.val, 0])

theorem place_3 : ∀ t : Fin cfg0.N, win0_3.index t = ![t.val, 0] :=
  (by decide +kernel : ∀ t : Fin grid0.N, win0_3.index t = ![t.val, 0])

theorem place_4 : ∀ t : Fin cfg0.N, win0_4.index t = ![0, t.val, 0] :=
  (by decide +kernel : ∀ t : Fin grid0.N, win0_4.index t = ![0, t.val, 0])

/-- An entry of a block of the weight, or of an array laid out as it is, in its array. -/
theorem at_0 (t : Fin cfg0.N) (r : Fin 64) (s : Fin 4096) : (win0_0.blk t).view.emb (ix3 0 r s) = (ix3 0 ⟨64 * t.val + r.val, by have h : t.val < 43 := t.isLt; omega⟩ s : S1x2752x4096.Idx) := by
  refine funext fun a => Fin.ext ?_
  have e := place_0 t
  match a with
  | ⟨0, _⟩ => blk_simp; simp [e, ix3]; try omega
  | ⟨1, _⟩ => blk_simp; simp [e, ix3]; try omega
  | ⟨2, _⟩ => blk_simp; simp [e, ix3]; try omega

theorem block_0 (t : Fin cfg0.N) (r : Fin 64) (s : Fin 4096) : iblk m c 0 t (ix3 (0 : Fin 1) r s) = argW m c (ix3 0 ⟨64 * t.val + r.val, by have h : t.val < 43 := t.isLt; omega⟩ s) :=
  congrArg (argW m c) (at_0 t r s)

theorem block_1 (t : Fin cfg0.N) (r : Fin 64) (s : Fin 4096) : iblk m c 1 t (ix3 (0 : Fin 1) r s) = argM m c (ix3 0 ⟨64 * t.val + r.val, by have h : t.val < 43 := t.isLt; omega⟩ s) :=
  congrArg (argM m c) (at_0 t r s)

theorem block_2 (t : Fin cfg0.N) (r : Fin 64) (s : Fin 4096) : iblk m c 2 t (ix3 (0 : Fin 1) r s) = argV m c (ix3 0 ⟨64 * t.val + r.val, by have h : t.val < 43 := t.isLt; omega⟩ s) :=
  congrArg (argV m c) (at_0 t r s)

theorem block_3 (t : Fin cfg0.N) (r : Fin 64) (s : Fin 4096) : iblk m c 3 t (ix2 r s) = argP m c (ix2 ⟨64 * t.val + r.val, by have h : t.val < 43 := t.isLt; omega⟩ s) := by
  unfold iblk
  blk_simp
  refine congrArg (argP m c) (funext fun a => Fin.ext ?_)
  have e := place_3 t
  match a with
  | ⟨0, _⟩ => blk_simp; simp [e, ix2, ix3]; try omega
  | ⟨1, _⟩ => blk_simp; simp [e, ix2, ix3]; try omega

theorem block_4 (t : Fin cfg0.N) (j : Fin 3) (r : Fin 64) (s : Fin 4096) : iblk m c 4 t (ix3 j r s) = argQ m c (ix3 j ⟨64 * t.val + r.val, by have h : t.val < 43 := t.isLt; omega⟩ s) := by
  unfold iblk
  blk_simp
  refine congrArg (argQ m c) (funext fun a => Fin.ext ?_)
  have e := place_4 t
  match a with
  | ⟨0, _⟩ => blk_simp; simp [e, ix2, ix3]; try omega
  | ⟨1, _⟩ => blk_simp; simp [e, ix2, ix3]; try omega
  | ⟨2, _⟩ => blk_simp; simp [e, ix2, ix3]; try omega

/-! ### What one point computes, from its block of the own part, `v0`, and its blocks of the parts received -/

theorem sum_entry (v0 : Vec Ideal S64x4096 .bf16) (v2 v6 v10 : Vec Ideal S1x64x4096 .bf16) (r : Fin 64) (s : Fin 4096) :
    k0_pay5 (F := Ideal) v0 v2 v6 v10 (ix2 r s) = total (v0 (ix2 r s)) ![v2 (ix3 0 r s), v6 (ix3 0 r s), v10 (ix3 0 r s)] := by
  unfold k0_pay5
  pointwise
  rfl

theorem stored_sum (v0 : Vec Ideal S64x4096 .bf16) (v2 v6 v10 : Vec Ideal S1x64x4096 .bf16) (r : Fin 64) (s : Fin 4096) :
    k0_pay6 (F := Ideal) v0 v2 v6 v10 (ix3 0 r s) = total (v0 (ix2 r s)) ![v2 (ix3 0 r s), v6 (ix3 0 r s), v10 (ix3 0 r s)] := by
  unfold k0_pay6
  pointwise
  rw [sum_entry]

theorem first_entry (v0 : Vec Ideal S64x4096 .bf16) (v2 v6 v10 : Vec Ideal S1x64x4096 .bf16) (a : Vec Ideal S1x64x4096 .f32) (r : Fin 64) (s : Fin 4096) :
    k0_pay8 (F := Ideal) v0 v2 v6 v10 a (ix2 r s) = first (total (v0 (ix2 r s)) ![v2 (ix3 0 r s), v6 (ix3 0 r s), v10 (ix3 0 r s)]) (a (ix3 0 r s)) := by
  unfold k0_pay8
  pointwise
  rw [sum_entry]
  rfl

theorem second_entry (v0 : Vec Ideal S64x4096 .bf16) (v2 v6 v10 : Vec Ideal S1x64x4096 .bf16) (b : Vec Ideal S1x64x4096 .f32) (r : Fin 64) (s : Fin 4096) :
    k0_pay1 (F := Ideal) (k0_pay9 (F := Ideal) b) (k0_pay10 (F := Ideal) v0 v2 v6 v10) (Scalar.ofBits .f32 0x3A83126F#32) (ix2 r s)
      = second (total (v0 (ix2 r s)) ![v2 (ix3 0 r s), v6 (ix3 0 r s), v10 (ix3 0 r s)]) (b (ix3 0 r s)) := by
  unfold k0_pay1 k0_pay9 k0_pay10
  pointwise
  rw [sum_entry]
  rfl

theorem stored_first (v : FVec Ideal S64x4096 .f32) (r : Fin 64) (s : Fin 4096) : k0_pay3 (F := Ideal) v (ix3 0 r s) = v (ix2 r s) := by
  unfold k0_pay3
  pointwise

theorem stored_second (a b : FVec Ideal S64x4096 .f32) (x : EReal) (r : Fin 64) (s : Fin 4096) :
    k0_pay4 (F := Ideal) a b x (ix3 0 r s) = k0_pay1 (F := Ideal) a b x (ix2 r s) := by
  unfold k0_pay4
  pointwise

theorem step_entry (w a b : Vec Ideal S1x64x4096 .f32) (v0 : Vec Ideal S64x4096 .bf16) (v2 v6 v10 : Vec Ideal S1x64x4096 .bf16) (r : Fin 64) (s : Fin 4096) :
    k0_pay2 (F := Ideal) (k0_pay7 (F := Ideal) w) (k0_pay8 (F := Ideal) v0 v2 v6 v10 a) (k0_pay9 (F := Ideal) b) (k0_pay10 (F := Ideal) v0 v2 v6 v10) (Scalar.ofBits .f32 0x3A83126F#32) (ix3 0 r s)
      = step (w (ix3 0 r s)) (total (v0 (ix2 r s)) ![v2 (ix3 0 r s), v6 (ix3 0 r s), v10 (ix3 0 r s)]) (a (ix3 0 r s)) (b (ix3 0 r s)) := by
  have h := second_entry v0 v2 v6 v10 b r s
  change k0_pay1 (F := Ideal) _ _ (Ideal.ofBits .f32 0x3A83126F#32) _ = _ at h
  unfold k0_pay2 k0_pay7
  pointwise
  rw [first_entry, h]
  rfl

/-- The parts received, read at one of the three. -/
theorem part_0 (x : Vec Ideal S3x64x4096 .bf16) (r : Fin 64) (s : Fin 4096) : View.ld x r0_1 (ix3 0 r s) = x (ix3 0 r s) :=
  congrArg x (funext fun a => Fin.ext (match a with
    | ⟨0, _⟩ => rfl
    | ⟨1, _⟩ => (by show 0 + 1 * r.val = r.val; omega)
    | ⟨2, _⟩ => (by show 0 + 1 * s.val = s.val; omega)))

theorem part_1 (x : Vec Ideal S3x64x4096 .bf16) (r : Fin 64) (s : Fin 4096) : View.ld x r0_2 (ix3 0 r s) = x (ix3 1 r s) :=
  congrArg x (funext fun a => Fin.ext (match a with
    | ⟨0, _⟩ => rfl
    | ⟨1, _⟩ => (by show 0 + 1 * r.val = r.val; omega)
    | ⟨2, _⟩ => (by show 0 + 1 * s.val = s.val; omega)))

theorem part_2 (x : Vec Ideal S3x64x4096 .bf16) (r : Fin 64) (s : Fin 4096) : View.ld x r0_3 (ix3 0 r s) = x (ix3 2 r s) :=
  congrArg x (funext fun a => Fin.ext (match a with
    | ⟨0, _⟩ => rfl
    | ⟨1, _⟩ => (by show 0 + 1 * r.val = r.val; omega)
    | ⟨2, _⟩ => (by show 0 + 1 * s.val = s.val; omega)))

/-- The gradient that a point sums is the array's, at the point's rows. -/
theorem sum_at (t : Fin cfg0.N) (r : Fin 64) (s : Fin 4096) :
    total (iblk m c 3 t (ix2 r s)) ![View.ld (iblk m c 4 t) r0_1 (ix3 0 r s), View.ld (iblk m c 4 t) r0_2 (ix3 0 r s), View.ld (iblk m c 4 t) r0_3 (ix3 0 r s)]
      = sum (argP m c) (argQ m c) ⟨64 * t.val + r.val, by have h : t.val < 43 := t.isLt; omega⟩ s := by
  rw [part_0, part_1, part_2, block_3, block_4, block_4, block_4]
  rfl

/-! ### The arrays the kernel leaves -/

theorem entries (y : S1x64x4096.Idx) : ∃ (r : Fin 64) (s : Fin 4096), y = ix3 0 r s := ⟨y 1, y 2, funext fun a => match a with | ⟨0, _⟩ => Subsingleton.elim (α := Fin 1) _ _ | ⟨1, _⟩ => rfl | ⟨2, _⟩ => rfl⟩

theorem computed_5 : (dats m 0 c).arrAt 5 cfg0.N = sums (argP m c) (argQ m c) := by
  refine (dats m 0 c).arrAt_eq_of_covers 5 _ (by decide +kernel) fun t hf y => ?_
  blk_simp
  rw [after0_5]
  unfold_out out0_5
  rw [View.canon_unit_zero (View.eq_zero_of_forall (by decide))]
  simp (disch := decide) only [View.ld_unit_lit']
  obtain ⟨r, s, rfl⟩ := entries y
  refine Eq.trans ?_ (congrArg _ (at_0 t r s)).symm
  rw [stored_sum, sum_at]
  rfl

theorem computed_6 : (dats m 0 c).arrAt 6 cfg0.N = steps (argW m c) (argM m c) (argV m c) (argP m c) (argQ m c) := by
  refine (dats m 0 c).arrAt_eq_of_covers 6 _ (by decide +kernel) fun t hf y => ?_
  blk_simp
  rw [after0_6]
  unfold_out out0_6
  rw [View.canon_unit_zero (View.eq_zero_of_forall (by decide))]
  simp (disch := decide) only [View.ld_unit_lit']
  obtain ⟨r, s, rfl⟩ := entries y
  refine Eq.trans ?_ (congrArg _ (at_0 t r s)).symm
  rw [step_entry, sum_at, block_0, block_1, block_2]
  rfl

theorem computed_7 : (dats m 0 c).arrAt 7 cfg0.N = firsts (argP m c) (argQ m c) (argM m c) := by
  refine (dats m 0 c).arrAt_eq_of_covers 7 _ (by decide +kernel) fun t hf y => ?_
  blk_simp
  rw [after0_7]
  unfold_out out0_7
  rw [View.canon_unit_zero (View.eq_zero_of_forall (by decide))]
  simp (disch := decide) only [View.ld_unit_lit']
  obtain ⟨r, s, rfl⟩ := entries y
  refine Eq.trans ?_ (congrArg _ (at_0 t r s)).symm
  rw [stored_first, first_entry, sum_at, block_1]
  rfl

theorem computed_8 : (dats m 0 c).arrAt 8 cfg0.N = seconds (argP m c) (argQ m c) (argV m c) := by
  refine (dats m 0 c).arrAt_eq_of_covers 8 _ (by decide +kernel) fun t hf y => ?_
  blk_simp
  rw [after0_8]
  unfold_out out0_8
  rw [View.canon_unit_zero (View.eq_zero_of_forall (by decide))]
  simp (disch := decide) only [View.ld_unit_lit']
  obtain ⟨r, s, rfl⟩ := entries y
  refine Eq.trans ?_ (congrArg _ (at_0 t r s)).symm
  rw [stored_second, second_entry, sum_at, block_2]
  rfl

/-! ### The reference -/

theorem reference_sum (p : Vec Ideal S2816x4096 .bf16) (q : Vec Ideal S3x2816x4096 .bf16) (i : Cert.AdamUpRefIdeal.S2752x4096.Idx) : Cert.AdamUpRefIdeal.Read.val_main_v5 (F := Ideal) p q i = sum p q (i 0) (i 1) := by
  rw [Cert.AdamUpRefIdeal.Read.val_main_v5_apply, Cert.AdamUpRefIdeal.Read.val_main_v1_apply, Cert.AdamUpRefIdeal.Read.val_main_v0_apply, Cert.AdamUpRefIdeal.Read.val_main_v4_apply]
  refine Eq.trans ?_ (total_eq _ _)
  refine congrArg₂ (· + ·)
    (congrArg p (funext fun a => Fin.ext (match a with | ⟨0, _⟩ => rfl | ⟨1, _⟩ => rfl)))
    (congrArg (Ideal.ofBits .f32 0x00000000#32 + ·) (Finset.sum_congr rfl fun j _ => ?_))
  rw [Cert.AdamUpRefIdeal.Read.val_main_v3_apply, Cert.AdamUpRefIdeal.Read.val_main_v2_apply]
  exact congrArg q (funext fun a => Fin.ext (match a with | ⟨0, _⟩ => rfl | ⟨1, _⟩ => rfl | ⟨2, _⟩ => rfl))

theorem reference_sums (p : Vec Ideal S2816x4096 .bf16) (q : Vec Ideal S3x2816x4096 .bf16) : Cert.AdamUpRefIdeal.Read.val_main_v6 (F := Ideal) p q = sums p q := by
  funext y
  rw [Cert.AdamUpRefIdeal.Read.val_main_v6_apply, reference_sum]
  rfl

theorem reference_sums' (p : Vec Ideal S2816x4096 .bf16) (q : Vec Ideal S3x2816x4096 .bf16) : Cert.AdamUpRefIdeal.Read.val_main_v7 (F := Ideal) p q = sums p q := by
  funext y
  rw [Cert.AdamUpRefIdeal.Read.val_main_v7_apply, reference_sum]
  rfl

theorem reference_firsts (p : Vec Ideal S2816x4096 .bf16) (q : Vec Ideal S3x2816x4096 .bf16) (a : Vec Ideal S1x2752x4096 .f32) : Cert.AdamUpRefIdeal.Read.val_main_v12 (F := Ideal) a p q = firsts p q a := by
  funext y
  rw [Cert.AdamUpRefIdeal.Read.val_main_v12_apply, Cert.AdamUpRefIdeal.Read.val_main_v11_apply, Cert.AdamUpRefIdeal.Read.val_main_v10_apply, Cert.AdamUpRefIdeal.Read.val_main_v9_apply, Cert.AdamUpRefIdeal.Read.val_main_v8_apply, reference_sums']
  rfl

theorem reference_seconds (p : Vec Ideal S2816x4096 .bf16) (q : Vec Ideal S3x2816x4096 .bf16) (a : Vec Ideal S1x2752x4096 .f32) : Cert.AdamUpRefIdeal.Read.val_main_v18 (F := Ideal) a p q = seconds p q a := by
  funext y
  rw [Cert.AdamUpRefIdeal.Read.val_main_v18_apply, Cert.AdamUpRefIdeal.Read.val_main_v17_apply, Cert.AdamUpRefIdeal.Read.val_main_v16_apply, Cert.AdamUpRefIdeal.Read.val_main_v15_apply, Cert.AdamUpRefIdeal.Read.val_main_v14_apply, Cert.AdamUpRefIdeal.Read.val_main_v13_apply, reference_sums']
  rfl

theorem reference_steps (w a b : Vec Ideal S1x2752x4096 .f32) (p : Vec Ideal S2816x4096 .bf16) (q : Vec Ideal S3x2816x4096 .bf16) : Cert.AdamUpRefIdeal.Read.val_main_v31 (F := Ideal) w a b p q = steps w a b p q := by
  funext y
  rw [Cert.AdamUpRefIdeal.Read.val_main_v31_apply, Cert.AdamUpRefIdeal.Read.val_main_v30_apply, Cert.AdamUpRefIdeal.Read.val_main_v29_apply, Cert.AdamUpRefIdeal.Read.val_main_v28_apply, Cert.AdamUpRefIdeal.Read.val_main_v27_apply, Cert.AdamUpRefIdeal.Read.val_main_v26_apply, Cert.AdamUpRefIdeal.Read.val_main_v25_apply, Cert.AdamUpRefIdeal.Read.val_main_v24_apply, Cert.AdamUpRefIdeal.Read.val_main_v23_apply, Cert.AdamUpRefIdeal.Read.val_main_v22_apply, Cert.AdamUpRefIdeal.Read.val_main_v21_apply, Cert.AdamUpRefIdeal.Read.val_main_v20_apply, Cert.AdamUpRefIdeal.Read.val_main_v19_apply, reference_firsts, reference_seconds]
  rfl

theorem agree : Cert.algebraic_AdamUpIdeal_AdamUpRefIdeal := by
  intro m g m' g' hp hm
  refine ⟨fun c => sums (argP m c) (argQ m c), fun c => steps (argW m c) (argM m c) (argV m c) (argP m c) (argQ m c), fun c => firsts (argP m c) (argQ m c) (argM m c), fun c => seconds (argP m c) (argQ m c) (argV m c), ?_, ?_⟩
  · refine (θ_run defs _ _).mono (fun r h c => ?_) (Value.run_blocks m g)
    exact ⟨(h c).1.trans (computed_5 m c), (h c).2.1.trans (computed_6 m c), (h c).2.2.1.trans (computed_7 m c), (h c).2.2.2.1.trans (computed_8 m c), (h c).2.2.2.2⟩
  · refine (θ_run Cert.AdamUpRefIdeal.defs _ _).mono (fun r h c => ?_) (Cert.AdamUpRefIdeal.Value.run m' g')
    obtain ⟨e0, e1, e2, e3, e4⟩ := hm c
    refine ⟨?_, ?_, ?_, ?_, (h c).2.2.2.2⟩
    · rw [(h c).1, e3, e4]
      exact (Cert.AdamUpRefIdeal.Read.val_main_v6_eq (F := Ideal) _ _).trans (reference_sums _ _)
    · rw [(h c).2.1, e0, e1, e2, e3, e4]
      exact (Cert.AdamUpRefIdeal.Read.val_main_v31_eq (F := Ideal) _ _ _ _ _).trans (reference_steps _ _ _ _ _)
    · rw [(h c).2.2.1, e1, e3, e4]
      exact (Cert.AdamUpRefIdeal.Read.val_main_v12_eq (F := Ideal) _ _ _).trans (reference_firsts _ _ _)
    · rw [(h c).2.2.2.1, e2, e3, e4]
      exact (Cert.AdamUpRefIdeal.Read.val_main_v18_eq (F := Ideal) _ _ _).trans (reference_seconds _ _ _)

end Cert.AdamUpIdeal
-- ==== Proof.AdamOut.lean ====
module

public import proofs.«01_k».proof.Defs
public import proofs.«01_k».proof.Proof.Adam
public import proofs.«01_k».proof.Proof.Gen.AdamOutIdeal
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamOutRefIdeal

open Idealize.ShloMosaic Idealize.ShloMosaic.TcCoe
open Idealize.SL.Sem

/-- The reference runs on the host alone: it leaves its arguments as they were, and it has no semaphores. -/
theorem frame_holds : Cert.quiescent_AdamOutRefIdeal := fun m g _ =>
  (θ_run _ _ _).mono (fun r h => ⟨fun c => (h c).2.2.2.2, sem_eq_zero_of_no_sems rfl r.2⟩) (Value.run m g)

end Cert.AdamOutRefIdeal

namespace Cert.AdamOutIdeal

open Idealize.ShloMosaic Idealize.ShloMosaic.TcCoe Idealize.ShloMosaic.Tactic
open Idealize.SL.Sem
open Cert.AdamOutIdeal.Gen
open Cert.Adam (first second step total total_eq)

/-! ## The step of the optimiser on the output projection -/

variable (m : (ℓ : Loc nD τ sig) → Buf (Elt Ideal) ℓ) (c : Dev nD)

/-- The arguments on one device: the weight, the two running means, the device's own part of the gradient, and the parts received. -/
abbrev argW : Vec Ideal S1x512x4096 .f32 := m ((c.tc : Thread nD τ).loc main_arg0)
abbrev argM : Vec Ideal S1x512x4096 .f32 := m ((c.tc : Thread nD τ).loc main_arg1)
abbrev argV : Vec Ideal S1x512x4096 .f32 := m ((c.tc : Thread nD τ).loc main_arg2)
abbrev argP : Vec Ideal S512x4096 .bf16 := m ((c.tc : Thread nD τ).loc main_arg3)
abbrev argQ : Vec Ideal S3x512x4096 .bf16 := m ((c.tc : Thread nD τ).loc main_arg4)

/-- An entry of the gradient. -/
def sum (p : Vec Ideal S512x4096 .bf16) (q : Vec Ideal S3x512x4096 .bf16) (u : Fin 512) (k : Fin 4096) : EReal :=
  total (p (ix2 ⟨u.val, by omega⟩ k)) fun j => q (ix3 j ⟨u.val, by omega⟩ k)

def sums (p : Vec Ideal S512x4096 .bf16) (q : Vec Ideal S3x512x4096 .bf16) : Vec Ideal S1x512x4096 .f32 := fun y => sum p q (y 1) (y 2)
def firsts (p : Vec Ideal S512x4096 .bf16) (q : Vec Ideal S3x512x4096 .bf16) (a : Vec Ideal S1x512x4096 .f32) : Vec Ideal S1x512x4096 .f32 := fun y => first (sum p q (y 1) (y 2)) (a y)
def seconds (p : Vec Ideal S512x4096 .bf16) (q : Vec Ideal S3x512x4096 .bf16) (a : Vec Ideal S1x512x4096 .f32) : Vec Ideal S1x512x4096 .f32 := fun y => second (sum p q (y 1) (y 2)) (a y)
def steps (w a b : Vec Ideal S1x512x4096 .f32) (p : Vec Ideal S512x4096 .bf16) (q : Vec Ideal S3x512x4096 .bf16) : Vec Ideal S1x512x4096 .f32 := fun y => step (w y) (sum p q (y 1) (y 2)) (a y) (b y)

/-! ### The blocks of the grid's points -/

theorem place_0 : ∀ t : Fin cfg0.N, win0_0.index t = ![0, t.val, 0] :=
  (by decide +kernel : ∀ t : Fin grid0.N, win0_0.index t = ![0, t.val, 0])

theorem place_3 : ∀ t : Fin cfg0.N, win0_3.index t = ![t.val, 0] :=
  (by decide +kernel : ∀ t : Fin grid0.N, win0_3.index t = ![t.val, 0])

theorem place_4 : ∀ t : Fin cfg0.N, win0_4.index t = ![0, t.val, 0] :=
  (by decide +kernel : ∀ t : Fin grid0.N, win0_4.index t = ![0, t.val, 0])

/-- An entry of a block of the weight, or of an array laid out as it is, in its array. -/
theorem at_0 (t : Fin cfg0.N) (r : Fin 64) (s : Fin 4096) : (win0_0.blk t).view.emb (ix3 0 r s) = (ix3 0 ⟨64 * t.val + r.val, by have h : t.val < 8 := t.isLt; omega⟩ s : S1x512x4096.Idx) := by
  refine funext fun a => Fin.ext ?_
  have e := place_0 t
  match a with
  | ⟨0, _⟩ => blk_simp; simp [e, ix3]; try omega
  | ⟨1, _⟩ => blk_simp; simp [e, ix3]; try omega
  | ⟨2, _⟩ => blk_simp; simp [e, ix3]; try omega

theorem block_0 (t : Fin cfg0.N) (r : Fin 64) (s : Fin 4096) : iblk m c 0 t (ix3 (0 : Fin 1) r s) = argW m c (ix3 0 ⟨64 * t.val + r.val, by have h : t.val < 8 := t.isLt; omega⟩ s) :=
  congrArg (argW m c) (at_0 t r s)

theorem block_1 (t : Fin cfg0.N) (r : Fin 64) (s : Fin 4096) : iblk m c 1 t (ix3 (0 : Fin 1) r s) = argM m c (ix3 0 ⟨64 * t.val + r.val, by have h : t.val < 8 := t.isLt; omega⟩ s) :=
  congrArg (argM m c) (at_0 t r s)

theorem block_2 (t : Fin cfg0.N) (r : Fin 64) (s : Fin 4096) : iblk m c 2 t (ix3 (0 : Fin 1) r s) = argV m c (ix3 0 ⟨64 * t.val + r.val, by have h : t.val < 8 := t.isLt; omega⟩ s) :=
  congrArg (argV m c) (at_0 t r s)

theorem block_3 (t : Fin cfg0.N) (r : Fin 64) (s : Fin 4096) : iblk m c 3 t (ix2 r s) = argP m c (ix2 ⟨64 * t.val + r.val, by have h : t.val < 8 := t.isLt; omega⟩ s) := by
  unfold iblk
  blk_simp
  refine congrArg (argP m c) (funext fun a => Fin.ext ?_)
  have e := place_3 t
  match a with
  | ⟨0, _⟩ => blk_simp; simp [e, ix2, ix3]; try omega
  | ⟨1, _⟩ => blk_simp; simp [e, ix2, ix3]; try omega

theorem block_4 (t : Fin cfg0.N) (j : Fin 3) (r : Fin 64) (s : Fin 4096) : iblk m c 4 t (ix3 j r s) = argQ m c (ix3 j ⟨64 * t.val + r.val, by have h : t.val < 8 := t.isLt; omega⟩ s) := by
  unfold iblk
  blk_simp
  refine congrArg (argQ m c) (funext fun a => Fin.ext ?_)
  have e := place_4 t
  match a with
  | ⟨0, _⟩ => blk_simp; simp [e, ix2, ix3]; try omega
  | ⟨1, _⟩ => blk_simp; simp [e, ix2, ix3]; try omega
  | ⟨2, _⟩ => blk_simp; simp [e, ix2, ix3]; try omega

/-! ### What one point computes, from its block of the own part, `v0`, and its blocks of the parts received -/

theorem sum_entry (v0 : Vec Ideal S64x4096 .bf16) (v2 v6 v10 : Vec Ideal S1x64x4096 .bf16) (r : Fin 64) (s : Fin 4096) :
    k0_pay5 (F := Ideal) v0 v2 v6 v10 (ix2 r s) = total (v0 (ix2 r s)) ![v2 (ix3 0 r s), v6 (ix3 0 r s), v10 (ix3 0 r s)] := by
  unfold k0_pay5
  pointwise
  rfl

theorem stored_sum (v0 : Vec Ideal S64x4096 .bf16) (v2 v6 v10 : Vec Ideal S1x64x4096 .bf16) (r : Fin 64) (s : Fin 4096) :
    k0_pay6 (F := Ideal) v0 v2 v6 v10 (ix3 0 r s) = total (v0 (ix2 r s)) ![v2 (ix3 0 r s), v6 (ix3 0 r s), v10 (ix3 0 r s)] := by
  unfold k0_pay6
  pointwise
  rw [sum_entry]

theorem first_entry (v0 : Vec Ideal S64x4096 .bf16) (v2 v6 v10 : Vec Ideal S1x64x4096 .bf16) (a : Vec Ideal S1x64x4096 .f32) (r : Fin 64) (s : Fin 4096) :
    k0_pay8 (F := Ideal) v0 v2 v6 v10 a (ix2 r s) = first (total (v0 (ix2 r s)) ![v2 (ix3 0 r s), v6 (ix3 0 r s), v10 (ix3 0 r s)]) (a (ix3 0 r s)) := by
  unfold k0_pay8
  pointwise
  rw [sum_entry]
  rfl

theorem second_entry (v0 : Vec Ideal S64x4096 .bf16) (v2 v6 v10 : Vec Ideal S1x64x4096 .bf16) (b : Vec Ideal S1x64x4096 .f32) (r : Fin 64) (s : Fin 4096) :
    k0_pay1 (F := Ideal) (k0_pay9 (F := Ideal) b) (k0_pay10 (F := Ideal) v0 v2 v6 v10) (Scalar.ofBits .f32 0x3A83126F#32) (ix2 r s)
      = second (total (v0 (ix2 r s)) ![v2 (ix3 0 r s), v6 (ix3 0 r s), v10 (ix3 0 r s)]) (b (ix3 0 r s)) := by
  unfold k0_pay1 k0_pay9 k0_pay10
  pointwise
  rw [sum_entry]
  rfl

theorem stored_first (v : FVec Ideal S64x4096 .f32) (r : Fin 64) (s : Fin 4096) : k0_pay3 (F := Ideal) v (ix3 0 r s) = v (ix2 r s) := by
  unfold k0_pay3
  pointwise

theorem stored_second (a b : FVec Ideal S64x4096 .f32) (x : EReal) (r : Fin 64) (s : Fin 4096) :
    k0_pay4 (F := Ideal) a b x (ix3 0 r s) = k0_pay1 (F := Ideal) a b x (ix2 r s) := by
  unfold k0_pay4
  pointwise

theorem step_entry (w a b : Vec Ideal S1x64x4096 .f32) (v0 : Vec Ideal S64x4096 .bf16) (v2 v6 v10 : Vec Ideal S1x64x4096 .bf16) (r : Fin 64) (s : Fin 4096) :
    k0_pay2 (F := Ideal) (k0_pay7 (F := Ideal) w) (k0_pay8 (F := Ideal) v0 v2 v6 v10 a) (k0_pay9 (F := Ideal) b) (k0_pay10 (F := Ideal) v0 v2 v6 v10) (Scalar.ofBits .f32 0x3A83126F#32) (ix3 0 r s)
      = step (w (ix3 0 r s)) (total (v0 (ix2 r s)) ![v2 (ix3 0 r s), v6 (ix3 0 r s), v10 (ix3 0 r s)]) (a (ix3 0 r s)) (b (ix3 0 r s)) := by
  have h := second_entry v0 v2 v6 v10 b r s
  change k0_pay1 (F := Ideal) _ _ (Ideal.ofBits .f32 0x3A83126F#32) _ = _ at h
  unfold k0_pay2 k0_pay7
  pointwise
  rw [first_entry, h]
  rfl

/-- The parts received, read at one of the three. -/
theorem part_0 (x : Vec Ideal S3x64x4096 .bf16) (r : Fin 64) (s : Fin 4096) : View.ld x r0_1 (ix3 0 r s) = x (ix3 0 r s) :=
  congrArg x (funext fun a => Fin.ext (match a with
    | ⟨0, _⟩ => rfl
    | ⟨1, _⟩ => (by show 0 + 1 * r.val = r.val; omega)
    | ⟨2, _⟩ => (by show 0 + 1 * s.val = s.val; omega)))

theorem part_1 (x : Vec Ideal S3x64x4096 .bf16) (r : Fin 64) (s : Fin 4096) : View.ld x r0_2 (ix3 0 r s) = x (ix3 1 r s) :=
  congrArg x (funext fun a => Fin.ext (match a with
    | ⟨0, _⟩ => rfl
    | ⟨1, _⟩ => (by show 0 + 1 * r.val = r.val; omega)
    | ⟨2, _⟩ => (by show 0 + 1 * s.val = s.val; omega)))

theorem part_2 (x : Vec Ideal S3x64x4096 .bf16) (r : Fin 64) (s : Fin 4096) : View.ld x r0_3 (ix3 0 r s) = x (ix3 2 r s) :=
  congrArg x (funext fun a => Fin.ext (match a with
    | ⟨0, _⟩ => rfl
    | ⟨1, _⟩ => (by show 0 + 1 * r.val = r.val; omega)
    | ⟨2, _⟩ => (by show 0 + 1 * s.val = s.val; omega)))

/-- The gradient that a point sums is the array's, at the point's rows. -/
theorem sum_at (t : Fin cfg0.N) (r : Fin 64) (s : Fin 4096) :
    total (iblk m c 3 t (ix2 r s)) ![View.ld (iblk m c 4 t) r0_1 (ix3 0 r s), View.ld (iblk m c 4 t) r0_2 (ix3 0 r s), View.ld (iblk m c 4 t) r0_3 (ix3 0 r s)]
      = sum (argP m c) (argQ m c) ⟨64 * t.val + r.val, by have h : t.val < 8 := t.isLt; omega⟩ s := by
  rw [part_0, part_1, part_2, block_3, block_4, block_4, block_4]
  rfl

/-! ### The arrays the kernel leaves -/

theorem entries (y : S1x64x4096.Idx) : ∃ (r : Fin 64) (s : Fin 4096), y = ix3 0 r s := ⟨y 1, y 2, funext fun a => match a with | ⟨0, _⟩ => Subsingleton.elim (α := Fin 1) _ _ | ⟨1, _⟩ => rfl | ⟨2, _⟩ => rfl⟩

theorem computed_5 : (dats m 0 c).arrAt 5 cfg0.N = sums (argP m c) (argQ m c) := by
  refine (dats m 0 c).arrAt_eq_of_covers 5 _ (by decide +kernel) fun t hf y => ?_
  blk_simp
  rw [after0_5]
  unfold_out out0_5
  rw [View.canon_unit_zero (View.eq_zero_of_forall (by decide))]
  simp (disch := decide) only [View.ld_unit_lit']
  obtain ⟨r, s, rfl⟩ := entries y
  refine Eq.trans ?_ (congrArg _ (at_0 t r s)).symm
  rw [stored_sum, sum_at]
  rfl

theorem computed_6 : (dats m 0 c).arrAt 6 cfg0.N = steps (argW m c) (argM m c) (argV m c) (argP m c) (argQ m c) := by
  refine (dats m 0 c).arrAt_eq_of_covers 6 _ (by decide +kernel) fun t hf y => ?_
  blk_simp
  rw [after0_6]
  unfold_out out0_6
  rw [View.canon_unit_zero (View.eq_zero_of_forall (by decide))]
  simp (disch := decide) only [View.ld_unit_lit']
  obtain ⟨r, s, rfl⟩ := entries y
  refine Eq.trans ?_ (congrArg _ (at_0 t r s)).symm
  rw [step_entry, sum_at, block_0, block_1, block_2]
  rfl

theorem computed_7 : (dats m 0 c).arrAt 7 cfg0.N = firsts (argP m c) (argQ m c) (argM m c) := by
  refine (dats m 0 c).arrAt_eq_of_covers 7 _ (by decide +kernel) fun t hf y => ?_
  blk_simp
  rw [after0_7]
  unfold_out out0_7
  rw [View.canon_unit_zero (View.eq_zero_of_forall (by decide))]
  simp (disch := decide) only [View.ld_unit_lit']
  obtain ⟨r, s, rfl⟩ := entries y
  refine Eq.trans ?_ (congrArg _ (at_0 t r s)).symm
  rw [stored_first, first_entry, sum_at, block_1]
  rfl

theorem computed_8 : (dats m 0 c).arrAt 8 cfg0.N = seconds (argP m c) (argQ m c) (argV m c) := by
  refine (dats m 0 c).arrAt_eq_of_covers 8 _ (by decide +kernel) fun t hf y => ?_
  blk_simp
  rw [after0_8]
  unfold_out out0_8
  rw [View.canon_unit_zero (View.eq_zero_of_forall (by decide))]
  simp (disch := decide) only [View.ld_unit_lit']
  obtain ⟨r, s, rfl⟩ := entries y
  refine Eq.trans ?_ (congrArg _ (at_0 t r s)).symm
  rw [stored_second, second_entry, sum_at, block_2]
  rfl

/-! ### The reference -/

theorem reference_sum (p : Vec Ideal S512x4096 .bf16) (q : Vec Ideal S3x512x4096 .bf16) (i : Cert.AdamOutRefIdeal.S512x4096.Idx) : Cert.AdamOutRefIdeal.Read.val_main_v3 (F := Ideal) p q i = sum p q (i 0) (i 1) := by
  rw [Cert.AdamOutRefIdeal.Read.val_main_v3_apply, Cert.AdamOutRefIdeal.Read.val_main_v0_apply, Cert.AdamOutRefIdeal.Read.val_main_v2_apply]
  refine Eq.trans ?_ (total_eq _ _)
  refine congrArg₂ (· + ·)
    (congrArg p (funext fun a => match a with | ⟨0, _⟩ => rfl | ⟨1, _⟩ => rfl))
    (congrArg (Ideal.ofBits .f32 0x00000000#32 + ·) (Finset.sum_congr rfl fun j _ => ?_))
  rw [Cert.AdamOutRefIdeal.Read.val_main_v1_apply]
  exact congrArg q (funext fun a => match a with | ⟨0, _⟩ => rfl | ⟨1, _⟩ => rfl | ⟨2, _⟩ => rfl)

theorem reference_sums (p : Vec Ideal S512x4096 .bf16) (q : Vec Ideal S3x512x4096 .bf16) : Cert.AdamOutRefIdeal.Read.val_main_v4 (F := Ideal) p q = sums p q := by
  funext y
  rw [Cert.AdamOutRefIdeal.Read.val_main_v4_apply, reference_sum]
  rfl

theorem reference_sums' (p : Vec Ideal S512x4096 .bf16) (q : Vec Ideal S3x512x4096 .bf16) : Cert.AdamOutRefIdeal.Read.val_main_v5 (F := Ideal) p q = sums p q := by
  funext y
  rw [Cert.AdamOutRefIdeal.Read.val_main_v5_apply, reference_sum]
  rfl

theorem reference_firsts (p : Vec Ideal S512x4096 .bf16) (q : Vec Ideal S3x512x4096 .bf16) (a : Vec Ideal S1x512x4096 .f32) : Cert.AdamOutRefIdeal.Read.val_main_v10 (F := Ideal) a p q = firsts p q a := by
  funext y
  rw [Cert.AdamOutRefIdeal.Read.val_main_v10_apply, Cert.AdamOutRefIdeal.Read.val_main_v9_apply, Cert.AdamOutRefIdeal.Read.val_main_v8_apply, Cert.AdamOutRefIdeal.Read.val_main_v7_apply, Cert.AdamOutRefIdeal.Read.val_main_v6_apply, reference_sums']
  rfl

theorem reference_seconds (p : Vec Ideal S512x4096 .bf16) (q : Vec Ideal S3x512x4096 .bf16) (a : Vec Ideal S1x512x4096 .f32) : Cert.AdamOutRefIdeal.Read.val_main_v16 (F := Ideal) a p q = seconds p q a := by
  funext y
  rw [Cert.AdamOutRefIdeal.Read.val_main_v16_apply, Cert.AdamOutRefIdeal.Read.val_main_v15_apply, Cert.AdamOutRefIdeal.Read.val_main_v14_apply, Cert.AdamOutRefIdeal.Read.val_main_v13_apply, Cert.AdamOutRefIdeal.Read.val_main_v12_apply, Cert.AdamOutRefIdeal.Read.val_main_v11_apply, reference_sums']
  rfl

theorem reference_steps (w a b : Vec Ideal S1x512x4096 .f32) (p : Vec Ideal S512x4096 .bf16) (q : Vec Ideal S3x512x4096 .bf16) : Cert.AdamOutRefIdeal.Read.val_main_v29 (F := Ideal) w a b p q = steps w a b p q := by
  funext y
  rw [Cert.AdamOutRefIdeal.Read.val_main_v29_apply, Cert.AdamOutRefIdeal.Read.val_main_v28_apply, Cert.AdamOutRefIdeal.Read.val_main_v27_apply, Cert.AdamOutRefIdeal.Read.val_main_v26_apply, Cert.AdamOutRefIdeal.Read.val_main_v25_apply, Cert.AdamOutRefIdeal.Read.val_main_v24_apply, Cert.AdamOutRefIdeal.Read.val_main_v23_apply, Cert.AdamOutRefIdeal.Read.val_main_v22_apply, Cert.AdamOutRefIdeal.Read.val_main_v21_apply, Cert.AdamOutRefIdeal.Read.val_main_v20_apply, Cert.AdamOutRefIdeal.Read.val_main_v19_apply, Cert.AdamOutRefIdeal.Read.val_main_v18_apply, Cert.AdamOutRefIdeal.Read.val_main_v17_apply, reference_firsts, reference_seconds]
  rfl

theorem agree : Cert.algebraic_AdamOutIdeal_AdamOutRefIdeal := by
  intro m g m' g' hp hm
  refine ⟨fun c => sums (argP m c) (argQ m c), fun c => steps (argW m c) (argM m c) (argV m c) (argP m c) (argQ m c), fun c => firsts (argP m c) (argQ m c) (argM m c), fun c => seconds (argP m c) (argQ m c) (argV m c), ?_, ?_⟩
  · refine (θ_run defs _ _).mono (fun r h c => ?_) (Value.run_blocks m g)
    exact ⟨(h c).1.trans (computed_5 m c), (h c).2.1.trans (computed_6 m c), (h c).2.2.1.trans (computed_7 m c), (h c).2.2.2.1.trans (computed_8 m c), (h c).2.2.2.2⟩
  · refine (θ_run Cert.AdamOutRefIdeal.defs _ _).mono (fun r h c => ?_) (Cert.AdamOutRefIdeal.Value.run m' g')
    obtain ⟨e0, e1, e2, e3, e4⟩ := hm c
    refine ⟨?_, ?_, ?_, ?_, (h c).2.2.2.2⟩
    · rw [(h c).1, e3, e4]
      exact (Cert.AdamOutRefIdeal.Read.val_main_v4_eq (F := Ideal) _ _).trans (reference_sums _ _)
    · rw [(h c).2.1, e0, e1, e2, e3, e4]
      exact (Cert.AdamOutRefIdeal.Read.val_main_v29_eq (F := Ideal) _ _ _ _ _).trans (reference_steps _ _ _ _ _)
    · rw [(h c).2.2.1, e1, e3, e4]
      exact (Cert.AdamOutRefIdeal.Read.val_main_v10_eq (F := Ideal) _ _ _).trans (reference_firsts _ _ _)
    · rw [(h c).2.2.2.1, e2, e3, e4]
      exact (Cert.AdamOutRefIdeal.Read.val_main_v16_eq (F := Ideal) _ _ _).trans (reference_seconds _ _ _)

end Cert.AdamOutIdeal
-- ==== Proof.AdamIn.lean ====
module

public import proofs.«01_k».proof.Defs
public import proofs.«01_k».proof.Proof.Adam
public import proofs.«01_k».proof.Proof.Gen.AdamInIdeal
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamInRefIdeal

open Idealize.ShloMosaic Idealize.ShloMosaic.TcCoe
open Idealize.SL.Sem

/-- The reference runs on the host alone: it leaves its arguments as they were, and it has no semaphores. -/
theorem frame_holds : Cert.quiescent_AdamInRefIdeal := fun m g _ =>
  (θ_run _ _ _).mono (fun r h => ⟨fun c => (h c).2.2.2.2, sem_eq_zero_of_no_sems rfl r.2⟩) (Value.run m g)

end Cert.AdamInRefIdeal

namespace Cert.AdamInIdeal

open Idealize.ShloMosaic Idealize.ShloMosaic.TcCoe Idealize.ShloMosaic.Tactic
open Idealize.SL.Sem
open Cert.AdamInIdeal.Gen
open Cert.Adam (first second step total total_eq)

/-! ## The step of the optimiser on the input projection -/

variable (m : (ℓ : Loc nD τ sig) → Buf (Elt Ideal) ℓ) (c : Dev nD)

/-- The arguments on one device: the weight, the two running means, the device's own part of the gradient, and the parts received. -/
abbrev argW : Vec Ideal S1x4096x1536 .f32 := m ((c.tc : Thread nD τ).loc main_arg0)
abbrev argM : Vec Ideal S1x4096x1536 .f32 := m ((c.tc : Thread nD τ).loc main_arg1)
abbrev argV : Vec Ideal S1x4096x1536 .f32 := m ((c.tc : Thread nD τ).loc main_arg2)
abbrev argP : Vec Ideal S4096x1536 .bf16 := m ((c.tc : Thread nD τ).loc main_arg3)
abbrev argQ : Vec Ideal S3x4096x1536 .bf16 := m ((c.tc : Thread nD τ).loc main_arg4)

/-- An entry of the gradient. -/
def sum (p : Vec Ideal S4096x1536 .bf16) (q : Vec Ideal S3x4096x1536 .bf16) (u : Fin 4096) (k : Fin 1536) : EReal :=
  total (p (ix2 ⟨u.val, by omega⟩ k)) fun j => q (ix3 j ⟨u.val, by omega⟩ k)

def sums (p : Vec Ideal S4096x1536 .bf16) (q : Vec Ideal S3x4096x1536 .bf16) : Vec Ideal S1x4096x1536 .f32 := fun y => sum p q (y 1) (y 2)
def firsts (p : Vec Ideal S4096x1536 .bf16) (q : Vec Ideal S3x4096x1536 .bf16) (a : Vec Ideal S1x4096x1536 .f32) : Vec Ideal S1x4096x1536 .f32 := fun y => first (sum p q (y 1) (y 2)) (a y)
def seconds (p : Vec Ideal S4096x1536 .bf16) (q : Vec Ideal S3x4096x1536 .bf16) (a : Vec Ideal S1x4096x1536 .f32) : Vec Ideal S1x4096x1536 .f32 := fun y => second (sum p q (y 1) (y 2)) (a y)
def steps (w a b : Vec Ideal S1x4096x1536 .f32) (p : Vec Ideal S4096x1536 .bf16) (q : Vec Ideal S3x4096x1536 .bf16) : Vec Ideal S1x4096x1536 .f32 := fun y => step (w y) (sum p q (y 1) (y 2)) (a y) (b y)

/-! ### The blocks of the grid's points -/

theorem place_0 : ∀ t : Fin cfg0.N, win0_0.index t = ![0, t.val, 0] :=
  (by decide +kernel : ∀ t : Fin grid0.N, win0_0.index t = ![0, t.val, 0])

theorem place_3 : ∀ t : Fin cfg0.N, win0_3.index t = ![t.val, 0] :=
  (by decide +kernel : ∀ t : Fin grid0.N, win0_3.index t = ![t.val, 0])

theorem place_4 : ∀ t : Fin cfg0.N, win0_4.index t = ![0, t.val, 0] :=
  (by decide +kernel : ∀ t : Fin grid0.N, win0_4.index t = ![0, t.val, 0])

/-- An entry of a block of the weight, or of an array laid out as it is, in its array. -/
theorem at_0 (t : Fin cfg0.N) (r : Fin 128) (s : Fin 1536) : (win0_0.blk t).view.emb (ix3 0 r s) = (ix3 0 ⟨128 * t.val + r.val, by have h : t.val < 32 := t.isLt; omega⟩ s : S1x4096x1536.Idx) := by
  refine funext fun a => Fin.ext ?_
  have e := place_0 t
  match a with
  | ⟨0, _⟩ => blk_simp; simp [e, ix3]; try omega
  | ⟨1, _⟩ => blk_simp; simp [e, ix3]; try omega
  | ⟨2, _⟩ => blk_simp; simp [e, ix3]; try omega

theorem block_0 (t : Fin cfg0.N) (r : Fin 128) (s : Fin 1536) : iblk m c 0 t (ix3 (0 : Fin 1) r s) = argW m c (ix3 0 ⟨128 * t.val + r.val, by have h : t.val < 32 := t.isLt; omega⟩ s) :=
  congrArg (argW m c) (at_0 t r s)

theorem block_1 (t : Fin cfg0.N) (r : Fin 128) (s : Fin 1536) : iblk m c 1 t (ix3 (0 : Fin 1) r s) = argM m c (ix3 0 ⟨128 * t.val + r.val, by have h : t.val < 32 := t.isLt; omega⟩ s) :=
  congrArg (argM m c) (at_0 t r s)

theorem block_2 (t : Fin cfg0.N) (r : Fin 128) (s : Fin 1536) : iblk m c 2 t (ix3 (0 : Fin 1) r s) = argV m c (ix3 0 ⟨128 * t.val + r.val, by have h : t.val < 32 := t.isLt; omega⟩ s) :=
  congrArg (argV m c) (at_0 t r s)

theorem block_3 (t : Fin cfg0.N) (r : Fin 128) (s : Fin 1536) : iblk m c 3 t (ix2 r s) = argP m c (ix2 ⟨128 * t.val + r.val, by have h : t.val < 32 := t.isLt; omega⟩ s) := by
  unfold iblk
  blk_simp
  refine congrArg (argP m c) (funext fun a => Fin.ext ?_)
  have e := place_3 t
  match a with
  | ⟨0, _⟩ => blk_simp; simp [e, ix2, ix3]; try omega
  | ⟨1, _⟩ => blk_simp; simp [e, ix2, ix3]; try omega

theorem block_4 (t : Fin cfg0.N) (j : Fin 3) (r : Fin 128) (s : Fin 1536) : iblk m c 4 t (ix3 j r s) = argQ m c (ix3 j ⟨128 * t.val + r.val, by have h : t.val < 32 := t.isLt; omega⟩ s) := by
  unfold iblk
  blk_simp
  refine congrArg (argQ m c) (funext fun a => Fin.ext ?_)
  have e := place_4 t
  match a with
  | ⟨0, _⟩ => blk_simp; simp [e, ix2, ix3]; try omega
  | ⟨1, _⟩ => blk_simp; simp [e, ix2, ix3]; try omega
  | ⟨2, _⟩ => blk_simp; simp [e, ix2, ix3]; try omega

/-! ### What one point computes, from its block of the own part, `v0`, and its blocks of the parts received -/

theorem sum_entry (v0 : Vec Ideal S128x1536 .bf16) (v2 v6 v10 : Vec Ideal S1x128x1536 .bf16) (r : Fin 128) (s : Fin 1536) :
    k0_pay5 (F := Ideal) v0 v2 v6 v10 (ix2 r s) = total (v0 (ix2 r s)) ![v2 (ix3 0 r s), v6 (ix3 0 r s), v10 (ix3 0 r s)] := by
  unfold k0_pay5
  pointwise
  rfl

theorem stored_sum (v0 : Vec Ideal S128x1536 .bf16) (v2 v6 v10 : Vec Ideal S1x128x1536 .bf16) (r : Fin 128) (s : Fin 1536) :
    k0_pay6 (F := Ideal) v0 v2 v6 v10 (ix3 0 r s) = total (v0 (ix2 r s)) ![v2 (ix3 0 r s), v6 (ix3 0 r s), v10 (ix3 0 r s)] := by
  unfold k0_pay6
  pointwise
  rw [sum_entry]

theorem first_entry (v0 : Vec Ideal S128x1536 .bf16) (v2 v6 v10 : Vec Ideal S1x128x1536 .bf16) (a : Vec Ideal S1x128x1536 .f32) (r : Fin 128) (s : Fin 1536) :
    k0_pay8 (F := Ideal) v0 v2 v6 v10 a (ix2 r s) = first (total (v0 (ix2 r s)) ![v2 (ix3 0 r s), v6 (ix3 0 r s), v10 (ix3 0 r s)]) (a (ix3 0 r s)) := by
  unfold k0_pay8
  pointwise
  rw [sum_entry]
  rfl

theorem second_entry (v0 : Vec Ideal S128x1536 .bf16) (v2 v6 v10 : Vec Ideal S1x128x1536 .bf16) (b : Vec Ideal S1x128x1536 .f32) (r : Fin 128) (s : Fin 1536) :
    k0_pay1 (F := Ideal) (k0_pay9 (F := Ideal) b) (k0_pay10 (F := Ideal) v0 v2 v6 v10) (Scalar.ofBits .f32 0x3A83126F#32) (ix2 r s)
      = second (total (v0 (ix2 r s)) ![v2 (ix3 0 r s), v6 (ix3 0 r s), v10 (ix3 0 r s)]) (b (ix3 0 r s)) := by
  unfold k0_pay1 k0_pay9 k0_pay10
  pointwise
  rw [sum_entry]
  rfl

theorem stored_first (v : FVec Ideal S128x1536 .f32) (r : Fin 128) (s : Fin 1536) : k0_pay3 (F := Ideal) v (ix3 0 r s) = v (ix2 r s) := by
  unfold k0_pay3
  pointwise

theorem stored_second (a b : FVec Ideal S128x1536 .f32) (x : EReal) (r : Fin 128) (s : Fin 1536) :
    k0_pay4 (F := Ideal) a b x (ix3 0 r s) = k0_pay1 (F := Ideal) a b x (ix2 r s) := by
  unfold k0_pay4
  pointwise

theorem step_entry (w a b : Vec Ideal S1x128x1536 .f32) (v0 : Vec Ideal S128x1536 .bf16) (v2 v6 v10 : Vec Ideal S1x128x1536 .bf16) (r : Fin 128) (s : Fin 1536) :
    k0_pay2 (F := Ideal) (k0_pay7 (F := Ideal) w) (k0_pay8 (F := Ideal) v0 v2 v6 v10 a) (k0_pay9 (F := Ideal) b) (k0_pay10 (F := Ideal) v0 v2 v6 v10) (Scalar.ofBits .f32 0x3A83126F#32) (ix3 0 r s)
      = step (w (ix3 0 r s)) (total (v0 (ix2 r s)) ![v2 (ix3 0 r s), v6 (ix3 0 r s), v10 (ix3 0 r s)]) (a (ix3 0 r s)) (b (ix3 0 r s)) := by
  have h := second_entry v0 v2 v6 v10 b r s
  change k0_pay1 (F := Ideal) _ _ (Ideal.ofBits .f32 0x3A83126F#32) _ = _ at h
  unfold k0_pay2 k0_pay7
  pointwise
  rw [first_entry, h]
  rfl

/-- The parts received, read at one of the three. -/
theorem part_0 (x : Vec Ideal S3x128x1536 .bf16) (r : Fin 128) (s : Fin 1536) : View.ld x r0_1 (ix3 0 r s) = x (ix3 0 r s) :=
  congrArg x (funext fun a => Fin.ext (match a with
    | ⟨0, _⟩ => rfl
    | ⟨1, _⟩ => (by show 0 + 1 * r.val = r.val; omega)
    | ⟨2, _⟩ => (by show 0 + 1 * s.val = s.val; omega)))

theorem part_1 (x : Vec Ideal S3x128x1536 .bf16) (r : Fin 128) (s : Fin 1536) : View.ld x r0_2 (ix3 0 r s) = x (ix3 1 r s) :=
  congrArg x (funext fun a => Fin.ext (match a with
    | ⟨0, _⟩ => rfl
    | ⟨1, _⟩ => (by show 0 + 1 * r.val = r.val; omega)
    | ⟨2, _⟩ => (by show 0 + 1 * s.val = s.val; omega)))

theorem part_2 (x : Vec Ideal S3x128x1536 .bf16) (r : Fin 128) (s : Fin 1536) : View.ld x r0_3 (ix3 0 r s) = x (ix3 2 r s) :=
  congrArg x (funext fun a => Fin.ext (match a with
    | ⟨0, _⟩ => rfl
    | ⟨1, _⟩ => (by show 0 + 1 * r.val = r.val; omega)
    | ⟨2, _⟩ => (by show 0 + 1 * s.val = s.val; omega)))

/-- The gradient that a point sums is the array's, at the point's rows. -/
theorem sum_at (t : Fin cfg0.N) (r : Fin 128) (s : Fin 1536) :
    total (iblk m c 3 t (ix2 r s)) ![View.ld (iblk m c 4 t) r0_1 (ix3 0 r s), View.ld (iblk m c 4 t) r0_2 (ix3 0 r s), View.ld (iblk m c 4 t) r0_3 (ix3 0 r s)]
      = sum (argP m c) (argQ m c) ⟨128 * t.val + r.val, by have h : t.val < 32 := t.isLt; omega⟩ s := by
  rw [part_0, part_1, part_2, block_3, block_4, block_4, block_4]
  rfl

/-! ### The arrays the kernel leaves -/

theorem entries (y : S1x128x1536.Idx) : ∃ (r : Fin 128) (s : Fin 1536), y = ix3 0 r s := ⟨y 1, y 2, funext fun a => match a with | ⟨0, _⟩ => Subsingleton.elim (α := Fin 1) _ _ | ⟨1, _⟩ => rfl | ⟨2, _⟩ => rfl⟩

theorem computed_5 : (dats m 0 c).arrAt 5 cfg0.N = sums (argP m c) (argQ m c) := by
  refine (dats m 0 c).arrAt_eq_of_covers 5 _ (by decide +kernel) fun t hf y => ?_
  blk_simp
  rw [after0_5]
  unfold_out out0_5
  rw [View.canon_unit_zero (View.eq_zero_of_forall (by decide))]
  simp (disch := decide) only [View.ld_unit_lit']
  obtain ⟨r, s, rfl⟩ := entries y
  refine Eq.trans ?_ (congrArg _ (at_0 t r s)).symm
  rw [stored_sum, sum_at]
  rfl

theorem computed_6 : (dats m 0 c).arrAt 6 cfg0.N = steps (argW m c) (argM m c) (argV m c) (argP m c) (argQ m c) := by
  refine (dats m 0 c).arrAt_eq_of_covers 6 _ (by decide +kernel) fun t hf y => ?_
  blk_simp
  rw [after0_6]
  unfold_out out0_6
  rw [View.canon_unit_zero (View.eq_zero_of_forall (by decide))]
  simp (disch := decide) only [View.ld_unit_lit']
  obtain ⟨r, s, rfl⟩ := entries y
  refine Eq.trans ?_ (congrArg _ (at_0 t r s)).symm
  rw [step_entry, sum_at, block_0, block_1, block_2]
  rfl

theorem computed_7 : (dats m 0 c).arrAt 7 cfg0.N = firsts (argP m c) (argQ m c) (argM m c) := by
  refine (dats m 0 c).arrAt_eq_of_covers 7 _ (by decide +kernel) fun t hf y => ?_
  blk_simp
  rw [after0_7]
  unfold_out out0_7
  rw [View.canon_unit_zero (View.eq_zero_of_forall (by decide))]
  simp (disch := decide) only [View.ld_unit_lit']
  obtain ⟨r, s, rfl⟩ := entries y
  refine Eq.trans ?_ (congrArg _ (at_0 t r s)).symm
  rw [stored_first, first_entry, sum_at, block_1]
  rfl

theorem computed_8 : (dats m 0 c).arrAt 8 cfg0.N = seconds (argP m c) (argQ m c) (argV m c) := by
  refine (dats m 0 c).arrAt_eq_of_covers 8 _ (by decide +kernel) fun t hf y => ?_
  blk_simp
  rw [after0_8]
  unfold_out out0_8
  rw [View.canon_unit_zero (View.eq_zero_of_forall (by decide))]
  simp (disch := decide) only [View.ld_unit_lit']
  obtain ⟨r, s, rfl⟩ := entries y
  refine Eq.trans ?_ (congrArg _ (at_0 t r s)).symm
  rw [stored_second, second_entry, sum_at, block_2]
  rfl

/-! ### The reference -/

theorem reference_sum (p : Vec Ideal S4096x1536 .bf16) (q : Vec Ideal S3x4096x1536 .bf16) (i : Cert.AdamInRefIdeal.S4096x1536.Idx) : Cert.AdamInRefIdeal.Read.val_main_v3 (F := Ideal) p q i = sum p q (i 0) (i 1) := by
  rw [Cert.AdamInRefIdeal.Read.val_main_v3_apply, Cert.AdamInRefIdeal.Read.val_main_v0_apply, Cert.AdamInRefIdeal.Read.val_main_v2_apply]
  refine Eq.trans ?_ (total_eq _ _)
  refine congrArg₂ (· + ·)
    (congrArg p (funext fun a => match a with | ⟨0, _⟩ => rfl | ⟨1, _⟩ => rfl))
    (congrArg (Ideal.ofBits .f32 0x00000000#32 + ·) (Finset.sum_congr rfl fun j _ => ?_))
  rw [Cert.AdamInRefIdeal.Read.val_main_v1_apply]
  exact congrArg q (funext fun a => match a with | ⟨0, _⟩ => rfl | ⟨1, _⟩ => rfl | ⟨2, _⟩ => rfl)

theorem reference_sums (p : Vec Ideal S4096x1536 .bf16) (q : Vec Ideal S3x4096x1536 .bf16) : Cert.AdamInRefIdeal.Read.val_main_v4 (F := Ideal) p q = sums p q := by
  funext y
  rw [Cert.AdamInRefIdeal.Read.val_main_v4_apply, reference_sum]
  rfl

theorem reference_sums' (p : Vec Ideal S4096x1536 .bf16) (q : Vec Ideal S3x4096x1536 .bf16) : Cert.AdamInRefIdeal.Read.val_main_v5 (F := Ideal) p q = sums p q := by
  funext y
  rw [Cert.AdamInRefIdeal.Read.val_main_v5_apply, reference_sum]
  rfl

theorem reference_firsts (p : Vec Ideal S4096x1536 .bf16) (q : Vec Ideal S3x4096x1536 .bf16) (a : Vec Ideal S1x4096x1536 .f32) : Cert.AdamInRefIdeal.Read.val_main_v10 (F := Ideal) a p q = firsts p q a := by
  funext y
  rw [Cert.AdamInRefIdeal.Read.val_main_v10_apply, Cert.AdamInRefIdeal.Read.val_main_v9_apply, Cert.AdamInRefIdeal.Read.val_main_v8_apply, Cert.AdamInRefIdeal.Read.val_main_v7_apply, Cert.AdamInRefIdeal.Read.val_main_v6_apply, reference_sums']
  rfl

theorem reference_seconds (p : Vec Ideal S4096x1536 .bf16) (q : Vec Ideal S3x4096x1536 .bf16) (a : Vec Ideal S1x4096x1536 .f32) : Cert.AdamInRefIdeal.Read.val_main_v16 (F := Ideal) a p q = seconds p q a := by
  funext y
  rw [Cert.AdamInRefIdeal.Read.val_main_v16_apply, Cert.AdamInRefIdeal.Read.val_main_v15_apply, Cert.AdamInRefIdeal.Read.val_main_v14_apply, Cert.AdamInRefIdeal.Read.val_main_v13_apply, Cert.AdamInRefIdeal.Read.val_main_v12_apply, Cert.AdamInRefIdeal.Read.val_main_v11_apply, reference_sums']
  rfl

theorem reference_steps (w a b : Vec Ideal S1x4096x1536 .f32) (p : Vec Ideal S4096x1536 .bf16) (q : Vec Ideal S3x4096x1536 .bf16) : Cert.AdamInRefIdeal.Read.val_main_v29 (F := Ideal) w a b p q = steps w a b p q := by
  funext y
  rw [Cert.AdamInRefIdeal.Read.val_main_v29_apply, Cert.AdamInRefIdeal.Read.val_main_v28_apply, Cert.AdamInRefIdeal.Read.val_main_v27_apply, Cert.AdamInRefIdeal.Read.val_main_v26_apply, Cert.AdamInRefIdeal.Read.val_main_v25_apply, Cert.AdamInRefIdeal.Read.val_main_v24_apply, Cert.AdamInRefIdeal.Read.val_main_v23_apply, Cert.AdamInRefIdeal.Read.val_main_v22_apply, Cert.AdamInRefIdeal.Read.val_main_v21_apply, Cert.AdamInRefIdeal.Read.val_main_v20_apply, Cert.AdamInRefIdeal.Read.val_main_v19_apply, Cert.AdamInRefIdeal.Read.val_main_v18_apply, Cert.AdamInRefIdeal.Read.val_main_v17_apply, reference_firsts, reference_seconds]
  rfl

theorem agree : Cert.algebraic_AdamInIdeal_AdamInRefIdeal := by
  intro m g m' g' hp hm
  refine ⟨fun c => sums (argP m c) (argQ m c), fun c => steps (argW m c) (argM m c) (argV m c) (argP m c) (argQ m c), fun c => firsts (argP m c) (argQ m c) (argM m c), fun c => seconds (argP m c) (argQ m c) (argV m c), ?_, ?_⟩
  · refine (θ_run defs _ _).mono (fun r h c => ?_) (Value.run_blocks m g)
    exact ⟨(h c).1.trans (computed_5 m c), (h c).2.1.trans (computed_6 m c), (h c).2.2.1.trans (computed_7 m c), (h c).2.2.2.1.trans (computed_8 m c), (h c).2.2.2.2⟩
  · refine (θ_run Cert.AdamInRefIdeal.defs _ _).mono (fun r h c => ?_) (Cert.AdamInRefIdeal.Value.run m' g')
    obtain ⟨e0, e1, e2, e3, e4⟩ := hm c
    refine ⟨?_, ?_, ?_, ?_, (h c).2.2.2.2⟩
    · rw [(h c).1, e3, e4]
      exact (Cert.AdamInRefIdeal.Read.val_main_v4_eq (F := Ideal) _ _).trans (reference_sums _ _)
    · rw [(h c).2.1, e0, e1, e2, e3, e4]
      exact (Cert.AdamInRefIdeal.Read.val_main_v29_eq (F := Ideal) _ _ _ _ _).trans (reference_steps _ _ _ _ _)
    · rw [(h c).2.2.1, e1, e3, e4]
      exact (Cert.AdamInRefIdeal.Read.val_main_v10_eq (F := Ideal) _ _ _).trans (reference_firsts _ _ _)
    · rw [(h c).2.2.2.1, e2, e3, e4]
      exact (Cert.AdamInRefIdeal.Read.val_main_v16_eq (F := Ideal) _ _ _).trans (reference_seconds _ _ _)

end Cert.AdamInIdeal
-- ==== Proof.AdamSmall.lean ====
module

public import proofs.«01_k».proof.Defs
public import proofs.«01_k».proof.Proof.Adam
public import proofs.«01_k».proof.Proof.Gen.AdamSmallIdeal
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamSmallRefIdeal

open Idealize.ShloMosaic Idealize.ShloMosaic.TcCoe
open Idealize.SL.Sem

/-- The reference runs on the host alone: it leaves its arguments as they were, and it has no semaphores. -/
theorem frame_holds : Cert.quiescent_AdamSmallRefIdeal := fun m g _ =>
  (θ_run _ _ _).mono (fun r h => ⟨fun c => (h c).2.2.2, sem_eq_zero_of_no_sems rfl r.2⟩) (Value.run m g)

end Cert.AdamSmallRefIdeal

namespace Cert.AdamSmallIdeal

open Idealize.ShloMosaic Idealize.ShloMosaic.TcCoe Idealize.ShloMosaic.Tactic
open Idealize.SL.Sem
open Cert.AdamSmallIdeal.Gen
open Cert.Adam (first second step total total_eq)

/-! ## The step of the optimiser on the small weights -/

variable (m : (ℓ : Loc nD τ sig) → Buf (Elt Ideal) ℓ) (c : Dev nD)

/-- The arguments on one device: the weights, the gradients and the two running means, all packed. -/
abbrev argW : Vec Ideal S4608x128 .f32 := m ((c.tc : Thread nD τ).loc main_arg0)
abbrev argG : Vec Ideal S4608x128 .f32 := m ((c.tc : Thread nD τ).loc main_arg1)
abbrev argM : Vec Ideal S4608x128 .f32 := m ((c.tc : Thread nD τ).loc main_arg2)
abbrev argV : Vec Ideal S4608x128 .f32 := m ((c.tc : Thread nD τ).loc main_arg3)

def firsts (g a : Vec Ideal S4608x128 .f32) : Vec Ideal S4608x128 .f32 := fun y => first (g y) (a y)
def seconds (g a : Vec Ideal S4608x128 .f32) : Vec Ideal S4608x128 .f32 := fun y => second (g y) (a y)
def steps (w g a b : Vec Ideal S4608x128 .f32) : Vec Ideal S4608x128 .f32 := fun y => step (w y) (g y) (a y) (b y)

/-! ### The blocks of the grid's points -/

theorem place_0 : ∀ t : Fin cfg0.N, win0_0.index t = ![t.val, 0] :=
  (by decide +kernel : ∀ t : Fin grid0.N, win0_0.index t = ![t.val, 0])

/-- An entry of a block of the first argument, or of an array laid out as it is, in its array. -/
theorem at_0 (t : Fin cfg0.N) (r : Fin 256) (s : Fin 128) : (win0_0.blk t).view.emb (ix2 r s) = (ix2 ⟨256 * t.val + r.val, by have h : t.val < 18 := t.isLt; omega⟩ s : S4608x128.Idx) := by
  refine funext fun a => Fin.ext ?_
  have e := place_0 t
  match a with
  | ⟨0, _⟩ => blk_simp; simp [e, ix2]; try omega
  | ⟨1, _⟩ => blk_simp; simp [e, ix2]; try omega

theorem block_0 (t : Fin cfg0.N) (r : Fin 256) (s : Fin 128) :
    iblk m c 0 t (ix2 r s) = argW m c (ix2 ⟨256 * t.val + r.val, by have h : t.val < 18 := t.isLt; omega⟩ s) :=
  congrArg (argW m c) (at_0 t r s)

theorem block_1 (t : Fin cfg0.N) (r : Fin 256) (s : Fin 128) :
    iblk m c 1 t (ix2 r s) = argG m c (ix2 ⟨256 * t.val + r.val, by have h : t.val < 18 := t.isLt; omega⟩ s) :=
  congrArg (argG m c) (at_0 t r s)

theorem block_2 (t : Fin cfg0.N) (r : Fin 256) (s : Fin 128) :
    iblk m c 2 t (ix2 r s) = argM m c (ix2 ⟨256 * t.val + r.val, by have h : t.val < 18 := t.isLt; omega⟩ s) :=
  congrArg (argM m c) (at_0 t r s)

theorem block_3 (t : Fin cfg0.N) (r : Fin 256) (s : Fin 128) :
    iblk m c 3 t (ix2 r s) = argV m c (ix2 ⟨256 * t.val + r.val, by have h : t.val < 18 := t.isLt; omega⟩ s) :=
  congrArg (argV m c) (at_0 t r s)

/-! ### What one point computes, from its blocks -/

theorem first_entry (g a : Vec Ideal S256x128 .f32) (r : Fin 256) (s : Fin 128) : k0_pay1 (F := Ideal) g a (ix2 r s) = first (g (ix2 r s)) (a (ix2 r s)) := by
  unfold k0_pay1
  pointwise
  rfl

theorem second_entry (g a : Vec Ideal S256x128 .f32) (r : Fin 256) (s : Fin 128) : k0_pay2 (F := Ideal) g a (ix2 r s) = second (g (ix2 r s)) (a (ix2 r s)) := by
  unfold k0_pay2
  pointwise
  rfl

theorem step_entry (w g a b : Vec Ideal S256x128 .f32) (r : Fin 256) (s : Fin 128) :
    k0_pay3 (F := Ideal) w g a b (ix2 r s) = step (w (ix2 r s)) (g (ix2 r s)) (a (ix2 r s)) (b (ix2 r s)) := by
  unfold k0_pay3
  pointwise
  rw [first_entry, second_entry]
  rfl

/-! ### The arrays the kernel leaves -/

theorem entries (y : S256x128.Idx) : ∃ (r : Fin 256) (s : Fin 128), y = ix2 r s := ⟨y 0, y 1, funext fun a => match a with | ⟨0, _⟩ => rfl | ⟨1, _⟩ => rfl⟩

theorem computed_4 : (dats m 0 c).arrAt 4 cfg0.N = steps (argW m c) (argG m c) (argM m c) (argV m c) := by
  refine (dats m 0 c).arrAt_eq_of_covers 4 _ (by decide +kernel) fun t hf y => ?_
  blk_simp
  rw [after0_4]
  unfold out0_4
  simp (disch := decide) only [View.ld_unit_lit']
  rw [View.canon_unit_zero (View.eq_zero_of_forall (by decide))]
  obtain ⟨r, s, rfl⟩ := entries y
  have ht : t.val < 18 := t.isLt
  refine Eq.trans ?_ (congrArg _ (at_0 t r s)).symm
  rw [step_entry, block_0, block_1, block_2, block_3]
  rfl

theorem computed_5 : (dats m 0 c).arrAt 5 cfg0.N = firsts (argG m c) (argM m c) := by
  refine (dats m 0 c).arrAt_eq_of_covers 5 _ (by decide +kernel) fun t hf y => ?_
  blk_simp
  rw [after0_5]
  unfold out0_5
  simp (disch := decide) only [View.ld_unit_lit']
  rw [View.canon_unit_zero (View.eq_zero_of_forall (by decide))]
  obtain ⟨r, s, rfl⟩ := entries y
  have ht : t.val < 18 := t.isLt
  refine Eq.trans ?_ (congrArg _ (at_0 t r s)).symm
  rw [first_entry, block_1, block_2]
  rfl

theorem computed_6 : (dats m 0 c).arrAt 6 cfg0.N = seconds (argG m c) (argV m c) := by
  refine (dats m 0 c).arrAt_eq_of_covers 6 _ (by decide +kernel) fun t hf y => ?_
  blk_simp
  rw [after0_6]
  unfold out0_6
  simp (disch := decide) only [View.ld_unit_lit']
  rw [View.canon_unit_zero (View.eq_zero_of_forall (by decide))]
  obtain ⟨r, s, rfl⟩ := entries y
  have ht : t.val < 18 := t.isLt
  refine Eq.trans ?_ (congrArg _ (at_0 t r s)).symm
  rw [second_entry, block_1, block_3]
  rfl

/-! ### The reference -/

theorem reference_firsts (g a : Vec Ideal S4608x128 .f32) : Cert.AdamSmallRefIdeal.Read.val_main_v4 (F := Ideal) g a = firsts g a := by
  funext y
  rw [Cert.AdamSmallRefIdeal.Read.val_main_v4_apply, Cert.AdamSmallRefIdeal.Read.val_main_v3_apply, Cert.AdamSmallRefIdeal.Read.val_main_v2_apply, Cert.AdamSmallRefIdeal.Read.val_main_v1_apply, Cert.AdamSmallRefIdeal.Read.val_main_v0_apply]
  rfl

theorem reference_seconds (g a : Vec Ideal S4608x128 .f32) : Cert.AdamSmallRefIdeal.Read.val_main_v10 (F := Ideal) g a = seconds g a := by
  funext y
  rw [Cert.AdamSmallRefIdeal.Read.val_main_v10_apply, Cert.AdamSmallRefIdeal.Read.val_main_v9_apply, Cert.AdamSmallRefIdeal.Read.val_main_v8_apply, Cert.AdamSmallRefIdeal.Read.val_main_v7_apply, Cert.AdamSmallRefIdeal.Read.val_main_v6_apply, Cert.AdamSmallRefIdeal.Read.val_main_v5_apply]
  rfl

theorem reference_steps (w g a b : Vec Ideal S4608x128 .f32) : Cert.AdamSmallRefIdeal.Read.val_main_v23 (F := Ideal) w g a b = steps w g a b := by
  funext y
  rw [Cert.AdamSmallRefIdeal.Read.val_main_v23_apply, Cert.AdamSmallRefIdeal.Read.val_main_v22_apply, Cert.AdamSmallRefIdeal.Read.val_main_v21_apply, Cert.AdamSmallRefIdeal.Read.val_main_v20_apply, Cert.AdamSmallRefIdeal.Read.val_main_v19_apply, Cert.AdamSmallRefIdeal.Read.val_main_v18_apply, Cert.AdamSmallRefIdeal.Read.val_main_v17_apply, Cert.AdamSmallRefIdeal.Read.val_main_v16_apply, Cert.AdamSmallRefIdeal.Read.val_main_v15_apply, Cert.AdamSmallRefIdeal.Read.val_main_v14_apply, Cert.AdamSmallRefIdeal.Read.val_main_v13_apply, Cert.AdamSmallRefIdeal.Read.val_main_v12_apply, Cert.AdamSmallRefIdeal.Read.val_main_v11_apply, reference_firsts, reference_seconds]
  rfl

theorem agree : Cert.algebraic_AdamSmallIdeal_AdamSmallRefIdeal := by
  intro m g m' g' hp hm
  refine ⟨fun c => steps (argW m c) (argG m c) (argM m c) (argV m c), fun c => firsts (argG m c) (argM m c), fun c => seconds (argG m c) (argV m c), ?_, ?_⟩
  · refine (θ_run defs _ _).mono (fun r h c => ?_) (Value.run_blocks m g)
    exact ⟨(h c).1.trans (computed_4 m c), (h c).2.1.trans (computed_5 m c), (h c).2.2.1.trans (computed_6 m c), (h c).2.2.2⟩
  · refine (θ_run Cert.AdamSmallRefIdeal.defs _ _).mono (fun r h c => ?_) (Cert.AdamSmallRefIdeal.Value.run m' g')
    obtain ⟨e0, e1, e2, e3⟩ := hm c
    refine ⟨?_, ?_, ?_, (h c).2.2.2⟩
    · rw [(h c).1, e0, e1, e2, e3]
      exact (Cert.AdamSmallRefIdeal.Read.val_main_v23_eq (F := Ideal) _ _ _ _).trans (reference_steps _ _ _ _)
    · rw [(h c).2.1, e1, e2]
      exact (Cert.AdamSmallRefIdeal.Read.val_main_v4_eq (F := Ideal) _ _).trans (reference_firsts _ _)
    · rw [(h c).2.2.1, e1, e3]
      exact (Cert.AdamSmallRefIdeal.Read.val_main_v10_eq (F := Ideal) _ _).trans (reference_seconds _ _)

end Cert.AdamSmallIdeal
-- ==== Proof.Pairs.lean ====
module

public import Idealize.ShloMosaic.PureOps
public import Idealize.ShloMosaic.Lib.Pointwise
public import Idealize.ShloMosaic.Lib.StableHlo.Predicate

@[expose] public section

namespace Cert.Pairs

open Idealize.ShloMosaic

theorem idx_eq (i j : Shape.Idx ⟨1, ![1]⟩) : i = j := funext fun a => match a with | ⟨0, _⟩ => Subsingleton.elim (α := Fin 1) _ _

/-- The one word of an array that is nought or one. -/
theorem core_word (x : IVec ⟨1, ![1]⟩ 32) (y : IVec ⟨1, ![1]⟩ 1) (hy : y = fun _ => 1#1)
    (h : ∀ i, y i = IntOp.ori (IntOp.cmpi .eq (x i) 0#32) (IntOp.cmpi .eq (x i) 1#32)) : ∃ k : Fin 2, x = fun _ => BitVec.ofNat 32 k.val := by
  let i₀ : Shape.Idx ⟨1, ![1]⟩ := fun a => match a with | ⟨0, _⟩ => (0 : Fin 1)
  have e := h i₀
  rw [hy] at e
  have q : ∀ w : BitVec 32, 1#1 = IntOp.ori (IntOp.cmpi .eq w 0#32) (IntOp.cmpi .eq w 1#32) → w = 0#32 ∨ w = 1#32 := by
    intro w e
    by_cases h0 : w = 0#32
    · exact .inl h0
    · by_cases h1 : w = 1#32
      · exact .inr h1
      · have z0 : (w == 0#32) = false := by simpa using h0
        have z1 : (w == 1#32) = false := by simpa using h1
        simp [IntOp.cmpi, IntOp.ori, z0, z1] at e
  rcases q _ e with q | q
  · exact ⟨0, funext fun i => (congrArg x (idx_eq i i₀)).trans q⟩
  · exact ⟨1, funext fun i => (congrArg x (idx_eq i i₀)).trans q⟩

end Cert.Pairs
-- ==== Proof.AddUp.lean ====
module

public import proofs.«01_k».proof.Defs
public import proofs.«01_k».proof.Proof.Pairs
public import proofs.«01_k».proof.Proof.Gen.AddUp.Frame
public import proofs.«01_k».proof.Proof.Gen.AddUpIdeal.Frame
public import proofs.«01_k».proof.Proof.Gen.AddUpRefIdeal
public import proofs.«01_k».proof.Proof.Gen.AddUpRefIdeal.Run
public import proofs.«01_k».proof.Proof.Gen.AddUpRefIdeal.Read
public import proofs.«01_k».proof.Proof.Gen.Pre_addup_core
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AddUpRefIdeal

open Idealize.ShloMosaic Idealize.ShloMosaic.TcCoe
open Idealize.SL.Sem

/-- The reference runs on the host alone: it leaves its arguments as they were, and it has no semaphores. -/
theorem frame_holds : Cert.quiescent_AddUpRefIdeal := fun m g _ =>
  (θ_run _ _ _).mono (fun r h => ⟨fun c => (h c).2, sem_eq_zero_of_no_sems rfl r.2⟩) (Value.run m g)

end Cert.AddUpRefIdeal

namespace Cert.AddUpIdeal

open Idealize.ShloMosaic Idealize.ShloMosaic.TcCoe Idealize.ShloMosaic.Tactic
open Idealize.SL.Sem
open Cert.AddUpIdeal.Gen
open Cert.Pairs (core_word)
open Cert.AddUpRefIdeal.Read

/-! ## The sum of a pair of devices, of the gradient of the feed-forward up projection -/

/-! ### The blocks that the index names lie inside the array -/

theorem runs_kernel (m : (ℓ : Loc Cert.AddUp.nD Cert.AddUp.τ Cert.AddUp.sig) → Buf (Elt Bits) ℓ) (h : Cert.Pre_AddUp m) : Cert.AddUp.Gen.Ok m := by
  obtain ⟨k, hk⟩ := core_word _ _ (h 0) fun _ => rfl
  have e : Cert.AddUp.Gen.tbl m = fun j => match j with | ⟨0, _⟩ => fun _ => BitVec.ofNat 32 k.val := funext fun j => match j with | ⟨0, _⟩ => hk
  unfold Cert.AddUp.Gen.Ok
  rw [e]
  clear e hk
  revert k
  decide

theorem runs_ideal (m : (ℓ : Loc Cert.AddUpIdeal.nD Cert.AddUpIdeal.τ Cert.AddUpIdeal.sig) → Buf (Elt Ideal) ℓ) (h : Cert.Pre_AddUpIdeal m) : Cert.AddUpIdeal.Gen.Ok m := by
  obtain ⟨k, hk⟩ := core_word _ _ (h 0) fun _ => rfl
  have e : Cert.AddUpIdeal.Gen.tbl m = fun j => match j with | ⟨0, _⟩ => fun _ => BitVec.ofNat 32 k.val := funext fun j => match j with | ⟨0, _⟩ => hk
  unfold Cert.AddUpIdeal.Gen.Ok
  rw [e]
  clear e hk
  revert k
  decide

/-! ### The value -/

variable (m : (ℓ : Loc nD τ sig) → Buf (Elt Ideal) ℓ) (c : Dev nD)

/-- The arguments on one device: its sums, its neighbour's, and which of the two it is. -/
abbrev argG : Vec Ideal S4x5632x4096 .bf16 := m ((c.tc : Thread nD τ).loc main_arg0)
abbrev argR : Vec Ideal S4x2816x4096 .bf16 := m ((c.tc : Thread nD τ).loc main_arg1)
abbrev argC : IVec S1 32 := m ((c.tc : Thread nD τ).loc main_arg2)

/-- Half `k` of the rows, added to what was received. -/
def added (k : Fin 2) (g : Vec Ideal S4x5632x4096 .bf16) (r : Vec Ideal S4x2816x4096 .bf16) : Vec Ideal S4x2816x4096 .bf16 :=
  fun y => g (ix3 (y 0) ⟨2816 * k.val + (y 1).val, by have h : (y 1).val < 2816 := (y 1).isLt; omega⟩ (y 2)) + r y

/-- Where the blocks lie: the own half's, and the received and the summed ones'. -/
theorem place_own (k : Fin 2) (a : (pcfg0 (F := Ideal)).Adm) (h : a.1 0 = fun _ => BitVec.ofNat 32 k.val) (t : Fin grid0.N) :
    cc0_transform_0 inb_S1_S1_0 numel1_S1 a.1 (grid0.coords t) = ![t.val / 4, 4 * k.val + t.val % 4, 0] := by
  unfold cc0_transform_0
  show ![_, (Scalar.addi (Scalar.muli (a.1 0 _) _) _).toNat, _] = _
  rw [h]
  clear h a
  revert k t
  decide +kernel

theorem place_sum : ∀ t : Fin grid0.N, cc0_transform_2 (grid0.coords t) = ![t.val / 4, t.val % 4, 0] := by decide +kernel

theorem entry (x y : Vec Ideal S1x704x4096 .bf16) (j : S1x704x4096.Idx) : k0_pay1 x y j = x j + y j := by
  unfold k0_pay1
  pointwise

/-- An entry of a block, in its array. -/
theorem at_own (k : Fin 2) (hO : Ok m) (h : argC m 0 = fun _ => BitVec.ofNat 32 k.val) (t : Fin (cfgM m hO).N) (y : S1x704x4096.Idx) (o : Fin 4) (r : Fin 5632) (s : Fin 4096)
    (h0 : o.val = t.val / 4) (h1 : r.val = 704 * (4 * k.val + t.val % 4) + (y 1).val) (h2 : s.val = (y 2).val) :
    (((cfgM m hO).win 0).blk t).view.emb y = (ix3 o r s : S4x5632x4096.Idx) := by
  have e := place_own k (adm m hO) h t
  have z : (y 0).val < 1 := (y 0).isLt
  refine funext fun a => Fin.ext ?_
  refine (ValueKit.view_emb_slice_whole_unit_val main_arg0 _ _ _ y a).trans ?_
  show cc0_transform_0 inb_S1_S1_0 numel1_S1 (adm m hO).1 (grid0.coords t) a * S1x704x4096.size a + (y a).val = _
  rw [e]
  match a with
  | ⟨0, _⟩ => show t.val / 4 * 1 + (y 0).val = o.val; omega
  | ⟨1, _⟩ => show (4 * k.val + t.val % 4) * 704 + (y 1).val = r.val; omega
  | ⟨2, _⟩ => show 0 * 4096 + (y 2).val = s.val; omega

theorem at_sum (hO : Ok m) (t : Fin (cfgM m hO).N) (y : S1x704x4096.Idx) (i : S4x2816x4096.Idx)
    (h0 : (i 0).val = t.val / 4) (h1 : (i 1).val = 704 * (t.val % 4) + (y 1).val) (h2 : (i 2).val = (y 2).val) :
    (((cfgM m hO).win 2).blk t).view.emb y = i := by
  have e := place_sum t
  have z : (y 0).val < 1 := (y 0).isLt
  refine funext fun a => Fin.ext ?_
  refine (ValueKit.view_emb_slice_whole_unit_val main_v0 _ _ _ y a).trans ?_
  show cc0_transform_2 (grid0.coords t) a * S1x704x4096.size a + (y a).val = _
  rw [e]
  match a with
  | ⟨0, _⟩ => show t.val / 4 * 1 + (y 0).val = (i 0).val; omega
  | ⟨1, _⟩ => show (t.val % 4) * 704 + (y 1).val = (i 1).val; omega
  | ⟨2, _⟩ => show 0 * 4096 + (y 2).val = (i 2).val; omega

/-- The array the kernel leaves. -/
theorem computed (k : Fin 2) (hO : Ok m) (h : argC m 0 = fun _ => BitVec.ofNat 32 k.val) :
    (dats m hO 0 c).arrAt 2 (cfgM m hO).N = added k (argG m c) (argR m c) := by
  refine (dats m hO 0 c).arrAt_eq_of_emb 2 _ (fun (t : Fin (cfgM m hO).N) hf (y : S1x704x4096.Idx) => ?_) (fun (i : S4x2816x4096.Idx) => ?_)
  · blk_simp
    rw [after0_2]
    unfold outsAt0
    frame_out
    have ht : t.val < 16 := t.isLt
    have hk : k.val < 2 := k.isLt
    have hy : (y 1).val < 704 := (y 1).isLt
    let i : S4x2816x4096.Idx := ix3 ⟨t.val / 4, by omega⟩ ⟨704 * (t.val % 4) + (y 1).val, by omega⟩ ⟨(y 2).val, (y 2).isLt⟩
    have q : (((cfgM m hO).win 2).blk t).view.emb y = i := at_sum m hO t y i rfl rfl rfl
    refine Eq.trans ?_ (congrArg (added k (argG m c) (argR m c)) q).symm
    refine (entry _ _ y).trans ?_
    exact congrArg₂ (· + ·)
      ((congrFun ((hs0_0 m hO t).read_unread (iblk m hO c 0 t)) y).trans (congrArg (argG m c) (at_own m k hO h t y ⟨t.val / 4, by omega⟩ ⟨2816 * k.val + (704 * (t.val % 4) + (y 1).val), by omega⟩ ⟨(y 2).val, (y 2).isLt⟩ rfl (by show 2816 * k.val + (704 * (t.val % 4) + (y 1).val) = _; omega) rfl)))
      ((congrFun ((hs0_1 m hO t).read_unread (iblk m hO c 1 t)) y).trans (congrArg (argR m c) (at_sum m hO t y i rfl rfl rfl)))
  · have b0 : (i 0).val < 4 := (i 0).isLt
    have b1 : (i 1).val < 2816 := (i 1).isLt
    let t : Fin (cfgM m hO).N := ⟨4 * (i 0).val + (i 1).val / 704, by show _ < 16; omega⟩
    let y : S1x704x4096.Idx := ix3 0 ⟨(i 1).val % 704, by omega⟩ (i 2)
    refine ⟨t, flush0_2 _ _, ?_⟩
    have q := at_sum m hO t y i (by show _ = (4 * (i 0).val + (i 1).val / 704) / 4; omega) (by show _ = 704 * ((4 * (i 0).val + (i 1).val / 704) % 4) + (i 1).val % 704; omega) rfl
    exact q ▸ View.emb_mem_set _ y

/-! ### The reference -/

theorem reference_eq (k : Fin 2) (g : Vec Ideal S4x5632x4096 .bf16) (r : Vec Ideal S4x2816x4096 .bf16) : val_main_v9 (F := Ideal) g r (fun _ => BitVec.ofNat 32 k.val) = added k g r := by
  funext y
  rw [val_main_v9_apply, val_main_v8_apply, val_main_v7_apply, val_main_v6_apply]
  rw [val_main_v5_apply, val_main_v2_apply, val_main_v1_apply, val_main_c_apply, val_main_v3_apply, val_main_v4_apply]
  have e : ∀ i, val_main_v0 (F := Ideal) (fun _ => BitVec.ofNat 32 k.val) i = BitVec.ofNat 32 k.val := fun _ => rfl
  rw [e]
  show Scalar.select _ _ _ + r y = g _ + r y
  refine congrArg (· + r y) ?_
  match k with
  | ⟨0, _⟩ =>
    exact congrArg g (funext fun a => Fin.ext (match a with | ⟨0, _⟩ => rfl | ⟨1, _⟩ => by show (y 1).val = 2816 * 0 + (y 1).val; omega | ⟨2, _⟩ => rfl))
  | ⟨1, _⟩ =>
    exact congrArg g (funext fun a => Fin.ext (match a with | ⟨0, _⟩ => rfl | ⟨1, _⟩ => by show 2816 + (y 1).val = 2816 * 1 + (y 1).val; omega | ⟨2, _⟩ => rfl))

theorem agree : Cert.algebraic_AddUpIdeal_AddUpRefIdeal := by
  intro m g m' g' hp hm
  obtain ⟨k, hk⟩ := core_word _ _ (hp 0) fun _ => rfl
  have hO := runs_ideal m hp
  refine ⟨fun c => added k (argG m c) (argR m c), ?_, ?_⟩
  · refine (θ_run defs _ _).mono (fun r h c => ?_) (θ_run_and (run_main m g hO) (unchanged m g hO))
    exact ⟨((h.1 c).1 2).trans (computed m c k hO hk), h.2 c⟩
  · refine (θ_run Cert.AddUpRefIdeal.defs _ _).mono (fun r h c => ?_) (Cert.AddUpRefIdeal.Value.run m' g')
    obtain ⟨e0, e1, e2⟩ := hm c
    obtain rfl : c = 0 := Subsingleton.elim _ _
    refine ⟨?_, (h 0).2⟩
    rw [(h 0).1, e0, e1, e2]
    exact (val_main_v9_eq (F := Ideal) _ _ _).trans ((congrArg _ hk).trans (reference_eq k _ _))

end Cert.AddUpIdeal
-- ==== Proof.AddIn.lean ====
module

public import proofs.«01_k».proof.Defs
public import proofs.«01_k».proof.Proof.Pairs
public import proofs.«01_k».proof.Proof.Gen.AddIn.Frame
public import proofs.«01_k».proof.Proof.Gen.AddInIdeal.Frame
public import proofs.«01_k».proof.Proof.Gen.AddInRefIdeal
public import proofs.«01_k».proof.Proof.Gen.AddInRefIdeal.Run
public import proofs.«01_k».proof.Proof.Gen.AddInRefIdeal.Read
public import proofs.«01_k».proof.Proof.Gen.Pre_addin_core
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AddInRefIdeal

open Idealize.ShloMosaic Idealize.ShloMosaic.TcCoe
open Idealize.SL.Sem

/-- The reference runs on the host alone: it leaves its arguments as they were, and it has no semaphores. -/
theorem frame_holds : Cert.quiescent_AddInRefIdeal := fun m g _ =>
  (θ_run _ _ _).mono (fun r h => ⟨fun c => (h c).2, sem_eq_zero_of_no_sems rfl r.2⟩) (Value.run m g)

end Cert.AddInRefIdeal

namespace Cert.AddInIdeal

open Idealize.ShloMosaic Idealize.ShloMosaic.TcCoe Idealize.ShloMosaic.Tactic
open Idealize.SL.Sem
open Cert.AddInIdeal.Gen
open Cert.Pairs (core_word)
open Cert.AddInRefIdeal.Read

/-! ## The sum of a pair of devices, of the gradient of the input projection -/

/-! ### The blocks that the index names lie inside the array -/

theorem runs_kernel (m : (ℓ : Loc Cert.AddIn.nD Cert.AddIn.τ Cert.AddIn.sig) → Buf (Elt Bits) ℓ) (h : Cert.Pre_AddIn m) : Cert.AddIn.Gen.Ok m := by
  obtain ⟨k, hk⟩ := core_word _ _ (h 0) fun _ => rfl
  have e : Cert.AddIn.Gen.tbl m = fun j => match j with | ⟨0, _⟩ => fun _ => BitVec.ofNat 32 k.val := funext fun j => match j with | ⟨0, _⟩ => hk
  unfold Cert.AddIn.Gen.Ok
  rw [e]
  clear e hk
  revert k
  decide

theorem runs_ideal (m : (ℓ : Loc Cert.AddInIdeal.nD Cert.AddInIdeal.τ Cert.AddInIdeal.sig) → Buf (Elt Ideal) ℓ) (h : Cert.Pre_AddInIdeal m) : Cert.AddInIdeal.Gen.Ok m := by
  obtain ⟨k, hk⟩ := core_word _ _ (h 0) fun _ => rfl
  have e : Cert.AddInIdeal.Gen.tbl m = fun j => match j with | ⟨0, _⟩ => fun _ => BitVec.ofNat 32 k.val := funext fun j => match j with | ⟨0, _⟩ => hk
  unfold Cert.AddInIdeal.Gen.Ok
  rw [e]
  clear e hk
  revert k
  decide

/-! ### The value -/

variable (m : (ℓ : Loc nD τ sig) → Buf (Elt Ideal) ℓ) (c : Dev nD)

/-- The arguments on one device: its sums, its neighbour's, and which of the two it is. -/
abbrev argG : Vec Ideal S4x8192x1536 .bf16 := m ((c.tc : Thread nD τ).loc main_arg0)
abbrev argR : Vec Ideal S4x4096x1536 .bf16 := m ((c.tc : Thread nD τ).loc main_arg1)
abbrev argC : IVec S1 32 := m ((c.tc : Thread nD τ).loc main_arg2)

/-- Half `k` of the rows, added to what was received. -/
def added (k : Fin 2) (g : Vec Ideal S4x8192x1536 .bf16) (r : Vec Ideal S4x4096x1536 .bf16) : Vec Ideal S4x4096x1536 .bf16 :=
  fun y => g (ix3 (y 0) ⟨4096 * k.val + (y 1).val, by have h : (y 1).val < 4096 := (y 1).isLt; omega⟩ (y 2)) + r y

/-- Where the blocks lie: the own half's, and the received and the summed ones'. -/
theorem place_own (k : Fin 2) (a : (pcfg0 (F := Ideal)).Adm) (h : a.1 0 = fun _ => BitVec.ofNat 32 k.val) (t : Fin grid0.N) :
    cc0_transform_0 inb_S1_S1_0 numel1_S1 a.1 (grid0.coords t) = ![t.val / 2, 2 * k.val + t.val % 2, 0] := by
  unfold cc0_transform_0
  show ![_, (Scalar.addi (Scalar.muli (a.1 0 _) _) _).toNat, _] = _
  rw [h]
  clear h a
  revert k t
  decide +kernel

theorem place_sum : ∀ t : Fin grid0.N, cc0_transform_2 (grid0.coords t) = ![t.val / 2, t.val % 2, 0] := by decide +kernel

theorem entry (x y : Vec Ideal S1x2048x1536 .bf16) (j : S1x2048x1536.Idx) : k0_pay1 x y j = x j + y j := by
  unfold k0_pay1
  pointwise

/-- An entry of a block, in its array. -/
theorem at_own (k : Fin 2) (hO : Ok m) (h : argC m 0 = fun _ => BitVec.ofNat 32 k.val) (t : Fin (cfgM m hO).N) (y : S1x2048x1536.Idx) (o : Fin 4) (r : Fin 8192) (s : Fin 1536)
    (h0 : o.val = t.val / 2) (h1 : r.val = 2048 * (2 * k.val + t.val % 2) + (y 1).val) (h2 : s.val = (y 2).val) :
    (((cfgM m hO).win 0).blk t).view.emb y = (ix3 o r s : S4x8192x1536.Idx) := by
  have e := place_own k (adm m hO) h t
  have z : (y 0).val < 1 := (y 0).isLt
  refine funext fun a => Fin.ext ?_
  refine (ValueKit.view_emb_slice_whole_unit_val main_arg0 _ _ _ y a).trans ?_
  show cc0_transform_0 inb_S1_S1_0 numel1_S1 (adm m hO).1 (grid0.coords t) a * S1x2048x1536.size a + (y a).val = _
  rw [e]
  match a with
  | ⟨0, _⟩ => show t.val / 2 * 1 + (y 0).val = o.val; omega
  | ⟨1, _⟩ => show (2 * k.val + t.val % 2) * 2048 + (y 1).val = r.val; omega
  | ⟨2, _⟩ => show 0 * 1536 + (y 2).val = s.val; omega

theorem at_sum (hO : Ok m) (t : Fin (cfgM m hO).N) (y : S1x2048x1536.Idx) (i : S4x4096x1536.Idx)
    (h0 : (i 0).val = t.val / 2) (h1 : (i 1).val = 2048 * (t.val % 2) + (y 1).val) (h2 : (i 2).val = (y 2).val) :
    (((cfgM m hO).win 2).blk t).view.emb y = i := by
  have e := place_sum t
  have z : (y 0).val < 1 := (y 0).isLt
  refine funext fun a => Fin.ext ?_
  refine (ValueKit.view_emb_slice_whole_unit_val main_v0 _ _ _ y a).trans ?_
  show cc0_transform_2 (grid0.coords t) a * S1x2048x1536.size a + (y a).val = _
  rw [e]
  match a with
  | ⟨0, _⟩ => show t.val / 2 * 1 + (y 0).val = (i 0).val; omega
  | ⟨1, _⟩ => show (t.val % 2) * 2048 + (y 1).val = (i 1).val; omega
  | ⟨2, _⟩ => show 0 * 1536 + (y 2).val = (i 2).val; omega

/-- The array the kernel leaves. -/
theorem computed (k : Fin 2) (hO : Ok m) (h : argC m 0 = fun _ => BitVec.ofNat 32 k.val) :
    (dats m hO 0 c).arrAt 2 (cfgM m hO).N = added k (argG m c) (argR m c) := by
  refine (dats m hO 0 c).arrAt_eq_of_emb 2 _ (fun (t : Fin (cfgM m hO).N) hf (y : S1x2048x1536.Idx) => ?_) (fun (i : S4x4096x1536.Idx) => ?_)
  · blk_simp
    rw [after0_2]
    unfold outsAt0
    frame_out
    have ht : t.val < 8 := t.isLt
    have hk : k.val < 2 := k.isLt
    have hy : (y 1).val < 2048 := (y 1).isLt
    let i : S4x4096x1536.Idx := ix3 ⟨t.val / 2, by omega⟩ ⟨2048 * (t.val % 2) + (y 1).val, by omega⟩ ⟨(y 2).val, (y 2).isLt⟩
    have q : (((cfgM m hO).win 2).blk t).view.emb y = i := at_sum m hO t y i rfl rfl rfl
    refine Eq.trans ?_ (congrArg (added k (argG m c) (argR m c)) q).symm
    refine (entry _ _ y).trans ?_
    exact congrArg₂ (· + ·)
      ((congrFun ((hs0_0 m hO t).read_unread (iblk m hO c 0 t)) y).trans (congrArg (argG m c) (at_own m k hO h t y ⟨t.val / 2, by omega⟩ ⟨4096 * k.val + (2048 * (t.val % 2) + (y 1).val), by omega⟩ ⟨(y 2).val, (y 2).isLt⟩ rfl (by show 4096 * k.val + (2048 * (t.val % 2) + (y 1).val) = _; omega) rfl)))
      ((congrFun ((hs0_1 m hO t).read_unread (iblk m hO c 1 t)) y).trans (congrArg (argR m c) (at_sum m hO t y i rfl rfl rfl)))
  · have b0 : (i 0).val < 4 := (i 0).isLt
    have b1 : (i 1).val < 4096 := (i 1).isLt
    let t : Fin (cfgM m hO).N := ⟨2 * (i 0).val + (i 1).val / 2048, by show _ < 8; omega⟩
    let y : S1x2048x1536.Idx := ix3 0 ⟨(i 1).val % 2048, by omega⟩ (i 2)
    refine ⟨t, flush0_2 _ _, ?_⟩
    have q := at_sum m hO t y i (by show _ = (2 * (i 0).val + (i 1).val / 2048) / 2; omega) (by show _ = 2048 * ((2 * (i 0).val + (i 1).val / 2048) % 2) + (i 1).val % 2048; omega) rfl
    exact q ▸ View.emb_mem_set _ y

/-! ### The reference -/

theorem reference_eq (k : Fin 2) (g : Vec Ideal S4x8192x1536 .bf16) (r : Vec Ideal S4x4096x1536 .bf16) : val_main_v9 (F := Ideal) g r (fun _ => BitVec.ofNat 32 k.val) = added k g r := by
  funext y
  rw [val_main_v9_apply, val_main_v8_apply, val_main_v7_apply, val_main_v6_apply]
  rw [val_main_v5_apply, val_main_v2_apply, val_main_v1_apply, val_main_c_apply, val_main_v3_apply, val_main_v4_apply]
  have e : ∀ i, val_main_v0 (F := Ideal) (fun _ => BitVec.ofNat 32 k.val) i = BitVec.ofNat 32 k.val := fun _ => rfl
  rw [e]
  show Scalar.select _ _ _ + r y = g _ + r y
  refine congrArg (· + r y) ?_
  match k with
  | ⟨0, _⟩ =>
    exact congrArg g (funext fun a => Fin.ext (match a with | ⟨0, _⟩ => rfl | ⟨1, _⟩ => by show (y 1).val = 4096 * 0 + (y 1).val; omega | ⟨2, _⟩ => rfl))
  | ⟨1, _⟩ =>
    exact congrArg g (funext fun a => Fin.ext (match a with | ⟨0, _⟩ => rfl | ⟨1, _⟩ => by show 4096 + (y 1).val = 4096 * 1 + (y 1).val; omega | ⟨2, _⟩ => rfl))

theorem agree : Cert.algebraic_AddInIdeal_AddInRefIdeal := by
  intro m g m' g' hp hm
  obtain ⟨k, hk⟩ := core_word _ _ (hp 0) fun _ => rfl
  have hO := runs_ideal m hp
  refine ⟨fun c => added k (argG m c) (argR m c), ?_, ?_⟩
  · refine (θ_run defs _ _).mono (fun r h c => ?_) (θ_run_and (run_main m g hO) (unchanged m g hO))
    exact ⟨((h.1 c).1 2).trans (computed m c k hO hk), h.2 c⟩
  · refine (θ_run Cert.AddInRefIdeal.defs _ _).mono (fun r h c => ?_) (Cert.AddInRefIdeal.Value.run m' g')
    obtain ⟨e0, e1, e2⟩ := hm c
    obtain rfl : c = 0 := Subsingleton.elim _ _
    refine ⟨?_, (h 0).2⟩
    rw [(h 0).1, e0, e1, e2]
    exact (val_main_v9_eq (F := Ideal) _ _ _).trans ((congrArg _ hk).trans (reference_eq k _ _))

end Cert.AddInIdeal
-- ==== Proof.AddOut.lean ====
module

public import proofs.«01_k».proof.Defs
public import proofs.«01_k».proof.Proof.Pairs
public import proofs.«01_k».proof.Proof.Gen.AddOut.Frame
public import proofs.«01_k».proof.Proof.Gen.AddOutIdeal.Frame
public import proofs.«01_k».proof.Proof.Gen.AddOutRefIdeal
public import proofs.«01_k».proof.Proof.Gen.AddOutRefIdeal.Run
public import proofs.«01_k».proof.Proof.Gen.AddOutRefIdeal.Read
public import proofs.«01_k».proof.Proof.Gen.Pre_addout_core
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AddOutRefIdeal

open Idealize.ShloMosaic Idealize.ShloMosaic.TcCoe
open Idealize.SL.Sem

/-- The reference runs on the host alone: it leaves its arguments as they were, and it has no semaphores. -/
theorem frame_holds : Cert.quiescent_AddOutRefIdeal := fun m g _ =>
  (θ_run _ _ _).mono (fun r h => ⟨fun c => (h c).2, sem_eq_zero_of_no_sems rfl r.2⟩) (Value.run m g)

end Cert.AddOutRefIdeal

namespace Cert.AddOutIdeal

open Idealize.ShloMosaic Idealize.ShloMosaic.TcCoe Idealize.ShloMosaic.Tactic
open Idealize.SL.Sem
open Cert.AddOutIdeal.Gen
open Cert.Pairs (core_word)
open Cert.AddOutRefIdeal.Read

/-! ## The sum of a pair of devices, of the gradient of the output projection -/

/-! ### The blocks that the index names lie inside the array -/

theorem runs_kernel (m : (ℓ : Loc Cert.AddOut.nD Cert.AddOut.τ Cert.AddOut.sig) → Buf (Elt Bits) ℓ) (h : Cert.Pre_AddOut m) : Cert.AddOut.Gen.Ok m := by
  obtain ⟨k, hk⟩ := core_word _ _ (h 0) fun _ => rfl
  have e : Cert.AddOut.Gen.tbl m = fun j => match j with | ⟨0, _⟩ => fun _ => BitVec.ofNat 32 k.val := funext fun j => match j with | ⟨0, _⟩ => hk
  unfold Cert.AddOut.Gen.Ok
  rw [e]
  clear e hk
  revert k
  decide

theorem runs_ideal (m : (ℓ : Loc Cert.AddOutIdeal.nD Cert.AddOutIdeal.τ Cert.AddOutIdeal.sig) → Buf (Elt Ideal) ℓ) (h : Cert.Pre_AddOutIdeal m) : Cert.AddOutIdeal.Gen.Ok m := by
  obtain ⟨k, hk⟩ := core_word _ _ (h 0) fun _ => rfl
  have e : Cert.AddOutIdeal.Gen.tbl m = fun j => match j with | ⟨0, _⟩ => fun _ => BitVec.ofNat 32 k.val := funext fun j => match j with | ⟨0, _⟩ => hk
  unfold Cert.AddOutIdeal.Gen.Ok
  rw [e]
  clear e hk
  revert k
  decide

/-! ### The value -/

variable (m : (ℓ : Loc nD τ sig) → Buf (Elt Ideal) ℓ) (c : Dev nD)

/-- The arguments on one device: its sums, its neighbour's, and which of the two it is. -/
abbrev argG : Vec Ideal S4x1024x4096 .bf16 := m ((c.tc : Thread nD τ).loc main_arg0)
abbrev argR : Vec Ideal S4x512x4096 .bf16 := m ((c.tc : Thread nD τ).loc main_arg1)
abbrev argC : IVec S1 32 := m ((c.tc : Thread nD τ).loc main_arg2)

/-- Half `k` of the rows, added to what was received. -/
def added (k : Fin 2) (g : Vec Ideal S4x1024x4096 .bf16) (r : Vec Ideal S4x512x4096 .bf16) : Vec Ideal S4x512x4096 .bf16 :=
  fun y => g (ix3 (y 0) ⟨512 * k.val + (y 1).val, by have h : (y 1).val < 512 := (y 1).isLt; omega⟩ (y 2)) + r y

/-- Where the blocks lie: the own half's, and the received and the summed ones'. -/
theorem place_own (k : Fin 2) (a : (pcfg0 (F := Ideal)).Adm) (h : a.1 0 = fun _ => BitVec.ofNat 32 k.val) (t : Fin grid0.N) :
    cc0_transform_0 inb_S1_S1_0 numel1_S1 a.1 (grid0.coords t) = ![t.val / 1, 1 * k.val + t.val % 1, 0] := by
  unfold cc0_transform_0
  show ![_, (Scalar.addi (Scalar.muli (a.1 0 _) _) _).toNat, _] = _
  rw [h]
  clear h a
  revert k t
  decide +kernel

theorem place_sum : ∀ t : Fin grid0.N, cc0_transform_2 (grid0.coords t) = ![t.val / 1, t.val % 1, 0] := by decide +kernel

theorem entry (x y : Vec Ideal S1x512x4096 .bf16) (j : S1x512x4096.Idx) : k0_pay1 x y j = x j + y j := by
  unfold k0_pay1
  pointwise

/-- An entry of a block, in its array. -/
theorem at_own (k : Fin 2) (hO : Ok m) (h : argC m 0 = fun _ => BitVec.ofNat 32 k.val) (t : Fin (cfgM m hO).N) (y : S1x512x4096.Idx) (o : Fin 4) (r : Fin 1024) (s : Fin 4096)
    (h0 : o.val = t.val / 1) (h1 : r.val = 512 * (1 * k.val + t.val % 1) + (y 1).val) (h2 : s.val = (y 2).val) :
    (((cfgM m hO).win 0).blk t).view.emb y = (ix3 o r s : S4x1024x4096.Idx) := by
  have e := place_own k (adm m hO) h t
  have z : (y 0).val < 1 := (y 0).isLt
  refine funext fun a => Fin.ext ?_
  refine (ValueKit.view_emb_slice_whole_unit_val main_arg0 _ _ _ y a).trans ?_
  show cc0_transform_0 inb_S1_S1_0 numel1_S1 (adm m hO).1 (grid0.coords t) a * S1x512x4096.size a + (y a).val = _
  rw [e]
  match a with
  | ⟨0, _⟩ => show t.val / 1 * 1 + (y 0).val = o.val; omega
  | ⟨1, _⟩ => show (1 * k.val + t.val % 1) * 512 + (y 1).val = r.val; omega
  | ⟨2, _⟩ => show 0 * 4096 + (y 2).val = s.val; omega

theorem at_sum (hO : Ok m) (t : Fin (cfgM m hO).N) (y : S1x512x4096.Idx) (i : S4x512x4096.Idx)
    (h0 : (i 0).val = t.val / 1) (h1 : (i 1).val = 512 * (t.val % 1) + (y 1).val) (h2 : (i 2).val = (y 2).val) :
    (((cfgM m hO).win 2).blk t).view.emb y = i := by
  have e := place_sum t
  have z : (y 0).val < 1 := (y 0).isLt
  refine funext fun a => Fin.ext ?_
  refine (ValueKit.view_emb_slice_whole_unit_val main_v0 _ _ _ y a).trans ?_
  show cc0_transform_2 (grid0.coords t) a * S1x512x4096.size a + (y a).val = _
  rw [e]
  match a with
  | ⟨0, _⟩ => show t.val / 1 * 1 + (y 0).val = (i 0).val; omega
  | ⟨1, _⟩ => show (t.val % 1) * 512 + (y 1).val = (i 1).val; omega
  | ⟨2, _⟩ => show 0 * 4096 + (y 2).val = (i 2).val; omega

/-- The array the kernel leaves. -/
theorem computed (k : Fin 2) (hO : Ok m) (h : argC m 0 = fun _ => BitVec.ofNat 32 k.val) :
    (dats m hO 0 c).arrAt 2 (cfgM m hO).N = added k (argG m c) (argR m c) := by
  refine (dats m hO 0 c).arrAt_eq_of_emb 2 _ (fun (t : Fin (cfgM m hO).N) hf (y : S1x512x4096.Idx) => ?_) (fun (i : S4x512x4096.Idx) => ?_)
  · blk_simp
    rw [after0_2]
    unfold outsAt0
    frame_out
    have ht : t.val < 4 := t.isLt
    have hk : k.val < 2 := k.isLt
    have hy : (y 1).val < 512 := (y 1).isLt
    let i : S4x512x4096.Idx := ix3 ⟨t.val / 1, by omega⟩ ⟨512 * (t.val % 1) + (y 1).val, by omega⟩ ⟨(y 2).val, (y 2).isLt⟩
    have q : (((cfgM m hO).win 2).blk t).view.emb y = i := at_sum m hO t y i rfl rfl rfl
    refine Eq.trans ?_ (congrArg (added k (argG m c) (argR m c)) q).symm
    refine (entry _ _ y).trans ?_
    exact congrArg₂ (· + ·)
      ((congrFun ((hs0_0 m hO t).read_unread (iblk m hO c 0 t)) y).trans (congrArg (argG m c) (at_own m k hO h t y ⟨t.val / 1, by omega⟩ ⟨512 * k.val + (512 * (t.val % 1) + (y 1).val), by omega⟩ ⟨(y 2).val, (y 2).isLt⟩ rfl (by show 512 * k.val + (512 * (t.val % 1) + (y 1).val) = _; omega) rfl)))
      ((congrFun ((hs0_1 m hO t).read_unread (iblk m hO c 1 t)) y).trans (congrArg (argR m c) (at_sum m hO t y i rfl rfl rfl)))
  · have b0 : (i 0).val < 4 := (i 0).isLt
    have b1 : (i 1).val < 512 := (i 1).isLt
    let t : Fin (cfgM m hO).N := ⟨1 * (i 0).val + (i 1).val / 512, by show _ < 4; omega⟩
    let y : S1x512x4096.Idx := ix3 0 ⟨(i 1).val % 512, by omega⟩ (i 2)
    refine ⟨t, flush0_2 _ _, ?_⟩
    have q := at_sum m hO t y i (by show _ = (1 * (i 0).val + (i 1).val / 512) / 1; omega) (by show _ = 512 * ((1 * (i 0).val + (i 1).val / 512) % 1) + (i 1).val % 512; omega) rfl
    exact q ▸ View.emb_mem_set _ y

/-! ### The reference -/

theorem reference_eq (k : Fin 2) (g : Vec Ideal S4x1024x4096 .bf16) (r : Vec Ideal S4x512x4096 .bf16) : val_main_v9 (F := Ideal) g r (fun _ => BitVec.ofNat 32 k.val) = added k g r := by
  funext y
  rw [val_main_v9_apply, val_main_v8_apply, val_main_v7_apply, val_main_v6_apply]
  rw [val_main_v5_apply, val_main_v2_apply, val_main_v1_apply, val_main_c_apply, val_main_v3_apply, val_main_v4_apply]
  have e : ∀ i, val_main_v0 (F := Ideal) (fun _ => BitVec.ofNat 32 k.val) i = BitVec.ofNat 32 k.val := fun _ => rfl
  rw [e]
  show Scalar.select _ _ _ + r y = g _ + r y
  refine congrArg (· + r y) ?_
  match k with
  | ⟨0, _⟩ =>
    exact congrArg g (funext fun a => Fin.ext (match a with | ⟨0, _⟩ => rfl | ⟨1, _⟩ => by show (y 1).val = 512 * 0 + (y 1).val; omega | ⟨2, _⟩ => rfl))
  | ⟨1, _⟩ =>
    exact congrArg g (funext fun a => Fin.ext (match a with | ⟨0, _⟩ => rfl | ⟨1, _⟩ => by show 512 + (y 1).val = 512 * 1 + (y 1).val; omega | ⟨2, _⟩ => rfl))

theorem agree : Cert.algebraic_AddOutIdeal_AddOutRefIdeal := by
  intro m g m' g' hp hm
  obtain ⟨k, hk⟩ := core_word _ _ (hp 0) fun _ => rfl
  have hO := runs_ideal m hp
  refine ⟨fun c => added k (argG m c) (argR m c), ?_, ?_⟩
  · refine (θ_run defs _ _).mono (fun r h c => ?_) (θ_run_and (run_main m g hO) (unchanged m g hO))
    exact ⟨((h.1 c).1 2).trans (computed m c k hO hk), h.2 c⟩
  · refine (θ_run Cert.AddOutRefIdeal.defs _ _).mono (fun r h c => ?_) (Cert.AddOutRefIdeal.Value.run m' g')
    obtain ⟨e0, e1, e2⟩ := hm c
    obtain rfl : c = 0 := Subsingleton.elim _ _
    refine ⟨?_, (h 0).2⟩
    rw [(h 0).1, e0, e1, e2]
    exact (val_main_v9_eq (F := Ideal) _ _ _).trans ((congrArg _ hk).trans (reference_eq k _ _))

end Cert.AddOutIdeal
-- ==== Proof.AddDown.lean ====
module

public import proofs.«01_k».proof.Defs
public import proofs.«01_k».proof.Proof.Pairs
public import proofs.«01_k».proof.Proof.Gen.AddDown.Frame
public import proofs.«01_k».proof.Proof.Gen.AddDownIdeal.Frame
public import proofs.«01_k».proof.Proof.Gen.AddDownRefIdeal
public import proofs.«01_k».proof.Proof.Gen.AddDownRefIdeal.Run
public import proofs.«01_k».proof.Proof.Gen.AddDownRefIdeal.Read
public import proofs.«01_k».proof.Proof.Gen.Pre_adddown_core
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AddDownRefIdeal

open Idealize.ShloMosaic Idealize.ShloMosaic.TcCoe
open Idealize.SL.Sem

/-- The reference runs on the host alone: it leaves its arguments as they were, and it has no semaphores. -/
theorem frame_holds : Cert.quiescent_AddDownRefIdeal := fun m g _ =>
  (θ_run _ _ _).mono (fun r h => ⟨fun c => (h c).2, sem_eq_zero_of_no_sems rfl r.2⟩) (Value.run m g)

end Cert.AddDownRefIdeal

namespace Cert.AddDownIdeal

open Idealize.ShloMosaic Idealize.ShloMosaic.TcCoe Idealize.ShloMosaic.Tactic
open Idealize.SL.Sem
open Cert.AddDownIdeal.Gen
open Cert.Pairs (core_word)
open Cert.AddDownRefIdeal.Read

/-! ## The sum of a pair of devices, of the gradient of the feed-forward down projection -/

/-! ### The blocks that the index names lie inside the array -/

theorem runs_kernel (m : (ℓ : Loc Cert.AddDown.nD Cert.AddDown.τ Cert.AddDown.sig) → Buf (Elt Bits) ℓ) (h : Cert.Pre_AddDown m) : Cert.AddDown.Gen.Ok m := by
  obtain ⟨k, hk⟩ := core_word _ _ (h 0) fun _ => rfl
  have e : Cert.AddDown.Gen.tbl m = fun j => match j with | ⟨0, _⟩ => fun _ => BitVec.ofNat 32 k.val := funext fun j => match j with | ⟨0, _⟩ => hk
  unfold Cert.AddDown.Gen.Ok
  rw [e]
  clear e hk
  revert k
  decide

theorem runs_ideal (m : (ℓ : Loc Cert.AddDownIdeal.nD Cert.AddDownIdeal.τ Cert.AddDownIdeal.sig) → Buf (Elt Ideal) ℓ) (h : Cert.Pre_AddDownIdeal m) : Cert.AddDownIdeal.Gen.Ok m := by
  obtain ⟨k, hk⟩ := core_word _ _ (h 0) fun _ => rfl
  have e : Cert.AddDownIdeal.Gen.tbl m = fun j => match j with | ⟨0, _⟩ => fun _ => BitVec.ofNat 32 k.val := funext fun j => match j with | ⟨0, _⟩ => hk
  unfold Cert.AddDownIdeal.Gen.Ok
  rw [e]
  clear e hk
  revert k
  decide

/-! ### The value -/

variable (m : (ℓ : Loc nD τ sig) → Buf (Elt Ideal) ℓ) (c : Dev nD)

/-- The arguments on one device: its sums, its neighbour's, and which of the two it is. -/
abbrev argG : Vec Ideal S4x2816x4096 .bf16 := m ((c.tc : Thread nD τ).loc main_arg0)
abbrev argR : Vec Ideal S4x1376x4096 .bf16 := m ((c.tc : Thread nD τ).loc main_arg1)
abbrev argC : IVec S1 32 := m ((c.tc : Thread nD τ).loc main_arg2)

/-- Half `k` of the rows, added to what was received. -/
def added (k : Fin 2) (g : Vec Ideal S4x2816x4096 .bf16) (r : Vec Ideal S4x1376x4096 .bf16) : Vec Ideal S4x1376x4096 .bf16 :=
  fun y => g (ix3 (y 0) ⟨1376 * k.val + (y 1).val, by have h : (y 1).val < 1376 := (y 1).isLt; omega⟩ (y 2)) + r y

/-- Where the blocks lie: the own half's, and the received and the summed ones'. -/
theorem place_own (k : Fin 2) (a : (pcfg0 (F := Ideal)).Adm) (h : a.1 0 = fun _ => BitVec.ofNat 32 k.val) (t : Fin grid0.N) :
    cc0_transform_0 inb_S1_S1_0 numel1_S1 a.1 (grid0.coords t) = ![t.val / 2, 2 * k.val + t.val % 2, 0] := by
  unfold cc0_transform_0
  show ![_, (Scalar.addi (Scalar.muli (a.1 0 _) _) _).toNat, _] = _
  rw [h]
  clear h a
  revert k t
  decide +kernel

theorem place_sum : ∀ t : Fin grid0.N, cc0_transform_2 (grid0.coords t) = ![t.val / 2, t.val % 2, 0] := by decide +kernel

theorem entry (x y : Vec Ideal S1x688x4096 .bf16) (j : S1x688x4096.Idx) : k0_pay1 x y j = x j + y j := by
  unfold k0_pay1
  pointwise

/-- An entry of a block, in its array. -/
theorem at_own (k : Fin 2) (hO : Ok m) (h : argC m 0 = fun _ => BitVec.ofNat 32 k.val) (t : Fin (cfgM m hO).N) (y : S1x688x4096.Idx) (o : Fin 4) (r : Fin 2752) (s : Fin 4096)
    (h0 : o.val = t.val / 2) (h1 : r.val = 688 * (2 * k.val + t.val % 2) + (y 1).val) (h2 : s.val = (y 2).val) :
    (((cfgM m hO).win 0).blk t).view.emb y = (ix3 o r s : S4x2752x4096.Idx) := by
  have e := place_own k (adm m hO) h t
  have z : (y 0).val < 1 := (y 0).isLt
  refine funext fun a => Fin.ext ?_
  refine (ValueKit.view_emb_slice_whole_unit_val main_v0 _ _ _ y a).trans ?_
  show cc0_transform_0 inb_S1_S1_0 numel1_S1 (adm m hO).1 (grid0.coords t) a * S1x688x4096.size a + (y a).val = _
  rw [e]
  match a with
  | ⟨0, _⟩ => show t.val / 2 * 1 + (y 0).val = o.val; omega
  | ⟨1, _⟩ => show (2 * k.val + t.val % 2) * 688 + (y 1).val = r.val; omega
  | ⟨2, _⟩ => show 0 * 4096 + (y 2).val = s.val; omega

theorem at_sum (hO : Ok m) (t : Fin (cfgM m hO).N) (y : S1x688x4096.Idx) (i : S4x1376x4096.Idx)
    (h0 : (i 0).val = t.val / 2) (h1 : (i 1).val = 688 * (t.val % 2) + (y 1).val) (h2 : (i 2).val = (y 2).val) :
    (((cfgM m hO).win 2).blk t).view.emb y = i := by
  have e := place_sum t
  have z : (y 0).val < 1 := (y 0).isLt
  refine funext fun a => Fin.ext ?_
  refine (ValueKit.view_emb_slice_whole_unit_val main_v1 _ _ _ y a).trans ?_
  show cc0_transform_2 (grid0.coords t) a * S1x688x4096.size a + (y a).val = _
  rw [e]
  match a with
  | ⟨0, _⟩ => show t.val / 2 * 1 + (y 0).val = (i 0).val; omega
  | ⟨1, _⟩ => show (t.val % 2) * 688 + (y 1).val = (i 1).val; omega
  | ⟨2, _⟩ => show 0 * 4096 + (y 2).val = (i 2).val; omega

/-- The rows the kernel reads, which the host has cut out. -/
theorem own_rows (o : Fin 4) (r : Fin 2752) (s : Fin 4096) :
    V m c main_v0 (ix3 o r s : S4x2752x4096.Idx) = argG m c (ix3 o ⟨r.val, by omega⟩ s) := by
  have e : V m c main_v0 = extractStridedSlice S4x2752x4096 ![0, 0, 0] (argG m c) slices_S4x2816x4096_S4x2752x4096_0_0_0 := by
    show StableHlo.after hostOps0 (fun b => m (c, b)) (Proc.devRef .tc main_v0) = _
    unfold hostOps0
    after_results <;> rfl
  rw [e]
  exact congrArg (argG m c) (funext fun a => Fin.ext (match a with
    | ⟨0, _⟩ => by show 0 + o.val = o.val; omega
    | ⟨1, _⟩ => by show 0 + r.val = r.val; omega
    | ⟨2, _⟩ => by show 0 + s.val = s.val; omega))

/-- The array the kernel leaves. -/
theorem computed (k : Fin 2) (hO : Ok m) (h : argC m 0 = fun _ => BitVec.ofNat 32 k.val) :
    (dats m hO 0 c).arrAt 2 (cfgM m hO).N = added k (argG m c) (argR m c) := by
  refine (dats m hO 0 c).arrAt_eq_of_emb 2 _ (fun (t : Fin (cfgM m hO).N) hf (y : S1x688x4096.Idx) => ?_) (fun (i : S4x1376x4096.Idx) => ?_)
  · blk_simp
    rw [after0_2]
    unfold outsAt0
    frame_out
    have ht : t.val < 8 := t.isLt
    have hk : k.val < 2 := k.isLt
    have hy : (y 1).val < 688 := (y 1).isLt
    let i : S4x1376x4096.Idx := ix3 ⟨t.val / 2, by omega⟩ ⟨688 * (t.val % 2) + (y 1).val, by omega⟩ ⟨(y 2).val, (y 2).isLt⟩
    have q : (((cfgM m hO).win 2).blk t).view.emb y = i := at_sum m hO t y i rfl rfl rfl
    refine Eq.trans ?_ (congrArg (added k (argG m c) (argR m c)) q).symm
    refine (entry _ _ y).trans ?_
    exact congrArg₂ (· + ·)
      ((congrFun ((hs0_0 m hO t).read_unread (iblk m hO c 0 t)) y).trans ((congrArg (V m c main_v0) (at_own m k hO h t y ⟨t.val / 2, by omega⟩ ⟨1376 * k.val + (688 * (t.val % 2) + (y 1).val), by omega⟩ ⟨(y 2).val, (y 2).isLt⟩ rfl (by show 1376 * k.val + (688 * (t.val % 2) + (y 1).val) = _; omega) rfl)).trans (own_rows m c _ _ _)))
      ((congrFun ((hs0_1 m hO t).read_unread (iblk m hO c 1 t)) y).trans (congrArg (argR m c) (at_sum m hO t y i rfl rfl rfl)))
  · have b0 : (i 0).val < 4 := (i 0).isLt
    have b1 : (i 1).val < 1376 := (i 1).isLt
    let t : Fin (cfgM m hO).N := ⟨2 * (i 0).val + (i 1).val / 688, by show _ < 8; omega⟩
    let y : S1x688x4096.Idx := ix3 0 ⟨(i 1).val % 688, by omega⟩ (i 2)
    refine ⟨t, flush0_2 _ _, ?_⟩
    have q := at_sum m hO t y i (by show _ = (2 * (i 0).val + (i 1).val / 688) / 2; omega) (by show _ = 688 * ((2 * (i 0).val + (i 1).val / 688) % 2) + (i 1).val % 688; omega) rfl
    exact q ▸ View.emb_mem_set _ y

/-! ### The reference -/

theorem reference_eq (k : Fin 2) (g : Vec Ideal S4x2816x4096 .bf16) (r : Vec Ideal S4x1376x4096 .bf16) : val_main_v9 (F := Ideal) g r (fun _ => BitVec.ofNat 32 k.val) = added k g r := by
  funext y
  rw [val_main_v9_apply, val_main_v8_apply, val_main_v7_apply, val_main_v6_apply]
  rw [val_main_v5_apply, val_main_v2_apply, val_main_v1_apply, val_main_c_apply, val_main_v3_apply, val_main_v4_apply]
  have e : ∀ i, val_main_v0 (F := Ideal) (fun _ => BitVec.ofNat 32 k.val) i = BitVec.ofNat 32 k.val := fun _ => rfl
  rw [e]
  show Scalar.select _ _ _ + r y = g _ + r y
  refine congrArg (· + r y) ?_
  match k with
  | ⟨0, _⟩ =>
    exact congrArg g (funext fun a => Fin.ext (match a with | ⟨0, _⟩ => rfl | ⟨1, _⟩ => by show (y 1).val = 1376 * 0 + (y 1).val; omega | ⟨2, _⟩ => rfl))
  | ⟨1, _⟩ =>
    exact congrArg g (funext fun a => Fin.ext (match a with | ⟨0, _⟩ => rfl | ⟨1, _⟩ => by show 1376 + (y 1).val = 1376 * 1 + (y 1).val; omega | ⟨2, _⟩ => rfl))

theorem agree : Cert.algebraic_AddDownIdeal_AddDownRefIdeal := by
  intro m g m' g' hp hm
  obtain ⟨k, hk⟩ := core_word _ _ (hp 0) fun _ => rfl
  have hO := runs_ideal m hp
  refine ⟨fun c => added k (argG m c) (argR m c), ?_, ?_⟩
  · refine (θ_run defs _ _).mono (fun r h c => ?_) (θ_run_and (run_main m g hO) (unchanged m g hO))
    exact ⟨((h.1 c).1 2).trans (computed m c k hO hk), h.2 c⟩
  · refine (θ_run Cert.AddDownRefIdeal.defs _ _).mono (fun r h c => ?_) (Cert.AddDownRefIdeal.Value.run m' g')
    obtain ⟨e0, e1, e2⟩ := hm c
    obtain rfl : c = 0 := Subsingleton.elim _ _
    refine ⟨?_, (h 0).2⟩
    rw [(h 0).1, e0, e1, e2]
    exact (val_main_v9_eq (F := Ideal) _ _ _).trans ((congrArg _ hk).trans (reference_eq k _ _))

end Cert.AddDownIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.ReferenceIdeal.Run
public import proofs.«01_k».proof.Proof.Gen.ReferenceIdeal.Read
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.FfnFrame
public import proofs.«01_k».proof.Proof.FfnClaim
public import proofs.«01_k».proof.Proof.Gen.DownDx
public import proofs.«01_k».proof.Proof.Gen.DownDx.Frame
public import proofs.«01_k».proof.Proof.Gen.DownDxIdeal
public import proofs.«01_k».proof.Proof.Gen.DownDxRefIdeal
public import proofs.«01_k».proof.Proof.ProductDownDx
public import proofs.«01_k».proof.Proof.Gen.DownDw
public import proofs.«01_k».proof.Proof.Gen.DownDw.Frame
public import proofs.«01_k».proof.Proof.Gen.DownDwIdeal
public import proofs.«01_k».proof.Proof.Gen.DownDwRefIdeal
public import proofs.«01_k».proof.Proof.ProductDownDw
public import proofs.«01_k».proof.Proof.Gen.UpDx
public import proofs.«01_k».proof.Proof.Gen.UpDx.Frame
public import proofs.«01_k».proof.Proof.Gen.UpDxIdeal
public import proofs.«01_k».proof.Proof.Gen.UpDxRefIdeal
public import proofs.«01_k».proof.Proof.ProductUpDx
public import proofs.«01_k».proof.Proof.Gen.UpDw
public import proofs.«01_k».proof.Proof.Gen.UpDw.Frame
public import proofs.«01_k».proof.Proof.Gen.UpDwIdeal
public import proofs.«01_k».proof.Proof.Gen.UpDwRefIdeal
public import proofs.«01_k».proof.Proof.ProductUpDw
public import proofs.«01_k».proof.Proof.Gen.OutDx
public import proofs.«01_k».proof.Proof.Gen.OutDx.Frame
public import proofs.«01_k».proof.Proof.Gen.OutDxIdeal
public import proofs.«01_k».proof.Proof.Gen.OutDxRefIdeal
public import proofs.«01_k».proof.Proof.ProductOutDx
public import proofs.«01_k».proof.Proof.Gen.OutDw
public import proofs.«01_k».proof.Proof.Gen.OutDw.Frame
public import proofs.«01_k».proof.Proof.Gen.OutDwIdeal
public import proofs.«01_k».proof.Proof.Gen.OutDwRefIdeal
public import proofs.«01_k».proof.Proof.ProductOutDw
public import proofs.«01_k».proof.Proof.Gen.InDx
public import proofs.«01_k».proof.Proof.Gen.InDx.Frame
public import proofs.«01_k».proof.Proof.Gen.InDxIdeal
public import proofs.«01_k».proof.Proof.Gen.InDxRefIdeal
public import proofs.«01_k».proof.Proof.ProductInDx
public import proofs.«01_k».proof.Proof.Gen.InDw
public import proofs.«01_k».proof.Proof.Gen.InDw.Frame
public import proofs.«01_k».proof.Proof.Gen.InDwIdeal
public import proofs.«01_k».proof.Proof.Gen.InDwRefIdeal
public import proofs.«01_k».proof.Proof.ProductInDw
public import proofs.«01_k».proof.Proof.Gen.OutFwd
public import proofs.«01_k».proof.Proof.Gen.OutFwd.Frame
public import proofs.«01_k».proof.Proof.Gen.OutFwdIdeal
public import proofs.«01_k».proof.Proof.Gen.OutFwdRefIdeal
public import proofs.«01_k».proof.Proof.ProductOutFwd
public import proofs.«01_k».proof.Proof.Gen.DownFwd
public import proofs.«01_k».proof.Proof.Gen.DownFwd.Frame
public import proofs.«01_k».proof.Proof.Gen.DownFwdIdeal
public import proofs.«01_k».proof.Proof.Gen.DownFwdRefIdeal
public import proofs.«01_k».proof.Proof.ProductDownFwd
public import proofs.«01_k».proof.Proof.Gen.InFwd
public import proofs.«01_k».proof.Proof.Gen.InFwd.Frame
public import proofs.«01_k».proof.Proof.Gen.InFwdIdeal
public import proofs.«01_k».proof.Proof.Gen.InFwdRefIdeal
public import proofs.«01_k».proof.Proof.ProductInFwd
public import proofs.«01_k».proof.Proof.Gen.UpFwd
public import proofs.«01_k».proof.Proof.Gen.UpFwd.Frame
public import proofs.«01_k».proof.Proof.Gen.UpFwdIdeal
public import proofs.«01_k».proof.Proof.Gen.UpFwdRefIdeal
public import proofs.«01_k».proof.Proof.ProductUpFwd
public import proofs.«01_k».proof.Proof.Gen.NormBwd
public import proofs.«01_k».proof.Proof.Gen.NormBwd.Frame
public import proofs.«01_k».proof.Proof.Gen.NormBwdIdeal
public import proofs.«01_k».proof.Proof.Gen.NormBwdRefIdeal
public import proofs.«01_k».proof.Proof.NormBwd
public import proofs.«01_k».proof.Proof.Gen.InNormBwd
public import proofs.«01_k».proof.Proof.Gen.InNormBwd.Frame
public import proofs.«01_k».proof.Proof.Gen.InNormBwdIdeal
public import proofs.«01_k».proof.Proof.Gen.InNormBwdRefIdeal
public import proofs.«01_k».proof.Proof.InNormBwd
public import proofs.«01_k».proof.Proof.Gen.HalfNormBwd
public import proofs.«01_k».proof.Proof.Gen.HalfNormBwd.Frame
public import proofs.«01_k».proof.Proof.Gen.HalfNormBwdIdeal
public import proofs.«01_k».proof.Proof.Gen.HalfNormBwdRefIdeal
public import proofs.«01_k».proof.Proof.HalfNormBwd
public import proofs.«01_k».proof.Proof.Gen.LossHead
public import proofs.«01_k».proof.Proof.Gen.LossHead.Frame
public import proofs.«01_k».proof.Proof.Gen.LossHeadIdeal
public import proofs.«01_k».proof.Proof.Gen.LossHeadRefIdeal
public import proofs.«01_k».proof.Proof.LossHead
public import proofs.«01_k».proof.Proof.Gen.NormFwd
public import proofs.«01_k».proof.Proof.Gen.NormFwd.Frame
public import proofs.«01_k».proof.Proof.Gen.NormFwdIdeal
public import proofs.«01_k».proof.Proof.Gen.NormFwdRefIdeal
public import proofs.«01_k».proof.Proof.NormFwd
public import proofs.«01_k».proof.Proof.Gen.HalfNormFwd
public import proofs.«01_k».proof.Proof.Gen.HalfNormFwd.Frame
public import proofs.«01_k».proof.Proof.Gen.HalfNormFwdIdeal
public import proofs.«01_k».proof.Proof.Gen.HalfNormFwdRefIdeal
public import proofs.«01_k».proof.Proof.HalfNormFwd
public import proofs.«01_k».proof.Proof.Gen.ActFwd
public import proofs.«01_k».proof.Proof.Gen.ActFwd.Frame
public import proofs.«01_k».proof.Proof.Gen.ActFwdIdeal
public import proofs.«01_k».proof.Proof.Gen.ActFwdRefIdeal
public import proofs.«01_k».proof.Proof.ActFwd
public import proofs.«01_k».proof.Proof.Gen.AdamDown
public import proofs.«01_k».proof.Proof.Gen.AdamDown.Frame
public import proofs.«01_k».proof.Proof.Gen.AdamDownIdeal
public import proofs.«01_k».proof.Proof.Gen.AdamDownRefIdeal
public import proofs.«01_k».proof.Proof.AdamDown
public import proofs.«01_k».proof.Proof.Gen.AdamUp
public import proofs.«01_k».proof.Proof.Gen.AdamUp.Frame
public import proofs.«01_k».proof.Proof.Gen.AdamUpIdeal
public import proofs.«01_k».proof.Proof.Gen.AdamUpRefIdeal
public import proofs.«01_k».proof.Proof.AdamUp
public import proofs.«01_k».proof.Proof.Gen.AdamOut
public import proofs.«01_k».proof.Proof.Gen.AdamOut.Frame
public import proofs.«01_k».proof.Proof.Gen.AdamOutIdeal
public import proofs.«01_k».proof.Proof.Gen.AdamOutRefIdeal
public import proofs.«01_k».proof.Proof.AdamOut
public import proofs.«01_k».proof.Proof.Gen.AdamIn
public import proofs.«01_k».proof.Proof.Gen.AdamIn.Frame
public import proofs.«01_k».proof.Proof.Gen.AdamInIdeal
public import proofs.«01_k».proof.Proof.Gen.AdamInRefIdeal
public import proofs.«01_k».proof.Proof.AdamIn
public import proofs.«01_k».proof.Proof.Gen.AdamSmall
public import proofs.«01_k».proof.Proof.Gen.AdamSmall.Frame
public import proofs.«01_k».proof.Proof.Gen.AdamSmallIdeal
public import proofs.«01_k».proof.Proof.Gen.AdamSmallRefIdeal
public import proofs.«01_k».proof.Proof.AdamSmall
public import proofs.«01_k».proof.Proof.Gen.AddUp
public import proofs.«01_k».proof.Proof.Gen.AddUp.Frame
public import proofs.«01_k».proof.Proof.Gen.AddUpIdeal
public import proofs.«01_k».proof.Proof.Gen.AddUpRefIdeal
public import proofs.«01_k».proof.Proof.Gen.Pre_addup_core
public import proofs.«01_k».proof.Proof.AddUp
public import proofs.«01_k».proof.Proof.Gen.AddIn
public import proofs.«01_k».proof.Proof.Gen.AddIn.Frame
public import proofs.«01_k».proof.Proof.Gen.AddInIdeal
public import proofs.«01_k».proof.Proof.Gen.AddInRefIdeal
public import proofs.«01_k».proof.Proof.Gen.Pre_addin_core
public import proofs.«01_k».proof.Proof.AddIn
public import proofs.«01_k».proof.Proof.Gen.AddOut
public import proofs.«01_k».proof.Proof.Gen.AddOut.Frame
public import proofs.«01_k».proof.Proof.Gen.AddOutIdeal
public import proofs.«01_k».proof.Proof.Gen.AddOutRefIdeal
public import proofs.«01_k».proof.Proof.Gen.Pre_addout_core
public import proofs.«01_k».proof.Proof.AddOut
public import proofs.«01_k».proof.Proof.Gen.AddDown
public import proofs.«01_k».proof.Proof.Gen.AddDown.Frame
public import proofs.«01_k».proof.Proof.Gen.AddDownIdeal
public import proofs.«01_k».proof.Proof.Gen.AddDownRefIdeal
public import proofs.«01_k».proof.Proof.Gen.Pre_adddown_core
public import proofs.«01_k».proof.Proof.AddDown
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs on the host alone: it leaves its arguments as they were, and it has no semaphores. -/
theorem reference_holds (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, sem_eq_zero_of_no_sems rfl r.2⟩) (Cert.ReferenceIdeal.Value.run m g)

theorem claim : Cert.Claim := ⟨Cert.Kernel.Gen.facts,
  Cert.KernelIdeal.Gen.facts,
  Cert.ReferenceIdeal.Gen.facts,
  Cert.DownDx.Gen.facts,
  Cert.DownDxIdeal.Gen.facts,
  Cert.DownDxRefIdeal.Gen.facts,
  Cert.DownDw.Gen.facts,
  Cert.DownDwIdeal.Gen.facts,
  Cert.DownDwRefIdeal.Gen.facts,
  Cert.UpDx.Gen.facts,
  Cert.UpDxIdeal.Gen.facts,
  Cert.UpDxRefIdeal.Gen.facts,
  Cert.UpDw.Gen.facts,
  Cert.UpDwIdeal.Gen.facts,
  Cert.UpDwRefIdeal.Gen.facts,
  Cert.OutDx.Gen.facts,
  Cert.OutDxIdeal.Gen.facts,
  Cert.OutDxRefIdeal.Gen.facts,
  Cert.OutDw.Gen.facts,
  Cert.OutDwIdeal.Gen.facts,
  Cert.OutDwRefIdeal.Gen.facts,
  Cert.InDx.Gen.facts,
  Cert.InDxIdeal.Gen.facts,
  Cert.InDxRefIdeal.Gen.facts,
  Cert.InDw.Gen.facts,
  Cert.InDwIdeal.Gen.facts,
  Cert.InDwRefIdeal.Gen.facts,
  Cert.OutFwd.Gen.facts,
  Cert.OutFwdIdeal.Gen.facts,
  Cert.OutFwdRefIdeal.Gen.facts,
  Cert.DownFwd.Gen.facts,
  Cert.DownFwdIdeal.Gen.facts,
  Cert.DownFwdRefIdeal.Gen.facts,
  Cert.InFwd.Gen.facts,
  Cert.InFwdIdeal.Gen.facts,
  Cert.InFwdRefIdeal.Gen.facts,
  Cert.UpFwd.Gen.facts,
  Cert.UpFwdIdeal.Gen.facts,
  Cert.UpFwdRefIdeal.Gen.facts,
  Cert.NormBwd.Gen.facts,
  Cert.NormBwdIdeal.Gen.facts,
  Cert.NormBwdRefIdeal.Gen.facts,
  Cert.InNormBwd.Gen.facts,
  Cert.InNormBwdIdeal.Gen.facts,
  Cert.InNormBwdRefIdeal.Gen.facts,
  Cert.HalfNormBwd.Gen.facts,
  Cert.HalfNormBwdIdeal.Gen.facts,
  Cert.HalfNormBwdRefIdeal.Gen.facts,
  Cert.LossHead.Gen.facts,
  Cert.LossHeadIdeal.Gen.facts,
  Cert.LossHeadRefIdeal.Gen.facts,
  Cert.NormFwd.Gen.facts,
  Cert.NormFwdIdeal.Gen.facts,
  Cert.NormFwdRefIdeal.Gen.facts,
  Cert.HalfNormFwd.Gen.facts,
  Cert.HalfNormFwdIdeal.Gen.facts,
  Cert.HalfNormFwdRefIdeal.Gen.facts,
  Cert.ActFwd.Gen.facts,
  Cert.ActFwdIdeal.Gen.facts,
  Cert.ActFwdRefIdeal.Gen.facts,
  Cert.AdamDown.Gen.facts,
  Cert.AdamDownIdeal.Gen.facts,
  Cert.AdamDownRefIdeal.Gen.facts,
  Cert.AdamUp.Gen.facts,
  Cert.AdamUpIdeal.Gen.facts,
  Cert.AdamUpRefIdeal.Gen.facts,
  Cert.AdamOut.Gen.facts,
  Cert.AdamOutIdeal.Gen.facts,
  Cert.AdamOutRefIdeal.Gen.facts,
  Cert.AdamIn.Gen.facts,
  Cert.AdamInIdeal.Gen.facts,
  Cert.AdamInRefIdeal.Gen.facts,
  Cert.AdamSmall.Gen.facts,
  Cert.AdamSmallIdeal.Gen.facts,
  Cert.AdamSmallRefIdeal.Gen.facts,
  Cert.AddUp.Gen.facts,
  Cert.AddUpIdeal.Gen.facts,
  Cert.AddUpRefIdeal.Gen.facts,
  Cert.AddIn.Gen.facts,
  Cert.AddInIdeal.Gen.facts,
  Cert.AddInRefIdeal.Gen.facts,
  Cert.AddOut.Gen.facts,
  Cert.AddOutIdeal.Gen.facts,
  Cert.AddOutRefIdeal.Gen.facts,
  Cert.AddDown.Gen.facts,
  Cert.AddDownIdeal.Gen.facts,
  Cert.AddDownRefIdeal.Gen.facts,
  Cert.Pre_finite.Gen.facts,
  Cert.Pre_addup_core.Gen.facts,
  Cert.Pre_addin_core.Gen.facts,
  Cert.Pre_addout_core.Gen.facts,
  Cert.Pre_adddown_core.Gen.facts, by
  exact ⟨fun m g _ => Cert.Kernel.frame_holds m g,
    fun m g _ => Cert.KernelIdeal.frame_holds m g,
    fun m g _ => Cert.KernelIdeal.frame_holds m g,
    fun m g _ => reference_holds m g,
    fun m g _ => reference_holds m g,
    fun m g _ => Cert.DownDx.Gen.frame m g,
    fun m g _ => Cert.DownDxIdeal.Gen.frame m g,
    Cert.DownDxRefIdeal.frame_holds,
    fun m g _ => Cert.DownDw.Gen.frame m g,
    fun m g _ => Cert.DownDwIdeal.Gen.frame m g,
    Cert.DownDwRefIdeal.frame_holds,
    fun m g _ => Cert.UpDx.Gen.frame m g,
    fun m g _ => Cert.UpDxIdeal.Gen.frame m g,
    Cert.UpDxRefIdeal.frame_holds,
    fun m g _ => Cert.UpDw.Gen.frame m g,
    fun m g _ => Cert.UpDwIdeal.Gen.frame m g,
    Cert.UpDwRefIdeal.frame_holds,
    fun m g _ => Cert.OutDx.Gen.frame m g,
    fun m g _ => Cert.OutDxIdeal.Gen.frame m g,
    Cert.OutDxRefIdeal.frame_holds,
    fun m g _ => Cert.OutDw.Gen.frame m g,
    fun m g _ => Cert.OutDwIdeal.Gen.frame m g,
    Cert.OutDwRefIdeal.frame_holds,
    fun m g _ => Cert.InDx.Gen.frame m g,
    fun m g _ => Cert.InDxIdeal.Gen.frame m g,
    Cert.InDxRefIdeal.frame_holds,
    fun m g _ => Cert.InDw.Gen.frame m g,
    fun m g _ => Cert.InDwIdeal.Gen.frame m g,
    Cert.InDwRefIdeal.frame_holds,
    fun m g _ => Cert.OutFwd.Gen.frame m g,
    fun m g _ => Cert.OutFwdIdeal.Gen.frame m g,
    Cert.OutFwdRefIdeal.frame_holds,
    fun m g _ => Cert.DownFwd.Gen.frame m g,
    fun m g _ => Cert.DownFwdIdeal.Gen.frame m g,
    Cert.DownFwdRefIdeal.frame_holds,
    fun m g _ => Cert.InFwd.Gen.frame m g,
    fun m g _ => Cert.InFwdIdeal.Gen.frame m g,
    Cert.InFwdRefIdeal.frame_holds,
    fun m g _ => Cert.UpFwd.Gen.frame m g,
    fun m g _ => Cert.UpFwdIdeal.Gen.frame m g,
    Cert.UpFwdRefIdeal.frame_holds,
    fun m g _ => Cert.NormBwd.Gen.frame m g,
    fun m g _ => Cert.NormBwdIdeal.Gen.frame m g,
    Cert.NormBwdRefIdeal.frame_holds,
    fun m g _ => Cert.InNormBwd.Gen.frame m g,
    fun m g _ => Cert.InNormBwdIdeal.Gen.frame m g,
    Cert.InNormBwdRefIdeal.frame_holds,
    fun m g _ => Cert.HalfNormBwd.Gen.frame m g,
    fun m g _ => Cert.HalfNormBwdIdeal.Gen.frame m g,
    Cert.HalfNormBwdRefIdeal.frame_holds,
    fun m g _ => Cert.LossHead.Gen.frame m g,
    fun m g _ => Cert.LossHeadIdeal.Gen.frame m g,
    Cert.LossHeadRefIdeal.frame_holds,
    fun m g _ => Cert.NormFwd.Gen.frame m g,
    fun m g _ => Cert.NormFwdIdeal.Gen.frame m g,
    Cert.NormFwdRefIdeal.frame_holds,
    fun m g _ => Cert.HalfNormFwd.Gen.frame m g,
    fun m g _ => Cert.HalfNormFwdIdeal.Gen.frame m g,
    Cert.HalfNormFwdRefIdeal.frame_holds,
    fun m g _ => Cert.ActFwd.Gen.frame m g,
    fun m g _ => Cert.ActFwdIdeal.Gen.frame m g,
    Cert.ActFwdRefIdeal.frame_holds,
    fun m g _ => Cert.AdamDown.Gen.frame m g,
    fun m g _ => Cert.AdamDownIdeal.Gen.frame m g,
    Cert.AdamDownRefIdeal.frame_holds,
    fun m g _ => Cert.AdamUp.Gen.frame m g,
    fun m g _ => Cert.AdamUpIdeal.Gen.frame m g,
    Cert.AdamUpRefIdeal.frame_holds,
    fun m g _ => Cert.AdamOut.Gen.frame m g,
    fun m g _ => Cert.AdamOutIdeal.Gen.frame m g,
    Cert.AdamOutRefIdeal.frame_holds,
    fun m g _ => Cert.AdamIn.Gen.frame m g,
    fun m g _ => Cert.AdamInIdeal.Gen.frame m g,
    Cert.AdamInRefIdeal.frame_holds,
    fun m g _ => Cert.AdamSmall.Gen.frame m g,
    fun m g _ => Cert.AdamSmallIdeal.Gen.frame m g,
    Cert.AdamSmallRefIdeal.frame_holds,
    fun m g h => Cert.AddUp.Gen.frame m g (Cert.AddUpIdeal.runs_kernel m h),
    fun m g h => Cert.AddUpIdeal.Gen.frame m g (Cert.AddUpIdeal.runs_ideal m h),
    Cert.AddUpRefIdeal.frame_holds,
    fun m g _ => Cert.AddUpRefIdeal.frame_holds m g True.intro,
    fun m g h => Cert.AddIn.Gen.frame m g (Cert.AddInIdeal.runs_kernel m h),
    fun m g h => Cert.AddInIdeal.Gen.frame m g (Cert.AddInIdeal.runs_ideal m h),
    Cert.AddInRefIdeal.frame_holds,
    fun m g _ => Cert.AddInRefIdeal.frame_holds m g True.intro,
    fun m g h => Cert.AddOut.Gen.frame m g (Cert.AddOutIdeal.runs_kernel m h),
    fun m g h => Cert.AddOutIdeal.Gen.frame m g (Cert.AddOutIdeal.runs_ideal m h),
    Cert.AddOutRefIdeal.frame_holds,
    fun m g _ => Cert.AddOutRefIdeal.frame_holds m g True.intro,
    fun m g h => Cert.AddDown.Gen.frame m g (Cert.AddDownIdeal.runs_kernel m h),
    fun m g h => Cert.AddDownIdeal.Gen.frame m g (Cert.AddDownIdeal.runs_ideal m h),
    Cert.AddDownRefIdeal.frame_holds,
    fun m g _ => Cert.AddDownRefIdeal.frame_holds m g True.intro,
    trivial,
    Cert.KernelIdeal.agree,
    trivial,
    Cert.DownDxIdeal.agree,
    trivial,
    Cert.DownDwIdeal.agree,
    trivial,
    Cert.UpDxIdeal.agree,
    trivial,
    Cert.UpDwIdeal.agree,
    trivial,
    Cert.OutDxIdeal.agree,
    trivial,
    Cert.OutDwIdeal.agree,
    trivial,
    Cert.InDxIdeal.agree,
    trivial,
    Cert.InDwIdeal.agree,
    trivial,
    Cert.OutFwdIdeal.agree,
    trivial,
    Cert.DownFwdIdeal.agree,
    trivial,
    Cert.InFwdIdeal.agree,
    trivial,
    Cert.UpFwdIdeal.agree,
    trivial,
    Cert.NormBwdIdeal.agree,
    trivial,
    Cert.InNormBwdIdeal.agree,
    trivial,
    Cert.HalfNormBwdIdeal.agree,
    trivial,
    Cert.LossHeadIdeal.agree,
    trivial,
    Cert.NormFwdIdeal.agree,
    trivial,
    Cert.HalfNormFwdIdeal.agree,
    trivial,
    Cert.ActFwdIdeal.agree,
    trivial,
    Cert.AdamDownIdeal.agree,
    trivial,
    Cert.AdamUpIdeal.agree,
    trivial,
    Cert.AdamOutIdeal.agree,
    trivial,
    Cert.AdamInIdeal.agree,
    trivial,
    Cert.AdamSmallIdeal.agree,
    trivial,
    Cert.AddUpIdeal.agree,
    trivial,
    Cert.AddInIdeal.agree,
    trivial,
    Cert.AddOutIdeal.agree,
    trivial,
    Cert.AddDownIdeal.agree⟩⟩

end Cert.Proof

end
